-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_MlpDHidden (m : (ℓ : Loc Cert.MlpDHidden.nD Cert.MlpDHidden.τ Cert.MlpDHidden.sig) → Buf (Elt Bits) ℓ) : Prop :=
  True

def Pre_MlpDHiddenIdeal (m : (ℓ : Loc Cert.MlpDHiddenIdeal.nD Cert.MlpDHiddenIdeal.τ Cert.MlpDHiddenIdeal.sig) → Buf (Elt Ideal) ℓ) : Prop :=
  True

def Pre_MlpDHiddenRefIdeal (m : (ℓ : Loc Cert.MlpDHiddenRefIdeal.nD Cert.MlpDHiddenRefIdeal.τ Cert.MlpDHiddenRefIdeal.sig) → Buf (Elt Ideal) ℓ) : Prop :=
  True

def Pre_MlpDW2 (m : (ℓ : Loc Cert.MlpDW2.nD Cert.MlpDW2.τ Cert.MlpDW2.sig) → Buf (Elt Bits) ℓ) : Prop :=
  True

def Pre_MlpDW2Ideal (m : (ℓ : Loc Cert.MlpDW2Ideal.nD Cert.MlpDW2Ideal.τ Cert.MlpDW2Ideal.sig) → Buf (Elt Ideal) ℓ) : Prop :=
  True

def Pre_MlpDW2Ideal_mlp_finite [hPre_mlp_finite : Cert.Pre_mlp_finite.Facts] (m : (ℓ : Loc Cert.MlpDW2Ideal.nD Cert.MlpDW2Ideal.τ Cert.MlpDW2Ideal.sig) → Buf (Elt Ideal) ℓ) : Prop :=
  ∀ c : Dev Cert.MlpDW2Ideal.nD,
    (Cert.Pre_mlp_finite.fn (F := Ideal) (m ((c.tc : Thread Cert.MlpDW2Ideal.nD Cert.MlpDW2Ideal.τ).loc Cert.MlpDW2Ideal.main_arg0)) (m ((c.tc : Thread Cert.MlpDW2Ideal.nD Cert.MlpDW2Ideal.τ).loc Cert.MlpDW2Ideal.main_arg1)) (m ((c.tc : Thread Cert.MlpDW2Ideal.nD Cert.MlpDW2Ideal.τ).loc Cert.MlpDW2Ideal.main_arg2)) (m ((c.tc : Thread Cert.MlpDW2Ideal.nD Cert.MlpDW2Ideal.τ).loc Cert.MlpDW2Ideal.main_arg3))) = (fun _ => 1#1)

def Pre_MlpDW2RefIdeal (m : (ℓ : Loc Cert.MlpDW2RefIdeal.nD Cert.MlpDW2RefIdeal.τ Cert.MlpDW2RefIdeal.sig) → Buf (Elt Ideal) ℓ) : Prop :=
  True

def Pre_MlpDW2RefIdeal_mlp_finite [hPre_mlp_finite : Cert.Pre_mlp_finite.Facts] (m : (ℓ : Loc Cert.MlpDW2RefIdeal.nD Cert.MlpDW2RefIdeal.τ Cert.MlpDW2RefIdeal.sig) → Buf (Elt Ideal) ℓ) : Prop :=
  ∀ c : Dev Cert.MlpDW2RefIdeal.nD,
    (Cert.Pre_mlp_finite.fn (F := Ideal) (m ((c.tc : Thread Cert.MlpDW2RefIdeal.nD Cert.MlpDW2RefIdeal.τ).loc Cert.MlpDW2RefIdeal.main_arg0)) (m ((c.tc : Thread Cert.MlpDW2RefIdeal.nD Cert.MlpDW2RefIdeal.τ).loc Cert.MlpDW2RefIdeal.main_arg1)) (m ((c.tc : Thread Cert.MlpDW2RefIdeal.nD Cert.MlpDW2RefIdeal.τ).loc Cert.MlpDW2RefIdeal.main_arg2)) (m ((c.tc : Thread Cert.MlpDW2RefIdeal.nD Cert.MlpDW2RefIdeal.τ).loc Cert.MlpDW2RefIdeal.main_arg3))) = (fun _ => 1#1)

def Pre_MlpDIn (m : (ℓ : Loc Cert.MlpDIn.nD Cert.MlpDIn.τ Cert.MlpDIn.sig) → Buf (Elt Bits) ℓ) : Prop :=
  True

def Pre_MlpDInIdeal (m : (ℓ : Loc Cert.MlpDInIdeal.nD Cert.MlpDInIdeal.τ Cert.MlpDInIdeal.sig) → Buf (Elt Ideal) ℓ) : Prop :=
  True

def Pre_MlpDInRefIdeal (m : (ℓ : Loc Cert.MlpDInRefIdeal.nD Cert.MlpDInRefIdeal.τ Cert.MlpDInRefIdeal.sig) → Buf (Elt Ideal) ℓ) : Prop :=
  True

def Pre_MlpDW1 (m : (ℓ : Loc Cert.MlpDW1.nD Cert.MlpDW1.τ Cert.MlpDW1.sig) → Buf (Elt Bits) ℓ) : Prop :=
  True

def Pre_MlpDW1Ideal (m : (ℓ : Loc Cert.MlpDW1Ideal.nD Cert.MlpDW1Ideal.τ Cert.MlpDW1Ideal.sig) → Buf (Elt Ideal) ℓ) : Prop :=
  True

def Pre_MlpDW1RefIdeal (m : (ℓ : Loc Cert.MlpDW1RefIdeal.nD Cert.MlpDW1RefIdeal.τ Cert.MlpDW1RefIdeal.sig) → Buf (Elt Ideal) ℓ) : Prop :=
  True

def Pre_S5DGlu (m : (ℓ : Loc Cert.S5DGlu.nD Cert.S5DGlu.τ Cert.S5DGlu.sig) → Buf (Elt Bits) ℓ) : Prop :=
  True

def Pre_S5DGluIdeal (m : (ℓ : Loc Cert.S5DGluIdeal.nD Cert.S5DGluIdeal.τ Cert.S5DGluIdeal.sig) → Buf (Elt Ideal) ℓ) : Prop :=
  True

def Pre_S5DGluRefIdeal (m : (ℓ : Loc Cert.S5DGluRefIdeal.nD Cert.S5DGluRefIdeal.τ Cert.S5DGluRefIdeal.sig) → Buf (Elt Ideal) ℓ) : Prop :=
  True

def Pre_S5DWGlu (m : (ℓ : Loc Cert.S5DWGlu.nD Cert.S5DWGlu.τ Cert.S5DWGlu.sig) → Buf (Elt Bits) ℓ) : Prop :=
  True

def Pre_S5DWGluIdeal (m : (ℓ : Loc Cert.S5DWGluIdeal.nD Cert.S5DWGluIdeal.τ Cert.S5DWGluIdeal.sig) → Buf (Elt Ideal) ℓ) : Prop :=
  True

def Pre_S5DWGluRefIdeal (m : (ℓ : Loc Cert.S5DWGluRefIdeal.nD Cert.S5DWGluRefIdeal.τ Cert.S5DWGluRefIdeal.sig) → Buf (Elt Ideal) ℓ) : Prop :=
  True

def Pre_S5DIn (m : (ℓ : Loc Cert.S5DIn.nD Cert.S5DIn.τ Cert.S5DIn.sig) → Buf (Elt Bits) ℓ) : Prop :=
  True

def Pre_S5DInIdeal (m : (ℓ : Loc Cert.S5DInIdeal.nD Cert.S5DInIdeal.τ Cert.S5DInIdeal.sig) → Buf (Elt Ideal) ℓ) : Prop :=
  True

def Pre_S5DInRefIdeal (m : (ℓ : Loc Cert.S5DInRefIdeal.nD Cert.S5DInRefIdeal.τ Cert.S5DInRefIdeal.sig) → Buf (Elt Ideal) ℓ) : Prop :=
  True

def Pre_S5DWIn (m : (ℓ : Loc Cert.S5DWIn.nD Cert.S5DWIn.τ Cert.S5DWIn.sig) → Buf (Elt Bits) ℓ) : Prop :=
  True

def Pre_S5DWInIdeal (m : (ℓ : Loc Cert.S5DWInIdeal.nD Cert.S5DWInIdeal.τ Cert.S5DWInIdeal.sig) → Buf (Elt Ideal) ℓ) : Prop :=
  True

def Pre_S5DWInRefIdeal (m : (ℓ : Loc Cert.S5DWInRefIdeal.nD Cert.S5DWInRefIdeal.τ Cert.S5DWInRefIdeal.sig) → Buf (Elt Ideal) ℓ) : Prop :=
  True

def Pre_SsdDOut (m : (ℓ : Loc Cert.SsdDOut.nD Cert.SsdDOut.τ Cert.SsdDOut.sig) → Buf (Elt Bits) ℓ) : Prop :=
  True

def Pre_SsdDOutIdeal (m : (ℓ : Loc Cert.SsdDOutIdeal.nD Cert.SsdDOutIdeal.τ Cert.SsdDOutIdeal.sig) → Buf (Elt Ideal) ℓ) : Prop :=
  True

def Pre_SsdDOutRefIdeal (m : (ℓ : Loc Cert.SsdDOutRefIdeal.nD Cert.SsdDOutRefIdeal.τ Cert.SsdDOutRefIdeal.sig) → Buf (Elt Ideal) ℓ) : Prop :=
  True

def Pre_SsdDWOut (m : (ℓ : Loc Cert.SsdDWOut.nD Cert.SsdDWOut.τ Cert.SsdDWOut.sig) → Buf (Elt Bits) ℓ) : Prop :=
  True

def Pre_SsdDWOutIdeal (m : (ℓ : Loc Cert.SsdDWOutIdeal.nD Cert.SsdDWOutIdeal.τ Cert.SsdDWOutIdeal.sig) → Buf (Elt Ideal) ℓ) : Prop :=
  True

def Pre_SsdDWOutIdeal_ssd_finite [hPre_ssd_finite : Cert.Pre_ssd_finite.Facts] (m : (ℓ : Loc Cert.SsdDWOutIdeal.nD Cert.SsdDWOutIdeal.τ Cert.SsdDWOutIdeal.sig) → Buf (Elt Ideal) ℓ) : Prop :=
  ∀ c : Dev Cert.SsdDWOutIdeal.nD,
    (Cert.Pre_ssd_finite.fn (F := Ideal) (m ((c.tc : Thread Cert.SsdDWOutIdeal.nD Cert.SsdDWOutIdeal.τ).loc Cert.SsdDWOutIdeal.main_arg0)) (m ((c.tc : Thread Cert.SsdDWOutIdeal.nD Cert.SsdDWOutIdeal.τ).loc Cert.SsdDWOutIdeal.main_arg1)) (m ((c.tc : Thread Cert.SsdDWOutIdeal.nD Cert.SsdDWOutIdeal.τ).loc Cert.SsdDWOutIdeal.main_arg2)) (m ((c.tc : Thread Cert.SsdDWOutIdeal.nD Cert.SsdDWOutIdeal.τ).loc Cert.SsdDWOutIdeal.main_arg3))) = (fun _ => 1#1)

def Pre_SsdDWOutRefIdeal (m : (ℓ : Loc Cert.SsdDWOutRefIdeal.nD Cert.SsdDWOutRefIdeal.τ Cert.SsdDWOutRefIdeal.sig) → Buf (Elt Ideal) ℓ) : Prop :=
  True

def Pre_SsdDWOutRefIdeal_ssd_finite [hPre_ssd_finite : Cert.Pre_ssd_finite.Facts] (m : (ℓ : Loc Cert.SsdDWOutRefIdeal.nD Cert.SsdDWOutRefIdeal.τ Cert.SsdDWOutRefIdeal.sig) → Buf (Elt Ideal) ℓ) : Prop :=
  ∀ c : Dev Cert.SsdDWOutRefIdeal.nD,
    (Cert.Pre_ssd_finite.fn (F := Ideal) (m ((c.tc : Thread Cert.SsdDWOutRefIdeal.nD Cert.SsdDWOutRefIdeal.τ).loc Cert.SsdDWOutRefIdeal.main_arg0)) (m ((c.tc : Thread Cert.SsdDWOutRefIdeal.nD Cert.SsdDWOutRefIdeal.τ).loc Cert.SsdDWOutRefIdeal.main_arg1)) (m ((c.tc : Thread Cert.SsdDWOutRefIdeal.nD Cert.SsdDWOutRefIdeal.τ).loc Cert.SsdDWOutRefIdeal.main_arg2)) (m ((c.tc : Thread Cert.SsdDWOutRefIdeal.nD Cert.SsdDWOutRefIdeal.τ).loc Cert.SsdDWOutRefIdeal.main_arg3))) = (fun _ => 1#1)

def Pre_SsdDInZ (m : (ℓ : Loc Cert.SsdDInZ.nD Cert.SsdDInZ.τ Cert.SsdDInZ.sig) → Buf (Elt Bits) ℓ) : Prop :=
  True

def Pre_SsdDInZIdeal (m : (ℓ : Loc Cert.SsdDInZIdeal.nD Cert.SsdDInZIdeal.τ Cert.SsdDInZIdeal.sig) → Buf (Elt Ideal) ℓ) : Prop :=
  True

def Pre_SsdDInZRefIdeal (m : (ℓ : Loc Cert.SsdDInZRefIdeal.nD Cert.SsdDInZRefIdeal.τ Cert.SsdDInZRefIdeal.sig) → Buf (Elt Ideal) ℓ) : Prop :=
  True

def Pre_SsdDInXbc (m : (ℓ : Loc Cert.SsdDInXbc.nD Cert.SsdDInXbc.τ Cert.SsdDInXbc.sig) → Buf (Elt Bits) ℓ) : Prop :=
  True

def Pre_SsdDInXbcIdeal (m : (ℓ : Loc Cert.SsdDInXbcIdeal.nD Cert.SsdDInXbcIdeal.τ Cert.SsdDInXbcIdeal.sig) → Buf (Elt Ideal) ℓ) : Prop :=
  True

def Pre_SsdDInXbcRefIdeal (m : (ℓ : Loc Cert.SsdDInXbcRefIdeal.nD Cert.SsdDInXbcRefIdeal.τ Cert.SsdDInXbcRefIdeal.sig) → Buf (Elt Ideal) ℓ) : Prop :=
  True

def Pre_SsdDWZ (m : (ℓ : Loc Cert.SsdDWZ.nD Cert.SsdDWZ.τ Cert.SsdDWZ.sig) → Buf (Elt Bits) ℓ) : Prop :=
  True

def Pre_SsdDWZIdeal (m : (ℓ : Loc Cert.SsdDWZIdeal.nD Cert.SsdDWZIdeal.τ Cert.SsdDWZIdeal.sig) → Buf (Elt Ideal) ℓ) : Prop :=
  True

def Pre_SsdDWZRefIdeal (m : (ℓ : Loc Cert.SsdDWZRefIdeal.nD Cert.SsdDWZRefIdeal.τ Cert.SsdDWZRefIdeal.sig) → Buf (Elt Ideal) ℓ) : Prop :=
  True

def Pre_SsdDWXbc (m : (ℓ : Loc Cert.SsdDWXbc.nD Cert.SsdDWXbc.τ Cert.SsdDWXbc.sig) → Buf (Elt Bits) ℓ) : Prop :=
  True

def Pre_SsdDWXbcIdeal (m : (ℓ : Loc Cert.SsdDWXbcIdeal.nD Cert.SsdDWXbcIdeal.τ Cert.SsdDWXbcIdeal.sig) → Buf (Elt Ideal) ℓ) : Prop :=
  True

def Pre_SsdDWXbcRefIdeal (m : (ℓ : Loc Cert.SsdDWXbcRefIdeal.nD Cert.SsdDWXbcRefIdeal.τ Cert.SsdDWXbcRefIdeal.sig) → Buf (Elt Ideal) ℓ) : Prop :=
  True

def Pre_MlpIn (m : (ℓ : Loc Cert.MlpIn.nD Cert.MlpIn.τ Cert.MlpIn.sig) → Buf (Elt Bits) ℓ) : Prop :=
  True

def Pre_MlpInIdeal (m : (ℓ : Loc Cert.MlpInIdeal.nD Cert.MlpInIdeal.τ Cert.MlpInIdeal.sig) → Buf (Elt Ideal) ℓ) : Prop :=
  True

def Pre_MlpInRefIdeal (m : (ℓ : Loc Cert.MlpInRefIdeal.nD Cert.MlpInRefIdeal.τ Cert.MlpInRefIdeal.sig) → Buf (Elt Ideal) ℓ) : Prop :=
  True

def Pre_MlpOut (m : (ℓ : Loc Cert.MlpOut.nD Cert.MlpOut.τ Cert.MlpOut.sig) → Buf (Elt Bits) ℓ) : Prop :=
  True

def Pre_MlpOutIdeal (m : (ℓ : Loc Cert.MlpOutIdeal.nD Cert.MlpOutIdeal.τ Cert.MlpOutIdeal.sig) → Buf (Elt Ideal) ℓ) : Prop :=
  True

def Pre_MlpOutRefIdeal (m : (ℓ : Loc Cert.MlpOutRefIdeal.nD Cert.MlpOutRefIdeal.τ Cert.MlpOutRefIdeal.sig) → Buf (Elt Ideal) ℓ) : Prop :=
  True

def Pre_S5In (m : (ℓ : Loc Cert.S5In.nD Cert.S5In.τ Cert.S5In.sig) → Buf (Elt Bits) ℓ) : Prop :=
  True

def Pre_S5InIdeal (m : (ℓ : Loc Cert.S5InIdeal.nD Cert.S5InIdeal.τ Cert.S5InIdeal.sig) → Buf (Elt Ideal) ℓ) : Prop :=
  True

def Pre_S5InRefIdeal (m : (ℓ : Loc Cert.S5InRefIdeal.nD Cert.S5InRefIdeal.τ Cert.S5InRefIdeal.sig) → Buf (Elt Ideal) ℓ) : Prop :=
  True

def Pre_S5Glu (m : (ℓ : Loc Cert.S5Glu.nD Cert.S5Glu.τ Cert.S5Glu.sig) → Buf (Elt Bits) ℓ) : Prop :=
  True

def Pre_S5GluIdeal (m : (ℓ : Loc Cert.S5GluIdeal.nD Cert.S5GluIdeal.τ Cert.S5GluIdeal.sig) → Buf (Elt Ideal) ℓ) : Prop :=
  True

def Pre_S5GluRefIdeal (m : (ℓ : Loc Cert.S5GluRefIdeal.nD Cert.S5GluRefIdeal.τ Cert.S5GluRefIdeal.sig) → Buf (Elt Ideal) ℓ) : Prop :=
  True

def Pre_SsdZ (m : (ℓ : Loc Cert.SsdZ.nD Cert.SsdZ.τ Cert.SsdZ.sig) → Buf (Elt Bits) ℓ) : Prop :=
  True

def Pre_SsdZIdeal (m : (ℓ : Loc Cert.SsdZIdeal.nD Cert.SsdZIdeal.τ Cert.SsdZIdeal.sig) → Buf (Elt Ideal) ℓ) : Prop :=
  True

def Pre_SsdZRefIdeal (m : (ℓ : Loc Cert.SsdZRefIdeal.nD Cert.SsdZRefIdeal.τ Cert.SsdZRefIdeal.sig) → Buf (Elt Ideal) ℓ) : Prop :=
  True

def Pre_SsdXbc (m : (ℓ : Loc Cert.SsdXbc.nD Cert.SsdXbc.τ Cert.SsdXbc.sig) → Buf (Elt Bits) ℓ) : Prop :=
  True

def Pre_SsdXbcIdeal (m : (ℓ : Loc Cert.SsdXbcIdeal.nD Cert.SsdXbcIdeal.τ Cert.SsdXbcIdeal.sig) → Buf (Elt Ideal) ℓ) : Prop :=
  True

def Pre_SsdXbcRefIdeal (m : (ℓ : Loc Cert.SsdXbcRefIdeal.nD Cert.SsdXbcRefIdeal.τ Cert.SsdXbcRefIdeal.sig) → Buf (Elt Ideal) ℓ) : Prop :=
  True

def Pre_SsdOut (m : (ℓ : Loc Cert.SsdOut.nD Cert.SsdOut.τ Cert.SsdOut.sig) → Buf (Elt Bits) ℓ) : Prop :=
  True

def Pre_SsdOutIdeal (m : (ℓ : Loc Cert.SsdOutIdeal.nD Cert.SsdOutIdeal.τ Cert.SsdOutIdeal.sig) → Buf (Elt Ideal) ℓ) : Prop :=
  True

def Pre_SsdOutRefIdeal (m : (ℓ : Loc Cert.SsdOutRefIdeal.nD Cert.SsdOutRefIdeal.τ Cert.SsdOutRefIdeal.sig) → Buf (Elt Ideal) ℓ) : Prop :=
  True

def Pre_SsdDt (m : (ℓ : Loc Cert.SsdDt.nD Cert.SsdDt.τ Cert.SsdDt.sig) → Buf (Elt Bits) ℓ) : Prop :=
  True

def Pre_SsdDtIdeal (m : (ℓ : Loc Cert.SsdDtIdeal.nD Cert.SsdDtIdeal.τ Cert.SsdDtIdeal.sig) → Buf (Elt Ideal) ℓ) : Prop :=
  True

def Pre_SsdDtRefIdeal (m : (ℓ : Loc Cert.SsdDtRefIdeal.nD Cert.SsdDtRefIdeal.τ Cert.SsdDtRefIdeal.sig) → Buf (Elt Ideal) ℓ) : Prop :=
  True

def Pre_SsdDWDt (m : (ℓ : Loc Cert.SsdDWDt.nD Cert.SsdDWDt.τ Cert.SsdDWDt.sig) → Buf (Elt Bits) ℓ) : Prop :=
  True

def Pre_SsdDWDtIdeal (m : (ℓ : Loc Cert.SsdDWDtIdeal.nD Cert.SsdDWDtIdeal.τ Cert.SsdDWDtIdeal.sig) → Buf (Elt Ideal) ℓ) : Prop :=
  True

def Pre_SsdDWDtRefIdeal (m : (ℓ : Loc Cert.SsdDWDtRefIdeal.nD Cert.SsdDWDtRefIdeal.τ Cert.SsdDWDtRefIdeal.sig) → Buf (Elt Ideal) ℓ) : Prop :=
  True

def Pre_SsdDInDt (m : (ℓ : Loc Cert.SsdDInDt.nD Cert.SsdDInDt.τ Cert.SsdDInDt.sig) → Buf (Elt Bits) ℓ) : Prop :=
  True

def Pre_SsdDInDtIdeal (m : (ℓ : Loc Cert.SsdDInDtIdeal.nD Cert.SsdDInDtIdeal.τ Cert.SsdDInDtIdeal.sig) → Buf (Elt Ideal) ℓ) : Prop :=
  True

def Pre_SsdDInDtRefIdeal (m : (ℓ : Loc Cert.SsdDInDtRefIdeal.nD Cert.SsdDInDtRefIdeal.τ Cert.SsdDInDtRefIdeal.sig) → Buf (Elt Ideal) ℓ) : Prop :=
  True

def Pre_NormMod (m : (ℓ : Loc Cert.NormMod.nD Cert.NormMod.τ Cert.NormMod.sig) → Buf (Elt Bits) ℓ) : Prop :=
  True

def Pre_NormModIdeal (m : (ℓ : Loc Cert.NormModIdeal.nD Cert.NormModIdeal.τ Cert.NormModIdeal.sig) → Buf (Elt Ideal) ℓ) : Prop :=
  True

def Pre_NormModRefIdeal (m : (ℓ : Loc Cert.NormModRefIdeal.nD Cert.NormModRefIdeal.τ Cert.NormModRefIdeal.sig) → Buf (Elt Ideal) ℓ) : Prop :=
  True

def Pre_Gelu (m : (ℓ : Loc Cert.Gelu.nD Cert.Gelu.τ Cert.Gelu.sig) → Buf (Elt Bits) ℓ) : Prop :=
  True

def Pre_GeluIdeal (m : (ℓ : Loc Cert.GeluIdeal.nD Cert.GeluIdeal.τ Cert.GeluIdeal.sig) → Buf (Elt Ideal) ℓ) : Prop :=
  True

def Pre_GeluRefIdeal (m : (ℓ : Loc Cert.GeluRefIdeal.nD Cert.GeluRefIdeal.τ Cert.GeluRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_GluGrad (m : (ℓ : Loc Cert.GluGrad.nD Cert.GluGrad.τ Cert.GluGrad.sig) → Buf (Elt Bits) ℓ) : Prop :=
  True

def Pre_GluGradIdeal (m : (ℓ : Loc Cert.GluGradIdeal.nD Cert.GluGradIdeal.τ Cert.GluGradIdeal.sig) → Buf (Elt Ideal) ℓ) : Prop :=
  True

def Pre_GluGradRefIdeal (m : (ℓ : Loc Cert.GluGradRefIdeal.nD Cert.GluGradRefIdeal.τ Cert.GluGradRefIdeal.sig) → Buf (Elt Ideal) ℓ) : Prop :=
  True

def Pre_GateNorm (m : (ℓ : Loc Cert.GateNorm.nD Cert.GateNorm.τ Cert.GateNorm.sig) → Buf (Elt Bits) ℓ) : Prop :=
  True

def Pre_GateNormIdeal (m : (ℓ : Loc Cert.GateNormIdeal.nD Cert.GateNormIdeal.τ Cert.GateNormIdeal.sig) → Buf (Elt Ideal) ℓ) : Prop :=
  True

def Pre_GateNormRefIdeal (m : (ℓ : Loc Cert.GateNormRefIdeal.nD Cert.GateNormRefIdeal.τ Cert.GateNormRefIdeal.sig) → Buf (Elt Ideal) ℓ) : Prop :=
  True

def Pre_AdamMlp (m : (ℓ : Loc Cert.AdamMlp.nD Cert.AdamMlp.τ Cert.AdamMlp.sig) → Buf (Elt Bits) ℓ) : Prop :=
  True

def Pre_AdamMlpIdeal (m : (ℓ : Loc Cert.AdamMlpIdeal.nD Cert.AdamMlpIdeal.τ Cert.AdamMlpIdeal.sig) → Buf (Elt Ideal) ℓ) : Prop :=
  True

def Pre_AdamMlpRefIdeal (m : (ℓ : Loc Cert.AdamMlpRefIdeal.nD Cert.AdamMlpRefIdeal.τ Cert.AdamMlpRefIdeal.sig) → Buf (Elt Ideal) ℓ) : Prop :=
  True

def Pre_AdamS5In (m : (ℓ : Loc Cert.AdamS5In.nD Cert.AdamS5In.τ Cert.AdamS5In.sig) → Buf (Elt Bits) ℓ) : Prop :=
  True

def Pre_AdamS5InIdeal (m : (ℓ : Loc Cert.AdamS5InIdeal.nD Cert.AdamS5InIdeal.τ Cert.AdamS5InIdeal.sig) → Buf (Elt Ideal) ℓ) : Prop :=
  True

def Pre_AdamS5InRefIdeal (m : (ℓ : Loc Cert.AdamS5InRefIdeal.nD Cert.AdamS5InRefIdeal.τ Cert.AdamS5InRefIdeal.sig) → Buf (Elt Ideal) ℓ) : Prop :=
  True

def Pre_AdamS5Glu (m : (ℓ : Loc Cert.AdamS5Glu.nD Cert.AdamS5Glu.τ Cert.AdamS5Glu.sig) → Buf (Elt Bits) ℓ) : Prop :=
  True

def Pre_AdamS5GluIdeal (m : (ℓ : Loc Cert.AdamS5GluIdeal.nD Cert.AdamS5GluIdeal.τ Cert.AdamS5GluIdeal.sig) → Buf (Elt Ideal) ℓ) : Prop :=
  True

def Pre_AdamS5GluRefIdeal (m : (ℓ : Loc Cert.AdamS5GluRefIdeal.nD Cert.AdamS5GluRefIdeal.τ Cert.AdamS5GluRefIdeal.sig) → Buf (Elt Ideal) ℓ) : Prop :=
  True

def Pre_AdamSsdIn (m : (ℓ : Loc Cert.AdamSsdIn.nD Cert.AdamSsdIn.τ Cert.AdamSsdIn.sig) → Buf (Elt Bits) ℓ) : Prop :=
  True

def Pre_AdamSsdInIdeal (m : (ℓ : Loc Cert.AdamSsdInIdeal.nD Cert.AdamSsdInIdeal.τ Cert.AdamSsdInIdeal.sig) → Buf (Elt Ideal) ℓ) : Prop :=
  True

def Pre_AdamSsdInRefIdeal (m : (ℓ : Loc Cert.AdamSsdInRefIdeal.nD Cert.AdamSsdInRefIdeal.τ Cert.AdamSsdInRefIdeal.sig) → Buf (Elt Ideal) ℓ) : Prop :=
  True

def Pre_AdamSsdOut (m : (ℓ : Loc Cert.AdamSsdOut.nD Cert.AdamSsdOut.τ Cert.AdamSsdOut.sig) → Buf (Elt Bits) ℓ) : Prop :=
  True

def Pre_AdamSsdOutIdeal (m : (ℓ : Loc Cert.AdamSsdOutIdeal.nD Cert.AdamSsdOutIdeal.τ Cert.AdamSsdOutIdeal.sig) → Buf (Elt Ideal) ℓ) : Prop :=
  True

def Pre_AdamSsdOutRefIdeal (m : (ℓ : Loc Cert.AdamSsdOutRefIdeal.nD Cert.AdamSsdOutRefIdeal.τ Cert.AdamSsdOutRefIdeal.sig) → Buf (Elt Ideal) ℓ) : Prop :=
  True

def Pre_AdamConvW (m : (ℓ : Loc Cert.AdamConvW.nD Cert.AdamConvW.τ Cert.AdamConvW.sig) → Buf (Elt Bits) ℓ) : Prop :=
  True

def Pre_AdamConvWIdeal (m : (ℓ : Loc Cert.AdamConvWIdeal.nD Cert.AdamConvWIdeal.τ Cert.AdamConvWIdeal.sig) → Buf (Elt Ideal) ℓ) : Prop :=
  True

def Pre_AdamConvWRefIdeal (m : (ℓ : Loc Cert.AdamConvWRefIdeal.nD Cert.AdamConvWRefIdeal.τ Cert.AdamConvWRefIdeal.sig) → Buf (Elt Ideal) ℓ) : Prop :=
  True

def Pre_AdamConvB (m : (ℓ : Loc Cert.AdamConvB.nD Cert.AdamConvB.τ Cert.AdamConvB.sig) → Buf (Elt Bits) ℓ) : Prop :=
  True

def Pre_AdamConvBIdeal (m : (ℓ : Loc Cert.AdamConvBIdeal.nD Cert.AdamConvBIdeal.τ Cert.AdamConvBIdeal.sig) → Buf (Elt Ideal) ℓ) : Prop :=
  True

def Pre_AdamConvBRefIdeal (m : (ℓ : Loc Cert.AdamConvBRefIdeal.nD Cert.AdamConvBRefIdeal.τ Cert.AdamConvBRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_AdamModRefIdeal (m : (ℓ : Loc Cert.AdamModRefIdeal.nD Cert.AdamModRefIdeal.τ Cert.AdamModRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_MlpDHidden [hMlpDHidden : Cert.MlpDHidden.Facts] : Prop :=
  ∀ (m : (ℓ : Loc Cert.MlpDHidden.nD Cert.MlpDHidden.τ Cert.MlpDHidden.sig) → Buf (Elt Bits) ℓ) (g : Dev Cert.MlpDHidden.nD → PrngReg), Pre_MlpDHidden m →
    θ_run (Cert.MlpDHidden.defs (F := Bits)) (onTc (τ := Cert.MlpDHidden.τ) (Cert.MlpDHidden.main (F := Bits))) ⟨m, fun _ => 0, g⟩ (fun r => (∀ c : Dev Cert.MlpDHidden.nD,
      r.2.mem ((c.tc : Thread Cert.MlpDHidden.nD Cert.MlpDHidden.τ).loc Cert.MlpDHidden.main_arg0) = m ((c.tc : Thread Cert.MlpDHidden.nD Cert.MlpDHidden.τ).loc Cert.MlpDHidden.main_arg0)
      ∧ r.2.mem ((c.tc : Thread Cert.MlpDHidden.nD Cert.MlpDHidden.τ).loc Cert.MlpDHidden.main_arg1) = m ((c.tc : Thread Cert.MlpDHidden.nD Cert.MlpDHidden.τ).loc Cert.MlpDHidden.main_arg1)
      ∧ r.2.mem ((c.tc : Thread Cert.MlpDHidden.nD Cert.MlpDHidden.τ).loc Cert.MlpDHidden.main_arg2) = m ((c.tc : Thread Cert.MlpDHidden.nD Cert.MlpDHidden.τ).loc Cert.MlpDHidden.main_arg2)
      ∧ r.2.mem ((c.tc : Thread Cert.MlpDHidden.nD Cert.MlpDHidden.τ).loc Cert.MlpDHidden.main_arg3) = m ((c.tc : Thread Cert.MlpDHidden.nD Cert.MlpDHidden.τ).loc Cert.MlpDHidden.main_arg3))
      ∧ r.2.sem = fun _ => 0)

def quiescent_MlpDHiddenIdeal [hMlpDHiddenIdeal : Cert.MlpDHiddenIdeal.Facts] : Prop :=
  ∀ (m : (ℓ : Loc Cert.MlpDHiddenIdeal.nD Cert.MlpDHiddenIdeal.τ Cert.MlpDHiddenIdeal.sig) → Buf (Elt Ideal) ℓ) (g : Dev Cert.MlpDHiddenIdeal.nD → PrngReg), Pre_MlpDHiddenIdeal m →
    θ_run (Cert.MlpDHiddenIdeal.defs (F := Ideal)) (onTc (τ := Cert.MlpDHiddenIdeal.τ) (Cert.MlpDHiddenIdeal.main (F := Ideal))) ⟨m, fun _ => 0, g⟩ (fun r => (∀ c : Dev Cert.MlpDHiddenIdeal.nD,
      r.2.mem ((c.tc : Thread Cert.MlpDHiddenIdeal.nD Cert.MlpDHiddenIdeal.τ).loc Cert.MlpDHiddenIdeal.main_arg0) = m ((c.tc : Thread Cert.MlpDHiddenIdeal.nD Cert.MlpDHiddenIdeal.τ).loc Cert.MlpDHiddenIdeal.main_arg0)
      ∧ r.2.mem ((c.tc : Thread Cert.MlpDHiddenIdeal.nD Cert.MlpDHiddenIdeal.τ).loc Cert.MlpDHiddenIdeal.main_arg1) = m ((c.tc : Thread Cert.MlpDHiddenIdeal.nD Cert.MlpDHiddenIdeal.τ).loc Cert.MlpDHiddenIdeal.main_arg1)
      ∧ r.2.mem ((c.tc : Thread Cert.MlpDHiddenIdeal.nD Cert.MlpDHiddenIdeal.τ).loc Cert.MlpDHiddenIdeal.main_arg2) = m ((c.tc : Thread Cert.MlpDHiddenIdeal.nD Cert.MlpDHiddenIdeal.τ).loc Cert.MlpDHiddenIdeal.main_arg2)
      ∧ r.2.mem ((c.tc : Thread Cert.MlpDHiddenIdeal.nD Cert.MlpDHiddenIdeal.τ).loc Cert.MlpDHiddenIdeal.main_arg3) = m ((c.tc : Thread Cert.MlpDHiddenIdeal.nD Cert.MlpDHiddenIdeal.τ).loc Cert.MlpDHiddenIdeal.main_arg3))
      ∧ r.2.sem = fun _ => 0)

def quiescent_MlpDHiddenRefIdeal [hMlpDHiddenRefIdeal : Cert.MlpDHiddenRefIdeal.Facts] : Prop :=
  ∀ (m : (ℓ : Loc Cert.MlpDHiddenRefIdeal.nD Cert.MlpDHiddenRefIdeal.τ Cert.MlpDHiddenRefIdeal.sig) → Buf (Elt Ideal) ℓ) (g : Dev Cert.MlpDHiddenRefIdeal.nD → PrngReg), Pre_MlpDHiddenRefIdeal m →
    θ_run (Cert.MlpDHiddenRefIdeal.defs (F := Ideal)) (onTc (τ := Cert.MlpDHiddenRefIdeal.τ) (Cert.MlpDHiddenRefIdeal.main (F := Ideal))) ⟨m, fun _ => 0, g⟩ (fun r => (∀ c : Dev Cert.MlpDHiddenRefIdeal.nD,
      r.2.mem ((c.tc : Thread Cert.MlpDHiddenRefIdeal.nD Cert.MlpDHiddenRefIdeal.τ).loc Cert.MlpDHiddenRefIdeal.main_arg0) = m ((c.tc : Thread Cert.MlpDHiddenRefIdeal.nD Cert.MlpDHiddenRefIdeal.τ).loc Cert.MlpDHiddenRefIdeal.main_arg0)
      ∧ r.2.mem ((c.tc : Thread Cert.MlpDHiddenRefIdeal.nD Cert.MlpDHiddenRefIdeal.τ).loc Cert.MlpDHiddenRefIdeal.main_arg1) = m ((c.tc : Thread Cert.MlpDHiddenRefIdeal.nD Cert.MlpDHiddenRefIdeal.τ).loc Cert.MlpDHiddenRefIdeal.main_arg1)
      ∧ r.2.mem ((c.tc : Thread Cert.MlpDHiddenRefIdeal.nD Cert.MlpDHiddenRefIdeal.τ).loc Cert.MlpDHiddenRefIdeal.main_arg2) = m ((c.tc : Thread Cert.MlpDHiddenRefIdeal.nD Cert.MlpDHiddenRefIdeal.τ).loc Cert.MlpDHiddenRefIdeal.main_arg2)
      ∧ r.2.mem ((c.tc : Thread Cert.MlpDHiddenRefIdeal.nD Cert.MlpDHiddenRefIdeal.τ).loc Cert.MlpDHiddenRefIdeal.main_arg3) = m ((c.tc : Thread Cert.MlpDHiddenRefIdeal.nD Cert.MlpDHiddenRefIdeal.τ).loc Cert.MlpDHiddenRefIdeal.main_arg3))
      ∧ r.2.sem = fun _ => 0)

def quiescent_MlpDW2 [hMlpDW2 : Cert.MlpDW2.Facts] : Prop :=
  ∀ (m : (ℓ : Loc Cert.MlpDW2.nD Cert.MlpDW2.τ Cert.MlpDW2.sig) → Buf (Elt Bits) ℓ) (g : Dev Cert.MlpDW2.nD → PrngReg), Pre_MlpDW2 m →
    θ_run (Cert.MlpDW2.defs (F := Bits)) (onTc (τ := Cert.MlpDW2.τ) (Cert.MlpDW2.main (F := Bits))) ⟨m, fun _ => 0, g⟩ (fun r => (∀ c : Dev Cert.MlpDW2.nD,
      r.2.mem ((c.tc : Thread Cert.MlpDW2.nD Cert.MlpDW2.τ).loc Cert.MlpDW2.main_arg0) = m ((c.tc : Thread Cert.MlpDW2.nD Cert.MlpDW2.τ).loc Cert.MlpDW2.main_arg0)
      ∧ r.2.mem ((c.tc : Thread Cert.MlpDW2.nD Cert.MlpDW2.τ).loc Cert.MlpDW2.main_arg1) = m ((c.tc : Thread Cert.MlpDW2.nD Cert.MlpDW2.τ).loc Cert.MlpDW2.main_arg1)
      ∧ r.2.mem ((c.tc : Thread Cert.MlpDW2.nD Cert.MlpDW2.τ).loc Cert.MlpDW2.main_arg2) = m ((c.tc : Thread Cert.MlpDW2.nD Cert.MlpDW2.τ).loc Cert.MlpDW2.main_arg2)
      ∧ r.2.mem ((c.tc : Thread Cert.MlpDW2.nD Cert.MlpDW2.τ).loc Cert.MlpDW2.main_arg3) = m ((c.tc : Thread Cert.MlpDW2.nD Cert.MlpDW2.τ).loc Cert.MlpDW2.main_arg3))
      ∧ r.2.sem = fun _ => 0)

def quiescent_MlpDW2Ideal [hMlpDW2Ideal : Cert.MlpDW2Ideal.Facts] : Prop :=
  ∀ (m : (ℓ : Loc Cert.MlpDW2Ideal.nD Cert.MlpDW2Ideal.τ Cert.MlpDW2Ideal.sig) → Buf (Elt Ideal) ℓ) (g : Dev Cert.MlpDW2Ideal.nD → PrngReg), Pre_MlpDW2Ideal m →
    θ_run (Cert.MlpDW2Ideal.defs (F := Ideal)) (onTc (τ := Cert.MlpDW2Ideal.τ) (Cert.MlpDW2Ideal.main (F := Ideal))) ⟨m, fun _ => 0, g⟩ (fun r => (∀ c : Dev Cert.MlpDW2Ideal.nD,
      r.2.mem ((c.tc : Thread Cert.MlpDW2Ideal.nD Cert.MlpDW2Ideal.τ).loc Cert.MlpDW2Ideal.main_arg0) = m ((c.tc : Thread Cert.MlpDW2Ideal.nD Cert.MlpDW2Ideal.τ).loc Cert.MlpDW2Ideal.main_arg0)
      ∧ r.2.mem ((c.tc : Thread Cert.MlpDW2Ideal.nD Cert.MlpDW2Ideal.τ).loc Cert.MlpDW2Ideal.main_arg1) = m ((c.tc : Thread Cert.MlpDW2Ideal.nD Cert.MlpDW2Ideal.τ).loc Cert.MlpDW2Ideal.main_arg1)
      ∧ r.2.mem ((c.tc : Thread Cert.MlpDW2Ideal.nD Cert.MlpDW2Ideal.τ).loc Cert.MlpDW2Ideal.main_arg2) = m ((c.tc : Thread Cert.MlpDW2Ideal.nD Cert.MlpDW2Ideal.τ).loc Cert.MlpDW2Ideal.main_arg2)
      ∧ r.2.mem ((c.tc : Thread Cert.MlpDW2Ideal.nD Cert.MlpDW2Ideal.τ).loc Cert.MlpDW2Ideal.main_arg3) = m ((c.tc : Thread Cert.MlpDW2Ideal.nD Cert.MlpDW2Ideal.τ).loc Cert.MlpDW2Ideal.main_arg3))
      ∧ r.2.sem = fun _ => 0)

def quiescent_MlpDW2Ideal_pre_mlp_finite [hMlpDW2Ideal : Cert.MlpDW2Ideal.Facts] [hPre_mlp_finite : Cert.Pre_mlp_finite.Facts] : Prop :=
  ∀ (m : (ℓ : Loc Cert.MlpDW2Ideal.nD Cert.MlpDW2Ideal.τ Cert.MlpDW2Ideal.sig) → Buf (Elt Ideal) ℓ) (g : Dev Cert.MlpDW2Ideal.nD → PrngReg), Pre_MlpDW2Ideal_mlp_finite m →
    θ_run (Cert.MlpDW2Ideal.defs (F := Ideal)) (onTc (τ := Cert.MlpDW2Ideal.τ) (Cert.MlpDW2Ideal.main (F := Ideal))) ⟨m, fun _ => 0, g⟩ (fun r => (∀ c : Dev Cert.MlpDW2Ideal.nD,
      r.2.mem ((c.tc : Thread Cert.MlpDW2Ideal.nD Cert.MlpDW2Ideal.τ).loc Cert.MlpDW2Ideal.main_arg0) = m ((c.tc : Thread Cert.MlpDW2Ideal.nD Cert.MlpDW2Ideal.τ).loc Cert.MlpDW2Ideal.main_arg0)
      ∧ r.2.mem ((c.tc : Thread Cert.MlpDW2Ideal.nD Cert.MlpDW2Ideal.τ).loc Cert.MlpDW2Ideal.main_arg1) = m ((c.tc : Thread Cert.MlpDW2Ideal.nD Cert.MlpDW2Ideal.τ).loc Cert.MlpDW2Ideal.main_arg1)
      ∧ r.2.mem ((c.tc : Thread Cert.MlpDW2Ideal.nD Cert.MlpDW2Ideal.τ).loc Cert.MlpDW2Ideal.main_arg2) = m ((c.tc : Thread Cert.MlpDW2Ideal.nD Cert.MlpDW2Ideal.τ).loc Cert.MlpDW2Ideal.main_arg2)
      ∧ r.2.mem ((c.tc : Thread Cert.MlpDW2Ideal.nD Cert.MlpDW2Ideal.τ).loc Cert.MlpDW2Ideal.main_arg3) = m ((c.tc : Thread Cert.MlpDW2Ideal.nD Cert.MlpDW2Ideal.τ).loc Cert.MlpDW2Ideal.main_arg3))
      ∧ r.2.sem = fun _ => 0)

def quiescent_MlpDW2RefIdeal [hMlpDW2RefIdeal : Cert.MlpDW2RefIdeal.Facts] : Prop :=
  ∀ (m : (ℓ : Loc Cert.MlpDW2RefIdeal.nD Cert.MlpDW2RefIdeal.τ Cert.MlpDW2RefIdeal.sig) → Buf (Elt Ideal) ℓ) (g : Dev Cert.MlpDW2RefIdeal.nD → PrngReg), Pre_MlpDW2RefIdeal m →
    θ_run (Cert.MlpDW2RefIdeal.defs (F := Ideal)) (onTc (τ := Cert.MlpDW2RefIdeal.τ) (Cert.MlpDW2RefIdeal.main (F := Ideal))) ⟨m, fun _ => 0, g⟩ (fun r => (∀ c : Dev Cert.MlpDW2RefIdeal.nD,
      r.2.mem ((c.tc : Thread Cert.MlpDW2RefIdeal.nD Cert.MlpDW2RefIdeal.τ).loc Cert.MlpDW2RefIdeal.main_arg0) = m ((c.tc : Thread Cert.MlpDW2RefIdeal.nD Cert.MlpDW2RefIdeal.τ).loc Cert.MlpDW2RefIdeal.main_arg0)
      ∧ r.2.mem ((c.tc : Thread Cert.MlpDW2RefIdeal.nD Cert.MlpDW2RefIdeal.τ).loc Cert.MlpDW2RefIdeal.main_arg1) = m ((c.tc : Thread Cert.MlpDW2RefIdeal.nD Cert.MlpDW2RefIdeal.τ).loc Cert.MlpDW2RefIdeal.main_arg1)
      ∧ r.2.mem ((c.tc : Thread Cert.MlpDW2RefIdeal.nD Cert.MlpDW2RefIdeal.τ).loc Cert.MlpDW2RefIdeal.main_arg2) = m ((c.tc : Thread Cert.MlpDW2RefIdeal.nD Cert.MlpDW2RefIdeal.τ).loc Cert.MlpDW2RefIdeal.main_arg2)
      ∧ r.2.mem ((c.tc : Thread Cert.MlpDW2RefIdeal.nD Cert.MlpDW2RefIdeal.τ).loc Cert.MlpDW2RefIdeal.main_arg3) = m ((c.tc : Thread Cert.MlpDW2RefIdeal.nD Cert.MlpDW2RefIdeal.τ).loc Cert.MlpDW2RefIdeal.main_arg3))
      ∧ r.2.sem = fun _ => 0)

def quiescent_MlpDW2RefIdeal_pre_mlp_finite [hMlpDW2RefIdeal : Cert.MlpDW2RefIdeal.Facts] [hPre_mlp_finite : Cert.Pre_mlp_finite.Facts] : Prop :=
  ∀ (m : (ℓ : Loc Cert.MlpDW2RefIdeal.nD Cert.MlpDW2RefIdeal.τ Cert.MlpDW2RefIdeal.sig) → Buf (Elt Ideal) ℓ) (g : Dev Cert.MlpDW2RefIdeal.nD → PrngReg), Pre_MlpDW2RefIdeal_mlp_finite m →
    θ_run (Cert.MlpDW2RefIdeal.defs (F := Ideal)) (onTc (τ := Cert.MlpDW2RefIdeal.τ) (Cert.MlpDW2RefIdeal.main (F := Ideal))) ⟨m, fun _ => 0, g⟩ (fun r => (∀ c : Dev Cert.MlpDW2RefIdeal.nD,
      r.2.mem ((c.tc : Thread Cert.MlpDW2RefIdeal.nD Cert.MlpDW2RefIdeal.τ).loc Cert.MlpDW2RefIdeal.main_arg0) = m ((c.tc : Thread Cert.MlpDW2RefIdeal.nD Cert.MlpDW2RefIdeal.τ).loc Cert.MlpDW2RefIdeal.main_arg0)
      ∧ r.2.mem ((c.tc : Thread Cert.MlpDW2RefIdeal.nD Cert.MlpDW2RefIdeal.τ).loc Cert.MlpDW2RefIdeal.main_arg1) = m ((c.tc : Thread Cert.MlpDW2RefIdeal.nD Cert.MlpDW2RefIdeal.τ).loc Cert.MlpDW2RefIdeal.main_arg1)
      ∧ r.2.mem ((c.tc : Thread Cert.MlpDW2RefIdeal.nD Cert.MlpDW2RefIdeal.τ).loc Cert.MlpDW2RefIdeal.main_arg2) = m ((c.tc : Thread Cert.MlpDW2RefIdeal.nD Cert.MlpDW2RefIdeal.τ).loc Cert.MlpDW2RefIdeal.main_arg2)
      ∧ r.2.mem ((c.tc : Thread Cert.MlpDW2RefIdeal.nD Cert.MlpDW2RefIdeal.τ).loc Cert.MlpDW2RefIdeal.main_arg3) = m ((c.tc : Thread Cert.MlpDW2RefIdeal.nD Cert.MlpDW2RefIdeal.τ).loc Cert.MlpDW2RefIdeal.main_arg3))
      ∧ r.2.sem = fun _ => 0)

def quiescent_MlpDIn [hMlpDIn : Cert.MlpDIn.Facts] : Prop :=
  ∀ (m : (ℓ : Loc Cert.MlpDIn.nD Cert.MlpDIn.τ Cert.MlpDIn.sig) → Buf (Elt Bits) ℓ) (g : Dev Cert.MlpDIn.nD → PrngReg), Pre_MlpDIn m →
    θ_run (Cert.MlpDIn.defs (F := Bits)) (onTc (τ := Cert.MlpDIn.τ) (Cert.MlpDIn.main (F := Bits))) ⟨m, fun _ => 0, g⟩ (fun r => (∀ c : Dev Cert.MlpDIn.nD,
      r.2.mem ((c.tc : Thread Cert.MlpDIn.nD Cert.MlpDIn.τ).loc Cert.MlpDIn.main_arg0) = m ((c.tc : Thread Cert.MlpDIn.nD Cert.MlpDIn.τ).loc Cert.MlpDIn.main_arg0)
      ∧ r.2.mem ((c.tc : Thread Cert.MlpDIn.nD Cert.MlpDIn.τ).loc Cert.MlpDIn.main_arg1) = m ((c.tc : Thread Cert.MlpDIn.nD Cert.MlpDIn.τ).loc Cert.MlpDIn.main_arg1)
      ∧ r.2.mem ((c.tc : Thread Cert.MlpDIn.nD Cert.MlpDIn.τ).loc Cert.MlpDIn.main_arg2) = m ((c.tc : Thread Cert.MlpDIn.nD Cert.MlpDIn.τ).loc Cert.MlpDIn.main_arg2))
      ∧ r.2.sem = fun _ => 0)

def quiescent_MlpDInIdeal [hMlpDInIdeal : Cert.MlpDInIdeal.Facts] : Prop :=
  ∀ (m : (ℓ : Loc Cert.MlpDInIdeal.nD Cert.MlpDInIdeal.τ Cert.MlpDInIdeal.sig) → Buf (Elt Ideal) ℓ) (g : Dev Cert.MlpDInIdeal.nD → PrngReg), Pre_MlpDInIdeal m →
    θ_run (Cert.MlpDInIdeal.defs (F := Ideal)) (onTc (τ := Cert.MlpDInIdeal.τ) (Cert.MlpDInIdeal.main (F := Ideal))) ⟨m, fun _ => 0, g⟩ (fun r => (∀ c : Dev Cert.MlpDInIdeal.nD,
      r.2.mem ((c.tc : Thread Cert.MlpDInIdeal.nD Cert.MlpDInIdeal.τ).loc Cert.MlpDInIdeal.main_arg0) = m ((c.tc : Thread Cert.MlpDInIdeal.nD Cert.MlpDInIdeal.τ).loc Cert.MlpDInIdeal.main_arg0)
      ∧ r.2.mem ((c.tc : Thread Cert.MlpDInIdeal.nD Cert.MlpDInIdeal.τ).loc Cert.MlpDInIdeal.main_arg1) = m ((c.tc : Thread Cert.MlpDInIdeal.nD Cert.MlpDInIdeal.τ).loc Cert.MlpDInIdeal.main_arg1)
      ∧ r.2.mem ((c.tc : Thread Cert.MlpDInIdeal.nD Cert.MlpDInIdeal.τ).loc Cert.MlpDInIdeal.main_arg2) = m ((c.tc : Thread Cert.MlpDInIdeal.nD Cert.MlpDInIdeal.τ).loc Cert.MlpDInIdeal.main_arg2))
      ∧ r.2.sem = fun _ => 0)

def quiescent_MlpDInRefIdeal [hMlpDInRefIdeal : Cert.MlpDInRefIdeal.Facts] : Prop :=
  ∀ (m : (ℓ : Loc Cert.MlpDInRefIdeal.nD Cert.MlpDInRefIdeal.τ Cert.MlpDInRefIdeal.sig) → Buf (Elt Ideal) ℓ) (g : Dev Cert.MlpDInRefIdeal.nD → PrngReg), Pre_MlpDInRefIdeal m →
    θ_run (Cert.MlpDInRefIdeal.defs (F := Ideal)) (onTc (τ := Cert.MlpDInRefIdeal.τ) (Cert.MlpDInRefIdeal.main (F := Ideal))) ⟨m, fun _ => 0, g⟩ (fun r => (∀ c : Dev Cert.MlpDInRefIdeal.nD,
      r.2.mem ((c.tc : Thread Cert.MlpDInRefIdeal.nD Cert.MlpDInRefIdeal.τ).loc Cert.MlpDInRefIdeal.main_arg0) = m ((c.tc : Thread Cert.MlpDInRefIdeal.nD Cert.MlpDInRefIdeal.τ).loc Cert.MlpDInRefIdeal.main_arg0)
      ∧ r.2.mem ((c.tc : Thread Cert.MlpDInRefIdeal.nD Cert.MlpDInRefIdeal.τ).loc Cert.MlpDInRefIdeal.main_arg1) = m ((c.tc : Thread Cert.MlpDInRefIdeal.nD Cert.MlpDInRefIdeal.τ).loc Cert.MlpDInRefIdeal.main_arg1)
      ∧ r.2.mem ((c.tc : Thread Cert.MlpDInRefIdeal.nD Cert.MlpDInRefIdeal.τ).loc Cert.MlpDInRefIdeal.main_arg2) = m ((c.tc : Thread Cert.MlpDInRefIdeal.nD Cert.MlpDInRefIdeal.τ).loc Cert.MlpDInRefIdeal.main_arg2))
      ∧ r.2.sem = fun _ => 0)

def quiescent_MlpDW1 [hMlpDW1 : Cert.MlpDW1.Facts] : Prop :=
  ∀ (m : (ℓ : Loc Cert.MlpDW1.nD Cert.MlpDW1.τ Cert.MlpDW1.sig) → Buf (Elt Bits) ℓ) (g : Dev Cert.MlpDW1.nD → PrngReg), Pre_MlpDW1 m →
    θ_run (Cert.MlpDW1.defs (F := Bits)) (onTc (τ := Cert.MlpDW1.τ) (Cert.MlpDW1.main (F := Bits))) ⟨m, fun _ => 0, g⟩ (fun r => (∀ c : Dev Cert.MlpDW1.nD,
      r.2.mem ((c.tc : Thread Cert.MlpDW1.nD Cert.MlpDW1.τ).loc Cert.MlpDW1.main_arg0) = m ((c.tc : Thread Cert.MlpDW1.nD Cert.MlpDW1.τ).loc Cert.MlpDW1.main_arg0)
      ∧ r.2.mem ((c.tc : Thread Cert.MlpDW1.nD Cert.MlpDW1.τ).loc Cert.MlpDW1.main_arg1) = m ((c.tc : Thread Cert.MlpDW1.nD Cert.MlpDW1.τ).loc Cert.MlpDW1.main_arg1)
      ∧ r.2.mem ((c.tc : Thread Cert.MlpDW1.nD Cert.MlpDW1.τ).loc Cert.MlpDW1.main_arg2) = m ((c.tc : Thread Cert.MlpDW1.nD Cert.MlpDW1.τ).loc Cert.MlpDW1.main_arg2))
      ∧ r.2.sem = fun _ => 0)

def quiescent_MlpDW1Ideal [hMlpDW1Ideal : Cert.MlpDW1Ideal.Facts] : Prop :=
  ∀ (m : (ℓ : Loc Cert.MlpDW1Ideal.nD Cert.MlpDW1Ideal.τ Cert.MlpDW1Ideal.sig) → Buf (Elt Ideal) ℓ) (g : Dev Cert.MlpDW1Ideal.nD → PrngReg), Pre_MlpDW1Ideal m →
    θ_run (Cert.MlpDW1Ideal.defs (F := Ideal)) (onTc (τ := Cert.MlpDW1Ideal.τ) (Cert.MlpDW1Ideal.main (F := Ideal))) ⟨m, fun _ => 0, g⟩ (fun r => (∀ c : Dev Cert.MlpDW1Ideal.nD,
      r.2.mem ((c.tc : Thread Cert.MlpDW1Ideal.nD Cert.MlpDW1Ideal.τ).loc Cert.MlpDW1Ideal.main_arg0) = m ((c.tc : Thread Cert.MlpDW1Ideal.nD Cert.MlpDW1Ideal.τ).loc Cert.MlpDW1Ideal.main_arg0)
      ∧ r.2.mem ((c.tc : Thread Cert.MlpDW1Ideal.nD Cert.MlpDW1Ideal.τ).loc Cert.MlpDW1Ideal.main_arg1) = m ((c.tc : Thread Cert.MlpDW1Ideal.nD Cert.MlpDW1Ideal.τ).loc Cert.MlpDW1Ideal.main_arg1)
      ∧ r.2.mem ((c.tc : Thread Cert.MlpDW1Ideal.nD Cert.MlpDW1Ideal.τ).loc Cert.MlpDW1Ideal.main_arg2) = m ((c.tc : Thread Cert.MlpDW1Ideal.nD Cert.MlpDW1Ideal.τ).loc Cert.MlpDW1Ideal.main_arg2))
      ∧ r.2.sem = fun _ => 0)

def quiescent_MlpDW1RefIdeal [hMlpDW1RefIdeal : Cert.MlpDW1RefIdeal.Facts] : Prop :=
  ∀ (m : (ℓ : Loc Cert.MlpDW1RefIdeal.nD Cert.MlpDW1RefIdeal.τ Cert.MlpDW1RefIdeal.sig) → Buf (Elt Ideal) ℓ) (g : Dev Cert.MlpDW1RefIdeal.nD → PrngReg), Pre_MlpDW1RefIdeal m →
    θ_run (Cert.MlpDW1RefIdeal.defs (F := Ideal)) (onTc (τ := Cert.MlpDW1RefIdeal.τ) (Cert.MlpDW1RefIdeal.main (F := Ideal))) ⟨m, fun _ => 0, g⟩ (fun r => (∀ c : Dev Cert.MlpDW1RefIdeal.nD,
      r.2.mem ((c.tc : Thread Cert.MlpDW1RefIdeal.nD Cert.MlpDW1RefIdeal.τ).loc Cert.MlpDW1RefIdeal.main_arg0) = m ((c.tc : Thread Cert.MlpDW1RefIdeal.nD Cert.MlpDW1RefIdeal.τ).loc Cert.MlpDW1RefIdeal.main_arg0)
      ∧ r.2.mem ((c.tc : Thread Cert.MlpDW1RefIdeal.nD Cert.MlpDW1RefIdeal.τ).loc Cert.MlpDW1RefIdeal.main_arg1) = m ((c.tc : Thread Cert.MlpDW1RefIdeal.nD Cert.MlpDW1RefIdeal.τ).loc Cert.MlpDW1RefIdeal.main_arg1)
      ∧ r.2.mem ((c.tc : Thread Cert.MlpDW1RefIdeal.nD Cert.MlpDW1RefIdeal.τ).loc Cert.MlpDW1RefIdeal.main_arg2) = m ((c.tc : Thread Cert.MlpDW1RefIdeal.nD Cert.MlpDW1RefIdeal.τ).loc Cert.MlpDW1RefIdeal.main_arg2))
      ∧ r.2.sem = fun _ => 0)

def quiescent_S5DGlu [hS5DGlu : Cert.S5DGlu.Facts] : Prop :=
  ∀ (m : (ℓ : Loc Cert.S5DGlu.nD Cert.S5DGlu.τ Cert.S5DGlu.sig) → Buf (Elt Bits) ℓ) (g : Dev Cert.S5DGlu.nD → PrngReg), Pre_S5DGlu m →
    θ_run (Cert.S5DGlu.defs (F := Bits)) (onTc (τ := Cert.S5DGlu.τ) (Cert.S5DGlu.main (F := Bits))) ⟨m, fun _ => 0, g⟩ (fun r => (∀ c : Dev Cert.S5DGlu.nD,
      r.2.mem ((c.tc : Thread Cert.S5DGlu.nD Cert.S5DGlu.τ).loc Cert.S5DGlu.main_arg0) = m ((c.tc : Thread Cert.S5DGlu.nD Cert.S5DGlu.τ).loc Cert.S5DGlu.main_arg0)
      ∧ r.2.mem ((c.tc : Thread Cert.S5DGlu.nD Cert.S5DGlu.τ).loc Cert.S5DGlu.main_arg1) = m ((c.tc : Thread Cert.S5DGlu.nD Cert.S5DGlu.τ).loc Cert.S5DGlu.main_arg1)
      ∧ r.2.mem ((c.tc : Thread Cert.S5DGlu.nD Cert.S5DGlu.τ).loc Cert.S5DGlu.main_arg2) = m ((c.tc : Thread Cert.S5DGlu.nD Cert.S5DGlu.τ).loc Cert.S5DGlu.main_arg2))
      ∧ r.2.sem = fun _ => 0)

def quiescent_S5DGluIdeal [hS5DGluIdeal : Cert.S5DGluIdeal.Facts] : Prop :=
  ∀ (m : (ℓ : Loc Cert.S5DGluIdeal.nD Cert.S5DGluIdeal.τ Cert.S5DGluIdeal.sig) → Buf (Elt Ideal) ℓ) (g : Dev Cert.S5DGluIdeal.nD → PrngReg), Pre_S5DGluIdeal m →
    θ_run (Cert.S5DGluIdeal.defs (F := Ideal)) (onTc (τ := Cert.S5DGluIdeal.τ) (Cert.S5DGluIdeal.main (F := Ideal))) ⟨m, fun _ => 0, g⟩ (fun r => (∀ c : Dev Cert.S5DGluIdeal.nD,
      r.2.mem ((c.tc : Thread Cert.S5DGluIdeal.nD Cert.S5DGluIdeal.τ).loc Cert.S5DGluIdeal.main_arg0) = m ((c.tc : Thread Cert.S5DGluIdeal.nD Cert.S5DGluIdeal.τ).loc Cert.S5DGluIdeal.main_arg0)
      ∧ r.2.mem ((c.tc : Thread Cert.S5DGluIdeal.nD Cert.S5DGluIdeal.τ).loc Cert.S5DGluIdeal.main_arg1) = m ((c.tc : Thread Cert.S5DGluIdeal.nD Cert.S5DGluIdeal.τ).loc Cert.S5DGluIdeal.main_arg1)
      ∧ r.2.mem ((c.tc : Thread Cert.S5DGluIdeal.nD Cert.S5DGluIdeal.τ).loc Cert.S5DGluIdeal.main_arg2) = m ((c.tc : Thread Cert.S5DGluIdeal.nD Cert.S5DGluIdeal.τ).loc Cert.S5DGluIdeal.main_arg2))
      ∧ r.2.sem = fun _ => 0)

def quiescent_S5DGluRefIdeal [hS5DGluRefIdeal : Cert.S5DGluRefIdeal.Facts] : Prop :=
  ∀ (m : (ℓ : Loc Cert.S5DGluRefIdeal.nD Cert.S5DGluRefIdeal.τ Cert.S5DGluRefIdeal.sig) → Buf (Elt Ideal) ℓ) (g : Dev Cert.S5DGluRefIdeal.nD → PrngReg), Pre_S5DGluRefIdeal m →
    θ_run (Cert.S5DGluRefIdeal.defs (F := Ideal)) (onTc (τ := Cert.S5DGluRefIdeal.τ) (Cert.S5DGluRefIdeal.main (F := Ideal))) ⟨m, fun _ => 0, g⟩ (fun r => (∀ c : Dev Cert.S5DGluRefIdeal.nD,
      r.2.mem ((c.tc : Thread Cert.S5DGluRefIdeal.nD Cert.S5DGluRefIdeal.τ).loc Cert.S5DGluRefIdeal.main_arg0) = m ((c.tc : Thread Cert.S5DGluRefIdeal.nD Cert.S5DGluRefIdeal.τ).loc Cert.S5DGluRefIdeal.main_arg0)
      ∧ r.2.mem ((c.tc : Thread Cert.S5DGluRefIdeal.nD Cert.S5DGluRefIdeal.τ).loc Cert.S5DGluRefIdeal.main_arg1) = m ((c.tc : Thread Cert.S5DGluRefIdeal.nD Cert.S5DGluRefIdeal.τ).loc Cert.S5DGluRefIdeal.main_arg1)
      ∧ r.2.mem ((c.tc : Thread Cert.S5DGluRefIdeal.nD Cert.S5DGluRefIdeal.τ).loc Cert.S5DGluRefIdeal.main_arg2) = m ((c.tc : Thread Cert.S5DGluRefIdeal.nD Cert.S5DGluRefIdeal.τ).loc Cert.S5DGluRefIdeal.main_arg2))
      ∧ r.2.sem = fun _ => 0)

def quiescent_S5DWGlu [hS5DWGlu : Cert.S5DWGlu.Facts] : Prop :=
  ∀ (m : (ℓ : Loc Cert.S5DWGlu.nD Cert.S5DWGlu.τ Cert.S5DWGlu.sig) → Buf (Elt Bits) ℓ) (g : Dev Cert.S5DWGlu.nD → PrngReg), Pre_S5DWGlu m →
    θ_run (Cert.S5DWGlu.defs (F := Bits)) (onTc (τ := Cert.S5DWGlu.τ) (Cert.S5DWGlu.main (F := Bits))) ⟨m, fun _ => 0, g⟩ (fun r => (∀ c : Dev Cert.S5DWGlu.nD,
      r.2.mem ((c.tc : Thread Cert.S5DWGlu.nD Cert.S5DWGlu.τ).loc Cert.S5DWGlu.main_arg0) = m ((c.tc : Thread Cert.S5DWGlu.nD Cert.S5DWGlu.τ).loc Cert.S5DWGlu.main_arg0)
      ∧ r.2.mem ((c.tc : Thread Cert.S5DWGlu.nD Cert.S5DWGlu.τ).loc Cert.S5DWGlu.main_arg1) = m ((c.tc : Thread Cert.S5DWGlu.nD Cert.S5DWGlu.τ).loc Cert.S5DWGlu.main_arg1)
      ∧ r.2.mem ((c.tc : Thread Cert.S5DWGlu.nD Cert.S5DWGlu.τ).loc Cert.S5DWGlu.main_arg2) = m ((c.tc : Thread Cert.S5DWGlu.nD Cert.S5DWGlu.τ).loc Cert.S5DWGlu.main_arg2))
      ∧ r.2.sem = fun _ => 0)

def quiescent_S5DWGluIdeal [hS5DWGluIdeal : Cert.S5DWGluIdeal.Facts] : Prop :=
  ∀ (m : (ℓ : Loc Cert.S5DWGluIdeal.nD Cert.S5DWGluIdeal.τ Cert.S5DWGluIdeal.sig) → Buf (Elt Ideal) ℓ) (g : Dev Cert.S5DWGluIdeal.nD → PrngReg), Pre_S5DWGluIdeal m →
    θ_run (Cert.S5DWGluIdeal.defs (F := Ideal)) (onTc (τ := Cert.S5DWGluIdeal.τ) (Cert.S5DWGluIdeal.main (F := Ideal))) ⟨m, fun _ => 0, g⟩ (fun r => (∀ c : Dev Cert.S5DWGluIdeal.nD,
      r.2.mem ((c.tc : Thread Cert.S5DWGluIdeal.nD Cert.S5DWGluIdeal.τ).loc Cert.S5DWGluIdeal.main_arg0) = m ((c.tc : Thread Cert.S5DWGluIdeal.nD Cert.S5DWGluIdeal.τ).loc Cert.S5DWGluIdeal.main_arg0)
      ∧ r.2.mem ((c.tc : Thread Cert.S5DWGluIdeal.nD Cert.S5DWGluIdeal.τ).loc Cert.S5DWGluIdeal.main_arg1) = m ((c.tc : Thread Cert.S5DWGluIdeal.nD Cert.S5DWGluIdeal.τ).loc Cert.S5DWGluIdeal.main_arg1)
      ∧ r.2.mem ((c.tc : Thread Cert.S5DWGluIdeal.nD Cert.S5DWGluIdeal.τ).loc Cert.S5DWGluIdeal.main_arg2) = m ((c.tc : Thread Cert.S5DWGluIdeal.nD Cert.S5DWGluIdeal.τ).loc Cert.S5DWGluIdeal.main_arg2))
      ∧ r.2.sem = fun _ => 0)

def quiescent_S5DWGluRefIdeal [hS5DWGluRefIdeal : Cert.S5DWGluRefIdeal.Facts] : Prop :=
  ∀ (m : (ℓ : Loc Cert.S5DWGluRefIdeal.nD Cert.S5DWGluRefIdeal.τ Cert.S5DWGluRefIdeal.sig) → Buf (Elt Ideal) ℓ) (g : Dev Cert.S5DWGluRefIdeal.nD → PrngReg), Pre_S5DWGluRefIdeal m →
    θ_run (Cert.S5DWGluRefIdeal.defs (F := Ideal)) (onTc (τ := Cert.S5DWGluRefIdeal.τ) (Cert.S5DWGluRefIdeal.main (F := Ideal))) ⟨m, fun _ => 0, g⟩ (fun r => (∀ c : Dev Cert.S5DWGluRefIdeal.nD,
      r.2.mem ((c.tc : Thread Cert.S5DWGluRefIdeal.nD Cert.S5DWGluRefIdeal.τ).loc Cert.S5DWGluRefIdeal.main_arg0) = m ((c.tc : Thread Cert.S5DWGluRefIdeal.nD Cert.S5DWGluRefIdeal.τ).loc Cert.S5DWGluRefIdeal.main_arg0)
      ∧ r.2.mem ((c.tc : Thread Cert.S5DWGluRefIdeal.nD Cert.S5DWGluRefIdeal.τ).loc Cert.S5DWGluRefIdeal.main_arg1) = m ((c.tc : Thread Cert.S5DWGluRefIdeal.nD Cert.S5DWGluRefIdeal.τ).loc Cert.S5DWGluRefIdeal.main_arg1)
      ∧ r.2.mem ((c.tc : Thread Cert.S5DWGluRefIdeal.nD Cert.S5DWGluRefIdeal.τ).loc Cert.S5DWGluRefIdeal.main_arg2) = m ((c.tc : Thread Cert.S5DWGluRefIdeal.nD Cert.S5DWGluRefIdeal.τ).loc Cert.S5DWGluRefIdeal.main_arg2))
      ∧ r.2.sem = fun _ => 0)

def quiescent_S5DIn [hS5DIn : Cert.S5DIn.Facts] : Prop :=
  ∀ (m : (ℓ : Loc Cert.S5DIn.nD Cert.S5DIn.τ Cert.S5DIn.sig) → Buf (Elt Bits) ℓ) (g : Dev Cert.S5DIn.nD → PrngReg), Pre_S5DIn m →
    θ_run (Cert.S5DIn.defs (F := Bits)) (onTc (τ := Cert.S5DIn.τ) (Cert.S5DIn.main (F := Bits))) ⟨m, fun _ => 0, g⟩ (fun r => (∀ c : Dev Cert.S5DIn.nD,
      r.2.mem ((c.tc : Thread Cert.S5DIn.nD Cert.S5DIn.τ).loc Cert.S5DIn.main_arg0) = m ((c.tc : Thread Cert.S5DIn.nD Cert.S5DIn.τ).loc Cert.S5DIn.main_arg0)
      ∧ r.2.mem ((c.tc : Thread Cert.S5DIn.nD Cert.S5DIn.τ).loc Cert.S5DIn.main_arg1) = m ((c.tc : Thread Cert.S5DIn.nD Cert.S5DIn.τ).loc Cert.S5DIn.main_arg1)
      ∧ r.2.mem ((c.tc : Thread Cert.S5DIn.nD Cert.S5DIn.τ).loc Cert.S5DIn.main_arg2) = m ((c.tc : Thread Cert.S5DIn.nD Cert.S5DIn.τ).loc Cert.S5DIn.main_arg2))
      ∧ r.2.sem = fun _ => 0)

def quiescent_S5DInIdeal [hS5DInIdeal : Cert.S5DInIdeal.Facts] : Prop :=
  ∀ (m : (ℓ : Loc Cert.S5DInIdeal.nD Cert.S5DInIdeal.τ Cert.S5DInIdeal.sig) → Buf (Elt Ideal) ℓ) (g : Dev Cert.S5DInIdeal.nD → PrngReg), Pre_S5DInIdeal m →
    θ_run (Cert.S5DInIdeal.defs (F := Ideal)) (onTc (τ := Cert.S5DInIdeal.τ) (Cert.S5DInIdeal.main (F := Ideal))) ⟨m, fun _ => 0, g⟩ (fun r => (∀ c : Dev Cert.S5DInIdeal.nD,
      r.2.mem ((c.tc : Thread Cert.S5DInIdeal.nD Cert.S5DInIdeal.τ).loc Cert.S5DInIdeal.main_arg0) = m ((c.tc : Thread Cert.S5DInIdeal.nD Cert.S5DInIdeal.τ).loc Cert.S5DInIdeal.main_arg0)
      ∧ r.2.mem ((c.tc : Thread Cert.S5DInIdeal.nD Cert.S5DInIdeal.τ).loc Cert.S5DInIdeal.main_arg1) = m ((c.tc : Thread Cert.S5DInIdeal.nD Cert.S5DInIdeal.τ).loc Cert.S5DInIdeal.main_arg1)
      ∧ r.2.mem ((c.tc : Thread Cert.S5DInIdeal.nD Cert.S5DInIdeal.τ).loc Cert.S5DInIdeal.main_arg2) = m ((c.tc : Thread Cert.S5DInIdeal.nD Cert.S5DInIdeal.τ).loc Cert.S5DInIdeal.main_arg2))
      ∧ r.2.sem = fun _ => 0)

def quiescent_S5DInRefIdeal [hS5DInRefIdeal : Cert.S5DInRefIdeal.Facts] : Prop :=
  ∀ (m : (ℓ : Loc Cert.S5DInRefIdeal.nD Cert.S5DInRefIdeal.τ Cert.S5DInRefIdeal.sig) → Buf (Elt Ideal) ℓ) (g : Dev Cert.S5DInRefIdeal.nD → PrngReg), Pre_S5DInRefIdeal m →
    θ_run (Cert.S5DInRefIdeal.defs (F := Ideal)) (onTc (τ := Cert.S5DInRefIdeal.τ) (Cert.S5DInRefIdeal.main (F := Ideal))) ⟨m, fun _ => 0, g⟩ (fun r => (∀ c : Dev Cert.S5DInRefIdeal.nD,
      r.2.mem ((c.tc : Thread Cert.S5DInRefIdeal.nD Cert.S5DInRefIdeal.τ).loc Cert.S5DInRefIdeal.main_arg0) = m ((c.tc : Thread Cert.S5DInRefIdeal.nD Cert.S5DInRefIdeal.τ).loc Cert.S5DInRefIdeal.main_arg0)
      ∧ r.2.mem ((c.tc : Thread Cert.S5DInRefIdeal.nD Cert.S5DInRefIdeal.τ).loc Cert.S5DInRefIdeal.main_arg1) = m ((c.tc : Thread Cert.S5DInRefIdeal.nD Cert.S5DInRefIdeal.τ).loc Cert.S5DInRefIdeal.main_arg1)
      ∧ r.2.mem ((c.tc : Thread Cert.S5DInRefIdeal.nD Cert.S5DInRefIdeal.τ).loc Cert.S5DInRefIdeal.main_arg2) = m ((c.tc : Thread Cert.S5DInRefIdeal.nD Cert.S5DInRefIdeal.τ).loc Cert.S5DInRefIdeal.main_arg2))
      ∧ r.2.sem = fun _ => 0)

def quiescent_S5DWIn [hS5DWIn : Cert.S5DWIn.Facts] : Prop :=
  ∀ (m : (ℓ : Loc Cert.S5DWIn.nD Cert.S5DWIn.τ Cert.S5DWIn.sig) → Buf (Elt Bits) ℓ) (g : Dev Cert.S5DWIn.nD → PrngReg), Pre_S5DWIn m →
    θ_run (Cert.S5DWIn.defs (F := Bits)) (onTc (τ := Cert.S5DWIn.τ) (Cert.S5DWIn.main (F := Bits))) ⟨m, fun _ => 0, g⟩ (fun r => (∀ c : Dev Cert.S5DWIn.nD,
      r.2.mem ((c.tc : Thread Cert.S5DWIn.nD Cert.S5DWIn.τ).loc Cert.S5DWIn.main_arg0) = m ((c.tc : Thread Cert.S5DWIn.nD Cert.S5DWIn.τ).loc Cert.S5DWIn.main_arg0)
      ∧ r.2.mem ((c.tc : Thread Cert.S5DWIn.nD Cert.S5DWIn.τ).loc Cert.S5DWIn.main_arg1) = m ((c.tc : Thread Cert.S5DWIn.nD Cert.S5DWIn.τ).loc Cert.S5DWIn.main_arg1)
      ∧ r.2.mem ((c.tc : Thread Cert.S5DWIn.nD Cert.S5DWIn.τ).loc Cert.S5DWIn.main_arg2) = m ((c.tc : Thread Cert.S5DWIn.nD Cert.S5DWIn.τ).loc Cert.S5DWIn.main_arg2))
      ∧ r.2.sem = fun _ => 0)

def quiescent_S5DWInIdeal [hS5DWInIdeal : Cert.S5DWInIdeal.Facts] : Prop :=
  ∀ (m : (ℓ : Loc Cert.S5DWInIdeal.nD Cert.S5DWInIdeal.τ Cert.S5DWInIdeal.sig) → Buf (Elt Ideal) ℓ) (g : Dev Cert.S5DWInIdeal.nD → PrngReg), Pre_S5DWInIdeal m →
    θ_run (Cert.S5DWInIdeal.defs (F := Ideal)) (onTc (τ := Cert.S5DWInIdeal.τ) (Cert.S5DWInIdeal.main (F := Ideal))) ⟨m, fun _ => 0, g⟩ (fun r => (∀ c : Dev Cert.S5DWInIdeal.nD,
      r.2.mem ((c.tc : Thread Cert.S5DWInIdeal.nD Cert.S5DWInIdeal.τ).loc Cert.S5DWInIdeal.main_arg0) = m ((c.tc : Thread Cert.S5DWInIdeal.nD Cert.S5DWInIdeal.τ).loc Cert.S5DWInIdeal.main_arg0)
      ∧ r.2.mem ((c.tc : Thread Cert.S5DWInIdeal.nD Cert.S5DWInIdeal.τ).loc Cert.S5DWInIdeal.main_arg1) = m ((c.tc : Thread Cert.S5DWInIdeal.nD Cert.S5DWInIdeal.τ).loc Cert.S5DWInIdeal.main_arg1)
      ∧ r.2.mem ((c.tc : Thread Cert.S5DWInIdeal.nD Cert.S5DWInIdeal.τ).loc Cert.S5DWInIdeal.main_arg2) = m ((c.tc : Thread Cert.S5DWInIdeal.nD Cert.S5DWInIdeal.τ).loc Cert.S5DWInIdeal.main_arg2))
      ∧ r.2.sem = fun _ => 0)

def quiescent_S5DWInRefIdeal [hS5DWInRefIdeal : Cert.S5DWInRefIdeal.Facts] : Prop :=
  ∀ (m : (ℓ : Loc Cert.S5DWInRefIdeal.nD Cert.S5DWInRefIdeal.τ Cert.S5DWInRefIdeal.sig) → Buf (Elt Ideal) ℓ) (g : Dev Cert.S5DWInRefIdeal.nD → PrngReg), Pre_S5DWInRefIdeal m →
    θ_run (Cert.S5DWInRefIdeal.defs (F := Ideal)) (onTc (τ := Cert.S5DWInRefIdeal.τ) (Cert.S5DWInRefIdeal.main (F := Ideal))) ⟨m, fun _ => 0, g⟩ (fun r => (∀ c : Dev Cert.S5DWInRefIdeal.nD,
      r.2.mem ((c.tc : Thread Cert.S5DWInRefIdeal.nD Cert.S5DWInRefIdeal.τ).loc Cert.S5DWInRefIdeal.main_arg0) = m ((c.tc : Thread Cert.S5DWInRefIdeal.nD Cert.S5DWInRefIdeal.τ).loc Cert.S5DWInRefIdeal.main_arg0)
      ∧ r.2.mem ((c.tc : Thread Cert.S5DWInRefIdeal.nD Cert.S5DWInRefIdeal.τ).loc Cert.S5DWInRefIdeal.main_arg1) = m ((c.tc : Thread Cert.S5DWInRefIdeal.nD Cert.S5DWInRefIdeal.τ).loc Cert.S5DWInRefIdeal.main_arg1)
      ∧ r.2.mem ((c.tc : Thread Cert.S5DWInRefIdeal.nD Cert.S5DWInRefIdeal.τ).loc Cert.S5DWInRefIdeal.main_arg2) = m ((c.tc : Thread Cert.S5DWInRefIdeal.nD Cert.S5DWInRefIdeal.τ).loc Cert.S5DWInRefIdeal.main_arg2))
      ∧ r.2.sem = fun _ => 0)

def quiescent_SsdDOut [hSsdDOut : Cert.SsdDOut.Facts] : Prop :=
  ∀ (m : (ℓ : Loc Cert.SsdDOut.nD Cert.SsdDOut.τ Cert.SsdDOut.sig) → Buf (Elt Bits) ℓ) (g : Dev Cert.SsdDOut.nD → PrngReg), Pre_SsdDOut m →
    θ_run (Cert.SsdDOut.defs (F := Bits)) (onTc (τ := Cert.SsdDOut.τ) (Cert.SsdDOut.main (F := Bits))) ⟨m, fun _ => 0, g⟩ (fun r => (∀ c : Dev Cert.SsdDOut.nD,
      r.2.mem ((c.tc : Thread Cert.SsdDOut.nD Cert.SsdDOut.τ).loc Cert.SsdDOut.main_arg0) = m ((c.tc : Thread Cert.SsdDOut.nD Cert.SsdDOut.τ).loc Cert.SsdDOut.main_arg0)
      ∧ r.2.mem ((c.tc : Thread Cert.SsdDOut.nD Cert.SsdDOut.τ).loc Cert.SsdDOut.main_arg1) = m ((c.tc : Thread Cert.SsdDOut.nD Cert.SsdDOut.τ).loc Cert.SsdDOut.main_arg1)
      ∧ r.2.mem ((c.tc : Thread Cert.SsdDOut.nD Cert.SsdDOut.τ).loc Cert.SsdDOut.main_arg2) = m ((c.tc : Thread Cert.SsdDOut.nD Cert.SsdDOut.τ).loc Cert.SsdDOut.main_arg2)
      ∧ r.2.mem ((c.tc : Thread Cert.SsdDOut.nD Cert.SsdDOut.τ).loc Cert.SsdDOut.main_arg3) = m ((c.tc : Thread Cert.SsdDOut.nD Cert.SsdDOut.τ).loc Cert.SsdDOut.main_arg3))
      ∧ r.2.sem = fun _ => 0)

def quiescent_SsdDOutIdeal [hSsdDOutIdeal : Cert.SsdDOutIdeal.Facts] : Prop :=
  ∀ (m : (ℓ : Loc Cert.SsdDOutIdeal.nD Cert.SsdDOutIdeal.τ Cert.SsdDOutIdeal.sig) → Buf (Elt Ideal) ℓ) (g : Dev Cert.SsdDOutIdeal.nD → PrngReg), Pre_SsdDOutIdeal m →
    θ_run (Cert.SsdDOutIdeal.defs (F := Ideal)) (onTc (τ := Cert.SsdDOutIdeal.τ) (Cert.SsdDOutIdeal.main (F := Ideal))) ⟨m, fun _ => 0, g⟩ (fun r => (∀ c : Dev Cert.SsdDOutIdeal.nD,
      r.2.mem ((c.tc : Thread Cert.SsdDOutIdeal.nD Cert.SsdDOutIdeal.τ).loc Cert.SsdDOutIdeal.main_arg0) = m ((c.tc : Thread Cert.SsdDOutIdeal.nD Cert.SsdDOutIdeal.τ).loc Cert.SsdDOutIdeal.main_arg0)
      ∧ r.2.mem ((c.tc : Thread Cert.SsdDOutIdeal.nD Cert.SsdDOutIdeal.τ).loc Cert.SsdDOutIdeal.main_arg1) = m ((c.tc : Thread Cert.SsdDOutIdeal.nD Cert.SsdDOutIdeal.τ).loc Cert.SsdDOutIdeal.main_arg1)
      ∧ r.2.mem ((c.tc : Thread Cert.SsdDOutIdeal.nD Cert.SsdDOutIdeal.τ).loc Cert.SsdDOutIdeal.main_arg2) = m ((c.tc : Thread Cert.SsdDOutIdeal.nD Cert.SsdDOutIdeal.τ).loc Cert.SsdDOutIdeal.main_arg2)
      ∧ r.2.mem ((c.tc : Thread Cert.SsdDOutIdeal.nD Cert.SsdDOutIdeal.τ).loc Cert.SsdDOutIdeal.main_arg3) = m ((c.tc : Thread Cert.SsdDOutIdeal.nD Cert.SsdDOutIdeal.τ).loc Cert.SsdDOutIdeal.main_arg3))
      ∧ r.2.sem = fun _ => 0)

def quiescent_SsdDOutRefIdeal [hSsdDOutRefIdeal : Cert.SsdDOutRefIdeal.Facts] : Prop :=
  ∀ (m : (ℓ : Loc Cert.SsdDOutRefIdeal.nD Cert.SsdDOutRefIdeal.τ Cert.SsdDOutRefIdeal.sig) → Buf (Elt Ideal) ℓ) (g : Dev Cert.SsdDOutRefIdeal.nD → PrngReg), Pre_SsdDOutRefIdeal m →
    θ_run (Cert.SsdDOutRefIdeal.defs (F := Ideal)) (onTc (τ := Cert.SsdDOutRefIdeal.τ) (Cert.SsdDOutRefIdeal.main (F := Ideal))) ⟨m, fun _ => 0, g⟩ (fun r => (∀ c : Dev Cert.SsdDOutRefIdeal.nD,
      r.2.mem ((c.tc : Thread Cert.SsdDOutRefIdeal.nD Cert.SsdDOutRefIdeal.τ).loc Cert.SsdDOutRefIdeal.main_arg0) = m ((c.tc : Thread Cert.SsdDOutRefIdeal.nD Cert.SsdDOutRefIdeal.τ).loc Cert.SsdDOutRefIdeal.main_arg0)
      ∧ r.2.mem ((c.tc : Thread Cert.SsdDOutRefIdeal.nD Cert.SsdDOutRefIdeal.τ).loc Cert.SsdDOutRefIdeal.main_arg1) = m ((c.tc : Thread Cert.SsdDOutRefIdeal.nD Cert.SsdDOutRefIdeal.τ).loc Cert.SsdDOutRefIdeal.main_arg1)
      ∧ r.2.mem ((c.tc : Thread Cert.SsdDOutRefIdeal.nD Cert.SsdDOutRefIdeal.τ).loc Cert.SsdDOutRefIdeal.main_arg2) = m ((c.tc : Thread Cert.SsdDOutRefIdeal.nD Cert.SsdDOutRefIdeal.τ).loc Cert.SsdDOutRefIdeal.main_arg2)
      ∧ r.2.mem ((c.tc : Thread Cert.SsdDOutRefIdeal.nD Cert.SsdDOutRefIdeal.τ).loc Cert.SsdDOutRefIdeal.main_arg3) = m ((c.tc : Thread Cert.SsdDOutRefIdeal.nD Cert.SsdDOutRefIdeal.τ).loc Cert.SsdDOutRefIdeal.main_arg3))
      ∧ r.2.sem = fun _ => 0)

def quiescent_SsdDWOut [hSsdDWOut : Cert.SsdDWOut.Facts] : Prop :=
  ∀ (m : (ℓ : Loc Cert.SsdDWOut.nD Cert.SsdDWOut.τ Cert.SsdDWOut.sig) → Buf (Elt Bits) ℓ) (g : Dev Cert.SsdDWOut.nD → PrngReg), Pre_SsdDWOut m →
    θ_run (Cert.SsdDWOut.defs (F := Bits)) (onTc (τ := Cert.SsdDWOut.τ) (Cert.SsdDWOut.main (F := Bits))) ⟨m, fun _ => 0, g⟩ (fun r => (∀ c : Dev Cert.SsdDWOut.nD,
      r.2.mem ((c.tc : Thread Cert.SsdDWOut.nD Cert.SsdDWOut.τ).loc Cert.SsdDWOut.main_arg0) = m ((c.tc : Thread Cert.SsdDWOut.nD Cert.SsdDWOut.τ).loc Cert.SsdDWOut.main_arg0)
      ∧ r.2.mem ((c.tc : Thread Cert.SsdDWOut.nD Cert.SsdDWOut.τ).loc Cert.SsdDWOut.main_arg1) = m ((c.tc : Thread Cert.SsdDWOut.nD Cert.SsdDWOut.τ).loc Cert.SsdDWOut.main_arg1)
      ∧ r.2.mem ((c.tc : Thread Cert.SsdDWOut.nD Cert.SsdDWOut.τ).loc Cert.SsdDWOut.main_arg2) = m ((c.tc : Thread Cert.SsdDWOut.nD Cert.SsdDWOut.τ).loc Cert.SsdDWOut.main_arg2)
      ∧ r.2.mem ((c.tc : Thread Cert.SsdDWOut.nD Cert.SsdDWOut.τ).loc Cert.SsdDWOut.main_arg3) = m ((c.tc : Thread Cert.SsdDWOut.nD Cert.SsdDWOut.τ).loc Cert.SsdDWOut.main_arg3))
      ∧ r.2.sem = fun _ => 0)

def quiescent_SsdDWOutIdeal [hSsdDWOutIdeal : Cert.SsdDWOutIdeal.Facts] : Prop :=
  ∀ (m : (ℓ : Loc Cert.SsdDWOutIdeal.nD Cert.SsdDWOutIdeal.τ Cert.SsdDWOutIdeal.sig) → Buf (Elt Ideal) ℓ) (g : Dev Cert.SsdDWOutIdeal.nD → PrngReg), Pre_SsdDWOutIdeal m →
    θ_run (Cert.SsdDWOutIdeal.defs (F := Ideal)) (onTc (τ := Cert.SsdDWOutIdeal.τ) (Cert.SsdDWOutIdeal.main (F := Ideal))) ⟨m, fun _ => 0, g⟩ (fun r => (∀ c : Dev Cert.SsdDWOutIdeal.nD,
      r.2.mem ((c.tc : Thread Cert.SsdDWOutIdeal.nD Cert.SsdDWOutIdeal.τ).loc Cert.SsdDWOutIdeal.main_arg0) = m ((c.tc : Thread Cert.SsdDWOutIdeal.nD Cert.SsdDWOutIdeal.τ).loc Cert.SsdDWOutIdeal.main_arg0)
      ∧ r.2.mem ((c.tc : Thread Cert.SsdDWOutIdeal.nD Cert.SsdDWOutIdeal.τ).loc Cert.SsdDWOutIdeal.main_arg1) = m ((c.tc : Thread Cert.SsdDWOutIdeal.nD Cert.SsdDWOutIdeal.τ).loc Cert.SsdDWOutIdeal.main_arg1)
      ∧ r.2.mem ((c.tc : Thread Cert.SsdDWOutIdeal.nD Cert.SsdDWOutIdeal.τ).loc Cert.SsdDWOutIdeal.main_arg2) = m ((c.tc : Thread Cert.SsdDWOutIdeal.nD Cert.SsdDWOutIdeal.τ).loc Cert.SsdDWOutIdeal.main_arg2)
      ∧ r.2.mem ((c.tc : Thread Cert.SsdDWOutIdeal.nD Cert.SsdDWOutIdeal.τ).loc Cert.SsdDWOutIdeal.main_arg3) = m ((c.tc : Thread Cert.SsdDWOutIdeal.nD Cert.SsdDWOutIdeal.τ).loc Cert.SsdDWOutIdeal.main_arg3))
      ∧ r.2.sem = fun _ => 0)

def quiescent_SsdDWOutIdeal_pre_ssd_finite [hSsdDWOutIdeal : Cert.SsdDWOutIdeal.Facts] [hPre_ssd_finite : Cert.Pre_ssd_finite.Facts] : Prop :=
  ∀ (m : (ℓ : Loc Cert.SsdDWOutIdeal.nD Cert.SsdDWOutIdeal.τ Cert.SsdDWOutIdeal.sig) → Buf (Elt Ideal) ℓ) (g : Dev Cert.SsdDWOutIdeal.nD → PrngReg), Pre_SsdDWOutIdeal_ssd_finite m →
    θ_run (Cert.SsdDWOutIdeal.defs (F := Ideal)) (onTc (τ := Cert.SsdDWOutIdeal.τ) (Cert.SsdDWOutIdeal.main (F := Ideal))) ⟨m, fun _ => 0, g⟩ (fun r => (∀ c : Dev Cert.SsdDWOutIdeal.nD,
      r.2.mem ((c.tc : Thread Cert.SsdDWOutIdeal.nD Cert.SsdDWOutIdeal.τ).loc Cert.SsdDWOutIdeal.main_arg0) = m ((c.tc : Thread Cert.SsdDWOutIdeal.nD Cert.SsdDWOutIdeal.τ).loc Cert.SsdDWOutIdeal.main_arg0)
      ∧ r.2.mem ((c.tc : Thread Cert.SsdDWOutIdeal.nD Cert.SsdDWOutIdeal.τ).loc Cert.SsdDWOutIdeal.main_arg1) = m ((c.tc : Thread Cert.SsdDWOutIdeal.nD Cert.SsdDWOutIdeal.τ).loc Cert.SsdDWOutIdeal.main_arg1)
      ∧ r.2.mem ((c.tc : Thread Cert.SsdDWOutIdeal.nD Cert.SsdDWOutIdeal.τ).loc Cert.SsdDWOutIdeal.main_arg2) = m ((c.tc : Thread Cert.SsdDWOutIdeal.nD Cert.SsdDWOutIdeal.τ).loc Cert.SsdDWOutIdeal.main_arg2)
      ∧ r.2.mem ((c.tc : Thread Cert.SsdDWOutIdeal.nD Cert.SsdDWOutIdeal.τ).loc Cert.SsdDWOutIdeal.main_arg3) = m ((c.tc : Thread Cert.SsdDWOutIdeal.nD Cert.SsdDWOutIdeal.τ).loc Cert.SsdDWOutIdeal.main_arg3))
      ∧ r.2.sem = fun _ => 0)

def quiescent_SsdDWOutRefIdeal [hSsdDWOutRefIdeal : Cert.SsdDWOutRefIdeal.Facts] : Prop :=
  ∀ (m : (ℓ : Loc Cert.SsdDWOutRefIdeal.nD Cert.SsdDWOutRefIdeal.τ Cert.SsdDWOutRefIdeal.sig) → Buf (Elt Ideal) ℓ) (g : Dev Cert.SsdDWOutRefIdeal.nD → PrngReg), Pre_SsdDWOutRefIdeal m →
    θ_run (Cert.SsdDWOutRefIdeal.defs (F := Ideal)) (onTc (τ := Cert.SsdDWOutRefIdeal.τ) (Cert.SsdDWOutRefIdeal.main (F := Ideal))) ⟨m, fun _ => 0, g⟩ (fun r => (∀ c : Dev Cert.SsdDWOutRefIdeal.nD,
      r.2.mem ((c.tc : Thread Cert.SsdDWOutRefIdeal.nD Cert.SsdDWOutRefIdeal.τ).loc Cert.SsdDWOutRefIdeal.main_arg0) = m ((c.tc : Thread Cert.SsdDWOutRefIdeal.nD Cert.SsdDWOutRefIdeal.τ).loc Cert.SsdDWOutRefIdeal.main_arg0)
      ∧ r.2.mem ((c.tc : Thread Cert.SsdDWOutRefIdeal.nD Cert.SsdDWOutRefIdeal.τ).loc Cert.SsdDWOutRefIdeal.main_arg1) = m ((c.tc : Thread Cert.SsdDWOutRefIdeal.nD Cert.SsdDWOutRefIdeal.τ).loc Cert.SsdDWOutRefIdeal.main_arg1)
      ∧ r.2.mem ((c.tc : Thread Cert.SsdDWOutRefIdeal.nD Cert.SsdDWOutRefIdeal.τ).loc Cert.SsdDWOutRefIdeal.main_arg2) = m ((c.tc : Thread Cert.SsdDWOutRefIdeal.nD Cert.SsdDWOutRefIdeal.τ).loc Cert.SsdDWOutRefIdeal.main_arg2)
      ∧ r.2.mem ((c.tc : Thread Cert.SsdDWOutRefIdeal.nD Cert.SsdDWOutRefIdeal.τ).loc Cert.SsdDWOutRefIdeal.main_arg3) = m ((c.tc : Thread Cert.SsdDWOutRefIdeal.nD Cert.SsdDWOutRefIdeal.τ).loc Cert.SsdDWOutRefIdeal.main_arg3))
      ∧ r.2.sem = fun _ => 0)

def quiescent_SsdDWOutRefIdeal_pre_ssd_finite [hSsdDWOutRefIdeal : Cert.SsdDWOutRefIdeal.Facts] [hPre_ssd_finite : Cert.Pre_ssd_finite.Facts] : Prop :=
  ∀ (m : (ℓ : Loc Cert.SsdDWOutRefIdeal.nD Cert.SsdDWOutRefIdeal.τ Cert.SsdDWOutRefIdeal.sig) → Buf (Elt Ideal) ℓ) (g : Dev Cert.SsdDWOutRefIdeal.nD → PrngReg), Pre_SsdDWOutRefIdeal_ssd_finite m →
    θ_run (Cert.SsdDWOutRefIdeal.defs (F := Ideal)) (onTc (τ := Cert.SsdDWOutRefIdeal.τ) (Cert.SsdDWOutRefIdeal.main (F := Ideal))) ⟨m, fun _ => 0, g⟩ (fun r => (∀ c : Dev Cert.SsdDWOutRefIdeal.nD,
      r.2.mem ((c.tc : Thread Cert.SsdDWOutRefIdeal.nD Cert.SsdDWOutRefIdeal.τ).loc Cert.SsdDWOutRefIdeal.main_arg0) = m ((c.tc : Thread Cert.SsdDWOutRefIdeal.nD Cert.SsdDWOutRefIdeal.τ).loc Cert.SsdDWOutRefIdeal.main_arg0)
      ∧ r.2.mem ((c.tc : Thread Cert.SsdDWOutRefIdeal.nD Cert.SsdDWOutRefIdeal.τ).loc Cert.SsdDWOutRefIdeal.main_arg1) = m ((c.tc : Thread Cert.SsdDWOutRefIdeal.nD Cert.SsdDWOutRefIdeal.τ).loc Cert.SsdDWOutRefIdeal.main_arg1)
      ∧ r.2.mem ((c.tc : Thread Cert.SsdDWOutRefIdeal.nD Cert.SsdDWOutRefIdeal.τ).loc Cert.SsdDWOutRefIdeal.main_arg2) = m ((c.tc : Thread Cert.SsdDWOutRefIdeal.nD Cert.SsdDWOutRefIdeal.τ).loc Cert.SsdDWOutRefIdeal.main_arg2)
      ∧ r.2.mem ((c.tc : Thread Cert.SsdDWOutRefIdeal.nD Cert.SsdDWOutRefIdeal.τ).loc Cert.SsdDWOutRefIdeal.main_arg3) = m ((c.tc : Thread Cert.SsdDWOutRefIdeal.nD Cert.SsdDWOutRefIdeal.τ).loc Cert.SsdDWOutRefIdeal.main_arg3))
      ∧ r.2.sem = fun _ => 0)

def quiescent_SsdDInZ [hSsdDInZ : Cert.SsdDInZ.Facts] : Prop :=
  ∀ (m : (ℓ : Loc Cert.SsdDInZ.nD Cert.SsdDInZ.τ Cert.SsdDInZ.sig) → Buf (Elt Bits) ℓ) (g : Dev Cert.SsdDInZ.nD → PrngReg), Pre_SsdDInZ m →
    θ_run (Cert.SsdDInZ.defs (F := Bits)) (onTc (τ := Cert.SsdDInZ.τ) (Cert.SsdDInZ.main (F := Bits))) ⟨m, fun _ => 0, g⟩ (fun r => (∀ c : Dev Cert.SsdDInZ.nD,
      r.2.mem ((c.tc : Thread Cert.SsdDInZ.nD Cert.SsdDInZ.τ).loc Cert.SsdDInZ.main_arg0) = m ((c.tc : Thread Cert.SsdDInZ.nD Cert.SsdDInZ.τ).loc Cert.SsdDInZ.main_arg0)
      ∧ r.2.mem ((c.tc : Thread Cert.SsdDInZ.nD Cert.SsdDInZ.τ).loc Cert.SsdDInZ.main_arg1) = m ((c.tc : Thread Cert.SsdDInZ.nD Cert.SsdDInZ.τ).loc Cert.SsdDInZ.main_arg1)
      ∧ r.2.mem ((c.tc : Thread Cert.SsdDInZ.nD Cert.SsdDInZ.τ).loc Cert.SsdDInZ.main_arg2) = m ((c.tc : Thread Cert.SsdDInZ.nD Cert.SsdDInZ.τ).loc Cert.SsdDInZ.main_arg2))
      ∧ r.2.sem = fun _ => 0)

def quiescent_SsdDInZIdeal [hSsdDInZIdeal : Cert.SsdDInZIdeal.Facts] : Prop :=
  ∀ (m : (ℓ : Loc Cert.SsdDInZIdeal.nD Cert.SsdDInZIdeal.τ Cert.SsdDInZIdeal.sig) → Buf (Elt Ideal) ℓ) (g : Dev Cert.SsdDInZIdeal.nD → PrngReg), Pre_SsdDInZIdeal m →
    θ_run (Cert.SsdDInZIdeal.defs (F := Ideal)) (onTc (τ := Cert.SsdDInZIdeal.τ) (Cert.SsdDInZIdeal.main (F := Ideal))) ⟨m, fun _ => 0, g⟩ (fun r => (∀ c : Dev Cert.SsdDInZIdeal.nD,
      r.2.mem ((c.tc : Thread Cert.SsdDInZIdeal.nD Cert.SsdDInZIdeal.τ).loc Cert.SsdDInZIdeal.main_arg0) = m ((c.tc : Thread Cert.SsdDInZIdeal.nD Cert.SsdDInZIdeal.τ).loc Cert.SsdDInZIdeal.main_arg0)
      ∧ r.2.mem ((c.tc : Thread Cert.SsdDInZIdeal.nD Cert.SsdDInZIdeal.τ).loc Cert.SsdDInZIdeal.main_arg1) = m ((c.tc : Thread Cert.SsdDInZIdeal.nD Cert.SsdDInZIdeal.τ).loc Cert.SsdDInZIdeal.main_arg1)
      ∧ r.2.mem ((c.tc : Thread Cert.SsdDInZIdeal.nD Cert.SsdDInZIdeal.τ).loc Cert.SsdDInZIdeal.main_arg2) = m ((c.tc : Thread Cert.SsdDInZIdeal.nD Cert.SsdDInZIdeal.τ).loc Cert.SsdDInZIdeal.main_arg2))
      ∧ r.2.sem = fun _ => 0)

def quiescent_SsdDInZRefIdeal [hSsdDInZRefIdeal : Cert.SsdDInZRefIdeal.Facts] : Prop :=
  ∀ (m : (ℓ : Loc Cert.SsdDInZRefIdeal.nD Cert.SsdDInZRefIdeal.τ Cert.SsdDInZRefIdeal.sig) → Buf (Elt Ideal) ℓ) (g : Dev Cert.SsdDInZRefIdeal.nD → PrngReg), Pre_SsdDInZRefIdeal m →
    θ_run (Cert.SsdDInZRefIdeal.defs (F := Ideal)) (onTc (τ := Cert.SsdDInZRefIdeal.τ) (Cert.SsdDInZRefIdeal.main (F := Ideal))) ⟨m, fun _ => 0, g⟩ (fun r => (∀ c : Dev Cert.SsdDInZRefIdeal.nD,
      r.2.mem ((c.tc : Thread Cert.SsdDInZRefIdeal.nD Cert.SsdDInZRefIdeal.τ).loc Cert.SsdDInZRefIdeal.main_arg0) = m ((c.tc : Thread Cert.SsdDInZRefIdeal.nD Cert.SsdDInZRefIdeal.τ).loc Cert.SsdDInZRefIdeal.main_arg0)
      ∧ r.2.mem ((c.tc : Thread Cert.SsdDInZRefIdeal.nD Cert.SsdDInZRefIdeal.τ).loc Cert.SsdDInZRefIdeal.main_arg1) = m ((c.tc : Thread Cert.SsdDInZRefIdeal.nD Cert.SsdDInZRefIdeal.τ).loc Cert.SsdDInZRefIdeal.main_arg1)
      ∧ r.2.mem ((c.tc : Thread Cert.SsdDInZRefIdeal.nD Cert.SsdDInZRefIdeal.τ).loc Cert.SsdDInZRefIdeal.main_arg2) = m ((c.tc : Thread Cert.SsdDInZRefIdeal.nD Cert.SsdDInZRefIdeal.τ).loc Cert.SsdDInZRefIdeal.main_arg2))
      ∧ r.2.sem = fun _ => 0)

def quiescent_SsdDInXbc [hSsdDInXbc : Cert.SsdDInXbc.Facts] : Prop :=
  ∀ (m : (ℓ : Loc Cert.SsdDInXbc.nD Cert.SsdDInXbc.τ Cert.SsdDInXbc.sig) → Buf (Elt Bits) ℓ) (g : Dev Cert.SsdDInXbc.nD → PrngReg), Pre_SsdDInXbc m →
    θ_run (Cert.SsdDInXbc.defs (F := Bits)) (onTc (τ := Cert.SsdDInXbc.τ) (Cert.SsdDInXbc.main (F := Bits))) ⟨m, fun _ => 0, g⟩ (fun r => (∀ c : Dev Cert.SsdDInXbc.nD,
      r.2.mem ((c.tc : Thread Cert.SsdDInXbc.nD Cert.SsdDInXbc.τ).loc Cert.SsdDInXbc.main_arg0) = m ((c.tc : Thread Cert.SsdDInXbc.nD Cert.SsdDInXbc.τ).loc Cert.SsdDInXbc.main_arg0)
      ∧ r.2.mem ((c.tc : Thread Cert.SsdDInXbc.nD Cert.SsdDInXbc.τ).loc Cert.SsdDInXbc.main_arg1) = m ((c.tc : Thread Cert.SsdDInXbc.nD Cert.SsdDInXbc.τ).loc Cert.SsdDInXbc.main_arg1)
      ∧ r.2.mem ((c.tc : Thread Cert.SsdDInXbc.nD Cert.SsdDInXbc.τ).loc Cert.SsdDInXbc.main_arg2) = m ((c.tc : Thread Cert.SsdDInXbc.nD Cert.SsdDInXbc.τ).loc Cert.SsdDInXbc.main_arg2)
      ∧ r.2.mem ((c.tc : Thread Cert.SsdDInXbc.nD Cert.SsdDInXbc.τ).loc Cert.SsdDInXbc.main_arg3) = m ((c.tc : Thread Cert.SsdDInXbc.nD Cert.SsdDInXbc.τ).loc Cert.SsdDInXbc.main_arg3))
      ∧ r.2.sem = fun _ => 0)

def quiescent_SsdDInXbcIdeal [hSsdDInXbcIdeal : Cert.SsdDInXbcIdeal.Facts] : Prop :=
  ∀ (m : (ℓ : Loc Cert.SsdDInXbcIdeal.nD Cert.SsdDInXbcIdeal.τ Cert.SsdDInXbcIdeal.sig) → Buf (Elt Ideal) ℓ) (g : Dev Cert.SsdDInXbcIdeal.nD → PrngReg), Pre_SsdDInXbcIdeal m →
    θ_run (Cert.SsdDInXbcIdeal.defs (F := Ideal)) (onTc (τ := Cert.SsdDInXbcIdeal.τ) (Cert.SsdDInXbcIdeal.main (F := Ideal))) ⟨m, fun _ => 0, g⟩ (fun r => (∀ c : Dev Cert.SsdDInXbcIdeal.nD,
      r.2.mem ((c.tc : Thread Cert.SsdDInXbcIdeal.nD Cert.SsdDInXbcIdeal.τ).loc Cert.SsdDInXbcIdeal.main_arg0) = m ((c.tc : Thread Cert.SsdDInXbcIdeal.nD Cert.SsdDInXbcIdeal.τ).loc Cert.SsdDInXbcIdeal.main_arg0)
      ∧ r.2.mem ((c.tc : Thread Cert.SsdDInXbcIdeal.nD Cert.SsdDInXbcIdeal.τ).loc Cert.SsdDInXbcIdeal.main_arg1) = m ((c.tc : Thread Cert.SsdDInXbcIdeal.nD Cert.SsdDInXbcIdeal.τ).loc Cert.SsdDInXbcIdeal.main_arg1)
      ∧ r.2.mem ((c.tc : Thread Cert.SsdDInXbcIdeal.nD Cert.SsdDInXbcIdeal.τ).loc Cert.SsdDInXbcIdeal.main_arg2) = m ((c.tc : Thread Cert.SsdDInXbcIdeal.nD Cert.SsdDInXbcIdeal.τ).loc Cert.SsdDInXbcIdeal.main_arg2)
      ∧ r.2.mem ((c.tc : Thread Cert.SsdDInXbcIdeal.nD Cert.SsdDInXbcIdeal.τ).loc Cert.SsdDInXbcIdeal.main_arg3) = m ((c.tc : Thread Cert.SsdDInXbcIdeal.nD Cert.SsdDInXbcIdeal.τ).loc Cert.SsdDInXbcIdeal.main_arg3))
      ∧ r.2.sem = fun _ => 0)

def quiescent_SsdDInXbcRefIdeal [hSsdDInXbcRefIdeal : Cert.SsdDInXbcRefIdeal.Facts] : Prop :=
  ∀ (m : (ℓ : Loc Cert.SsdDInXbcRefIdeal.nD Cert.SsdDInXbcRefIdeal.τ Cert.SsdDInXbcRefIdeal.sig) → Buf (Elt Ideal) ℓ) (g : Dev Cert.SsdDInXbcRefIdeal.nD → PrngReg), Pre_SsdDInXbcRefIdeal m →
    θ_run (Cert.SsdDInXbcRefIdeal.defs (F := Ideal)) (onTc (τ := Cert.SsdDInXbcRefIdeal.τ) (Cert.SsdDInXbcRefIdeal.main (F := Ideal))) ⟨m, fun _ => 0, g⟩ (fun r => (∀ c : Dev Cert.SsdDInXbcRefIdeal.nD,
      r.2.mem ((c.tc : Thread Cert.SsdDInXbcRefIdeal.nD Cert.SsdDInXbcRefIdeal.τ).loc Cert.SsdDInXbcRefIdeal.main_arg0) = m ((c.tc : Thread Cert.SsdDInXbcRefIdeal.nD Cert.SsdDInXbcRefIdeal.τ).loc Cert.SsdDInXbcRefIdeal.main_arg0)
      ∧ r.2.mem ((c.tc : Thread Cert.SsdDInXbcRefIdeal.nD Cert.SsdDInXbcRefIdeal.τ).loc Cert.SsdDInXbcRefIdeal.main_arg1) = m ((c.tc : Thread Cert.SsdDInXbcRefIdeal.nD Cert.SsdDInXbcRefIdeal.τ).loc Cert.SsdDInXbcRefIdeal.main_arg1)
      ∧ r.2.mem ((c.tc : Thread Cert.SsdDInXbcRefIdeal.nD Cert.SsdDInXbcRefIdeal.τ).loc Cert.SsdDInXbcRefIdeal.main_arg2) = m ((c.tc : Thread Cert.SsdDInXbcRefIdeal.nD Cert.SsdDInXbcRefIdeal.τ).loc Cert.SsdDInXbcRefIdeal.main_arg2)
      ∧ r.2.mem ((c.tc : Thread Cert.SsdDInXbcRefIdeal.nD Cert.SsdDInXbcRefIdeal.τ).loc Cert.SsdDInXbcRefIdeal.main_arg3) = m ((c.tc : Thread Cert.SsdDInXbcRefIdeal.nD Cert.SsdDInXbcRefIdeal.τ).loc Cert.SsdDInXbcRefIdeal.main_arg3))
      ∧ r.2.sem = fun _ => 0)

def quiescent_SsdDWZ [hSsdDWZ : Cert.SsdDWZ.Facts] : Prop :=
  ∀ (m : (ℓ : Loc Cert.SsdDWZ.nD Cert.SsdDWZ.τ Cert.SsdDWZ.sig) → Buf (Elt Bits) ℓ) (g : Dev Cert.SsdDWZ.nD → PrngReg), Pre_SsdDWZ m →
    θ_run (Cert.SsdDWZ.defs (F := Bits)) (onTc (τ := Cert.SsdDWZ.τ) (Cert.SsdDWZ.main (F := Bits))) ⟨m, fun _ => 0, g⟩ (fun r => (∀ c : Dev Cert.SsdDWZ.nD,
      r.2.mem ((c.tc : Thread Cert.SsdDWZ.nD Cert.SsdDWZ.τ).loc Cert.SsdDWZ.main_arg0) = m ((c.tc : Thread Cert.SsdDWZ.nD Cert.SsdDWZ.τ).loc Cert.SsdDWZ.main_arg0)
      ∧ r.2.mem ((c.tc : Thread Cert.SsdDWZ.nD Cert.SsdDWZ.τ).loc Cert.SsdDWZ.main_arg1) = m ((c.tc : Thread Cert.SsdDWZ.nD Cert.SsdDWZ.τ).loc Cert.SsdDWZ.main_arg1)
      ∧ r.2.mem ((c.tc : Thread Cert.SsdDWZ.nD Cert.SsdDWZ.τ).loc Cert.SsdDWZ.main_arg2) = m ((c.tc : Thread Cert.SsdDWZ.nD Cert.SsdDWZ.τ).loc Cert.SsdDWZ.main_arg2))
      ∧ r.2.sem = fun _ => 0)

def quiescent_SsdDWZIdeal [hSsdDWZIdeal : Cert.SsdDWZIdeal.Facts] : Prop :=
  ∀ (m : (ℓ : Loc Cert.SsdDWZIdeal.nD Cert.SsdDWZIdeal.τ Cert.SsdDWZIdeal.sig) → Buf (Elt Ideal) ℓ) (g : Dev Cert.SsdDWZIdeal.nD → PrngReg), Pre_SsdDWZIdeal m →
    θ_run (Cert.SsdDWZIdeal.defs (F := Ideal)) (onTc (τ := Cert.SsdDWZIdeal.τ) (Cert.SsdDWZIdeal.main (F := Ideal))) ⟨m, fun _ => 0, g⟩ (fun r => (∀ c : Dev Cert.SsdDWZIdeal.nD,
      r.2.mem ((c.tc : Thread Cert.SsdDWZIdeal.nD Cert.SsdDWZIdeal.τ).loc Cert.SsdDWZIdeal.main_arg0) = m ((c.tc : Thread Cert.SsdDWZIdeal.nD Cert.SsdDWZIdeal.τ).loc Cert.SsdDWZIdeal.main_arg0)
      ∧ r.2.mem ((c.tc : Thread Cert.SsdDWZIdeal.nD Cert.SsdDWZIdeal.τ).loc Cert.SsdDWZIdeal.main_arg1) = m ((c.tc : Thread Cert.SsdDWZIdeal.nD Cert.SsdDWZIdeal.τ).loc Cert.SsdDWZIdeal.main_arg1)
      ∧ r.2.mem ((c.tc : Thread Cert.SsdDWZIdeal.nD Cert.SsdDWZIdeal.τ).loc Cert.SsdDWZIdeal.main_arg2) = m ((c.tc : Thread Cert.SsdDWZIdeal.nD Cert.SsdDWZIdeal.τ).loc Cert.SsdDWZIdeal.main_arg2))
      ∧ r.2.sem = fun _ => 0)

def quiescent_SsdDWZRefIdeal [hSsdDWZRefIdeal : Cert.SsdDWZRefIdeal.Facts] : Prop :=
  ∀ (m : (ℓ : Loc Cert.SsdDWZRefIdeal.nD Cert.SsdDWZRefIdeal.τ Cert.SsdDWZRefIdeal.sig) → Buf (Elt Ideal) ℓ) (g : Dev Cert.SsdDWZRefIdeal.nD → PrngReg), Pre_SsdDWZRefIdeal m →
    θ_run (Cert.SsdDWZRefIdeal.defs (F := Ideal)) (onTc (τ := Cert.SsdDWZRefIdeal.τ) (Cert.SsdDWZRefIdeal.main (F := Ideal))) ⟨m, fun _ => 0, g⟩ (fun r => (∀ c : Dev Cert.SsdDWZRefIdeal.nD,
      r.2.mem ((c.tc : Thread Cert.SsdDWZRefIdeal.nD Cert.SsdDWZRefIdeal.τ).loc Cert.SsdDWZRefIdeal.main_arg0) = m ((c.tc : Thread Cert.SsdDWZRefIdeal.nD Cert.SsdDWZRefIdeal.τ).loc Cert.SsdDWZRefIdeal.main_arg0)
      ∧ r.2.mem ((c.tc : Thread Cert.SsdDWZRefIdeal.nD Cert.SsdDWZRefIdeal.τ).loc Cert.SsdDWZRefIdeal.main_arg1) = m ((c.tc : Thread Cert.SsdDWZRefIdeal.nD Cert.SsdDWZRefIdeal.τ).loc Cert.SsdDWZRefIdeal.main_arg1)
      ∧ r.2.mem ((c.tc : Thread Cert.SsdDWZRefIdeal.nD Cert.SsdDWZRefIdeal.τ).loc Cert.SsdDWZRefIdeal.main_arg2) = m ((c.tc : Thread Cert.SsdDWZRefIdeal.nD Cert.SsdDWZRefIdeal.τ).loc Cert.SsdDWZRefIdeal.main_arg2))
      ∧ r.2.sem = fun _ => 0)

def quiescent_SsdDWXbc [hSsdDWXbc : Cert.SsdDWXbc.Facts] : Prop :=
  ∀ (m : (ℓ : Loc Cert.SsdDWXbc.nD Cert.SsdDWXbc.τ Cert.SsdDWXbc.sig) → Buf (Elt Bits) ℓ) (g : Dev Cert.SsdDWXbc.nD → PrngReg), Pre_SsdDWXbc m →
    θ_run (Cert.SsdDWXbc.defs (F := Bits)) (onTc (τ := Cert.SsdDWXbc.τ) (Cert.SsdDWXbc.main (F := Bits))) ⟨m, fun _ => 0, g⟩ (fun r => (∀ c : Dev Cert.SsdDWXbc.nD,
      r.2.mem ((c.tc : Thread Cert.SsdDWXbc.nD Cert.SsdDWXbc.τ).loc Cert.SsdDWXbc.main_arg0) = m ((c.tc : Thread Cert.SsdDWXbc.nD Cert.SsdDWXbc.τ).loc Cert.SsdDWXbc.main_arg0)
      ∧ r.2.mem ((c.tc : Thread Cert.SsdDWXbc.nD Cert.SsdDWXbc.τ).loc Cert.SsdDWXbc.main_arg1) = m ((c.tc : Thread Cert.SsdDWXbc.nD Cert.SsdDWXbc.τ).loc Cert.SsdDWXbc.main_arg1)
      ∧ r.2.mem ((c.tc : Thread Cert.SsdDWXbc.nD Cert.SsdDWXbc.τ).loc Cert.SsdDWXbc.main_arg2) = m ((c.tc : Thread Cert.SsdDWXbc.nD Cert.SsdDWXbc.τ).loc Cert.SsdDWXbc.main_arg2))
      ∧ r.2.sem = fun _ => 0)

def quiescent_SsdDWXbcIdeal [hSsdDWXbcIdeal : Cert.SsdDWXbcIdeal.Facts] : Prop :=
  ∀ (m : (ℓ : Loc Cert.SsdDWXbcIdeal.nD Cert.SsdDWXbcIdeal.τ Cert.SsdDWXbcIdeal.sig) → Buf (Elt Ideal) ℓ) (g : Dev Cert.SsdDWXbcIdeal.nD → PrngReg), Pre_SsdDWXbcIdeal m →
    θ_run (Cert.SsdDWXbcIdeal.defs (F := Ideal)) (onTc (τ := Cert.SsdDWXbcIdeal.τ) (Cert.SsdDWXbcIdeal.main (F := Ideal))) ⟨m, fun _ => 0, g⟩ (fun r => (∀ c : Dev Cert.SsdDWXbcIdeal.nD,
      r.2.mem ((c.tc : Thread Cert.SsdDWXbcIdeal.nD Cert.SsdDWXbcIdeal.τ).loc Cert.SsdDWXbcIdeal.main_arg0) = m ((c.tc : Thread Cert.SsdDWXbcIdeal.nD Cert.SsdDWXbcIdeal.τ).loc Cert.SsdDWXbcIdeal.main_arg0)
      ∧ r.2.mem ((c.tc : Thread Cert.SsdDWXbcIdeal.nD Cert.SsdDWXbcIdeal.τ).loc Cert.SsdDWXbcIdeal.main_arg1) = m ((c.tc : Thread Cert.SsdDWXbcIdeal.nD Cert.SsdDWXbcIdeal.τ).loc Cert.SsdDWXbcIdeal.main_arg1)
      ∧ r.2.mem ((c.tc : Thread Cert.SsdDWXbcIdeal.nD Cert.SsdDWXbcIdeal.τ).loc Cert.SsdDWXbcIdeal.main_arg2) = m ((c.tc : Thread Cert.SsdDWXbcIdeal.nD Cert.SsdDWXbcIdeal.τ).loc Cert.SsdDWXbcIdeal.main_arg2))
      ∧ r.2.sem = fun _ => 0)

def quiescent_SsdDWXbcRefIdeal [hSsdDWXbcRefIdeal : Cert.SsdDWXbcRefIdeal.Facts] : Prop :=
  ∀ (m : (ℓ : Loc Cert.SsdDWXbcRefIdeal.nD Cert.SsdDWXbcRefIdeal.τ Cert.SsdDWXbcRefIdeal.sig) → Buf (Elt Ideal) ℓ) (g : Dev Cert.SsdDWXbcRefIdeal.nD → PrngReg), Pre_SsdDWXbcRefIdeal m →
    θ_run (Cert.SsdDWXbcRefIdeal.defs (F := Ideal)) (onTc (τ := Cert.SsdDWXbcRefIdeal.τ) (Cert.SsdDWXbcRefIdeal.main (F := Ideal))) ⟨m, fun _ => 0, g⟩ (fun r => (∀ c : Dev Cert.SsdDWXbcRefIdeal.nD,
      r.2.mem ((c.tc : Thread Cert.SsdDWXbcRefIdeal.nD Cert.SsdDWXbcRefIdeal.τ).loc Cert.SsdDWXbcRefIdeal.main_arg0) = m ((c.tc : Thread Cert.SsdDWXbcRefIdeal.nD Cert.SsdDWXbcRefIdeal.τ).loc Cert.SsdDWXbcRefIdeal.main_arg0)
      ∧ r.2.mem ((c.tc : Thread Cert.SsdDWXbcRefIdeal.nD Cert.SsdDWXbcRefIdeal.τ).loc Cert.SsdDWXbcRefIdeal.main_arg1) = m ((c.tc : Thread Cert.SsdDWXbcRefIdeal.nD Cert.SsdDWXbcRefIdeal.τ).loc Cert.SsdDWXbcRefIdeal.main_arg1)
      ∧ r.2.mem ((c.tc : Thread Cert.SsdDWXbcRefIdeal.nD Cert.SsdDWXbcRefIdeal.τ).loc Cert.SsdDWXbcRefIdeal.main_arg2) = m ((c.tc : Thread Cert.SsdDWXbcRefIdeal.nD Cert.SsdDWXbcRefIdeal.τ).loc Cert.SsdDWXbcRefIdeal.main_arg2))
      ∧ r.2.sem = fun _ => 0)

def quiescent_MlpIn [hMlpIn : Cert.MlpIn.Facts] : Prop :=
  ∀ (m : (ℓ : Loc Cert.MlpIn.nD Cert.MlpIn.τ Cert.MlpIn.sig) → Buf (Elt Bits) ℓ) (g : Dev Cert.MlpIn.nD → PrngReg), Pre_MlpIn m →
    θ_run (Cert.MlpIn.defs (F := Bits)) (onTc (τ := Cert.MlpIn.τ) (Cert.MlpIn.main (F := Bits))) ⟨m, fun _ => 0, g⟩ (fun r => (∀ c : Dev Cert.MlpIn.nD,
      r.2.mem ((c.tc : Thread Cert.MlpIn.nD Cert.MlpIn.τ).loc Cert.MlpIn.main_arg0) = m ((c.tc : Thread Cert.MlpIn.nD Cert.MlpIn.τ).loc Cert.MlpIn.main_arg0)
      ∧ r.2.mem ((c.tc : Thread Cert.MlpIn.nD Cert.MlpIn.τ).loc Cert.MlpIn.main_arg1) = m ((c.tc : Thread Cert.MlpIn.nD Cert.MlpIn.τ).loc Cert.MlpIn.main_arg1))
      ∧ r.2.sem = fun _ => 0)

def quiescent_MlpInIdeal [hMlpInIdeal : Cert.MlpInIdeal.Facts] : Prop :=
  ∀ (m : (ℓ : Loc Cert.MlpInIdeal.nD Cert.MlpInIdeal.τ Cert.MlpInIdeal.sig) → Buf (Elt Ideal) ℓ) (g : Dev Cert.MlpInIdeal.nD → PrngReg), Pre_MlpInIdeal m →
    θ_run (Cert.MlpInIdeal.defs (F := Ideal)) (onTc (τ := Cert.MlpInIdeal.τ) (Cert.MlpInIdeal.main (F := Ideal))) ⟨m, fun _ => 0, g⟩ (fun r => (∀ c : Dev Cert.MlpInIdeal.nD,
      r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
      ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1))
      ∧ r.2.sem = fun _ => 0)

def quiescent_MlpInRefIdeal [hMlpInRefIdeal : Cert.MlpInRefIdeal.Facts] : Prop :=
  ∀ (m : (ℓ : Loc Cert.MlpInRefIdeal.nD Cert.MlpInRefIdeal.τ Cert.MlpInRefIdeal.sig) → Buf (Elt Ideal) ℓ) (g : Dev Cert.MlpInRefIdeal.nD → PrngReg), Pre_MlpInRefIdeal m →
    θ_run (Cert.MlpInRefIdeal.defs (F := Ideal)) (onTc (τ := Cert.MlpInRefIdeal.τ) (Cert.MlpInRefIdeal.main (F := Ideal))) ⟨m, fun _ => 0, g⟩ (fun r => (∀ c : Dev Cert.MlpInRefIdeal.nD,
      r.2.mem ((c.tc : Thread Cert.MlpInRefIdeal.nD Cert.MlpInRefIdeal.τ).loc Cert.MlpInRefIdeal.main_arg0) = m ((c.tc : Thread Cert.MlpInRefIdeal.nD Cert.MlpInRefIdeal.τ).loc Cert.MlpInRefIdeal.main_arg0)
      ∧ r.2.mem ((c.tc : Thread Cert.MlpInRefIdeal.nD Cert.MlpInRefIdeal.τ).loc Cert.MlpInRefIdeal.main_arg1) = m ((c.tc : Thread Cert.MlpInRefIdeal.nD Cert.MlpInRefIdeal.τ).loc Cert.MlpInRefIdeal.main_arg1))
      ∧ r.2.sem = fun _ => 0)

def quiescent_MlpOut [hMlpOut : Cert.MlpOut.Facts] : Prop :=
  ∀ (m : (ℓ : Loc Cert.MlpOut.nD Cert.MlpOut.τ Cert.MlpOut.sig) → Buf (Elt Bits) ℓ) (g : Dev Cert.MlpOut.nD → PrngReg), Pre_MlpOut m →
    θ_run (Cert.MlpOut.defs (F := Bits)) (onTc (τ := Cert.MlpOut.τ) (Cert.MlpOut.main (F := Bits))) ⟨m, fun _ => 0, g⟩ (fun r => (∀ c : Dev Cert.MlpOut.nD,
      r.2.mem ((c.tc : Thread Cert.MlpOut.nD Cert.MlpOut.τ).loc Cert.MlpOut.main_arg0) = m ((c.tc : Thread Cert.MlpOut.nD Cert.MlpOut.τ).loc Cert.MlpOut.main_arg0)
      ∧ r.2.mem ((c.tc : Thread Cert.MlpOut.nD Cert.MlpOut.τ).loc Cert.MlpOut.main_arg1) = m ((c.tc : Thread Cert.MlpOut.nD Cert.MlpOut.τ).loc Cert.MlpOut.main_arg1)
      ∧ r.2.mem ((c.tc : Thread Cert.MlpOut.nD Cert.MlpOut.τ).loc Cert.MlpOut.main_arg2) = m ((c.tc : Thread Cert.MlpOut.nD Cert.MlpOut.τ).loc Cert.MlpOut.main_arg2)
      ∧ r.2.mem ((c.tc : Thread Cert.MlpOut.nD Cert.MlpOut.τ).loc Cert.MlpOut.main_arg3) = m ((c.tc : Thread Cert.MlpOut.nD Cert.MlpOut.τ).loc Cert.MlpOut.main_arg3))
      ∧ r.2.sem = fun _ => 0)

def quiescent_MlpOutIdeal [hMlpOutIdeal : Cert.MlpOutIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg), Pre_MlpOutIdeal m →
    θ_run (Cert.MlpOutIdeal.defs (F := Ideal)) (onTc (τ := Cert.MlpOutIdeal.τ) (Cert.MlpOutIdeal.main (F := Ideal))) ⟨m, fun _ => 0, g⟩ (fun r => (∀ c : Dev Cert.MlpOutIdeal.nD,
      r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
      ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
      ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2)
      ∧ r.2.mem ((c.tc : Thread Cert.MlpOutIdeal.nD Cert.MlpOutIdeal.τ).loc Cert.MlpOutIdeal.main_arg3) = m ((c.tc : Thread Cert.MlpOutIdeal.nD Cert.MlpOutIdeal.τ).loc Cert.MlpOutIdeal.main_arg3))
      ∧ r.2.sem = fun _ => 0)

def quiescent_MlpOutRefIdeal [hMlpOutRefIdeal : Cert.MlpOutRefIdeal.Facts] : Prop :=
  ∀ (m : (ℓ : Loc Cert.MlpOutRefIdeal.nD Cert.MlpOutRefIdeal.τ Cert.MlpOutRefIdeal.sig) → Buf (Elt Ideal) ℓ) (g : Dev Cert.MlpOutRefIdeal.nD → PrngReg), Pre_MlpOutRefIdeal m →
    θ_run (Cert.MlpOutRefIdeal.defs (F := Ideal)) (onTc (τ := Cert.MlpOutRefIdeal.τ) (Cert.MlpOutRefIdeal.main (F := Ideal))) ⟨m, fun _ => 0, g⟩ (fun r => (∀ c : Dev Cert.MlpOutRefIdeal.nD,
      r.2.mem ((c.tc : Thread Cert.MlpOutRefIdeal.nD Cert.MlpOutRefIdeal.τ).loc Cert.MlpOutRefIdeal.main_arg0) = m ((c.tc : Thread Cert.MlpOutRefIdeal.nD Cert.MlpOutRefIdeal.τ).loc Cert.MlpOutRefIdeal.main_arg0)
      ∧ r.2.mem ((c.tc : Thread Cert.MlpOutRefIdeal.nD Cert.MlpOutRefIdeal.τ).loc Cert.MlpOutRefIdeal.main_arg1) = m ((c.tc : Thread Cert.MlpOutRefIdeal.nD Cert.MlpOutRefIdeal.τ).loc Cert.MlpOutRefIdeal.main_arg1)
      ∧ r.2.mem ((c.tc : Thread Cert.MlpOutRefIdeal.nD Cert.MlpOutRefIdeal.τ).loc Cert.MlpOutRefIdeal.main_arg2) = m ((c.tc : Thread Cert.MlpOutRefIdeal.nD Cert.MlpOutRefIdeal.τ).loc Cert.MlpOutRefIdeal.main_arg2)
      ∧ r.2.mem ((c.tc : Thread Cert.MlpOutRefIdeal.nD Cert.MlpOutRefIdeal.τ).loc Cert.MlpOutRefIdeal.main_arg3) = m ((c.tc : Thread Cert.MlpOutRefIdeal.nD Cert.MlpOutRefIdeal.τ).loc Cert.MlpOutRefIdeal.main_arg3))
      ∧ r.2.sem = fun _ => 0)

def quiescent_S5In [hS5In : Cert.S5In.Facts] : Prop :=
  ∀ (m : (ℓ : Loc Cert.S5In.nD Cert.S5In.τ Cert.S5In.sig) → Buf (Elt Bits) ℓ) (g : Dev Cert.S5In.nD → PrngReg), Pre_S5In m →
    θ_run (Cert.S5In.defs (F := Bits)) (onTc (τ := Cert.S5In.τ) (Cert.S5In.main (F := Bits))) ⟨m, fun _ => 0, g⟩ (fun r => (∀ c : Dev Cert.S5In.nD,
      r.2.mem ((c.tc : Thread Cert.S5In.nD Cert.S5In.τ).loc Cert.S5In.main_arg0) = m ((c.tc : Thread Cert.S5In.nD Cert.S5In.τ).loc Cert.S5In.main_arg0)
      ∧ r.2.mem ((c.tc : Thread Cert.S5In.nD Cert.S5In.τ).loc Cert.S5In.main_arg1) = m ((c.tc : Thread Cert.S5In.nD Cert.S5In.τ).loc Cert.S5In.main_arg1))
      ∧ r.2.sem = fun _ => 0)

def quiescent_S5InIdeal [hS5InIdeal : Cert.S5InIdeal.Facts] : Prop :=
  ∀ (m : (ℓ : Loc Cert.S5InIdeal.nD Cert.S5InIdeal.τ Cert.S5InIdeal.sig) → Buf (Elt Ideal) ℓ) (g : Dev Cert.S5InIdeal.nD → PrngReg), Pre_S5InIdeal m →
    θ_run (Cert.S5InIdeal.defs (F := Ideal)) (onTc (τ := Cert.S5InIdeal.τ) (Cert.S5InIdeal.main (F := Ideal))) ⟨m, fun _ => 0, g⟩ (fun r => (∀ c : Dev Cert.S5InIdeal.nD,
      r.2.mem ((c.tc : Thread Cert.S5InIdeal.nD Cert.S5InIdeal.τ).loc Cert.S5InIdeal.main_arg0) = m ((c.tc : Thread Cert.S5InIdeal.nD Cert.S5InIdeal.τ).loc Cert.S5InIdeal.main_arg0)
      ∧ r.2.mem ((c.tc : Thread Cert.S5InIdeal.nD Cert.S5InIdeal.τ).loc Cert.S5InIdeal.main_arg1) = m ((c.tc : Thread Cert.S5InIdeal.nD Cert.S5InIdeal.τ).loc Cert.S5InIdeal.main_arg1))
      ∧ r.2.sem = fun _ => 0)

def quiescent_S5InRefIdeal [hS5InRefIdeal : Cert.S5InRefIdeal.Facts] : Prop :=
  ∀ (m : (ℓ : Loc Cert.S5InRefIdeal.nD Cert.S5InRefIdeal.τ Cert.S5InRefIdeal.sig) → Buf (Elt Ideal) ℓ) (g : Dev Cert.S5InRefIdeal.nD → PrngReg), Pre_S5InRefIdeal m →
    θ_run (Cert.S5InRefIdeal.defs (F := Ideal)) (onTc (τ := Cert.S5InRefIdeal.τ) (Cert.S5InRefIdeal.main (F := Ideal))) ⟨m, fun _ => 0, g⟩ (fun r => (∀ c : Dev Cert.S5InRefIdeal.nD,
      r.2.mem ((c.tc : Thread Cert.S5InRefIdeal.nD Cert.S5InRefIdeal.τ).loc Cert.S5InRefIdeal.main_arg0) = m ((c.tc : Thread Cert.S5InRefIdeal.nD Cert.S5InRefIdeal.τ).loc Cert.S5InRefIdeal.main_arg0)
      ∧ r.2.mem ((c.tc : Thread Cert.S5InRefIdeal.nD Cert.S5InRefIdeal.τ).loc Cert.S5InRefIdeal.main_arg1) = m ((c.tc : Thread Cert.S5InRefIdeal.nD Cert.S5InRefIdeal.τ).loc Cert.S5InRefIdeal.main_arg1))
      ∧ r.2.sem = fun _ => 0)

def quiescent_S5Glu [hS5Glu : Cert.S5Glu.Facts] : Prop :=
  ∀ (m : (ℓ : Loc Cert.S5Glu.nD Cert.S5Glu.τ Cert.S5Glu.sig) → Buf (Elt Bits) ℓ) (g : Dev Cert.S5Glu.nD → PrngReg), Pre_S5Glu m →
    θ_run (Cert.S5Glu.defs (F := Bits)) (onTc (τ := Cert.S5Glu.τ) (Cert.S5Glu.main (F := Bits))) ⟨m, fun _ => 0, g⟩ (fun r => (∀ c : Dev Cert.S5Glu.nD,
      r.2.mem ((c.tc : Thread Cert.S5Glu.nD Cert.S5Glu.τ).loc Cert.S5Glu.main_arg0) = m ((c.tc : Thread Cert.S5Glu.nD Cert.S5Glu.τ).loc Cert.S5Glu.main_arg0)
      ∧ r.2.mem ((c.tc : Thread Cert.S5Glu.nD Cert.S5Glu.τ).loc Cert.S5Glu.main_arg1) = m ((c.tc : Thread Cert.S5Glu.nD Cert.S5Glu.τ).loc Cert.S5Glu.main_arg1))
      ∧ r.2.sem = fun _ => 0)

def quiescent_S5GluIdeal [hS5GluIdeal : Cert.S5GluIdeal.Facts] : Prop :=
  ∀ (m : (ℓ : Loc Cert.S5GluIdeal.nD Cert.S5GluIdeal.τ Cert.S5GluIdeal.sig) → Buf (Elt Ideal) ℓ) (g : Dev Cert.S5GluIdeal.nD → PrngReg), Pre_S5GluIdeal m →
    θ_run (Cert.S5GluIdeal.defs (F := Ideal)) (onTc (τ := Cert.S5GluIdeal.τ) (Cert.S5GluIdeal.main (F := Ideal))) ⟨m, fun _ => 0, g⟩ (fun r => (∀ c : Dev Cert.S5GluIdeal.nD,
      r.2.mem ((c.tc : Thread Cert.S5GluIdeal.nD Cert.S5GluIdeal.τ).loc Cert.S5GluIdeal.main_arg0) = m ((c.tc : Thread Cert.S5GluIdeal.nD Cert.S5GluIdeal.τ).loc Cert.S5GluIdeal.main_arg0)
      ∧ r.2.mem ((c.tc : Thread Cert.S5GluIdeal.nD Cert.S5GluIdeal.τ).loc Cert.S5GluIdeal.main_arg1) = m ((c.tc : Thread Cert.S5GluIdeal.nD Cert.S5GluIdeal.τ).loc Cert.S5GluIdeal.main_arg1))
      ∧ r.2.sem = fun _ => 0)

def quiescent_S5GluRefIdeal [hS5GluRefIdeal : Cert.S5GluRefIdeal.Facts] : Prop :=
  ∀ (m : (ℓ : Loc Cert.S5GluRefIdeal.nD Cert.S5GluRefIdeal.τ Cert.S5GluRefIdeal.sig) → Buf (Elt Ideal) ℓ) (g : Dev Cert.S5GluRefIdeal.nD → PrngReg), Pre_S5GluRefIdeal m →
    θ_run (Cert.S5GluRefIdeal.defs (F := Ideal)) (onTc (τ := Cert.S5GluRefIdeal.τ) (Cert.S5GluRefIdeal.main (F := Ideal))) ⟨m, fun _ => 0, g⟩ (fun r => (∀ c : Dev Cert.S5GluRefIdeal.nD,
      r.2.mem ((c.tc : Thread Cert.S5GluRefIdeal.nD Cert.S5GluRefIdeal.τ).loc Cert.S5GluRefIdeal.main_arg0) = m ((c.tc : Thread Cert.S5GluRefIdeal.nD Cert.S5GluRefIdeal.τ).loc Cert.S5GluRefIdeal.main_arg0)
      ∧ r.2.mem ((c.tc : Thread Cert.S5GluRefIdeal.nD Cert.S5GluRefIdeal.τ).loc Cert.S5GluRefIdeal.main_arg1) = m ((c.tc : Thread Cert.S5GluRefIdeal.nD Cert.S5GluRefIdeal.τ).loc Cert.S5GluRefIdeal.main_arg1))
      ∧ r.2.sem = fun _ => 0)

def quiescent_SsdZ [hSsdZ : Cert.SsdZ.Facts] : Prop :=
  ∀ (m : (ℓ : Loc Cert.SsdZ.nD Cert.SsdZ.τ Cert.SsdZ.sig) → Buf (Elt Bits) ℓ) (g : Dev Cert.SsdZ.nD → PrngReg), Pre_SsdZ m →
    θ_run (Cert.SsdZ.defs (F := Bits)) (onTc (τ := Cert.SsdZ.τ) (Cert.SsdZ.main (F := Bits))) ⟨m, fun _ => 0, g⟩ (fun r => (∀ c : Dev Cert.SsdZ.nD,
      r.2.mem ((c.tc : Thread Cert.SsdZ.nD Cert.SsdZ.τ).loc Cert.SsdZ.main_arg0) = m ((c.tc : Thread Cert.SsdZ.nD Cert.SsdZ.τ).loc Cert.SsdZ.main_arg0)
      ∧ r.2.mem ((c.tc : Thread Cert.SsdZ.nD Cert.SsdZ.τ).loc Cert.SsdZ.main_arg1) = m ((c.tc : Thread Cert.SsdZ.nD Cert.SsdZ.τ).loc Cert.SsdZ.main_arg1))
      ∧ r.2.sem = fun _ => 0)

def quiescent_SsdZIdeal [hSsdZIdeal : Cert.SsdZIdeal.Facts] : Prop :=
  ∀ (m : (ℓ : Loc Cert.SsdZIdeal.nD Cert.SsdZIdeal.τ Cert.SsdZIdeal.sig) → Buf (Elt Ideal) ℓ) (g : Dev Cert.SsdZIdeal.nD → PrngReg), Pre_SsdZIdeal m →
    θ_run (Cert.SsdZIdeal.defs (F := Ideal)) (onTc (τ := Cert.SsdZIdeal.τ) (Cert.SsdZIdeal.main (F := Ideal))) ⟨m, fun _ => 0, g⟩ (fun r => (∀ c : Dev Cert.SsdZIdeal.nD,
      r.2.mem ((c.tc : Thread Cert.SsdZIdeal.nD Cert.SsdZIdeal.τ).loc Cert.SsdZIdeal.main_arg0) = m ((c.tc : Thread Cert.SsdZIdeal.nD Cert.SsdZIdeal.τ).loc Cert.SsdZIdeal.main_arg0)
      ∧ r.2.mem ((c.tc : Thread Cert.SsdZIdeal.nD Cert.SsdZIdeal.τ).loc Cert.SsdZIdeal.main_arg1) = m ((c.tc : Thread Cert.SsdZIdeal.nD Cert.SsdZIdeal.τ).loc Cert.SsdZIdeal.main_arg1))
      ∧ r.2.sem = fun _ => 0)

def quiescent_SsdZRefIdeal [hSsdZRefIdeal : Cert.SsdZRefIdeal.Facts] : Prop :=
  ∀ (m : (ℓ : Loc Cert.SsdZRefIdeal.nD Cert.SsdZRefIdeal.τ Cert.SsdZRefIdeal.sig) → Buf (Elt Ideal) ℓ) (g : Dev Cert.SsdZRefIdeal.nD → PrngReg), Pre_SsdZRefIdeal m →
    θ_run (Cert.SsdZRefIdeal.defs (F := Ideal)) (onTc (τ := Cert.SsdZRefIdeal.τ) (Cert.SsdZRefIdeal.main (F := Ideal))) ⟨m, fun _ => 0, g⟩ (fun r => (∀ c : Dev Cert.SsdZRefIdeal.nD,
      r.2.mem ((c.tc : Thread Cert.SsdZRefIdeal.nD Cert.SsdZRefIdeal.τ).loc Cert.SsdZRefIdeal.main_arg0) = m ((c.tc : Thread Cert.SsdZRefIdeal.nD Cert.SsdZRefIdeal.τ).loc Cert.SsdZRefIdeal.main_arg0)
      ∧ r.2.mem ((c.tc : Thread Cert.SsdZRefIdeal.nD Cert.SsdZRefIdeal.τ).loc Cert.SsdZRefIdeal.main_arg1) = m ((c.tc : Thread Cert.SsdZRefIdeal.nD Cert.SsdZRefIdeal.τ).loc Cert.SsdZRefIdeal.main_arg1))
      ∧ r.2.sem = fun _ => 0)

def quiescent_SsdXbc [hSsdXbc : Cert.SsdXbc.Facts] : Prop :=
  ∀ (m : (ℓ : Loc Cert.SsdXbc.nD Cert.SsdXbc.τ Cert.SsdXbc.sig) → Buf (Elt Bits) ℓ) (g : Dev Cert.SsdXbc.nD → PrngReg), Pre_SsdXbc m →
    θ_run (Cert.SsdXbc.defs (F := Bits)) (onTc (τ := Cert.SsdXbc.τ) (Cert.SsdXbc.main (F := Bits))) ⟨m, fun _ => 0, g⟩ (fun r => (∀ c : Dev Cert.SsdXbc.nD,
      r.2.mem ((c.tc : Thread Cert.SsdXbc.nD Cert.SsdXbc.τ).loc Cert.SsdXbc.main_arg0) = m ((c.tc : Thread Cert.SsdXbc.nD Cert.SsdXbc.τ).loc Cert.SsdXbc.main_arg0)
      ∧ r.2.mem ((c.tc : Thread Cert.SsdXbc.nD Cert.SsdXbc.τ).loc Cert.SsdXbc.main_arg1) = m ((c.tc : Thread Cert.SsdXbc.nD Cert.SsdXbc.τ).loc Cert.SsdXbc.main_arg1))
      ∧ r.2.sem = fun _ => 0)

def quiescent_SsdXbcIdeal [hSsdXbcIdeal : Cert.SsdXbcIdeal.Facts] : Prop :=
  ∀ (m : (ℓ : Loc Cert.SsdXbcIdeal.nD Cert.SsdXbcIdeal.τ Cert.SsdXbcIdeal.sig) → Buf (Elt Ideal) ℓ) (g : Dev Cert.SsdXbcIdeal.nD → PrngReg), Pre_SsdXbcIdeal m →
    θ_run (Cert.SsdXbcIdeal.defs (F := Ideal)) (onTc (τ := Cert.SsdXbcIdeal.τ) (Cert.SsdXbcIdeal.main (F := Ideal))) ⟨m, fun _ => 0, g⟩ (fun r => (∀ c : Dev Cert.SsdXbcIdeal.nD,
      r.2.mem ((c.tc : Thread Cert.SsdXbcIdeal.nD Cert.SsdXbcIdeal.τ).loc Cert.SsdXbcIdeal.main_arg0) = m ((c.tc : Thread Cert.SsdXbcIdeal.nD Cert.SsdXbcIdeal.τ).loc Cert.SsdXbcIdeal.main_arg0)
      ∧ r.2.mem ((c.tc : Thread Cert.SsdXbcIdeal.nD Cert.SsdXbcIdeal.τ).loc Cert.SsdXbcIdeal.main_arg1) = m ((c.tc : Thread Cert.SsdXbcIdeal.nD Cert.SsdXbcIdeal.τ).loc Cert.SsdXbcIdeal.main_arg1))
      ∧ r.2.sem = fun _ => 0)

def quiescent_SsdXbcRefIdeal [hSsdXbcRefIdeal : Cert.SsdXbcRefIdeal.Facts] : Prop :=
  ∀ (m : (ℓ : Loc Cert.SsdXbcRefIdeal.nD Cert.SsdXbcRefIdeal.τ Cert.SsdXbcRefIdeal.sig) → Buf (Elt Ideal) ℓ) (g : Dev Cert.SsdXbcRefIdeal.nD → PrngReg), Pre_SsdXbcRefIdeal m →
    θ_run (Cert.SsdXbcRefIdeal.defs (F := Ideal)) (onTc (τ := Cert.SsdXbcRefIdeal.τ) (Cert.SsdXbcRefIdeal.main (F := Ideal))) ⟨m, fun _ => 0, g⟩ (fun r => (∀ c : Dev Cert.SsdXbcRefIdeal.nD,
      r.2.mem ((c.tc : Thread Cert.SsdXbcRefIdeal.nD Cert.SsdXbcRefIdeal.τ).loc Cert.SsdXbcRefIdeal.main_arg0) = m ((c.tc : Thread Cert.SsdXbcRefIdeal.nD Cert.SsdXbcRefIdeal.τ).loc Cert.SsdXbcRefIdeal.main_arg0)
      ∧ r.2.mem ((c.tc : Thread Cert.SsdXbcRefIdeal.nD Cert.SsdXbcRefIdeal.τ).loc Cert.SsdXbcRefIdeal.main_arg1) = m ((c.tc : Thread Cert.SsdXbcRefIdeal.nD Cert.SsdXbcRefIdeal.τ).loc Cert.SsdXbcRefIdeal.main_arg1))
      ∧ r.2.sem = fun _ => 0)

def quiescent_SsdOut [hSsdOut : Cert.SsdOut.Facts] : Prop :=
  ∀ (m : (ℓ : Loc Cert.SsdOut.nD Cert.SsdOut.τ Cert.SsdOut.sig) → Buf (Elt Bits) ℓ) (g : Dev Cert.SsdOut.nD → PrngReg), Pre_SsdOut m →
    θ_run (Cert.SsdOut.defs (F := Bits)) (onTc (τ := Cert.SsdOut.τ) (Cert.SsdOut.main (F := Bits))) ⟨m, fun _ => 0, g⟩ (fun r => (∀ c : Dev Cert.SsdOut.nD,
      r.2.mem ((c.tc : Thread Cert.SsdOut.nD Cert.SsdOut.τ).loc Cert.SsdOut.main_arg0) = m ((c.tc : Thread Cert.SsdOut.nD Cert.SsdOut.τ).loc Cert.SsdOut.main_arg0)
      ∧ r.2.mem ((c.tc : Thread Cert.SsdOut.nD Cert.SsdOut.τ).loc Cert.SsdOut.main_arg1) = m ((c.tc : Thread Cert.SsdOut.nD Cert.SsdOut.τ).loc Cert.SsdOut.main_arg1)
      ∧ r.2.mem ((c.tc : Thread Cert.SsdOut.nD Cert.SsdOut.τ).loc Cert.SsdOut.main_arg2) = m ((c.tc : Thread Cert.SsdOut.nD Cert.SsdOut.τ).loc Cert.SsdOut.main_arg2)
      ∧ r.2.mem ((c.tc : Thread Cert.SsdOut.nD Cert.SsdOut.τ).loc Cert.SsdOut.main_arg3) = m ((c.tc : Thread Cert.SsdOut.nD Cert.SsdOut.τ).loc Cert.SsdOut.main_arg3))
      ∧ r.2.sem = fun _ => 0)

def quiescent_SsdOutIdeal [hSsdOutIdeal : Cert.SsdOutIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg), Pre_SsdOutIdeal m →
    θ_run (Cert.SsdOutIdeal.defs (F := Ideal)) (onTc (τ := Cert.SsdOutIdeal.τ) (Cert.SsdOutIdeal.main (F := Ideal))) ⟨m, fun _ => 0, g⟩ (fun r => (∀ c : Dev Cert.SsdOutIdeal.nD,
      r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
      ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
      ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
      ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3))
      ∧ r.2.sem = fun _ => 0)

def quiescent_SsdOutRefIdeal [hSsdOutRefIdeal : Cert.SsdOutRefIdeal.Facts] : Prop :=
  ∀ (m : (ℓ : Loc Cert.SsdOutRefIdeal.nD Cert.SsdOutRefIdeal.τ Cert.SsdOutRefIdeal.sig) → Buf (Elt Ideal) ℓ) (g : Dev Cert.SsdOutRefIdeal.nD → PrngReg), Pre_SsdOutRefIdeal m →
    θ_run (Cert.SsdOutRefIdeal.defs (F := Ideal)) (onTc (τ := Cert.SsdOutRefIdeal.τ) (Cert.SsdOutRefIdeal.main (F := Ideal))) ⟨m, fun _ => 0, g⟩ (fun r => (∀ c : Dev Cert.SsdOutRefIdeal.nD,
      r.2.mem ((c.tc : Thread Cert.SsdOutRefIdeal.nD Cert.SsdOutRefIdeal.τ).loc Cert.SsdOutRefIdeal.main_arg0) = m ((c.tc : Thread Cert.SsdOutRefIdeal.nD Cert.SsdOutRefIdeal.τ).loc Cert.SsdOutRefIdeal.main_arg0)
      ∧ r.2.mem ((c.tc : Thread Cert.SsdOutRefIdeal.nD Cert.SsdOutRefIdeal.τ).loc Cert.SsdOutRefIdeal.main_arg1) = m ((c.tc : Thread Cert.SsdOutRefIdeal.nD Cert.SsdOutRefIdeal.τ).loc Cert.SsdOutRefIdeal.main_arg1)
      ∧ r.2.mem ((c.tc : Thread Cert.SsdOutRefIdeal.nD Cert.SsdOutRefIdeal.τ).loc Cert.SsdOutRefIdeal.main_arg2) = m ((c.tc : Thread Cert.SsdOutRefIdeal.nD Cert.SsdOutRefIdeal.τ).loc Cert.SsdOutRefIdeal.main_arg2)
      ∧ r.2.mem ((c.tc : Thread Cert.SsdOutRefIdeal.nD Cert.SsdOutRefIdeal.τ).loc Cert.SsdOutRefIdeal.main_arg3) = m ((c.tc : Thread Cert.SsdOutRefIdeal.nD Cert.SsdOutRefIdeal.τ).loc Cert.SsdOutRefIdeal.main_arg3))
      ∧ r.2.sem = fun _ => 0)

def quiescent_SsdDt [hSsdDt : Cert.SsdDt.Facts] : Prop :=
  ∀ (m : (ℓ : Loc Cert.SsdDt.nD Cert.SsdDt.τ Cert.SsdDt.sig) → Buf (Elt Bits) ℓ) (g : Dev Cert.SsdDt.nD → PrngReg), Pre_SsdDt m →
    θ_run (Cert.SsdDt.defs (F := Bits)) (onTc (τ := Cert.SsdDt.τ) (Cert.SsdDt.main (F := Bits))) ⟨m, fun _ => 0, g⟩ (fun r => (∀ c : Dev Cert.SsdDt.nD,
      r.2.mem ((c.tc : Thread Cert.SsdDt.nD Cert.SsdDt.τ).loc Cert.SsdDt.main_arg0) = m ((c.tc : Thread Cert.SsdDt.nD Cert.SsdDt.τ).loc Cert.SsdDt.main_arg0)
      ∧ r.2.mem ((c.tc : Thread Cert.SsdDt.nD Cert.SsdDt.τ).loc Cert.SsdDt.main_arg1) = m ((c.tc : Thread Cert.SsdDt.nD Cert.SsdDt.τ).loc Cert.SsdDt.main_arg1))
      ∧ r.2.sem = fun _ => 0)

def quiescent_SsdDtIdeal [hSsdDtIdeal : Cert.SsdDtIdeal.Facts] : Prop :=
  ∀ (m : (ℓ : Loc Cert.SsdDtIdeal.nD Cert.SsdDtIdeal.τ Cert.SsdDtIdeal.sig) → Buf (Elt Ideal) ℓ) (g : Dev Cert.SsdDtIdeal.nD → PrngReg), Pre_SsdDtIdeal m →
    θ_run (Cert.SsdDtIdeal.defs (F := Ideal)) (onTc (τ := Cert.SsdDtIdeal.τ) (Cert.SsdDtIdeal.main (F := Ideal))) ⟨m, fun _ => 0, g⟩ (fun r => (∀ c : Dev Cert.SsdDtIdeal.nD,
      r.2.mem ((c.tc : Thread Cert.SsdDtIdeal.nD Cert.SsdDtIdeal.τ).loc Cert.SsdDtIdeal.main_arg0) = m ((c.tc : Thread Cert.SsdDtIdeal.nD Cert.SsdDtIdeal.τ).loc Cert.SsdDtIdeal.main_arg0)
      ∧ r.2.mem ((c.tc : Thread Cert.SsdDtIdeal.nD Cert.SsdDtIdeal.τ).loc Cert.SsdDtIdeal.main_arg1) = m ((c.tc : Thread Cert.SsdDtIdeal.nD Cert.SsdDtIdeal.τ).loc Cert.SsdDtIdeal.main_arg1))
      ∧ r.2.sem = fun _ => 0)

def quiescent_SsdDtRefIdeal [hSsdDtRefIdeal : Cert.SsdDtRefIdeal.Facts] : Prop :=
  ∀ (m : (ℓ : Loc Cert.SsdDtRefIdeal.nD Cert.SsdDtRefIdeal.τ Cert.SsdDtRefIdeal.sig) → Buf (Elt Ideal) ℓ) (g : Dev Cert.SsdDtRefIdeal.nD → PrngReg), Pre_SsdDtRefIdeal m →
    θ_run (Cert.SsdDtRefIdeal.defs (F := Ideal)) (onTc (τ := Cert.SsdDtRefIdeal.τ) (Cert.SsdDtRefIdeal.main (F := Ideal))) ⟨m, fun _ => 0, g⟩ (fun r => (∀ c : Dev Cert.SsdDtRefIdeal.nD,
      r.2.mem ((c.tc : Thread Cert.SsdDtRefIdeal.nD Cert.SsdDtRefIdeal.τ).loc Cert.SsdDtRefIdeal.main_arg0) = m ((c.tc : Thread Cert.SsdDtRefIdeal.nD Cert.SsdDtRefIdeal.τ).loc Cert.SsdDtRefIdeal.main_arg0)
      ∧ r.2.mem ((c.tc : Thread Cert.SsdDtRefIdeal.nD Cert.SsdDtRefIdeal.τ).loc Cert.SsdDtRefIdeal.main_arg1) = m ((c.tc : Thread Cert.SsdDtRefIdeal.nD Cert.SsdDtRefIdeal.τ).loc Cert.SsdDtRefIdeal.main_arg1))
      ∧ r.2.sem = fun _ => 0)

def quiescent_SsdDWDt [hSsdDWDt : Cert.SsdDWDt.Facts] : Prop :=
  ∀ (m : (ℓ : Loc Cert.SsdDWDt.nD Cert.SsdDWDt.τ Cert.SsdDWDt.sig) → Buf (Elt Bits) ℓ) (g : Dev Cert.SsdDWDt.nD → PrngReg), Pre_SsdDWDt m →
    θ_run (Cert.SsdDWDt.defs (F := Bits)) (onTc (τ := Cert.SsdDWDt.τ) (Cert.SsdDWDt.main (F := Bits))) ⟨m, fun _ => 0, g⟩ (fun r => (∀ c : Dev Cert.SsdDWDt.nD,
      r.2.mem ((c.tc : Thread Cert.SsdDWDt.nD Cert.SsdDWDt.τ).loc Cert.SsdDWDt.main_arg0) = m ((c.tc : Thread Cert.SsdDWDt.nD Cert.SsdDWDt.τ).loc Cert.SsdDWDt.main_arg0)
      ∧ r.2.mem ((c.tc : Thread Cert.SsdDWDt.nD Cert.SsdDWDt.τ).loc Cert.SsdDWDt.main_arg1) = m ((c.tc : Thread Cert.SsdDWDt.nD Cert.SsdDWDt.τ).loc Cert.SsdDWDt.main_arg1)
      ∧ r.2.mem ((c.tc : Thread Cert.SsdDWDt.nD Cert.SsdDWDt.τ).loc Cert.SsdDWDt.main_arg2) = m ((c.tc : Thread Cert.SsdDWDt.nD Cert.SsdDWDt.τ).loc Cert.SsdDWDt.main_arg2))
      ∧ r.2.sem = fun _ => 0)

def quiescent_SsdDWDtIdeal [hSsdDWDtIdeal : Cert.SsdDWDtIdeal.Facts] : Prop :=
  ∀ (m : (ℓ : Loc Cert.SsdDWDtIdeal.nD Cert.SsdDWDtIdeal.τ Cert.SsdDWDtIdeal.sig) → Buf (Elt Ideal) ℓ) (g : Dev Cert.SsdDWDtIdeal.nD → PrngReg), Pre_SsdDWDtIdeal m →
    θ_run (Cert.SsdDWDtIdeal.defs (F := Ideal)) (onTc (τ := Cert.SsdDWDtIdeal.τ) (Cert.SsdDWDtIdeal.main (F := Ideal))) ⟨m, fun _ => 0, g⟩ (fun r => (∀ c : Dev Cert.SsdDWDtIdeal.nD,
      r.2.mem ((c.tc : Thread Cert.SsdDWDtIdeal.nD Cert.SsdDWDtIdeal.τ).loc Cert.SsdDWDtIdeal.main_arg0) = m ((c.tc : Thread Cert.SsdDWDtIdeal.nD Cert.SsdDWDtIdeal.τ).loc Cert.SsdDWDtIdeal.main_arg0)
      ∧ r.2.mem ((c.tc : Thread Cert.SsdDWDtIdeal.nD Cert.SsdDWDtIdeal.τ).loc Cert.SsdDWDtIdeal.main_arg1) = m ((c.tc : Thread Cert.SsdDWDtIdeal.nD Cert.SsdDWDtIdeal.τ).loc Cert.SsdDWDtIdeal.main_arg1)
      ∧ r.2.mem ((c.tc : Thread Cert.SsdDWDtIdeal.nD Cert.SsdDWDtIdeal.τ).loc Cert.SsdDWDtIdeal.main_arg2) = m ((c.tc : Thread Cert.SsdDWDtIdeal.nD Cert.SsdDWDtIdeal.τ).loc Cert.SsdDWDtIdeal.main_arg2))
      ∧ r.2.sem = fun _ => 0)

def quiescent_SsdDWDtRefIdeal [hSsdDWDtRefIdeal : Cert.SsdDWDtRefIdeal.Facts] : Prop :=
  ∀ (m : (ℓ : Loc Cert.SsdDWDtRefIdeal.nD Cert.SsdDWDtRefIdeal.τ Cert.SsdDWDtRefIdeal.sig) → Buf (Elt Ideal) ℓ) (g : Dev Cert.SsdDWDtRefIdeal.nD → PrngReg), Pre_SsdDWDtRefIdeal m →
    θ_run (Cert.SsdDWDtRefIdeal.defs (F := Ideal)) (onTc (τ := Cert.SsdDWDtRefIdeal.τ) (Cert.SsdDWDtRefIdeal.main (F := Ideal))) ⟨m, fun _ => 0, g⟩ (fun r => (∀ c : Dev Cert.SsdDWDtRefIdeal.nD,
      r.2.mem ((c.tc : Thread Cert.SsdDWDtRefIdeal.nD Cert.SsdDWDtRefIdeal.τ).loc Cert.SsdDWDtRefIdeal.main_arg0) = m ((c.tc : Thread Cert.SsdDWDtRefIdeal.nD Cert.SsdDWDtRefIdeal.τ).loc Cert.SsdDWDtRefIdeal.main_arg0)
      ∧ r.2.mem ((c.tc : Thread Cert.SsdDWDtRefIdeal.nD Cert.SsdDWDtRefIdeal.τ).loc Cert.SsdDWDtRefIdeal.main_arg1) = m ((c.tc : Thread Cert.SsdDWDtRefIdeal.nD Cert.SsdDWDtRefIdeal.τ).loc Cert.SsdDWDtRefIdeal.main_arg1)
      ∧ r.2.mem ((c.tc : Thread Cert.SsdDWDtRefIdeal.nD Cert.SsdDWDtRefIdeal.τ).loc Cert.SsdDWDtRefIdeal.main_arg2) = m ((c.tc : Thread Cert.SsdDWDtRefIdeal.nD Cert.SsdDWDtRefIdeal.τ).loc Cert.SsdDWDtRefIdeal.main_arg2))
      ∧ r.2.sem = fun _ => 0)

def quiescent_SsdDInDt [hSsdDInDt : Cert.SsdDInDt.Facts] : Prop :=
  ∀ (m : (ℓ : Loc Cert.SsdDInDt.nD Cert.SsdDInDt.τ Cert.SsdDInDt.sig) → Buf (Elt Bits) ℓ) (g : Dev Cert.SsdDInDt.nD → PrngReg), Pre_SsdDInDt m →
    θ_run (Cert.SsdDInDt.defs (F := Bits)) (onTc (τ := Cert.SsdDInDt.τ) (Cert.SsdDInDt.main (F := Bits))) ⟨m, fun _ => 0, g⟩ (fun r => (∀ c : Dev Cert.SsdDInDt.nD,
      r.2.mem ((c.tc : Thread Cert.SsdDInDt.nD Cert.SsdDInDt.τ).loc Cert.SsdDInDt.main_arg0) = m ((c.tc : Thread Cert.SsdDInDt.nD Cert.SsdDInDt.τ).loc Cert.SsdDInDt.main_arg0)
      ∧ r.2.mem ((c.tc : Thread Cert.SsdDInDt.nD Cert.SsdDInDt.τ).loc Cert.SsdDInDt.main_arg1) = m ((c.tc : Thread Cert.SsdDInDt.nD Cert.SsdDInDt.τ).loc Cert.SsdDInDt.main_arg1)
      ∧ r.2.mem ((c.tc : Thread Cert.SsdDInDt.nD Cert.SsdDInDt.τ).loc Cert.SsdDInDt.main_arg2) = m ((c.tc : Thread Cert.SsdDInDt.nD Cert.SsdDInDt.τ).loc Cert.SsdDInDt.main_arg2)
      ∧ r.2.mem ((c.tc : Thread Cert.SsdDInDt.nD Cert.SsdDInDt.τ).loc Cert.SsdDInDt.main_arg3) = m ((c.tc : Thread Cert.SsdDInDt.nD Cert.SsdDInDt.τ).loc Cert.SsdDInDt.main_arg3))
      ∧ r.2.sem = fun _ => 0)

def quiescent_SsdDInDtIdeal [hSsdDInDtIdeal : Cert.SsdDInDtIdeal.Facts] : Prop :=
  ∀ (m : (ℓ : Loc Cert.SsdDInDtIdeal.nD Cert.SsdDInDtIdeal.τ Cert.SsdDInDtIdeal.sig) → Buf (Elt Ideal) ℓ) (g : Dev Cert.SsdDInDtIdeal.nD → PrngReg), Pre_SsdDInDtIdeal m →
    θ_run (Cert.SsdDInDtIdeal.defs (F := Ideal)) (onTc (τ := Cert.SsdDInDtIdeal.τ) (Cert.SsdDInDtIdeal.main (F := Ideal))) ⟨m, fun _ => 0, g⟩ (fun r => (∀ c : Dev Cert.SsdDInDtIdeal.nD,
      r.2.mem ((c.tc : Thread Cert.SsdDInDtIdeal.nD Cert.SsdDInDtIdeal.τ).loc Cert.SsdDInDtIdeal.main_arg0) = m ((c.tc : Thread Cert.SsdDInDtIdeal.nD Cert.SsdDInDtIdeal.τ).loc Cert.SsdDInDtIdeal.main_arg0)
      ∧ r.2.mem ((c.tc : Thread Cert.SsdDInDtIdeal.nD Cert.SsdDInDtIdeal.τ).loc Cert.SsdDInDtIdeal.main_arg1) = m ((c.tc : Thread Cert.SsdDInDtIdeal.nD Cert.SsdDInDtIdeal.τ).loc Cert.SsdDInDtIdeal.main_arg1)
      ∧ r.2.mem ((c.tc : Thread Cert.SsdDInDtIdeal.nD Cert.SsdDInDtIdeal.τ).loc Cert.SsdDInDtIdeal.main_arg2) = m ((c.tc : Thread Cert.SsdDInDtIdeal.nD Cert.SsdDInDtIdeal.τ).loc Cert.SsdDInDtIdeal.main_arg2)
      ∧ r.2.mem ((c.tc : Thread Cert.SsdDInDtIdeal.nD Cert.SsdDInDtIdeal.τ).loc Cert.SsdDInDtIdeal.main_arg3) = m ((c.tc : Thread Cert.SsdDInDtIdeal.nD Cert.SsdDInDtIdeal.τ).loc Cert.SsdDInDtIdeal.main_arg3))
      ∧ r.2.sem = fun _ => 0)

def quiescent_SsdDInDtRefIdeal [hSsdDInDtRefIdeal : Cert.SsdDInDtRefIdeal.Facts] : Prop :=
  ∀ (m : (ℓ : Loc Cert.SsdDInDtRefIdeal.nD Cert.SsdDInDtRefIdeal.τ Cert.SsdDInDtRefIdeal.sig) → Buf (Elt Ideal) ℓ) (g : Dev Cert.SsdDInDtRefIdeal.nD → PrngReg), Pre_SsdDInDtRefIdeal m →
    θ_run (Cert.SsdDInDtRefIdeal.defs (F := Ideal)) (onTc (τ := Cert.SsdDInDtRefIdeal.τ) (Cert.SsdDInDtRefIdeal.main (F := Ideal))) ⟨m, fun _ => 0, g⟩ (fun r => (∀ c : Dev Cert.SsdDInDtRefIdeal.nD,
      r.2.mem ((c.tc : Thread Cert.SsdDInDtRefIdeal.nD Cert.SsdDInDtRefIdeal.τ).loc Cert.SsdDInDtRefIdeal.main_arg0) = m ((c.tc : Thread Cert.SsdDInDtRefIdeal.nD Cert.SsdDInDtRefIdeal.τ).loc Cert.SsdDInDtRefIdeal.main_arg0)
      ∧ r.2.mem ((c.tc : Thread Cert.SsdDInDtRefIdeal.nD Cert.SsdDInDtRefIdeal.τ).loc Cert.SsdDInDtRefIdeal.main_arg1) = m ((c.tc : Thread Cert.SsdDInDtRefIdeal.nD Cert.SsdDInDtRefIdeal.τ).loc Cert.SsdDInDtRefIdeal.main_arg1)
      ∧ r.2.mem ((c.tc : Thread Cert.SsdDInDtRefIdeal.nD Cert.SsdDInDtRefIdeal.τ).loc Cert.SsdDInDtRefIdeal.main_arg2) = m ((c.tc : Thread Cert.SsdDInDtRefIdeal.nD Cert.SsdDInDtRefIdeal.τ).loc Cert.SsdDInDtRefIdeal.main_arg2)
      ∧ r.2.mem ((c.tc : Thread Cert.SsdDInDtRefIdeal.nD Cert.SsdDInDtRefIdeal.τ).loc Cert.SsdDInDtRefIdeal.main_arg3) = m ((c.tc : Thread Cert.SsdDInDtRefIdeal.nD Cert.SsdDInDtRefIdeal.τ).loc Cert.SsdDInDtRefIdeal.main_arg3))
      ∧ r.2.sem = fun _ => 0)

def quiescent_NormMod [hNormMod : Cert.NormMod.Facts] : Prop :=
  ∀ (m : (ℓ : Loc Cert.NormMod.nD Cert.NormMod.τ Cert.NormMod.sig) → Buf (Elt Bits) ℓ) (g : Dev Cert.NormMod.nD → PrngReg), Pre_NormMod m →
    θ_run (Cert.NormMod.defs (F := Bits)) (onTc (τ := Cert.NormMod.τ) (Cert.NormMod.main (F := Bits))) ⟨m, fun _ => 0, g⟩ (fun r => (∀ c : Dev Cert.NormMod.nD,
      r.2.mem ((c.tc : Thread Cert.NormMod.nD Cert.NormMod.τ).loc Cert.NormMod.main_arg0) = m ((c.tc : Thread Cert.NormMod.nD Cert.NormMod.τ).loc Cert.NormMod.main_arg0)
      ∧ r.2.mem ((c.tc : Thread Cert.NormMod.nD Cert.NormMod.τ).loc Cert.NormMod.main_arg1) = m ((c.tc : Thread Cert.NormMod.nD Cert.NormMod.τ).loc Cert.NormMod.main_arg1)
      ∧ r.2.mem ((c.tc : Thread Cert.NormMod.nD Cert.NormMod.τ).loc Cert.NormMod.main_arg2) = m ((c.tc : Thread Cert.NormMod.nD Cert.NormMod.τ).loc Cert.NormMod.main_arg2)
      ∧ r.2.mem ((c.tc : Thread Cert.NormMod.nD Cert.NormMod.τ).loc Cert.NormMod.main_arg3) = m ((c.tc : Thread Cert.NormMod.nD Cert.NormMod.τ).loc Cert.NormMod.main_arg3))
      ∧ r.2.sem = fun _ => 0)

def quiescent_NormModIdeal [hNormModIdeal : Cert.NormModIdeal.Facts] : Prop :=
  ∀ (m : (ℓ : Loc Cert.NormModIdeal.nD Cert.NormModIdeal.τ Cert.NormModIdeal.sig) → Buf (Elt Ideal) ℓ) (g : Dev Cert.NormModIdeal.nD → PrngReg), Pre_NormModIdeal m →
    θ_run (Cert.NormModIdeal.defs (F := Ideal)) (onTc (τ := Cert.NormModIdeal.τ) (Cert.NormModIdeal.main (F := Ideal))) ⟨m, fun _ => 0, g⟩ (fun r => (∀ c : Dev Cert.NormModIdeal.nD,
      r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
      ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
      ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
      ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ r.2.sem = fun _ => 0)

def quiescent_NormModRefIdeal [hNormModRefIdeal : Cert.NormModRefIdeal.Facts] : Prop :=
  ∀ (m : (ℓ : Loc Cert.NormModRefIdeal.nD Cert.NormModRefIdeal.τ Cert.NormModRefIdeal.sig) → Buf (Elt Ideal) ℓ) (g : Dev Cert.NormModRefIdeal.nD → PrngReg), Pre_NormModRefIdeal m →
    θ_run (Cert.NormModRefIdeal.defs (F := Ideal)) (onTc (τ := Cert.NormModRefIdeal.τ) (Cert.NormModRefIdeal.main (F := Ideal))) ⟨m, fun _ => 0, g⟩ (fun r => (∀ c : Dev Cert.NormModRefIdeal.nD,
      r.2.mem ((c.tc : Thread Cert.NormModRefIdeal.nD Cert.NormModRefIdeal.τ).loc Cert.NormModRefIdeal.main_arg0) = m ((c.tc : Thread Cert.NormModRefIdeal.nD Cert.NormModRefIdeal.τ).loc Cert.NormModRefIdeal.main_arg0)
      ∧ r.2.mem ((c.tc : Thread Cert.NormModRefIdeal.nD Cert.NormModRefIdeal.τ).loc Cert.NormModRefIdeal.main_arg1) = m ((c.tc : Thread Cert.NormModRefIdeal.nD Cert.NormModRefIdeal.τ).loc Cert.NormModRefIdeal.main_arg1)
      ∧ r.2.mem ((c.tc : Thread Cert.NormModRefIdeal.nD Cert.NormModRefIdeal.τ).loc Cert.NormModRefIdeal.main_arg2) = m ((c.tc : Thread Cert.NormModRefIdeal.nD Cert.NormModRefIdeal.τ).loc Cert.NormModRefIdeal.main_arg2)
      ∧ r.2.mem ((c.tc : Thread Cert.NormModRefIdeal.nD Cert.NormModRefIdeal.τ).loc Cert.NormModRefIdeal.main_arg3) = m ((c.tc : Thread Cert.NormModRefIdeal.nD Cert.NormModRefIdeal.τ).loc Cert.NormModRefIdeal.main_arg3))
      ∧ r.2.sem = fun _ => 0)

def quiescent_Gelu [hGelu : Cert.Gelu.Facts] : Prop :=
  ∀ (m : (ℓ : Loc Cert.Gelu.nD Cert.Gelu.τ Cert.Gelu.sig) → Buf (Elt Bits) ℓ) (g : Dev Cert.Gelu.nD → PrngReg), Pre_Gelu m →
    θ_run (Cert.Gelu.defs (F := Bits)) (onTc (τ := Cert.Gelu.τ) (Cert.Gelu.main (F := Bits))) ⟨m, fun _ => 0, g⟩ (fun r => (∀ c : Dev Cert.Gelu.nD,
      r.2.mem ((c.tc : Thread Cert.Gelu.nD Cert.Gelu.τ).loc Cert.Gelu.main_arg0) = m ((c.tc : Thread Cert.Gelu.nD Cert.Gelu.τ).loc Cert.Gelu.main_arg0)
      ∧ r.2.mem ((c.tc : Thread Cert.Gelu.nD Cert.Gelu.τ).loc Cert.Gelu.main_arg1) = m ((c.tc : Thread Cert.Gelu.nD Cert.Gelu.τ).loc Cert.Gelu.main_arg1)
      ∧ r.2.mem ((c.tc : Thread Cert.Gelu.nD Cert.Gelu.τ).loc Cert.Gelu.main_arg2) = m ((c.tc : Thread Cert.Gelu.nD Cert.Gelu.τ).loc Cert.Gelu.main_arg2))
      ∧ r.2.sem = fun _ => 0)

def quiescent_GeluIdeal [hGeluIdeal : Cert.GeluIdeal.Facts] : Prop :=
  ∀ (m : (ℓ : Loc Cert.GeluIdeal.nD Cert.GeluIdeal.τ Cert.GeluIdeal.sig) → Buf (Elt Ideal) ℓ) (g : Dev Cert.GeluIdeal.nD → PrngReg), Pre_GeluIdeal m →
    θ_run (Cert.GeluIdeal.defs (F := Ideal)) (onTc (τ := Cert.GeluIdeal.τ) (Cert.GeluIdeal.main (F := Ideal))) ⟨m, fun _ => 0, g⟩ (fun r => (∀ c : Dev Cert.GeluIdeal.nD,
      r.2.mem ((c.tc : Thread Cert.GeluIdeal.nD Cert.GeluIdeal.τ).loc Cert.GeluIdeal.main_arg0) = m ((c.tc : Thread Cert.GeluIdeal.nD Cert.GeluIdeal.τ).loc Cert.GeluIdeal.main_arg0)
      ∧ r.2.mem ((c.tc : Thread Cert.GeluIdeal.nD Cert.GeluIdeal.τ).loc Cert.GeluIdeal.main_arg1) = m ((c.tc : Thread Cert.GeluIdeal.nD Cert.GeluIdeal.τ).loc Cert.GeluIdeal.main_arg1)
      ∧ r.2.mem ((c.tc : Thread Cert.GeluIdeal.nD Cert.GeluIdeal.τ).loc Cert.GeluIdeal.main_arg2) = m ((c.tc : Thread Cert.GeluIdeal.nD Cert.GeluIdeal.τ).loc Cert.GeluIdeal.main_arg2))
      ∧ r.2.sem = fun _ => 0)

def quiescent_GeluRefIdeal [hGeluRefIdeal : Cert.GeluRefIdeal.Facts] : Prop :=
  ∀ (m : (ℓ : Loc Cert.GeluRefIdeal.nD Cert.GeluRefIdeal.τ Cert.GeluRefIdeal.sig) → Buf (Elt Ideal) ℓ) (g : Dev Cert.GeluRefIdeal.nD → PrngReg), Pre_GeluRefIdeal m →
    θ_run (Cert.GeluRefIdeal.defs (F := Ideal)) (onTc (τ := Cert.GeluRefIdeal.τ) (Cert.GeluRefIdeal.main (F := Ideal))) ⟨m, fun _ => 0, g⟩ (fun r => (∀ c : Dev Cert.GeluRefIdeal.nD,
      r.2.mem ((c.tc : Thread Cert.GeluRefIdeal.nD Cert.GeluRefIdeal.τ).loc Cert.GeluRefIdeal.main_arg0) = m ((c.tc : Thread Cert.GeluRefIdeal.nD Cert.GeluRefIdeal.τ).loc Cert.GeluRefIdeal.main_arg0)
      ∧ r.2.mem ((c.tc : Thread Cert.GeluRefIdeal.nD Cert.GeluRefIdeal.τ).loc Cert.GeluRefIdeal.main_arg1) = m ((c.tc : Thread Cert.GeluRefIdeal.nD Cert.GeluRefIdeal.τ).loc Cert.GeluRefIdeal.main_arg1)
      ∧ r.2.mem ((c.tc : Thread Cert.GeluRefIdeal.nD Cert.GeluRefIdeal.τ).loc Cert.GeluRefIdeal.main_arg2) = m ((c.tc : Thread Cert.GeluRefIdeal.nD Cert.GeluRefIdeal.τ).loc Cert.GeluRefIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3))
      ∧ r.2.sem = fun _ => 0)

def quiescent_GluGrad [hGluGrad : Cert.GluGrad.Facts] : Prop :=
  ∀ (m : (ℓ : Loc Cert.GluGrad.nD Cert.GluGrad.τ Cert.GluGrad.sig) → Buf (Elt Bits) ℓ) (g : Dev Cert.GluGrad.nD → PrngReg), Pre_GluGrad m →
    θ_run (Cert.GluGrad.defs (F := Bits)) (onTc (τ := Cert.GluGrad.τ) (Cert.GluGrad.main (F := Bits))) ⟨m, fun _ => 0, g⟩ (fun r => (∀ c : Dev Cert.GluGrad.nD,
      r.2.mem ((c.tc : Thread Cert.GluGrad.nD Cert.GluGrad.τ).loc Cert.GluGrad.main_arg0) = m ((c.tc : Thread Cert.GluGrad.nD Cert.GluGrad.τ).loc Cert.GluGrad.main_arg0)
      ∧ r.2.mem ((c.tc : Thread Cert.GluGrad.nD Cert.GluGrad.τ).loc Cert.GluGrad.main_arg1) = m ((c.tc : Thread Cert.GluGrad.nD Cert.GluGrad.τ).loc Cert.GluGrad.main_arg1)
      ∧ r.2.mem ((c.tc : Thread Cert.GluGrad.nD Cert.GluGrad.τ).loc Cert.GluGrad.main_arg2) = m ((c.tc : Thread Cert.GluGrad.nD Cert.GluGrad.τ).loc Cert.GluGrad.main_arg2)
      ∧ r.2.mem ((c.tc : Thread Cert.GluGrad.nD Cert.GluGrad.τ).loc Cert.GluGrad.main_arg3) = m ((c.tc : Thread Cert.GluGrad.nD Cert.GluGrad.τ).loc Cert.GluGrad.main_arg3))
      ∧ r.2.sem = fun _ => 0)

def quiescent_GluGradIdeal [hGluGradIdeal : Cert.GluGradIdeal.Facts] : Prop :=
  ∀ (m : (ℓ : Loc Cert.GluGradIdeal.nD Cert.GluGradIdeal.τ Cert.GluGradIdeal.sig) → Buf (Elt Ideal) ℓ) (g : Dev Cert.GluGradIdeal.nD → PrngReg), Pre_GluGradIdeal m →
    θ_run (Cert.GluGradIdeal.defs (F := Ideal)) (onTc (τ := Cert.GluGradIdeal.τ) (Cert.GluGradIdeal.main (F := Ideal))) ⟨m, fun _ => 0, g⟩ (fun r => (∀ c : Dev Cert.GluGradIdeal.nD,
      r.2.mem ((c.tc : Thread Cert.GluGradIdeal.nD Cert.GluGradIdeal.τ).loc Cert.GluGradIdeal.main_arg0) = m ((c.tc : Thread Cert.GluGradIdeal.nD Cert.GluGradIdeal.τ).loc Cert.GluGradIdeal.main_arg0)
      ∧ r.2.mem ((c.tc : Thread Cert.GluGradIdeal.nD Cert.GluGradIdeal.τ).loc Cert.GluGradIdeal.main_arg1) = m ((c.tc : Thread Cert.GluGradIdeal.nD Cert.GluGradIdeal.τ).loc Cert.GluGradIdeal.main_arg1)
      ∧ r.2.mem ((c.tc : Thread Cert.GluGradIdeal.nD Cert.GluGradIdeal.τ).loc Cert.GluGradIdeal.main_arg2) = m ((c.tc : Thread Cert.GluGradIdeal.nD Cert.GluGradIdeal.τ).loc Cert.GluGradIdeal.main_arg2)
      ∧ r.2.mem ((c.tc : Thread Cert.GluGradIdeal.nD Cert.GluGradIdeal.τ).loc Cert.GluGradIdeal.main_arg3) = m ((c.tc : Thread Cert.GluGradIdeal.nD Cert.GluGradIdeal.τ).loc Cert.GluGradIdeal.main_arg3))
      ∧ r.2.sem = fun _ => 0)

def quiescent_GluGradRefIdeal [hGluGradRefIdeal : Cert.GluGradRefIdeal.Facts] : Prop :=
  ∀ (m : (ℓ : Loc Cert.GluGradRefIdeal.nD Cert.GluGradRefIdeal.τ Cert.GluGradRefIdeal.sig) → Buf (Elt Ideal) ℓ) (g : Dev Cert.GluGradRefIdeal.nD → PrngReg), Pre_GluGradRefIdeal m →
    θ_run (Cert.GluGradRefIdeal.defs (F := Ideal)) (onTc (τ := Cert.GluGradRefIdeal.τ) (Cert.GluGradRefIdeal.main (F := Ideal))) ⟨m, fun _ => 0, g⟩ (fun r => (∀ c : Dev Cert.GluGradRefIdeal.nD,
      r.2.mem ((c.tc : Thread Cert.GluGradRefIdeal.nD Cert.GluGradRefIdeal.τ).loc Cert.GluGradRefIdeal.main_arg0) = m ((c.tc : Thread Cert.GluGradRefIdeal.nD Cert.GluGradRefIdeal.τ).loc Cert.GluGradRefIdeal.main_arg0)
      ∧ r.2.mem ((c.tc : Thread Cert.GluGradRefIdeal.nD Cert.GluGradRefIdeal.τ).loc Cert.GluGradRefIdeal.main_arg1) = m ((c.tc : Thread Cert.GluGradRefIdeal.nD Cert.GluGradRefIdeal.τ).loc Cert.GluGradRefIdeal.main_arg1)
      ∧ r.2.mem ((c.tc : Thread Cert.GluGradRefIdeal.nD Cert.GluGradRefIdeal.τ).loc Cert.GluGradRefIdeal.main_arg2) = m ((c.tc : Thread Cert.GluGradRefIdeal.nD Cert.GluGradRefIdeal.τ).loc Cert.GluGradRefIdeal.main_arg2)
      ∧ r.2.mem ((c.tc : Thread Cert.GluGradRefIdeal.nD Cert.GluGradRefIdeal.τ).loc Cert.GluGradRefIdeal.main_arg3) = m ((c.tc : Thread Cert.GluGradRefIdeal.nD Cert.GluGradRefIdeal.τ).loc Cert.GluGradRefIdeal.main_arg3))
      ∧ r.2.sem = fun _ => 0)

def quiescent_GateNorm [hGateNorm : Cert.GateNorm.Facts] : Prop :=
  ∀ (m : (ℓ : Loc Cert.GateNorm.nD Cert.GateNorm.τ Cert.GateNorm.sig) → Buf (Elt Bits) ℓ) (g : Dev Cert.GateNorm.nD → PrngReg), Pre_GateNorm m →
    θ_run (Cert.GateNorm.defs (F := Bits)) (onTc (τ := Cert.GateNorm.τ) (Cert.GateNorm.main (F := Bits))) ⟨m, fun _ => 0, g⟩ (fun r => (∀ c : Dev Cert.GateNorm.nD,
      r.2.mem ((c.tc : Thread Cert.GateNorm.nD Cert.GateNorm.τ).loc Cert.GateNorm.main_arg0) = m ((c.tc : Thread Cert.GateNorm.nD Cert.GateNorm.τ).loc Cert.GateNorm.main_arg0)
      ∧ r.2.mem ((c.tc : Thread Cert.GateNorm.nD Cert.GateNorm.τ).loc Cert.GateNorm.main_arg1) = m ((c.tc : Thread Cert.GateNorm.nD Cert.GateNorm.τ).loc Cert.GateNorm.main_arg1)
      ∧ r.2.mem ((c.tc : Thread Cert.GateNorm.nD Cert.GateNorm.τ).loc Cert.GateNorm.main_arg2) = m ((c.tc : Thread Cert.GateNorm.nD Cert.GateNorm.τ).loc Cert.GateNorm.main_arg2))
      ∧ r.2.sem = fun _ => 0)

def quiescent_GateNormIdeal [hGateNormIdeal : Cert.GateNormIdeal.Facts] : Prop :=
  ∀ (m : (ℓ : Loc Cert.GateNormIdeal.nD Cert.GateNormIdeal.τ Cert.GateNormIdeal.sig) → Buf (Elt Ideal) ℓ) (g : Dev Cert.GateNormIdeal.nD → PrngReg), Pre_GateNormIdeal m →
    θ_run (Cert.GateNormIdeal.defs (F := Ideal)) (onTc (τ := Cert.GateNormIdeal.τ) (Cert.GateNormIdeal.main (F := Ideal))) ⟨m, fun _ => 0, g⟩ (fun r => (∀ c : Dev Cert.GateNormIdeal.nD,
      r.2.mem ((c.tc : Thread Cert.GateNormIdeal.nD Cert.GateNormIdeal.τ).loc Cert.GateNormIdeal.main_arg0) = m ((c.tc : Thread Cert.GateNormIdeal.nD Cert.GateNormIdeal.τ).loc Cert.GateNormIdeal.main_arg0)
      ∧ r.2.mem ((c.tc : Thread Cert.GateNormIdeal.nD Cert.GateNormIdeal.τ).loc Cert.GateNormIdeal.main_arg1) = m ((c.tc : Thread Cert.GateNormIdeal.nD Cert.GateNormIdeal.τ).loc Cert.GateNormIdeal.main_arg1)
      ∧ r.2.mem ((c.tc : Thread Cert.GateNormIdeal.nD Cert.GateNormIdeal.τ).loc Cert.GateNormIdeal.main_arg2) = m ((c.tc : Thread Cert.GateNormIdeal.nD Cert.GateNormIdeal.τ).loc Cert.GateNormIdeal.main_arg2))
      ∧ r.2.sem = fun _ => 0)

def quiescent_GateNormRefIdeal [hGateNormRefIdeal : Cert.GateNormRefIdeal.Facts] : Prop :=
  ∀ (m : (ℓ : Loc Cert.GateNormRefIdeal.nD Cert.GateNormRefIdeal.τ Cert.GateNormRefIdeal.sig) → Buf (Elt Ideal) ℓ) (g : Dev Cert.GateNormRefIdeal.nD → PrngReg), Pre_GateNormRefIdeal m →
    θ_run (Cert.GateNormRefIdeal.defs (F := Ideal)) (onTc (τ := Cert.GateNormRefIdeal.τ) (Cert.GateNormRefIdeal.main (F := Ideal))) ⟨m, fun _ => 0, g⟩ (fun r => (∀ c : Dev Cert.GateNormRefIdeal.nD,
      r.2.mem ((c.tc : Thread Cert.GateNormRefIdeal.nD Cert.GateNormRefIdeal.τ).loc Cert.GateNormRefIdeal.main_arg0) = m ((c.tc : Thread Cert.GateNormRefIdeal.nD Cert.GateNormRefIdeal.τ).loc Cert.GateNormRefIdeal.main_arg0)
      ∧ r.2.mem ((c.tc : Thread Cert.GateNormRefIdeal.nD Cert.GateNormRefIdeal.τ).loc Cert.GateNormRefIdeal.main_arg1) = m ((c.tc : Thread Cert.GateNormRefIdeal.nD Cert.GateNormRefIdeal.τ).loc Cert.GateNormRefIdeal.main_arg1)
      ∧ r.2.mem ((c.tc : Thread Cert.GateNormRefIdeal.nD Cert.GateNormRefIdeal.τ).loc Cert.GateNormRefIdeal.main_arg2) = m ((c.tc : Thread Cert.GateNormRefIdeal.nD Cert.GateNormRefIdeal.τ).loc Cert.GateNormRefIdeal.main_arg2))
      ∧ r.2.sem = fun _ => 0)

def quiescent_AdamMlp [hAdamMlp : Cert.AdamMlp.Facts] : Prop :=
  ∀ (m : (ℓ : Loc Cert.AdamMlp.nD Cert.AdamMlp.τ Cert.AdamMlp.sig) → Buf (Elt Bits) ℓ) (g : Dev Cert.AdamMlp.nD → PrngReg), Pre_AdamMlp m →
    θ_run (Cert.AdamMlp.defs (F := Bits)) (onTc (τ := Cert.AdamMlp.τ) (Cert.AdamMlp.main (F := Bits))) ⟨m, fun _ => 0, g⟩ (fun r => (∀ c : Dev Cert.AdamMlp.nD,
      r.2.mem ((c.tc : Thread Cert.AdamMlp.nD Cert.AdamMlp.τ).loc Cert.AdamMlp.main_arg0) = m ((c.tc : Thread Cert.AdamMlp.nD Cert.AdamMlp.τ).loc Cert.AdamMlp.main_arg0)
      ∧ r.2.mem ((c.tc : Thread Cert.AdamMlp.nD Cert.AdamMlp.τ).loc Cert.AdamMlp.main_arg1) = m ((c.tc : Thread Cert.AdamMlp.nD Cert.AdamMlp.τ).loc Cert.AdamMlp.main_arg1)
      ∧ r.2.mem ((c.tc : Thread Cert.AdamMlp.nD Cert.AdamMlp.τ).loc Cert.AdamMlp.main_arg2) = m ((c.tc : Thread Cert.AdamMlp.nD Cert.AdamMlp.τ).loc Cert.AdamMlp.main_arg2)
      ∧ r.2.mem ((c.tc : Thread Cert.AdamMlp.nD Cert.AdamMlp.τ).loc Cert.AdamMlp.main_arg3) = m ((c.tc : Thread Cert.AdamMlp.nD Cert.AdamMlp.τ).loc Cert.AdamMlp.main_arg3)
      ∧ r.2.mem ((c.tc : Thread Cert.AdamMlp.nD Cert.AdamMlp.τ).loc Cert.AdamMlp.main_arg4) = m ((c.tc : Thread Cert.AdamMlp.nD Cert.AdamMlp.τ).loc Cert.AdamMlp.main_arg4))
      ∧ r.2.sem = fun _ => 0)

def quiescent_AdamMlpIdeal [hAdamMlpIdeal : Cert.AdamMlpIdeal.Facts] : Prop :=
  ∀ (m : (ℓ : Loc Cert.AdamMlpIdeal.nD Cert.AdamMlpIdeal.τ Cert.AdamMlpIdeal.sig) → Buf (Elt Ideal) ℓ) (g : Dev Cert.AdamMlpIdeal.nD → PrngReg), Pre_AdamMlpIdeal m →
    θ_run (Cert.AdamMlpIdeal.defs (F := Ideal)) (onTc (τ := Cert.AdamMlpIdeal.τ) (Cert.AdamMlpIdeal.main (F := Ideal))) ⟨m, fun _ => 0, g⟩ (fun r => (∀ c : Dev Cert.AdamMlpIdeal.nD,
      r.2.mem ((c.tc : Thread Cert.AdamMlpIdeal.nD Cert.AdamMlpIdeal.τ).loc Cert.AdamMlpIdeal.main_arg0) = m ((c.tc : Thread Cert.AdamMlpIdeal.nD Cert.AdamMlpIdeal.τ).loc Cert.AdamMlpIdeal.main_arg0)
      ∧ r.2.mem ((c.tc : Thread Cert.AdamMlpIdeal.nD Cert.AdamMlpIdeal.τ).loc Cert.AdamMlpIdeal.main_arg1) = m ((c.tc : Thread Cert.AdamMlpIdeal.nD Cert.AdamMlpIdeal.τ).loc Cert.AdamMlpIdeal.main_arg1)
      ∧ r.2.mem ((c.tc : Thread Cert.AdamMlpIdeal.nD Cert.AdamMlpIdeal.τ).loc Cert.AdamMlpIdeal.main_arg2) = m ((c.tc : Thread Cert.AdamMlpIdeal.nD Cert.AdamMlpIdeal.τ).loc Cert.AdamMlpIdeal.main_arg2)
      ∧ r.2.mem ((c.tc : Thread Cert.AdamMlpIdeal.nD Cert.AdamMlpIdeal.τ).loc Cert.AdamMlpIdeal.main_arg3) = m ((c.tc : Thread Cert.AdamMlpIdeal.nD Cert.AdamMlpIdeal.τ).loc Cert.AdamMlpIdeal.main_arg3)
      ∧ r.2.mem ((c.tc : Thread Cert.AdamMlpIdeal.nD Cert.AdamMlpIdeal.τ).loc Cert.AdamMlpIdeal.main_arg4) = m ((c.tc : Thread Cert.AdamMlpIdeal.nD Cert.AdamMlpIdeal.τ).loc Cert.AdamMlpIdeal.main_arg4))
      ∧ r.2.sem = fun _ => 0)

def quiescent_AdamMlpRefIdeal [hAdamMlpRefIdeal : Cert.AdamMlpRefIdeal.Facts] : Prop :=
  ∀ (m : (ℓ : Loc Cert.AdamMlpRefIdeal.nD Cert.AdamMlpRefIdeal.τ Cert.AdamMlpRefIdeal.sig) → Buf (Elt Ideal) ℓ) (g : Dev Cert.AdamMlpRefIdeal.nD → PrngReg), Pre_AdamMlpRefIdeal m →
    θ_run (Cert.AdamMlpRefIdeal.defs (F := Ideal)) (onTc (τ := Cert.AdamMlpRefIdeal.τ) (Cert.AdamMlpRefIdeal.main (F := Ideal))) ⟨m, fun _ => 0, g⟩ (fun r => (∀ c : Dev Cert.AdamMlpRefIdeal.nD,
      r.2.mem ((c.tc : Thread Cert.AdamMlpRefIdeal.nD Cert.AdamMlpRefIdeal.τ).loc Cert.AdamMlpRefIdeal.main_arg0) = m ((c.tc : Thread Cert.AdamMlpRefIdeal.nD Cert.AdamMlpRefIdeal.τ).loc Cert.AdamMlpRefIdeal.main_arg0)
      ∧ r.2.mem ((c.tc : Thread Cert.AdamMlpRefIdeal.nD Cert.AdamMlpRefIdeal.τ).loc Cert.AdamMlpRefIdeal.main_arg1) = m ((c.tc : Thread Cert.AdamMlpRefIdeal.nD Cert.AdamMlpRefIdeal.τ).loc Cert.AdamMlpRefIdeal.main_arg1)
      ∧ r.2.mem ((c.tc : Thread Cert.AdamMlpRefIdeal.nD Cert.AdamMlpRefIdeal.τ).loc Cert.AdamMlpRefIdeal.main_arg2) = m ((c.tc : Thread Cert.AdamMlpRefIdeal.nD Cert.AdamMlpRefIdeal.τ).loc Cert.AdamMlpRefIdeal.main_arg2)
      ∧ r.2.mem ((c.tc : Thread Cert.AdamMlpRefIdeal.nD Cert.AdamMlpRefIdeal.τ).loc Cert.AdamMlpRefIdeal.main_arg3) = m ((c.tc : Thread Cert.AdamMlpRefIdeal.nD Cert.AdamMlpRefIdeal.τ).loc Cert.AdamMlpRefIdeal.main_arg3)
      ∧ r.2.mem ((c.tc : Thread Cert.AdamMlpRefIdeal.nD Cert.AdamMlpRefIdeal.τ).loc Cert.AdamMlpRefIdeal.main_arg4) = m ((c.tc : Thread Cert.AdamMlpRefIdeal.nD Cert.AdamMlpRefIdeal.τ).loc Cert.AdamMlpRefIdeal.main_arg4))
      ∧ r.2.sem = fun _ => 0)

def quiescent_AdamS5In [hAdamS5In : Cert.AdamS5In.Facts] : Prop :=
  ∀ (m : (ℓ : Loc Cert.AdamS5In.nD Cert.AdamS5In.τ Cert.AdamS5In.sig) → Buf (Elt Bits) ℓ) (g : Dev Cert.AdamS5In.nD → PrngReg), Pre_AdamS5In m →
    θ_run (Cert.AdamS5In.defs (F := Bits)) (onTc (τ := Cert.AdamS5In.τ) (Cert.AdamS5In.main (F := Bits))) ⟨m, fun _ => 0, g⟩ (fun r => (∀ c : Dev Cert.AdamS5In.nD,
      r.2.mem ((c.tc : Thread Cert.AdamS5In.nD Cert.AdamS5In.τ).loc Cert.AdamS5In.main_arg0) = m ((c.tc : Thread Cert.AdamS5In.nD Cert.AdamS5In.τ).loc Cert.AdamS5In.main_arg0)
      ∧ r.2.mem ((c.tc : Thread Cert.AdamS5In.nD Cert.AdamS5In.τ).loc Cert.AdamS5In.main_arg1) = m ((c.tc : Thread Cert.AdamS5In.nD Cert.AdamS5In.τ).loc Cert.AdamS5In.main_arg1)
      ∧ r.2.mem ((c.tc : Thread Cert.AdamS5In.nD Cert.AdamS5In.τ).loc Cert.AdamS5In.main_arg2) = m ((c.tc : Thread Cert.AdamS5In.nD Cert.AdamS5In.τ).loc Cert.AdamS5In.main_arg2)
      ∧ r.2.mem ((c.tc : Thread Cert.AdamS5In.nD Cert.AdamS5In.τ).loc Cert.AdamS5In.main_arg3) = m ((c.tc : Thread Cert.AdamS5In.nD Cert.AdamS5In.τ).loc Cert.AdamS5In.main_arg3)
      ∧ r.2.mem ((c.tc : Thread Cert.AdamS5In.nD Cert.AdamS5In.τ).loc Cert.AdamS5In.main_arg4) = m ((c.tc : Thread Cert.AdamS5In.nD Cert.AdamS5In.τ).loc Cert.AdamS5In.main_arg4))
      ∧ r.2.sem = fun _ => 0)

def quiescent_AdamS5InIdeal [hAdamS5InIdeal : Cert.AdamS5InIdeal.Facts] : Prop :=
  ∀ (m : (ℓ : Loc Cert.AdamS5InIdeal.nD Cert.AdamS5InIdeal.τ Cert.AdamS5InIdeal.sig) → Buf (Elt Ideal) ℓ) (g : Dev Cert.AdamS5InIdeal.nD → PrngReg), Pre_AdamS5InIdeal m →
    θ_run (Cert.AdamS5InIdeal.defs (F := Ideal)) (onTc (τ := Cert.AdamS5InIdeal.τ) (Cert.AdamS5InIdeal.main (F := Ideal))) ⟨m, fun _ => 0, g⟩ (fun r => (∀ c : Dev Cert.AdamS5InIdeal.nD,
      r.2.mem ((c.tc : Thread Cert.AdamS5InIdeal.nD Cert.AdamS5InIdeal.τ).loc Cert.AdamS5InIdeal.main_arg0) = m ((c.tc : Thread Cert.AdamS5InIdeal.nD Cert.AdamS5InIdeal.τ).loc Cert.AdamS5InIdeal.main_arg0)
      ∧ r.2.mem ((c.tc : Thread Cert.AdamS5InIdeal.nD Cert.AdamS5InIdeal.τ).loc Cert.AdamS5InIdeal.main_arg1) = m ((c.tc : Thread Cert.AdamS5InIdeal.nD Cert.AdamS5InIdeal.τ).loc Cert.AdamS5InIdeal.main_arg1)
      ∧ r.2.mem ((c.tc : Thread Cert.AdamS5InIdeal.nD Cert.AdamS5InIdeal.τ).loc Cert.AdamS5InIdeal.main_arg2) = m ((c.tc : Thread Cert.AdamS5InIdeal.nD Cert.AdamS5InIdeal.τ).loc Cert.AdamS5InIdeal.main_arg2)
      ∧ r.2.mem ((c.tc : Thread Cert.AdamS5InIdeal.nD Cert.AdamS5InIdeal.τ).loc Cert.AdamS5InIdeal.main_arg3) = m ((c.tc : Thread Cert.AdamS5InIdeal.nD Cert.AdamS5InIdeal.τ).loc Cert.AdamS5InIdeal.main_arg3)
      ∧ r.2.mem ((c.tc : Thread Cert.AdamS5InIdeal.nD Cert.AdamS5InIdeal.τ).loc Cert.AdamS5InIdeal.main_arg4) = m ((c.tc : Thread Cert.AdamS5InIdeal.nD Cert.AdamS5InIdeal.τ).loc Cert.AdamS5InIdeal.main_arg4))
      ∧ r.2.sem = fun _ => 0)

def quiescent_AdamS5InRefIdeal [hAdamS5InRefIdeal : Cert.AdamS5InRefIdeal.Facts] : Prop :=
  ∀ (m : (ℓ : Loc Cert.AdamS5InRefIdeal.nD Cert.AdamS5InRefIdeal.τ Cert.AdamS5InRefIdeal.sig) → Buf (Elt Ideal) ℓ) (g : Dev Cert.AdamS5InRefIdeal.nD → PrngReg), Pre_AdamS5InRefIdeal m →
    θ_run (Cert.AdamS5InRefIdeal.defs (F := Ideal)) (onTc (τ := Cert.AdamS5InRefIdeal.τ) (Cert.AdamS5InRefIdeal.main (F := Ideal))) ⟨m, fun _ => 0, g⟩ (fun r => (∀ c : Dev Cert.AdamS5InRefIdeal.nD,
      r.2.mem ((c.tc : Thread Cert.AdamS5InRefIdeal.nD Cert.AdamS5InRefIdeal.τ).loc Cert.AdamS5InRefIdeal.main_arg0) = m ((c.tc : Thread Cert.AdamS5InRefIdeal.nD Cert.AdamS5InRefIdeal.τ).loc Cert.AdamS5InRefIdeal.main_arg0)
      ∧ r.2.mem ((c.tc : Thread Cert.AdamS5InRefIdeal.nD Cert.AdamS5InRefIdeal.τ).loc Cert.AdamS5InRefIdeal.main_arg1) = m ((c.tc : Thread Cert.AdamS5InRefIdeal.nD Cert.AdamS5InRefIdeal.τ).loc Cert.AdamS5InRefIdeal.main_arg1)
      ∧ r.2.mem ((c.tc : Thread Cert.AdamS5InRefIdeal.nD Cert.AdamS5InRefIdeal.τ).loc Cert.AdamS5InRefIdeal.main_arg2) = m ((c.tc : Thread Cert.AdamS5InRefIdeal.nD Cert.AdamS5InRefIdeal.τ).loc Cert.AdamS5InRefIdeal.main_arg2)
      ∧ r.2.mem ((c.tc : Thread Cert.AdamS5InRefIdeal.nD Cert.AdamS5InRefIdeal.τ).loc Cert.AdamS5InRefIdeal.main_arg3) = m ((c.tc : Thread Cert.AdamS5InRefIdeal.nD Cert.AdamS5InRefIdeal.τ).loc Cert.AdamS5InRefIdeal.main_arg3)
      ∧ r.2.mem ((c.tc : Thread Cert.AdamS5InRefIdeal.nD Cert.AdamS5InRefIdeal.τ).loc Cert.AdamS5InRefIdeal.main_arg4) = m ((c.tc : Thread Cert.AdamS5InRefIdeal.nD Cert.AdamS5InRefIdeal.τ).loc Cert.AdamS5InRefIdeal.main_arg4))
      ∧ r.2.sem = fun _ => 0)

def quiescent_AdamS5Glu [hAdamS5Glu : Cert.AdamS5Glu.Facts] : Prop :=
  ∀ (m : (ℓ : Loc Cert.AdamS5Glu.nD Cert.AdamS5Glu.τ Cert.AdamS5Glu.sig) → Buf (Elt Bits) ℓ) (g : Dev Cert.AdamS5Glu.nD → PrngReg), Pre_AdamS5Glu m →
    θ_run (Cert.AdamS5Glu.defs (F := Bits)) (onTc (τ := Cert.AdamS5Glu.τ) (Cert.AdamS5Glu.main (F := Bits))) ⟨m, fun _ => 0, g⟩ (fun r => (∀ c : Dev Cert.AdamS5Glu.nD,
      r.2.mem ((c.tc : Thread Cert.AdamS5Glu.nD Cert.AdamS5Glu.τ).loc Cert.AdamS5Glu.main_arg0) = m ((c.tc : Thread Cert.AdamS5Glu.nD Cert.AdamS5Glu.τ).loc Cert.AdamS5Glu.main_arg0)
      ∧ r.2.mem ((c.tc : Thread Cert.AdamS5Glu.nD Cert.AdamS5Glu.τ).loc Cert.AdamS5Glu.main_arg1) = m ((c.tc : Thread Cert.AdamS5Glu.nD Cert.AdamS5Glu.τ).loc Cert.AdamS5Glu.main_arg1)
      ∧ r.2.mem ((c.tc : Thread Cert.AdamS5Glu.nD Cert.AdamS5Glu.τ).loc Cert.AdamS5Glu.main_arg2) = m ((c.tc : Thread Cert.AdamS5Glu.nD Cert.AdamS5Glu.τ).loc Cert.AdamS5Glu.main_arg2)
      ∧ r.2.mem ((c.tc : Thread Cert.AdamS5Glu.nD Cert.AdamS5Glu.τ).loc Cert.AdamS5Glu.main_arg3) = m ((c.tc : Thread Cert.AdamS5Glu.nD Cert.AdamS5Glu.τ).loc Cert.AdamS5Glu.main_arg3)
      ∧ r.2.mem ((c.tc : Thread Cert.AdamS5Glu.nD Cert.AdamS5Glu.τ).loc Cert.AdamS5Glu.main_arg4) = m ((c.tc : Thread Cert.AdamS5Glu.nD Cert.AdamS5Glu.τ).loc Cert.AdamS5Glu.main_arg4))
      ∧ r.2.sem = fun _ => 0)

def quiescent_AdamS5GluIdeal [hAdamS5GluIdeal : Cert.AdamS5GluIdeal.Facts] : Prop :=
  ∀ (m : (ℓ : Loc Cert.AdamS5GluIdeal.nD Cert.AdamS5GluIdeal.τ Cert.AdamS5GluIdeal.sig) → Buf (Elt Ideal) ℓ) (g : Dev Cert.AdamS5GluIdeal.nD → PrngReg), Pre_AdamS5GluIdeal m →
    θ_run (Cert.AdamS5GluIdeal.defs (F := Ideal)) (onTc (τ := Cert.AdamS5GluIdeal.τ) (Cert.AdamS5GluIdeal.main (F := Ideal))) ⟨m, fun _ => 0, g⟩ (fun r => (∀ c : Dev Cert.AdamS5GluIdeal.nD,
      r.2.mem ((c.tc : Thread Cert.AdamS5GluIdeal.nD Cert.AdamS5GluIdeal.τ).loc Cert.AdamS5GluIdeal.main_arg0) = m ((c.tc : Thread Cert.AdamS5GluIdeal.nD Cert.AdamS5GluIdeal.τ).loc Cert.AdamS5GluIdeal.main_arg0)
      ∧ r.2.mem ((c.tc : Thread Cert.AdamS5GluIdeal.nD Cert.AdamS5GluIdeal.τ).loc Cert.AdamS5GluIdeal.main_arg1) = m ((c.tc : Thread Cert.AdamS5GluIdeal.nD Cert.AdamS5GluIdeal.τ).loc Cert.AdamS5GluIdeal.main_arg1)
      ∧ r.2.mem ((c.tc : Thread Cert.AdamS5GluIdeal.nD Cert.AdamS5GluIdeal.τ).loc Cert.AdamS5GluIdeal.main_arg2) = m ((c.tc : Thread Cert.AdamS5GluIdeal.nD Cert.AdamS5GluIdeal.τ).loc Cert.AdamS5GluIdeal.main_arg2)
      ∧ r.2.mem ((c.tc : Thread Cert.AdamS5GluIdeal.nD Cert.AdamS5GluIdeal.τ).loc Cert.AdamS5GluIdeal.main_arg3) = m ((c.tc : Thread Cert.AdamS5GluIdeal.nD Cert.AdamS5GluIdeal.τ).loc Cert.AdamS5GluIdeal.main_arg3)
      ∧ r.2.mem ((c.tc : Thread Cert.AdamS5GluIdeal.nD Cert.AdamS5GluIdeal.τ).loc Cert.AdamS5GluIdeal.main_arg4) = m ((c.tc : Thread Cert.AdamS5GluIdeal.nD Cert.AdamS5GluIdeal.τ).loc Cert.AdamS5GluIdeal.main_arg4))
      ∧ r.2.sem = fun _ => 0)

def quiescent_AdamS5GluRefIdeal [hAdamS5GluRefIdeal : Cert.AdamS5GluRefIdeal.Facts] : Prop :=
  ∀ (m : (ℓ : Loc Cert.AdamS5GluRefIdeal.nD Cert.AdamS5GluRefIdeal.τ Cert.AdamS5GluRefIdeal.sig) → Buf (Elt Ideal) ℓ) (g : Dev Cert.AdamS5GluRefIdeal.nD → PrngReg), Pre_AdamS5GluRefIdeal m →
    θ_run (Cert.AdamS5GluRefIdeal.defs (F := Ideal)) (onTc (τ := Cert.AdamS5GluRefIdeal.τ) (Cert.AdamS5GluRefIdeal.main (F := Ideal))) ⟨m, fun _ => 0, g⟩ (fun r => (∀ c : Dev Cert.AdamS5GluRefIdeal.nD,
      r.2.mem ((c.tc : Thread Cert.AdamS5GluRefIdeal.nD Cert.AdamS5GluRefIdeal.τ).loc Cert.AdamS5GluRefIdeal.main_arg0) = m ((c.tc : Thread Cert.AdamS5GluRefIdeal.nD Cert.AdamS5GluRefIdeal.τ).loc Cert.AdamS5GluRefIdeal.main_arg0)
      ∧ r.2.mem ((c.tc : Thread Cert.AdamS5GluRefIdeal.nD Cert.AdamS5GluRefIdeal.τ).loc Cert.AdamS5GluRefIdeal.main_arg1) = m ((c.tc : Thread Cert.AdamS5GluRefIdeal.nD Cert.AdamS5GluRefIdeal.τ).loc Cert.AdamS5GluRefIdeal.main_arg1)
      ∧ r.2.mem ((c.tc : Thread Cert.AdamS5GluRefIdeal.nD Cert.AdamS5GluRefIdeal.τ).loc Cert.AdamS5GluRefIdeal.main_arg2) = m ((c.tc : Thread Cert.AdamS5GluRefIdeal.nD Cert.AdamS5GluRefIdeal.τ).loc Cert.AdamS5GluRefIdeal.main_arg2)
      ∧ r.2.mem ((c.tc : Thread Cert.AdamS5GluRefIdeal.nD Cert.AdamS5GluRefIdeal.τ).loc Cert.AdamS5GluRefIdeal.main_arg3) = m ((c.tc : Thread Cert.AdamS5GluRefIdeal.nD Cert.AdamS5GluRefIdeal.τ).loc Cert.AdamS5GluRefIdeal.main_arg3)
      ∧ r.2.mem ((c.tc : Thread Cert.AdamS5GluRefIdeal.nD Cert.AdamS5GluRefIdeal.τ).loc Cert.AdamS5GluRefIdeal.main_arg4) = m ((c.tc : Thread Cert.AdamS5GluRefIdeal.nD Cert.AdamS5GluRefIdeal.τ).loc Cert.AdamS5GluRefIdeal.main_arg4))
      ∧ r.2.sem = fun _ => 0)

def quiescent_AdamSsdIn [hAdamSsdIn : Cert.AdamSsdIn.Facts] : Prop :=
  ∀ (m : (ℓ : Loc Cert.AdamSsdIn.nD Cert.AdamSsdIn.τ Cert.AdamSsdIn.sig) → Buf (Elt Bits) ℓ) (g : Dev Cert.AdamSsdIn.nD → PrngReg), Pre_AdamSsdIn m →
    θ_run (Cert.AdamSsdIn.defs (F := Bits)) (onTc (τ := Cert.AdamSsdIn.τ) (Cert.AdamSsdIn.main (F := Bits))) ⟨m, fun _ => 0, g⟩ (fun r => (∀ c : Dev Cert.AdamSsdIn.nD,
      r.2.mem ((c.tc : Thread Cert.AdamSsdIn.nD Cert.AdamSsdIn.τ).loc Cert.AdamSsdIn.main_arg0) = m ((c.tc : Thread Cert.AdamSsdIn.nD Cert.AdamSsdIn.τ).loc Cert.AdamSsdIn.main_arg0)
      ∧ r.2.mem ((c.tc : Thread Cert.AdamSsdIn.nD Cert.AdamSsdIn.τ).loc Cert.AdamSsdIn.main_arg1) = m ((c.tc : Thread Cert.AdamSsdIn.nD Cert.AdamSsdIn.τ).loc Cert.AdamSsdIn.main_arg1)
      ∧ r.2.mem ((c.tc : Thread Cert.AdamSsdIn.nD Cert.AdamSsdIn.τ).loc Cert.AdamSsdIn.main_arg2) = m ((c.tc : Thread Cert.AdamSsdIn.nD Cert.AdamSsdIn.τ).loc Cert.AdamSsdIn.main_arg2)
      ∧ r.2.mem ((c.tc : Thread Cert.AdamSsdIn.nD Cert.AdamSsdIn.τ).loc Cert.AdamSsdIn.main_arg3) = m ((c.tc : Thread Cert.AdamSsdIn.nD Cert.AdamSsdIn.τ).loc Cert.AdamSsdIn.main_arg3)
      ∧ r.2.mem ((c.tc : Thread Cert.AdamSsdIn.nD Cert.AdamSsdIn.τ).loc Cert.AdamSsdIn.main_arg4) = m ((c.tc : Thread Cert.AdamSsdIn.nD Cert.AdamSsdIn.τ).loc Cert.AdamSsdIn.main_arg4))
      ∧ r.2.sem = fun _ => 0)

def quiescent_AdamSsdInIdeal [hAdamSsdInIdeal : Cert.AdamSsdInIdeal.Facts] : Prop :=
  ∀ (m : (ℓ : Loc Cert.AdamSsdInIdeal.nD Cert.AdamSsdInIdeal.τ Cert.AdamSsdInIdeal.sig) → Buf (Elt Ideal) ℓ) (g : Dev Cert.AdamSsdInIdeal.nD → PrngReg), Pre_AdamSsdInIdeal m →
    θ_run (Cert.AdamSsdInIdeal.defs (F := Ideal)) (onTc (τ := Cert.AdamSsdInIdeal.τ) (Cert.AdamSsdInIdeal.main (F := Ideal))) ⟨m, fun _ => 0, g⟩ (fun r => (∀ c : Dev Cert.AdamSsdInIdeal.nD,
      r.2.mem ((c.tc : Thread Cert.AdamSsdInIdeal.nD Cert.AdamSsdInIdeal.τ).loc Cert.AdamSsdInIdeal.main_arg0) = m ((c.tc : Thread Cert.AdamSsdInIdeal.nD Cert.AdamSsdInIdeal.τ).loc Cert.AdamSsdInIdeal.main_arg0)
      ∧ r.2.mem ((c.tc : Thread Cert.AdamSsdInIdeal.nD Cert.AdamSsdInIdeal.τ).loc Cert.AdamSsdInIdeal.main_arg1) = m ((c.tc : Thread Cert.AdamSsdInIdeal.nD Cert.AdamSsdInIdeal.τ).loc Cert.AdamSsdInIdeal.main_arg1)
      ∧ r.2.mem ((c.tc : Thread Cert.AdamSsdInIdeal.nD Cert.AdamSsdInIdeal.τ).loc Cert.AdamSsdInIdeal.main_arg2) = m ((c.tc : Thread Cert.AdamSsdInIdeal.nD Cert.AdamSsdInIdeal.τ).loc Cert.AdamSsdInIdeal.main_arg2)
      ∧ r.2.mem ((c.tc : Thread Cert.AdamSsdInIdeal.nD Cert.AdamSsdInIdeal.τ).loc Cert.AdamSsdInIdeal.main_arg3) = m ((c.tc : Thread Cert.AdamSsdInIdeal.nD Cert.AdamSsdInIdeal.τ).loc Cert.AdamSsdInIdeal.main_arg3)
      ∧ r.2.mem ((c.tc : Thread Cert.AdamSsdInIdeal.nD Cert.AdamSsdInIdeal.τ).loc Cert.AdamSsdInIdeal.main_arg4) = m ((c.tc : Thread Cert.AdamSsdInIdeal.nD Cert.AdamSsdInIdeal.τ).loc Cert.AdamSsdInIdeal.main_arg4))
      ∧ r.2.sem = fun _ => 0)

def quiescent_AdamSsdInRefIdeal [hAdamSsdInRefIdeal : Cert.AdamSsdInRefIdeal.Facts] : Prop :=
  ∀ (m : (ℓ : Loc Cert.AdamSsdInRefIdeal.nD Cert.AdamSsdInRefIdeal.τ Cert.AdamSsdInRefIdeal.sig) → Buf (Elt Ideal) ℓ) (g : Dev Cert.AdamSsdInRefIdeal.nD → PrngReg), Pre_AdamSsdInRefIdeal m →
    θ_run (Cert.AdamSsdInRefIdeal.defs (F := Ideal)) (onTc (τ := Cert.AdamSsdInRefIdeal.τ) (Cert.AdamSsdInRefIdeal.main (F := Ideal))) ⟨m, fun _ => 0, g⟩ (fun r => (∀ c : Dev Cert.AdamSsdInRefIdeal.nD,
      r.2.mem ((c.tc : Thread Cert.AdamSsdInRefIdeal.nD Cert.AdamSsdInRefIdeal.τ).loc Cert.AdamSsdInRefIdeal.main_arg0) = m ((c.tc : Thread Cert.AdamSsdInRefIdeal.nD Cert.AdamSsdInRefIdeal.τ).loc Cert.AdamSsdInRefIdeal.main_arg0)
      ∧ r.2.mem ((c.tc : Thread Cert.AdamSsdInRefIdeal.nD Cert.AdamSsdInRefIdeal.τ).loc Cert.AdamSsdInRefIdeal.main_arg1) = m ((c.tc : Thread Cert.AdamSsdInRefIdeal.nD Cert.AdamSsdInRefIdeal.τ).loc Cert.AdamSsdInRefIdeal.main_arg1)
      ∧ r.2.mem ((c.tc : Thread Cert.AdamSsdInRefIdeal.nD Cert.AdamSsdInRefIdeal.τ).loc Cert.AdamSsdInRefIdeal.main_arg2) = m ((c.tc : Thread Cert.AdamSsdInRefIdeal.nD Cert.AdamSsdInRefIdeal.τ).loc Cert.AdamSsdInRefIdeal.main_arg2)
      ∧ r.2.mem ((c.tc : Thread Cert.AdamSsdInRefIdeal.nD Cert.AdamSsdInRefIdeal.τ).loc Cert.AdamSsdInRefIdeal.main_arg3) = m ((c.tc : Thread Cert.AdamSsdInRefIdeal.nD Cert.AdamSsdInRefIdeal.τ).loc Cert.AdamSsdInRefIdeal.main_arg3)
      ∧ r.2.mem ((c.tc : Thread Cert.AdamSsdInRefIdeal.nD Cert.AdamSsdInRefIdeal.τ).loc Cert.AdamSsdInRefIdeal.main_arg4) = m ((c.tc : Thread Cert.AdamSsdInRefIdeal.nD Cert.AdamSsdInRefIdeal.τ).loc Cert.AdamSsdInRefIdeal.main_arg4))
      ∧ r.2.sem = fun _ => 0)

def quiescent_AdamSsdOut [hAdamSsdOut : Cert.AdamSsdOut.Facts] : Prop :=
  ∀ (m : (ℓ : Loc Cert.AdamSsdOut.nD Cert.AdamSsdOut.τ Cert.AdamSsdOut.sig) → Buf (Elt Bits) ℓ) (g : Dev Cert.AdamSsdOut.nD → PrngReg), Pre_AdamSsdOut m →
    θ_run (Cert.AdamSsdOut.defs (F := Bits)) (onTc (τ := Cert.AdamSsdOut.τ) (Cert.AdamSsdOut.main (F := Bits))) ⟨m, fun _ => 0, g⟩ (fun r => (∀ c : Dev Cert.AdamSsdOut.nD,
      r.2.mem ((c.tc : Thread Cert.AdamSsdOut.nD Cert.AdamSsdOut.τ).loc Cert.AdamSsdOut.main_arg0) = m ((c.tc : Thread Cert.AdamSsdOut.nD Cert.AdamSsdOut.τ).loc Cert.AdamSsdOut.main_arg0)
      ∧ r.2.mem ((c.tc : Thread Cert.AdamSsdOut.nD Cert.AdamSsdOut.τ).loc Cert.AdamSsdOut.main_arg1) = m ((c.tc : Thread Cert.AdamSsdOut.nD Cert.AdamSsdOut.τ).loc Cert.AdamSsdOut.main_arg1)
      ∧ r.2.mem ((c.tc : Thread Cert.AdamSsdOut.nD Cert.AdamSsdOut.τ).loc Cert.AdamSsdOut.main_arg2) = m ((c.tc : Thread Cert.AdamSsdOut.nD Cert.AdamSsdOut.τ).loc Cert.AdamSsdOut.main_arg2)
      ∧ r.2.mem ((c.tc : Thread Cert.AdamSsdOut.nD Cert.AdamSsdOut.τ).loc Cert.AdamSsdOut.main_arg3) = m ((c.tc : Thread Cert.AdamSsdOut.nD Cert.AdamSsdOut.τ).loc Cert.AdamSsdOut.main_arg3)
      ∧ r.2.mem ((c.tc : Thread Cert.AdamSsdOut.nD Cert.AdamSsdOut.τ).loc Cert.AdamSsdOut.main_arg4) = m ((c.tc : Thread Cert.AdamSsdOut.nD Cert.AdamSsdOut.τ).loc Cert.AdamSsdOut.main_arg4))
      ∧ r.2.sem = fun _ => 0)

def quiescent_AdamSsdOutIdeal [hAdamSsdOutIdeal : Cert.AdamSsdOutIdeal.Facts] : Prop :=
  ∀ (m : (ℓ : Loc Cert.AdamSsdOutIdeal.nD Cert.AdamSsdOutIdeal.τ Cert.AdamSsdOutIdeal.sig) → Buf (Elt Ideal) ℓ) (g : Dev Cert.AdamSsdOutIdeal.nD → PrngReg), Pre_AdamSsdOutIdeal m →
    θ_run (Cert.AdamSsdOutIdeal.defs (F := Ideal)) (onTc (τ := Cert.AdamSsdOutIdeal.τ) (Cert.AdamSsdOutIdeal.main (F := Ideal))) ⟨m, fun _ => 0, g⟩ (fun r => (∀ c : Dev Cert.AdamSsdOutIdeal.nD,
      r.2.mem ((c.tc : Thread Cert.AdamSsdOutIdeal.nD Cert.AdamSsdOutIdeal.τ).loc Cert.AdamSsdOutIdeal.main_arg0) = m ((c.tc : Thread Cert.AdamSsdOutIdeal.nD Cert.AdamSsdOutIdeal.τ).loc Cert.AdamSsdOutIdeal.main_arg0)
      ∧ r.2.mem ((c.tc : Thread Cert.AdamSsdOutIdeal.nD Cert.AdamSsdOutIdeal.τ).loc Cert.AdamSsdOutIdeal.main_arg1) = m ((c.tc : Thread Cert.AdamSsdOutIdeal.nD Cert.AdamSsdOutIdeal.τ).loc Cert.AdamSsdOutIdeal.main_arg1)
      ∧ r.2.mem ((c.tc : Thread Cert.AdamSsdOutIdeal.nD Cert.AdamSsdOutIdeal.τ).loc Cert.AdamSsdOutIdeal.main_arg2) = m ((c.tc : Thread Cert.AdamSsdOutIdeal.nD Cert.AdamSsdOutIdeal.τ).loc Cert.AdamSsdOutIdeal.main_arg2)
      ∧ r.2.mem ((c.tc : Thread Cert.AdamSsdOutIdeal.nD Cert.AdamSsdOutIdeal.τ).loc Cert.AdamSsdOutIdeal.main_arg3) = m ((c.tc : Thread Cert.AdamSsdOutIdeal.nD Cert.AdamSsdOutIdeal.τ).loc Cert.AdamSsdOutIdeal.main_arg3)
      ∧ r.2.mem ((c.tc : Thread Cert.AdamSsdOutIdeal.nD Cert.AdamSsdOutIdeal.τ).loc Cert.AdamSsdOutIdeal.main_arg4) = m ((c.tc : Thread Cert.AdamSsdOutIdeal.nD Cert.AdamSsdOutIdeal.τ).loc Cert.AdamSsdOutIdeal.main_arg4))
      ∧ r.2.sem = fun _ => 0)

def quiescent_AdamSsdOutRefIdeal [hAdamSsdOutRefIdeal : Cert.AdamSsdOutRefIdeal.Facts] : Prop :=
  ∀ (m : (ℓ : Loc Cert.AdamSsdOutRefIdeal.nD Cert.AdamSsdOutRefIdeal.τ Cert.AdamSsdOutRefIdeal.sig) → Buf (Elt Ideal) ℓ) (g : Dev Cert.AdamSsdOutRefIdeal.nD → PrngReg), Pre_AdamSsdOutRefIdeal m →
    θ_run (Cert.AdamSsdOutRefIdeal.defs (F := Ideal)) (onTc (τ := Cert.AdamSsdOutRefIdeal.τ) (Cert.AdamSsdOutRefIdeal.main (F := Ideal))) ⟨m, fun _ => 0, g⟩ (fun r => (∀ c : Dev Cert.AdamSsdOutRefIdeal.nD,
      r.2.mem ((c.tc : Thread Cert.AdamSsdOutRefIdeal.nD Cert.AdamSsdOutRefIdeal.τ).loc Cert.AdamSsdOutRefIdeal.main_arg0) = m ((c.tc : Thread Cert.AdamSsdOutRefIdeal.nD Cert.AdamSsdOutRefIdeal.τ).loc Cert.AdamSsdOutRefIdeal.main_arg0)
      ∧ r.2.mem ((c.tc : Thread Cert.AdamSsdOutRefIdeal.nD Cert.AdamSsdOutRefIdeal.τ).loc Cert.AdamSsdOutRefIdeal.main_arg1) = m ((c.tc : Thread Cert.AdamSsdOutRefIdeal.nD Cert.AdamSsdOutRefIdeal.τ).loc Cert.AdamSsdOutRefIdeal.main_arg1)
      ∧ r.2.mem ((c.tc : Thread Cert.AdamSsdOutRefIdeal.nD Cert.AdamSsdOutRefIdeal.τ).loc Cert.AdamSsdOutRefIdeal.main_arg2) = m ((c.tc : Thread Cert.AdamSsdOutRefIdeal.nD Cert.AdamSsdOutRefIdeal.τ).loc Cert.AdamSsdOutRefIdeal.main_arg2)
      ∧ r.2.mem ((c.tc : Thread Cert.AdamSsdOutRefIdeal.nD Cert.AdamSsdOutRefIdeal.τ).loc Cert.AdamSsdOutRefIdeal.main_arg3) = m ((c.tc : Thread Cert.AdamSsdOutRefIdeal.nD Cert.AdamSsdOutRefIdeal.τ).loc Cert.AdamSsdOutRefIdeal.main_arg3)
      ∧ r.2.mem ((c.tc : Thread Cert.AdamSsdOutRefIdeal.nD Cert.AdamSsdOutRefIdeal.τ).loc Cert.AdamSsdOutRefIdeal.main_arg4) = m ((c.tc : Thread Cert.AdamSsdOutRefIdeal.nD Cert.AdamSsdOutRefIdeal.τ).loc Cert.AdamSsdOutRefIdeal.main_arg4))
      ∧ r.2.sem = fun _ => 0)

def quiescent_AdamConvW [hAdamConvW : Cert.AdamConvW.Facts] : Prop :=
  ∀ (m : (ℓ : Loc Cert.AdamConvW.nD Cert.AdamConvW.τ Cert.AdamConvW.sig) → Buf (Elt Bits) ℓ) (g : Dev Cert.AdamConvW.nD → PrngReg), Pre_AdamConvW m →
    θ_run (Cert.AdamConvW.defs (F := Bits)) (onTc (τ := Cert.AdamConvW.τ) (Cert.AdamConvW.main (F := Bits))) ⟨m, fun _ => 0, g⟩ (fun r => (∀ c : Dev Cert.AdamConvW.nD,
      r.2.mem ((c.tc : Thread Cert.AdamConvW.nD Cert.AdamConvW.τ).loc Cert.AdamConvW.main_arg0) = m ((c.tc : Thread Cert.AdamConvW.nD Cert.AdamConvW.τ).loc Cert.AdamConvW.main_arg0)
      ∧ r.2.mem ((c.tc : Thread Cert.AdamConvW.nD Cert.AdamConvW.τ).loc Cert.AdamConvW.main_arg1) = m ((c.tc : Thread Cert.AdamConvW.nD Cert.AdamConvW.τ).loc Cert.AdamConvW.main_arg1)
      ∧ r.2.mem ((c.tc : Thread Cert.AdamConvW.nD Cert.AdamConvW.τ).loc Cert.AdamConvW.main_arg2) = m ((c.tc : Thread Cert.AdamConvW.nD Cert.AdamConvW.τ).loc Cert.AdamConvW.main_arg2)
      ∧ r.2.mem ((c.tc : Thread Cert.AdamConvW.nD Cert.AdamConvW.τ).loc Cert.AdamConvW.main_arg3) = m ((c.tc : Thread Cert.AdamConvW.nD Cert.AdamConvW.τ).loc Cert.AdamConvW.main_arg3)
      ∧ r.2.mem ((c.tc : Thread Cert.AdamConvW.nD Cert.AdamConvW.τ).loc Cert.AdamConvW.main_arg4) = m ((c.tc : Thread Cert.AdamConvW.nD Cert.AdamConvW.τ).loc Cert.AdamConvW.main_arg4))
      ∧ r.2.sem = fun _ => 0)

def quiescent_AdamConvWIdeal [hAdamConvWIdeal : Cert.AdamConvWIdeal.Facts] : Prop :=
  ∀ (m : (ℓ : Loc Cert.AdamConvWIdeal.nD Cert.AdamConvWIdeal.τ Cert.AdamConvWIdeal.sig) → Buf (Elt Ideal) ℓ) (g : Dev Cert.AdamConvWIdeal.nD → PrngReg), Pre_AdamConvWIdeal m →
    θ_run (Cert.AdamConvWIdeal.defs (F := Ideal)) (onTc (τ := Cert.AdamConvWIdeal.τ) (Cert.AdamConvWIdeal.main (F := Ideal))) ⟨m, fun _ => 0, g⟩ (fun r => (∀ c : Dev Cert.AdamConvWIdeal.nD,
      r.2.mem ((c.tc : Thread Cert.AdamConvWIdeal.nD Cert.AdamConvWIdeal.τ).loc Cert.AdamConvWIdeal.main_arg0) = m ((c.tc : Thread Cert.AdamConvWIdeal.nD Cert.AdamConvWIdeal.τ).loc Cert.AdamConvWIdeal.main_arg0)
      ∧ r.2.mem ((c.tc : Thread Cert.AdamConvWIdeal.nD Cert.AdamConvWIdeal.τ).loc Cert.AdamConvWIdeal.main_arg1) = m ((c.tc : Thread Cert.AdamConvWIdeal.nD Cert.AdamConvWIdeal.τ).loc Cert.AdamConvWIdeal.main_arg1)
      ∧ r.2.mem ((c.tc : Thread Cert.AdamConvWIdeal.nD Cert.AdamConvWIdeal.τ).loc Cert.AdamConvWIdeal.main_arg2) = m ((c.tc : Thread Cert.AdamConvWIdeal.nD Cert.AdamConvWIdeal.τ).loc Cert.AdamConvWIdeal.main_arg2)
      ∧ r.2.mem ((c.tc : Thread Cert.AdamConvWIdeal.nD Cert.AdamConvWIdeal.τ).loc Cert.AdamConvWIdeal.main_arg3) = m ((c.tc : Thread Cert.AdamConvWIdeal.nD Cert.AdamConvWIdeal.τ).loc Cert.AdamConvWIdeal.main_arg3)
      ∧ r.2.mem ((c.tc : Thread Cert.AdamConvWIdeal.nD Cert.AdamConvWIdeal.τ).loc Cert.AdamConvWIdeal.main_arg4) = m ((c.tc : Thread Cert.AdamConvWIdeal.nD Cert.AdamConvWIdeal.τ).loc Cert.AdamConvWIdeal.main_arg4))
      ∧ r.2.sem = fun _ => 0)

def quiescent_AdamConvWRefIdeal [hAdamConvWRefIdeal : Cert.AdamConvWRefIdeal.Facts] : Prop :=
  ∀ (m : (ℓ : Loc Cert.AdamConvWRefIdeal.nD Cert.AdamConvWRefIdeal.τ Cert.AdamConvWRefIdeal.sig) → Buf (Elt Ideal) ℓ) (g : Dev Cert.AdamConvWRefIdeal.nD → PrngReg), Pre_AdamConvWRefIdeal m →
    θ_run (Cert.AdamConvWRefIdeal.defs (F := Ideal)) (onTc (τ := Cert.AdamConvWRefIdeal.τ) (Cert.AdamConvWRefIdeal.main (F := Ideal))) ⟨m, fun _ => 0, g⟩ (fun r => (∀ c : Dev Cert.AdamConvWRefIdeal.nD,
      r.2.mem ((c.tc : Thread Cert.AdamConvWRefIdeal.nD Cert.AdamConvWRefIdeal.τ).loc Cert.AdamConvWRefIdeal.main_arg0) = m ((c.tc : Thread Cert.AdamConvWRefIdeal.nD Cert.AdamConvWRefIdeal.τ).loc Cert.AdamConvWRefIdeal.main_arg0)
      ∧ r.2.mem ((c.tc : Thread Cert.AdamConvWRefIdeal.nD Cert.AdamConvWRefIdeal.τ).loc Cert.AdamConvWRefIdeal.main_arg1) = m ((c.tc : Thread Cert.AdamConvWRefIdeal.nD Cert.AdamConvWRefIdeal.τ).loc Cert.AdamConvWRefIdeal.main_arg1)
      ∧ r.2.mem ((c.tc : Thread Cert.AdamConvWRefIdeal.nD Cert.AdamConvWRefIdeal.τ).loc Cert.AdamConvWRefIdeal.main_arg2) = m ((c.tc : Thread Cert.AdamConvWRefIdeal.nD Cert.AdamConvWRefIdeal.τ).loc Cert.AdamConvWRefIdeal.main_arg2)
      ∧ r.2.mem ((c.tc : Thread Cert.AdamConvWRefIdeal.nD Cert.AdamConvWRefIdeal.τ).loc Cert.AdamConvWRefIdeal.main_arg3) = m ((c.tc : Thread Cert.AdamConvWRefIdeal.nD Cert.AdamConvWRefIdeal.τ).loc Cert.AdamConvWRefIdeal.main_arg3)
      ∧ r.2.mem ((c.tc : Thread Cert.AdamConvWRefIdeal.nD Cert.AdamConvWRefIdeal.τ).loc Cert.AdamConvWRefIdeal.main_arg4) = m ((c.tc : Thread Cert.AdamConvWRefIdeal.nD Cert.AdamConvWRefIdeal.τ).loc Cert.AdamConvWRefIdeal.main_arg4))
      ∧ r.2.sem = fun _ => 0)

def quiescent_AdamConvB [hAdamConvB : Cert.AdamConvB.Facts] : Prop :=
  ∀ (m : (ℓ : Loc Cert.AdamConvB.nD Cert.AdamConvB.τ Cert.AdamConvB.sig) → Buf (Elt Bits) ℓ) (g : Dev Cert.AdamConvB.nD → PrngReg), Pre_AdamConvB m →
    θ_run (Cert.AdamConvB.defs (F := Bits)) (onTc (τ := Cert.AdamConvB.τ) (Cert.AdamConvB.main (F := Bits))) ⟨m, fun _ => 0, g⟩ (fun r => (∀ c : Dev Cert.AdamConvB.nD,
      r.2.mem ((c.tc : Thread Cert.AdamConvB.nD Cert.AdamConvB.τ).loc Cert.AdamConvB.main_arg0) = m ((c.tc : Thread Cert.AdamConvB.nD Cert.AdamConvB.τ).loc Cert.AdamConvB.main_arg0)
      ∧ r.2.mem ((c.tc : Thread Cert.AdamConvB.nD Cert.AdamConvB.τ).loc Cert.AdamConvB.main_arg1) = m ((c.tc : Thread Cert.AdamConvB.nD Cert.AdamConvB.τ).loc Cert.AdamConvB.main_arg1)
      ∧ r.2.mem ((c.tc : Thread Cert.AdamConvB.nD Cert.AdamConvB.τ).loc Cert.AdamConvB.main_arg2) = m ((c.tc : Thread Cert.AdamConvB.nD Cert.AdamConvB.τ).loc Cert.AdamConvB.main_arg2)
      ∧ r.2.mem ((c.tc : Thread Cert.AdamConvB.nD Cert.AdamConvB.τ).loc Cert.AdamConvB.main_arg3) = m ((c.tc : Thread Cert.AdamConvB.nD Cert.AdamConvB.τ).loc Cert.AdamConvB.main_arg3)
      ∧ r.2.mem ((c.tc : Thread Cert.AdamConvB.nD Cert.AdamConvB.τ).loc Cert.AdamConvB.main_arg4) = m ((c.tc : Thread Cert.AdamConvB.nD Cert.AdamConvB.τ).loc Cert.AdamConvB.main_arg4))
      ∧ r.2.sem = fun _ => 0)

def quiescent_AdamConvBIdeal [hAdamConvBIdeal : Cert.AdamConvBIdeal.Facts] : Prop :=
  ∀ (m : (ℓ : Loc Cert.AdamConvBIdeal.nD Cert.AdamConvBIdeal.τ Cert.AdamConvBIdeal.sig) → Buf (Elt Ideal) ℓ) (g : Dev Cert.AdamConvBIdeal.nD → PrngReg), Pre_AdamConvBIdeal m →
    θ_run (Cert.AdamConvBIdeal.defs (F := Ideal)) (onTc (τ := Cert.AdamConvBIdeal.τ) (Cert.AdamConvBIdeal.main (F := Ideal))) ⟨m, fun _ => 0, g⟩ (fun r => (∀ c : Dev Cert.AdamConvBIdeal.nD,
      r.2.mem ((c.tc : Thread Cert.AdamConvBIdeal.nD Cert.AdamConvBIdeal.τ).loc Cert.AdamConvBIdeal.main_arg0) = m ((c.tc : Thread Cert.AdamConvBIdeal.nD Cert.AdamConvBIdeal.τ).loc Cert.AdamConvBIdeal.main_arg0)
      ∧ r.2.mem ((c.tc : Thread Cert.AdamConvBIdeal.nD Cert.AdamConvBIdeal.τ).loc Cert.AdamConvBIdeal.main_arg1) = m ((c.tc : Thread Cert.AdamConvBIdeal.nD Cert.AdamConvBIdeal.τ).loc Cert.AdamConvBIdeal.main_arg1)
      ∧ r.2.mem ((c.tc : Thread Cert.AdamConvBIdeal.nD Cert.AdamConvBIdeal.τ).loc Cert.AdamConvBIdeal.main_arg2) = m ((c.tc : Thread Cert.AdamConvBIdeal.nD Cert.AdamConvBIdeal.τ).loc Cert.AdamConvBIdeal.main_arg2)
      ∧ r.2.mem ((c.tc : Thread Cert.AdamConvBIdeal.nD Cert.AdamConvBIdeal.τ).loc Cert.AdamConvBIdeal.main_arg3) = m ((c.tc : Thread Cert.AdamConvBIdeal.nD Cert.AdamConvBIdeal.τ).loc Cert.AdamConvBIdeal.main_arg3)
      ∧ r.2.mem ((c.tc : Thread Cert.AdamConvBIdeal.nD Cert.AdamConvBIdeal.τ).loc Cert.AdamConvBIdeal.main_arg4) = m ((c.tc : Thread Cert.AdamConvBIdeal.nD Cert.AdamConvBIdeal.τ).loc Cert.AdamConvBIdeal.main_arg4))
      ∧ r.2.sem = fun _ => 0)

def quiescent_AdamConvBRefIdeal [hAdamConvBRefIdeal : Cert.AdamConvBRefIdeal.Facts] : Prop :=
  ∀ (m : (ℓ : Loc Cert.AdamConvBRefIdeal.nD Cert.AdamConvBRefIdeal.τ Cert.AdamConvBRefIdeal.sig) → Buf (Elt Ideal) ℓ) (g : Dev Cert.AdamConvBRefIdeal.nD → PrngReg), Pre_AdamConvBRefIdeal m →
    θ_run (Cert.AdamConvBRefIdeal.defs (F := Ideal)) (onTc (τ := Cert.AdamConvBRefIdeal.τ) (Cert.AdamConvBRefIdeal.main (F := Ideal))) ⟨m, fun _ => 0, g⟩ (fun r => (∀ c : Dev Cert.AdamConvBRefIdeal.nD,
      r.2.mem ((c.tc : Thread Cert.AdamConvBRefIdeal.nD Cert.AdamConvBRefIdeal.τ).loc Cert.AdamConvBRefIdeal.main_arg0) = m ((c.tc : Thread Cert.AdamConvBRefIdeal.nD Cert.AdamConvBRefIdeal.τ).loc Cert.AdamConvBRefIdeal.main_arg0)
      ∧ r.2.mem ((c.tc : Thread Cert.AdamConvBRefIdeal.nD Cert.AdamConvBRefIdeal.τ).loc Cert.AdamConvBRefIdeal.main_arg1) = m ((c.tc : Thread Cert.AdamConvBRefIdeal.nD Cert.AdamConvBRefIdeal.τ).loc Cert.AdamConvBRefIdeal.main_arg1)
      ∧ r.2.mem ((c.tc : Thread Cert.AdamConvBRefIdeal.nD Cert.AdamConvBRefIdeal.τ).loc Cert.AdamConvBRefIdeal.main_arg2) = m ((c.tc : Thread Cert.AdamConvBRefIdeal.nD Cert.AdamConvBRefIdeal.τ).loc Cert.AdamConvBRefIdeal.main_arg2)
      ∧ r.2.mem ((c.tc : Thread Cert.AdamConvBRefIdeal.nD Cert.AdamConvBRefIdeal.τ).loc Cert.AdamConvBRefIdeal.main_arg3) = m ((c.tc : Thread Cert.AdamConvBRefIdeal.nD Cert.AdamConvBRefIdeal.τ).loc Cert.AdamConvBRefIdeal.main_arg3)
      ∧ r.2.mem ((c.tc : Thread Cert.AdamConvBRefIdeal.nD Cert.AdamConvBRefIdeal.τ).loc Cert.AdamConvBRefIdeal.main_arg4) = m ((c.tc : Thread Cert.AdamConvBRefIdeal.nD Cert.AdamConvBRefIdeal.τ).loc Cert.AdamConvBRefIdeal.main_arg4))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3)
      ∧ r.2.mem ((c.tc : Thread Cert.AdamNorm.nD Cert.AdamNorm.τ).loc Cert.AdamNorm.main_arg4) = m ((c.tc : Thread Cert.AdamNorm.nD Cert.AdamNorm.τ).loc Cert.AdamNorm.main_arg4))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3)
      ∧ r.2.mem ((c.tc : Thread Cert.AdamNormIdeal.nD Cert.AdamNormIdeal.τ).loc Cert.AdamNormIdeal.main_arg4) = m ((c.tc : Thread Cert.AdamNormIdeal.nD Cert.AdamNormIdeal.τ).loc Cert.AdamNormIdeal.main_arg4))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3)
      ∧ r.2.mem ((c.tc : Thread Cert.AdamNormRefIdeal.nD Cert.AdamNormRefIdeal.τ).loc Cert.AdamNormRefIdeal.main_arg4) = m ((c.tc : Thread Cert.AdamNormRefIdeal.nD Cert.AdamNormRefIdeal.τ).loc Cert.AdamNormRefIdeal.main_arg4))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ r.2.sem = fun _ => 0)

def quiescent_AdamModRefIdeal [hAdamModRefIdeal : Cert.AdamModRefIdeal.Facts] : Prop :=
  ∀ (m : (ℓ : Loc Cert.AdamModRefIdeal.nD Cert.AdamModRefIdeal.τ Cert.AdamModRefIdeal.sig) → Buf (Elt Ideal) ℓ) (g : Dev Cert.AdamModRefIdeal.nD → PrngReg), Pre_AdamModRefIdeal m →
    θ_run (Cert.AdamModRefIdeal.defs (F := Ideal)) (onTc (τ := Cert.AdamModRefIdeal.τ) (Cert.AdamModRefIdeal.main (F := Ideal))) ⟨m, fun _ => 0, g⟩ (fun r => (∀ c : Dev Cert.AdamModRefIdeal.nD,
      r.2.mem ((c.tc : Thread Cert.AdamModRefIdeal.nD Cert.AdamModRefIdeal.τ).loc Cert.AdamModRefIdeal.main_arg0) = m ((c.tc : Thread Cert.AdamModRefIdeal.nD Cert.AdamModRefIdeal.τ).loc Cert.AdamModRefIdeal.main_arg0)
      ∧ r.2.mem ((c.tc : Thread Cert.AdamModRefIdeal.nD Cert.AdamModRefIdeal.τ).loc Cert.AdamModRefIdeal.main_arg1) = m ((c.tc : Thread Cert.AdamModRefIdeal.nD Cert.AdamModRefIdeal.τ).loc Cert.AdamModRefIdeal.main_arg1)
      ∧ r.2.mem ((c.tc : Thread Cert.AdamModRefIdeal.nD Cert.AdamModRefIdeal.τ).loc Cert.AdamModRefIdeal.main_arg2) = m ((c.tc : Thread Cert.AdamModRefIdeal.nD Cert.AdamModRefIdeal.τ).loc Cert.AdamModRefIdeal.main_arg2)
      ∧ r.2.mem ((c.tc : Thread Cert.AdamModRefIdeal.nD Cert.AdamModRefIdeal.τ).loc Cert.AdamModRefIdeal.main_arg3) = m ((c.tc : Thread Cert.AdamModRefIdeal.nD Cert.AdamModRefIdeal.τ).loc Cert.AdamModRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_MlpDHidden_MlpDHiddenIdeal : Prop :=
  True

def algebraic_MlpDHiddenIdeal_MlpDHiddenRefIdeal [hMlpDHiddenIdeal : Cert.MlpDHiddenIdeal.Facts] [hMlpDHiddenRefIdeal : Cert.MlpDHiddenRefIdeal.Facts] : Prop :=
  ∀ (m : (ℓ : Loc Cert.MlpDHiddenIdeal.nD Cert.MlpDHiddenIdeal.τ Cert.MlpDHiddenIdeal.sig) → Buf (Elt Ideal) ℓ) (g : Dev Cert.MlpDHiddenIdeal.nD → PrngReg)
    (m' : (ℓ : Loc Cert.MlpDHiddenRefIdeal.nD Cert.MlpDHiddenRefIdeal.τ Cert.MlpDHiddenRefIdeal.sig) → Buf (Elt Ideal) ℓ) (g' : Dev Cert.MlpDHiddenRefIdeal.nD → PrngReg), Pre_MlpDHiddenIdeal m →
    (∀ c : Dev Cert.MlpDHiddenIdeal.nD,
      m' ((c.tc : Thread Cert.MlpDHiddenRefIdeal.nD Cert.MlpDHiddenRefIdeal.τ).loc Cert.MlpDHiddenRefIdeal.main_arg0) = m ((c.tc : Thread Cert.MlpDHiddenIdeal.nD Cert.MlpDHiddenIdeal.τ).loc Cert.MlpDHiddenIdeal.main_arg0)
      ∧ m' ((c.tc : Thread Cert.MlpDHiddenRefIdeal.nD Cert.MlpDHiddenRefIdeal.τ).loc Cert.MlpDHiddenRefIdeal.main_arg1) = m ((c.tc : Thread Cert.MlpDHiddenIdeal.nD Cert.MlpDHiddenIdeal.τ).loc Cert.MlpDHiddenIdeal.main_arg1)
      ∧ m' ((c.tc : Thread Cert.MlpDHiddenRefIdeal.nD Cert.MlpDHiddenRefIdeal.τ).loc Cert.MlpDHiddenRefIdeal.main_arg2) = m ((c.tc : Thread Cert.MlpDHiddenIdeal.nD Cert.MlpDHiddenIdeal.τ).loc Cert.MlpDHiddenIdeal.main_arg2)
      ∧ m' ((c.tc : Thread Cert.MlpDHiddenRefIdeal.nD Cert.MlpDHiddenRefIdeal.τ).loc Cert.MlpDHiddenRefIdeal.main_arg3) = m ((c.tc : Thread Cert.MlpDHiddenIdeal.nD Cert.MlpDHiddenIdeal.τ).loc Cert.MlpDHiddenIdeal.main_arg3)) →
    ∃ (v0 : (c : Dev Cert.MlpDHiddenIdeal.nD) → Buf (Elt Ideal) ((c.tc : Thread Cert.MlpDHiddenIdeal.nD Cert.MlpDHiddenIdeal.τ).loc Cert.MlpDHiddenIdeal.main_v7)),
      θ_run (Cert.MlpDHiddenIdeal.defs (F := Ideal)) (onTc (τ := Cert.MlpDHiddenIdeal.τ) (Cert.MlpDHiddenIdeal.main (F := Ideal))) ⟨m, fun _ => 0, g⟩ (fun r => ∀ c : Dev Cert.MlpDHiddenIdeal.nD,
          r.2.mem ((c.tc : Thread Cert.MlpDHiddenIdeal.nD Cert.MlpDHiddenIdeal.τ).loc Cert.MlpDHiddenIdeal.main_v7) = v0 c
          ∧ r.2.mem ((c.tc : Thread Cert.MlpDHiddenIdeal.nD Cert.MlpDHiddenIdeal.τ).loc Cert.MlpDHiddenIdeal.main_arg0) = m ((c.tc : Thread Cert.MlpDHiddenIdeal.nD Cert.MlpDHiddenIdeal.τ).loc Cert.MlpDHiddenIdeal.main_arg0)
          ∧ r.2.mem ((c.tc : Thread Cert.MlpDHiddenIdeal.nD Cert.MlpDHiddenIdeal.τ).loc Cert.MlpDHiddenIdeal.main_arg1) = m ((c.tc : Thread Cert.MlpDHiddenIdeal.nD Cert.MlpDHiddenIdeal.τ).loc Cert.MlpDHiddenIdeal.main_arg1)
          ∧ r.2.mem ((c.tc : Thread Cert.MlpDHiddenIdeal.nD Cert.MlpDHiddenIdeal.τ).loc Cert.MlpDHiddenIdeal.main_arg2) = m ((c.tc : Thread Cert.MlpDHiddenIdeal.nD Cert.MlpDHiddenIdeal.τ).loc Cert.MlpDHiddenIdeal.main_arg2)
          ∧ r.2.mem ((c.tc : Thread Cert.MlpDHiddenIdeal.nD Cert.MlpDHiddenIdeal.τ).loc Cert.MlpDHiddenIdeal.main_arg3) = m ((c.tc : Thread Cert.MlpDHiddenIdeal.nD Cert.MlpDHiddenIdeal.τ).loc Cert.MlpDHiddenIdeal.main_arg3))
      ∧ θ_run (Cert.MlpDHiddenRefIdeal.defs (F := Ideal)) (onTc (τ := Cert.MlpDHiddenRefIdeal.τ) (Cert.MlpDHiddenRefIdeal.main (F := Ideal))) ⟨m', fun _ => 0, g'⟩ (fun r => ∀ c : Dev Cert.MlpDHiddenRefIdeal.nD,
          r.2.mem ((c.tc : Thread Cert.MlpDHiddenRefIdeal.nD Cert.MlpDHiddenRefIdeal.τ).loc Cert.MlpDHiddenRefIdeal.main_v15) = v0 c
          ∧ r.2.mem ((c.tc : Thread Cert.MlpDHiddenRefIdeal.nD Cert.MlpDHiddenRefIdeal.τ).loc Cert.MlpDHiddenRefIdeal.main_arg0) = m' ((c.tc : Thread Cert.MlpDHiddenRefIdeal.nD Cert.MlpDHiddenRefIdeal.τ).loc Cert.MlpDHiddenRefIdeal.main_arg0)
          ∧ r.2.mem ((c.tc : Thread Cert.MlpDHiddenRefIdeal.nD Cert.MlpDHiddenRefIdeal.τ).loc Cert.MlpDHiddenRefIdeal.main_arg1) = m' ((c.tc : Thread Cert.MlpDHiddenRefIdeal.nD Cert.MlpDHiddenRefIdeal.τ).loc Cert.MlpDHiddenRefIdeal.main_arg1)
          ∧ r.2.mem ((c.tc : Thread Cert.MlpDHiddenRefIdeal.nD Cert.MlpDHiddenRefIdeal.τ).loc Cert.MlpDHiddenRefIdeal.main_arg2) = m' ((c.tc : Thread Cert.MlpDHiddenRefIdeal.nD Cert.MlpDHiddenRefIdeal.τ).loc Cert.MlpDHiddenRefIdeal.main_arg2)
          ∧ r.2.mem ((c.tc : Thread Cert.MlpDHiddenRefIdeal.nD Cert.MlpDHiddenRefIdeal.τ).loc Cert.MlpDHiddenRefIdeal.main_arg3) = m' ((c.tc : Thread Cert.MlpDHiddenRefIdeal.nD Cert.MlpDHiddenRefIdeal.τ).loc Cert.MlpDHiddenRefIdeal.main_arg3))

def preserves_MlpDW2_MlpDW2Ideal : Prop :=
  True

def algebraic_MlpDW2Ideal_MlpDW2RefIdeal_pre_mlp_finite [hMlpDW2Ideal : Cert.MlpDW2Ideal.Facts] [hMlpDW2RefIdeal : Cert.MlpDW2RefIdeal.Facts] [hPre_mlp_finite : Cert.Pre_mlp_finite.Facts] : Prop :=
  ∀ (m : (ℓ : Loc Cert.MlpDW2Ideal.nD Cert.MlpDW2Ideal.τ Cert.MlpDW2Ideal.sig) → Buf (Elt Ideal) ℓ) (g : Dev Cert.MlpDW2Ideal.nD → PrngReg)
    (m' : (ℓ : Loc Cert.MlpDW2RefIdeal.nD Cert.MlpDW2RefIdeal.τ Cert.MlpDW2RefIdeal.sig) → Buf (Elt Ideal) ℓ) (g' : Dev Cert.MlpDW2RefIdeal.nD → PrngReg), Pre_MlpDW2Ideal_mlp_finite m →
    (∀ c : Dev Cert.MlpDW2Ideal.nD,
      m' ((c.tc : Thread Cert.MlpDW2RefIdeal.nD Cert.MlpDW2RefIdeal.τ).loc Cert.MlpDW2RefIdeal.main_arg0) = m ((c.tc : Thread Cert.MlpDW2Ideal.nD Cert.MlpDW2Ideal.τ).loc Cert.MlpDW2Ideal.main_arg0)
      ∧ m' ((c.tc : Thread Cert.MlpDW2RefIdeal.nD Cert.MlpDW2RefIdeal.τ).loc Cert.MlpDW2RefIdeal.main_arg1) = m ((c.tc : Thread Cert.MlpDW2Ideal.nD Cert.MlpDW2Ideal.τ).loc Cert.MlpDW2Ideal.main_arg1)
      ∧ m' ((c.tc : Thread Cert.MlpDW2RefIdeal.nD Cert.MlpDW2RefIdeal.τ).loc Cert.MlpDW2RefIdeal.main_arg2) = m ((c.tc : Thread Cert.MlpDW2Ideal.nD Cert.MlpDW2Ideal.τ).loc Cert.MlpDW2Ideal.main_arg2)
      ∧ m' ((c.tc : Thread Cert.MlpDW2RefIdeal.nD Cert.MlpDW2RefIdeal.τ).loc Cert.MlpDW2RefIdeal.main_arg3) = m ((c.tc : Thread Cert.MlpDW2Ideal.nD Cert.MlpDW2Ideal.τ).loc Cert.MlpDW2Ideal.main_arg3)) →
    ∃ (v0 : (c : Dev Cert.MlpDW2Ideal.nD) → Buf (Elt Ideal) ((c.tc : Thread Cert.MlpDW2Ideal.nD Cert.MlpDW2Ideal.τ).loc Cert.MlpDW2Ideal.main_v4)) (v1 : (c : Dev Cert.MlpDW2Ideal.nD) → Buf (Elt Ideal) ((c.tc : Thread Cert.MlpDW2Ideal.nD Cert.MlpDW2Ideal.τ).loc Cert.MlpDW2Ideal.main_v5)),
      θ_run (Cert.MlpDW2Ideal.defs (F := Ideal)) (onTc (τ := Cert.MlpDW2Ideal.τ) (Cert.MlpDW2Ideal.main (F := Ideal))) ⟨m, fun _ => 0, g⟩ (fun r => ∀ c : Dev Cert.MlpDW2Ideal.nD,
          r.2.mem ((c.tc : Thread Cert.MlpDW2Ideal.nD Cert.MlpDW2Ideal.τ).loc Cert.MlpDW2Ideal.main_v4) = v0 c
          ∧ r.2.mem ((c.tc : Thread Cert.MlpDW2Ideal.nD Cert.MlpDW2Ideal.τ).loc Cert.MlpDW2Ideal.main_v5) = v1 c
          ∧ r.2.mem ((c.tc : Thread Cert.MlpDW2Ideal.nD Cert.MlpDW2Ideal.τ).loc Cert.MlpDW2Ideal.main_arg0) = m ((c.tc : Thread Cert.MlpDW2Ideal.nD Cert.MlpDW2Ideal.τ).loc Cert.MlpDW2Ideal.main_arg0)
          ∧ r.2.mem ((c.tc : Thread Cert.MlpDW2Ideal.nD Cert.MlpDW2Ideal.τ).loc Cert.MlpDW2Ideal.main_arg1) = m ((c.tc : Thread Cert.MlpDW2Ideal.nD Cert.MlpDW2Ideal.τ).loc Cert.MlpDW2Ideal.main_arg1)
          ∧ r.2.mem ((c.tc : Thread Cert.MlpDW2Ideal.nD Cert.MlpDW2Ideal.τ).loc Cert.MlpDW2Ideal.main_arg2) = m ((c.tc : Thread Cert.MlpDW2Ideal.nD Cert.MlpDW2Ideal.τ).loc Cert.MlpDW2Ideal.main_arg2)
          ∧ r.2.mem ((c.tc : Thread Cert.MlpDW2Ideal.nD Cert.MlpDW2Ideal.τ).loc Cert.MlpDW2Ideal.main_arg3) = m ((c.tc : Thread Cert.MlpDW2Ideal.nD Cert.MlpDW2Ideal.τ).loc Cert.MlpDW2Ideal.main_arg3))
      ∧ θ_run (Cert.MlpDW2RefIdeal.defs (F := Ideal)) (onTc (τ := Cert.MlpDW2RefIdeal.τ) (Cert.MlpDW2RefIdeal.main (F := Ideal))) ⟨m', fun _ => 0, g'⟩ (fun r => ∀ c : Dev Cert.MlpDW2RefIdeal.nD,
          r.2.mem ((c.tc : Thread Cert.MlpDW2RefIdeal.nD Cert.MlpDW2RefIdeal.τ).loc Cert.MlpDW2RefIdeal.main_v10) = v0 c
          ∧ r.2.mem ((c.tc : Thread Cert.MlpDW2RefIdeal.nD Cert.MlpDW2RefIdeal.τ).loc Cert.MlpDW2RefIdeal.main_v8) = v1 c
          ∧ r.2.mem ((c.tc : Thread Cert.MlpDW2RefIdeal.nD Cert.MlpDW2RefIdeal.τ).loc Cert.MlpDW2RefIdeal.main_arg0) = m' ((c.tc : Thread Cert.MlpDW2RefIdeal.nD Cert.MlpDW2RefIdeal.τ).loc Cert.MlpDW2RefIdeal.main_arg0)
          ∧ r.2.mem ((c.tc : Thread Cert.MlpDW2RefIdeal.nD Cert.MlpDW2RefIdeal.τ).loc Cert.MlpDW2RefIdeal.main_arg1) = m' ((c.tc : Thread Cert.MlpDW2RefIdeal.nD Cert.MlpDW2RefIdeal.τ).loc Cert.MlpDW2RefIdeal.main_arg1)
          ∧ r.2.mem ((c.tc : Thread Cert.MlpDW2RefIdeal.nD Cert.MlpDW2RefIdeal.τ).loc Cert.MlpDW2RefIdeal.main_arg2) = m' ((c.tc : Thread Cert.MlpDW2RefIdeal.nD Cert.MlpDW2RefIdeal.τ).loc Cert.MlpDW2RefIdeal.main_arg2)
          ∧ r.2.mem ((c.tc : Thread Cert.MlpDW2RefIdeal.nD Cert.MlpDW2RefIdeal.τ).loc Cert.MlpDW2RefIdeal.main_arg3) = m' ((c.tc : Thread Cert.MlpDW2RefIdeal.nD Cert.MlpDW2RefIdeal.τ).loc Cert.MlpDW2RefIdeal.main_arg3))

def preserves_MlpDIn_MlpDInIdeal : Prop :=
  True

def algebraic_MlpDInIdeal_MlpDInRefIdeal [hMlpDInIdeal : Cert.MlpDInIdeal.Facts] [hMlpDInRefIdeal : Cert.MlpDInRefIdeal.Facts] : Prop :=
  ∀ (m : (ℓ : Loc Cert.MlpDInIdeal.nD Cert.MlpDInIdeal.τ Cert.MlpDInIdeal.sig) → Buf (Elt Ideal) ℓ) (g : Dev Cert.MlpDInIdeal.nD → PrngReg)
    (m' : (ℓ : Loc Cert.MlpDInRefIdeal.nD Cert.MlpDInRefIdeal.τ Cert.MlpDInRefIdeal.sig) → Buf (Elt Ideal) ℓ) (g' : Dev Cert.MlpDInRefIdeal.nD → PrngReg), Pre_MlpDInIdeal m →
    (∀ c : Dev Cert.MlpDInIdeal.nD,
      m' ((c.tc : Thread Cert.MlpDInRefIdeal.nD Cert.MlpDInRefIdeal.τ).loc Cert.MlpDInRefIdeal.main_arg0) = m ((c.tc : Thread Cert.MlpDInIdeal.nD Cert.MlpDInIdeal.τ).loc Cert.MlpDInIdeal.main_arg0)
      ∧ m' ((c.tc : Thread Cert.MlpDInRefIdeal.nD Cert.MlpDInRefIdeal.τ).loc Cert.MlpDInRefIdeal.main_arg1) = m ((c.tc : Thread Cert.MlpDInIdeal.nD Cert.MlpDInIdeal.τ).loc Cert.MlpDInIdeal.main_arg1)
      ∧ m' ((c.tc : Thread Cert.MlpDInRefIdeal.nD Cert.MlpDInRefIdeal.τ).loc Cert.MlpDInRefIdeal.main_arg2) = m ((c.tc : Thread Cert.MlpDInIdeal.nD Cert.MlpDInIdeal.τ).loc Cert.MlpDInIdeal.main_arg2)) →
    ∃ (v0 : (c : Dev Cert.MlpDInIdeal.nD) → Buf (Elt Ideal) ((c.tc : Thread Cert.MlpDInIdeal.nD Cert.MlpDInIdeal.τ).loc Cert.MlpDInIdeal.main_v2)),
      θ_run (Cert.MlpDInIdeal.defs (F := Ideal)) (onTc (τ := Cert.MlpDInIdeal.τ) (Cert.MlpDInIdeal.main (F := Ideal))) ⟨m, fun _ => 0, g⟩ (fun r => ∀ c : Dev Cert.MlpDInIdeal.nD,
          r.2.mem ((c.tc : Thread Cert.MlpDInIdeal.nD Cert.MlpDInIdeal.τ).loc Cert.MlpDInIdeal.main_v2) = v0 c
          ∧ r.2.mem ((c.tc : Thread Cert.MlpDInIdeal.nD Cert.MlpDInIdeal.τ).loc Cert.MlpDInIdeal.main_arg0) = m ((c.tc : Thread Cert.MlpDInIdeal.nD Cert.MlpDInIdeal.τ).loc Cert.MlpDInIdeal.main_arg0)
          ∧ r.2.mem ((c.tc : Thread Cert.MlpDInIdeal.nD Cert.MlpDInIdeal.τ).loc Cert.MlpDInIdeal.main_arg1) = m ((c.tc : Thread Cert.MlpDInIdeal.nD Cert.MlpDInIdeal.τ).loc Cert.MlpDInIdeal.main_arg1)
          ∧ r.2.mem ((c.tc : Thread Cert.MlpDInIdeal.nD Cert.MlpDInIdeal.τ).loc Cert.MlpDInIdeal.main_arg2) = m ((c.tc : Thread Cert.MlpDInIdeal.nD Cert.MlpDInIdeal.τ).loc Cert.MlpDInIdeal.main_arg2))
      ∧ θ_run (Cert.MlpDInRefIdeal.defs (F := Ideal)) (onTc (τ := Cert.MlpDInRefIdeal.τ) (Cert.MlpDInRefIdeal.main (F := Ideal))) ⟨m', fun _ => 0, g'⟩ (fun r => ∀ c : Dev Cert.MlpDInRefIdeal.nD,
          r.2.mem ((c.tc : Thread Cert.MlpDInRefIdeal.nD Cert.MlpDInRefIdeal.τ).loc Cert.MlpDInRefIdeal.main_v1) = v0 c
          ∧ r.2.mem ((c.tc : Thread Cert.MlpDInRefIdeal.nD Cert.MlpDInRefIdeal.τ).loc Cert.MlpDInRefIdeal.main_arg0) = m' ((c.tc : Thread Cert.MlpDInRefIdeal.nD Cert.MlpDInRefIdeal.τ).loc Cert.MlpDInRefIdeal.main_arg0)
          ∧ r.2.mem ((c.tc : Thread Cert.MlpDInRefIdeal.nD Cert.MlpDInRefIdeal.τ).loc Cert.MlpDInRefIdeal.main_arg1) = m' ((c.tc : Thread Cert.MlpDInRefIdeal.nD Cert.MlpDInRefIdeal.τ).loc Cert.MlpDInRefIdeal.main_arg1)
          ∧ r.2.mem ((c.tc : Thread Cert.MlpDInRefIdeal.nD Cert.MlpDInRefIdeal.τ).loc Cert.MlpDInRefIdeal.main_arg2) = m' ((c.tc : Thread Cert.MlpDInRefIdeal.nD Cert.MlpDInRefIdeal.τ).loc Cert.MlpDInRefIdeal.main_arg2))

def preserves_MlpDW1_MlpDW1Ideal : Prop :=
  True

def algebraic_MlpDW1Ideal_MlpDW1RefIdeal [hMlpDW1Ideal : Cert.MlpDW1Ideal.Facts] [hMlpDW1RefIdeal : Cert.MlpDW1RefIdeal.Facts] : Prop :=
  ∀ (m : (ℓ : Loc Cert.MlpDW1Ideal.nD Cert.MlpDW1Ideal.τ Cert.MlpDW1Ideal.sig) → Buf (Elt Ideal) ℓ) (g : Dev Cert.MlpDW1Ideal.nD → PrngReg)
    (m' : (ℓ : Loc Cert.MlpDW1RefIdeal.nD Cert.MlpDW1RefIdeal.τ Cert.MlpDW1RefIdeal.sig) → Buf (Elt Ideal) ℓ) (g' : Dev Cert.MlpDW1RefIdeal.nD → PrngReg), Pre_MlpDW1Ideal m →
    (∀ c : Dev Cert.MlpDW1Ideal.nD,
      m' ((c.tc : Thread Cert.MlpDW1RefIdeal.nD Cert.MlpDW1RefIdeal.τ).loc Cert.MlpDW1RefIdeal.main_arg0) = m ((c.tc : Thread Cert.MlpDW1Ideal.nD Cert.MlpDW1Ideal.τ).loc Cert.MlpDW1Ideal.main_arg0)
      ∧ m' ((c.tc : Thread Cert.MlpDW1RefIdeal.nD Cert.MlpDW1RefIdeal.τ).loc Cert.MlpDW1RefIdeal.main_arg1) = m ((c.tc : Thread Cert.MlpDW1Ideal.nD Cert.MlpDW1Ideal.τ).loc Cert.MlpDW1Ideal.main_arg1)
      ∧ m' ((c.tc : Thread Cert.MlpDW1RefIdeal.nD Cert.MlpDW1RefIdeal.τ).loc Cert.MlpDW1RefIdeal.main_arg2) = m ((c.tc : Thread Cert.MlpDW1Ideal.nD Cert.MlpDW1Ideal.τ).loc Cert.MlpDW1Ideal.main_arg2)) →
    ∃ (v0 : (c : Dev Cert.MlpDW1Ideal.nD) → Buf (Elt Ideal) ((c.tc : Thread Cert.MlpDW1Ideal.nD Cert.MlpDW1Ideal.τ).loc Cert.MlpDW1Ideal.main_v3)),
      θ_run (Cert.MlpDW1Ideal.defs (F := Ideal)) (onTc (τ := Cert.MlpDW1Ideal.τ) (Cert.MlpDW1Ideal.main (F := Ideal))) ⟨m, fun _ => 0, g⟩ (fun r => ∀ c : Dev Cert.MlpDW1Ideal.nD,
          r.2.mem ((c.tc : Thread Cert.MlpDW1Ideal.nD Cert.MlpDW1Ideal.τ).loc Cert.MlpDW1Ideal.main_v3) = v0 c
          ∧ r.2.mem ((c.tc : Thread Cert.MlpDW1Ideal.nD Cert.MlpDW1Ideal.τ).loc Cert.MlpDW1Ideal.main_arg0) = m ((c.tc : Thread Cert.MlpDW1Ideal.nD Cert.MlpDW1Ideal.τ).loc Cert.MlpDW1Ideal.main_arg0)
          ∧ r.2.mem ((c.tc : Thread Cert.MlpDW1Ideal.nD Cert.MlpDW1Ideal.τ).loc Cert.MlpDW1Ideal.main_arg1) = m ((c.tc : Thread Cert.MlpDW1Ideal.nD Cert.MlpDW1Ideal.τ).loc Cert.MlpDW1Ideal.main_arg1)
          ∧ r.2.mem ((c.tc : Thread Cert.MlpDW1Ideal.nD Cert.MlpDW1Ideal.τ).loc Cert.MlpDW1Ideal.main_arg2) = m ((c.tc : Thread Cert.MlpDW1Ideal.nD Cert.MlpDW1Ideal.τ).loc Cert.MlpDW1Ideal.main_arg2))
      ∧ θ_run (Cert.MlpDW1RefIdeal.defs (F := Ideal)) (onTc (τ := Cert.MlpDW1RefIdeal.τ) (Cert.MlpDW1RefIdeal.main (F := Ideal))) ⟨m', fun _ => 0, g'⟩ (fun r => ∀ c : Dev Cert.MlpDW1RefIdeal.nD,
          r.2.mem ((c.tc : Thread Cert.MlpDW1RefIdeal.nD Cert.MlpDW1RefIdeal.τ).loc Cert.MlpDW1RefIdeal.main_v2) = v0 c
          ∧ r.2.mem ((c.tc : Thread Cert.MlpDW1RefIdeal.nD Cert.MlpDW1RefIdeal.τ).loc Cert.MlpDW1RefIdeal.main_arg0) = m' ((c.tc : Thread Cert.MlpDW1RefIdeal.nD Cert.MlpDW1RefIdeal.τ).loc Cert.MlpDW1RefIdeal.main_arg0)
          ∧ r.2.mem ((c.tc : Thread Cert.MlpDW1RefIdeal.nD Cert.MlpDW1RefIdeal.τ).loc Cert.MlpDW1RefIdeal.main_arg1) = m' ((c.tc : Thread Cert.MlpDW1RefIdeal.nD Cert.MlpDW1RefIdeal.τ).loc Cert.MlpDW1RefIdeal.main_arg1)
          ∧ r.2.mem ((c.tc : Thread Cert.MlpDW1RefIdeal.nD Cert.MlpDW1RefIdeal.τ).loc Cert.MlpDW1RefIdeal.main_arg2) = m' ((c.tc : Thread Cert.MlpDW1RefIdeal.nD Cert.MlpDW1RefIdeal.τ).loc Cert.MlpDW1RefIdeal.main_arg2))

def preserves_S5DGlu_S5DGluIdeal : Prop :=
  True

def algebraic_S5DGluIdeal_S5DGluRefIdeal [hS5DGluIdeal : Cert.S5DGluIdeal.Facts] [hS5DGluRefIdeal : Cert.S5DGluRefIdeal.Facts] : Prop :=
  ∀ (m : (ℓ : Loc Cert.S5DGluIdeal.nD Cert.S5DGluIdeal.τ Cert.S5DGluIdeal.sig) → Buf (Elt Ideal) ℓ) (g : Dev Cert.S5DGluIdeal.nD → PrngReg)
    (m' : (ℓ : Loc Cert.S5DGluRefIdeal.nD Cert.S5DGluRefIdeal.τ Cert.S5DGluRefIdeal.sig) → Buf (Elt Ideal) ℓ) (g' : Dev Cert.S5DGluRefIdeal.nD → PrngReg), Pre_S5DGluIdeal m →
    (∀ c : Dev Cert.S5DGluIdeal.nD,
      m' ((c.tc : Thread Cert.S5DGluRefIdeal.nD Cert.S5DGluRefIdeal.τ).loc Cert.S5DGluRefIdeal.main_arg0) = m ((c.tc : Thread Cert.S5DGluIdeal.nD Cert.S5DGluIdeal.τ).loc Cert.S5DGluIdeal.main_arg0)
      ∧ m' ((c.tc : Thread Cert.S5DGluRefIdeal.nD Cert.S5DGluRefIdeal.τ).loc Cert.S5DGluRefIdeal.main_arg1) = m ((c.tc : Thread Cert.S5DGluIdeal.nD Cert.S5DGluIdeal.τ).loc Cert.S5DGluIdeal.main_arg1)
      ∧ m' ((c.tc : Thread Cert.S5DGluRefIdeal.nD Cert.S5DGluRefIdeal.τ).loc Cert.S5DGluRefIdeal.main_arg2) = m ((c.tc : Thread Cert.S5DGluIdeal.nD Cert.S5DGluIdeal.τ).loc Cert.S5DGluIdeal.main_arg2)) →
    ∃ (v0 : (c : Dev Cert.S5DGluIdeal.nD) → Buf (Elt Ideal) ((c.tc : Thread Cert.S5DGluIdeal.nD Cert.S5DGluIdeal.τ).loc Cert.S5DGluIdeal.main_v2)),
      θ_run (Cert.S5DGluIdeal.defs (F := Ideal)) (onTc (τ := Cert.S5DGluIdeal.τ) (Cert.S5DGluIdeal.main (F := Ideal))) ⟨m, fun _ => 0, g⟩ (fun r => ∀ c : Dev Cert.S5DGluIdeal.nD,
          r.2.mem ((c.tc : Thread Cert.S5DGluIdeal.nD Cert.S5DGluIdeal.τ).loc Cert.S5DGluIdeal.main_v2) = v0 c
          ∧ r.2.mem ((c.tc : Thread Cert.S5DGluIdeal.nD Cert.S5DGluIdeal.τ).loc Cert.S5DGluIdeal.main_arg0) = m ((c.tc : Thread Cert.S5DGluIdeal.nD Cert.S5DGluIdeal.τ).loc Cert.S5DGluIdeal.main_arg0)
          ∧ r.2.mem ((c.tc : Thread Cert.S5DGluIdeal.nD Cert.S5DGluIdeal.τ).loc Cert.S5DGluIdeal.main_arg1) = m ((c.tc : Thread Cert.S5DGluIdeal.nD Cert.S5DGluIdeal.τ).loc Cert.S5DGluIdeal.main_arg1)
          ∧ r.2.mem ((c.tc : Thread Cert.S5DGluIdeal.nD Cert.S5DGluIdeal.τ).loc Cert.S5DGluIdeal.main_arg2) = m ((c.tc : Thread Cert.S5DGluIdeal.nD Cert.S5DGluIdeal.τ).loc Cert.S5DGluIdeal.main_arg2))
      ∧ θ_run (Cert.S5DGluRefIdeal.defs (F := Ideal)) (onTc (τ := Cert.S5DGluRefIdeal.τ) (Cert.S5DGluRefIdeal.main (F := Ideal))) ⟨m', fun _ => 0, g'⟩ (fun r => ∀ c : Dev Cert.S5DGluRefIdeal.nD,
          r.2.mem ((c.tc : Thread Cert.S5DGluRefIdeal.nD Cert.S5DGluRefIdeal.τ).loc Cert.S5DGluRefIdeal.main_v1) = v0 c
          ∧ r.2.mem ((c.tc : Thread Cert.S5DGluRefIdeal.nD Cert.S5DGluRefIdeal.τ).loc Cert.S5DGluRefIdeal.main_arg0) = m' ((c.tc : Thread Cert.S5DGluRefIdeal.nD Cert.S5DGluRefIdeal.τ).loc Cert.S5DGluRefIdeal.main_arg0)
          ∧ r.2.mem ((c.tc : Thread Cert.S5DGluRefIdeal.nD Cert.S5DGluRefIdeal.τ).loc Cert.S5DGluRefIdeal.main_arg1) = m' ((c.tc : Thread Cert.S5DGluRefIdeal.nD Cert.S5DGluRefIdeal.τ).loc Cert.S5DGluRefIdeal.main_arg1)
          ∧ r.2.mem ((c.tc : Thread Cert.S5DGluRefIdeal.nD Cert.S5DGluRefIdeal.τ).loc Cert.S5DGluRefIdeal.main_arg2) = m' ((c.tc : Thread Cert.S5DGluRefIdeal.nD Cert.S5DGluRefIdeal.τ).loc Cert.S5DGluRefIdeal.main_arg2))

def preserves_S5DWGlu_S5DWGluIdeal : Prop :=
  True

def algebraic_S5DWGluIdeal_S5DWGluRefIdeal [hS5DWGluIdeal : Cert.S5DWGluIdeal.Facts] [hS5DWGluRefIdeal : Cert.S5DWGluRefIdeal.Facts] : Prop :=
  ∀ (m : (ℓ : Loc Cert.S5DWGluIdeal.nD Cert.S5DWGluIdeal.τ Cert.S5DWGluIdeal.sig) → Buf (Elt Ideal) ℓ) (g : Dev Cert.S5DWGluIdeal.nD → PrngReg)
    (m' : (ℓ : Loc Cert.S5DWGluRefIdeal.nD Cert.S5DWGluRefIdeal.τ Cert.S5DWGluRefIdeal.sig) → Buf (Elt Ideal) ℓ) (g' : Dev Cert.S5DWGluRefIdeal.nD → PrngReg), Pre_S5DWGluIdeal m →
    (∀ c : Dev Cert.S5DWGluIdeal.nD,
      m' ((c.tc : Thread Cert.S5DWGluRefIdeal.nD Cert.S5DWGluRefIdeal.τ).loc Cert.S5DWGluRefIdeal.main_arg0) = m ((c.tc : Thread Cert.S5DWGluIdeal.nD Cert.S5DWGluIdeal.τ).loc Cert.S5DWGluIdeal.main_arg0)
      ∧ m' ((c.tc : Thread Cert.S5DWGluRefIdeal.nD Cert.S5DWGluRefIdeal.τ).loc Cert.S5DWGluRefIdeal.main_arg1) = m ((c.tc : Thread Cert.S5DWGluIdeal.nD Cert.S5DWGluIdeal.τ).loc Cert.S5DWGluIdeal.main_arg1)
      ∧ m' ((c.tc : Thread Cert.S5DWGluRefIdeal.nD Cert.S5DWGluRefIdeal.τ).loc Cert.S5DWGluRefIdeal.main_arg2) = m ((c.tc : Thread Cert.S5DWGluIdeal.nD Cert.S5DWGluIdeal.τ).loc Cert.S5DWGluIdeal.main_arg2)) →
    ∃ (v0 : (c : Dev Cert.S5DWGluIdeal.nD) → Buf (Elt Ideal) ((c.tc : Thread Cert.S5DWGluIdeal.nD Cert.S5DWGluIdeal.τ).loc Cert.S5DWGluIdeal.main_v3)),
      θ_run (Cert.S5DWGluIdeal.defs (F := Ideal)) (onTc (τ := Cert.S5DWGluIdeal.τ) (Cert.S5DWGluIdeal.main (F := Ideal))) ⟨m, fun _ => 0, g⟩ (fun r => ∀ c : Dev Cert.S5DWGluIdeal.nD,
          r.2.mem ((c.tc : Thread Cert.S5DWGluIdeal.nD Cert.S5DWGluIdeal.τ).loc Cert.S5DWGluIdeal.main_v3) = v0 c
          ∧ r.2.mem ((c.tc : Thread Cert.S5DWGluIdeal.nD Cert.S5DWGluIdeal.τ).loc Cert.S5DWGluIdeal.main_arg0) = m ((c.tc : Thread Cert.S5DWGluIdeal.nD Cert.S5DWGluIdeal.τ).loc Cert.S5DWGluIdeal.main_arg0)
          ∧ r.2.mem ((c.tc : Thread Cert.S5DWGluIdeal.nD Cert.S5DWGluIdeal.τ).loc Cert.S5DWGluIdeal.main_arg1) = m ((c.tc : Thread Cert.S5DWGluIdeal.nD Cert.S5DWGluIdeal.τ).loc Cert.S5DWGluIdeal.main_arg1)
          ∧ r.2.mem ((c.tc : Thread Cert.S5DWGluIdeal.nD Cert.S5DWGluIdeal.τ).loc Cert.S5DWGluIdeal.main_arg2) = m ((c.tc : Thread Cert.S5DWGluIdeal.nD Cert.S5DWGluIdeal.τ).loc Cert.S5DWGluIdeal.main_arg2))
      ∧ θ_run (Cert.S5DWGluRefIdeal.defs (F := Ideal)) (onTc (τ := Cert.S5DWGluRefIdeal.τ) (Cert.S5DWGluRefIdeal.main (F := Ideal))) ⟨m', fun _ => 0, g'⟩ (fun r => ∀ c : Dev Cert.S5DWGluRefIdeal.nD,
          r.2.mem ((c.tc : Thread Cert.S5DWGluRefIdeal.nD Cert.S5DWGluRefIdeal.τ).loc Cert.S5DWGluRefIdeal.main_v2) = v0 c
          ∧ r.2.mem ((c.tc : Thread Cert.S5DWGluRefIdeal.nD Cert.S5DWGluRefIdeal.τ).loc Cert.S5DWGluRefIdeal.main_arg0) = m' ((c.tc : Thread Cert.S5DWGluRefIdeal.nD Cert.S5DWGluRefIdeal.τ).loc Cert.S5DWGluRefIdeal.main_arg0)
          ∧ r.2.mem ((c.tc : Thread Cert.S5DWGluRefIdeal.nD Cert.S5DWGluRefIdeal.τ).loc Cert.S5DWGluRefIdeal.main_arg1) = m' ((c.tc : Thread Cert.S5DWGluRefIdeal.nD Cert.S5DWGluRefIdeal.τ).loc Cert.S5DWGluRefIdeal.main_arg1)
          ∧ r.2.mem ((c.tc : Thread Cert.S5DWGluRefIdeal.nD Cert.S5DWGluRefIdeal.τ).loc Cert.S5DWGluRefIdeal.main_arg2) = m' ((c.tc : Thread Cert.S5DWGluRefIdeal.nD Cert.S5DWGluRefIdeal.τ).loc Cert.S5DWGluRefIdeal.main_arg2))

def preserves_S5DIn_S5DInIdeal : Prop :=
  True

def algebraic_S5DInIdeal_S5DInRefIdeal [hS5DInIdeal : Cert.S5DInIdeal.Facts] [hS5DInRefIdeal : Cert.S5DInRefIdeal.Facts] : Prop :=
  ∀ (m : (ℓ : Loc Cert.S5DInIdeal.nD Cert.S5DInIdeal.τ Cert.S5DInIdeal.sig) → Buf (Elt Ideal) ℓ) (g : Dev Cert.S5DInIdeal.nD → PrngReg)
    (m' : (ℓ : Loc Cert.S5DInRefIdeal.nD Cert.S5DInRefIdeal.τ Cert.S5DInRefIdeal.sig) → Buf (Elt Ideal) ℓ) (g' : Dev Cert.S5DInRefIdeal.nD → PrngReg), Pre_S5DInIdeal m →
    (∀ c : Dev Cert.S5DInIdeal.nD,
      m' ((c.tc : Thread Cert.S5DInRefIdeal.nD Cert.S5DInRefIdeal.τ).loc Cert.S5DInRefIdeal.main_arg0) = m ((c.tc : Thread Cert.S5DInIdeal.nD Cert.S5DInIdeal.τ).loc Cert.S5DInIdeal.main_arg0)
      ∧ m' ((c.tc : Thread Cert.S5DInRefIdeal.nD Cert.S5DInRefIdeal.τ).loc Cert.S5DInRefIdeal.main_arg1) = m ((c.tc : Thread Cert.S5DInIdeal.nD Cert.S5DInIdeal.τ).loc Cert.S5DInIdeal.main_arg1)
      ∧ m' ((c.tc : Thread Cert.S5DInRefIdeal.nD Cert.S5DInRefIdeal.τ).loc Cert.S5DInRefIdeal.main_arg2) = m ((c.tc : Thread Cert.S5DInIdeal.nD Cert.S5DInIdeal.τ).loc Cert.S5DInIdeal.main_arg2)) →
    ∃ (v0 : (c : Dev Cert.S5DInIdeal.nD) → Buf (Elt Ideal) ((c.tc : Thread Cert.S5DInIdeal.nD Cert.S5DInIdeal.τ).loc Cert.S5DInIdeal.main_v2)),
      θ_run (Cert.S5DInIdeal.defs (F := Ideal)) (onTc (τ := Cert.S5DInIdeal.τ) (Cert.S5DInIdeal.main (F := Ideal))) ⟨m, fun _ => 0, g⟩ (fun r => ∀ c : Dev Cert.S5DInIdeal.nD,
          r.2.mem ((c.tc : Thread Cert.S5DInIdeal.nD Cert.S5DInIdeal.τ).loc Cert.S5DInIdeal.main_v2) = v0 c
          ∧ r.2.mem ((c.tc : Thread Cert.S5DInIdeal.nD Cert.S5DInIdeal.τ).loc Cert.S5DInIdeal.main_arg0) = m ((c.tc : Thread Cert.S5DInIdeal.nD Cert.S5DInIdeal.τ).loc Cert.S5DInIdeal.main_arg0)
          ∧ r.2.mem ((c.tc : Thread Cert.S5DInIdeal.nD Cert.S5DInIdeal.τ).loc Cert.S5DInIdeal.main_arg1) = m ((c.tc : Thread Cert.S5DInIdeal.nD Cert.S5DInIdeal.τ).loc Cert.S5DInIdeal.main_arg1)
          ∧ r.2.mem ((c.tc : Thread Cert.S5DInIdeal.nD Cert.S5DInIdeal.τ).loc Cert.S5DInIdeal.main_arg2) = m ((c.tc : Thread Cert.S5DInIdeal.nD Cert.S5DInIdeal.τ).loc Cert.S5DInIdeal.main_arg2))
      ∧ θ_run (Cert.S5DInRefIdeal.defs (F := Ideal)) (onTc (τ := Cert.S5DInRefIdeal.τ) (Cert.S5DInRefIdeal.main (F := Ideal))) ⟨m', fun _ => 0, g'⟩ (fun r => ∀ c : Dev Cert.S5DInRefIdeal.nD,
          r.2.mem ((c.tc : Thread Cert.S5DInRefIdeal.nD Cert.S5DInRefIdeal.τ).loc Cert.S5DInRefIdeal.main_v1) = v0 c
          ∧ r.2.mem ((c.tc : Thread Cert.S5DInRefIdeal.nD Cert.S5DInRefIdeal.τ).loc Cert.S5DInRefIdeal.main_arg0) = m' ((c.tc : Thread Cert.S5DInRefIdeal.nD Cert.S5DInRefIdeal.τ).loc Cert.S5DInRefIdeal.main_arg0)
          ∧ r.2.mem ((c.tc : Thread Cert.S5DInRefIdeal.nD Cert.S5DInRefIdeal.τ).loc Cert.S5DInRefIdeal.main_arg1) = m' ((c.tc : Thread Cert.S5DInRefIdeal.nD Cert.S5DInRefIdeal.τ).loc Cert.S5DInRefIdeal.main_arg1)
          ∧ r.2.mem ((c.tc : Thread Cert.S5DInRefIdeal.nD Cert.S5DInRefIdeal.τ).loc Cert.S5DInRefIdeal.main_arg2) = m' ((c.tc : Thread Cert.S5DInRefIdeal.nD Cert.S5DInRefIdeal.τ).loc Cert.S5DInRefIdeal.main_arg2))

def preserves_S5DWIn_S5DWInIdeal : Prop :=
  True

def algebraic_S5DWInIdeal_S5DWInRefIdeal [hS5DWInIdeal : Cert.S5DWInIdeal.Facts] [hS5DWInRefIdeal : Cert.S5DWInRefIdeal.Facts] : Prop :=
  ∀ (m : (ℓ : Loc Cert.S5DWInIdeal.nD Cert.S5DWInIdeal.τ Cert.S5DWInIdeal.sig) → Buf (Elt Ideal) ℓ) (g : Dev Cert.S5DWInIdeal.nD → PrngReg)
    (m' : (ℓ : Loc Cert.S5DWInRefIdeal.nD Cert.S5DWInRefIdeal.τ Cert.S5DWInRefIdeal.sig) → Buf (Elt Ideal) ℓ) (g' : Dev Cert.S5DWInRefIdeal.nD → PrngReg), Pre_S5DWInIdeal m →
    (∀ c : Dev Cert.S5DWInIdeal.nD,
      m' ((c.tc : Thread Cert.S5DWInRefIdeal.nD Cert.S5DWInRefIdeal.τ).loc Cert.S5DWInRefIdeal.main_arg0) = m ((c.tc : Thread Cert.S5DWInIdeal.nD Cert.S5DWInIdeal.τ).loc Cert.S5DWInIdeal.main_arg0)
      ∧ m' ((c.tc : Thread Cert.S5DWInRefIdeal.nD Cert.S5DWInRefIdeal.τ).loc Cert.S5DWInRefIdeal.main_arg1) = m ((c.tc : Thread Cert.S5DWInIdeal.nD Cert.S5DWInIdeal.τ).loc Cert.S5DWInIdeal.main_arg1)
      ∧ m' ((c.tc : Thread Cert.S5DWInRefIdeal.nD Cert.S5DWInRefIdeal.τ).loc Cert.S5DWInRefIdeal.main_arg2) = m ((c.tc : Thread Cert.S5DWInIdeal.nD Cert.S5DWInIdeal.τ).loc Cert.S5DWInIdeal.main_arg2)) →
    ∃ (v0 : (c : Dev Cert.S5DWInIdeal.nD) → Buf (Elt Ideal) ((c.tc : Thread Cert.S5DWInIdeal.nD Cert.S5DWInIdeal.τ).loc Cert.S5DWInIdeal.main_v3)),
      θ_run (Cert.S5DWInIdeal.defs (F := Ideal)) (onTc (τ := Cert.S5DWInIdeal.τ) (Cert.S5DWInIdeal.main (F := Ideal))) ⟨m, fun _ => 0, g⟩ (fun r => ∀ c : Dev Cert.S5DWInIdeal.nD,
          r.2.mem ((c.tc : Thread Cert.S5DWInIdeal.nD Cert.S5DWInIdeal.τ).loc Cert.S5DWInIdeal.main_v3) = v0 c
          ∧ r.2.mem ((c.tc : Thread Cert.S5DWInIdeal.nD Cert.S5DWInIdeal.τ).loc Cert.S5DWInIdeal.main_arg0) = m ((c.tc : Thread Cert.S5DWInIdeal.nD Cert.S5DWInIdeal.τ).loc Cert.S5DWInIdeal.main_arg0)
          ∧ r.2.mem ((c.tc : Thread Cert.S5DWInIdeal.nD Cert.S5DWInIdeal.τ).loc Cert.S5DWInIdeal.main_arg1) = m ((c.tc : Thread Cert.S5DWInIdeal.nD Cert.S5DWInIdeal.τ).loc Cert.S5DWInIdeal.main_arg1)
          ∧ r.2.mem ((c.tc : Thread Cert.S5DWInIdeal.nD Cert.S5DWInIdeal.τ).loc Cert.S5DWInIdeal.main_arg2) = m ((c.tc : Thread Cert.S5DWInIdeal.nD Cert.S5DWInIdeal.τ).loc Cert.S5DWInIdeal.main_arg2))
      ∧ θ_run (Cert.S5DWInRefIdeal.defs (F := Ideal)) (onTc (τ := Cert.S5DWInRefIdeal.τ) (Cert.S5DWInRefIdeal.main (F := Ideal))) ⟨m', fun _ => 0, g'⟩ (fun r => ∀ c : Dev Cert.S5DWInRefIdeal.nD,
          r.2.mem ((c.tc : Thread Cert.S5DWInRefIdeal.nD Cert.S5DWInRefIdeal.τ).loc Cert.S5DWInRefIdeal.main_v2) = v0 c
          ∧ r.2.mem ((c.tc : Thread Cert.S5DWInRefIdeal.nD Cert.S5DWInRefIdeal.τ).loc Cert.S5DWInRefIdeal.main_arg0) = m' ((c.tc : Thread Cert.S5DWInRefIdeal.nD Cert.S5DWInRefIdeal.τ).loc Cert.S5DWInRefIdeal.main_arg0)
          ∧ r.2.mem ((c.tc : Thread Cert.S5DWInRefIdeal.nD Cert.S5DWInRefIdeal.τ).loc Cert.S5DWInRefIdeal.main_arg1) = m' ((c.tc : Thread Cert.S5DWInRefIdeal.nD Cert.S5DWInRefIdeal.τ).loc Cert.S5DWInRefIdeal.main_arg1)
          ∧ r.2.mem ((c.tc : Thread Cert.S5DWInRefIdeal.nD Cert.S5DWInRefIdeal.τ).loc Cert.S5DWInRefIdeal.main_arg2) = m' ((c.tc : Thread Cert.S5DWInRefIdeal.nD Cert.S5DWInRefIdeal.τ).loc Cert.S5DWInRefIdeal.main_arg2))

def preserves_SsdDOut_SsdDOutIdeal : Prop :=
  True

def algebraic_SsdDOutIdeal_SsdDOutRefIdeal [hSsdDOutIdeal : Cert.SsdDOutIdeal.Facts] [hSsdDOutRefIdeal : Cert.SsdDOutRefIdeal.Facts] : Prop :=
  ∀ (m : (ℓ : Loc Cert.SsdDOutIdeal.nD Cert.SsdDOutIdeal.τ Cert.SsdDOutIdeal.sig) → Buf (Elt Ideal) ℓ) (g : Dev Cert.SsdDOutIdeal.nD → PrngReg)
    (m' : (ℓ : Loc Cert.SsdDOutRefIdeal.nD Cert.SsdDOutRefIdeal.τ Cert.SsdDOutRefIdeal.sig) → Buf (Elt Ideal) ℓ) (g' : Dev Cert.SsdDOutRefIdeal.nD → PrngReg), Pre_SsdDOutIdeal m →
    (∀ c : Dev Cert.SsdDOutIdeal.nD,
      m' ((c.tc : Thread Cert.SsdDOutRefIdeal.nD Cert.SsdDOutRefIdeal.τ).loc Cert.SsdDOutRefIdeal.main_arg0) = m ((c.tc : Thread Cert.SsdDOutIdeal.nD Cert.SsdDOutIdeal.τ).loc Cert.SsdDOutIdeal.main_arg0)
      ∧ m' ((c.tc : Thread Cert.SsdDOutRefIdeal.nD Cert.SsdDOutRefIdeal.τ).loc Cert.SsdDOutRefIdeal.main_arg1) = m ((c.tc : Thread Cert.SsdDOutIdeal.nD Cert.SsdDOutIdeal.τ).loc Cert.SsdDOutIdeal.main_arg1)
      ∧ m' ((c.tc : Thread Cert.SsdDOutRefIdeal.nD Cert.SsdDOutRefIdeal.τ).loc Cert.SsdDOutRefIdeal.main_arg2) = m ((c.tc : Thread Cert.SsdDOutIdeal.nD Cert.SsdDOutIdeal.τ).loc Cert.SsdDOutIdeal.main_arg2)
      ∧ m' ((c.tc : Thread Cert.SsdDOutRefIdeal.nD Cert.SsdDOutRefIdeal.τ).loc Cert.SsdDOutRefIdeal.main_arg3) = m ((c.tc : Thread Cert.SsdDOutIdeal.nD Cert.SsdDOutIdeal.τ).loc Cert.SsdDOutIdeal.main_arg3)) →
    ∃ (v0 : (c : Dev Cert.SsdDOutIdeal.nD) → Buf (Elt Ideal) ((c.tc : Thread Cert.SsdDOutIdeal.nD Cert.SsdDOutIdeal.τ).loc Cert.SsdDOutIdeal.main_v4)),
      θ_run (Cert.SsdDOutIdeal.defs (F := Ideal)) (onTc (τ := Cert.SsdDOutIdeal.τ) (Cert.SsdDOutIdeal.main (F := Ideal))) ⟨m, fun _ => 0, g⟩ (fun r => ∀ c : Dev Cert.SsdDOutIdeal.nD,
          r.2.mem ((c.tc : Thread Cert.SsdDOutIdeal.nD Cert.SsdDOutIdeal.τ).loc Cert.SsdDOutIdeal.main_v4) = v0 c
          ∧ r.2.mem ((c.tc : Thread Cert.SsdDOutIdeal.nD Cert.SsdDOutIdeal.τ).loc Cert.SsdDOutIdeal.main_arg0) = m ((c.tc : Thread Cert.SsdDOutIdeal.nD Cert.SsdDOutIdeal.τ).loc Cert.SsdDOutIdeal.main_arg0)
          ∧ r.2.mem ((c.tc : Thread Cert.SsdDOutIdeal.nD Cert.SsdDOutIdeal.τ).loc Cert.SsdDOutIdeal.main_arg1) = m ((c.tc : Thread Cert.SsdDOutIdeal.nD Cert.SsdDOutIdeal.τ).loc Cert.SsdDOutIdeal.main_arg1)
          ∧ r.2.mem ((c.tc : Thread Cert.SsdDOutIdeal.nD Cert.SsdDOutIdeal.τ).loc Cert.SsdDOutIdeal.main_arg2) = m ((c.tc : Thread Cert.SsdDOutIdeal.nD Cert.SsdDOutIdeal.τ).loc Cert.SsdDOutIdeal.main_arg2)
          ∧ r.2.mem ((c.tc : Thread Cert.SsdDOutIdeal.nD Cert.SsdDOutIdeal.τ).loc Cert.SsdDOutIdeal.main_arg3) = m ((c.tc : Thread Cert.SsdDOutIdeal.nD Cert.SsdDOutIdeal.τ).loc Cert.SsdDOutIdeal.main_arg3))
      ∧ θ_run (Cert.SsdDOutRefIdeal.defs (F := Ideal)) (onTc (τ := Cert.SsdDOutRefIdeal.τ) (Cert.SsdDOutRefIdeal.main (F := Ideal))) ⟨m', fun _ => 0, g'⟩ (fun r => ∀ c : Dev Cert.SsdDOutRefIdeal.nD,
          r.2.mem ((c.tc : Thread Cert.SsdDOutRefIdeal.nD Cert.SsdDOutRefIdeal.τ).loc Cert.SsdDOutRefIdeal.main_v5) = v0 c
          ∧ r.2.mem ((c.tc : Thread Cert.SsdDOutRefIdeal.nD Cert.SsdDOutRefIdeal.τ).loc Cert.SsdDOutRefIdeal.main_arg0) = m' ((c.tc : Thread Cert.SsdDOutRefIdeal.nD Cert.SsdDOutRefIdeal.τ).loc Cert.SsdDOutRefIdeal.main_arg0)
          ∧ r.2.mem ((c.tc : Thread Cert.SsdDOutRefIdeal.nD Cert.SsdDOutRefIdeal.τ).loc Cert.SsdDOutRefIdeal.main_arg1) = m' ((c.tc : Thread Cert.SsdDOutRefIdeal.nD Cert.SsdDOutRefIdeal.τ).loc Cert.SsdDOutRefIdeal.main_arg1)
          ∧ r.2.mem ((c.tc : Thread Cert.SsdDOutRefIdeal.nD Cert.SsdDOutRefIdeal.τ).loc Cert.SsdDOutRefIdeal.main_arg2) = m' ((c.tc : Thread Cert.SsdDOutRefIdeal.nD Cert.SsdDOutRefIdeal.τ).loc Cert.SsdDOutRefIdeal.main_arg2)
          ∧ r.2.mem ((c.tc : Thread Cert.SsdDOutRefIdeal.nD Cert.SsdDOutRefIdeal.τ).loc Cert.SsdDOutRefIdeal.main_arg3) = m' ((c.tc : Thread Cert.SsdDOutRefIdeal.nD Cert.SsdDOutRefIdeal.τ).loc Cert.SsdDOutRefIdeal.main_arg3))

def preserves_SsdDWOut_SsdDWOutIdeal : Prop :=
  True

def algebraic_SsdDWOutIdeal_SsdDWOutRefIdeal_pre_ssd_finite [hSsdDWOutIdeal : Cert.SsdDWOutIdeal.Facts] [hSsdDWOutRefIdeal : Cert.SsdDWOutRefIdeal.Facts] [hPre_ssd_finite : Cert.Pre_ssd_finite.Facts] : Prop :=
  ∀ (m : (ℓ : Loc Cert.SsdDWOutIdeal.nD Cert.SsdDWOutIdeal.τ Cert.SsdDWOutIdeal.sig) → Buf (Elt Ideal) ℓ) (g : Dev Cert.SsdDWOutIdeal.nD → PrngReg)
    (m' : (ℓ : Loc Cert.SsdDWOutRefIdeal.nD Cert.SsdDWOutRefIdeal.τ Cert.SsdDWOutRefIdeal.sig) → Buf (Elt Ideal) ℓ) (g' : Dev Cert.SsdDWOutRefIdeal.nD → PrngReg), Pre_SsdDWOutIdeal_ssd_finite m →
    (∀ c : Dev Cert.SsdDWOutIdeal.nD,
      m' ((c.tc : Thread Cert.SsdDWOutRefIdeal.nD Cert.SsdDWOutRefIdeal.τ).loc Cert.SsdDWOutRefIdeal.main_arg0) = m ((c.tc : Thread Cert.SsdDWOutIdeal.nD Cert.SsdDWOutIdeal.τ).loc Cert.SsdDWOutIdeal.main_arg0)
      ∧ m' ((c.tc : Thread Cert.SsdDWOutRefIdeal.nD Cert.SsdDWOutRefIdeal.τ).loc Cert.SsdDWOutRefIdeal.main_arg1) = m ((c.tc : Thread Cert.SsdDWOutIdeal.nD Cert.SsdDWOutIdeal.τ).loc Cert.SsdDWOutIdeal.main_arg1)
      ∧ m' ((c.tc : Thread Cert.SsdDWOutRefIdeal.nD Cert.SsdDWOutRefIdeal.τ).loc Cert.SsdDWOutRefIdeal.main_arg2) = m ((c.tc : Thread Cert.SsdDWOutIdeal.nD Cert.SsdDWOutIdeal.τ).loc Cert.SsdDWOutIdeal.main_arg2)
      ∧ m' ((c.tc : Thread Cert.SsdDWOutRefIdeal.nD Cert.SsdDWOutRefIdeal.τ).loc Cert.SsdDWOutRefIdeal.main_arg3) = m ((c.tc : Thread Cert.SsdDWOutIdeal.nD Cert.SsdDWOutIdeal.τ).loc Cert.SsdDWOutIdeal.main_arg3)) →
    ∃ (v0 : (c : Dev Cert.SsdDWOutIdeal.nD) → Buf (Elt Ideal) ((c.tc : Thread Cert.SsdDWOutIdeal.nD Cert.SsdDWOutIdeal.τ).loc Cert.SsdDWOutIdeal.main_v4)) (v1 : (c : Dev Cert.SsdDWOutIdeal.nD) → Buf (Elt Ideal) ((c.tc : Thread Cert.SsdDWOutIdeal.nD Cert.SsdDWOutIdeal.τ).loc Cert.SsdDWOutIdeal.main_v5)),
      θ_run (Cert.SsdDWOutIdeal.defs (F := Ideal)) (onTc (τ := Cert.SsdDWOutIdeal.τ) (Cert.SsdDWOutIdeal.main (F := Ideal))) ⟨m, fun _ => 0, g⟩ (fun r => ∀ c : Dev Cert.SsdDWOutIdeal.nD,
          r.2.mem ((c.tc : Thread Cert.SsdDWOutIdeal.nD Cert.SsdDWOutIdeal.τ).loc Cert.SsdDWOutIdeal.main_v4) = v0 c
          ∧ r.2.mem ((c.tc : Thread Cert.SsdDWOutIdeal.nD Cert.SsdDWOutIdeal.τ).loc Cert.SsdDWOutIdeal.main_v5) = v1 c
          ∧ r.2.mem ((c.tc : Thread Cert.SsdDWOutIdeal.nD Cert.SsdDWOutIdeal.τ).loc Cert.SsdDWOutIdeal.main_arg0) = m ((c.tc : Thread Cert.SsdDWOutIdeal.nD Cert.SsdDWOutIdeal.τ).loc Cert.SsdDWOutIdeal.main_arg0)
          ∧ r.2.mem ((c.tc : Thread Cert.SsdDWOutIdeal.nD Cert.SsdDWOutIdeal.τ).loc Cert.SsdDWOutIdeal.main_arg1) = m ((c.tc : Thread Cert.SsdDWOutIdeal.nD Cert.SsdDWOutIdeal.τ).loc Cert.SsdDWOutIdeal.main_arg1)
          ∧ r.2.mem ((c.tc : Thread Cert.SsdDWOutIdeal.nD Cert.SsdDWOutIdeal.τ).loc Cert.SsdDWOutIdeal.main_arg2) = m ((c.tc : Thread Cert.SsdDWOutIdeal.nD Cert.SsdDWOutIdeal.τ).loc Cert.SsdDWOutIdeal.main_arg2)
          ∧ r.2.mem ((c.tc : Thread Cert.SsdDWOutIdeal.nD Cert.SsdDWOutIdeal.τ).loc Cert.SsdDWOutIdeal.main_arg3) = m ((c.tc : Thread Cert.SsdDWOutIdeal.nD Cert.SsdDWOutIdeal.τ).loc Cert.SsdDWOutIdeal.main_arg3))
      ∧ θ_run (Cert.SsdDWOutRefIdeal.defs (F := Ideal)) (onTc (τ := Cert.SsdDWOutRefIdeal.τ) (Cert.SsdDWOutRefIdeal.main (F := Ideal))) ⟨m', fun _ => 0, g'⟩ (fun r => ∀ c : Dev Cert.SsdDWOutRefIdeal.nD,
          r.2.mem ((c.tc : Thread Cert.SsdDWOutRefIdeal.nD Cert.SsdDWOutRefIdeal.τ).loc Cert.SsdDWOutRefIdeal.main_v9) = v0 c
          ∧ r.2.mem ((c.tc : Thread Cert.SsdDWOutRefIdeal.nD Cert.SsdDWOutRefIdeal.τ).loc Cert.SsdDWOutRefIdeal.main_v7) = v1 c
          ∧ r.2.mem ((c.tc : Thread Cert.SsdDWOutRefIdeal.nD Cert.SsdDWOutRefIdeal.τ).loc Cert.SsdDWOutRefIdeal.main_arg0) = m' ((c.tc : Thread Cert.SsdDWOutRefIdeal.nD Cert.SsdDWOutRefIdeal.τ).loc Cert.SsdDWOutRefIdeal.main_arg0)
          ∧ r.2.mem ((c.tc : Thread Cert.SsdDWOutRefIdeal.nD Cert.SsdDWOutRefIdeal.τ).loc Cert.SsdDWOutRefIdeal.main_arg1) = m' ((c.tc : Thread Cert.SsdDWOutRefIdeal.nD Cert.SsdDWOutRefIdeal.τ).loc Cert.SsdDWOutRefIdeal.main_arg1)
          ∧ r.2.mem ((c.tc : Thread Cert.SsdDWOutRefIdeal.nD Cert.SsdDWOutRefIdeal.τ).loc Cert.SsdDWOutRefIdeal.main_arg2) = m' ((c.tc : Thread Cert.SsdDWOutRefIdeal.nD Cert.SsdDWOutRefIdeal.τ).loc Cert.SsdDWOutRefIdeal.main_arg2)
          ∧ r.2.mem ((c.tc : Thread Cert.SsdDWOutRefIdeal.nD Cert.SsdDWOutRefIdeal.τ).loc Cert.SsdDWOutRefIdeal.main_arg3) = m' ((c.tc : Thread Cert.SsdDWOutRefIdeal.nD Cert.SsdDWOutRefIdeal.τ).loc Cert.SsdDWOutRefIdeal.main_arg3))

def preserves_SsdDInZ_SsdDInZIdeal : Prop :=
  True

def algebraic_SsdDInZIdeal_SsdDInZRefIdeal [hSsdDInZIdeal : Cert.SsdDInZIdeal.Facts] [hSsdDInZRefIdeal : Cert.SsdDInZRefIdeal.Facts] : Prop :=
  ∀ (m : (ℓ : Loc Cert.SsdDInZIdeal.nD Cert.SsdDInZIdeal.τ Cert.SsdDInZIdeal.sig) → Buf (Elt Ideal) ℓ) (g : Dev Cert.SsdDInZIdeal.nD → PrngReg)
    (m' : (ℓ : Loc Cert.SsdDInZRefIdeal.nD Cert.SsdDInZRefIdeal.τ Cert.SsdDInZRefIdeal.sig) → Buf (Elt Ideal) ℓ) (g' : Dev Cert.SsdDInZRefIdeal.nD → PrngReg), Pre_SsdDInZIdeal m →
    (∀ c : Dev Cert.SsdDInZIdeal.nD,
      m' ((c.tc : Thread Cert.SsdDInZRefIdeal.nD Cert.SsdDInZRefIdeal.τ).loc Cert.SsdDInZRefIdeal.main_arg0) = m ((c.tc : Thread Cert.SsdDInZIdeal.nD Cert.SsdDInZIdeal.τ).loc Cert.SsdDInZIdeal.main_arg0)
      ∧ m' ((c.tc : Thread Cert.SsdDInZRefIdeal.nD Cert.SsdDInZRefIdeal.τ).loc Cert.SsdDInZRefIdeal.main_arg1) = m ((c.tc : Thread Cert.SsdDInZIdeal.nD Cert.SsdDInZIdeal.τ).loc Cert.SsdDInZIdeal.main_arg1)
      ∧ m' ((c.tc : Thread Cert.SsdDInZRefIdeal.nD Cert.SsdDInZRefIdeal.τ).loc Cert.SsdDInZRefIdeal.main_arg2) = m ((c.tc : Thread Cert.SsdDInZIdeal.nD Cert.SsdDInZIdeal.τ).loc Cert.SsdDInZIdeal.main_arg2)) →
    ∃ (v0 : (c : Dev Cert.SsdDInZIdeal.nD) → Buf (Elt Ideal) ((c.tc : Thread Cert.SsdDInZIdeal.nD Cert.SsdDInZIdeal.τ).loc Cert.SsdDInZIdeal.main_v3)),
      θ_run (Cert.SsdDInZIdeal.defs (F := Ideal)) (onTc (τ := Cert.SsdDInZIdeal.τ) (Cert.SsdDInZIdeal.main (F := Ideal))) ⟨m, fun _ => 0, g⟩ (fun r => ∀ c : Dev Cert.SsdDInZIdeal.nD,
          r.2.mem ((c.tc : Thread Cert.SsdDInZIdeal.nD Cert.SsdDInZIdeal.τ).loc Cert.SsdDInZIdeal.main_v3) = v0 c
          ∧ r.2.mem ((c.tc : Thread Cert.SsdDInZIdeal.nD Cert.SsdDInZIdeal.τ).loc Cert.SsdDInZIdeal.main_arg0) = m ((c.tc : Thread Cert.SsdDInZIdeal.nD Cert.SsdDInZIdeal.τ).loc Cert.SsdDInZIdeal.main_arg0)
          ∧ r.2.mem ((c.tc : Thread Cert.SsdDInZIdeal.nD Cert.SsdDInZIdeal.τ).loc Cert.SsdDInZIdeal.main_arg1) = m ((c.tc : Thread Cert.SsdDInZIdeal.nD Cert.SsdDInZIdeal.τ).loc Cert.SsdDInZIdeal.main_arg1)
          ∧ r.2.mem ((c.tc : Thread Cert.SsdDInZIdeal.nD Cert.SsdDInZIdeal.τ).loc Cert.SsdDInZIdeal.main_arg2) = m ((c.tc : Thread Cert.SsdDInZIdeal.nD Cert.SsdDInZIdeal.τ).loc Cert.SsdDInZIdeal.main_arg2))
      ∧ θ_run (Cert.SsdDInZRefIdeal.defs (F := Ideal)) (onTc (τ := Cert.SsdDInZRefIdeal.τ) (Cert.SsdDInZRefIdeal.main (F := Ideal))) ⟨m', fun _ => 0, g'⟩ (fun r => ∀ c : Dev Cert.SsdDInZRefIdeal.nD,
          r.2.mem ((c.tc : Thread Cert.SsdDInZRefIdeal.nD Cert.SsdDInZRefIdeal.τ).loc Cert.SsdDInZRefIdeal.main_v2) = v0 c
          ∧ r.2.mem ((c.tc : Thread Cert.SsdDInZRefIdeal.nD Cert.SsdDInZRefIdeal.τ).loc Cert.SsdDInZRefIdeal.main_arg0) = m' ((c.tc : Thread Cert.SsdDInZRefIdeal.nD Cert.SsdDInZRefIdeal.τ).loc Cert.SsdDInZRefIdeal.main_arg0)
          ∧ r.2.mem ((c.tc : Thread Cert.SsdDInZRefIdeal.nD Cert.SsdDInZRefIdeal.τ).loc Cert.SsdDInZRefIdeal.main_arg1) = m' ((c.tc : Thread Cert.SsdDInZRefIdeal.nD Cert.SsdDInZRefIdeal.τ).loc Cert.SsdDInZRefIdeal.main_arg1)
          ∧ r.2.mem ((c.tc : Thread Cert.SsdDInZRefIdeal.nD Cert.SsdDInZRefIdeal.τ).loc Cert.SsdDInZRefIdeal.main_arg2) = m' ((c.tc : Thread Cert.SsdDInZRefIdeal.nD Cert.SsdDInZRefIdeal.τ).loc Cert.SsdDInZRefIdeal.main_arg2))

def preserves_SsdDInXbc_SsdDInXbcIdeal : Prop :=
  True

def algebraic_SsdDInXbcIdeal_SsdDInXbcRefIdeal [hSsdDInXbcIdeal : Cert.SsdDInXbcIdeal.Facts] [hSsdDInXbcRefIdeal : Cert.SsdDInXbcRefIdeal.Facts] : Prop :=
  ∀ (m : (ℓ : Loc Cert.SsdDInXbcIdeal.nD Cert.SsdDInXbcIdeal.τ Cert.SsdDInXbcIdeal.sig) → Buf (Elt Ideal) ℓ) (g : Dev Cert.SsdDInXbcIdeal.nD → PrngReg)
    (m' : (ℓ : Loc Cert.SsdDInXbcRefIdeal.nD Cert.SsdDInXbcRefIdeal.τ Cert.SsdDInXbcRefIdeal.sig) → Buf (Elt Ideal) ℓ) (g' : Dev Cert.SsdDInXbcRefIdeal.nD → PrngReg), Pre_SsdDInXbcIdeal m →
    (∀ c : Dev Cert.SsdDInXbcIdeal.nD,
      m' ((c.tc : Thread Cert.SsdDInXbcRefIdeal.nD Cert.SsdDInXbcRefIdeal.τ).loc Cert.SsdDInXbcRefIdeal.main_arg0) = m ((c.tc : Thread Cert.SsdDInXbcIdeal.nD Cert.SsdDInXbcIdeal.τ).loc Cert.SsdDInXbcIdeal.main_arg0)
      ∧ m' ((c.tc : Thread Cert.SsdDInXbcRefIdeal.nD Cert.SsdDInXbcRefIdeal.τ).loc Cert.SsdDInXbcRefIdeal.main_arg1) = m ((c.tc : Thread Cert.SsdDInXbcIdeal.nD Cert.SsdDInXbcIdeal.τ).loc Cert.SsdDInXbcIdeal.main_arg1)
      ∧ m' ((c.tc : Thread Cert.SsdDInXbcRefIdeal.nD Cert.SsdDInXbcRefIdeal.τ).loc Cert.SsdDInXbcRefIdeal.main_arg2) = m ((c.tc : Thread Cert.SsdDInXbcIdeal.nD Cert.SsdDInXbcIdeal.τ).loc Cert.SsdDInXbcIdeal.main_arg2)
      ∧ m' ((c.tc : Thread Cert.SsdDInXbcRefIdeal.nD Cert.SsdDInXbcRefIdeal.τ).loc Cert.SsdDInXbcRefIdeal.main_arg3) = m ((c.tc : Thread Cert.SsdDInXbcIdeal.nD Cert.SsdDInXbcIdeal.τ).loc Cert.SsdDInXbcIdeal.main_arg3)) →
    ∃ (v0 : (c : Dev Cert.SsdDInXbcIdeal.nD) → Buf (Elt Ideal) ((c.tc : Thread Cert.SsdDInXbcIdeal.nD Cert.SsdDInXbcIdeal.τ).loc Cert.SsdDInXbcIdeal.main_v3)),
      θ_run (Cert.SsdDInXbcIdeal.defs (F := Ideal)) (onTc (τ := Cert.SsdDInXbcIdeal.τ) (Cert.SsdDInXbcIdeal.main (F := Ideal))) ⟨m, fun _ => 0, g⟩ (fun r => ∀ c : Dev Cert.SsdDInXbcIdeal.nD,
          r.2.mem ((c.tc : Thread Cert.SsdDInXbcIdeal.nD Cert.SsdDInXbcIdeal.τ).loc Cert.SsdDInXbcIdeal.main_v3) = v0 c
          ∧ r.2.mem ((c.tc : Thread Cert.SsdDInXbcIdeal.nD Cert.SsdDInXbcIdeal.τ).loc Cert.SsdDInXbcIdeal.main_arg0) = m ((c.tc : Thread Cert.SsdDInXbcIdeal.nD Cert.SsdDInXbcIdeal.τ).loc Cert.SsdDInXbcIdeal.main_arg0)
          ∧ r.2.mem ((c.tc : Thread Cert.SsdDInXbcIdeal.nD Cert.SsdDInXbcIdeal.τ).loc Cert.SsdDInXbcIdeal.main_arg1) = m ((c.tc : Thread Cert.SsdDInXbcIdeal.nD Cert.SsdDInXbcIdeal.τ).loc Cert.SsdDInXbcIdeal.main_arg1)
          ∧ r.2.mem ((c.tc : Thread Cert.SsdDInXbcIdeal.nD Cert.SsdDInXbcIdeal.τ).loc Cert.SsdDInXbcIdeal.main_arg2) = m ((c.tc : Thread Cert.SsdDInXbcIdeal.nD Cert.SsdDInXbcIdeal.τ).loc Cert.SsdDInXbcIdeal.main_arg2)
          ∧ r.2.mem ((c.tc : Thread Cert.SsdDInXbcIdeal.nD Cert.SsdDInXbcIdeal.τ).loc Cert.SsdDInXbcIdeal.main_arg3) = m ((c.tc : Thread Cert.SsdDInXbcIdeal.nD Cert.SsdDInXbcIdeal.τ).loc Cert.SsdDInXbcIdeal.main_arg3))
      ∧ θ_run (Cert.SsdDInXbcRefIdeal.defs (F := Ideal)) (onTc (τ := Cert.SsdDInXbcRefIdeal.τ) (Cert.SsdDInXbcRefIdeal.main (F := Ideal))) ⟨m', fun _ => 0, g'⟩ (fun r => ∀ c : Dev Cert.SsdDInXbcRefIdeal.nD,
          r.2.mem ((c.tc : Thread Cert.SsdDInXbcRefIdeal.nD Cert.SsdDInXbcRefIdeal.τ).loc Cert.SsdDInXbcRefIdeal.main_v3) = v0 c
          ∧ r.2.mem ((c.tc : Thread Cert.SsdDInXbcRefIdeal.nD Cert.SsdDInXbcRefIdeal.τ).loc Cert.SsdDInXbcRefIdeal.main_arg0) = m' ((c.tc : Thread Cert.SsdDInXbcRefIdeal.nD Cert.SsdDInXbcRefIdeal.τ).loc Cert.SsdDInXbcRefIdeal.main_arg0)
          ∧ r.2.mem ((c.tc : Thread Cert.SsdDInXbcRefIdeal.nD Cert.SsdDInXbcRefIdeal.τ).loc Cert.SsdDInXbcRefIdeal.main_arg1) = m' ((c.tc : Thread Cert.SsdDInXbcRefIdeal.nD Cert.SsdDInXbcRefIdeal.τ).loc Cert.SsdDInXbcRefIdeal.main_arg1)
          ∧ r.2.mem ((c.tc : Thread Cert.SsdDInXbcRefIdeal.nD Cert.SsdDInXbcRefIdeal.τ).loc Cert.SsdDInXbcRefIdeal.main_arg2) = m' ((c.tc : Thread Cert.SsdDInXbcRefIdeal.nD Cert.SsdDInXbcRefIdeal.τ).loc Cert.SsdDInXbcRefIdeal.main_arg2)
          ∧ r.2.mem ((c.tc : Thread Cert.SsdDInXbcRefIdeal.nD Cert.SsdDInXbcRefIdeal.τ).loc Cert.SsdDInXbcRefIdeal.main_arg3) = m' ((c.tc : Thread Cert.SsdDInXbcRefIdeal.nD Cert.SsdDInXbcRefIdeal.τ).loc Cert.SsdDInXbcRefIdeal.main_arg3))

def preserves_SsdDWZ_SsdDWZIdeal : Prop :=
  True

def algebraic_SsdDWZIdeal_SsdDWZRefIdeal [hSsdDWZIdeal : Cert.SsdDWZIdeal.Facts] [hSsdDWZRefIdeal : Cert.SsdDWZRefIdeal.Facts] : Prop :=
  ∀ (m : (ℓ : Loc Cert.SsdDWZIdeal.nD Cert.SsdDWZIdeal.τ Cert.SsdDWZIdeal.sig) → Buf (Elt Ideal) ℓ) (g : Dev Cert.SsdDWZIdeal.nD → PrngReg)
    (m' : (ℓ : Loc Cert.SsdDWZRefIdeal.nD Cert.SsdDWZRefIdeal.τ Cert.SsdDWZRefIdeal.sig) → Buf (Elt Ideal) ℓ) (g' : Dev Cert.SsdDWZRefIdeal.nD → PrngReg), Pre_SsdDWZIdeal m →
    (∀ c : Dev Cert.SsdDWZIdeal.nD,
      m' ((c.tc : Thread Cert.SsdDWZRefIdeal.nD Cert.SsdDWZRefIdeal.τ).loc Cert.SsdDWZRefIdeal.main_arg0) = m ((c.tc : Thread Cert.SsdDWZIdeal.nD Cert.SsdDWZIdeal.τ).loc Cert.SsdDWZIdeal.main_arg0)
      ∧ m' ((c.tc : Thread Cert.SsdDWZRefIdeal.nD Cert.SsdDWZRefIdeal.τ).loc Cert.SsdDWZRefIdeal.main_arg1) = m ((c.tc : Thread Cert.SsdDWZIdeal.nD Cert.SsdDWZIdeal.τ).loc Cert.SsdDWZIdeal.main_arg1)
      ∧ m' ((c.tc : Thread Cert.SsdDWZRefIdeal.nD Cert.SsdDWZRefIdeal.τ).loc Cert.SsdDWZRefIdeal.main_arg2) = m ((c.tc : Thread Cert.SsdDWZIdeal.nD Cert.SsdDWZIdeal.τ).loc Cert.SsdDWZIdeal.main_arg2)) →
    ∃ (v0 : (c : Dev Cert.SsdDWZIdeal.nD) → Buf (Elt Ideal) ((c.tc : Thread Cert.SsdDWZIdeal.nD Cert.SsdDWZIdeal.τ).loc Cert.SsdDWZIdeal.main_v3)),
      θ_run (Cert.SsdDWZIdeal.defs (F := Ideal)) (onTc (τ := Cert.SsdDWZIdeal.τ) (Cert.SsdDWZIdeal.main (F := Ideal))) ⟨m, fun _ => 0, g⟩ (fun r => ∀ c : Dev Cert.SsdDWZIdeal.nD,
          r.2.mem ((c.tc : Thread Cert.SsdDWZIdeal.nD Cert.SsdDWZIdeal.τ).loc Cert.SsdDWZIdeal.main_v3) = v0 c
          ∧ r.2.mem ((c.tc : Thread Cert.SsdDWZIdeal.nD Cert.SsdDWZIdeal.τ).loc Cert.SsdDWZIdeal.main_arg0) = m ((c.tc : Thread Cert.SsdDWZIdeal.nD Cert.SsdDWZIdeal.τ).loc Cert.SsdDWZIdeal.main_arg0)
          ∧ r.2.mem ((c.tc : Thread Cert.SsdDWZIdeal.nD Cert.SsdDWZIdeal.τ).loc Cert.SsdDWZIdeal.main_arg1) = m ((c.tc : Thread Cert.SsdDWZIdeal.nD Cert.SsdDWZIdeal.τ).loc Cert.SsdDWZIdeal.main_arg1)
          ∧ r.2.mem ((c.tc : Thread Cert.SsdDWZIdeal.nD Cert.SsdDWZIdeal.τ).loc Cert.SsdDWZIdeal.main_arg2) = m ((c.tc : Thread Cert.SsdDWZIdeal.nD Cert.SsdDWZIdeal.τ).loc Cert.SsdDWZIdeal.main_arg2))
      ∧ θ_run (Cert.SsdDWZRefIdeal.defs (F := Ideal)) (onTc (τ := Cert.SsdDWZRefIdeal.τ) (Cert.SsdDWZRefIdeal.main (F := Ideal))) ⟨m', fun _ => 0, g'⟩ (fun r => ∀ c : Dev Cert.SsdDWZRefIdeal.nD,
          r.2.mem ((c.tc : Thread Cert.SsdDWZRefIdeal.nD Cert.SsdDWZRefIdeal.τ).loc Cert.SsdDWZRefIdeal.main_v2) = v0 c
          ∧ r.2.mem ((c.tc : Thread Cert.SsdDWZRefIdeal.nD Cert.SsdDWZRefIdeal.τ).loc Cert.SsdDWZRefIdeal.main_arg0) = m' ((c.tc : Thread Cert.SsdDWZRefIdeal.nD Cert.SsdDWZRefIdeal.τ).loc Cert.SsdDWZRefIdeal.main_arg0)
          ∧ r.2.mem ((c.tc : Thread Cert.SsdDWZRefIdeal.nD Cert.SsdDWZRefIdeal.τ).loc Cert.SsdDWZRefIdeal.main_arg1) = m' ((c.tc : Thread Cert.SsdDWZRefIdeal.nD Cert.SsdDWZRefIdeal.τ).loc Cert.SsdDWZRefIdeal.main_arg1)
          ∧ r.2.mem ((c.tc : Thread Cert.SsdDWZRefIdeal.nD Cert.SsdDWZRefIdeal.τ).loc Cert.SsdDWZRefIdeal.main_arg2) = m' ((c.tc : Thread Cert.SsdDWZRefIdeal.nD Cert.SsdDWZRefIdeal.τ).loc Cert.SsdDWZRefIdeal.main_arg2))

def preserves_SsdDWXbc_SsdDWXbcIdeal : Prop :=
  True

def algebraic_SsdDWXbcIdeal_SsdDWXbcRefIdeal [hSsdDWXbcIdeal : Cert.SsdDWXbcIdeal.Facts] [hSsdDWXbcRefIdeal : Cert.SsdDWXbcRefIdeal.Facts] : Prop :=
  ∀ (m : (ℓ : Loc Cert.SsdDWXbcIdeal.nD Cert.SsdDWXbcIdeal.τ Cert.SsdDWXbcIdeal.sig) → Buf (Elt Ideal) ℓ) (g : Dev Cert.SsdDWXbcIdeal.nD → PrngReg)
    (m' : (ℓ : Loc Cert.SsdDWXbcRefIdeal.nD Cert.SsdDWXbcRefIdeal.τ Cert.SsdDWXbcRefIdeal.sig) → Buf (Elt Ideal) ℓ) (g' : Dev Cert.SsdDWXbcRefIdeal.nD → PrngReg), Pre_SsdDWXbcIdeal m →
    (∀ c : Dev Cert.SsdDWXbcIdeal.nD,
      m' ((c.tc : Thread Cert.SsdDWXbcRefIdeal.nD Cert.SsdDWXbcRefIdeal.τ).loc Cert.SsdDWXbcRefIdeal.main_arg0) = m ((c.tc : Thread Cert.SsdDWXbcIdeal.nD Cert.SsdDWXbcIdeal.τ).loc Cert.SsdDWXbcIdeal.main_arg0)
      ∧ m' ((c.tc : Thread Cert.SsdDWXbcRefIdeal.nD Cert.SsdDWXbcRefIdeal.τ).loc Cert.SsdDWXbcRefIdeal.main_arg1) = m ((c.tc : Thread Cert.SsdDWXbcIdeal.nD Cert.SsdDWXbcIdeal.τ).loc Cert.SsdDWXbcIdeal.main_arg1)
      ∧ m' ((c.tc : Thread Cert.SsdDWXbcRefIdeal.nD Cert.SsdDWXbcRefIdeal.τ).loc Cert.SsdDWXbcRefIdeal.main_arg2) = m ((c.tc : Thread Cert.SsdDWXbcIdeal.nD Cert.SsdDWXbcIdeal.τ).loc Cert.SsdDWXbcIdeal.main_arg2)) →
    ∃ (v0 : (c : Dev Cert.SsdDWXbcIdeal.nD) → Buf (Elt Ideal) ((c.tc : Thread Cert.SsdDWXbcIdeal.nD Cert.SsdDWXbcIdeal.τ).loc Cert.SsdDWXbcIdeal.main_v3)),
      θ_run (Cert.SsdDWXbcIdeal.defs (F := Ideal)) (onTc (τ := Cert.SsdDWXbcIdeal.τ) (Cert.SsdDWXbcIdeal.main (F := Ideal))) ⟨m, fun _ => 0, g⟩ (fun r => ∀ c : Dev Cert.SsdDWXbcIdeal.nD,
          r.2.mem ((c.tc : Thread Cert.SsdDWXbcIdeal.nD Cert.SsdDWXbcIdeal.τ).loc Cert.SsdDWXbcIdeal.main_v3) = v0 c
          ∧ r.2.mem ((c.tc : Thread Cert.SsdDWXbcIdeal.nD Cert.SsdDWXbcIdeal.τ).loc Cert.SsdDWXbcIdeal.main_arg0) = m ((c.tc : Thread Cert.SsdDWXbcIdeal.nD Cert.SsdDWXbcIdeal.τ).loc Cert.SsdDWXbcIdeal.main_arg0)
          ∧ r.2.mem ((c.tc : Thread Cert.SsdDWXbcIdeal.nD Cert.SsdDWXbcIdeal.τ).loc Cert.SsdDWXbcIdeal.main_arg1) = m ((c.tc : Thread Cert.SsdDWXbcIdeal.nD Cert.SsdDWXbcIdeal.τ).loc Cert.SsdDWXbcIdeal.main_arg1)
          ∧ r.2.mem ((c.tc : Thread Cert.SsdDWXbcIdeal.nD Cert.SsdDWXbcIdeal.τ).loc Cert.SsdDWXbcIdeal.main_arg2) = m ((c.tc : Thread Cert.SsdDWXbcIdeal.nD Cert.SsdDWXbcIdeal.τ).loc Cert.SsdDWXbcIdeal.main_arg2))
      ∧ θ_run (Cert.SsdDWXbcRefIdeal.defs (F := Ideal)) (onTc (τ := Cert.SsdDWXbcRefIdeal.τ) (Cert.SsdDWXbcRefIdeal.main (F := Ideal))) ⟨m', fun _ => 0, g'⟩ (fun r => ∀ c : Dev Cert.SsdDWXbcRefIdeal.nD,
          r.2.mem ((c.tc : Thread Cert.SsdDWXbcRefIdeal.nD Cert.SsdDWXbcRefIdeal.τ).loc Cert.SsdDWXbcRefIdeal.main_v2) = v0 c
          ∧ r.2.mem ((c.tc : Thread Cert.SsdDWXbcRefIdeal.nD Cert.SsdDWXbcRefIdeal.τ).loc Cert.SsdDWXbcRefIdeal.main_arg0) = m' ((c.tc : Thread Cert.SsdDWXbcRefIdeal.nD Cert.SsdDWXbcRefIdeal.τ).loc Cert.SsdDWXbcRefIdeal.main_arg0)
          ∧ r.2.mem ((c.tc : Thread Cert.SsdDWXbcRefIdeal.nD Cert.SsdDWXbcRefIdeal.τ).loc Cert.SsdDWXbcRefIdeal.main_arg1) = m' ((c.tc : Thread Cert.SsdDWXbcRefIdeal.nD Cert.SsdDWXbcRefIdeal.τ).loc Cert.SsdDWXbcRefIdeal.main_arg1)
          ∧ r.2.mem ((c.tc : Thread Cert.SsdDWXbcRefIdeal.nD Cert.SsdDWXbcRefIdeal.τ).loc Cert.SsdDWXbcRefIdeal.main_arg2) = m' ((c.tc : Thread Cert.SsdDWXbcRefIdeal.nD Cert.SsdDWXbcRefIdeal.τ).loc Cert.SsdDWXbcRefIdeal.main_arg2))

def preserves_MlpIn_MlpInIdeal : Prop :=
  True

def algebraic_MlpInIdeal_MlpInRefIdeal [hMlpInIdeal : Cert.MlpInIdeal.Facts] [hMlpInRefIdeal : Cert.MlpInRefIdeal.Facts] : Prop :=
  ∀ (m : (ℓ : Loc Cert.MlpInIdeal.nD Cert.MlpInIdeal.τ Cert.MlpInIdeal.sig) → Buf (Elt Ideal) ℓ) (g : Dev Cert.MlpInIdeal.nD → PrngReg)
    (m' : (ℓ : Loc Cert.MlpInRefIdeal.nD Cert.MlpInRefIdeal.τ Cert.MlpInRefIdeal.sig) → Buf (Elt Ideal) ℓ) (g' : Dev Cert.MlpInRefIdeal.nD → PrngReg), Pre_MlpInIdeal m →
    (∀ c : Dev Cert.MlpInIdeal.nD,
      m' ((c.tc : Thread Cert.MlpInRefIdeal.nD Cert.MlpInRefIdeal.τ).loc Cert.MlpInRefIdeal.main_arg0) = m ((c.tc : Thread Cert.MlpInIdeal.nD Cert.MlpInIdeal.τ).loc Cert.MlpInIdeal.main_arg0)
      ∧ m' ((c.tc : Thread Cert.MlpInRefIdeal.nD Cert.MlpInRefIdeal.τ).loc Cert.MlpInRefIdeal.main_arg1) = m ((c.tc : Thread Cert.MlpInIdeal.nD Cert.MlpInIdeal.τ).loc Cert.MlpInIdeal.main_arg1)) →
    ∃ (v0 : (c : Dev Cert.MlpInIdeal.nD) → Buf (Elt Ideal) ((c.tc : Thread Cert.MlpInIdeal.nD Cert.MlpInIdeal.τ).loc Cert.MlpInIdeal.main_v3)),
      θ_run (Cert.MlpInIdeal.defs (F := Ideal)) (onTc (τ := Cert.MlpInIdeal.τ) (Cert.MlpInIdeal.main (F := Ideal))) ⟨m, fun _ => 0, g⟩ (fun r => ∀ c : Dev Cert.MlpInIdeal.nD,
          r.2.mem ((c.tc : Thread Cert.MlpInIdeal.nD Cert.MlpInIdeal.τ).loc Cert.MlpInIdeal.main_v3) = v0 c
          ∧ r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
          ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1))
      ∧ θ_run (Cert.MlpInRefIdeal.defs (F := Ideal)) (onTc (τ := Cert.MlpInRefIdeal.τ) (Cert.MlpInRefIdeal.main (F := Ideal))) ⟨m', fun _ => 0, g'⟩ (fun r => ∀ c : Dev Cert.MlpInRefIdeal.nD,
          r.2.mem ((c.tc : Thread Cert.MlpInRefIdeal.nD Cert.MlpInRefIdeal.τ).loc Cert.MlpInRefIdeal.main_v1) = v0 c
          ∧ r.2.mem ((c.tc : Thread Cert.MlpInRefIdeal.nD Cert.MlpInRefIdeal.τ).loc Cert.MlpInRefIdeal.main_arg0) = m' ((c.tc : Thread Cert.MlpInRefIdeal.nD Cert.MlpInRefIdeal.τ).loc Cert.MlpInRefIdeal.main_arg0)
          ∧ r.2.mem ((c.tc : Thread Cert.MlpInRefIdeal.nD Cert.MlpInRefIdeal.τ).loc Cert.MlpInRefIdeal.main_arg1) = m' ((c.tc : Thread Cert.MlpInRefIdeal.nD Cert.MlpInRefIdeal.τ).loc Cert.MlpInRefIdeal.main_arg1))

def preserves_MlpOut_MlpOutIdeal : Prop :=
  True

def algebraic_MlpOutIdeal_MlpOutRefIdeal [hMlpOutIdeal : Cert.MlpOutIdeal.Facts] [hMlpOutRefIdeal : Cert.MlpOutRefIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg)
    (m' : (ℓ : Loc Cert.MlpOutRefIdeal.nD Cert.MlpOutRefIdeal.τ Cert.MlpOutRefIdeal.sig) → Buf (Elt Ideal) ℓ) (g' : Dev Cert.MlpOutRefIdeal.nD → PrngReg), Pre_MlpOutIdeal m →
    (∀ c : Dev Cert.MlpOutIdeal.nD,
      m' ((c.tc : Thread Cert.MlpOutRefIdeal.nD Cert.MlpOutRefIdeal.τ).loc Cert.MlpOutRefIdeal.main_arg0) = m ((c.tc : Thread Cert.MlpOutIdeal.nD Cert.MlpOutIdeal.τ).loc Cert.MlpOutIdeal.main_arg0)
      ∧ m' ((c.tc : Thread Cert.MlpOutRefIdeal.nD Cert.MlpOutRefIdeal.τ).loc Cert.MlpOutRefIdeal.main_arg1) = m ((c.tc : Thread Cert.MlpOutIdeal.nD Cert.MlpOutIdeal.τ).loc Cert.MlpOutIdeal.main_arg1)
      ∧ m' ((c.tc : Thread Cert.MlpOutRefIdeal.nD Cert.MlpOutRefIdeal.τ).loc Cert.MlpOutRefIdeal.main_arg2) = m ((c.tc : Thread Cert.MlpOutIdeal.nD Cert.MlpOutIdeal.τ).loc Cert.MlpOutIdeal.main_arg2)
      ∧ m' ((c.tc : Thread Cert.MlpOutRefIdeal.nD Cert.MlpOutRefIdeal.τ).loc Cert.MlpOutRefIdeal.main_arg3) = m ((c.tc : Thread Cert.MlpOutIdeal.nD Cert.MlpOutIdeal.τ).loc Cert.MlpOutIdeal.main_arg3)) →
    ∃ (v0 : (c : Dev Cert.MlpOutIdeal.nD) → Buf (Elt Ideal) ((c.tc : Thread Cert.MlpOutIdeal.nD Cert.MlpOutIdeal.τ).loc Cert.MlpOutIdeal.main_v2)),
      θ_run (Cert.MlpOutIdeal.defs (F := Ideal)) (onTc (τ := Cert.MlpOutIdeal.τ) (Cert.MlpOutIdeal.main (F := Ideal))) ⟨m, fun _ => 0, g⟩ (fun r => ∀ c : Dev Cert.MlpOutIdeal.nD,
          r.2.mem ((c.tc : Thread Cert.MlpOutIdeal.nD Cert.MlpOutIdeal.τ).loc Cert.MlpOutIdeal.main_v2) = v0 c
          ∧ r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
          ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
          ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2)
          ∧ r.2.mem ((c.tc : Thread Cert.MlpOutIdeal.nD Cert.MlpOutIdeal.τ).loc Cert.MlpOutIdeal.main_arg3) = m ((c.tc : Thread Cert.MlpOutIdeal.nD Cert.MlpOutIdeal.τ).loc Cert.MlpOutIdeal.main_arg3))
      ∧ θ_run (Cert.MlpOutRefIdeal.defs (F := Ideal)) (onTc (τ := Cert.MlpOutRefIdeal.τ) (Cert.MlpOutRefIdeal.main (F := Ideal))) ⟨m', fun _ => 0, g'⟩ (fun r => ∀ c : Dev Cert.MlpOutRefIdeal.nD,
          r.2.mem ((c.tc : Thread Cert.MlpOutRefIdeal.nD Cert.MlpOutRefIdeal.τ).loc Cert.MlpOutRefIdeal.main_v4) = v0 c
          ∧ r.2.mem ((c.tc : Thread Cert.MlpOutRefIdeal.nD Cert.MlpOutRefIdeal.τ).loc Cert.MlpOutRefIdeal.main_arg0) = m' ((c.tc : Thread Cert.MlpOutRefIdeal.nD Cert.MlpOutRefIdeal.τ).loc Cert.MlpOutRefIdeal.main_arg0)
          ∧ r.2.mem ((c.tc : Thread Cert.MlpOutRefIdeal.nD Cert.MlpOutRefIdeal.τ).loc Cert.MlpOutRefIdeal.main_arg1) = m' ((c.tc : Thread Cert.MlpOutRefIdeal.nD Cert.MlpOutRefIdeal.τ).loc Cert.MlpOutRefIdeal.main_arg1)
          ∧ r.2.mem ((c.tc : Thread Cert.MlpOutRefIdeal.nD Cert.MlpOutRefIdeal.τ).loc Cert.MlpOutRefIdeal.main_arg2) = m' ((c.tc : Thread Cert.MlpOutRefIdeal.nD Cert.MlpOutRefIdeal.τ).loc Cert.MlpOutRefIdeal.main_arg2)
          ∧ r.2.mem ((c.tc : Thread Cert.MlpOutRefIdeal.nD Cert.MlpOutRefIdeal.τ).loc Cert.MlpOutRefIdeal.main_arg3) = m' ((c.tc : Thread Cert.MlpOutRefIdeal.nD Cert.MlpOutRefIdeal.τ).loc Cert.MlpOutRefIdeal.main_arg3))

def preserves_S5In_S5InIdeal : Prop :=
  True

def algebraic_S5InIdeal_S5InRefIdeal [hS5InIdeal : Cert.S5InIdeal.Facts] [hS5InRefIdeal : Cert.S5InRefIdeal.Facts] : Prop :=
  ∀ (m : (ℓ : Loc Cert.S5InIdeal.nD Cert.S5InIdeal.τ Cert.S5InIdeal.sig) → Buf (Elt Ideal) ℓ) (g : Dev Cert.S5InIdeal.nD → PrngReg)
    (m' : (ℓ : Loc Cert.S5InRefIdeal.nD Cert.S5InRefIdeal.τ Cert.S5InRefIdeal.sig) → Buf (Elt Ideal) ℓ) (g' : Dev Cert.S5InRefIdeal.nD → PrngReg), Pre_S5InIdeal m →
    (∀ c : Dev Cert.S5InIdeal.nD,
      m' ((c.tc : Thread Cert.S5InRefIdeal.nD Cert.S5InRefIdeal.τ).loc Cert.S5InRefIdeal.main_arg0) = m ((c.tc : Thread Cert.S5InIdeal.nD Cert.S5InIdeal.τ).loc Cert.S5InIdeal.main_arg0)
      ∧ m' ((c.tc : Thread Cert.S5InRefIdeal.nD Cert.S5InRefIdeal.τ).loc Cert.S5InRefIdeal.main_arg1) = m ((c.tc : Thread Cert.S5InIdeal.nD Cert.S5InIdeal.τ).loc Cert.S5InIdeal.main_arg1)) →
    ∃ (v0 : (c : Dev Cert.S5InIdeal.nD) → Buf (Elt Ideal) ((c.tc : Thread Cert.S5InIdeal.nD Cert.S5InIdeal.τ).loc Cert.S5InIdeal.main_v2)),
      θ_run (Cert.S5InIdeal.defs (F := Ideal)) (onTc (τ := Cert.S5InIdeal.τ) (Cert.S5InIdeal.main (F := Ideal))) ⟨m, fun _ => 0, g⟩ (fun r => ∀ c : Dev Cert.S5InIdeal.nD,
          r.2.mem ((c.tc : Thread Cert.S5InIdeal.nD Cert.S5InIdeal.τ).loc Cert.S5InIdeal.main_v2) = v0 c
          ∧ r.2.mem ((c.tc : Thread Cert.S5InIdeal.nD Cert.S5InIdeal.τ).loc Cert.S5InIdeal.main_arg0) = m ((c.tc : Thread Cert.S5InIdeal.nD Cert.S5InIdeal.τ).loc Cert.S5InIdeal.main_arg0)
          ∧ r.2.mem ((c.tc : Thread Cert.S5InIdeal.nD Cert.S5InIdeal.τ).loc Cert.S5InIdeal.main_arg1) = m ((c.tc : Thread Cert.S5InIdeal.nD Cert.S5InIdeal.τ).loc Cert.S5InIdeal.main_arg1))
      ∧ θ_run (Cert.S5InRefIdeal.defs (F := Ideal)) (onTc (τ := Cert.S5InRefIdeal.τ) (Cert.S5InRefIdeal.main (F := Ideal))) ⟨m', fun _ => 0, g'⟩ (fun r => ∀ c : Dev Cert.S5InRefIdeal.nD,
          r.2.mem ((c.tc : Thread Cert.S5InRefIdeal.nD Cert.S5InRefIdeal.τ).loc Cert.S5InRefIdeal.main_v0) = v0 c
          ∧ r.2.mem ((c.tc : Thread Cert.S5InRefIdeal.nD Cert.S5InRefIdeal.τ).loc Cert.S5InRefIdeal.main_arg0) = m' ((c.tc : Thread Cert.S5InRefIdeal.nD Cert.S5InRefIdeal.τ).loc Cert.S5InRefIdeal.main_arg0)
          ∧ r.2.mem ((c.tc : Thread Cert.S5InRefIdeal.nD Cert.S5InRefIdeal.τ).loc Cert.S5InRefIdeal.main_arg1) = m' ((c.tc : Thread Cert.S5InRefIdeal.nD Cert.S5InRefIdeal.τ).loc Cert.S5InRefIdeal.main_arg1))

def preserves_S5Glu_S5GluIdeal : Prop :=
  True

def algebraic_S5GluIdeal_S5GluRefIdeal [hS5GluIdeal : Cert.S5GluIdeal.Facts] [hS5GluRefIdeal : Cert.S5GluRefIdeal.Facts] : Prop :=
  ∀ (m : (ℓ : Loc Cert.S5GluIdeal.nD Cert.S5GluIdeal.τ Cert.S5GluIdeal.sig) → Buf (Elt Ideal) ℓ) (g : Dev Cert.S5GluIdeal.nD → PrngReg)
    (m' : (ℓ : Loc Cert.S5GluRefIdeal.nD Cert.S5GluRefIdeal.τ Cert.S5GluRefIdeal.sig) → Buf (Elt Ideal) ℓ) (g' : Dev Cert.S5GluRefIdeal.nD → PrngReg), Pre_S5GluIdeal m →
    (∀ c : Dev Cert.S5GluIdeal.nD,
      m' ((c.tc : Thread Cert.S5GluRefIdeal.nD Cert.S5GluRefIdeal.τ).loc Cert.S5GluRefIdeal.main_arg0) = m ((c.tc : Thread Cert.S5GluIdeal.nD Cert.S5GluIdeal.τ).loc Cert.S5GluIdeal.main_arg0)
      ∧ m' ((c.tc : Thread Cert.S5GluRefIdeal.nD Cert.S5GluRefIdeal.τ).loc Cert.S5GluRefIdeal.main_arg1) = m ((c.tc : Thread Cert.S5GluIdeal.nD Cert.S5GluIdeal.τ).loc Cert.S5GluIdeal.main_arg1)) →
    ∃ (v0 : (c : Dev Cert.S5GluIdeal.nD) → Buf (Elt Ideal) ((c.tc : Thread Cert.S5GluIdeal.nD Cert.S5GluIdeal.τ).loc Cert.S5GluIdeal.main_v2)),
      θ_run (Cert.S5GluIdeal.defs (F := Ideal)) (onTc (τ := Cert.S5GluIdeal.τ) (Cert.S5GluIdeal.main (F := Ideal))) ⟨m, fun _ => 0, g⟩ (fun r => ∀ c : Dev Cert.S5GluIdeal.nD,
          r.2.mem ((c.tc : Thread Cert.S5GluIdeal.nD Cert.S5GluIdeal.τ).loc Cert.S5GluIdeal.main_v2) = v0 c
          ∧ r.2.mem ((c.tc : Thread Cert.S5GluIdeal.nD Cert.S5GluIdeal.τ).loc Cert.S5GluIdeal.main_arg0) = m ((c.tc : Thread Cert.S5GluIdeal.nD Cert.S5GluIdeal.τ).loc Cert.S5GluIdeal.main_arg0)
          ∧ r.2.mem ((c.tc : Thread Cert.S5GluIdeal.nD Cert.S5GluIdeal.τ).loc Cert.S5GluIdeal.main_arg1) = m ((c.tc : Thread Cert.S5GluIdeal.nD Cert.S5GluIdeal.τ).loc Cert.S5GluIdeal.main_arg1))
      ∧ θ_run (Cert.S5GluRefIdeal.defs (F := Ideal)) (onTc (τ := Cert.S5GluRefIdeal.τ) (Cert.S5GluRefIdeal.main (F := Ideal))) ⟨m', fun _ => 0, g'⟩ (fun r => ∀ c : Dev Cert.S5GluRefIdeal.nD,
          r.2.mem ((c.tc : Thread Cert.S5GluRefIdeal.nD Cert.S5GluRefIdeal.τ).loc Cert.S5GluRefIdeal.main_v0) = v0 c
          ∧ r.2.mem ((c.tc : Thread Cert.S5GluRefIdeal.nD Cert.S5GluRefIdeal.τ).loc Cert.S5GluRefIdeal.main_arg0) = m' ((c.tc : Thread Cert.S5GluRefIdeal.nD Cert.S5GluRefIdeal.τ).loc Cert.S5GluRefIdeal.main_arg0)
          ∧ r.2.mem ((c.tc : Thread Cert.S5GluRefIdeal.nD Cert.S5GluRefIdeal.τ).loc Cert.S5GluRefIdeal.main_arg1) = m' ((c.tc : Thread Cert.S5GluRefIdeal.nD Cert.S5GluRefIdeal.τ).loc Cert.S5GluRefIdeal.main_arg1))

def preserves_SsdZ_SsdZIdeal : Prop :=
  True

def algebraic_SsdZIdeal_SsdZRefIdeal [hSsdZIdeal : Cert.SsdZIdeal.Facts] [hSsdZRefIdeal : Cert.SsdZRefIdeal.Facts] : Prop :=
  ∀ (m : (ℓ : Loc Cert.SsdZIdeal.nD Cert.SsdZIdeal.τ Cert.SsdZIdeal.sig) → Buf (Elt Ideal) ℓ) (g : Dev Cert.SsdZIdeal.nD → PrngReg)
    (m' : (ℓ : Loc Cert.SsdZRefIdeal.nD Cert.SsdZRefIdeal.τ Cert.SsdZRefIdeal.sig) → Buf (Elt Ideal) ℓ) (g' : Dev Cert.SsdZRefIdeal.nD → PrngReg), Pre_SsdZIdeal m →
    (∀ c : Dev Cert.SsdZIdeal.nD,
      m' ((c.tc : Thread Cert.SsdZRefIdeal.nD Cert.SsdZRefIdeal.τ).loc Cert.SsdZRefIdeal.main_arg0) = m ((c.tc : Thread Cert.SsdZIdeal.nD Cert.SsdZIdeal.τ).loc Cert.SsdZIdeal.main_arg0)
      ∧ m' ((c.tc : Thread Cert.SsdZRefIdeal.nD Cert.SsdZRefIdeal.τ).loc Cert.SsdZRefIdeal.main_arg1) = m ((c.tc : Thread Cert.SsdZIdeal.nD Cert.SsdZIdeal.τ).loc Cert.SsdZIdeal.main_arg1)) →
    ∃ (v0 : (c : Dev Cert.SsdZIdeal.nD) → Buf (Elt Ideal) ((c.tc : Thread Cert.SsdZIdeal.nD Cert.SsdZIdeal.τ).loc Cert.SsdZIdeal.main_v3)),
      θ_run (Cert.SsdZIdeal.defs (F := Ideal)) (onTc (τ := Cert.SsdZIdeal.τ) (Cert.SsdZIdeal.main (F := Ideal))) ⟨m, fun _ => 0, g⟩ (fun r => ∀ c : Dev Cert.SsdZIdeal.nD,
          r.2.mem ((c.tc : Thread Cert.SsdZIdeal.nD Cert.SsdZIdeal.τ).loc Cert.SsdZIdeal.main_v3) = v0 c
          ∧ r.2.mem ((c.tc : Thread Cert.SsdZIdeal.nD Cert.SsdZIdeal.τ).loc Cert.SsdZIdeal.main_arg0) = m ((c.tc : Thread Cert.SsdZIdeal.nD Cert.SsdZIdeal.τ).loc Cert.SsdZIdeal.main_arg0)
          ∧ r.2.mem ((c.tc : Thread Cert.SsdZIdeal.nD Cert.SsdZIdeal.τ).loc Cert.SsdZIdeal.main_arg1) = m ((c.tc : Thread Cert.SsdZIdeal.nD Cert.SsdZIdeal.τ).loc Cert.SsdZIdeal.main_arg1))
      ∧ θ_run (Cert.SsdZRefIdeal.defs (F := Ideal)) (onTc (τ := Cert.SsdZRefIdeal.τ) (Cert.SsdZRefIdeal.main (F := Ideal))) ⟨m', fun _ => 0, g'⟩ (fun r => ∀ c : Dev Cert.SsdZRefIdeal.nD,
          r.2.mem ((c.tc : Thread Cert.SsdZRefIdeal.nD Cert.SsdZRefIdeal.τ).loc Cert.SsdZRefIdeal.main_v1) = v0 c
          ∧ r.2.mem ((c.tc : Thread Cert.SsdZRefIdeal.nD Cert.SsdZRefIdeal.τ).loc Cert.SsdZRefIdeal.main_arg0) = m' ((c.tc : Thread Cert.SsdZRefIdeal.nD Cert.SsdZRefIdeal.τ).loc Cert.SsdZRefIdeal.main_arg0)
          ∧ r.2.mem ((c.tc : Thread Cert.SsdZRefIdeal.nD Cert.SsdZRefIdeal.τ).loc Cert.SsdZRefIdeal.main_arg1) = m' ((c.tc : Thread Cert.SsdZRefIdeal.nD Cert.SsdZRefIdeal.τ).loc Cert.SsdZRefIdeal.main_arg1))

def preserves_SsdXbc_SsdXbcIdeal : Prop :=
  True

def algebraic_SsdXbcIdeal_SsdXbcRefIdeal [hSsdXbcIdeal : Cert.SsdXbcIdeal.Facts] [hSsdXbcRefIdeal : Cert.SsdXbcRefIdeal.Facts] : Prop :=
  ∀ (m : (ℓ : Loc Cert.SsdXbcIdeal.nD Cert.SsdXbcIdeal.τ Cert.SsdXbcIdeal.sig) → Buf (Elt Ideal) ℓ) (g : Dev Cert.SsdXbcIdeal.nD → PrngReg)
    (m' : (ℓ : Loc Cert.SsdXbcRefIdeal.nD Cert.SsdXbcRefIdeal.τ Cert.SsdXbcRefIdeal.sig) → Buf (Elt Ideal) ℓ) (g' : Dev Cert.SsdXbcRefIdeal.nD → PrngReg), Pre_SsdXbcIdeal m →
    (∀ c : Dev Cert.SsdXbcIdeal.nD,
      m' ((c.tc : Thread Cert.SsdXbcRefIdeal.nD Cert.SsdXbcRefIdeal.τ).loc Cert.SsdXbcRefIdeal.main_arg0) = m ((c.tc : Thread Cert.SsdXbcIdeal.nD Cert.SsdXbcIdeal.τ).loc Cert.SsdXbcIdeal.main_arg0)
      ∧ m' ((c.tc : Thread Cert.SsdXbcRefIdeal.nD Cert.SsdXbcRefIdeal.τ).loc Cert.SsdXbcRefIdeal.main_arg1) = m ((c.tc : Thread Cert.SsdXbcIdeal.nD Cert.SsdXbcIdeal.τ).loc Cert.SsdXbcIdeal.main_arg1)) →
    ∃ (v0 : (c : Dev Cert.SsdXbcIdeal.nD) → Buf (Elt Ideal) ((c.tc : Thread Cert.SsdXbcIdeal.nD Cert.SsdXbcIdeal.τ).loc Cert.SsdXbcIdeal.main_v3)),
      θ_run (Cert.SsdXbcIdeal.defs (F := Ideal)) (onTc (τ := Cert.SsdXbcIdeal.τ) (Cert.SsdXbcIdeal.main (F := Ideal))) ⟨m, fun _ => 0, g⟩ (fun r => ∀ c : Dev Cert.SsdXbcIdeal.nD,
          r.2.mem ((c.tc : Thread Cert.SsdXbcIdeal.nD Cert.SsdXbcIdeal.τ).loc Cert.SsdXbcIdeal.main_v3) = v0 c
          ∧ r.2.mem ((c.tc : Thread Cert.SsdXbcIdeal.nD Cert.SsdXbcIdeal.τ).loc Cert.SsdXbcIdeal.main_arg0) = m ((c.tc : Thread Cert.SsdXbcIdeal.nD Cert.SsdXbcIdeal.τ).loc Cert.SsdXbcIdeal.main_arg0)
          ∧ r.2.mem ((c.tc : Thread Cert.SsdXbcIdeal.nD Cert.SsdXbcIdeal.τ).loc Cert.SsdXbcIdeal.main_arg1) = m ((c.tc : Thread Cert.SsdXbcIdeal.nD Cert.SsdXbcIdeal.τ).loc Cert.SsdXbcIdeal.main_arg1))
      ∧ θ_run (Cert.SsdXbcRefIdeal.defs (F := Ideal)) (onTc (τ := Cert.SsdXbcRefIdeal.τ) (Cert.SsdXbcRefIdeal.main (F := Ideal))) ⟨m', fun _ => 0, g'⟩ (fun r => ∀ c : Dev Cert.SsdXbcRefIdeal.nD,
          r.2.mem ((c.tc : Thread Cert.SsdXbcRefIdeal.nD Cert.SsdXbcRefIdeal.τ).loc Cert.SsdXbcRefIdeal.main_v2) = v0 c
          ∧ r.2.mem ((c.tc : Thread Cert.SsdXbcRefIdeal.nD Cert.SsdXbcRefIdeal.τ).loc Cert.SsdXbcRefIdeal.main_arg0) = m' ((c.tc : Thread Cert.SsdXbcRefIdeal.nD Cert.SsdXbcRefIdeal.τ).loc Cert.SsdXbcRefIdeal.main_arg0)
          ∧ r.2.mem ((c.tc : Thread Cert.SsdXbcRefIdeal.nD Cert.SsdXbcRefIdeal.τ).loc Cert.SsdXbcRefIdeal.main_arg1) = m' ((c.tc : Thread Cert.SsdXbcRefIdeal.nD Cert.SsdXbcRefIdeal.τ).loc Cert.SsdXbcRefIdeal.main_arg1))

def preserves_SsdOut_SsdOutIdeal : Prop :=
  True

def algebraic_SsdOutIdeal_SsdOutRefIdeal [hSsdOutIdeal : Cert.SsdOutIdeal.Facts] [hSsdOutRefIdeal : Cert.SsdOutRefIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg)
    (m' : (ℓ : Loc Cert.SsdOutRefIdeal.nD Cert.SsdOutRefIdeal.τ Cert.SsdOutRefIdeal.sig) → Buf (Elt Ideal) ℓ) (g' : Dev Cert.SsdOutRefIdeal.nD → PrngReg), Pre_SsdOutIdeal m →
    (∀ c : Dev Cert.SsdOutIdeal.nD,
      m' ((c.tc : Thread Cert.SsdOutRefIdeal.nD Cert.SsdOutRefIdeal.τ).loc Cert.SsdOutRefIdeal.main_arg0) = m ((c.tc : Thread Cert.SsdOutIdeal.nD Cert.SsdOutIdeal.τ).loc Cert.SsdOutIdeal.main_arg0)
      ∧ m' ((c.tc : Thread Cert.SsdOutRefIdeal.nD Cert.SsdOutRefIdeal.τ).loc Cert.SsdOutRefIdeal.main_arg1) = m ((c.tc : Thread Cert.SsdOutIdeal.nD Cert.SsdOutIdeal.τ).loc Cert.SsdOutIdeal.main_arg1)
      ∧ m' ((c.tc : Thread Cert.SsdOutRefIdeal.nD Cert.SsdOutRefIdeal.τ).loc Cert.SsdOutRefIdeal.main_arg2) = m ((c.tc : Thread Cert.SsdOutIdeal.nD Cert.SsdOutIdeal.τ).loc Cert.SsdOutIdeal.main_arg2)
      ∧ m' ((c.tc : Thread Cert.SsdOutRefIdeal.nD Cert.SsdOutRefIdeal.τ).loc Cert.SsdOutRefIdeal.main_arg3) = m ((c.tc : Thread Cert.SsdOutIdeal.nD Cert.SsdOutIdeal.τ).loc Cert.SsdOutIdeal.main_arg3)) →
    ∃ (v0 : (c : Dev Cert.SsdOutIdeal.nD) → Buf (Elt Ideal) ((c.tc : Thread Cert.SsdOutIdeal.nD Cert.SsdOutIdeal.τ).loc Cert.SsdOutIdeal.main_v2)),
      θ_run (Cert.SsdOutIdeal.defs (F := Ideal)) (onTc (τ := Cert.SsdOutIdeal.τ) (Cert.SsdOutIdeal.main (F := Ideal))) ⟨m, fun _ => 0, g⟩ (fun r => ∀ c : Dev Cert.SsdOutIdeal.nD,
          r.2.mem ((c.tc : Thread Cert.SsdOutIdeal.nD Cert.SsdOutIdeal.τ).loc Cert.SsdOutIdeal.main_v2) = v0 c
          ∧ r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
          ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
          ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
          ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3))
      ∧ θ_run (Cert.SsdOutRefIdeal.defs (F := Ideal)) (onTc (τ := Cert.SsdOutRefIdeal.τ) (Cert.SsdOutRefIdeal.main (F := Ideal))) ⟨m', fun _ => 0, g'⟩ (fun r => ∀ c : Dev Cert.SsdOutRefIdeal.nD,
          r.2.mem ((c.tc : Thread Cert.SsdOutRefIdeal.nD Cert.SsdOutRefIdeal.τ).loc Cert.SsdOutRefIdeal.main_v3) = v0 c
          ∧ r.2.mem ((c.tc : Thread Cert.SsdOutRefIdeal.nD Cert.SsdOutRefIdeal.τ).loc Cert.SsdOutRefIdeal.main_arg0) = m' ((c.tc : Thread Cert.SsdOutRefIdeal.nD Cert.SsdOutRefIdeal.τ).loc Cert.SsdOutRefIdeal.main_arg0)
          ∧ r.2.mem ((c.tc : Thread Cert.SsdOutRefIdeal.nD Cert.SsdOutRefIdeal.τ).loc Cert.SsdOutRefIdeal.main_arg1) = m' ((c.tc : Thread Cert.SsdOutRefIdeal.nD Cert.SsdOutRefIdeal.τ).loc Cert.SsdOutRefIdeal.main_arg1)
          ∧ r.2.mem ((c.tc : Thread Cert.SsdOutRefIdeal.nD Cert.SsdOutRefIdeal.τ).loc Cert.SsdOutRefIdeal.main_arg2) = m' ((c.tc : Thread Cert.SsdOutRefIdeal.nD Cert.SsdOutRefIdeal.τ).loc Cert.SsdOutRefIdeal.main_arg2)
          ∧ r.2.mem ((c.tc : Thread Cert.SsdOutRefIdeal.nD Cert.SsdOutRefIdeal.τ).loc Cert.SsdOutRefIdeal.main_arg3) = m' ((c.tc : Thread Cert.SsdOutRefIdeal.nD Cert.SsdOutRefIdeal.τ).loc Cert.SsdOutRefIdeal.main_arg3))

def preserves_SsdDt_SsdDtIdeal : Prop :=
  True

def algebraic_SsdDtIdeal_SsdDtRefIdeal [hSsdDtIdeal : Cert.SsdDtIdeal.Facts] [hSsdDtRefIdeal : Cert.SsdDtRefIdeal.Facts] : Prop :=
  ∀ (m : (ℓ : Loc Cert.SsdDtIdeal.nD Cert.SsdDtIdeal.τ Cert.SsdDtIdeal.sig) → Buf (Elt Ideal) ℓ) (g : Dev Cert.SsdDtIdeal.nD → PrngReg)
    (m' : (ℓ : Loc Cert.SsdDtRefIdeal.nD Cert.SsdDtRefIdeal.τ Cert.SsdDtRefIdeal.sig) → Buf (Elt Ideal) ℓ) (g' : Dev Cert.SsdDtRefIdeal.nD → PrngReg), Pre_SsdDtIdeal m →
    (∀ c : Dev Cert.SsdDtIdeal.nD,
      m' ((c.tc : Thread Cert.SsdDtRefIdeal.nD Cert.SsdDtRefIdeal.τ).loc Cert.SsdDtRefIdeal.main_arg0) = m ((c.tc : Thread Cert.SsdDtIdeal.nD Cert.SsdDtIdeal.τ).loc Cert.SsdDtIdeal.main_arg0)
      ∧ m' ((c.tc : Thread Cert.SsdDtRefIdeal.nD Cert.SsdDtRefIdeal.τ).loc Cert.SsdDtRefIdeal.main_arg1) = m ((c.tc : Thread Cert.SsdDtIdeal.nD Cert.SsdDtIdeal.τ).loc Cert.SsdDtIdeal.main_arg1)) →
    ∃ (v0 : (c : Dev Cert.SsdDtIdeal.nD) → Buf (Elt Ideal) ((c.tc : Thread Cert.SsdDtIdeal.nD Cert.SsdDtIdeal.τ).loc Cert.SsdDtIdeal.main_v7)),
      θ_run (Cert.SsdDtIdeal.defs (F := Ideal)) (onTc (τ := Cert.SsdDtIdeal.τ) (Cert.SsdDtIdeal.main (F := Ideal))) ⟨m, fun _ => 0, g⟩ (fun r => ∀ c : Dev Cert.SsdDtIdeal.nD,
          r.2.mem ((c.tc : Thread Cert.SsdDtIdeal.nD Cert.SsdDtIdeal.τ).loc Cert.SsdDtIdeal.main_v7) = v0 c
          ∧ r.2.mem ((c.tc : Thread Cert.SsdDtIdeal.nD Cert.SsdDtIdeal.τ).loc Cert.SsdDtIdeal.main_arg0) = m ((c.tc : Thread Cert.SsdDtIdeal.nD Cert.SsdDtIdeal.τ).loc Cert.SsdDtIdeal.main_arg0)
          ∧ r.2.mem ((c.tc : Thread Cert.SsdDtIdeal.nD Cert.SsdDtIdeal.τ).loc Cert.SsdDtIdeal.main_arg1) = m ((c.tc : Thread Cert.SsdDtIdeal.nD Cert.SsdDtIdeal.τ).loc Cert.SsdDtIdeal.main_arg1))
      ∧ θ_run (Cert.SsdDtRefIdeal.defs (F := Ideal)) (onTc (τ := Cert.SsdDtRefIdeal.τ) (Cert.SsdDtRefIdeal.main (F := Ideal))) ⟨m', fun _ => 0, g'⟩ (fun r => ∀ c : Dev Cert.SsdDtRefIdeal.nD,
          r.2.mem ((c.tc : Thread Cert.SsdDtRefIdeal.nD Cert.SsdDtRefIdeal.τ).loc Cert.SsdDtRefIdeal.main_v3) = v0 c
          ∧ r.2.mem ((c.tc : Thread Cert.SsdDtRefIdeal.nD Cert.SsdDtRefIdeal.τ).loc Cert.SsdDtRefIdeal.main_arg0) = m' ((c.tc : Thread Cert.SsdDtRefIdeal.nD Cert.SsdDtRefIdeal.τ).loc Cert.SsdDtRefIdeal.main_arg0)
          ∧ r.2.mem ((c.tc : Thread Cert.SsdDtRefIdeal.nD Cert.SsdDtRefIdeal.τ).loc Cert.SsdDtRefIdeal.main_arg1) = m' ((c.tc : Thread Cert.SsdDtRefIdeal.nD Cert.SsdDtRefIdeal.τ).loc Cert.SsdDtRefIdeal.main_arg1))

def preserves_SsdDWDt_SsdDWDtIdeal : Prop :=
  True

def algebraic_SsdDWDtIdeal_SsdDWDtRefIdeal [hSsdDWDtIdeal : Cert.SsdDWDtIdeal.Facts] [hSsdDWDtRefIdeal : Cert.SsdDWDtRefIdeal.Facts] : Prop :=
  ∀ (m : (ℓ : Loc Cert.SsdDWDtIdeal.nD Cert.SsdDWDtIdeal.τ Cert.SsdDWDtIdeal.sig) → Buf (Elt Ideal) ℓ) (g : Dev Cert.SsdDWDtIdeal.nD → PrngReg)
    (m' : (ℓ : Loc Cert.SsdDWDtRefIdeal.nD Cert.SsdDWDtRefIdeal.τ Cert.SsdDWDtRefIdeal.sig) → Buf (Elt Ideal) ℓ) (g' : Dev Cert.SsdDWDtRefIdeal.nD → PrngReg), Pre_SsdDWDtIdeal m →
    (∀ c : Dev Cert.SsdDWDtIdeal.nD,
      m' ((c.tc : Thread Cert.SsdDWDtRefIdeal.nD Cert.SsdDWDtRefIdeal.τ).loc Cert.SsdDWDtRefIdeal.main_arg0) = m ((c.tc : Thread Cert.SsdDWDtIdeal.nD Cert.SsdDWDtIdeal.τ).loc Cert.SsdDWDtIdeal.main_arg0)
      ∧ m' ((c.tc : Thread Cert.SsdDWDtRefIdeal.nD Cert.SsdDWDtRefIdeal.τ).loc Cert.SsdDWDtRefIdeal.main_arg1) = m ((c.tc : Thread Cert.SsdDWDtIdeal.nD Cert.SsdDWDtIdeal.τ).loc Cert.SsdDWDtIdeal.main_arg1)
      ∧ m' ((c.tc : Thread Cert.SsdDWDtRefIdeal.nD Cert.SsdDWDtRefIdeal.τ).loc Cert.SsdDWDtRefIdeal.main_arg2) = m ((c.tc : Thread Cert.SsdDWDtIdeal.nD Cert.SsdDWDtIdeal.τ).loc Cert.SsdDWDtIdeal.main_arg2)) →
    ∃ (v0 : (c : Dev Cert.SsdDWDtIdeal.nD) → Buf (Elt Ideal) ((c.tc : Thread Cert.SsdDWDtIdeal.nD Cert.SsdDWDtIdeal.τ).loc Cert.SsdDWDtIdeal.main_v6)),
      θ_run (Cert.SsdDWDtIdeal.defs (F := Ideal)) (onTc (τ := Cert.SsdDWDtIdeal.τ) (Cert.SsdDWDtIdeal.main (F := Ideal))) ⟨m, fun _ => 0, g⟩ (fun r => ∀ c : Dev Cert.SsdDWDtIdeal.nD,
          r.2.mem ((c.tc : Thread Cert.SsdDWDtIdeal.nD Cert.SsdDWDtIdeal.τ).loc Cert.SsdDWDtIdeal.main_v6) = v0 c
          ∧ r.2.mem ((c.tc : Thread Cert.SsdDWDtIdeal.nD Cert.SsdDWDtIdeal.τ).loc Cert.SsdDWDtIdeal.main_arg0) = m ((c.tc : Thread Cert.SsdDWDtIdeal.nD Cert.SsdDWDtIdeal.τ).loc Cert.SsdDWDtIdeal.main_arg0)
          ∧ r.2.mem ((c.tc : Thread Cert.SsdDWDtIdeal.nD Cert.SsdDWDtIdeal.τ).loc Cert.SsdDWDtIdeal.main_arg1) = m ((c.tc : Thread Cert.SsdDWDtIdeal.nD Cert.SsdDWDtIdeal.τ).loc Cert.SsdDWDtIdeal.main_arg1)
          ∧ r.2.mem ((c.tc : Thread Cert.SsdDWDtIdeal.nD Cert.SsdDWDtIdeal.τ).loc Cert.SsdDWDtIdeal.main_arg2) = m ((c.tc : Thread Cert.SsdDWDtIdeal.nD Cert.SsdDWDtIdeal.τ).loc Cert.SsdDWDtIdeal.main_arg2))
      ∧ θ_run (Cert.SsdDWDtRefIdeal.defs (F := Ideal)) (onTc (τ := Cert.SsdDWDtRefIdeal.τ) (Cert.SsdDWDtRefIdeal.main (F := Ideal))) ⟨m', fun _ => 0, g'⟩ (fun r => ∀ c : Dev Cert.SsdDWDtRefIdeal.nD,
          r.2.mem ((c.tc : Thread Cert.SsdDWDtRefIdeal.nD Cert.SsdDWDtRefIdeal.τ).loc Cert.SsdDWDtRefIdeal.main_v2) = v0 c
          ∧ r.2.mem ((c.tc : Thread Cert.SsdDWDtRefIdeal.nD Cert.SsdDWDtRefIdeal.τ).loc Cert.SsdDWDtRefIdeal.main_arg0) = m' ((c.tc : Thread Cert.SsdDWDtRefIdeal.nD Cert.SsdDWDtRefIdeal.τ).loc Cert.SsdDWDtRefIdeal.main_arg0)
          ∧ r.2.mem ((c.tc : Thread Cert.SsdDWDtRefIdeal.nD Cert.SsdDWDtRefIdeal.τ).loc Cert.SsdDWDtRefIdeal.main_arg1) = m' ((c.tc : Thread Cert.SsdDWDtRefIdeal.nD Cert.SsdDWDtRefIdeal.τ).loc Cert.SsdDWDtRefIdeal.main_arg1)
          ∧ r.2.mem ((c.tc : Thread Cert.SsdDWDtRefIdeal.nD Cert.SsdDWDtRefIdeal.τ).loc Cert.SsdDWDtRefIdeal.main_arg2) = m' ((c.tc : Thread Cert.SsdDWDtRefIdeal.nD Cert.SsdDWDtRefIdeal.τ).loc Cert.SsdDWDtRefIdeal.main_arg2))

def preserves_SsdDInDt_SsdDInDtIdeal : Prop :=
  True

def algebraic_SsdDInDtIdeal_SsdDInDtRefIdeal [hSsdDInDtIdeal : Cert.SsdDInDtIdeal.Facts] [hSsdDInDtRefIdeal : Cert.SsdDInDtRefIdeal.Facts] : Prop :=
  ∀ (m : (ℓ : Loc Cert.SsdDInDtIdeal.nD Cert.SsdDInDtIdeal.τ Cert.SsdDInDtIdeal.sig) → Buf (Elt Ideal) ℓ) (g : Dev Cert.SsdDInDtIdeal.nD → PrngReg)
    (m' : (ℓ : Loc Cert.SsdDInDtRefIdeal.nD Cert.SsdDInDtRefIdeal.τ Cert.SsdDInDtRefIdeal.sig) → Buf (Elt Ideal) ℓ) (g' : Dev Cert.SsdDInDtRefIdeal.nD → PrngReg), Pre_SsdDInDtIdeal m →
    (∀ c : Dev Cert.SsdDInDtIdeal.nD,
      m' ((c.tc : Thread Cert.SsdDInDtRefIdeal.nD Cert.SsdDInDtRefIdeal.τ).loc Cert.SsdDInDtRefIdeal.main_arg0) = m ((c.tc : Thread Cert.SsdDInDtIdeal.nD Cert.SsdDInDtIdeal.τ).loc Cert.SsdDInDtIdeal.main_arg0)
      ∧ m' ((c.tc : Thread Cert.SsdDInDtRefIdeal.nD Cert.SsdDInDtRefIdeal.τ).loc Cert.SsdDInDtRefIdeal.main_arg1) = m ((c.tc : Thread Cert.SsdDInDtIdeal.nD Cert.SsdDInDtIdeal.τ).loc Cert.SsdDInDtIdeal.main_arg1)
      ∧ m' ((c.tc : Thread Cert.SsdDInDtRefIdeal.nD Cert.SsdDInDtRefIdeal.τ).loc Cert.SsdDInDtRefIdeal.main_arg2) = m ((c.tc : Thread Cert.SsdDInDtIdeal.nD Cert.SsdDInDtIdeal.τ).loc Cert.SsdDInDtIdeal.main_arg2)
      ∧ m' ((c.tc : Thread Cert.SsdDInDtRefIdeal.nD Cert.SsdDInDtRefIdeal.τ).loc Cert.SsdDInDtRefIdeal.main_arg3) = m ((c.tc : Thread Cert.SsdDInDtIdeal.nD Cert.SsdDInDtIdeal.τ).loc Cert.SsdDInDtIdeal.main_arg3)) →
    ∃ (v0 : (c : Dev Cert.SsdDInDtIdeal.nD) → Buf (Elt Ideal) ((c.tc : Thread Cert.SsdDInDtIdeal.nD Cert.SsdDInDtIdeal.τ).loc Cert.SsdDInDtIdeal.main_v8)),
      θ_run (Cert.SsdDInDtIdeal.defs (F := Ideal)) (onTc (τ := Cert.SsdDInDtIdeal.τ) (Cert.SsdDInDtIdeal.main (F := Ideal))) ⟨m, fun _ => 0, g⟩ (fun r => ∀ c : Dev Cert.SsdDInDtIdeal.nD,
          r.2.mem ((c.tc : Thread Cert.SsdDInDtIdeal.nD Cert.SsdDInDtIdeal.τ).loc Cert.SsdDInDtIdeal.main_v8) = v0 c
          ∧ r.2.mem ((c.tc : Thread Cert.SsdDInDtIdeal.nD Cert.SsdDInDtIdeal.τ).loc Cert.SsdDInDtIdeal.main_arg0) = m ((c.tc : Thread Cert.SsdDInDtIdeal.nD Cert.SsdDInDtIdeal.τ).loc Cert.SsdDInDtIdeal.main_arg0)
          ∧ r.2.mem ((c.tc : Thread Cert.SsdDInDtIdeal.nD Cert.SsdDInDtIdeal.τ).loc Cert.SsdDInDtIdeal.main_arg1) = m ((c.tc : Thread Cert.SsdDInDtIdeal.nD Cert.SsdDInDtIdeal.τ).loc Cert.SsdDInDtIdeal.main_arg1)
          ∧ r.2.mem ((c.tc : Thread Cert.SsdDInDtIdeal.nD Cert.SsdDInDtIdeal.τ).loc Cert.SsdDInDtIdeal.main_arg2) = m ((c.tc : Thread Cert.SsdDInDtIdeal.nD Cert.SsdDInDtIdeal.τ).loc Cert.SsdDInDtIdeal.main_arg2)
          ∧ r.2.mem ((c.tc : Thread Cert.SsdDInDtIdeal.nD Cert.SsdDInDtIdeal.τ).loc Cert.SsdDInDtIdeal.main_arg3) = m ((c.tc : Thread Cert.SsdDInDtIdeal.nD Cert.SsdDInDtIdeal.τ).loc Cert.SsdDInDtIdeal.main_arg3))
      ∧ θ_run (Cert.SsdDInDtRefIdeal.defs (F := Ideal)) (onTc (τ := Cert.SsdDInDtRefIdeal.τ) (Cert.SsdDInDtRefIdeal.main (F := Ideal))) ⟨m', fun _ => 0, g'⟩ (fun r => ∀ c : Dev Cert.SsdDInDtRefIdeal.nD,
          r.2.mem ((c.tc : Thread Cert.SsdDInDtRefIdeal.nD Cert.SsdDInDtRefIdeal.τ).loc Cert.SsdDInDtRefIdeal.main_v3) = v0 c
          ∧ r.2.mem ((c.tc : Thread Cert.SsdDInDtRefIdeal.nD Cert.SsdDInDtRefIdeal.τ).loc Cert.SsdDInDtRefIdeal.main_arg0) = m' ((c.tc : Thread Cert.SsdDInDtRefIdeal.nD Cert.SsdDInDtRefIdeal.τ).loc Cert.SsdDInDtRefIdeal.main_arg0)
          ∧ r.2.mem ((c.tc : Thread Cert.SsdDInDtRefIdeal.nD Cert.SsdDInDtRefIdeal.τ).loc Cert.SsdDInDtRefIdeal.main_arg1) = m' ((c.tc : Thread Cert.SsdDInDtRefIdeal.nD Cert.SsdDInDtRefIdeal.τ).loc Cert.SsdDInDtRefIdeal.main_arg1)
          ∧ r.2.mem ((c.tc : Thread Cert.SsdDInDtRefIdeal.nD Cert.SsdDInDtRefIdeal.τ).loc Cert.SsdDInDtRefIdeal.main_arg2) = m' ((c.tc : Thread Cert.SsdDInDtRefIdeal.nD Cert.SsdDInDtRefIdeal.τ).loc Cert.SsdDInDtRefIdeal.main_arg2)
          ∧ r.2.mem ((c.tc : Thread Cert.SsdDInDtRefIdeal.nD Cert.SsdDInDtRefIdeal.τ).loc Cert.SsdDInDtRefIdeal.main_arg3) = m' ((c.tc : Thread Cert.SsdDInDtRefIdeal.nD Cert.SsdDInDtRefIdeal.τ).loc Cert.SsdDInDtRefIdeal.main_arg3))

def preserves_NormMod_NormModIdeal : Prop :=
  True

def algebraic_NormModIdeal_NormModRefIdeal [hNormModIdeal : Cert.NormModIdeal.Facts] [hNormModRefIdeal : Cert.NormModRefIdeal.Facts] : Prop :=
  ∀ (m : (ℓ : Loc Cert.NormModIdeal.nD Cert.NormModIdeal.τ Cert.NormModIdeal.sig) → Buf (Elt Ideal) ℓ) (g : Dev Cert.NormModIdeal.nD → PrngReg)
    (m' : (ℓ : Loc Cert.NormModRefIdeal.nD Cert.NormModRefIdeal.τ Cert.NormModRefIdeal.sig) → Buf (Elt Ideal) ℓ) (g' : Dev Cert.NormModRefIdeal.nD → PrngReg), Pre_NormModIdeal m →
    (∀ c : Dev Cert.NormModIdeal.nD,
      m' ((c.tc : Thread Cert.NormModRefIdeal.nD Cert.NormModRefIdeal.τ).loc Cert.NormModRefIdeal.main_arg0) = m ((c.tc : Thread Cert.NormModIdeal.nD Cert.NormModIdeal.τ).loc Cert.NormModIdeal.main_arg0)
      ∧ m' ((c.tc : Thread Cert.NormModRefIdeal.nD Cert.NormModRefIdeal.τ).loc Cert.NormModRefIdeal.main_arg1) = m ((c.tc : Thread Cert.NormModIdeal.nD Cert.NormModIdeal.τ).loc Cert.NormModIdeal.main_arg1)
      ∧ m' ((c.tc : Thread Cert.NormModRefIdeal.nD Cert.NormModRefIdeal.τ).loc Cert.NormModRefIdeal.main_arg2) = m ((c.tc : Thread Cert.NormModIdeal.nD Cert.NormModIdeal.τ).loc Cert.NormModIdeal.main_arg2)
      ∧ m' ((c.tc : Thread Cert.NormModRefIdeal.nD Cert.NormModRefIdeal.τ).loc Cert.NormModRefIdeal.main_arg3) = m ((c.tc : Thread Cert.NormModIdeal.nD Cert.NormModIdeal.τ).loc Cert.NormModIdeal.main_arg3)) →
    ∃ (v0 : (c : Dev Cert.NormModIdeal.nD) → Buf (Elt Ideal) ((c.tc : Thread Cert.NormModIdeal.nD Cert.NormModIdeal.τ).loc Cert.NormModIdeal.main_v2)),
      θ_run (Cert.NormModIdeal.defs (F := Ideal)) (onTc (τ := Cert.NormModIdeal.τ) (Cert.NormModIdeal.main (F := Ideal))) ⟨m, fun _ => 0, g⟩ (fun r => ∀ c : Dev Cert.NormModIdeal.nD,
          r.2.mem ((c.tc : Thread Cert.NormModIdeal.nD Cert.NormModIdeal.τ).loc Cert.NormModIdeal.main_v2) = v0 c
          ∧ r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
          ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
          ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
          ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ θ_run (Cert.NormModRefIdeal.defs (F := Ideal)) (onTc (τ := Cert.NormModRefIdeal.τ) (Cert.NormModRefIdeal.main (F := Ideal))) ⟨m', fun _ => 0, g'⟩ (fun r => ∀ c : Dev Cert.NormModRefIdeal.nD,
          r.2.mem ((c.tc : Thread Cert.NormModRefIdeal.nD Cert.NormModRefIdeal.τ).loc Cert.NormModRefIdeal.main_v18) = v0 c
          ∧ r.2.mem ((c.tc : Thread Cert.NormModRefIdeal.nD Cert.NormModRefIdeal.τ).loc Cert.NormModRefIdeal.main_arg0) = m' ((c.tc : Thread Cert.NormModRefIdeal.nD Cert.NormModRefIdeal.τ).loc Cert.NormModRefIdeal.main_arg0)
          ∧ r.2.mem ((c.tc : Thread Cert.NormModRefIdeal.nD Cert.NormModRefIdeal.τ).loc Cert.NormModRefIdeal.main_arg1) = m' ((c.tc : Thread Cert.NormModRefIdeal.nD Cert.NormModRefIdeal.τ).loc Cert.NormModRefIdeal.main_arg1)
          ∧ r.2.mem ((c.tc : Thread Cert.NormModRefIdeal.nD Cert.NormModRefIdeal.τ).loc Cert.NormModRefIdeal.main_arg2) = m' ((c.tc : Thread Cert.NormModRefIdeal.nD Cert.NormModRefIdeal.τ).loc Cert.NormModRefIdeal.main_arg2)
          ∧ r.2.mem ((c.tc : Thread Cert.NormModRefIdeal.nD Cert.NormModRefIdeal.τ).loc Cert.NormModRefIdeal.main_arg3) = m' ((c.tc : Thread Cert.NormModRefIdeal.nD Cert.NormModRefIdeal.τ).loc Cert.NormModRefIdeal.main_arg3))

def preserves_Gelu_GeluIdeal : Prop :=
  True

def algebraic_GeluIdeal_GeluRefIdeal [hGeluIdeal : Cert.GeluIdeal.Facts] [hGeluRefIdeal : Cert.GeluRefIdeal.Facts] : Prop :=
  ∀ (m : (ℓ : Loc Cert.GeluIdeal.nD Cert.GeluIdeal.τ Cert.GeluIdeal.sig) → Buf (Elt Ideal) ℓ) (g : Dev Cert.GeluIdeal.nD → PrngReg)
    (m' : (ℓ : Loc Cert.GeluRefIdeal.nD Cert.GeluRefIdeal.τ Cert.GeluRefIdeal.sig) → Buf (Elt Ideal) ℓ) (g' : Dev Cert.GeluRefIdeal.nD → PrngReg), Pre_GeluIdeal m →
    (∀ c : Dev Cert.GeluIdeal.nD,
      m' ((c.tc : Thread Cert.GeluRefIdeal.nD Cert.GeluRefIdeal.τ).loc Cert.GeluRefIdeal.main_arg0) = m ((c.tc : Thread Cert.GeluIdeal.nD Cert.GeluIdeal.τ).loc Cert.GeluIdeal.main_arg0)
      ∧ m' ((c.tc : Thread Cert.GeluRefIdeal.nD Cert.GeluRefIdeal.τ).loc Cert.GeluRefIdeal.main_arg1) = m ((c.tc : Thread Cert.GeluIdeal.nD Cert.GeluIdeal.τ).loc Cert.GeluIdeal.main_arg1)
      ∧ m' ((c.tc : Thread Cert.GeluRefIdeal.nD Cert.GeluRefIdeal.τ).loc Cert.GeluRefIdeal.main_arg2) = m ((c.tc : Thread Cert.GeluIdeal.nD Cert.GeluIdeal.τ).loc Cert.GeluIdeal.main_arg2)) →
    ∃ (v0 : (c : Dev Cert.GeluIdeal.nD) → Buf (Elt Ideal) ((c.tc : Thread Cert.GeluIdeal.nD Cert.GeluIdeal.τ).loc Cert.GeluIdeal.main_v3)),
      θ_run (Cert.GeluIdeal.defs (F := Ideal)) (onTc (τ := Cert.GeluIdeal.τ) (Cert.GeluIdeal.main (F := Ideal))) ⟨m, fun _ => 0, g⟩ (fun r => ∀ c : Dev Cert.GeluIdeal.nD,
          r.2.mem ((c.tc : Thread Cert.GeluIdeal.nD Cert.GeluIdeal.τ).loc Cert.GeluIdeal.main_v3) = v0 c
          ∧ r.2.mem ((c.tc : Thread Cert.GeluIdeal.nD Cert.GeluIdeal.τ).loc Cert.GeluIdeal.main_arg0) = m ((c.tc : Thread Cert.GeluIdeal.nD Cert.GeluIdeal.τ).loc Cert.GeluIdeal.main_arg0)
          ∧ r.2.mem ((c.tc : Thread Cert.GeluIdeal.nD Cert.GeluIdeal.τ).loc Cert.GeluIdeal.main_arg1) = m ((c.tc : Thread Cert.GeluIdeal.nD Cert.GeluIdeal.τ).loc Cert.GeluIdeal.main_arg1)
          ∧ r.2.mem ((c.tc : Thread Cert.GeluIdeal.nD Cert.GeluIdeal.τ).loc Cert.GeluIdeal.main_arg2) = m ((c.tc : Thread Cert.GeluIdeal.nD Cert.GeluIdeal.τ).loc Cert.GeluIdeal.main_arg2))
      ∧ θ_run (Cert.GeluRefIdeal.defs (F := Ideal)) (onTc (τ := Cert.GeluRefIdeal.τ) (Cert.GeluRefIdeal.main (F := Ideal))) ⟨m', fun _ => 0, g'⟩ (fun r => ∀ c : Dev Cert.GeluRefIdeal.nD,
          r.2.mem ((c.tc : Thread Cert.GeluRefIdeal.nD Cert.GeluRefIdeal.τ).loc Cert.GeluRefIdeal.main_v16) = v0 c
          ∧ r.2.mem ((c.tc : Thread Cert.GeluRefIdeal.nD Cert.GeluRefIdeal.τ).loc Cert.GeluRefIdeal.main_arg0) = m' ((c.tc : Thread Cert.GeluRefIdeal.nD Cert.GeluRefIdeal.τ).loc Cert.GeluRefIdeal.main_arg0)
          ∧ r.2.mem ((c.tc : Thread Cert.GeluRefIdeal.nD Cert.GeluRefIdeal.τ).loc Cert.GeluRefIdeal.main_arg1) = m' ((c.tc : Thread Cert.GeluRefIdeal.nD Cert.GeluRefIdeal.τ).loc Cert.GeluRefIdeal.main_arg1)
          ∧ r.2.mem ((c.tc : Thread Cert.GeluRefIdeal.nD Cert.GeluRefIdeal.τ).loc Cert.GeluRefIdeal.main_arg2) = m' ((c.tc : Thread Cert.GeluRefIdeal.nD Cert.GeluRefIdeal.τ).loc Cert.GeluRefIdeal.main_arg2))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)) →
    ∃ (v0 : (c : Dev Cert.GluIdeal.nD) → Buf (Elt Ideal) ((c.tc : Thread Cert.GluIdeal.nD Cert.GluIdeal.τ).loc Cert.GluIdeal.main_v1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v14) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3))

def preserves_GluGrad_GluGradIdeal : Prop :=
  True

def algebraic_GluGradIdeal_GluGradRefIdeal [hGluGradIdeal : Cert.GluGradIdeal.Facts] [hGluGradRefIdeal : Cert.GluGradRefIdeal.Facts] : Prop :=
  ∀ (m : (ℓ : Loc Cert.GluGradIdeal.nD Cert.GluGradIdeal.τ Cert.GluGradIdeal.sig) → Buf (Elt Ideal) ℓ) (g : Dev Cert.GluGradIdeal.nD → PrngReg)
    (m' : (ℓ : Loc Cert.GluGradRefIdeal.nD Cert.GluGradRefIdeal.τ Cert.GluGradRefIdeal.sig) → Buf (Elt Ideal) ℓ) (g' : Dev Cert.GluGradRefIdeal.nD → PrngReg), Pre_GluGradIdeal m →
    (∀ c : Dev Cert.GluGradIdeal.nD,
      m' ((c.tc : Thread Cert.GluGradRefIdeal.nD Cert.GluGradRefIdeal.τ).loc Cert.GluGradRefIdeal.main_arg0) = m ((c.tc : Thread Cert.GluGradIdeal.nD Cert.GluGradIdeal.τ).loc Cert.GluGradIdeal.main_arg0)
      ∧ m' ((c.tc : Thread Cert.GluGradRefIdeal.nD Cert.GluGradRefIdeal.τ).loc Cert.GluGradRefIdeal.main_arg1) = m ((c.tc : Thread Cert.GluGradIdeal.nD Cert.GluGradIdeal.τ).loc Cert.GluGradIdeal.main_arg1)
      ∧ m' ((c.tc : Thread Cert.GluGradRefIdeal.nD Cert.GluGradRefIdeal.τ).loc Cert.GluGradRefIdeal.main_arg2) = m ((c.tc : Thread Cert.GluGradIdeal.nD Cert.GluGradIdeal.τ).loc Cert.GluGradIdeal.main_arg2)
      ∧ m' ((c.tc : Thread Cert.GluGradRefIdeal.nD Cert.GluGradRefIdeal.τ).loc Cert.GluGradRefIdeal.main_arg3) = m ((c.tc : Thread Cert.GluGradIdeal.nD Cert.GluGradIdeal.τ).loc Cert.GluGradIdeal.main_arg3)) →
    ∃ (v0 : (c : Dev Cert.GluGradIdeal.nD) → Buf (Elt Ideal) ((c.tc : Thread Cert.GluGradIdeal.nD Cert.GluGradIdeal.τ).loc Cert.GluGradIdeal.main_v2)) (v1 : (c : Dev Cert.GluGradIdeal.nD) → Buf (Elt Ideal) ((c.tc : Thread Cert.GluGradIdeal.nD Cert.GluGradIdeal.τ).loc Cert.GluGradIdeal.main_v3)) (v2 : (c : Dev Cert.GluGradIdeal.nD) → Buf (Elt Ideal) ((c.tc : Thread Cert.GluGradIdeal.nD Cert.GluGradIdeal.τ).loc Cert.GluGradIdeal.main_v1_2)),
      θ_run (Cert.GluGradIdeal.defs (F := Ideal)) (onTc (τ := Cert.GluGradIdeal.τ) (Cert.GluGradIdeal.main (F := Ideal))) ⟨m, fun _ => 0, g⟩ (fun r => ∀ c : Dev Cert.GluGradIdeal.nD,
          r.2.mem ((c.tc : Thread Cert.GluGradIdeal.nD Cert.GluGradIdeal.τ).loc Cert.GluGradIdeal.main_v2) = v0 c
          ∧ r.2.mem ((c.tc : Thread Cert.GluGradIdeal.nD Cert.GluGradIdeal.τ).loc Cert.GluGradIdeal.main_v3) = v1 c
          ∧ r.2.mem ((c.tc : Thread Cert.GluGradIdeal.nD Cert.GluGradIdeal.τ).loc Cert.GluGradIdeal.main_v1_2) = v2 c
          ∧ r.2.mem ((c.tc : Thread Cert.GluGradIdeal.nD Cert.GluGradIdeal.τ).loc Cert.GluGradIdeal.main_arg0) = m ((c.tc : Thread Cert.GluGradIdeal.nD Cert.GluGradIdeal.τ).loc Cert.GluGradIdeal.main_arg0)
          ∧ r.2.mem ((c.tc : Thread Cert.GluGradIdeal.nD Cert.GluGradIdeal.τ).loc Cert.GluGradIdeal.main_arg1) = m ((c.tc : Thread Cert.GluGradIdeal.nD Cert.GluGradIdeal.τ).loc Cert.GluGradIdeal.main_arg1)
          ∧ r.2.mem ((c.tc : Thread Cert.GluGradIdeal.nD Cert.GluGradIdeal.τ).loc Cert.GluGradIdeal.main_arg2) = m ((c.tc : Thread Cert.GluGradIdeal.nD Cert.GluGradIdeal.τ).loc Cert.GluGradIdeal.main_arg2)
          ∧ r.2.mem ((c.tc : Thread Cert.GluGradIdeal.nD Cert.GluGradIdeal.τ).loc Cert.GluGradIdeal.main_arg3) = m ((c.tc : Thread Cert.GluGradIdeal.nD Cert.GluGradIdeal.τ).loc Cert.GluGradIdeal.main_arg3))
      ∧ θ_run (Cert.GluGradRefIdeal.defs (F := Ideal)) (onTc (τ := Cert.GluGradRefIdeal.τ) (Cert.GluGradRefIdeal.main (F := Ideal))) ⟨m', fun _ => 0, g'⟩ (fun r => ∀ c : Dev Cert.GluGradRefIdeal.nD,
          r.2.mem ((c.tc : Thread Cert.GluGradRefIdeal.nD Cert.GluGradRefIdeal.τ).loc Cert.GluGradRefIdeal.main_v25) = v0 c
          ∧ r.2.mem ((c.tc : Thread Cert.GluGradRefIdeal.nD Cert.GluGradRefIdeal.τ).loc Cert.GluGradRefIdeal.main_v28) = v1 c
          ∧ r.2.mem ((c.tc : Thread Cert.GluGradRefIdeal.nD Cert.GluGradRefIdeal.τ).loc Cert.GluGradRefIdeal.main_v21) = v2 c
          ∧ r.2.mem ((c.tc : Thread Cert.GluGradRefIdeal.nD Cert.GluGradRefIdeal.τ).loc Cert.GluGradRefIdeal.main_arg0) = m' ((c.tc : Thread Cert.GluGradRefIdeal.nD Cert.GluGradRefIdeal.τ).loc Cert.GluGradRefIdeal.main_arg0)
          ∧ r.2.mem ((c.tc : Thread Cert.GluGradRefIdeal.nD Cert.GluGradRefIdeal.τ).loc Cert.GluGradRefIdeal.main_arg1) = m' ((c.tc : Thread Cert.GluGradRefIdeal.nD Cert.GluGradRefIdeal.τ).loc Cert.GluGradRefIdeal.main_arg1)
          ∧ r.2.mem ((c.tc : Thread Cert.GluGradRefIdeal.nD Cert.GluGradRefIdeal.τ).loc Cert.GluGradRefIdeal.main_arg2) = m' ((c.tc : Thread Cert.GluGradRefIdeal.nD Cert.GluGradRefIdeal.τ).loc Cert.GluGradRefIdeal.main_arg2)
          ∧ r.2.mem ((c.tc : Thread Cert.GluGradRefIdeal.nD Cert.GluGradRefIdeal.τ).loc Cert.GluGradRefIdeal.main_arg3) = m' ((c.tc : Thread Cert.GluGradRefIdeal.nD Cert.GluGradRefIdeal.τ).loc Cert.GluGradRefIdeal.main_arg3))

def preserves_GateNorm_GateNormIdeal : Prop :=
  True

def algebraic_GateNormIdeal_GateNormRefIdeal [hGateNormIdeal : Cert.GateNormIdeal.Facts] [hGateNormRefIdeal : Cert.GateNormRefIdeal.Facts] : Prop :=
  ∀ (m : (ℓ : Loc Cert.GateNormIdeal.nD Cert.GateNormIdeal.τ Cert.GateNormIdeal.sig) → Buf (Elt Ideal) ℓ) (g : Dev Cert.GateNormIdeal.nD → PrngReg)
    (m' : (ℓ : Loc Cert.GateNormRefIdeal.nD Cert.GateNormRefIdeal.τ Cert.GateNormRefIdeal.sig) → Buf (Elt Ideal) ℓ) (g' : Dev Cert.GateNormRefIdeal.nD → PrngReg), Pre_GateNormIdeal m →
    (∀ c : Dev Cert.GateNormIdeal.nD,
      m' ((c.tc : Thread Cert.GateNormRefIdeal.nD Cert.GateNormRefIdeal.τ).loc Cert.GateNormRefIdeal.main_arg0) = m ((c.tc : Thread Cert.GateNormIdeal.nD Cert.GateNormIdeal.τ).loc Cert.GateNormIdeal.main_arg0)
      ∧ m' ((c.tc : Thread Cert.GateNormRefIdeal.nD Cert.GateNormRefIdeal.τ).loc Cert.GateNormRefIdeal.main_arg1) = m ((c.tc : Thread Cert.GateNormIdeal.nD Cert.GateNormIdeal.τ).loc Cert.GateNormIdeal.main_arg1)
      ∧ m' ((c.tc : Thread Cert.GateNormRefIdeal.nD Cert.GateNormRefIdeal.τ).loc Cert.GateNormRefIdeal.main_arg2) = m ((c.tc : Thread Cert.GateNormIdeal.nD Cert.GateNormIdeal.τ).loc Cert.GateNormIdeal.main_arg2)) →
    ∃ (v0 : (c : Dev Cert.GateNormIdeal.nD) → Buf (Elt Ideal) ((c.tc : Thread Cert.GateNormIdeal.nD Cert.GateNormIdeal.τ).loc Cert.GateNormIdeal.main_v2)),
      θ_run (Cert.GateNormIdeal.defs (F := Ideal)) (onTc (τ := Cert.GateNormIdeal.τ) (Cert.GateNormIdeal.main (F := Ideal))) ⟨m, fun _ => 0, g⟩ (fun r => ∀ c : Dev Cert.GateNormIdeal.nD,
          r.2.mem ((c.tc : Thread Cert.GateNormIdeal.nD Cert.GateNormIdeal.τ).loc Cert.GateNormIdeal.main_v2) = v0 c
          ∧ r.2.mem ((c.tc : Thread Cert.GateNormIdeal.nD Cert.GateNormIdeal.τ).loc Cert.GateNormIdeal.main_arg0) = m ((c.tc : Thread Cert.GateNormIdeal.nD Cert.GateNormIdeal.τ).loc Cert.GateNormIdeal.main_arg0)
          ∧ r.2.mem ((c.tc : Thread Cert.GateNormIdeal.nD Cert.GateNormIdeal.τ).loc Cert.GateNormIdeal.main_arg1) = m ((c.tc : Thread Cert.GateNormIdeal.nD Cert.GateNormIdeal.τ).loc Cert.GateNormIdeal.main_arg1)
          ∧ r.2.mem ((c.tc : Thread Cert.GateNormIdeal.nD Cert.GateNormIdeal.τ).loc Cert.GateNormIdeal.main_arg2) = m ((c.tc : Thread Cert.GateNormIdeal.nD Cert.GateNormIdeal.τ).loc Cert.GateNormIdeal.main_arg2))
      ∧ θ_run (Cert.GateNormRefIdeal.defs (F := Ideal)) (onTc (τ := Cert.GateNormRefIdeal.τ) (Cert.GateNormRefIdeal.main (F := Ideal))) ⟨m', fun _ => 0, g'⟩ (fun r => ∀ c : Dev Cert.GateNormRefIdeal.nD,
          r.2.mem ((c.tc : Thread Cert.GateNormRefIdeal.nD Cert.GateNormRefIdeal.τ).loc Cert.GateNormRefIdeal.main_v16) = v0 c
          ∧ r.2.mem ((c.tc : Thread Cert.GateNormRefIdeal.nD Cert.GateNormRefIdeal.τ).loc Cert.GateNormRefIdeal.main_arg0) = m' ((c.tc : Thread Cert.GateNormRefIdeal.nD Cert.GateNormRefIdeal.τ).loc Cert.GateNormRefIdeal.main_arg0)
          ∧ r.2.mem ((c.tc : Thread Cert.GateNormRefIdeal.nD Cert.GateNormRefIdeal.τ).loc Cert.GateNormRefIdeal.main_arg1) = m' ((c.tc : Thread Cert.GateNormRefIdeal.nD Cert.GateNormRefIdeal.τ).loc Cert.GateNormRefIdeal.main_arg1)
          ∧ r.2.mem ((c.tc : Thread Cert.GateNormRefIdeal.nD Cert.GateNormRefIdeal.τ).loc Cert.GateNormRefIdeal.main_arg2) = m' ((c.tc : Thread Cert.GateNormRefIdeal.nD Cert.GateNormRefIdeal.τ).loc Cert.GateNormRefIdeal.main_arg2))

def preserves_AdamMlp_AdamMlpIdeal : Prop :=
  True

def algebraic_AdamMlpIdeal_AdamMlpRefIdeal [hAdamMlpIdeal : Cert.AdamMlpIdeal.Facts] [hAdamMlpRefIdeal : Cert.AdamMlpRefIdeal.Facts] : Prop :=
  ∀ (m : (ℓ : Loc Cert.AdamMlpIdeal.nD Cert.AdamMlpIdeal.τ Cert.AdamMlpIdeal.sig) → Buf (Elt Ideal) ℓ) (g : Dev Cert.AdamMlpIdeal.nD → PrngReg)
    (m' : (ℓ : Loc Cert.AdamMlpRefIdeal.nD Cert.AdamMlpRefIdeal.τ Cert.AdamMlpRefIdeal.sig) → Buf (Elt Ideal) ℓ) (g' : Dev Cert.AdamMlpRefIdeal.nD → PrngReg), Pre_AdamMlpIdeal m →
    (∀ c : Dev Cert.AdamMlpIdeal.nD,
      m' ((c.tc : Thread Cert.AdamMlpRefIdeal.nD Cert.AdamMlpRefIdeal.τ).loc Cert.AdamMlpRefIdeal.main_arg0) = m ((c.tc : Thread Cert.AdamMlpIdeal.nD Cert.AdamMlpIdeal.τ).loc Cert.AdamMlpIdeal.main_arg0)
      ∧ m' ((c.tc : Thread Cert.AdamMlpRefIdeal.nD Cert.AdamMlpRefIdeal.τ).loc Cert.AdamMlpRefIdeal.main_arg1) = m ((c.tc : Thread Cert.AdamMlpIdeal.nD Cert.AdamMlpIdeal.τ).loc Cert.AdamMlpIdeal.main_arg1)
      ∧ m' ((c.tc : Thread Cert.AdamMlpRefIdeal.nD Cert.AdamMlpRefIdeal.τ).loc Cert.AdamMlpRefIdeal.main_arg2) = m ((c.tc : Thread Cert.AdamMlpIdeal.nD Cert.AdamMlpIdeal.τ).loc Cert.AdamMlpIdeal.main_arg2)
      ∧ m' ((c.tc : Thread Cert.AdamMlpRefIdeal.nD Cert.AdamMlpRefIdeal.τ).loc Cert.AdamMlpRefIdeal.main_arg3) = m ((c.tc : Thread Cert.AdamMlpIdeal.nD Cert.AdamMlpIdeal.τ).loc Cert.AdamMlpIdeal.main_arg3)
      ∧ m' ((c.tc : Thread Cert.AdamMlpRefIdeal.nD Cert.AdamMlpRefIdeal.τ).loc Cert.AdamMlpRefIdeal.main_arg4) = m ((c.tc : Thread Cert.AdamMlpIdeal.nD Cert.AdamMlpIdeal.τ).loc Cert.AdamMlpIdeal.main_arg4)) →
    ∃ (v0 : (c : Dev Cert.AdamMlpIdeal.nD) → Buf (Elt Ideal) ((c.tc : Thread Cert.AdamMlpIdeal.nD Cert.AdamMlpIdeal.τ).loc Cert.AdamMlpIdeal.main_v0_0)) (v1 : (c : Dev Cert.AdamMlpIdeal.nD) → Buf (Elt Ideal) ((c.tc : Thread Cert.AdamMlpIdeal.nD Cert.AdamMlpIdeal.τ).loc Cert.AdamMlpIdeal.main_v0_1)) (v2 : (c : Dev Cert.AdamMlpIdeal.nD) → Buf (Elt Ideal) ((c.tc : Thread Cert.AdamMlpIdeal.nD Cert.AdamMlpIdeal.τ).loc Cert.AdamMlpIdeal.main_v0_2)) (v3 : (c : Dev Cert.AdamMlpIdeal.nD) → Buf (Elt Ideal) ((c.tc : Thread Cert.AdamMlpIdeal.nD Cert.AdamMlpIdeal.τ).loc Cert.AdamMlpIdeal.main_v0_3)),
      θ_run (Cert.AdamMlpIdeal.defs (F := Ideal)) (onTc (τ := Cert.AdamMlpIdeal.τ) (Cert.AdamMlpIdeal.main (F := Ideal))) ⟨m, fun _ => 0, g⟩ (fun r => ∀ c : Dev Cert.AdamMlpIdeal.nD,
          r.2.mem ((c.tc : Thread Cert.AdamMlpIdeal.nD Cert.AdamMlpIdeal.τ).loc Cert.AdamMlpIdeal.main_v0_0) = v0 c
          ∧ r.2.mem ((c.tc : Thread Cert.AdamMlpIdeal.nD Cert.AdamMlpIdeal.τ).loc Cert.AdamMlpIdeal.main_v0_1) = v1 c
          ∧ r.2.mem ((c.tc : Thread Cert.AdamMlpIdeal.nD Cert.AdamMlpIdeal.τ).loc Cert.AdamMlpIdeal.main_v0_2) = v2 c
          ∧ r.2.mem ((c.tc : Thread Cert.AdamMlpIdeal.nD Cert.AdamMlpIdeal.τ).loc Cert.AdamMlpIdeal.main_v0_3) = v3 c
          ∧ r.2.mem ((c.tc : Thread Cert.AdamMlpIdeal.nD Cert.AdamMlpIdeal.τ).loc Cert.AdamMlpIdeal.main_arg0) = m ((c.tc : Thread Cert.AdamMlpIdeal.nD Cert.AdamMlpIdeal.τ).loc Cert.AdamMlpIdeal.main_arg0)
          ∧ r.2.mem ((c.tc : Thread Cert.AdamMlpIdeal.nD Cert.AdamMlpIdeal.τ).loc Cert.AdamMlpIdeal.main_arg1) = m ((c.tc : Thread Cert.AdamMlpIdeal.nD Cert.AdamMlpIdeal.τ).loc Cert.AdamMlpIdeal.main_arg1)
          ∧ r.2.mem ((c.tc : Thread Cert.AdamMlpIdeal.nD Cert.AdamMlpIdeal.τ).loc Cert.AdamMlpIdeal.main_arg2) = m ((c.tc : Thread Cert.AdamMlpIdeal.nD Cert.AdamMlpIdeal.τ).loc Cert.AdamMlpIdeal.main_arg2)
          ∧ r.2.mem ((c.tc : Thread Cert.AdamMlpIdeal.nD Cert.AdamMlpIdeal.τ).loc Cert.AdamMlpIdeal.main_arg3) = m ((c.tc : Thread Cert.AdamMlpIdeal.nD Cert.AdamMlpIdeal.τ).loc Cert.AdamMlpIdeal.main_arg3)
          ∧ r.2.mem ((c.tc : Thread Cert.AdamMlpIdeal.nD Cert.AdamMlpIdeal.τ).loc Cert.AdamMlpIdeal.main_arg4) = m ((c.tc : Thread Cert.AdamMlpIdeal.nD Cert.AdamMlpIdeal.τ).loc Cert.AdamMlpIdeal.main_arg4))
      ∧ θ_run (Cert.AdamMlpRefIdeal.defs (F := Ideal)) (onTc (τ := Cert.AdamMlpRefIdeal.τ) (Cert.AdamMlpRefIdeal.main (F := Ideal))) ⟨m', fun _ => 0, g'⟩ (fun r => ∀ c : Dev Cert.AdamMlpRefIdeal.nD,
          r.2.mem ((c.tc : Thread Cert.AdamMlpRefIdeal.nD Cert.AdamMlpRefIdeal.τ).loc Cert.AdamMlpRefIdeal.main_v0) = v0 c
          ∧ r.2.mem ((c.tc : Thread Cert.AdamMlpRefIdeal.nD Cert.AdamMlpRefIdeal.τ).loc Cert.AdamMlpRefIdeal.main_v24) = v1 c
          ∧ r.2.mem ((c.tc : Thread Cert.AdamMlpRefIdeal.nD Cert.AdamMlpRefIdeal.τ).loc Cert.AdamMlpRefIdeal.main_v5) = v2 c
          ∧ r.2.mem ((c.tc : Thread Cert.AdamMlpRefIdeal.nD Cert.AdamMlpRefIdeal.τ).loc Cert.AdamMlpRefIdeal.main_v11) = v3 c
          ∧ r.2.mem ((c.tc : Thread Cert.AdamMlpRefIdeal.nD Cert.AdamMlpRefIdeal.τ).loc Cert.AdamMlpRefIdeal.main_arg0) = m' ((c.tc : Thread Cert.AdamMlpRefIdeal.nD Cert.AdamMlpRefIdeal.τ).loc Cert.AdamMlpRefIdeal.main_arg0)
          ∧ r.2.mem ((c.tc : Thread Cert.AdamMlpRefIdeal.nD Cert.AdamMlpRefIdeal.τ).loc Cert.AdamMlpRefIdeal.main_arg1) = m' ((c.tc : Thread Cert.AdamMlpRefIdeal.nD Cert.AdamMlpRefIdeal.τ).loc Cert.AdamMlpRefIdeal.main_arg1)
          ∧ r.2.mem ((c.tc : Thread Cert.AdamMlpRefIdeal.nD Cert.AdamMlpRefIdeal.τ).loc Cert.AdamMlpRefIdeal.main_arg2) = m' ((c.tc : Thread Cert.AdamMlpRefIdeal.nD Cert.AdamMlpRefIdeal.τ).loc Cert.AdamMlpRefIdeal.main_arg2)
          ∧ r.2.mem ((c.tc : Thread Cert.AdamMlpRefIdeal.nD Cert.AdamMlpRefIdeal.τ).loc Cert.AdamMlpRefIdeal.main_arg3) = m' ((c.tc : Thread Cert.AdamMlpRefIdeal.nD Cert.AdamMlpRefIdeal.τ).loc Cert.AdamMlpRefIdeal.main_arg3)
          ∧ r.2.mem ((c.tc : Thread Cert.AdamMlpRefIdeal.nD Cert.AdamMlpRefIdeal.τ).loc Cert.AdamMlpRefIdeal.main_arg4) = m' ((c.tc : Thread Cert.AdamMlpRefIdeal.nD Cert.AdamMlpRefIdeal.τ).loc Cert.AdamMlpRefIdeal.main_arg4))

def preserves_AdamS5In_AdamS5InIdeal : Prop :=
  True

def algebraic_AdamS5InIdeal_AdamS5InRefIdeal [hAdamS5InIdeal : Cert.AdamS5InIdeal.Facts] [hAdamS5InRefIdeal : Cert.AdamS5InRefIdeal.Facts] : Prop :=
  ∀ (m : (ℓ : Loc Cert.AdamS5InIdeal.nD Cert.AdamS5InIdeal.τ Cert.AdamS5InIdeal.sig) → Buf (Elt Ideal) ℓ) (g : Dev Cert.AdamS5InIdeal.nD → PrngReg)
    (m' : (ℓ : Loc Cert.AdamS5InRefIdeal.nD Cert.AdamS5InRefIdeal.τ Cert.AdamS5InRefIdeal.sig) → Buf (Elt Ideal) ℓ) (g' : Dev Cert.AdamS5InRefIdeal.nD → PrngReg), Pre_AdamS5InIdeal m →
    (∀ c : Dev Cert.AdamS5InIdeal.nD,
      m' ((c.tc : Thread Cert.AdamS5InRefIdeal.nD Cert.AdamS5InRefIdeal.τ).loc Cert.AdamS5InRefIdeal.main_arg0) = m ((c.tc : Thread Cert.AdamS5InIdeal.nD Cert.AdamS5InIdeal.τ).loc Cert.AdamS5InIdeal.main_arg0)
      ∧ m' ((c.tc : Thread Cert.AdamS5InRefIdeal.nD Cert.AdamS5InRefIdeal.τ).loc Cert.AdamS5InRefIdeal.main_arg1) = m ((c.tc : Thread Cert.AdamS5InIdeal.nD Cert.AdamS5InIdeal.τ).loc Cert.AdamS5InIdeal.main_arg1)
      ∧ m' ((c.tc : Thread Cert.AdamS5InRefIdeal.nD Cert.AdamS5InRefIdeal.τ).loc Cert.AdamS5InRefIdeal.main_arg2) = m ((c.tc : Thread Cert.AdamS5InIdeal.nD Cert.AdamS5InIdeal.τ).loc Cert.AdamS5InIdeal.main_arg2)
      ∧ m' ((c.tc : Thread Cert.AdamS5InRefIdeal.nD Cert.AdamS5InRefIdeal.τ).loc Cert.AdamS5InRefIdeal.main_arg3) = m ((c.tc : Thread Cert.AdamS5InIdeal.nD Cert.AdamS5InIdeal.τ).loc Cert.AdamS5InIdeal.main_arg3)
      ∧ m' ((c.tc : Thread Cert.AdamS5InRefIdeal.nD Cert.AdamS5InRefIdeal.τ).loc Cert.AdamS5InRefIdeal.main_arg4) = m ((c.tc : Thread Cert.AdamS5InIdeal.nD Cert.AdamS5InIdeal.τ).loc Cert.AdamS5InIdeal.main_arg4)) →
    ∃ (v0 : (c : Dev Cert.AdamS5InIdeal.nD) → Buf (Elt Ideal) ((c.tc : Thread Cert.AdamS5InIdeal.nD Cert.AdamS5InIdeal.τ).loc Cert.AdamS5InIdeal.main_v0_0)) (v1 : (c : Dev Cert.AdamS5InIdeal.nD) → Buf (Elt Ideal) ((c.tc : Thread Cert.AdamS5InIdeal.nD Cert.AdamS5InIdeal.τ).loc Cert.AdamS5InIdeal.main_v0_1)) (v2 : (c : Dev Cert.AdamS5InIdeal.nD) → Buf (Elt Ideal) ((c.tc : Thread Cert.AdamS5InIdeal.nD Cert.AdamS5InIdeal.τ).loc Cert.AdamS5InIdeal.main_v0_2)) (v3 : (c : Dev Cert.AdamS5InIdeal.nD) → Buf (Elt Ideal) ((c.tc : Thread Cert.AdamS5InIdeal.nD Cert.AdamS5InIdeal.τ).loc Cert.AdamS5InIdeal.main_v0_3)),
      θ_run (Cert.AdamS5InIdeal.defs (F := Ideal)) (onTc (τ := Cert.AdamS5InIdeal.τ) (Cert.AdamS5InIdeal.main (F := Ideal))) ⟨m, fun _ => 0, g⟩ (fun r => ∀ c : Dev Cert.AdamS5InIdeal.nD,
          r.2.mem ((c.tc : Thread Cert.AdamS5InIdeal.nD Cert.AdamS5InIdeal.τ).loc Cert.AdamS5InIdeal.main_v0_0) = v0 c
          ∧ r.2.mem ((c.tc : Thread Cert.AdamS5InIdeal.nD Cert.AdamS5InIdeal.τ).loc Cert.AdamS5InIdeal.main_v0_1) = v1 c
          ∧ r.2.mem ((c.tc : Thread Cert.AdamS5InIdeal.nD Cert.AdamS5InIdeal.τ).loc Cert.AdamS5InIdeal.main_v0_2) = v2 c
          ∧ r.2.mem ((c.tc : Thread Cert.AdamS5InIdeal.nD Cert.AdamS5InIdeal.τ).loc Cert.AdamS5InIdeal.main_v0_3) = v3 c
          ∧ r.2.mem ((c.tc : Thread Cert.AdamS5InIdeal.nD Cert.AdamS5InIdeal.τ).loc Cert.AdamS5InIdeal.main_arg0) = m ((c.tc : Thread Cert.AdamS5InIdeal.nD Cert.AdamS5InIdeal.τ).loc Cert.AdamS5InIdeal.main_arg0)
          ∧ r.2.mem ((c.tc : Thread Cert.AdamS5InIdeal.nD Cert.AdamS5InIdeal.τ).loc Cert.AdamS5InIdeal.main_arg1) = m ((c.tc : Thread Cert.AdamS5InIdeal.nD Cert.AdamS5InIdeal.τ).loc Cert.AdamS5InIdeal.main_arg1)
          ∧ r.2.mem ((c.tc : Thread Cert.AdamS5InIdeal.nD Cert.AdamS5InIdeal.τ).loc Cert.AdamS5InIdeal.main_arg2) = m ((c.tc : Thread Cert.AdamS5InIdeal.nD Cert.AdamS5InIdeal.τ).loc Cert.AdamS5InIdeal.main_arg2)
          ∧ r.2.mem ((c.tc : Thread Cert.AdamS5InIdeal.nD Cert.AdamS5InIdeal.τ).loc Cert.AdamS5InIdeal.main_arg3) = m ((c.tc : Thread Cert.AdamS5InIdeal.nD Cert.AdamS5InIdeal.τ).loc Cert.AdamS5InIdeal.main_arg3)
          ∧ r.2.mem ((c.tc : Thread Cert.AdamS5InIdeal.nD Cert.AdamS5InIdeal.τ).loc Cert.AdamS5InIdeal.main_arg4) = m ((c.tc : Thread Cert.AdamS5InIdeal.nD Cert.AdamS5InIdeal.τ).loc Cert.AdamS5InIdeal.main_arg4))
      ∧ θ_run (Cert.AdamS5InRefIdeal.defs (F := Ideal)) (onTc (τ := Cert.AdamS5InRefIdeal.τ) (Cert.AdamS5InRefIdeal.main (F := Ideal))) ⟨m', fun _ => 0, g'⟩ (fun r => ∀ c : Dev Cert.AdamS5InRefIdeal.nD,
          r.2.mem ((c.tc : Thread Cert.AdamS5InRefIdeal.nD Cert.AdamS5InRefIdeal.τ).loc Cert.AdamS5InRefIdeal.main_v0) = v0 c
          ∧ r.2.mem ((c.tc : Thread Cert.AdamS5InRefIdeal.nD Cert.AdamS5InRefIdeal.τ).loc Cert.AdamS5InRefIdeal.main_v24) = v1 c
          ∧ r.2.mem ((c.tc : Thread Cert.AdamS5InRefIdeal.nD Cert.AdamS5InRefIdeal.τ).loc Cert.AdamS5InRefIdeal.main_v5) = v2 c
          ∧ r.2.mem ((c.tc : Thread Cert.AdamS5InRefIdeal.nD Cert.AdamS5InRefIdeal.τ).loc Cert.AdamS5InRefIdeal.main_v11) = v3 c
          ∧ r.2.mem ((c.tc : Thread Cert.AdamS5InRefIdeal.nD Cert.AdamS5InRefIdeal.τ).loc Cert.AdamS5InRefIdeal.main_arg0) = m' ((c.tc : Thread Cert.AdamS5InRefIdeal.nD Cert.AdamS5InRefIdeal.τ).loc Cert.AdamS5InRefIdeal.main_arg0)
          ∧ r.2.mem ((c.tc : Thread Cert.AdamS5InRefIdeal.nD Cert.AdamS5InRefIdeal.τ).loc Cert.AdamS5InRefIdeal.main_arg1) = m' ((c.tc : Thread Cert.AdamS5InRefIdeal.nD Cert.AdamS5InRefIdeal.τ).loc Cert.AdamS5InRefIdeal.main_arg1)
          ∧ r.2.mem ((c.tc : Thread Cert.AdamS5InRefIdeal.nD Cert.AdamS5InRefIdeal.τ).loc Cert.AdamS5InRefIdeal.main_arg2) = m' ((c.tc : Thread Cert.AdamS5InRefIdeal.nD Cert.AdamS5InRefIdeal.τ).loc Cert.AdamS5InRefIdeal.main_arg2)
          ∧ r.2.mem ((c.tc : Thread Cert.AdamS5InRefIdeal.nD Cert.AdamS5InRefIdeal.τ).loc Cert.AdamS5InRefIdeal.main_arg3) = m' ((c.tc : Thread Cert.AdamS5InRefIdeal.nD Cert.AdamS5InRefIdeal.τ).loc Cert.AdamS5InRefIdeal.main_arg3)
          ∧ r.2.mem ((c.tc : Thread Cert.AdamS5InRefIdeal.nD Cert.AdamS5InRefIdeal.τ).loc Cert.AdamS5InRefIdeal.main_arg4) = m' ((c.tc : Thread Cert.AdamS5InRefIdeal.nD Cert.AdamS5InRefIdeal.τ).loc Cert.AdamS5InRefIdeal.main_arg4))

def preserves_AdamS5Glu_AdamS5GluIdeal : Prop :=
  True

def algebraic_AdamS5GluIdeal_AdamS5GluRefIdeal [hAdamS5GluIdeal : Cert.AdamS5GluIdeal.Facts] [hAdamS5GluRefIdeal : Cert.AdamS5GluRefIdeal.Facts] : Prop :=
  ∀ (m : (ℓ : Loc Cert.AdamS5GluIdeal.nD Cert.AdamS5GluIdeal.τ Cert.AdamS5GluIdeal.sig) → Buf (Elt Ideal) ℓ) (g : Dev Cert.AdamS5GluIdeal.nD → PrngReg)
    (m' : (ℓ : Loc Cert.AdamS5GluRefIdeal.nD Cert.AdamS5GluRefIdeal.τ Cert.AdamS5GluRefIdeal.sig) → Buf (Elt Ideal) ℓ) (g' : Dev Cert.AdamS5GluRefIdeal.nD → PrngReg), Pre_AdamS5GluIdeal m →
    (∀ c : Dev Cert.AdamS5GluIdeal.nD,
      m' ((c.tc : Thread Cert.AdamS5GluRefIdeal.nD Cert.AdamS5GluRefIdeal.τ).loc Cert.AdamS5GluRefIdeal.main_arg0) = m ((c.tc : Thread Cert.AdamS5GluIdeal.nD Cert.AdamS5GluIdeal.τ).loc Cert.AdamS5GluIdeal.main_arg0)
      ∧ m' ((c.tc : Thread Cert.AdamS5GluRefIdeal.nD Cert.AdamS5GluRefIdeal.τ).loc Cert.AdamS5GluRefIdeal.main_arg1) = m ((c.tc : Thread Cert.AdamS5GluIdeal.nD Cert.AdamS5GluIdeal.τ).loc Cert.AdamS5GluIdeal.main_arg1)
      ∧ m' ((c.tc : Thread Cert.AdamS5GluRefIdeal.nD Cert.AdamS5GluRefIdeal.τ).loc Cert.AdamS5GluRefIdeal.main_arg2) = m ((c.tc : Thread Cert.AdamS5GluIdeal.nD Cert.AdamS5GluIdeal.τ).loc Cert.AdamS5GluIdeal.main_arg2)
      ∧ m' ((c.tc : Thread Cert.AdamS5GluRefIdeal.nD Cert.AdamS5GluRefIdeal.τ).loc Cert.AdamS5GluRefIdeal.main_arg3) = m ((c.tc : Thread Cert.AdamS5GluIdeal.nD Cert.AdamS5GluIdeal.τ).loc Cert.AdamS5GluIdeal.main_arg3)
      ∧ m' ((c.tc : Thread Cert.AdamS5GluRefIdeal.nD Cert.AdamS5GluRefIdeal.τ).loc Cert.AdamS5GluRefIdeal.main_arg4) = m ((c.tc : Thread Cert.AdamS5GluIdeal.nD Cert.AdamS5GluIdeal.τ).loc Cert.AdamS5GluIdeal.main_arg4)) →
    ∃ (v0 : (c : Dev Cert.AdamS5GluIdeal.nD) → Buf (Elt Ideal) ((c.tc : Thread Cert.AdamS5GluIdeal.nD Cert.AdamS5GluIdeal.τ).loc Cert.AdamS5GluIdeal.main_v0_0)) (v1 : (c : Dev Cert.AdamS5GluIdeal.nD) → Buf (Elt Ideal) ((c.tc : Thread Cert.AdamS5GluIdeal.nD Cert.AdamS5GluIdeal.τ).loc Cert.AdamS5GluIdeal.main_v0_1)) (v2 : (c : Dev Cert.AdamS5GluIdeal.nD) → Buf (Elt Ideal) ((c.tc : Thread Cert.AdamS5GluIdeal.nD Cert.AdamS5GluIdeal.τ).loc Cert.AdamS5GluIdeal.main_v0_2)) (v3 : (c : Dev Cert.AdamS5GluIdeal.nD) → Buf (Elt Ideal) ((c.tc : Thread Cert.AdamS5GluIdeal.nD Cert.AdamS5GluIdeal.τ).loc Cert.AdamS5GluIdeal.main_v0_3)),
      θ_run (Cert.AdamS5GluIdeal.defs (F := Ideal)) (onTc (τ := Cert.AdamS5GluIdeal.τ) (Cert.AdamS5GluIdeal.main (F := Ideal))) ⟨m, fun _ => 0, g⟩ (fun r => ∀ c : Dev Cert.AdamS5GluIdeal.nD,
          r.2.mem ((c.tc : Thread Cert.AdamS5GluIdeal.nD Cert.AdamS5GluIdeal.τ).loc Cert.AdamS5GluIdeal.main_v0_0) = v0 c
          ∧ r.2.mem ((c.tc : Thread Cert.AdamS5GluIdeal.nD Cert.AdamS5GluIdeal.τ).loc Cert.AdamS5GluIdeal.main_v0_1) = v1 c
          ∧ r.2.mem ((c.tc : Thread Cert.AdamS5GluIdeal.nD Cert.AdamS5GluIdeal.τ).loc Cert.AdamS5GluIdeal.main_v0_2) = v2 c
          ∧ r.2.mem ((c.tc : Thread Cert.AdamS5GluIdeal.nD Cert.AdamS5GluIdeal.τ).loc Cert.AdamS5GluIdeal.main_v0_3) = v3 c
          ∧ r.2.mem ((c.tc : Thread Cert.AdamS5GluIdeal.nD Cert.AdamS5GluIdeal.τ).loc Cert.AdamS5GluIdeal.main_arg0) = m ((c.tc : Thread Cert.AdamS5GluIdeal.nD Cert.AdamS5GluIdeal.τ).loc Cert.AdamS5GluIdeal.main_arg0)
          ∧ r.2.mem ((c.tc : Thread Cert.AdamS5GluIdeal.nD Cert.AdamS5GluIdeal.τ).loc Cert.AdamS5GluIdeal.main_arg1) = m ((c.tc : Thread Cert.AdamS5GluIdeal.nD Cert.AdamS5GluIdeal.τ).loc Cert.AdamS5GluIdeal.main_arg1)
          ∧ r.2.mem ((c.tc : Thread Cert.AdamS5GluIdeal.nD Cert.AdamS5GluIdeal.τ).loc Cert.AdamS5GluIdeal.main_arg2) = m ((c.tc : Thread Cert.AdamS5GluIdeal.nD Cert.AdamS5GluIdeal.τ).loc Cert.AdamS5GluIdeal.main_arg2)
          ∧ r.2.mem ((c.tc : Thread Cert.AdamS5GluIdeal.nD Cert.AdamS5GluIdeal.τ).loc Cert.AdamS5GluIdeal.main_arg3) = m ((c.tc : Thread Cert.AdamS5GluIdeal.nD Cert.AdamS5GluIdeal.τ).loc Cert.AdamS5GluIdeal.main_arg3)
          ∧ r.2.mem ((c.tc : Thread Cert.AdamS5GluIdeal.nD Cert.AdamS5GluIdeal.τ).loc Cert.AdamS5GluIdeal.main_arg4) = m ((c.tc : Thread Cert.AdamS5GluIdeal.nD Cert.AdamS5GluIdeal.τ).loc Cert.AdamS5GluIdeal.main_arg4))
      ∧ θ_run (Cert.AdamS5GluRefIdeal.defs (F := Ideal)) (onTc (τ := Cert.AdamS5GluRefIdeal.τ) (Cert.AdamS5GluRefIdeal.main (F := Ideal))) ⟨m', fun _ => 0, g'⟩ (fun r => ∀ c : Dev Cert.AdamS5GluRefIdeal.nD,
          r.2.mem ((c.tc : Thread Cert.AdamS5GluRefIdeal.nD Cert.AdamS5GluRefIdeal.τ).loc Cert.AdamS5GluRefIdeal.main_v0) = v0 c
          ∧ r.2.mem ((c.tc : Thread Cert.AdamS5GluRefIdeal.nD Cert.AdamS5GluRefIdeal.τ).loc Cert.AdamS5GluRefIdeal.main_v24) = v1 c
          ∧ r.2.mem ((c.tc : Thread Cert.AdamS5GluRefIdeal.nD Cert.AdamS5GluRefIdeal.τ).loc Cert.AdamS5GluRefIdeal.main_v5) = v2 c
          ∧ r.2.mem ((c.tc : Thread Cert.AdamS5GluRefIdeal.nD Cert.AdamS5GluRefIdeal.τ).loc Cert.AdamS5GluRefIdeal.main_v11) = v3 c
          ∧ r.2.mem ((c.tc : Thread Cert.AdamS5GluRefIdeal.nD Cert.AdamS5GluRefIdeal.τ).loc Cert.AdamS5GluRefIdeal.main_arg0) = m' ((c.tc : Thread Cert.AdamS5GluRefIdeal.nD Cert.AdamS5GluRefIdeal.τ).loc Cert.AdamS5GluRefIdeal.main_arg0)
          ∧ r.2.mem ((c.tc : Thread Cert.AdamS5GluRefIdeal.nD Cert.AdamS5GluRefIdeal.τ).loc Cert.AdamS5GluRefIdeal.main_arg1) = m' ((c.tc : Thread Cert.AdamS5GluRefIdeal.nD Cert.AdamS5GluRefIdeal.τ).loc Cert.AdamS5GluRefIdeal.main_arg1)
          ∧ r.2.mem ((c.tc : Thread Cert.AdamS5GluRefIdeal.nD Cert.AdamS5GluRefIdeal.τ).loc Cert.AdamS5GluRefIdeal.main_arg2) = m' ((c.tc : Thread Cert.AdamS5GluRefIdeal.nD Cert.AdamS5GluRefIdeal.τ).loc Cert.AdamS5GluRefIdeal.main_arg2)
          ∧ r.2.mem ((c.tc : Thread Cert.AdamS5GluRefIdeal.nD Cert.AdamS5GluRefIdeal.τ).loc Cert.AdamS5GluRefIdeal.main_arg3) = m' ((c.tc : Thread Cert.AdamS5GluRefIdeal.nD Cert.AdamS5GluRefIdeal.τ).loc Cert.AdamS5GluRefIdeal.main_arg3)
          ∧ r.2.mem ((c.tc : Thread Cert.AdamS5GluRefIdeal.nD Cert.AdamS5GluRefIdeal.τ).loc Cert.AdamS5GluRefIdeal.main_arg4) = m' ((c.tc : Thread Cert.AdamS5GluRefIdeal.nD Cert.AdamS5GluRefIdeal.τ).loc Cert.AdamS5GluRefIdeal.main_arg4))

def preserves_AdamSsdIn_AdamSsdInIdeal : Prop :=
  True

def algebraic_AdamSsdInIdeal_AdamSsdInRefIdeal [hAdamSsdInIdeal : Cert.AdamSsdInIdeal.Facts] [hAdamSsdInRefIdeal : Cert.AdamSsdInRefIdeal.Facts] : Prop :=
  ∀ (m : (ℓ : Loc Cert.AdamSsdInIdeal.nD Cert.AdamSsdInIdeal.τ Cert.AdamSsdInIdeal.sig) → Buf (Elt Ideal) ℓ) (g : Dev Cert.AdamSsdInIdeal.nD → PrngReg)
    (m' : (ℓ : Loc Cert.AdamSsdInRefIdeal.nD Cert.AdamSsdInRefIdeal.τ Cert.AdamSsdInRefIdeal.sig) → Buf (Elt Ideal) ℓ) (g' : Dev Cert.AdamSsdInRefIdeal.nD → PrngReg), Pre_AdamSsdInIdeal m →
    (∀ c : Dev Cert.AdamSsdInIdeal.nD,
      m' ((c.tc : Thread Cert.AdamSsdInRefIdeal.nD Cert.AdamSsdInRefIdeal.τ).loc Cert.AdamSsdInRefIdeal.main_arg0) = m ((c.tc : Thread Cert.AdamSsdInIdeal.nD Cert.AdamSsdInIdeal.τ).loc Cert.AdamSsdInIdeal.main_arg0)
      ∧ m' ((c.tc : Thread Cert.AdamSsdInRefIdeal.nD Cert.AdamSsdInRefIdeal.τ).loc Cert.AdamSsdInRefIdeal.main_arg1) = m ((c.tc : Thread Cert.AdamSsdInIdeal.nD Cert.AdamSsdInIdeal.τ).loc Cert.AdamSsdInIdeal.main_arg1)
      ∧ m' ((c.tc : Thread Cert.AdamSsdInRefIdeal.nD Cert.AdamSsdInRefIdeal.τ).loc Cert.AdamSsdInRefIdeal.main_arg2) = m ((c.tc : Thread Cert.AdamSsdInIdeal.nD Cert.AdamSsdInIdeal.τ).loc Cert.AdamSsdInIdeal.main_arg2)
      ∧ m' ((c.tc : Thread Cert.AdamSsdInRefIdeal.nD Cert.AdamSsdInRefIdeal.τ).loc Cert.AdamSsdInRefIdeal.main_arg3) = m ((c.tc : Thread Cert.AdamSsdInIdeal.nD Cert.AdamSsdInIdeal.τ).loc Cert.AdamSsdInIdeal.main_arg3)
      ∧ m' ((c.tc : Thread Cert.AdamSsdInRefIdeal.nD Cert.AdamSsdInRefIdeal.τ).loc Cert.AdamSsdInRefIdeal.main_arg4) = m ((c.tc : Thread Cert.AdamSsdInIdeal.nD Cert.AdamSsdInIdeal.τ).loc Cert.AdamSsdInIdeal.main_arg4)) →
    ∃ (v0 : (c : Dev Cert.AdamSsdInIdeal.nD) → Buf (Elt Ideal) ((c.tc : Thread Cert.AdamSsdInIdeal.nD Cert.AdamSsdInIdeal.τ).loc Cert.AdamSsdInIdeal.main_v0_0)) (v1 : (c : Dev Cert.AdamSsdInIdeal.nD) → Buf (Elt Ideal) ((c.tc : Thread Cert.AdamSsdInIdeal.nD Cert.AdamSsdInIdeal.τ).loc Cert.AdamSsdInIdeal.main_v0_1)) (v2 : (c : Dev Cert.AdamSsdInIdeal.nD) → Buf (Elt Ideal) ((c.tc : Thread Cert.AdamSsdInIdeal.nD Cert.AdamSsdInIdeal.τ).loc Cert.AdamSsdInIdeal.main_v0_2)) (v3 : (c : Dev Cert.AdamSsdInIdeal.nD) → Buf (Elt Ideal) ((c.tc : Thread Cert.AdamSsdInIdeal.nD Cert.AdamSsdInIdeal.τ).loc Cert.AdamSsdInIdeal.main_v0_3)),
      θ_run (Cert.AdamSsdInIdeal.defs (F := Ideal)) (onTc (τ := Cert.AdamSsdInIdeal.τ) (Cert.AdamSsdInIdeal.main (F := Ideal))) ⟨m, fun _ => 0, g⟩ (fun r => ∀ c : Dev Cert.AdamSsdInIdeal.nD,
          r.2.mem ((c.tc : Thread Cert.AdamSsdInIdeal.nD Cert.AdamSsdInIdeal.τ).loc Cert.AdamSsdInIdeal.main_v0_0) = v0 c
          ∧ r.2.mem ((c.tc : Thread Cert.AdamSsdInIdeal.nD Cert.AdamSsdInIdeal.τ).loc Cert.AdamSsdInIdeal.main_v0_1) = v1 c
          ∧ r.2.mem ((c.tc : Thread Cert.AdamSsdInIdeal.nD Cert.AdamSsdInIdeal.τ).loc Cert.AdamSsdInIdeal.main_v0_2) = v2 c
          ∧ r.2.mem ((c.tc : Thread Cert.AdamSsdInIdeal.nD Cert.AdamSsdInIdeal.τ).loc Cert.AdamSsdInIdeal.main_v0_3) = v3 c
          ∧ r.2.mem ((c.tc : Thread Cert.AdamSsdInIdeal.nD Cert.AdamSsdInIdeal.τ).loc Cert.AdamSsdInIdeal.main_arg0) = m ((c.tc : Thread Cert.AdamSsdInIdeal.nD Cert.AdamSsdInIdeal.τ).loc Cert.AdamSsdInIdeal.main_arg0)
          ∧ r.2.mem ((c.tc : Thread Cert.AdamSsdInIdeal.nD Cert.AdamSsdInIdeal.τ).loc Cert.AdamSsdInIdeal.main_arg1) = m ((c.tc : Thread Cert.AdamSsdInIdeal.nD Cert.AdamSsdInIdeal.τ).loc Cert.AdamSsdInIdeal.main_arg1)
          ∧ r.2.mem ((c.tc : Thread Cert.AdamSsdInIdeal.nD Cert.AdamSsdInIdeal.τ).loc Cert.AdamSsdInIdeal.main_arg2) = m ((c.tc : Thread Cert.AdamSsdInIdeal.nD Cert.AdamSsdInIdeal.τ).loc Cert.AdamSsdInIdeal.main_arg2)
          ∧ r.2.mem ((c.tc : Thread Cert.AdamSsdInIdeal.nD Cert.AdamSsdInIdeal.τ).loc Cert.AdamSsdInIdeal.main_arg3) = m ((c.tc : Thread Cert.AdamSsdInIdeal.nD Cert.AdamSsdInIdeal.τ).loc Cert.AdamSsdInIdeal.main_arg3)
          ∧ r.2.mem ((c.tc : Thread Cert.AdamSsdInIdeal.nD Cert.AdamSsdInIdeal.τ).loc Cert.AdamSsdInIdeal.main_arg4) = m ((c.tc : Thread Cert.AdamSsdInIdeal.nD Cert.AdamSsdInIdeal.τ).loc Cert.AdamSsdInIdeal.main_arg4))
      ∧ θ_run (Cert.AdamSsdInRefIdeal.defs (F := Ideal)) (onTc (τ := Cert.AdamSsdInRefIdeal.τ) (Cert.AdamSsdInRefIdeal.main (F := Ideal))) ⟨m', fun _ => 0, g'⟩ (fun r => ∀ c : Dev Cert.AdamSsdInRefIdeal.nD,
          r.2.mem ((c.tc : Thread Cert.AdamSsdInRefIdeal.nD Cert.AdamSsdInRefIdeal.τ).loc Cert.AdamSsdInRefIdeal.main_v0) = v0 c
          ∧ r.2.mem ((c.tc : Thread Cert.AdamSsdInRefIdeal.nD Cert.AdamSsdInRefIdeal.τ).loc Cert.AdamSsdInRefIdeal.main_v24) = v1 c
          ∧ r.2.mem ((c.tc : Thread Cert.AdamSsdInRefIdeal.nD Cert.AdamSsdInRefIdeal.τ).loc Cert.AdamSsdInRefIdeal.main_v5) = v2 c
          ∧ r.2.mem ((c.tc : Thread Cert.AdamSsdInRefIdeal.nD Cert.AdamSsdInRefIdeal.τ).loc Cert.AdamSsdInRefIdeal.main_v11) = v3 c
          ∧ r.2.mem ((c.tc : Thread Cert.AdamSsdInRefIdeal.nD Cert.AdamSsdInRefIdeal.τ).loc Cert.AdamSsdInRefIdeal.main_arg0) = m' ((c.tc : Thread Cert.AdamSsdInRefIdeal.nD Cert.AdamSsdInRefIdeal.τ).loc Cert.AdamSsdInRefIdeal.main_arg0)
          ∧ r.2.mem ((c.tc : Thread Cert.AdamSsdInRefIdeal.nD Cert.AdamSsdInRefIdeal.τ).loc Cert.AdamSsdInRefIdeal.main_arg1) = m' ((c.tc : Thread Cert.AdamSsdInRefIdeal.nD Cert.AdamSsdInRefIdeal.τ).loc Cert.AdamSsdInRefIdeal.main_arg1)
          ∧ r.2.mem ((c.tc : Thread Cert.AdamSsdInRefIdeal.nD Cert.AdamSsdInRefIdeal.τ).loc Cert.AdamSsdInRefIdeal.main_arg2) = m' ((c.tc : Thread Cert.AdamSsdInRefIdeal.nD Cert.AdamSsdInRefIdeal.τ).loc Cert.AdamSsdInRefIdeal.main_arg2)
          ∧ r.2.mem ((c.tc : Thread Cert.AdamSsdInRefIdeal.nD Cert.AdamSsdInRefIdeal.τ).loc Cert.AdamSsdInRefIdeal.main_arg3) = m' ((c.tc : Thread Cert.AdamSsdInRefIdeal.nD Cert.AdamSsdInRefIdeal.τ).loc Cert.AdamSsdInRefIdeal.main_arg3)
          ∧ r.2.mem ((c.tc : Thread Cert.AdamSsdInRefIdeal.nD Cert.AdamSsdInRefIdeal.τ).loc Cert.AdamSsdInRefIdeal.main_arg4) = m' ((c.tc : Thread Cert.AdamSsdInRefIdeal.nD Cert.AdamSsdInRefIdeal.τ).loc Cert.AdamSsdInRefIdeal.main_arg4))

def preserves_AdamSsdOut_AdamSsdOutIdeal : Prop :=
  True

def algebraic_AdamSsdOutIdeal_AdamSsdOutRefIdeal [hAdamSsdOutIdeal : Cert.AdamSsdOutIdeal.Facts] [hAdamSsdOutRefIdeal : Cert.AdamSsdOutRefIdeal.Facts] : Prop :=
  ∀ (m : (ℓ : Loc Cert.AdamSsdOutIdeal.nD Cert.AdamSsdOutIdeal.τ Cert.AdamSsdOutIdeal.sig) → Buf (Elt Ideal) ℓ) (g : Dev Cert.AdamSsdOutIdeal.nD → PrngReg)
    (m' : (ℓ : Loc Cert.AdamSsdOutRefIdeal.nD Cert.AdamSsdOutRefIdeal.τ Cert.AdamSsdOutRefIdeal.sig) → Buf (Elt Ideal) ℓ) (g' : Dev Cert.AdamSsdOutRefIdeal.nD → PrngReg), Pre_AdamSsdOutIdeal m →
    (∀ c : Dev Cert.AdamSsdOutIdeal.nD,
      m' ((c.tc : Thread Cert.AdamSsdOutRefIdeal.nD Cert.AdamSsdOutRefIdeal.τ).loc Cert.AdamSsdOutRefIdeal.main_arg0) = m ((c.tc : Thread Cert.AdamSsdOutIdeal.nD Cert.AdamSsdOutIdeal.τ).loc Cert.AdamSsdOutIdeal.main_arg0)
      ∧ m' ((c.tc : Thread Cert.AdamSsdOutRefIdeal.nD Cert.AdamSsdOutRefIdeal.τ).loc Cert.AdamSsdOutRefIdeal.main_arg1) = m ((c.tc : Thread Cert.AdamSsdOutIdeal.nD Cert.AdamSsdOutIdeal.τ).loc Cert.AdamSsdOutIdeal.main_arg1)
      ∧ m' ((c.tc : Thread Cert.AdamSsdOutRefIdeal.nD Cert.AdamSsdOutRefIdeal.τ).loc Cert.AdamSsdOutRefIdeal.main_arg2) = m ((c.tc : Thread Cert.AdamSsdOutIdeal.nD Cert.AdamSsdOutIdeal.τ).loc Cert.AdamSsdOutIdeal.main_arg2)
      ∧ m' ((c.tc : Thread Cert.AdamSsdOutRefIdeal.nD Cert.AdamSsdOutRefIdeal.τ).loc Cert.AdamSsdOutRefIdeal.main_arg3) = m ((c.tc : Thread Cert.AdamSsdOutIdeal.nD Cert.AdamSsdOutIdeal.τ).loc Cert.AdamSsdOutIdeal.main_arg3)
      ∧ m' ((c.tc : Thread Cert.AdamSsdOutRefIdeal.nD Cert.AdamSsdOutRefIdeal.τ).loc Cert.AdamSsdOutRefIdeal.main_arg4) = m ((c.tc : Thread Cert.AdamSsdOutIdeal.nD Cert.AdamSsdOutIdeal.τ).loc Cert.AdamSsdOutIdeal.main_arg4)) →
    ∃ (v0 : (c : Dev Cert.AdamSsdOutIdeal.nD) → Buf (Elt Ideal) ((c.tc : Thread Cert.AdamSsdOutIdeal.nD Cert.AdamSsdOutIdeal.τ).loc Cert.AdamSsdOutIdeal.main_v0_0)) (v1 : (c : Dev Cert.AdamSsdOutIdeal.nD) → Buf (Elt Ideal) ((c.tc : Thread Cert.AdamSsdOutIdeal.nD Cert.AdamSsdOutIdeal.τ).loc Cert.AdamSsdOutIdeal.main_v0_1)) (v2 : (c : Dev Cert.AdamSsdOutIdeal.nD) → Buf (Elt Ideal) ((c.tc : Thread Cert.AdamSsdOutIdeal.nD Cert.AdamSsdOutIdeal.τ).loc Cert.AdamSsdOutIdeal.main_v0_2)) (v3 : (c : Dev Cert.AdamSsdOutIdeal.nD) → Buf (Elt Ideal) ((c.tc : Thread Cert.AdamSsdOutIdeal.nD Cert.AdamSsdOutIdeal.τ).loc Cert.AdamSsdOutIdeal.main_v0_3)),
      θ_run (Cert.AdamSsdOutIdeal.defs (F := Ideal)) (onTc (τ := Cert.AdamSsdOutIdeal.τ) (Cert.AdamSsdOutIdeal.main (F := Ideal))) ⟨m, fun _ => 0, g⟩ (fun r => ∀ c : Dev Cert.AdamSsdOutIdeal.nD,
          r.2.mem ((c.tc : Thread Cert.AdamSsdOutIdeal.nD Cert.AdamSsdOutIdeal.τ).loc Cert.AdamSsdOutIdeal.main_v0_0) = v0 c
          ∧ r.2.mem ((c.tc : Thread Cert.AdamSsdOutIdeal.nD Cert.AdamSsdOutIdeal.τ).loc Cert.AdamSsdOutIdeal.main_v0_1) = v1 c
          ∧ r.2.mem ((c.tc : Thread Cert.AdamSsdOutIdeal.nD Cert.AdamSsdOutIdeal.τ).loc Cert.AdamSsdOutIdeal.main_v0_2) = v2 c
          ∧ r.2.mem ((c.tc : Thread Cert.AdamSsdOutIdeal.nD Cert.AdamSsdOutIdeal.τ).loc Cert.AdamSsdOutIdeal.main_v0_3) = v3 c
          ∧ r.2.mem ((c.tc : Thread Cert.AdamSsdOutIdeal.nD Cert.AdamSsdOutIdeal.τ).loc Cert.AdamSsdOutIdeal.main_arg0) = m ((c.tc : Thread Cert.AdamSsdOutIdeal.nD Cert.AdamSsdOutIdeal.τ).loc Cert.AdamSsdOutIdeal.main_arg0)
          ∧ r.2.mem ((c.tc : Thread Cert.AdamSsdOutIdeal.nD Cert.AdamSsdOutIdeal.τ).loc Cert.AdamSsdOutIdeal.main_arg1) = m ((c.tc : Thread Cert.AdamSsdOutIdeal.nD Cert.AdamSsdOutIdeal.τ).loc Cert.AdamSsdOutIdeal.main_arg1)
          ∧ r.2.mem ((c.tc : Thread Cert.AdamSsdOutIdeal.nD Cert.AdamSsdOutIdeal.τ).loc Cert.AdamSsdOutIdeal.main_arg2) = m ((c.tc : Thread Cert.AdamSsdOutIdeal.nD Cert.AdamSsdOutIdeal.τ).loc Cert.AdamSsdOutIdeal.main_arg2)
          ∧ r.2.mem ((c.tc : Thread Cert.AdamSsdOutIdeal.nD Cert.AdamSsdOutIdeal.τ).loc Cert.AdamSsdOutIdeal.main_arg3) = m ((c.tc : Thread Cert.AdamSsdOutIdeal.nD Cert.AdamSsdOutIdeal.τ).loc Cert.AdamSsdOutIdeal.main_arg3)
          ∧ r.2.mem ((c.tc : Thread Cert.AdamSsdOutIdeal.nD Cert.AdamSsdOutIdeal.τ).loc Cert.AdamSsdOutIdeal.main_arg4) = m ((c.tc : Thread Cert.AdamSsdOutIdeal.nD Cert.AdamSsdOutIdeal.τ).loc Cert.AdamSsdOutIdeal.main_arg4))
      ∧ θ_run (Cert.AdamSsdOutRefIdeal.defs (F := Ideal)) (onTc (τ := Cert.AdamSsdOutRefIdeal.τ) (Cert.AdamSsdOutRefIdeal.main (F := Ideal))) ⟨m', fun _ => 0, g'⟩ (fun r => ∀ c : Dev Cert.AdamSsdOutRefIdeal.nD,
          r.2.mem ((c.tc : Thread Cert.AdamSsdOutRefIdeal.nD Cert.AdamSsdOutRefIdeal.τ).loc Cert.AdamSsdOutRefIdeal.main_v0) = v0 c
          ∧ r.2.mem ((c.tc : Thread Cert.AdamSsdOutRefIdeal.nD Cert.AdamSsdOutRefIdeal.τ).loc Cert.AdamSsdOutRefIdeal.main_v24) = v1 c
          ∧ r.2.mem ((c.tc : Thread Cert.AdamSsdOutRefIdeal.nD Cert.AdamSsdOutRefIdeal.τ).loc Cert.AdamSsdOutRefIdeal.main_v5) = v2 c
          ∧ r.2.mem ((c.tc : Thread Cert.AdamSsdOutRefIdeal.nD Cert.AdamSsdOutRefIdeal.τ).loc Cert.AdamSsdOutRefIdeal.main_v11) = v3 c
          ∧ r.2.mem ((c.tc : Thread Cert.AdamSsdOutRefIdeal.nD Cert.AdamSsdOutRefIdeal.τ).loc Cert.AdamSsdOutRefIdeal.main_arg0) = m' ((c.tc : Thread Cert.AdamSsdOutRefIdeal.nD Cert.AdamSsdOutRefIdeal.τ).loc Cert.AdamSsdOutRefIdeal.main_arg0)
          ∧ r.2.mem ((c.tc : Thread Cert.AdamSsdOutRefIdeal.nD Cert.AdamSsdOutRefIdeal.τ).loc Cert.AdamSsdOutRefIdeal.main_arg1) = m' ((c.tc : Thread Cert.AdamSsdOutRefIdeal.nD Cert.AdamSsdOutRefIdeal.τ).loc Cert.AdamSsdOutRefIdeal.main_arg1)
          ∧ r.2.mem ((c.tc : Thread Cert.AdamSsdOutRefIdeal.nD Cert.AdamSsdOutRefIdeal.τ).loc Cert.AdamSsdOutRefIdeal.main_arg2) = m' ((c.tc : Thread Cert.AdamSsdOutRefIdeal.nD Cert.AdamSsdOutRefIdeal.τ).loc Cert.AdamSsdOutRefIdeal.main_arg2)
          ∧ r.2.mem ((c.tc : Thread Cert.AdamSsdOutRefIdeal.nD Cert.AdamSsdOutRefIdeal.τ).loc Cert.AdamSsdOutRefIdeal.main_arg3) = m' ((c.tc : Thread Cert.AdamSsdOutRefIdeal.nD Cert.AdamSsdOutRefIdeal.τ).loc Cert.AdamSsdOutRefIdeal.main_arg3)
          ∧ r.2.mem ((c.tc : Thread Cert.AdamSsdOutRefIdeal.nD Cert.AdamSsdOutRefIdeal.τ).loc Cert.AdamSsdOutRefIdeal.main_arg4) = m' ((c.tc : Thread Cert.AdamSsdOutRefIdeal.nD Cert.AdamSsdOutRefIdeal.τ).loc Cert.AdamSsdOutRefIdeal.main_arg4))

def preserves_AdamConvW_AdamConvWIdeal : Prop :=
  True

def algebraic_AdamConvWIdeal_AdamConvWRefIdeal [hAdamConvWIdeal : Cert.AdamConvWIdeal.Facts] [hAdamConvWRefIdeal : Cert.AdamConvWRefIdeal.Facts] : Prop :=
  ∀ (m : (ℓ : Loc Cert.AdamConvWIdeal.nD Cert.AdamConvWIdeal.τ Cert.AdamConvWIdeal.sig) → Buf (Elt Ideal) ℓ) (g : Dev Cert.AdamConvWIdeal.nD → PrngReg)
    (m' : (ℓ : Loc Cert.AdamConvWRefIdeal.nD Cert.AdamConvWRefIdeal.τ Cert.AdamConvWRefIdeal.sig) → Buf (Elt Ideal) ℓ) (g' : Dev Cert.AdamConvWRefIdeal.nD → PrngReg), Pre_AdamConvWIdeal m →
    (∀ c : Dev Cert.AdamConvWIdeal.nD,
      m' ((c.tc : Thread Cert.AdamConvWRefIdeal.nD Cert.AdamConvWRefIdeal.τ).loc Cert.AdamConvWRefIdeal.main_arg0) = m ((c.tc : Thread Cert.AdamConvWIdeal.nD Cert.AdamConvWIdeal.τ).loc Cert.AdamConvWIdeal.main_arg0)
      ∧ m' ((c.tc : Thread Cert.AdamConvWRefIdeal.nD Cert.AdamConvWRefIdeal.τ).loc Cert.AdamConvWRefIdeal.main_arg1) = m ((c.tc : Thread Cert.AdamConvWIdeal.nD Cert.AdamConvWIdeal.τ).loc Cert.AdamConvWIdeal.main_arg1)
      ∧ m' ((c.tc : Thread Cert.AdamConvWRefIdeal.nD Cert.AdamConvWRefIdeal.τ).loc Cert.AdamConvWRefIdeal.main_arg2) = m ((c.tc : Thread Cert.AdamConvWIdeal.nD Cert.AdamConvWIdeal.τ).loc Cert.AdamConvWIdeal.main_arg2)
      ∧ m' ((c.tc : Thread Cert.AdamConvWRefIdeal.nD Cert.AdamConvWRefIdeal.τ).loc Cert.AdamConvWRefIdeal.main_arg3) = m ((c.tc : Thread Cert.AdamConvWIdeal.nD Cert.AdamConvWIdeal.τ).loc Cert.AdamConvWIdeal.main_arg3)
      ∧ m' ((c.tc : Thread Cert.AdamConvWRefIdeal.nD Cert.AdamConvWRefIdeal.τ).loc Cert.AdamConvWRefIdeal.main_arg4) = m ((c.tc : Thread Cert.AdamConvWIdeal.nD Cert.AdamConvWIdeal.τ).loc Cert.AdamConvWIdeal.main_arg4)) →
    ∃ (v0 : (c : Dev Cert.AdamConvWIdeal.nD) → Buf (Elt Ideal) ((c.tc : Thread Cert.AdamConvWIdeal.nD Cert.AdamConvWIdeal.τ).loc Cert.AdamConvWIdeal.main_v0_0)) (v1 : (c : Dev Cert.AdamConvWIdeal.nD) → Buf (Elt Ideal) ((c.tc : Thread Cert.AdamConvWIdeal.nD Cert.AdamConvWIdeal.τ).loc Cert.AdamConvWIdeal.main_v0_1)) (v2 : (c : Dev Cert.AdamConvWIdeal.nD) → Buf (Elt Ideal) ((c.tc : Thread Cert.AdamConvWIdeal.nD Cert.AdamConvWIdeal.τ).loc Cert.AdamConvWIdeal.main_v0_2)) (v3 : (c : Dev Cert.AdamConvWIdeal.nD) → Buf (Elt Ideal) ((c.tc : Thread Cert.AdamConvWIdeal.nD Cert.AdamConvWIdeal.τ).loc Cert.AdamConvWIdeal.main_v0_3)),
      θ_run (Cert.AdamConvWIdeal.defs (F := Ideal)) (onTc (τ := Cert.AdamConvWIdeal.τ) (Cert.AdamConvWIdeal.main (F := Ideal))) ⟨m, fun _ => 0, g⟩ (fun r => ∀ c : Dev Cert.AdamConvWIdeal.nD,
          r.2.mem ((c.tc : Thread Cert.AdamConvWIdeal.nD Cert.AdamConvWIdeal.τ).loc Cert.AdamConvWIdeal.main_v0_0) = v0 c
          ∧ r.2.mem ((c.tc : Thread Cert.AdamConvWIdeal.nD Cert.AdamConvWIdeal.τ).loc Cert.AdamConvWIdeal.main_v0_1) = v1 c
          ∧ r.2.mem ((c.tc : Thread Cert.AdamConvWIdeal.nD Cert.AdamConvWIdeal.τ).loc Cert.AdamConvWIdeal.main_v0_2) = v2 c
          ∧ r.2.mem ((c.tc : Thread Cert.AdamConvWIdeal.nD Cert.AdamConvWIdeal.τ).loc Cert.AdamConvWIdeal.main_v0_3) = v3 c
          ∧ r.2.mem ((c.tc : Thread Cert.AdamConvWIdeal.nD Cert.AdamConvWIdeal.τ).loc Cert.AdamConvWIdeal.main_arg0) = m ((c.tc : Thread Cert.AdamConvWIdeal.nD Cert.AdamConvWIdeal.τ).loc Cert.AdamConvWIdeal.main_arg0)
          ∧ r.2.mem ((c.tc : Thread Cert.AdamConvWIdeal.nD Cert.AdamConvWIdeal.τ).loc Cert.AdamConvWIdeal.main_arg1) = m ((c.tc : Thread Cert.AdamConvWIdeal.nD Cert.AdamConvWIdeal.τ).loc Cert.AdamConvWIdeal.main_arg1)
          ∧ r.2.mem ((c.tc : Thread Cert.AdamConvWIdeal.nD Cert.AdamConvWIdeal.τ).loc Cert.AdamConvWIdeal.main_arg2) = m ((c.tc : Thread Cert.AdamConvWIdeal.nD Cert.AdamConvWIdeal.τ).loc Cert.AdamConvWIdeal.main_arg2)
          ∧ r.2.mem ((c.tc : Thread Cert.AdamConvWIdeal.nD Cert.AdamConvWIdeal.τ).loc Cert.AdamConvWIdeal.main_arg3) = m ((c.tc : Thread Cert.AdamConvWIdeal.nD Cert.AdamConvWIdeal.τ).loc Cert.AdamConvWIdeal.main_arg3)
          ∧ r.2.mem ((c.tc : Thread Cert.AdamConvWIdeal.nD Cert.AdamConvWIdeal.τ).loc Cert.AdamConvWIdeal.main_arg4) = m ((c.tc : Thread Cert.AdamConvWIdeal.nD Cert.AdamConvWIdeal.τ).loc Cert.AdamConvWIdeal.main_arg4))
      ∧ θ_run (Cert.AdamConvWRefIdeal.defs (F := Ideal)) (onTc (τ := Cert.AdamConvWRefIdeal.τ) (Cert.AdamConvWRefIdeal.main (F := Ideal))) ⟨m', fun _ => 0, g'⟩ (fun r => ∀ c : Dev Cert.AdamConvWRefIdeal.nD,
          r.2.mem ((c.tc : Thread Cert.AdamConvWRefIdeal.nD Cert.AdamConvWRefIdeal.τ).loc Cert.AdamConvWRefIdeal.main_v0) = v0 c
          ∧ r.2.mem ((c.tc : Thread Cert.AdamConvWRefIdeal.nD Cert.AdamConvWRefIdeal.τ).loc Cert.AdamConvWRefIdeal.main_v24) = v1 c
          ∧ r.2.mem ((c.tc : Thread Cert.AdamConvWRefIdeal.nD Cert.AdamConvWRefIdeal.τ).loc Cert.AdamConvWRefIdeal.main_v5) = v2 c
          ∧ r.2.mem ((c.tc : Thread Cert.AdamConvWRefIdeal.nD Cert.AdamConvWRefIdeal.τ).loc Cert.AdamConvWRefIdeal.main_v11) = v3 c
          ∧ r.2.mem ((c.tc : Thread Cert.AdamConvWRefIdeal.nD Cert.AdamConvWRefIdeal.τ).loc Cert.AdamConvWRefIdeal.main_arg0) = m' ((c.tc : Thread Cert.AdamConvWRefIdeal.nD Cert.AdamConvWRefIdeal.τ).loc Cert.AdamConvWRefIdeal.main_arg0)
          ∧ r.2.mem ((c.tc : Thread Cert.AdamConvWRefIdeal.nD Cert.AdamConvWRefIdeal.τ).loc Cert.AdamConvWRefIdeal.main_arg1) = m' ((c.tc : Thread Cert.AdamConvWRefIdeal.nD Cert.AdamConvWRefIdeal.τ).loc Cert.AdamConvWRefIdeal.main_arg1)
          ∧ r.2.mem ((c.tc : Thread Cert.AdamConvWRefIdeal.nD Cert.AdamConvWRefIdeal.τ).loc Cert.AdamConvWRefIdeal.main_arg2) = m' ((c.tc : Thread Cert.AdamConvWRefIdeal.nD Cert.AdamConvWRefIdeal.τ).loc Cert.AdamConvWRefIdeal.main_arg2)
          ∧ r.2.mem ((c.tc : Thread Cert.AdamConvWRefIdeal.nD Cert.AdamConvWRefIdeal.τ).loc Cert.AdamConvWRefIdeal.main_arg3) = m' ((c.tc : Thread Cert.AdamConvWRefIdeal.nD Cert.AdamConvWRefIdeal.τ).loc Cert.AdamConvWRefIdeal.main_arg3)
          ∧ r.2.mem ((c.tc : Thread Cert.AdamConvWRefIdeal.nD Cert.AdamConvWRefIdeal.τ).loc Cert.AdamConvWRefIdeal.main_arg4) = m' ((c.tc : Thread Cert.AdamConvWRefIdeal.nD Cert.AdamConvWRefIdeal.τ).loc Cert.AdamConvWRefIdeal.main_arg4))

def preserves_AdamConvB_AdamConvBIdeal : Prop :=
  True

def algebraic_AdamConvBIdeal_AdamConvBRefIdeal [hAdamConvBIdeal : Cert.AdamConvBIdeal.Facts] [hAdamConvBRefIdeal : Cert.AdamConvBRefIdeal.Facts] : Prop :=
  ∀ (m : (ℓ : Loc Cert.AdamConvBIdeal.nD Cert.AdamConvBIdeal.τ Cert.AdamConvBIdeal.sig) → Buf (Elt Ideal) ℓ) (g : Dev Cert.AdamConvBIdeal.nD → PrngReg)
    (m' : (ℓ : Loc Cert.AdamConvBRefIdeal.nD Cert.AdamConvBRefIdeal.τ Cert.AdamConvBRefIdeal.sig) → Buf (Elt Ideal) ℓ) (g' : Dev Cert.AdamConvBRefIdeal.nD → PrngReg), Pre_AdamConvBIdeal m →
    (∀ c : Dev Cert.AdamConvBIdeal.nD,
      m' ((c.tc : Thread Cert.AdamConvBRefIdeal.nD Cert.AdamConvBRefIdeal.τ).loc Cert.AdamConvBRefIdeal.main_arg0) = m ((c.tc : Thread Cert.AdamConvBIdeal.nD Cert.AdamConvBIdeal.τ).loc Cert.AdamConvBIdeal.main_arg0)
      ∧ m' ((c.tc : Thread Cert.AdamConvBRefIdeal.nD Cert.AdamConvBRefIdeal.τ).loc Cert.AdamConvBRefIdeal.main_arg1) = m ((c.tc : Thread Cert.AdamConvBIdeal.nD Cert.AdamConvBIdeal.τ).loc Cert.AdamConvBIdeal.main_arg1)
      ∧ m' ((c.tc : Thread Cert.AdamConvBRefIdeal.nD Cert.AdamConvBRefIdeal.τ).loc Cert.AdamConvBRefIdeal.main_arg2) = m ((c.tc : Thread Cert.AdamConvBIdeal.nD Cert.AdamConvBIdeal.τ).loc Cert.AdamConvBIdeal.main_arg2)
      ∧ m' ((c.tc : Thread Cert.AdamConvBRefIdeal.nD Cert.AdamConvBRefIdeal.τ).loc Cert.AdamConvBRefIdeal.main_arg3) = m ((c.tc : Thread Cert.AdamConvBIdeal.nD Cert.AdamConvBIdeal.τ).loc Cert.AdamConvBIdeal.main_arg3)
      ∧ m' ((c.tc : Thread Cert.AdamConvBRefIdeal.nD Cert.AdamConvBRefIdeal.τ).loc Cert.AdamConvBRefIdeal.main_arg4) = m ((c.tc : Thread Cert.AdamConvBIdeal.nD Cert.AdamConvBIdeal.τ).loc Cert.AdamConvBIdeal.main_arg4)) →
    ∃ (v0 : (c : Dev Cert.AdamConvBIdeal.nD) → Buf (Elt Ideal) ((c.tc : Thread Cert.AdamConvBIdeal.nD Cert.AdamConvBIdeal.τ).loc Cert.AdamConvBIdeal.main_v0_0)) (v1 : (c : Dev Cert.AdamConvBIdeal.nD) → Buf (Elt Ideal) ((c.tc : Thread Cert.AdamConvBIdeal.nD Cert.AdamConvBIdeal.τ).loc Cert.AdamConvBIdeal.main_v0_1)) (v2 : (c : Dev Cert.AdamConvBIdeal.nD) → Buf (Elt Ideal) ((c.tc : Thread Cert.AdamConvBIdeal.nD Cert.AdamConvBIdeal.τ).loc Cert.AdamConvBIdeal.main_v0_2)) (v3 : (c : Dev Cert.AdamConvBIdeal.nD) → Buf (Elt Ideal) ((c.tc : Thread Cert.AdamConvBIdeal.nD Cert.AdamConvBIdeal.τ).loc Cert.AdamConvBIdeal.main_v0_3)),
      θ_run (Cert.AdamConvBIdeal.defs (F := Ideal)) (onTc (τ := Cert.AdamConvBIdeal.τ) (Cert.AdamConvBIdeal.main (F := Ideal))) ⟨m, fun _ => 0, g⟩ (fun r => ∀ c : Dev Cert.AdamConvBIdeal.nD,
          r.2.mem ((c.tc : Thread Cert.AdamConvBIdeal.nD Cert.AdamConvBIdeal.τ).loc Cert.AdamConvBIdeal.main_v0_0) = v0 c
          ∧ r.2.mem ((c.tc : Thread Cert.AdamConvBIdeal.nD Cert.AdamConvBIdeal.τ).loc Cert.AdamConvBIdeal.main_v0_1) = v1 c
          ∧ r.2.mem ((c.tc : Thread Cert.AdamConvBIdeal.nD Cert.AdamConvBIdeal.τ).loc Cert.AdamConvBIdeal.main_v0_2) = v2 c
          ∧ r.2.mem ((c.tc : Thread Cert.AdamConvBIdeal.nD Cert.AdamConvBIdeal.τ).loc Cert.AdamConvBIdeal.main_v0_3) = v3 c
          ∧ r.2.mem ((c.tc : Thread Cert.AdamConvBIdeal.nD Cert.AdamConvBIdeal.τ).loc Cert.AdamConvBIdeal.main_arg0) = m ((c.tc : Thread Cert.AdamConvBIdeal.nD Cert.AdamConvBIdeal.τ).loc Cert.AdamConvBIdeal.main_arg0)
          ∧ r.2.mem ((c.tc : Thread Cert.AdamConvBIdeal.nD Cert.AdamConvBIdeal.τ).loc Cert.AdamConvBIdeal.main_arg1) = m ((c.tc : Thread Cert.AdamConvBIdeal.nD Cert.AdamConvBIdeal.τ).loc Cert.AdamConvBIdeal.main_arg1)
          ∧ r.2.mem ((c.tc : Thread Cert.AdamConvBIdeal.nD Cert.AdamConvBIdeal.τ).loc Cert.AdamConvBIdeal.main_arg2) = m ((c.tc : Thread Cert.AdamConvBIdeal.nD Cert.AdamConvBIdeal.τ).loc Cert.AdamConvBIdeal.main_arg2)
          ∧ r.2.mem ((c.tc : Thread Cert.AdamConvBIdeal.nD Cert.AdamConvBIdeal.τ).loc Cert.AdamConvBIdeal.main_arg3) = m ((c.tc : Thread Cert.AdamConvBIdeal.nD Cert.AdamConvBIdeal.τ).loc Cert.AdamConvBIdeal.main_arg3)
          ∧ r.2.mem ((c.tc : Thread Cert.AdamConvBIdeal.nD Cert.AdamConvBIdeal.τ).loc Cert.AdamConvBIdeal.main_arg4) = m ((c.tc : Thread Cert.AdamConvBIdeal.nD Cert.AdamConvBIdeal.τ).loc Cert.AdamConvBIdeal.main_arg4))
      ∧ θ_run (Cert.AdamConvBRefIdeal.defs (F := Ideal)) (onTc (τ := Cert.AdamConvBRefIdeal.τ) (Cert.AdamConvBRefIdeal.main (F := Ideal))) ⟨m', fun _ => 0, g'⟩ (fun r => ∀ c : Dev Cert.AdamConvBRefIdeal.nD,
          r.2.mem ((c.tc : Thread Cert.AdamConvBRefIdeal.nD Cert.AdamConvBRefIdeal.τ).loc Cert.AdamConvBRefIdeal.main_v0) = v0 c
          ∧ r.2.mem ((c.tc : Thread Cert.AdamConvBRefIdeal.nD Cert.AdamConvBRefIdeal.τ).loc Cert.AdamConvBRefIdeal.main_v24) = v1 c
          ∧ r.2.mem ((c.tc : Thread Cert.AdamConvBRefIdeal.nD Cert.AdamConvBRefIdeal.τ).loc Cert.AdamConvBRefIdeal.main_v5) = v2 c
          ∧ r.2.mem ((c.tc : Thread Cert.AdamConvBRefIdeal.nD Cert.AdamConvBRefIdeal.τ).loc Cert.AdamConvBRefIdeal.main_v11) = v3 c
          ∧ r.2.mem ((c.tc : Thread Cert.AdamConvBRefIdeal.nD Cert.AdamConvBRefIdeal.τ).loc Cert.AdamConvBRefIdeal.main_arg0) = m' ((c.tc : Thread Cert.AdamConvBRefIdeal.nD Cert.AdamConvBRefIdeal.τ).loc Cert.AdamConvBRefIdeal.main_arg0)
          ∧ r.2.mem ((c.tc : Thread Cert.AdamConvBRefIdeal.nD Cert.AdamConvBRefIdeal.τ).loc Cert.AdamConvBRefIdeal.main_arg1) = m' ((c.tc : Thread Cert.AdamConvBRefIdeal.nD Cert.AdamConvBRefIdeal.τ).loc Cert.AdamConvBRefIdeal.main_arg1)
          ∧ r.2.mem ((c.tc : Thread Cert.AdamConvBRefIdeal.nD Cert.AdamConvBRefIdeal.τ).loc Cert.AdamConvBRefIdeal.main_arg2) = m' ((c.tc : Thread Cert.AdamConvBRefIdeal.nD Cert.AdamConvBRefIdeal.τ).loc Cert.AdamConvBRefIdeal.main_arg2)
          ∧ r.2.mem ((c.tc : Thread Cert.AdamConvBRefIdeal.nD Cert.AdamConvBRefIdeal.τ).loc Cert.AdamConvBRefIdeal.main_arg3) = m' ((c.tc : Thread Cert.AdamConvBRefIdeal.nD Cert.AdamConvBRefIdeal.τ).loc Cert.AdamConvBRefIdeal.main_arg3)
          ∧ r.2.mem ((c.tc : Thread Cert.AdamConvBRefIdeal.nD Cert.AdamConvBRefIdeal.τ).loc Cert.AdamConvBRefIdeal.main_arg4) = m' ((c.tc : Thread Cert.AdamConvBRefIdeal.nD Cert.AdamConvBRefIdeal.τ).loc Cert.AdamConvBRefIdeal.main_arg4))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)
      ∧ m' ((c.tc : Thread Cert.AdamNormRefIdeal.nD Cert.AdamNormRefIdeal.τ).loc Cert.AdamNormRefIdeal.main_arg4) = m ((c.tc : Thread Cert.AdamNormIdeal.nD Cert.AdamNormIdeal.τ).loc Cert.AdamNormIdeal.main_arg4)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)) (v3 : (c : Dev Cert.AdamNormIdeal.nD) → Buf (Elt Ideal) ((c.tc : Thread Cert.AdamNormIdeal.nD Cert.AdamNormIdeal.τ).loc Cert.AdamNormIdeal.main_v0_3)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_v0_3) = v3 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3)
          ∧ r.2.mem ((c.tc : Thread Cert.AdamNormIdeal.nD Cert.AdamNormIdeal.τ).loc Cert.AdamNormIdeal.main_arg4) = m ((c.tc : Thread Cert.AdamNormIdeal.nD Cert.AdamNormIdeal.τ).loc Cert.AdamNormIdeal.main_arg4))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v0) = v0 c
          ∧ r.2.mem ((c.tc : Thread Cert.AdamNormRefIdeal.nD Cert.AdamNormRefIdeal.τ).loc Cert.AdamNormRefIdeal.main_v24) = v1 c
          ∧ r.2.mem ((c.tc : Thread Cert.AdamNormRefIdeal.nD Cert.AdamNormRefIdeal.τ).loc Cert.AdamNormRefIdeal.main_v5) = v2 c
          ∧ r.2.mem ((c.tc : Thread Cert.AdamNormRefIdeal.nD Cert.AdamNormRefIdeal.τ).loc Cert.AdamNormRefIdeal.main_v11) = v3 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3)
          ∧ r.2.mem ((c.tc : Thread Cert.AdamNormRefIdeal.nD Cert.AdamNormRefIdeal.τ).loc Cert.AdamNormRefIdeal.main_arg4) = m' ((c.tc : Thread Cert.AdamNormRefIdeal.nD Cert.AdamNormRefIdeal.τ).loc Cert.AdamNormRefIdeal.main_arg4))

def preserves_AdamMod_AdamModIdeal : Prop :=
  True

def algebraic_AdamModIdeal_AdamModRefIdeal [hAdamModIdeal : Cert.AdamModIdeal.Facts] [hAdamModRefIdeal : Cert.AdamModRefIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.AdamModRefIdeal.nD Cert.AdamModRefIdeal.τ Cert.AdamModRefIdeal.sig) → Buf (Elt Ideal) ℓ) (g' : Dev Cert.AdamModRefIdeal.nD → PrngReg), Pre_AdamModIdeal m →
    (∀ c : Dev Cert.AdamModIdeal.nD,
      m' ((c.tc : Thread Cert.AdamModRefIdeal.nD Cert.AdamModRefIdeal.τ).loc Cert.AdamModRefIdeal.main_arg0) = m ((c.tc : Thread Cert.AdamModIdeal.nD Cert.AdamModIdeal.τ).loc Cert.AdamModIdeal.main_arg0)
      ∧ m' ((c.tc : Thread Cert.AdamModRefIdeal.nD Cert.AdamModRefIdeal.τ).loc Cert.AdamModRefIdeal.main_arg1) = m ((c.tc : Thread Cert.AdamModIdeal.nD Cert.AdamModIdeal.τ).loc Cert.AdamModIdeal.main_arg1)
      ∧ m' ((c.tc : Thread Cert.AdamModRefIdeal.nD Cert.AdamModRefIdeal.τ).loc Cert.AdamModRefIdeal.main_arg2) = m ((c.tc : Thread Cert.AdamModIdeal.nD Cert.AdamModIdeal.τ).loc Cert.AdamModIdeal.main_arg2)
      ∧ m' ((c.tc : Thread Cert.AdamModRefIdeal.nD Cert.AdamModRefIdeal.τ).loc Cert.AdamModRefIdeal.main_arg3) = m ((c.tc : Thread Cert.AdamModIdeal.nD Cert.AdamModIdeal.τ).loc Cert.AdamModIdeal.main_arg3)) →
    ∃ (v0 : (c : Dev Cert.AdamModIdeal.nD) → Buf (Elt Ideal) ((c.tc : Thread Cert.AdamModIdeal.nD Cert.AdamModIdeal.τ).loc Cert.AdamModIdeal.main_v0_0)) (v1 : (c : Dev Cert.AdamModIdeal.nD) → Buf (Elt Ideal) ((c.tc : Thread Cert.AdamModIdeal.nD Cert.AdamModIdeal.τ).loc Cert.AdamModIdeal.main_v0_1)) (v2 : (c : Dev Cert.AdamModIdeal.nD) → Buf (Elt Ideal) ((c.tc : Thread Cert.AdamModIdeal.nD Cert.AdamModIdeal.τ).loc Cert.AdamModIdeal.main_v0_2)) (v3 : (c : Dev Cert.AdamModIdeal.nD) → Buf (Elt Ideal) ((c.tc : Thread Cert.AdamModIdeal.nD Cert.AdamModIdeal.τ).loc Cert.AdamModIdeal.main_v0_3)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v0_0) = v0 c
          ∧ r.2.mem ((c.tc : Thread Cert.AdamModIdeal.nD Cert.AdamModIdeal.τ).loc Cert.AdamModIdeal.main_v0_1) = v1 c
          ∧ r.2.mem ((c.tc : Thread Cert.AdamModIdeal.nD Cert.AdamModIdeal.τ).loc Cert.AdamModIdeal.main_v0_2) = v2 c
          ∧ r.2.mem ((c.tc : Thread Cert.AdamModIdeal.nD Cert.AdamModIdeal.τ).loc Cert.AdamModIdeal.main_v0_3) = v3 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ θ_run (Cert.AdamModRefIdeal.defs (F := Ideal)) (onTc (τ := Cert.AdamModRefIdeal.τ) (Cert.AdamModRefIdeal.main (F := Ideal))) ⟨m', fun _ => 0, g'⟩ (fun r => ∀ c : Dev Cert.AdamModRefIdeal.nD,
          r.2.mem ((c.tc : Thread Cert.AdamModRefIdeal.nD Cert.AdamModRefIdeal.τ).loc Cert.AdamModRefIdeal.main_arg3) = v0 c
          ∧ r.2.mem ((c.tc : Thread Cert.AdamModRefIdeal.nD Cert.AdamModRefIdeal.τ).loc Cert.AdamModRefIdeal.main_v23) = v1 c
          ∧ r.2.mem ((c.tc : Thread Cert.AdamModRefIdeal.nD Cert.AdamModRefIdeal.τ).loc Cert.AdamModRefIdeal.main_v4) = v2 c
          ∧ r.2.mem ((c.tc : Thread Cert.AdamModRefIdeal.nD Cert.AdamModRefIdeal.τ).loc Cert.AdamModRefIdeal.main_v10) = v3 c
          ∧ r.2.mem ((c.tc : Thread Cert.AdamModRefIdeal.nD Cert.AdamModRefIdeal.τ).loc Cert.AdamModRefIdeal.main_arg0) = m' ((c.tc : Thread Cert.AdamModRefIdeal.nD Cert.AdamModRefIdeal.τ).loc Cert.AdamModRefIdeal.main_arg0)
          ∧ r.2.mem ((c.tc : Thread Cert.AdamModRefIdeal.nD Cert.AdamModRefIdeal.τ).loc Cert.AdamModRefIdeal.main_arg1) = m' ((c.tc : Thread Cert.AdamModRefIdeal.nD Cert.AdamModRefIdeal.τ).loc Cert.AdamModRefIdeal.main_arg1)
          ∧ r.2.mem ((c.tc : Thread Cert.AdamModRefIdeal.nD Cert.AdamModRefIdeal.τ).loc Cert.AdamModRefIdeal.main_arg2) = m' ((c.tc : Thread Cert.AdamModRefIdeal.nD Cert.AdamModRefIdeal.τ).loc Cert.AdamModRefIdeal.main_arg2)
          ∧ r.2.mem ((c.tc : Thread Cert.AdamModRefIdeal.nD Cert.AdamModRefIdeal.τ).loc Cert.AdamModRefIdeal.main_arg3) = m' ((c.tc : Thread Cert.AdamModRefIdeal.nD Cert.AdamModRefIdeal.τ).loc Cert.AdamModRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_arg3) = v0 c
          ∧ r.2.mem ((c.tc : Thread Cert.AdamSmallRefIdeal.nD Cert.AdamSmallRefIdeal.τ).loc Cert.AdamSmallRefIdeal.main_v23) = v1 c
          ∧ r.2.mem ((c.tc : Thread Cert.AdamSmallRefIdeal.nD Cert.AdamSmallRefIdeal.τ).loc Cert.AdamSmallRefIdeal.main_v4) = v2 c
          ∧ r.2.mem ((c.tc : Thread Cert.AdamSmallRefIdeal.nD Cert.AdamSmallRefIdeal.τ).loc Cert.AdamSmallRefIdeal.main_v10) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hKernel : Cert.Kernel.Facts) (hKernelIdeal : Cert.KernelIdeal.Facts) (hReferenceIdeal : Cert.ReferenceIdeal.Facts) (hMlpDHidden : Cert.MlpDHidden.Facts) (hMlpDHiddenIdeal : Cert.MlpDHiddenIdeal.Facts) (hMlpDHiddenRefIdeal : Cert.MlpDHiddenRefIdeal.Facts) (hMlpDW2 : Cert.MlpDW2.Facts) (hMlpDW2Ideal : Cert.MlpDW2Ideal.Facts) (hMlpDW2RefIdeal : Cert.MlpDW2RefIdeal.Facts) (hMlpDIn : Cert.MlpDIn.Facts) (hMlpDInIdeal : Cert.MlpDInIdeal.Facts) (hMlpDInRefIdeal : Cert.MlpDInRefIdeal.Facts) (hMlpDW1 : Cert.MlpDW1.Facts) (hMlpDW1Ideal : Cert.MlpDW1Ideal.Facts) (hMlpDW1RefIdeal : Cert.MlpDW1RefIdeal.Facts) (hS5DGlu : Cert.S5DGlu.Facts) (hS5DGluIdeal : Cert.S5DGluIdeal.Facts) (hS5DGluRefIdeal : Cert.S5DGluRefIdeal.Facts) (hS5DWGlu : Cert.S5DWGlu.Facts) (hS5DWGluIdeal : Cert.S5DWGluIdeal.Facts) (hS5DWGluRefIdeal : Cert.S5DWGluRefIdeal.Facts) (hS5DIn : Cert.S5DIn.Facts) (hS5DInIdeal : Cert.S5DInIdeal.Facts) (hS5DInRefIdeal : Cert.S5DInRefIdeal.Facts) (hS5DWIn : Cert.S5DWIn.Facts) (hS5DWInIdeal : Cert.S5DWInIdeal.Facts) (hS5DWInRefIdeal : Cert.S5DWInRefIdeal.Facts) (hSsdDOut : Cert.SsdDOut.Facts) (hSsdDOutIdeal : Cert.SsdDOutIdeal.Facts) (hSsdDOutRefIdeal : Cert.SsdDOutRefIdeal.Facts) (hSsdDWOut : Cert.SsdDWOut.Facts) (hSsdDWOutIdeal : Cert.SsdDWOutIdeal.Facts) (hSsdDWOutRefIdeal : Cert.SsdDWOutRefIdeal.Facts) (hSsdDInZ : Cert.SsdDInZ.Facts) (hSsdDInZIdeal : Cert.SsdDInZIdeal.Facts) (hSsdDInZRefIdeal : Cert.SsdDInZRefIdeal.Facts) (hSsdDInXbc : Cert.SsdDInXbc.Facts) (hSsdDInXbcIdeal : Cert.SsdDInXbcIdeal.Facts) (hSsdDInXbcRefIdeal : Cert.SsdDInXbcRefIdeal.Facts) (hSsdDWZ : Cert.SsdDWZ.Facts) (hSsdDWZIdeal : Cert.SsdDWZIdeal.Facts) (hSsdDWZRefIdeal : Cert.SsdDWZRefIdeal.Facts) (hSsdDWXbc : Cert.SsdDWXbc.Facts) (hSsdDWXbcIdeal : Cert.SsdDWXbcIdeal.Facts) (hSsdDWXbcRefIdeal : Cert.SsdDWXbcRefIdeal.Facts) (hMlpIn : Cert.MlpIn.Facts) (hMlpInIdeal : Cert.MlpInIdeal.Facts) (hMlpInRefIdeal : Cert.MlpInRefIdeal.Facts) (hMlpOut : Cert.MlpOut.Facts) (hMlpOutIdeal : Cert.MlpOutIdeal.Facts) (hMlpOutRefIdeal : Cert.MlpOutRefIdeal.Facts) (hS5In : Cert.S5In.Facts) (hS5InIdeal : Cert.S5InIdeal.Facts) (hS5InRefIdeal : Cert.S5InRefIdeal.Facts) (hS5Glu : Cert.S5Glu.Facts) (hS5GluIdeal : Cert.S5GluIdeal.Facts) (hS5GluRefIdeal : Cert.S5GluRefIdeal.Facts) (hSsdZ : Cert.SsdZ.Facts) (hSsdZIdeal : Cert.SsdZIdeal.Facts) (hSsdZRefIdeal : Cert.SsdZRefIdeal.Facts) (hSsdXbc : Cert.SsdXbc.Facts) (hSsdXbcIdeal : Cert.SsdXbcIdeal.Facts) (hSsdXbcRefIdeal : Cert.SsdXbcRefIdeal.Facts) (hSsdOut : Cert.SsdOut.Facts) (hSsdOutIdeal : Cert.SsdOutIdeal.Facts) (hSsdOutRefIdeal : Cert.SsdOutRefIdeal.Facts) (hSsdDt : Cert.SsdDt.Facts) (hSsdDtIdeal : Cert.SsdDtIdeal.Facts) (hSsdDtRefIdeal : Cert.SsdDtRefIdeal.Facts) (hSsdDWDt : Cert.SsdDWDt.Facts) (hSsdDWDtIdeal : Cert.SsdDWDtIdeal.Facts) (hSsdDWDtRefIdeal : Cert.SsdDWDtRefIdeal.Facts) (hSsdDInDt : Cert.SsdDInDt.Facts) (hSsdDInDtIdeal : Cert.SsdDInDtIdeal.Facts) (hSsdDInDtRefIdeal : Cert.SsdDInDtRefIdeal.Facts) (hNormMod : Cert.NormMod.Facts) (hNormModIdeal : Cert.NormModIdeal.Facts) (hNormModRefIdeal : Cert.NormModRefIdeal.Facts) (hGelu : Cert.Gelu.Facts) (hGeluIdeal : Cert.GeluIdeal.Facts) (hGeluRefIdeal : Cert.GeluRefIdeal.Facts) (hGlu : Cert.Glu.Facts) (hGluIdeal : Cert.GluIdeal.Facts) (hGluRefIdeal : Cert.GluRefIdeal.Facts) (hGluGrad : Cert.GluGrad.Facts) (hGluGradIdeal : Cert.GluGradIdeal.Facts) (hGluGradRefIdeal : Cert.GluGradRefIdeal.Facts) (hGateNorm : Cert.GateNorm.Facts) (hGateNormIdeal : Cert.GateNormIdeal.Facts) (hGateNormRefIdeal : Cert.GateNormRefIdeal.Facts) (hAdamMlp : Cert.AdamMlp.Facts) (hAdamMlpIdeal : Cert.AdamMlpIdeal.Facts) (hAdamMlpRefIdeal : Cert.AdamMlpRefIdeal.Facts) (hAdamS5In : Cert.AdamS5In.Facts) (hAdamS5InIdeal : Cert.AdamS5InIdeal.Facts) (hAdamS5InRefIdeal : Cert.AdamS5InRefIdeal.Facts) (hAdamS5Glu : Cert.AdamS5Glu.Facts) (hAdamS5GluIdeal : Cert.AdamS5GluIdeal.Facts) (hAdamS5GluRefIdeal : Cert.AdamS5GluRefIdeal.Facts) (hAdamSsdIn : Cert.AdamSsdIn.Facts) (hAdamSsdInIdeal : Cert.AdamSsdInIdeal.Facts) (hAdamSsdInRefIdeal : Cert.AdamSsdInRefIdeal.Facts) (hAdamSsdOut : Cert.AdamSsdOut.Facts) (hAdamSsdOutIdeal : Cert.AdamSsdOutIdeal.Facts) (hAdamSsdOutRefIdeal : Cert.AdamSsdOutRefIdeal.Facts) (hAdamConvW : Cert.AdamConvW.Facts) (hAdamConvWIdeal : Cert.AdamConvWIdeal.Facts) (hAdamConvWRefIdeal : Cert.AdamConvWRefIdeal.Facts) (hAdamConvB : Cert.AdamConvB.Facts) (hAdamConvBIdeal : Cert.AdamConvBIdeal.Facts) (hAdamConvBRefIdeal : Cert.AdamConvBRefIdeal.Facts) (hAdamNorm : Cert.AdamNorm.Facts) (hAdamNormIdeal : Cert.AdamNormIdeal.Facts) (hAdamNormRefIdeal : Cert.AdamNormRefIdeal.Facts) (hAdamMod : Cert.AdamMod.Facts) (hAdamModIdeal : Cert.AdamModIdeal.Facts) (hAdamModRefIdeal : Cert.AdamModRefIdeal.Facts) (hAdamSmall : Cert.AdamSmall.Facts) (hAdamSmallIdeal : Cert.AdamSmallIdeal.Facts) (hAdamSmallRefIdeal : Cert.AdamSmallRefIdeal.Facts) (hPre_mlp_finite : Cert.Pre_mlp_finite.Facts) (hPre_ssd_finite : Cert.Pre_ssd_finite.Facts),
    quiescent_Kernel (hKernel := hKernel)
    ∧ quiescent_KernelIdeal (hKernelIdeal := hKernelIdeal)
    ∧ quiescent_ReferenceIdeal (hReferenceIdeal := hReferenceIdeal)
    ∧ quiescent_MlpDHidden (hMlpDHidden := hMlpDHidden)
    ∧ quiescent_MlpDHiddenIdeal (hMlpDHiddenIdeal := hMlpDHiddenIdeal)
    ∧ quiescent_MlpDHiddenRefIdeal (hMlpDHiddenRefIdeal := hMlpDHiddenRefIdeal)
    ∧ quiescent_MlpDW2 (hMlpDW2 := hMlpDW2)
    ∧ quiescent_MlpDW2Ideal (hMlpDW2Ideal := hMlpDW2Ideal)
    ∧ quiescent_MlpDW2Ideal_pre_mlp_finite (hMlpDW2Ideal := hMlpDW2Ideal) (hPre_mlp_finite := hPre_mlp_finite)
    ∧ quiescent_MlpDW2RefIdeal (hMlpDW2RefIdeal := hMlpDW2RefIdeal)
    ∧ quiescent_MlpDW2RefIdeal_pre_mlp_finite (hMlpDW2RefIdeal := hMlpDW2RefIdeal) (hPre_mlp_finite := hPre_mlp_finite)
    ∧ quiescent_MlpDIn (hMlpDIn := hMlpDIn)
    ∧ quiescent_MlpDInIdeal (hMlpDInIdeal := hMlpDInIdeal)
    ∧ quiescent_MlpDInRefIdeal (hMlpDInRefIdeal := hMlpDInRefIdeal)
    ∧ quiescent_MlpDW1 (hMlpDW1 := hMlpDW1)
    ∧ quiescent_MlpDW1Ideal (hMlpDW1Ideal := hMlpDW1Ideal)
    ∧ quiescent_MlpDW1RefIdeal (hMlpDW1RefIdeal := hMlpDW1RefIdeal)
    ∧ quiescent_S5DGlu (hS5DGlu := hS5DGlu)
    ∧ quiescent_S5DGluIdeal (hS5DGluIdeal := hS5DGluIdeal)
    ∧ quiescent_S5DGluRefIdeal (hS5DGluRefIdeal := hS5DGluRefIdeal)
    ∧ quiescent_S5DWGlu (hS5DWGlu := hS5DWGlu)
    ∧ quiescent_S5DWGluIdeal (hS5DWGluIdeal := hS5DWGluIdeal)
    ∧ quiescent_S5DWGluRefIdeal (hS5DWGluRefIdeal := hS5DWGluRefIdeal)
    ∧ quiescent_S5DIn (hS5DIn := hS5DIn)
    ∧ quiescent_S5DInIdeal (hS5DInIdeal := hS5DInIdeal)
    ∧ quiescent_S5DInRefIdeal (hS5DInRefIdeal := hS5DInRefIdeal)
    ∧ quiescent_S5DWIn (hS5DWIn := hS5DWIn)
    ∧ quiescent_S5DWInIdeal (hS5DWInIdeal := hS5DWInIdeal)
    ∧ quiescent_S5DWInRefIdeal (hS5DWInRefIdeal := hS5DWInRefIdeal)
    ∧ quiescent_SsdDOut (hSsdDOut := hSsdDOut)
    ∧ quiescent_SsdDOutIdeal (hSsdDOutIdeal := hSsdDOutIdeal)
    ∧ quiescent_SsdDOutRefIdeal (hSsdDOutRefIdeal := hSsdDOutRefIdeal)
    ∧ quiescent_SsdDWOut (hSsdDWOut := hSsdDWOut)
    ∧ quiescent_SsdDWOutIdeal (hSsdDWOutIdeal := hSsdDWOutIdeal)
    ∧ quiescent_SsdDWOutIdeal_pre_ssd_finite (hSsdDWOutIdeal := hSsdDWOutIdeal) (hPre_ssd_finite := hPre_ssd_finite)
    ∧ quiescent_SsdDWOutRefIdeal (hSsdDWOutRefIdeal := hSsdDWOutRefIdeal)
    ∧ quiescent_SsdDWOutRefIdeal_pre_ssd_finite (hSsdDWOutRefIdeal := hSsdDWOutRefIdeal) (hPre_ssd_finite := hPre_ssd_finite)
    ∧ quiescent_SsdDInZ (hSsdDInZ := hSsdDInZ)
    ∧ quiescent_SsdDInZIdeal (hSsdDInZIdeal := hSsdDInZIdeal)
    ∧ quiescent_SsdDInZRefIdeal (hSsdDInZRefIdeal := hSsdDInZRefIdeal)
    ∧ quiescent_SsdDInXbc (hSsdDInXbc := hSsdDInXbc)
    ∧ quiescent_SsdDInXbcIdeal (hSsdDInXbcIdeal := hSsdDInXbcIdeal)
    ∧ quiescent_SsdDInXbcRefIdeal (hSsdDInXbcRefIdeal := hSsdDInXbcRefIdeal)
    ∧ quiescent_SsdDWZ (hSsdDWZ := hSsdDWZ)
    ∧ quiescent_SsdDWZIdeal (hSsdDWZIdeal := hSsdDWZIdeal)
    ∧ quiescent_SsdDWZRefIdeal (hSsdDWZRefIdeal := hSsdDWZRefIdeal)
    ∧ quiescent_SsdDWXbc (hSsdDWXbc := hSsdDWXbc)
    ∧ quiescent_SsdDWXbcIdeal (hSsdDWXbcIdeal := hSsdDWXbcIdeal)
    ∧ quiescent_SsdDWXbcRefIdeal (hSsdDWXbcRefIdeal := hSsdDWXbcRefIdeal)
    ∧ quiescent_MlpIn (hMlpIn := hMlpIn)
    ∧ quiescent_MlpInIdeal (hMlpInIdeal := hMlpInIdeal)
    ∧ quiescent_MlpInRefIdeal (hMlpInRefIdeal := hMlpInRefIdeal)
    ∧ quiescent_MlpOut (hMlpOut := hMlpOut)
    ∧ quiescent_MlpOutIdeal (hMlpOutIdeal := hMlpOutIdeal)
    ∧ quiescent_MlpOutRefIdeal (hMlpOutRefIdeal := hMlpOutRefIdeal)
    ∧ quiescent_S5In (hS5In := hS5In)
    ∧ quiescent_S5InIdeal (hS5InIdeal := hS5InIdeal)
    ∧ quiescent_S5InRefIdeal (hS5InRefIdeal := hS5InRefIdeal)
    ∧ quiescent_S5Glu (hS5Glu := hS5Glu)
    ∧ quiescent_S5GluIdeal (hS5GluIdeal := hS5GluIdeal)
    ∧ quiescent_S5GluRefIdeal (hS5GluRefIdeal := hS5GluRefIdeal)
    ∧ quiescent_SsdZ (hSsdZ := hSsdZ)
    ∧ quiescent_SsdZIdeal (hSsdZIdeal := hSsdZIdeal)
    ∧ quiescent_SsdZRefIdeal (hSsdZRefIdeal := hSsdZRefIdeal)
    ∧ quiescent_SsdXbc (hSsdXbc := hSsdXbc)
    ∧ quiescent_SsdXbcIdeal (hSsdXbcIdeal := hSsdXbcIdeal)
    ∧ quiescent_SsdXbcRefIdeal (hSsdXbcRefIdeal := hSsdXbcRefIdeal)
    ∧ quiescent_SsdOut (hSsdOut := hSsdOut)
    ∧ quiescent_SsdOutIdeal (hSsdOutIdeal := hSsdOutIdeal)
    ∧ quiescent_SsdOutRefIdeal (hSsdOutRefIdeal := hSsdOutRefIdeal)
    ∧ quiescent_SsdDt (hSsdDt := hSsdDt)
    ∧ quiescent_SsdDtIdeal (hSsdDtIdeal := hSsdDtIdeal)
    ∧ quiescent_SsdDtRefIdeal (hSsdDtRefIdeal := hSsdDtRefIdeal)
    ∧ quiescent_SsdDWDt (hSsdDWDt := hSsdDWDt)
    ∧ quiescent_SsdDWDtIdeal (hSsdDWDtIdeal := hSsdDWDtIdeal)
    ∧ quiescent_SsdDWDtRefIdeal (hSsdDWDtRefIdeal := hSsdDWDtRefIdeal)
    ∧ quiescent_SsdDInDt (hSsdDInDt := hSsdDInDt)
    ∧ quiescent_SsdDInDtIdeal (hSsdDInDtIdeal := hSsdDInDtIdeal)
    ∧ quiescent_SsdDInDtRefIdeal (hSsdDInDtRefIdeal := hSsdDInDtRefIdeal)
    ∧ quiescent_NormMod (hNormMod := hNormMod)
    ∧ quiescent_NormModIdeal (hNormModIdeal := hNormModIdeal)
    ∧ quiescent_NormModRefIdeal (hNormModRefIdeal := hNormModRefIdeal)
    ∧ quiescent_Gelu (hGelu := hGelu)
    ∧ quiescent_GeluIdeal (hGeluIdeal := hGeluIdeal)
    ∧ quiescent_GeluRefIdeal (hGeluRefIdeal := hGeluRefIdeal)
    ∧ quiescent_Glu (hGlu := hGlu)
    ∧ quiescent_GluIdeal (hGluIdeal := hGluIdeal)
    ∧ quiescent_GluRefIdeal (hGluRefIdeal := hGluRefIdeal)
    ∧ quiescent_GluGrad (hGluGrad := hGluGrad)
    ∧ quiescent_GluGradIdeal (hGluGradIdeal := hGluGradIdeal)
    ∧ quiescent_GluGradRefIdeal (hGluGradRefIdeal := hGluGradRefIdeal)
    ∧ quiescent_GateNorm (hGateNorm := hGateNorm)
    ∧ quiescent_GateNormIdeal (hGateNormIdeal := hGateNormIdeal)
    ∧ quiescent_GateNormRefIdeal (hGateNormRefIdeal := hGateNormRefIdeal)
    ∧ quiescent_AdamMlp (hAdamMlp := hAdamMlp)
    ∧ quiescent_AdamMlpIdeal (hAdamMlpIdeal := hAdamMlpIdeal)
    ∧ quiescent_AdamMlpRefIdeal (hAdamMlpRefIdeal := hAdamMlpRefIdeal)
    ∧ quiescent_AdamS5In (hAdamS5In := hAdamS5In)
    ∧ quiescent_AdamS5InIdeal (hAdamS5InIdeal := hAdamS5InIdeal)
    ∧ quiescent_AdamS5InRefIdeal (hAdamS5InRefIdeal := hAdamS5InRefIdeal)
    ∧ quiescent_AdamS5Glu (hAdamS5Glu := hAdamS5Glu)
    ∧ quiescent_AdamS5GluIdeal (hAdamS5GluIdeal := hAdamS5GluIdeal)
    ∧ quiescent_AdamS5GluRefIdeal (hAdamS5GluRefIdeal := hAdamS5GluRefIdeal)
    ∧ quiescent_AdamSsdIn (hAdamSsdIn := hAdamSsdIn)
    ∧ quiescent_AdamSsdInIdeal (hAdamSsdInIdeal := hAdamSsdInIdeal)
    ∧ quiescent_AdamSsdInRefIdeal (hAdamSsdInRefIdeal := hAdamSsdInRefIdeal)
    ∧ quiescent_AdamSsdOut (hAdamSsdOut := hAdamSsdOut)
    ∧ quiescent_AdamSsdOutIdeal (hAdamSsdOutIdeal := hAdamSsdOutIdeal)
    ∧ quiescent_AdamSsdOutRefIdeal (hAdamSsdOutRefIdeal := hAdamSsdOutRefIdeal)
    ∧ quiescent_AdamConvW (hAdamConvW := hAdamConvW)
    ∧ quiescent_AdamConvWIdeal (hAdamConvWIdeal := hAdamConvWIdeal)
    ∧ quiescent_AdamConvWRefIdeal (hAdamConvWRefIdeal := hAdamConvWRefIdeal)
    ∧ quiescent_AdamConvB (hAdamConvB := hAdamConvB)
    ∧ quiescent_AdamConvBIdeal (hAdamConvBIdeal := hAdamConvBIdeal)
    ∧ quiescent_AdamConvBRefIdeal (hAdamConvBRefIdeal := hAdamConvBRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamMod (hAdamMod := hAdamMod)
    ∧ quiescent_AdamModIdeal (hAdamModIdeal := hAdamModIdeal)
    ∧ quiescent_AdamModRefIdeal (hAdamModRefIdeal := hAdamModRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Kernel_KernelIdeal
    ∧ algebraic_KernelIdeal_ReferenceIdeal (hKernelIdeal := hKernelIdeal) (hReferenceIdeal := hReferenceIdeal)
    ∧ preserves_MlpDHidden_MlpDHiddenIdeal
    ∧ algebraic_MlpDHiddenIdeal_MlpDHiddenRefIdeal (hMlpDHiddenIdeal := hMlpDHiddenIdeal) (hMlpDHiddenRefIdeal := hMlpDHiddenRefIdeal)
    ∧ preserves_MlpDW2_MlpDW2Ideal
    ∧ algebraic_MlpDW2Ideal_MlpDW2RefIdeal_pre_mlp_finite (hMlpDW2Ideal := hMlpDW2Ideal) (hMlpDW2RefIdeal := hMlpDW2RefIdeal) (hPre_mlp_finite := hPre_mlp_finite)
    ∧ preserves_MlpDIn_MlpDInIdeal
    ∧ algebraic_MlpDInIdeal_MlpDInRefIdeal (hMlpDInIdeal := hMlpDInIdeal) (hMlpDInRefIdeal := hMlpDInRefIdeal)
    ∧ preserves_MlpDW1_MlpDW1Ideal
    ∧ algebraic_MlpDW1Ideal_MlpDW1RefIdeal (hMlpDW1Ideal := hMlpDW1Ideal) (hMlpDW1RefIdeal := hMlpDW1RefIdeal)
    ∧ preserves_S5DGlu_S5DGluIdeal
    ∧ algebraic_S5DGluIdeal_S5DGluRefIdeal (hS5DGluIdeal := hS5DGluIdeal) (hS5DGluRefIdeal := hS5DGluRefIdeal)
    ∧ preserves_S5DWGlu_S5DWGluIdeal
    ∧ algebraic_S5DWGluIdeal_S5DWGluRefIdeal (hS5DWGluIdeal := hS5DWGluIdeal) (hS5DWGluRefIdeal := hS5DWGluRefIdeal)
    ∧ preserves_S5DIn_S5DInIdeal
    ∧ algebraic_S5DInIdeal_S5DInRefIdeal (hS5DInIdeal := hS5DInIdeal) (hS5DInRefIdeal := hS5DInRefIdeal)
    ∧ preserves_S5DWIn_S5DWInIdeal
    ∧ algebraic_S5DWInIdeal_S5DWInRefIdeal (hS5DWInIdeal := hS5DWInIdeal) (hS5DWInRefIdeal := hS5DWInRefIdeal)
    ∧ preserves_SsdDOut_SsdDOutIdeal
    ∧ algebraic_SsdDOutIdeal_SsdDOutRefIdeal (hSsdDOutIdeal := hSsdDOutIdeal) (hSsdDOutRefIdeal := hSsdDOutRefIdeal)
    ∧ preserves_SsdDWOut_SsdDWOutIdeal
    ∧ algebraic_SsdDWOutIdeal_SsdDWOutRefIdeal_pre_ssd_finite (hSsdDWOutIdeal := hSsdDWOutIdeal) (hSsdDWOutRefIdeal := hSsdDWOutRefIdeal) (hPre_ssd_finite := hPre_ssd_finite)
    ∧ preserves_SsdDInZ_SsdDInZIdeal
    ∧ algebraic_SsdDInZIdeal_SsdDInZRefIdeal (hSsdDInZIdeal := hSsdDInZIdeal) (hSsdDInZRefIdeal := hSsdDInZRefIdeal)
    ∧ preserves_SsdDInXbc_SsdDInXbcIdeal
    ∧ algebraic_SsdDInXbcIdeal_SsdDInXbcRefIdeal (hSsdDInXbcIdeal := hSsdDInXbcIdeal) (hSsdDInXbcRefIdeal := hSsdDInXbcRefIdeal)
    ∧ preserves_SsdDWZ_SsdDWZIdeal
    ∧ algebraic_SsdDWZIdeal_SsdDWZRefIdeal (hSsdDWZIdeal := hSsdDWZIdeal) (hSsdDWZRefIdeal := hSsdDWZRefIdeal)
    ∧ preserves_SsdDWXbc_SsdDWXbcIdeal
    ∧ algebraic_SsdDWXbcIdeal_SsdDWXbcRefIdeal (hSsdDWXbcIdeal := hSsdDWXbcIdeal) (hSsdDWXbcRefIdeal := hSsdDWXbcRefIdeal)
    ∧ preserves_MlpIn_MlpInIdeal
    ∧ algebraic_MlpInIdeal_MlpInRefIdeal (hMlpInIdeal := hMlpInIdeal) (hMlpInRefIdeal := hMlpInRefIdeal)
    ∧ preserves_MlpOut_MlpOutIdeal
    ∧ algebraic_MlpOutIdeal_MlpOutRefIdeal (hMlpOutIdeal := hMlpOutIdeal) (hMlpOutRefIdeal := hMlpOutRefIdeal)
    ∧ preserves_S5In_S5InIdeal
    ∧ algebraic_S5InIdeal_S5InRefIdeal (hS5InIdeal := hS5InIdeal) (hS5InRefIdeal := hS5InRefIdeal)
    ∧ preserves_S5Glu_S5GluIdeal
    ∧ algebraic_S5GluIdeal_S5GluRefIdeal (hS5GluIdeal := hS5GluIdeal) (hS5GluRefIdeal := hS5GluRefIdeal)
    ∧ preserves_SsdZ_SsdZIdeal
    ∧ algebraic_SsdZIdeal_SsdZRefIdeal (hSsdZIdeal := hSsdZIdeal) (hSsdZRefIdeal := hSsdZRefIdeal)
    ∧ preserves_SsdXbc_SsdXbcIdeal
    ∧ algebraic_SsdXbcIdeal_SsdXbcRefIdeal (hSsdXbcIdeal := hSsdXbcIdeal) (hSsdXbcRefIdeal := hSsdXbcRefIdeal)
    ∧ preserves_SsdOut_SsdOutIdeal
    ∧ algebraic_SsdOutIdeal_SsdOutRefIdeal (hSsdOutIdeal := hSsdOutIdeal) (hSsdOutRefIdeal := hSsdOutRefIdeal)
    ∧ preserves_SsdDt_SsdDtIdeal
    ∧ algebraic_SsdDtIdeal_SsdDtRefIdeal (hSsdDtIdeal := hSsdDtIdeal) (hSsdDtRefIdeal := hSsdDtRefIdeal)
    ∧ preserves_SsdDWDt_SsdDWDtIdeal
    ∧ algebraic_SsdDWDtIdeal_SsdDWDtRefIdeal (hSsdDWDtIdeal := hSsdDWDtIdeal) (hSsdDWDtRefIdeal := hSsdDWDtRefIdeal)
    ∧ preserves_SsdDInDt_SsdDInDtIdeal
    ∧ algebraic_SsdDInDtIdeal_SsdDInDtRefIdeal (hSsdDInDtIdeal := hSsdDInDtIdeal) (hSsdDInDtRefIdeal := hSsdDInDtRefIdeal)
    ∧ preserves_NormMod_NormModIdeal
    ∧ algebraic_NormModIdeal_NormModRefIdeal (hNormModIdeal := hNormModIdeal) (hNormModRefIdeal := hNormModRefIdeal)
    ∧ preserves_Gelu_GeluIdeal
    ∧ algebraic_GeluIdeal_GeluRefIdeal (hGeluIdeal := hGeluIdeal) (hGeluRefIdeal := hGeluRefIdeal)
    ∧ preserves_Glu_GluIdeal
    ∧ algebraic_GluIdeal_GluRefIdeal (hGluIdeal := hGluIdeal) (hGluRefIdeal := hGluRefIdeal)
    ∧ preserves_GluGrad_GluGradIdeal
    ∧ algebraic_GluGradIdeal_GluGradRefIdeal (hGluGradIdeal := hGluGradIdeal) (hGluGradRefIdeal := hGluGradRefIdeal)
    ∧ preserves_GateNorm_GateNormIdeal
    ∧ algebraic_GateNormIdeal_GateNormRefIdeal (hGateNormIdeal := hGateNormIdeal) (hGateNormRefIdeal := hGateNormRefIdeal)
    ∧ preserves_AdamMlp_AdamMlpIdeal
    ∧ algebraic_AdamMlpIdeal_AdamMlpRefIdeal (hAdamMlpIdeal := hAdamMlpIdeal) (hAdamMlpRefIdeal := hAdamMlpRefIdeal)
    ∧ preserves_AdamS5In_AdamS5InIdeal
    ∧ algebraic_AdamS5InIdeal_AdamS5InRefIdeal (hAdamS5InIdeal := hAdamS5InIdeal) (hAdamS5InRefIdeal := hAdamS5InRefIdeal)
    ∧ preserves_AdamS5Glu_AdamS5GluIdeal
    ∧ algebraic_AdamS5GluIdeal_AdamS5GluRefIdeal (hAdamS5GluIdeal := hAdamS5GluIdeal) (hAdamS5GluRefIdeal := hAdamS5GluRefIdeal)
    ∧ preserves_AdamSsdIn_AdamSsdInIdeal
    ∧ algebraic_AdamSsdInIdeal_AdamSsdInRefIdeal (hAdamSsdInIdeal := hAdamSsdInIdeal) (hAdamSsdInRefIdeal := hAdamSsdInRefIdeal)
    ∧ preserves_AdamSsdOut_AdamSsdOutIdeal
    ∧ algebraic_AdamSsdOutIdeal_AdamSsdOutRefIdeal (hAdamSsdOutIdeal := hAdamSsdOutIdeal) (hAdamSsdOutRefIdeal := hAdamSsdOutRefIdeal)
    ∧ preserves_AdamConvW_AdamConvWIdeal
    ∧ algebraic_AdamConvWIdeal_AdamConvWRefIdeal (hAdamConvWIdeal := hAdamConvWIdeal) (hAdamConvWRefIdeal := hAdamConvWRefIdeal)
    ∧ preserves_AdamConvB_AdamConvBIdeal
    ∧ algebraic_AdamConvBIdeal_AdamConvBRefIdeal (hAdamConvBIdeal := hAdamConvBIdeal) (hAdamConvBRefIdeal := hAdamConvBRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamMod_AdamModIdeal
    ∧ algebraic_AdamModIdeal_AdamModRefIdeal (hAdamModIdeal := hAdamModIdeal) (hAdamModRefIdeal := hAdamModRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_mlp_finite.lean ====
abbrev S16384x4096 : Shape := ⟨2, ![16384, 4096]⟩
abbrev S4096x1024 : Shape := ⟨2, ![4096, 1024]⟩
abbrev S1x1024 : Shape := ⟨2, ![1, 1024]⟩
abbrev S16384x1024 : Shape := ⟨2, ![16384, 1024]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S16384x1024 : S_.BroadcastsInDim S16384x1024 (![] : Fin 0 → Fin S16384x1024.rank)
  reducesTo_S16384x1024_S_d0_1 : S16384x1024.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S16384x4096 .f32) (main_arg1 : FVec F S4096x1024 .f32) (main_arg2 : FVec F S1x1024 .f32) (main_arg3 : FVec F S16384x1024 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S16384x1024 .f32 := Host.absf main_arg3
  let main_cst_4 : FVec F S_ .f32 := constant S_ .f32 0x7F800000#32
  let main_v13 : FVec F S16384x1024 .f32 := broadcastInDim S16384x1024 ![] bcast_S_S16384x1024 main_cst_4
  let main_v14 : IVec S16384x1024 1 := cmpf .olt main_v12 main_v13
  let main_c_5 : IVec S_ 1 := constantI S_ 1 1#1
  let main_v15 : IVec S_ 1 := (fun x v => Host.reduce IntOp.andi x v reducesTo_S16384x1024_S_d0_1 h_S_) main_v14 main_c_5
  fn_part1 (F := F) main_v3 main_v7 main_v11 main_v15
-- ==== Pre_ssd_finite.lean ====
abbrev S16384x2048 : Shape := ⟨2, ![16384, 2048]⟩
abbrev S2048x1024 : Shape := ⟨2, ![2048, 1024]⟩
abbrev S1x1024 : Shape := ⟨2, ![1, 1024]⟩
abbrev S16384x1024 : Shape := ⟨2, ![16384, 1024]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S16384x1024 : S_.BroadcastsInDim S16384x1024 (![] : Fin 0 → Fin S16384x1024.rank)
  reducesTo_S16384x1024_S_d0_1 : S16384x1024.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S16384x2048 .f32) (main_arg1 : FVec F S2048x1024 .f32) (main_arg2 : FVec F S1x1024 .f32) (main_arg3 : FVec F S16384x1024 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S16384x1024 .f32 := Host.absf main_arg3
  let main_cst_4 : FVec F S_ .f32 := constant S_ .f32 0x7F800000#32
  let main_v13 : FVec F S16384x1024 .f32 := broadcastInDim S16384x1024 ![] bcast_S_S16384x1024 main_cst_4
  let main_v14 : IVec S16384x1024 1 := cmpf .olt main_v12 main_v13
  let main_c_5 : IVec S_ 1 := constantI S_ 1 1#1
  let main_v15 : IVec S_ 1 := (fun x v => Host.reduce IntOp.andi x v reducesTo_S16384x1024_S_d0_1 h_S_) main_v14 main_c_5
  fn_part1 (F := F) main_v3 main_v7 main_v11 main_v15
-- ==== Kernel.lean ====
abbrev S16384x3072 : Shape := ⟨2, ![16384, 3072]⟩
abbrev S16384x32 : Shape := ⟨2, ![16384, 32]⟩
abbrev S32 : Shape := ⟨1, ![32]⟩
abbrev S16384x2048 : Shape := ⟨2, ![16384, 2048]⟩
abbrev S2048 : Shape := ⟨1, ![2048]⟩
abbrev S2048x1 : Shape := ⟨2, ![2048, 1]⟩
abbrev S_ : Shape := ⟨0, ![]⟩
abbrev S128 : Shape := ⟨1, ![128]⟩
abbrev S1x128 : Shape := ⟨2, ![1, 128]⟩
abbrev S2048x128 : Shape := ⟨2, ![2048, 128]⟩
abbrev S1 : Shape := ⟨1, ![1]⟩
abbrev S2 : Shape := ⟨1, ![2]⟩
abbrev S32x64 : Shape := ⟨2, ![32, 64]⟩
abbrev S1x2048 : Shape := ⟨2, ![1, 2048]⟩
abbrev S128x2048 : Shape := ⟨2, ![128, 2048]⟩
abbrev S16384x512 : Shape := ⟨2, ![16384, 512]⟩
abbrev S1x32 : Shape := ⟨2, ![1, 32]⟩
abbrev S4x8 : Shape := ⟨2, ![4, 8]⟩
abbrev S128x128x4x8x64 : Shape := ⟨5, ![128, 128, 4, 8, 64]⟩
abbrev S128x128x4x128 : Shape := ⟨4, ![128, 128, 4, 128]⟩
abbrev S128x128x4x8 : Shape := ⟨4, ![128, 128, 4, 8]⟩
abbrev S128x128x4x8x1 : Shape := ⟨5, ![128, 128, 4, 8, 1]⟩
abbrev S1x1x4x8 : Shape := ⟨4, ![1, 1, 4, 8]⟩
abbrev S4x8x128x128 : Shape := ⟨4, ![4, 8, 128, 128]⟩
abbrev S4x8x128x1 : Shape := ⟨4, ![4, 8, 128, 1]⟩
abbrev S128x4x8x64x128 : Shape := ⟨5, ![128, 4, 8, 64, 128]⟩
abbrev S4x8x128 : Shape := ⟨3, ![4, 8, 128]⟩
abbrev S4x8x64x128 : Shape := ⟨4, ![4, 8, 64, 128]⟩
abbrev S128x4x8 : Shape := ⟨3, ![128, 4, 8]⟩
abbrev S1x4x8x64x128 : Shape := ⟨5, ![1, 4, 8, 64, 128]⟩
abbrev S1x4x8 : Shape := ⟨3, ![1, 4, 8]⟩
abbrev S4x8x1x1 : Shape := ⟨4, ![4, 8, 1, 1]⟩
abbrev S128x16x128x128 : Shape := ⟨4, ![128, 16, 128, 128]⟩
abbrev S16384x128 : Shape := ⟨2, ![16384, 128]⟩
abbrev S8x128 : Shape := ⟨2, ![8, 128]⟩
abbrev S128x3072 : Shape := ⟨2, ![128, 3072]⟩
abbrev S128x128 : Shape := ⟨2, ![128, 128]⟩
abbrev S1x16x128x128 : Shape := ⟨4, ![1, 16, 128, 128]⟩
abbrev S16x128x128 : Shape := ⟨3, ![16, 128, 128]⟩
abbrev S1x1x128x128 : Shape := ⟨4, ![1, 1, 128, 128]⟩
abbrev S1x128x128 : Shape := ⟨3, ![1, 128, 128]⟩
abbrev S128x1 : Shape := ⟨2, ![128, 1]⟩
abbrev S1x1 : Shape := ⟨2, ![1, 1]⟩
abbrev S8x2048 : Shape := ⟨2, ![8, 2048]⟩

abbrev nBuf : Space → Nat
  | .hbm => 150
  | .vmem => 28
  | .smem => 0
  | _ => 0

abbrev hbmTy0_0 (i : Nat) : BufTy := match i % 128 with
  | 0 => ⟨S16384x3072, .f32⟩
  | 1 => ⟨S16384x32, .f32⟩
  | 2 => ⟨S32, .f32⟩
  | 3 => ⟨S32, .f32⟩
  | 4 => ⟨S32, .f32⟩
  | 5 => ⟨S16384x2048, .f32⟩
  | 6 => ⟨S32, .f32⟩
  | 7 => ⟨S32, .f32⟩
  | 8 => ⟨S2048, .i32⟩
  | 9 => ⟨S2048x1, .i32⟩
  | 10 => ⟨S_, .i32⟩
  | 11 => ⟨S_, .i32⟩
  | 12 => ⟨S2048x1, .i32⟩
  | 13 => ⟨S2048x1, .i32⟩
  | 14 => ⟨S2048x1, .i32⟩
  | 15 => ⟨S_, .i32⟩
  | 16 => ⟨S2048x1, .i32⟩
  | 17 => ⟨S2048x1, .i1⟩
  | 18 => ⟨S2048x1, .i32⟩
  | 19 => ⟨S2048x1, .i32⟩
  | 20 => ⟨S_, .i32⟩
  | 21 => ⟨S2048x1, .i32⟩
  | 22 => ⟨S2048x1, .i1⟩
  | 23 => ⟨S2048x1, .i1⟩
  | 24 => ⟨S_, .i32⟩
  | 25 => ⟨S2048x1, .i32⟩
  | 26 => ⟨S2048x1, .i32⟩
  | 27 => ⟨S2048x1, .i32⟩
  | 28 => ⟨S128, .i32⟩
  | 29 => ⟨S1x128, .i32⟩
  | 30 => ⟨S2048x128, .i32⟩
  | 31 => ⟨S2048x128, .i32⟩
  | 32 => ⟨S2048x128, .i1⟩
  | 33 => ⟨S2048x128, .f32⟩
  | 34 => ⟨S_, .f32⟩
  | 35 => ⟨S1x128, .f32⟩
  | 36 => ⟨S_, .i32⟩
  | 37 => ⟨S1, .i32⟩
  | 38 => ⟨S_, .i32⟩
  | 39 => ⟨S1, .i32⟩
  | 40 => ⟨S2, .i32⟩
  | 41 => ⟨S1x128, .f32⟩
  | 42 => ⟨S_, .f32⟩
  | 43 => ⟨S1x128, .f32⟩
  | 44 => ⟨S_, .i32⟩
  | 45 => ⟨S1, .i32⟩
  | 46 => ⟨S_, .i32⟩
  | 47 => ⟨S1, .i32⟩
  | 48 => ⟨S2, .i32⟩
  | 49 => ⟨S1x128, .f32⟩
  | 50 => ⟨S32x64, .f32⟩
  | 51 => ⟨S2048, .f32⟩
  | 52 => ⟨S1x2048, .f32⟩
  | 53 => ⟨S128x2048, .f32⟩
  | 54 => ⟨S128x2048, .bf16⟩
  | 55 => ⟨S16384x2048, .f32⟩
  | 56 => ⟨S16384x512, .f32⟩
  | 57 => ⟨S16384x512, .f32⟩
  | 58 => ⟨S1x32, .f32⟩
  | 59 => ⟨S16384x32, .f32⟩
  | 60 => ⟨S16384x32, .f32⟩
  | 61 => ⟨S_, .f32⟩
  | 62 => ⟨S16384x32, .f32⟩
  | 63 => ⟨S16384x32, .f32⟩
  | 64 => ⟨S16384x32, .f32⟩
  | 65 => ⟨S16384x32, .f32⟩
  | 66 => ⟨S16384x32, .i1⟩
  | 67 => ⟨S16384x32, .f32⟩
  | 68 => ⟨S16384x32, .f32⟩
  | 69 => ⟨S16384x32, .f32⟩
  | 70 => ⟨S16384x32, .f32⟩
  | 71 => ⟨S16384x32, .f32⟩
  | 72 => ⟨S16384x32, .f32⟩
  | 73 => ⟨S16384x32, .f32⟩
  | 74 => ⟨S16384x32, .f32⟩
  | 75 => ⟨S32, .f32⟩
  | 76 => ⟨S4x8, .f32⟩
  | 77 => ⟨S4x8, .f32⟩
  | 78 => ⟨S128x128x4x8x64, .f32⟩
  | 79 => ⟨S128x128x4x128, .f32⟩
  | 80 => ⟨S128x128x4x8, .f32⟩
  | 81 => ⟨S128x128x4x8x1, .f32⟩
  | 82 => ⟨S128x128x4x8x64, .f32⟩
  | 83 => ⟨S128x128x4x8x64, .f32⟩
  | 84 => ⟨S1x1x4x8, .f32⟩
  | 85 => ⟨S128x128x4x8, .f32⟩
  | 86 => ⟨S128x128x4x8, .f32⟩
  | 87 => ⟨S4x8x128x128, .f32⟩
  | 88 => ⟨S_, .f32⟩
  | 89 => ⟨S_, .f32⟩
  | 90 => ⟨S4x8x128x128, .f32⟩
  | 91 => ⟨S4x8x128x1, .f32⟩
  | 92 => ⟨S4x8x128x128, .f32⟩
  | 93 => ⟨S4x8x128x128, .f32⟩
  | 94 => ⟨S4x8x128x128, .f32⟩
  | 95 => ⟨S128x128x4x8, .f32⟩
  | 96 => ⟨S128x128x4x8x1, .f32⟩
  | 97 => ⟨S128x128x4x8x64, .f32⟩
  | 98 => ⟨S128x128x4x8x64, .f32⟩
  | 99 => ⟨S128x4x8x64x128, .f32⟩
  | 100 => ⟨S4x8x128x1, .f32⟩
  | 101 => ⟨S4x8x128, .f32⟩
  | 102 => ⟨S4x8x128, .f32⟩
  | 103 => ⟨S_, .f32⟩
  | 104 => ⟨S4x8x64x128, .f32⟩
  | 105 => ⟨S128x4x8, .f32⟩
  | 106 => ⟨S_, .f32⟩
  | 107 => ⟨S128x4x8x64x128, .f32⟩
  | 108 => ⟨S_, .i32⟩
  | 109 => ⟨S128x4x8x64x128, .f32⟩
  | 110 => ⟨S128x4x8, .f32⟩
  | 111 => ⟨S_, .i32⟩
  | 112 => ⟨S4x8x64x128, .f32⟩
  | 113 => ⟨S128x4x8x64x128, .f32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S1x4x8x64x128, .f32⟩
  | 121 => ⟨S4x8x64x128, .f32⟩
  | 122 => ⟨S_, .i32⟩
  | 123 => ⟨S_, .i32⟩
  | 124 => ⟨S1x4x8, .f32⟩
  | 125 => ⟨S4x8, .f32⟩
  | 126 => ⟨S4x8x1x1, .f32⟩
  | 127 => ⟨S4x8x64x128, .f32⟩
  | _ => ⟨S16384x3072, .f32⟩

abbrev hbmTy0_1 (i : Nat) : BufTy := match i % 128 with
  | 0 => ⟨S4x8x64x128, .f32⟩
  | 1 => ⟨S4x8x64x128, .f32⟩
  | 2 => ⟨S1x4x8x64x128, .f32⟩
  | 3 => ⟨S_, .i32⟩
  | 4 => ⟨S_, .i32⟩
  | 5 => ⟨S_, .i32⟩
  | 6 => ⟨S_, .i32⟩
  | 7 => ⟨S128x4x8x64x128, .f32⟩
  | 8 => ⟨S_, .i32⟩
  | 9 => ⟨S_, .i32⟩
  | 10 => ⟨S128x16x128x128, .f32⟩
  | 11 => ⟨S_, .f32⟩
  | 12 => ⟨S16384x128, .f32⟩
  | 13 => ⟨S_, .i32⟩
  | 14 => ⟨S1, .i32⟩
  | 15 => ⟨S16384x128, .f32⟩
  | 16 => ⟨S16384x3072, .f32⟩
  | 17 => ⟨S16384x128, .f32⟩
  | 18 => ⟨S1x128, .f32⟩
  | 19 => ⟨S1x128, .f32⟩
  | 20 => ⟨S8x128, .f32⟩
  | 21 => ⟨S16384x512, .f32⟩
  | _ => ⟨S16384x3072, .f32⟩

abbrev hbmTy (i : Nat) : BufTy := match i / 128 with
  | 0 => hbmTy0_0 i
  | 1 => hbmTy0_1 i
  | _ => ⟨S16384x3072, .f32⟩

abbrev bufTy : (tb : Table) → Fin (tcTables nBuf tb) → BufTy
  | .hbm, ⟨i, _⟩ => hbmTy i
  | .local _ .vmem, ⟨0, _⟩ => ⟨S128x3072, .f32⟩
  | .local _ .vmem, ⟨1, _⟩ => ⟨S128x3072, .f32⟩
  | .local _ .vmem, ⟨2, _⟩ => ⟨S128x128, .f32⟩
  | .local _ .vmem, ⟨3, _⟩ => ⟨S128x128, .f32⟩
  | .local _ .vmem, ⟨4, _⟩ => ⟨S128x2048, .f32⟩
  | .local _ .vmem, ⟨5, _⟩ => ⟨S128x2048, .f32⟩
  | .local _ .vmem, ⟨6, _⟩ => ⟨S1x16x128x128, .f32⟩
  | .local _ .vmem, ⟨7, _⟩ => ⟨S1x16x128x128, .f32⟩
  | .local _ .vmem, ⟨8, _⟩ => ⟨S1x128, .f32⟩
  | .local _ .vmem, ⟨9, _⟩ => ⟨S1x128, .f32⟩
  | .local _ .vmem, ⟨10, _⟩ => ⟨S1x2048, .f32⟩
  | .local _ .vmem, ⟨11, _⟩ => ⟨S2048x128, .f32⟩
  | .local _ .vmem, ⟨12, _⟩ => ⟨S128x2048, .bf16⟩
  | .local _ .vmem, ⟨13, _⟩ => ⟨S128x3072, .f32⟩
  | .local _ .vmem, ⟨14, _⟩ => ⟨S128x3072, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S8x128, .f32⟩
  | .local _ .vmem, ⟨20, _⟩ => ⟨S16x128x128, .f32⟩
  | .local _ .vmem, ⟨21, _⟩ => ⟨S128x128, .f32⟩
  | .local _ .vmem, ⟨22, _⟩ => ⟨S128x2048, .f32⟩
  | .local _ .vmem, ⟨23, _⟩ => ⟨S128x128, .f32⟩
  | .local _ .vmem, ⟨24, _⟩ => ⟨S128x128, .f32⟩
  | .local _ .vmem, ⟨25, _⟩ => ⟨S128x2048, .f32⟩
  | .local _ .vmem, ⟨26, _⟩ => ⟨S128x2048, .f32⟩
  | .local _ .vmem, ⟨27, _⟩ => ⟨S1x2048, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_c_0 : Ref sig .tc := ⟨.hbm, 36, rfl⟩
abbrev main_v12 : Ref sig .tc := ⟨.hbm, 37, rfl⟩
abbrev main_c_1 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_2 : Ref sig .tc := ⟨.hbm, 42, rfl⟩
abbrev main_v16 : Ref sig .tc := ⟨.hbm, 43, rfl⟩
abbrev main_c_3 : Ref sig .tc := ⟨.hbm, 44, rfl⟩
abbrev main_v17 : Ref sig .tc := ⟨.hbm, 45, rfl⟩
abbrev main_c_4 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_call1_cst : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_call2_call0_cst : Ref sig .tc := ⟨.hbm, 88, rfl⟩
abbrev main_call2_call0_v0 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_5 : Ref sig .tc := ⟨.hbm, 103, rfl⟩
abbrev main_v59 : Ref sig .tc := ⟨.hbm, 104, rfl⟩
abbrev main_v60 : Ref sig .tc := ⟨.hbm, 105, rfl⟩
abbrev main_cst_6 : Ref sig .tc := ⟨.hbm, 106, rfl⟩
abbrev main_v61 : Ref sig .tc := ⟨.hbm, 107, rfl⟩
abbrev main_c_7 : Ref sig .tc := ⟨.hbm, 108, rfl⟩
abbrev main_v62_0 : Ref sig .tc := ⟨.hbm, 109, rfl⟩
abbrev main_v62_1 : Ref sig .tc := ⟨.hbm, 110, rfl⟩
abbrev main_v62_2 : Ref sig .tc := ⟨.hbm, 111, rfl⟩
abbrev main_v62_3 : Ref sig .tc := ⟨.hbm, 112, rfl⟩
abbrev main_v62_4 : Ref sig .tc := ⟨.hbm, 113, rfl⟩
abbrev main_while0c_c_14 : Ref sig .tc := ⟨.hbm, 114, rfl⟩
abbrev main_while0c_v69 : Ref sig .tc := ⟨.hbm, 115, rfl⟩
abbrev main_while0b_call3_c : Ref sig .tc := ⟨.hbm, 116, rfl⟩
abbrev main_while0b_call3_c_0 : Ref sig .tc := ⟨.hbm, 117, rfl⟩
abbrev main_while0b_call3_c_1 : Ref sig .tc := ⟨.hbm, 118, rfl⟩
abbrev main_while0b_call3_c_2 : Ref sig .tc := ⟨.hbm, 119, rfl⟩
abbrev main_while0b_call3_v0 : Ref sig .tc := ⟨.hbm, 120, rfl⟩
abbrev main_while0b_v69 : Ref sig .tc := ⟨.hbm, 121, rfl⟩
abbrev main_while0b_call4_c : Ref sig .tc := ⟨.hbm, 122, rfl⟩
abbrev main_while0b_call4_c_0 : Ref sig .tc := ⟨.hbm, 123, rfl⟩
abbrev main_while0b_call4_v0 : Ref sig .tc := ⟨.hbm, 124, rfl⟩
abbrev main_while0b_v70 : Ref sig .tc := ⟨.hbm, 125, rfl⟩
abbrev main_while0b_v71 : Ref sig .tc := ⟨.hbm, 126, rfl⟩
abbrev main_while0b_v72 : Ref sig .tc := ⟨.hbm, 127, rfl⟩
abbrev main_while0b_v73 : Ref sig .tc := ⟨.hbm, 128, rfl⟩
abbrev main_while0b_v74 : Ref sig .tc := ⟨.hbm, 129, rfl⟩
abbrev main_while0b_call5_v0 : Ref sig .tc := ⟨.hbm, 130, rfl⟩
abbrev main_while0b_call5_c : Ref sig .tc := ⟨.hbm, 131, rfl⟩
abbrev main_while0b_call5_c_0 : Ref sig .tc := ⟨.hbm, 132, rfl⟩
abbrev main_while0b_call5_c_1 : Ref sig .tc := ⟨.hbm, 133, rfl⟩
abbrev main_while0b_call5_c_2 : Ref sig .tc := ⟨.hbm, 134, rfl⟩
abbrev main_while0b_v75 : Ref sig .tc := ⟨.hbm, 135, rfl⟩
abbrev main_while0b_c_14 : Ref sig .tc := ⟨.hbm, 136, rfl⟩
abbrev main_while0b_v76 : Ref sig .tc := ⟨.hbm, 137, rfl⟩
abbrev main_v63 : Ref sig .tc := ⟨.hbm, 138, rfl⟩
abbrev main_cst_8 : Ref sig .tc := ⟨.hbm, 139, rfl⟩
abbrev main_v64 : Ref sig .tc := ⟨.hbm, 140, rfl⟩
abbrev main_c_9 : Ref sig .tc := ⟨.hbm, 141, rfl⟩
abbrev main_v65 : Ref sig .tc := ⟨.hbm, 142, rfl⟩
abbrev main_v66 : Ref sig .tc := ⟨.hbm, 143, rfl⟩
abbrev main_v67_0 : Ref sig .tc := ⟨.hbm, 144, rfl⟩
abbrev main_v67_1 : Ref sig .tc := ⟨.hbm, 145, rfl⟩
abbrev main_v67_2 : Ref sig .tc := ⟨.hbm, 146, rfl⟩
abbrev main_v67_3 : Ref sig .tc := ⟨.hbm, 147, rfl⟩
abbrev main_v67_4 : Ref sig .tc := ⟨.hbm, 148, rfl⟩
abbrev main_v68 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev main_while0_count : Scf.Loop 32 := ⟨0#32, 128#32, 1#32⟩

abbrev grid0 : Pipeline.Grid := ⟨1, ![128], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c127_i32_1181 : BitVec 32 := 127#32
  let v2984 : BitVec 1 := Scalar.cmpi .eq arg0 c127_i32_1181
  let v2985 : BitVec 32 := Scalar.extui v2984
  let c0_i32_1182 : BitVec 32 := 0#32
  let v2986 : BitVec 1 := Scalar.cmpi .ne v2985 c0_i32_1182
  v2986

def cc0_transform_0 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_3 (i : grid0.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S16384x3072 : Shape := ⟨2, ![16384, 3072]⟩
abbrev S16384x32 : Shape := ⟨2, ![16384, 32]⟩
abbrev S32 : Shape := ⟨1, ![32]⟩
abbrev S16384x2048 : Shape := ⟨2, ![16384, 2048]⟩
abbrev S16384x512 : Shape := ⟨2, ![16384, 512]⟩
abbrev S1x32 : Shape := ⟨2, ![1, 32]⟩
abbrev S_ : Shape := ⟨0, ![]⟩
abbrev S4x8 : Shape := ⟨2, ![4, 8]⟩
abbrev S128x128x4x8x64 : Shape := ⟨5, ![128, 128, 4, 8, 64]⟩
abbrev S128x128x4x128 : Shape := ⟨4, ![128, 128, 4, 128]⟩
abbrev S128x128x4x8 : Shape := ⟨4, ![128, 128, 4, 8]⟩
abbrev S128x128x4x8x1 : Shape := ⟨5, ![128, 128, 4, 8, 1]⟩
abbrev S1x1x4x8 : Shape := ⟨4, ![1, 1, 4, 8]⟩
abbrev S4x8x128x128 : Shape := ⟨4, ![4, 8, 128, 128]⟩
abbrev S4x8x128x128x1 : Shape := ⟨5, ![4, 8, 128, 128, 1]⟩
abbrev S4x8x128x1x128 : Shape := ⟨5, ![4, 8, 128, 1, 128]⟩
abbrev S4x8x128x128x128 : Shape := ⟨5, ![4, 8, 128, 128, 128]⟩
abbrev S128x128 : Shape := ⟨2, ![128, 128]⟩
abbrev S128x4x128x128 : Shape := ⟨4, ![128, 4, 128, 128]⟩
abbrev S128x4x1x128x128 : Shape := ⟨5, ![128, 4, 1, 128, 128]⟩
abbrev S128x4x8x128x128 : Shape := ⟨5, ![128, 4, 8, 128, 128]⟩
abbrev S128x4x8x64x128 : Shape := ⟨5, ![128, 4, 8, 64, 128]⟩
abbrev S4x8x128x1 : Shape := ⟨4, ![4, 8, 128, 1]⟩
abbrev S4x8x128 : Shape := ⟨3, ![4, 8, 128]⟩
abbrev S4x8x64x128 : Shape := ⟨4, ![4, 8, 64, 128]⟩
abbrev S128x4x8 : Shape := ⟨3, ![128, 4, 8]⟩
abbrev S1x4x8x64x128 : Shape := ⟨5, ![1, 4, 8, 64, 128]⟩
abbrev S1x4x8 : Shape := ⟨3, ![1, 4, 8]⟩
abbrev S4x8x1x1 : Shape := ⟨4, ![4, 8, 1, 1]⟩
abbrev S4x8x1 : Shape := ⟨3, ![4, 8, 1]⟩
abbrev S1x1x4x8x1 : Shape := ⟨5, ![1, 1, 4, 8, 1]⟩

abbrev nBuf : Space → Nat
  | .hbm => 154
  | .vmem => 0
  | .smem => 0
  | _ => 0

abbrev hbmTy0_0 (i : Nat) : BufTy := match i % 128 with
  | 0 => ⟨S16384x3072, .f32⟩
  | 1 => ⟨S16384x32, .f32⟩
  | 2 => ⟨S32, .f32⟩
  | 3 => ⟨S32, .f32⟩
  | 4 => ⟨S32, .f32⟩
  | 5 => ⟨S16384x2048, .f32⟩
  | 6 => ⟨S16384x2048, .f32⟩
  | 7 => ⟨S16384x512, .f32⟩
  | 8 => ⟨S16384x512, .f32⟩
  | 9 => ⟨S1x32, .f32⟩
  | 10 => ⟨S16384x32, .f32⟩
  | 11 => ⟨S16384x32, .f32⟩
  | 12 => ⟨S_, .f32⟩
  | 13 => ⟨S16384x32, .f32⟩
  | 14 => ⟨S16384x32, .f32⟩
  | 15 => ⟨S16384x32, .f32⟩
  | 16 => ⟨S16384x32, .f32⟩
  | 17 => ⟨S16384x32, .i1⟩
  | 18 => ⟨S16384x32, .f32⟩
  | 19 => ⟨S16384x32, .f32⟩
  | 20 => ⟨S16384x32, .f32⟩
  | 21 => ⟨S16384x32, .f32⟩
  | 22 => ⟨S16384x32, .f32⟩
  | 23 => ⟨S16384x32, .f32⟩
  | 24 => ⟨S16384x32, .f32⟩
  | 25 => ⟨S16384x32, .f32⟩
  | 26 => ⟨S32, .f32⟩
  | 27 => ⟨S4x8, .f32⟩
  | 28 => ⟨S4x8, .f32⟩
  | 29 => ⟨S128x128x4x8x64, .f32⟩
  | 30 => ⟨S128x128x4x128, .f32⟩
  | 31 => ⟨S128x128x4x128, .f32⟩
  | 32 => ⟨S128x128x4x8, .f32⟩
  | 33 => ⟨S128x128x4x8x1, .f32⟩
  | 34 => ⟨S128x128x4x8x64, .f32⟩
  | 35 => ⟨S128x128x4x8x64, .f32⟩
  | 36 => ⟨S1x1x4x8, .f32⟩
  | 37 => ⟨S128x128x4x8, .f32⟩
  | 38 => ⟨S128x128x4x8, .f32⟩
  | 39 => ⟨S4x8x128x128, .f32⟩
  | 40 => ⟨S_, .f32⟩
  | 41 => ⟨S_, .f32⟩
  | 42 => ⟨S4x8x128x128, .f32⟩
  | 43 => ⟨S_, .f32⟩
  | 44 => ⟨S_, .f32⟩
  | 45 => ⟨S4x8x128x128, .f32⟩
  | 46 => ⟨S4x8x128x128x1, .f32⟩
  | 47 => ⟨S4x8x128x1x128, .f32⟩
  | 48 => ⟨S4x8x128x128x128, .f32⟩
  | 49 => ⟨S4x8x128x128x128, .f32⟩
  | 50 => ⟨S4x8x128x128x128, .f32⟩
  | 51 => ⟨S_, .i1⟩
  | 52 => ⟨S128x128, .i1⟩
  | 53 => ⟨S128x128, .i32⟩
  | 54 => ⟨S_, .i32⟩
  | 55 => ⟨S128x128, .i32⟩
  | 56 => ⟨S128x128, .i32⟩
  | 57 => ⟨S128x128, .i32⟩
  | 58 => ⟨S128x128, .i1⟩
  | 59 => ⟨S_, .i1⟩
  | 60 => ⟨S128x128, .i1⟩
  | 61 => ⟨S128x128, .i1⟩
  | 62 => ⟨S_, .f32⟩
  | 63 => ⟨S_, .f32⟩
  | 64 => ⟨S4x8x128x128x128, .i1⟩
  | 65 => ⟨S4x8x128x128x128, .f32⟩
  | 66 => ⟨S4x8x128x128x128, .f32⟩
  | 67 => ⟨S4x8x128x128x128, .f32⟩
  | 68 => ⟨S128x4x128x128, .f32⟩
  | 69 => ⟨S128x4x1x128x128, .f32⟩
  | 70 => ⟨S128x4x8x128x128, .f32⟩
  | 71 => ⟨S128x4x8x128x128, .f32⟩
  | 72 => ⟨S128x4x8x128x128, .f32⟩
  | 73 => ⟨S128x4x8x64x128, .f32⟩
  | 74 => ⟨S128x128x4x8x64, .f32⟩
  | 75 => ⟨S4x8x128x1, .f32⟩
  | 76 => ⟨S4x8x128x128, .f32⟩
  | 77 => ⟨S4x8x128x128, .f32⟩
  | 78 => ⟨S4x8x128x128, .f32⟩
  | 79 => ⟨S128x128x4x8, .f32⟩
  | 80 => ⟨S128x128x4x8x1, .f32⟩
  | 81 => ⟨S128x128x4x8x64, .f32⟩
  | 82 => ⟨S128x128x4x8x64, .f32⟩
  | 83 => ⟨S128x4x8x64x128, .f32⟩
  | 84 => ⟨S4x8x128x1, .f32⟩
  | 85 => ⟨S4x8x128, .f32⟩
  | 86 => ⟨S4x8x128, .f32⟩
  | 87 => ⟨S_, .f32⟩
  | 88 => ⟨S4x8x64x128, .f32⟩
  | 89 => ⟨S128x4x8, .f32⟩
  | 90 => ⟨S_, .f32⟩
  | 91 => ⟨S128x4x8x64x128, .f32⟩
  | 92 => ⟨S_, .i32⟩
  | 93 => ⟨S128x4x8x64x128, .f32⟩
  | 94 => ⟨S128x4x8, .f32⟩
  | 95 => ⟨S_, .i32⟩
  | 96 => ⟨S4x8x64x128, .f32⟩
  | 97 => ⟨S128x4x8x64x128, .f32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S1x4x8x64x128, .f32⟩
  | 105 => ⟨S4x8x64x128, .f32⟩
  | 106 => ⟨S_, .i32⟩
  | 107 => ⟨S_, .i32⟩
  | 108 => ⟨S1x4x8, .f32⟩
  | 109 => ⟨S4x8, .f32⟩
  | 110 => ⟨S4x8x1x1, .f32⟩
  | 111 => ⟨S4x8x64x128, .f32⟩
  | 112 => ⟨S4x8x64x128, .f32⟩
  | 113 => ⟨S4x8x64x128, .f32⟩
  | 114 => ⟨S1x4x8x64x128, .f32⟩
  | 115 => ⟨S_, .i32⟩
  | 116 => ⟨S_, .i32⟩
  | 117 => ⟨S_, .i32⟩
  | 118 => ⟨S_, .i32⟩
  | 119 => ⟨S128x4x8x64x128, .f32⟩
  | 120 => ⟨S_, .i32⟩
  | 121 => ⟨S_, .i32⟩
  | 122 => ⟨S128x4x8x64x128, .f32⟩
  | 123 => ⟨S128x128x4x8x64, .f32⟩
  | 124 => ⟨S4x8x128x128, .f32⟩
  | 125 => ⟨S128x128x4x8, .f32⟩
  | 126 => ⟨S128x128x4x8x1, .f32⟩
  | 127 => ⟨S128x128x4x8x64, .f32⟩
  | _ => ⟨S16384x3072, .f32⟩

abbrev hbmTy0_1 (i : Nat) : BufTy := match i % 128 with
  | 0 => ⟨S128x128x4x8x64, .f32⟩
  | 1 => ⟨S128x128x4x8x64, .f32⟩
  | 2 => ⟨S4x8x1, .f32⟩
  | 3 => ⟨S1x1x4x8x1, .f32⟩
  | 4 => ⟨S128x128x4x8x64, .f32⟩
  | 5 => ⟨S128x128x4x8x64, .f32⟩
  | 6 => ⟨S128x128x4x8x64, .f32⟩
  | 7 => ⟨S16384x2048, .f32⟩
  | 8 => ⟨S128x128x4x8x64, .f32⟩
  | 9 => ⟨S128x128x4x8x64, .f32⟩
  | 10 => ⟨S128x128x4x8x64, .f32⟩
  | 11 => ⟨S128x4x8x64x128, .f32⟩
  | 12 => ⟨S128x4x128x128, .f32⟩
  | 13 => ⟨S128x128x4x128, .f32⟩
  | 14 => ⟨S128x4x8x64x128, .f32⟩
  | 15 => ⟨S128x4x8x128x128, .f32⟩
  | 16 => ⟨S128x4x8x128x128, .f32⟩
  | 17 => ⟨S_, .f32⟩
  | 18 => ⟨S128x4x128x128, .f32⟩
  | 19 => ⟨S128x4x1x128x128, .f32⟩
  | 20 => ⟨S_, .f32⟩
  | 21 => ⟨S128x4x128x128, .f32⟩
  | 22 => ⟨S128x4x128x128, .f32⟩
  | 23 => ⟨S128x128x4x128, .f32⟩
  | 24 => ⟨S128x128x4x128, .f32⟩
  | 25 => ⟨S16384x512, .f32⟩
  | _ => ⟨S16384x3072, .f32⟩

abbrev hbmTy (i : Nat) : BufTy := match i / 128 with
  | 0 => hbmTy0_0 i
  | 1 => hbmTy0_1 i
  | _ => ⟨S16384x3072, .f32⟩

abbrev bufTy : (tb : Table) → Fin (tcTables nBuf tb) → BufTy
  | .hbm, ⟨i, _⟩ => hbmTy i
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_call1_call0_cst : Ref sig .tc := ⟨.hbm, 40, rfl⟩
abbrev main_call1_call0_v0 : Ref sig .tc := ⟨.hbm, 41, rfl⟩
abbrev main_v21 : Ref sig .tc := ⟨.hbm, 42, rfl⟩
abbrev main_call2_call0_cst : Ref sig .tc := ⟨.hbm, 43, rfl⟩
abbrev main_call2_call0_v0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c : Ref sig .tc := ⟨.hbm, 51, rfl⟩
abbrev main_v28 : Ref sig .tc := ⟨.hbm, 52, rfl⟩
abbrev main_call3_v0 : Ref sig .tc := ⟨.hbm, 53, rfl⟩
abbrev main_call3_c : Ref sig .tc := ⟨.hbm, 54, rfl⟩
abbrev main_call3_v1 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_call3_c_0 : Ref sig .tc := ⟨.hbm, 59, rfl⟩
abbrev main_call3_v5 : Ref sig .tc := ⟨.hbm, 60, rfl⟩
abbrev main_v29 : Ref sig .tc := ⟨.hbm, 61, rfl⟩
abbrev main_cst : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_0 : Ref sig .tc := ⟨.hbm, 87, rfl⟩
abbrev main_v51 : Ref sig .tc := ⟨.hbm, 88, rfl⟩
abbrev main_v52 : Ref sig .tc := ⟨.hbm, 89, rfl⟩
abbrev main_cst_1 : Ref sig .tc := ⟨.hbm, 90, rfl⟩
abbrev main_v53 : Ref sig .tc := ⟨.hbm, 91, rfl⟩
abbrev main_c_2 : Ref sig .tc := ⟨.hbm, 92, rfl⟩
abbrev main_v54_0 : Ref sig .tc := ⟨.hbm, 93, rfl⟩
abbrev main_v54_1 : Ref sig .tc := ⟨.hbm, 94, rfl⟩
abbrev main_v54_2 : Ref sig .tc := ⟨.hbm, 95, rfl⟩
abbrev main_v54_3 : Ref sig .tc := ⟨.hbm, 96, rfl⟩
abbrev main_v54_4 : Ref sig .tc := ⟨.hbm, 97, rfl⟩
abbrev main_while0c_c_9 : Ref sig .tc := ⟨.hbm, 98, rfl⟩
abbrev main_while0c_v85 : Ref sig .tc := ⟨.hbm, 99, rfl⟩
abbrev main_while0b_call5_c : Ref sig .tc := ⟨.hbm, 100, rfl⟩
abbrev main_while0b_call5_c_0 : Ref sig .tc := ⟨.hbm, 101, rfl⟩
abbrev main_while0b_call5_c_1 : Ref sig .tc := ⟨.hbm, 102, rfl⟩
abbrev main_while0b_call5_c_2 : Ref sig .tc := ⟨.hbm, 103, rfl⟩
abbrev main_while0b_call5_v0 : Ref sig .tc := ⟨.hbm, 104, rfl⟩
abbrev main_while0b_v85 : Ref sig .tc := ⟨.hbm, 105, rfl⟩
abbrev main_while0b_call6_c : Ref sig .tc := ⟨.hbm, 106, rfl⟩
abbrev main_while0b_call6_c_0 : Ref sig .tc := ⟨.hbm, 107, rfl⟩
abbrev main_while0b_call6_v0 : Ref sig .tc := ⟨.hbm, 108, rfl⟩
abbrev main_while0b_v86 : Ref sig .tc := ⟨.hbm, 109, rfl⟩
abbrev main_while0b_v87 : Ref sig .tc := ⟨.hbm, 110, rfl⟩
abbrev main_while0b_v88 : Ref sig .tc := ⟨.hbm, 111, rfl⟩
abbrev main_while0b_v89 : Ref sig .tc := ⟨.hbm, 112, rfl⟩
abbrev main_while0b_v90 : Ref sig .tc := ⟨.hbm, 113, rfl⟩
abbrev main_while0b_call7_v0 : Ref sig .tc := ⟨.hbm, 114, rfl⟩
abbrev main_while0b_call7_c : Ref sig .tc := ⟨.hbm, 115, rfl⟩
abbrev main_while0b_call7_c_0 : Ref sig .tc := ⟨.hbm, 116, rfl⟩
abbrev main_while0b_call7_c_1 : Ref sig .tc := ⟨.hbm, 117, rfl⟩
abbrev main_while0b_call7_c_2 : Ref sig .tc := ⟨.hbm, 118, rfl⟩
abbrev main_while0b_v91 : Ref sig .tc := ⟨.hbm, 119, rfl⟩
abbrev main_while0b_c_9 : Ref sig .tc := ⟨.hbm, 120, rfl⟩
abbrev main_while0b_v92 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_cst_3 : Ref sig .tc := ⟨.hbm, 145, rfl⟩
abbrev main_v78 : Ref sig .tc := ⟨.hbm, 146, rfl⟩
abbrev main_v79 : Ref sig .tc := ⟨.hbm, 147, rfl⟩
abbrev main_cst_4 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩

abbrev nD : Nat := 1
abbrev τ : Topo := Topo.v7x

variable {F : FTy → Type} [FloatOps F]

abbrev main_while0_count : Scf.Loop 32 := ⟨0#32, 128#32, 1#32⟩
-- ==== MlpDHidden.lean ====
abbrev S16384x4096 : Shape := ⟨2, ![16384, 4096]⟩
abbrev S4096x1024 : Shape := ⟨2, ![4096, 1024]⟩
abbrev S1x1024 : Shape := ⟨2, ![1, 1024]⟩
abbrev S16384x1024 : Shape := ⟨2, ![16384, 1024]⟩
abbrev S_ : Shape := ⟨0, ![]⟩
abbrev S1024x1024 : Shape := ⟨2, ![1024, 1024]⟩

abbrev nBuf : Space → Nat
  | .hbm => 14
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S1x1024, .f32⟩
  | .hbm, ⟨3, _⟩ => ⟨S16384x1024, .f32⟩
  | .hbm, ⟨4, _⟩ => ⟨S_, .f32⟩
  | .hbm, ⟨5, _⟩ => ⟨S16384x4096, .f32⟩
  | .hbm, ⟨6, _⟩ => ⟨S16384x4096, .f32⟩
  | .hbm, ⟨7, _⟩ => ⟨S4096x1024, .f32⟩
  | .hbm, ⟨8, _⟩ => ⟨S4096x1024, .f32⟩
  | .hbm, ⟨9, _⟩ => ⟨S16384x4096, .bf16⟩
  | .hbm, ⟨10, _⟩ => ⟨S4096x1024, .bf16⟩
  | .hbm, ⟨11, _⟩ => ⟨S16384x1024, .bf16⟩
  | .hbm, ⟨12, _⟩ => ⟨S16384x4096, .bf16⟩
  | .hbm, ⟨13, _⟩ => ⟨S16384x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDHiddenRefIdeal.lean ====
abbrev S16384x4096 : Shape := ⟨2, ![16384, 4096]⟩
abbrev S4096x1024 : Shape := ⟨2, ![4096, 1024]⟩
abbrev S1x1024 : Shape := ⟨2, ![1, 1024]⟩
abbrev S16384x1024 : Shape := ⟨2, ![16384, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S1x1024, .f32⟩
  | .hbm, ⟨3, _⟩ => ⟨S16384x1024, .f32⟩
  | .hbm, ⟨4, _⟩ => ⟨S_, .f32⟩
  | .hbm, ⟨5, _⟩ => ⟨S16384x4096, .f32⟩
  | .hbm, ⟨6, _⟩ => ⟨S16384x4096, .f32⟩
  | .hbm, ⟨7, _⟩ => ⟨S_, .f32⟩
  | .hbm, ⟨8, _⟩ => ⟨S16384x4096, .f32⟩
  | .hbm, ⟨9, _⟩ => ⟨S16384x4096, .i1⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== MlpDW2.lean ====
abbrev S16384x4096 : Shape := ⟨2, ![16384, 4096]⟩
abbrev S4096x1024 : Shape := ⟨2, ![4096, 1024]⟩
abbrev S1x1024 : Shape := ⟨2, ![1, 1024]⟩
abbrev S16384x1024 : Shape := ⟨2, ![16384, 1024]⟩
abbrev S4x1x1024 : Shape := ⟨3, ![4, 1, 1024]⟩
abbrev S2048x1024 : Shape := ⟨2, ![2048, 1024]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩

abbrev nBuf : Space → Nat
  | .hbm => 12
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S1x1024, .f32⟩
  | .hbm, ⟨3, _⟩ => ⟨S16384x1024, .f32⟩
  | .hbm, ⟨4, _⟩ => ⟨S16384x4096, .bf16⟩
  | .hbm, ⟨5, _⟩ => ⟨S4096x1024, .bf16⟩
  | .hbm, ⟨6, _⟩ => ⟨S16384x1024, .bf16⟩
  | .hbm, ⟨7, _⟩ => ⟨S4096x1024, .bf16⟩
  | .hbm, ⟨8, _⟩ => ⟨S4x1x1024, .f32⟩
  | .hbm, ⟨9, _⟩ => ⟨S4096x1024, .f32⟩
  | .hbm, ⟨10, _⟩ => ⟨S_, .f32⟩
  | .hbm, ⟨11, _⟩ => ⟨S1x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1x1024, .f32⟩
  | .local _ .vmem, ⟨10, _⟩ => ⟨S1x1x1024, .f32⟩
  | .local _ .vmem, ⟨11, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MlpDW2RefIdeal.lean ====
abbrev S16384x4096 : Shape := ⟨2, ![16384, 4096]⟩
abbrev S4096x1024 : Shape := ⟨2, ![4096, 1024]⟩
abbrev S1x1024 : Shape := ⟨2, ![1, 1024]⟩
abbrev S16384x1024 : Shape := ⟨2, ![16384, 1024]⟩
abbrev S_ : Shape := ⟨0, ![]⟩
abbrev S1024 : Shape := ⟨1, ![1024]⟩
abbrev S1024x4096 : Shape := ⟨2, ![1024, 4096]⟩

abbrev nBuf : Space → Nat
  | .hbm => 16
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S1x1024, .f32⟩
  | .hbm, ⟨3, _⟩ => ⟨S16384x1024, .f32⟩
  | .hbm, ⟨4, _⟩ => ⟨S16384x4096, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S1024x4096, .f32⟩
  | .hbm, ⟨15, _⟩ => ⟨S4096x1024, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== MlpDIn.lean ====
abbrev S16384x1024 : Shape := ⟨2, ![16384, 1024]⟩
abbrev S1024x4096 : Shape := ⟨2, ![1024, 4096]⟩
abbrev S16384x4096 : Shape := ⟨2, ![16384, 4096]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S16384x4096, .f32⟩
  | .hbm, ⟨3, _⟩ => ⟨S16384x4096, .bf16⟩
  | .hbm, ⟨4, _⟩ => ⟨S1024x4096, .bf16⟩
  | .hbm, ⟨5, _⟩ => ⟨S16384x1024, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDInRefIdeal.lean ====
abbrev S16384x1024 : Shape := ⟨2, ![16384, 1024]⟩
abbrev S1024x4096 : Shape := ⟨2, ![1024, 4096]⟩
abbrev S16384x4096 : Shape := ⟨2, ![16384, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S16384x4096, .f32⟩
  | .hbm, ⟨3, _⟩ => ⟨S16384x4096, .f32⟩
  | .hbm, ⟨4, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MlpDW1.lean ====
abbrev S16384x1024 : Shape := ⟨2, ![16384, 1024]⟩
abbrev S1024x4096 : Shape := ⟨2, ![1024, 4096]⟩
abbrev S16384x4096 : Shape := ⟨2, ![16384, 4096]⟩
abbrev S4096x1024 : Shape := ⟨2, ![4096, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S16384x4096, .f32⟩
  | .hbm, ⟨3, _⟩ => ⟨S16384x1024, .bf16⟩
  | .hbm, ⟨4, _⟩ => ⟨S16384x4096, .bf16⟩
  | .hbm, ⟨5, _⟩ => ⟨S1024x4096, .bf16⟩
  | .hbm, ⟨6, _⟩ => ⟨S1024x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDW1RefIdeal.lean ====
abbrev S16384x1024 : Shape := ⟨2, ![16384, 1024]⟩
abbrev S1024x4096 : Shape := ⟨2, ![1024, 4096]⟩
abbrev S16384x4096 : Shape := ⟨2, ![16384, 4096]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S16384x4096, .f32⟩
  | .hbm, ⟨3, _⟩ => ⟨S16384x4096, .f32⟩
  | .hbm, ⟨4, _⟩ => ⟨S4096x1024, .f32⟩
  | .hbm, ⟨5, _⟩ => ⟨S1024x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== S5DGlu.lean ====
abbrev S16384x1024 : Shape := ⟨2, ![16384, 1024]⟩
abbrev S1024x2048 : Shape := ⟨2, ![1024, 2048]⟩
abbrev S16384x2048 : Shape := ⟨2, ![16384, 2048]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | .hbm, ⟨3, _⟩ => ⟨S16384x2048, .bf16⟩
  | .hbm, ⟨4, _⟩ => ⟨S1024x2048, .bf16⟩
  | .hbm, ⟨5, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== S5DGluRefIdeal.lean ====
abbrev S16384x1024 : Shape := ⟨2, ![16384, 1024]⟩
abbrev S1024x2048 : Shape := ⟨2, ![1024, 2048]⟩
abbrev S16384x2048 : Shape := ⟨2, ![16384, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | .hbm, ⟨3, _⟩ => ⟨S16384x2048, .f32⟩
  | .hbm, ⟨4, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== S5DWGlu.lean ====
abbrev S16384x1024 : Shape := ⟨2, ![16384, 1024]⟩
abbrev S1024x2048 : Shape := ⟨2, ![1024, 2048]⟩
abbrev S16384x2048 : Shape := ⟨2, ![16384, 2048]⟩
abbrev S4096x1024 : Shape := ⟨2, ![4096, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | .hbm, ⟨3, _⟩ => ⟨S16384x1024, .bf16⟩
  | .hbm, ⟨4, _⟩ => ⟨S16384x2048, .bf16⟩
  | .hbm, ⟨5, _⟩ => ⟨S1024x2048, .bf16⟩
  | .hbm, ⟨6, _⟩ => ⟨S1024x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== S5DWGluRefIdeal.lean ====
abbrev S16384x1024 : Shape := ⟨2, ![16384, 1024]⟩
abbrev S1024x2048 : Shape := ⟨2, ![1024, 2048]⟩
abbrev S16384x2048 : Shape := ⟨2, ![16384, 2048]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | .hbm, ⟨3, _⟩ => ⟨S16384x2048, .f32⟩
  | .hbm, ⟨4, _⟩ => ⟨S2048x1024, .f32⟩
  | .hbm, ⟨5, _⟩ => ⟨S1024x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== S5DIn.lean ====
abbrev S16384x1024 : Shape := ⟨2, ![16384, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .bf16⟩
  | .hbm, ⟨4, _⟩ => ⟨S1024x1024, .bf16⟩
  | .hbm, ⟨5, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== S5DInRefIdeal.lean ====
abbrev S16384x1024 : Shape := ⟨2, ![16384, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== S5DWIn.lean ====
abbrev S16384x1024 : Shape := ⟨2, ![16384, 1024]⟩
abbrev S1024x1024 : Shape := ⟨2, ![1024, 1024]⟩
abbrev S4096x1024 : Shape := ⟨2, ![4096, 1024]⟩

abbrev nBuf : Space → Nat
  | .hbm => 7
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .bf16⟩
  | .hbm, ⟨4, _⟩ => ⟨S16384x1024, .bf16⟩
  | .hbm, ⟨5, _⟩ => ⟨S1024x1024, .bf16⟩
  | .hbm, ⟨6, _⟩ => ⟨S1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== S5DWInRefIdeal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SsdDOut.lean ====
abbrev S16384x2048 : Shape := ⟨2, ![16384, 2048]⟩
abbrev S2048x1024 : Shape := ⟨2, ![2048, 1024]⟩
abbrev S1x1024 : Shape := ⟨2, ![1, 1024]⟩
abbrev S16384x1024 : Shape := ⟨2, ![16384, 1024]⟩
abbrev S1024x1024 : Shape := ⟨2, ![1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S1x1024, .f32⟩
  | .hbm, ⟨3, _⟩ => ⟨S16384x1024, .f32⟩
  | .hbm, ⟨4, _⟩ => ⟨S2048x1024, .f32⟩
  | .hbm, ⟨5, _⟩ => ⟨S2048x1024, .f32⟩
  | .hbm, ⟨6, _⟩ => ⟨S16384x1024, .bf16⟩
  | .hbm, ⟨7, _⟩ => ⟨S2048x1024, .bf16⟩
  | .hbm, ⟨8, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdDOutRefIdeal.lean ====
abbrev S16384x2048 : Shape := ⟨2, ![16384, 2048]⟩
abbrev S2048x1024 : Shape := ⟨2, ![2048, 1024]⟩
abbrev S1x1024 : Shape := ⟨2, ![1, 1024]⟩
abbrev S16384x1024 : Shape := ⟨2, ![16384, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S1x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== SsdDWOut.lean ====
abbrev S16384x2048 : Shape := ⟨2, ![16384, 2048]⟩
abbrev S2048x1024 : Shape := ⟨2, ![2048, 1024]⟩
abbrev S1x1024 : Shape := ⟨2, ![1, 1024]⟩
abbrev S16384x1024 : Shape := ⟨2, ![16384, 1024]⟩
abbrev S2x1x1024 : Shape := ⟨3, ![2, 1, 1024]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩

abbrev nBuf : Space → Nat
  | .hbm => 12
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S1x1024, .f32⟩
  | .hbm, ⟨3, _⟩ => ⟨S16384x1024, .f32⟩
  | .hbm, ⟨4, _⟩ => ⟨S16384x2048, .bf16⟩
  | .hbm, ⟨5, _⟩ => ⟨S2048x1024, .bf16⟩
  | .hbm, ⟨6, _⟩ => ⟨S16384x1024, .bf16⟩
  | .hbm, ⟨7, _⟩ => ⟨S2048x1024, .bf16⟩
  | .hbm, ⟨8, _⟩ => ⟨S2x1x1024, .f32⟩
  | .hbm, ⟨9, _⟩ => ⟨S2048x1024, .f32⟩
  | .hbm, ⟨10, _⟩ => ⟨S_, .f32⟩
  | .hbm, ⟨11, _⟩ => ⟨S1x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1x1024, .f32⟩
  | .local _ .vmem, ⟨10, _⟩ => ⟨S1x1x1024, .f32⟩
  | .local _ .vmem, ⟨11, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== SsdDWOutRefIdeal.lean ====
abbrev S16384x2048 : Shape := ⟨2, ![16384, 2048]⟩
abbrev S2048x1024 : Shape := ⟨2, ![2048, 1024]⟩
abbrev S1x1024 : Shape := ⟨2, ![1, 1024]⟩
abbrev S16384x1024 : Shape := ⟨2, ![16384, 1024]⟩
abbrev S_ : Shape := ⟨0, ![]⟩
abbrev S1024 : Shape := ⟨1, ![1024]⟩
abbrev S1024x2048 : Shape := ⟨2, ![1024, 2048]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S1x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S1024x2048, .f32⟩
  | .hbm, ⟨14, _⟩ => ⟨S2048x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== SsdDInZ.lean ====
abbrev S16384x1024 : Shape := ⟨2, ![16384, 1024]⟩
abbrev S1024x5152 : Shape := ⟨2, ![1024, 5152]⟩
abbrev S16384x2048 : Shape := ⟨2, ![16384, 2048]⟩
abbrev S1024x2048 : Shape := ⟨2, ![1024, 2048]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x5152, .f32⟩
  | .hbm, ⟨2, _⟩ => ⟨S16384x2048, .f32⟩
  | .hbm, ⟨3, _⟩ => ⟨S1024x2048, .f32⟩
  | .hbm, ⟨4, _⟩ => ⟨S16384x2048, .bf16⟩
  | .hbm, ⟨5, _⟩ => ⟨S1024x2048, .bf16⟩
  | .hbm, ⟨6, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdDInZRefIdeal.lean ====
abbrev S16384x1024 : Shape := ⟨2, ![16384, 1024]⟩
abbrev S1024x5152 : Shape := ⟨2, ![1024, 5152]⟩
abbrev S16384x2048 : Shape := ⟨2, ![16384, 2048]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5152, .f32⟩
  | .hbm, ⟨2, _⟩ => ⟨S16384x2048, .f32⟩
  | .hbm, ⟨3, _⟩ => ⟨S1024x2048, .f32⟩
  | .hbm, ⟨4, _⟩ => ⟨S16384x2048, .f32⟩
  | .hbm, ⟨5, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SsdDInXbc.lean ====
abbrev S16384x1024 : Shape := ⟨2, ![16384, 1024]⟩
abbrev S1024x5152 : Shape := ⟨2, ![1024, 5152]⟩
abbrev S16384x3072 : Shape := ⟨2, ![16384, 3072]⟩
abbrev S1024x3072 : Shape := ⟨2, ![1024, 3072]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x5152, .f32⟩
  | .hbm, ⟨2, _⟩ => ⟨S16384x3072, .f32⟩
  | .hbm, ⟨3, _⟩ => ⟨S16384x1024, .f32⟩
  | .hbm, ⟨4, _⟩ => ⟨S1024x3072, .f32⟩
  | .hbm, ⟨5, _⟩ => ⟨S16384x3072, .bf16⟩
  | .hbm, ⟨6, _⟩ => ⟨S1024x3072, .bf16⟩
  | .hbm, ⟨7, _⟩ => ⟨S16384x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SsdDInXbcRefIdeal.lean ====
abbrev S16384x1024 : Shape := ⟨2, ![16384, 1024]⟩
abbrev S1024x5152 : Shape := ⟨2, ![1024, 5152]⟩
abbrev S16384x3072 : Shape := ⟨2, ![16384, 3072]⟩
abbrev S1024x3072 : Shape := ⟨2, ![1024, 3072]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5152, .f32⟩
  | .hbm, ⟨2, _⟩ => ⟨S16384x3072, .f32⟩
  | .hbm, ⟨3, _⟩ => ⟨S16384x1024, .f32⟩
  | .hbm, ⟨4, _⟩ => ⟨S1024x3072, .f32⟩
  | .hbm, ⟨5, _⟩ => ⟨S16384x3072, .f32⟩
  | .hbm, ⟨6, _⟩ => ⟨S16384x1024, .f32⟩
  | .hbm, ⟨7, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== SsdDWZ.lean ====
abbrev S16384x1024 : Shape := ⟨2, ![16384, 1024]⟩
abbrev S1024x2048 : Shape := ⟨2, ![1024, 2048]⟩
abbrev S16384x2048 : Shape := ⟨2, ![16384, 2048]⟩
abbrev S4096x1024 : Shape := ⟨2, ![4096, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | .hbm, ⟨3, _⟩ => ⟨S16384x1024, .bf16⟩
  | .hbm, ⟨4, _⟩ => ⟨S16384x2048, .bf16⟩
  | .hbm, ⟨5, _⟩ => ⟨S1024x2048, .bf16⟩
  | .hbm, ⟨6, _⟩ => ⟨S1024x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdDWZRefIdeal.lean ====
abbrev S16384x1024 : Shape := ⟨2, ![16384, 1024]⟩
abbrev S1024x2048 : Shape := ⟨2, ![1024, 2048]⟩
abbrev S16384x2048 : Shape := ⟨2, ![16384, 2048]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | .hbm, ⟨3, _⟩ => ⟨S16384x2048, .f32⟩
  | .hbm, ⟨4, _⟩ => ⟨S2048x1024, .f32⟩
  | .hbm, ⟨5, _⟩ => ⟨S1024x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SsdDWXbc.lean ====
abbrev S16384x1024 : Shape := ⟨2, ![16384, 1024]⟩
abbrev S1024x3072 : Shape := ⟨2, ![1024, 3072]⟩
abbrev S16384x3072 : Shape := ⟨2, ![16384, 3072]⟩
abbrev S4096x1024 : Shape := ⟨2, ![4096, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S16384x3072, .f32⟩
  | .hbm, ⟨3, _⟩ => ⟨S16384x1024, .bf16⟩
  | .hbm, ⟨4, _⟩ => ⟨S16384x3072, .bf16⟩
  | .hbm, ⟨5, _⟩ => ⟨S1024x3072, .bf16⟩
  | .hbm, ⟨6, _⟩ => ⟨S1024x3072, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdDWXbcRefIdeal.lean ====
abbrev S16384x1024 : Shape := ⟨2, ![16384, 1024]⟩
abbrev S1024x3072 : Shape := ⟨2, ![1024, 3072]⟩
abbrev S16384x3072 : Shape := ⟨2, ![16384, 3072]⟩
abbrev S3072x1024 : Shape := ⟨2, ![3072, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S16384x3072, .f32⟩
  | .hbm, ⟨3, _⟩ => ⟨S16384x3072, .f32⟩
  | .hbm, ⟨4, _⟩ => ⟨S3072x1024, .f32⟩
  | .hbm, ⟨5, _⟩ => ⟨S1024x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MlpIn.lean ====
abbrev S16384x1024 : Shape := ⟨2, ![16384, 1024]⟩
abbrev S1024x4096 : Shape := ⟨2, ![1024, 4096]⟩
abbrev S16384x4096 : Shape := ⟨2, ![16384, 4096]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S16384x1024, .bf16⟩
  | .hbm, ⟨3, _⟩ => ⟨S1024x4096, .bf16⟩
  | .hbm, ⟨4, _⟩ => ⟨S16384x4096, .bf16⟩
  | .hbm, ⟨5, _⟩ => ⟨S16384x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpInRefIdeal.lean ====
abbrev S16384x1024 : Shape := ⟨2, ![16384, 1024]⟩
abbrev S1024x4096 : Shape := ⟨2, ![1024, 4096]⟩
abbrev S16384x4096 : Shape := ⟨2, ![16384, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S16384x4096, .f32⟩
  | .hbm, ⟨3, _⟩ => ⟨S_, .f32⟩
  | .hbm, ⟨4, _⟩ => ⟨S16384x4096, .f32⟩
  | .hbm, ⟨5, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== MlpOut.lean ====
abbrev S16384x4096 : Shape := ⟨2, ![16384, 4096]⟩
abbrev S4096x1024 : Shape := ⟨2, ![4096, 1024]⟩
abbrev S1x1024 : Shape := ⟨2, ![1, 1024]⟩
abbrev S16384x1024 : Shape := ⟨2, ![16384, 1024]⟩
abbrev S512x4096 : Shape := ⟨2, ![512, 4096]⟩
abbrev S512x1024 : Shape := ⟨2, ![512, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S1x1024, .f32⟩
  | .hbm, ⟨3, _⟩ => ⟨S16384x1024, .f32⟩
  | .hbm, ⟨4, _⟩ => ⟨S16384x4096, .bf16⟩
  | .hbm, ⟨5, _⟩ => ⟨S4096x1024, .bf16⟩
  | .hbm, ⟨6, _⟩ => ⟨S16384x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== MlpOutRefIdeal.lean ====
abbrev S16384x4096 : Shape := ⟨2, ![16384, 4096]⟩
abbrev S4096x1024 : Shape := ⟨2, ![4096, 1024]⟩
abbrev S1x1024 : Shape := ⟨2, ![1, 1024]⟩
abbrev S16384x1024 : Shape := ⟨2, ![16384, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S1x1024, .f32⟩
  | .hbm, ⟨3, _⟩ => ⟨S16384x1024, .f32⟩
  | .hbm, ⟨4, _⟩ => ⟨S16384x4096, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== S5In.lean ====
abbrev S16384x1024 : Shape := ⟨2, ![16384, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .bf16⟩
  | .hbm, ⟨3, _⟩ => ⟨S1024x1024, .bf16⟩
  | .hbm, ⟨4, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== S5InRefIdeal.lean ====
abbrev S16384x1024 : Shape := ⟨2, ![16384, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== S5Glu.lean ====
abbrev S16384x1024 : Shape := ⟨2, ![16384, 1024]⟩
abbrev S1024x2048 : Shape := ⟨2, ![1024, 2048]⟩
abbrev S16384x2048 : Shape := ⟨2, ![16384, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x1024, .bf16⟩
  | .hbm, ⟨3, _⟩ => ⟨S1024x2048, .bf16⟩
  | .hbm, ⟨4, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== S5GluRefIdeal.lean ====
abbrev S16384x1024 : Shape := ⟨2, ![16384, 1024]⟩
abbrev S1024x2048 : Shape := ⟨2, ![1024, 2048]⟩
abbrev S16384x2048 : Shape := ⟨2, ![16384, 2048]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SsdZ.lean ====
abbrev S16384x1024 : Shape := ⟨2, ![16384, 1024]⟩
abbrev S1024x5152 : Shape := ⟨2, ![1024, 5152]⟩
abbrev S1024x2048 : Shape := ⟨2, ![1024, 2048]⟩
abbrev S16384x2048 : Shape := ⟨2, ![16384, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x5152, .f32⟩
  | .hbm, ⟨2, _⟩ => ⟨S1024x2048, .f32⟩
  | .hbm, ⟨3, _⟩ => ⟨S16384x1024, .bf16⟩
  | .hbm, ⟨4, _⟩ => ⟨S1024x2048, .bf16⟩
  | .hbm, ⟨5, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdZRefIdeal.lean ====
abbrev S16384x1024 : Shape := ⟨2, ![16384, 1024]⟩
abbrev S1024x5152 : Shape := ⟨2, ![1024, 5152]⟩
abbrev S16384x5152 : Shape := ⟨2, ![16384, 5152]⟩
abbrev S16384x2048 : Shape := ⟨2, ![16384, 2048]⟩
abbrev S16384x3072 : Shape := ⟨2, ![16384, 3072]⟩
abbrev S16384x32 : Shape := ⟨2, ![16384, 32]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5152, .f32⟩
  | .hbm, ⟨2, _⟩ => ⟨S16384x5152, .f32⟩
  | .hbm, ⟨3, _⟩ => ⟨S16384x2048, .f32⟩
  | .hbm, ⟨4, _⟩ => ⟨S16384x3072, .f32⟩
  | .hbm, ⟨5, _⟩ => ⟨S16384x32, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SsdXbc.lean ====
abbrev S16384x1024 : Shape := ⟨2, ![16384, 1024]⟩
abbrev S1024x5152 : Shape := ⟨2, ![1024, 5152]⟩
abbrev S1024x3072 : Shape := ⟨2, ![1024, 3072]⟩
abbrev S16384x3072 : Shape := ⟨2, ![16384, 3072]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x5152, .f32⟩
  | .hbm, ⟨2, _⟩ => ⟨S1024x3072, .f32⟩
  | .hbm, ⟨3, _⟩ => ⟨S16384x1024, .bf16⟩
  | .hbm, ⟨4, _⟩ => ⟨S1024x3072, .bf16⟩
  | .hbm, ⟨5, _⟩ => ⟨S16384x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdXbcRefIdeal.lean ====
abbrev S16384x1024 : Shape := ⟨2, ![16384, 1024]⟩
abbrev S1024x5152 : Shape := ⟨2, ![1024, 5152]⟩
abbrev S16384x5152 : Shape := ⟨2, ![16384, 5152]⟩
abbrev S16384x2048 : Shape := ⟨2, ![16384, 2048]⟩
abbrev S16384x3072 : Shape := ⟨2, ![16384, 3072]⟩
abbrev S16384x32 : Shape := ⟨2, ![16384, 32]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5152, .f32⟩
  | .hbm, ⟨2, _⟩ => ⟨S16384x5152, .f32⟩
  | .hbm, ⟨3, _⟩ => ⟨S16384x2048, .f32⟩
  | .hbm, ⟨4, _⟩ => ⟨S16384x3072, .f32⟩
  | .hbm, ⟨5, _⟩ => ⟨S16384x32, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SsdOut.lean ====
abbrev S16384x2048 : Shape := ⟨2, ![16384, 2048]⟩
abbrev S2048x1024 : Shape := ⟨2, ![2048, 1024]⟩
abbrev S1x1024 : Shape := ⟨2, ![1, 1024]⟩
abbrev S16384x1024 : Shape := ⟨2, ![16384, 1024]⟩
abbrev S1024x2048 : Shape := ⟨2, ![1024, 2048]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S1x1024, .f32⟩
  | .hbm, ⟨3, _⟩ => ⟨S16384x1024, .f32⟩
  | .hbm, ⟨4, _⟩ => ⟨S16384x2048, .bf16⟩
  | .hbm, ⟨5, _⟩ => ⟨S2048x1024, .bf16⟩
  | .hbm, ⟨6, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== SsdOutRefIdeal.lean ====
abbrev S16384x2048 : Shape := ⟨2, ![16384, 2048]⟩
abbrev S2048x1024 : Shape := ⟨2, ![2048, 1024]⟩
abbrev S1x1024 : Shape := ⟨2, ![1, 1024]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S1x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== SsdDt.lean ====
abbrev S16384x1024 : Shape := ⟨2, ![16384, 1024]⟩
abbrev S1024x5152 : Shape := ⟨2, ![1024, 5152]⟩
abbrev S1024x32 : Shape := ⟨2, ![1024, 32]⟩
abbrev S_ : Shape := ⟨0, ![]⟩
abbrev S1024x128 : Shape := ⟨2, ![1024, 128]⟩
abbrev S1 : Shape := ⟨1, ![1]⟩
abbrev S16384x128 : Shape := ⟨2, ![16384, 128]⟩
abbrev S1024x1024 : Shape := ⟨2, ![1024, 1024]⟩
abbrev S16384x32 : Shape := ⟨2, ![16384, 32]⟩

abbrev nBuf : Space → Nat
  | .hbm => 12
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x5152, .f32⟩
  | .hbm, ⟨2, _⟩ => ⟨S1024x32, .f32⟩
  | .hbm, ⟨3, _⟩ => ⟨S16384x1024, .bf16⟩
  | .hbm, ⟨4, _⟩ => ⟨S1024x32, .bf16⟩
  | .hbm, ⟨5, _⟩ => ⟨S_, .bf16⟩
  | .hbm, ⟨6, _⟩ => ⟨S1024x128, .bf16⟩
  | .hbm, ⟨7, _⟩ => ⟨S_, .i32⟩
  | .hbm, ⟨8, _⟩ => ⟨S1, .i32⟩
  | .hbm, ⟨9, _⟩ => ⟨S1024x128, .bf16⟩
  | .hbm, ⟨10, _⟩ => ⟨S16384x128, .f32⟩
  | .hbm, ⟨11, _⟩ => ⟨S16384x32, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdDtRefIdeal.lean ====
abbrev S16384x1024 : Shape := ⟨2, ![16384, 1024]⟩
abbrev S1024x5152 : Shape := ⟨2, ![1024, 5152]⟩
abbrev S16384x5152 : Shape := ⟨2, ![16384, 5152]⟩
abbrev S16384x2048 : Shape := ⟨2, ![16384, 2048]⟩
abbrev S16384x3072 : Shape := ⟨2, ![16384, 3072]⟩
abbrev S16384x32 : Shape := ⟨2, ![16384, 32]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5152, .f32⟩
  | .hbm, ⟨2, _⟩ => ⟨S16384x5152, .f32⟩
  | .hbm, ⟨3, _⟩ => ⟨S16384x2048, .f32⟩
  | .hbm, ⟨4, _⟩ => ⟨S16384x3072, .f32⟩
  | .hbm, ⟨5, _⟩ => ⟨S16384x32, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SsdDWDt.lean ====
abbrev S16384x1024 : Shape := ⟨2, ![16384, 1024]⟩
abbrev S1024x32 : Shape := ⟨2, ![1024, 32]⟩
abbrev S16384x32 : Shape := ⟨2, ![16384, 32]⟩
abbrev S_ : Shape := ⟨0, ![]⟩
abbrev S16384x128 : Shape := ⟨2, ![16384, 128]⟩
abbrev S1 : Shape := ⟨1, ![1]⟩
abbrev S1024x128 : Shape := ⟨2, ![1024, 128]⟩
abbrev S4096x1024 : Shape := ⟨2, ![4096, 1024]⟩
abbrev S4096x128 : Shape := ⟨2, ![4096, 128]⟩

abbrev nBuf : Space → Nat
  | .hbm => 12
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x32, .f32⟩
  | .hbm, ⟨2, _⟩ => ⟨S16384x32, .f32⟩
  | .hbm, ⟨3, _⟩ => ⟨S16384x1024, .bf16⟩
  | .hbm, ⟨4, _⟩ => ⟨S_, .f32⟩
  | .hbm, ⟨5, _⟩ => ⟨S16384x128, .f32⟩
  | .hbm, ⟨6, _⟩ => ⟨S_, .i32⟩
  | .hbm, ⟨7, _⟩ => ⟨S1, .i32⟩
  | .hbm, ⟨8, _⟩ => ⟨S16384x128, .f32⟩
  | .hbm, ⟨9, _⟩ => ⟨S1024x128, .bf16⟩
  | .hbm, ⟨10, _⟩ => ⟨S1024x32, .bf16⟩
  | .hbm, ⟨11, _⟩ => ⟨S1024x32, .f32⟩
  | .local _ .vmem, ⟨0, _⟩ => ⟨S4096x1024, .bf16⟩
  | .local _ .vmem, ⟨1, _⟩ => ⟨S4096x1024, .bf16⟩
  | .local _ .vmem, ⟨2, _⟩ => ⟨S4096x128, .f32⟩
  | .local _ .vmem, ⟨3, _⟩ => ⟨S4096x128, .f32⟩
  | .local _ .vmem, ⟨4, _⟩ => ⟨S1024x128, .bf16⟩
  | .local _ .vmem, ⟨5, _⟩ => ⟨S1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SsdDWDtRefIdeal.lean ====
abbrev S16384x1024 : Shape := ⟨2, ![16384, 1024]⟩
abbrev S1024x32 : Shape := ⟨2, ![1024, 32]⟩
abbrev S16384x32 : Shape := ⟨2, ![16384, 32]⟩
abbrev S32x1024 : Shape := ⟨2, ![32, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x32, .f32⟩
  | .hbm, ⟨2, _⟩ => ⟨S16384x32, .f32⟩
  | .hbm, ⟨3, _⟩ => ⟨S16384x32, .f32⟩
  | .hbm, ⟨4, _⟩ => ⟨S32x1024, .f32⟩
  | .hbm, ⟨5, _⟩ => ⟨S1024x32, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SsdDInDt.lean ====
abbrev S16384x1024 : Shape := ⟨2, ![16384, 1024]⟩
abbrev S1024x5152 : Shape := ⟨2, ![1024, 5152]⟩
abbrev S16384x32 : Shape := ⟨2, ![16384, 32]⟩
abbrev S_ : Shape := ⟨0, ![]⟩
abbrev S16384x128 : Shape := ⟨2, ![16384, 128]⟩
abbrev S1 : Shape := ⟨1, ![1]⟩
abbrev S1024x32 : Shape := ⟨2, ![1024, 32]⟩
abbrev S1024x128 : Shape := ⟨2, ![1024, 128]⟩
abbrev S1024x1024 : Shape := ⟨2, ![1024, 1024]⟩

abbrev nBuf : Space → Nat
  | .hbm => 17
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x5152, .f32⟩
  | .hbm, ⟨2, _⟩ => ⟨S16384x32, .f32⟩
  | .hbm, ⟨3, _⟩ => ⟨S16384x1024, .f32⟩
  | .hbm, ⟨4, _⟩ => ⟨S_, .f32⟩
  | .hbm, ⟨5, _⟩ => ⟨S16384x128, .f32⟩
  | .hbm, ⟨6, _⟩ => ⟨S_, .i32⟩
  | .hbm, ⟨7, _⟩ => ⟨S1, .i32⟩
  | .hbm, ⟨8, _⟩ => ⟨S16384x128, .f32⟩
  | .hbm, ⟨9, _⟩ => ⟨S1024x32, .f32⟩
  | .hbm, ⟨10, _⟩ => ⟨S1024x32, .bf16⟩
  | .hbm, ⟨11, _⟩ => ⟨S_, .bf16⟩
  | .hbm, ⟨12, _⟩ => ⟨S1024x128, .bf16⟩
  | .hbm, ⟨13, _⟩ => ⟨S_, .i32⟩
  | .hbm, ⟨14, _⟩ => ⟨S1, .i32⟩
  | .hbm, ⟨15, _⟩ => ⟨S1024x128, .bf16⟩
  | .hbm, ⟨16, _⟩ => ⟨S16384x1024, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SsdDInDtRefIdeal.lean ====
abbrev S16384x1024 : Shape := ⟨2, ![16384, 1024]⟩
abbrev S1024x5152 : Shape := ⟨2, ![1024, 5152]⟩
abbrev S16384x32 : Shape := ⟨2, ![16384, 32]⟩
abbrev S1024x32 : Shape := ⟨2, ![1024, 32]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5152, .f32⟩
  | .hbm, ⟨2, _⟩ => ⟨S16384x32, .f32⟩
  | .hbm, ⟨3, _⟩ => ⟨S16384x1024, .f32⟩
  | .hbm, ⟨4, _⟩ => ⟨S1024x32, .f32⟩
  | .hbm, ⟨5, _⟩ => ⟨S16384x32, .f32⟩
  | .hbm, ⟨6, _⟩ => ⟨S16384x1024, .f32⟩
  | .hbm, ⟨7, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== NormMod.lean ====
abbrev S16384x1024 : Shape := ⟨2, ![16384, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S16384x1024, .bf16⟩
  | .hbm, ⟨6, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormModRefIdeal.lean ====
abbrev S16384x1024 : Shape := ⟨2, ![16384, 1024]⟩
abbrev S1024 : Shape := ⟨1, ![1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Gelu.lean ====
abbrev S16384x1024 : Shape := ⟨2, ![16384, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S16384x1024, .bf16⟩
  | .hbm, ⟨4, _⟩ => ⟨S1x1024, .f32⟩
  | .hbm, ⟨5, _⟩ => ⟨S16384x1024, .bf16⟩
  | .hbm, ⟨6, _⟩ => ⟨S16384x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GeluRefIdeal.lean ====
abbrev S16384x1024 : Shape := ⟨2, ![16384, 1024]⟩
abbrev S1024 : Shape := ⟨1, ![1024]⟩
abbrev S1x1024 : Shape := ⟨2, ![1, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Glu.lean ====
abbrev S16384x2048 : Shape := ⟨2, ![16384, 2048]⟩
abbrev S2048 : Shape := ⟨1, ![2048]⟩
abbrev S16384x1024 : Shape := ⟨2, ![16384, 1024]⟩
abbrev S1x1024 : Shape := ⟨2, ![1, 1024]⟩
abbrev S1x2048 : Shape := ⟨2, ![1, 2048]⟩
abbrev S256x2048 : Shape := ⟨2, ![256, 2048]⟩
abbrev S256x1024 : Shape := ⟨2, ![256, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x1024, .f32⟩
  | .hbm, ⟨3, _⟩ => ⟨S1x1024, .f32⟩
  | .hbm, ⟨4, _⟩ => ⟨S1x2048, .f32⟩
  | .hbm, ⟨5, _⟩ => ⟨S16384x1024, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S1x2048, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GluRefIdeal.lean ====
abbrev S16384x2048 : Shape := ⟨2, ![16384, 2048]⟩
abbrev S2048 : Shape := ⟨1, ![2048]⟩
abbrev S16384x1024 : Shape := ⟨2, ![16384, 1024]⟩
abbrev S1x1024 : Shape := ⟨2, ![1, 1024]⟩
abbrev S1x2048 : Shape := ⟨2, ![1, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x1024, .f32⟩
  | .hbm, ⟨3, _⟩ => ⟨S1x1024, .f32⟩
  | .hbm, ⟨4, _⟩ => ⟨S1x2048, .f32⟩
  | .hbm, ⟨5, _⟩ => ⟨S16384x2048, .f32⟩
  | .hbm, ⟨6, _⟩ => ⟨S16384x2048, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== GluGrad.lean ====
abbrev S16384x2048 : Shape := ⟨2, ![16384, 2048]⟩
abbrev S2048 : Shape := ⟨1, ![2048]⟩
abbrev S1x1024 : Shape := ⟨2, ![1, 1024]⟩
abbrev S16384x1024 : Shape := ⟨2, ![16384, 1024]⟩
abbrev S1x2048 : Shape := ⟨2, ![1, 2048]⟩
abbrev S256x2048 : Shape := ⟨2, ![256, 2048]⟩
abbrev S256x1024 : Shape := ⟨2, ![256, 1024]⟩
abbrev S1024 : Shape := ⟨1, ![1024]⟩

abbrev nBuf : Space → Nat
  | .hbm => 10
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x1024, .f32⟩
  | .hbm, ⟨3, _⟩ => ⟨S16384x1024, .f32⟩
  | .hbm, ⟨4, _⟩ => ⟨S1x2048, .f32⟩
  | .hbm, ⟨5, _⟩ => ⟨S16384x2048, .bf16⟩
  | .hbm, ⟨6, _⟩ => ⟨S1x2048, .f32⟩
  | .hbm, ⟨7, _⟩ => ⟨S1x1024, .f32⟩
  | .hbm, ⟨8, _⟩ => ⟨S16384x2048, .f32⟩
  | .hbm, ⟨9, _⟩ => ⟨S2048, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S1x2048, .f32⟩
  | .local _ .vmem, ⟨5, _⟩ => ⟨S1x1024, .f32⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GluGradRefIdeal.lean ====
abbrev S16384x2048 : Shape := ⟨2, ![16384, 2048]⟩
abbrev S2048 : Shape := ⟨1, ![2048]⟩
abbrev S1x1024 : Shape := ⟨2, ![1, 1024]⟩
abbrev S16384x1024 : Shape := ⟨2, ![16384, 1024]⟩
abbrev S1x2048 : Shape := ⟨2, ![1, 2048]⟩
abbrev S_ : Shape := ⟨0, ![]⟩
abbrev S1024 : Shape := ⟨1, ![1024]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x1024, .f32⟩
  | .hbm, ⟨3, _⟩ => ⟨S16384x1024, .f32⟩
  | .hbm, ⟨4, _⟩ => ⟨S1x2048, .f32⟩
  | .hbm, ⟨5, _⟩ => ⟨S16384x2048, .f32⟩
  | .hbm, ⟨6, _⟩ => ⟨S16384x2048, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S_, .f32⟩
  | .hbm, ⟨38, _⟩ => ⟨S2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== GateNorm.lean ====
abbrev S16384x2048 : Shape := ⟨2, ![16384, 2048]⟩
abbrev S2048 : Shape := ⟨1, ![2048]⟩
abbrev S1x2048 : Shape := ⟨2, ![1, 2048]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩
abbrev S1x512 : Shape := ⟨2, ![1, 512]⟩

abbrev nBuf : Space → Nat
  | .hbm => 6
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S1x2048, .f32⟩
  | .hbm, ⟨4, _⟩ => ⟨S16384x2048, .bf16⟩
  | .hbm, ⟨5, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GateNormRefIdeal.lean ====
abbrev S16384x2048 : Shape := ⟨2, ![16384, 2048]⟩
abbrev S2048 : Shape := ⟨1, ![2048]⟩
abbrev S_ : Shape := ⟨0, ![]⟩
abbrev S16384x4x512 : Shape := ⟨3, ![16384, 4, 512]⟩
abbrev S16384x4 : Shape := ⟨2, ![16384, 4]⟩
abbrev S16384x4x1 : Shape := ⟨3, ![16384, 4, 1]⟩
abbrev S1x2048 : Shape := ⟨2, ![1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S16384x2048, .f32⟩
  | .hbm, ⟨4, _⟩ => ⟨S16384x2048, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x4x512, .f32⟩
  | .hbm, ⟨14, _⟩ => ⟨S16384x4x512, .f32⟩
  | .hbm, ⟨15, _⟩ => ⟨S_, .f32⟩
  | .hbm, ⟨16, _⟩ => ⟨S16384x4, .f32⟩
  | .hbm, ⟨17, _⟩ => ⟨S16384x4x1, .f32⟩
  | .hbm, ⟨18, _⟩ => ⟨S_, .f32⟩
  | .hbm, ⟨19, _⟩ => ⟨S16384x4x1, .f32⟩
  | .hbm, ⟨20, _⟩ => ⟨S16384x4x1, .f32⟩
  | .hbm, ⟨21, _⟩ => ⟨S_, .f32⟩
  | .hbm, ⟨22, _⟩ => ⟨S16384x4x1, .f32⟩
  | .hbm, ⟨23, _⟩ => ⟨S16384x4x1, .f32⟩
  | .hbm, ⟨24, _⟩ => ⟨S16384x4x1, .f32⟩
  | .hbm, ⟨25, _⟩ => ⟨S16384x4x512, .f32⟩
  | .hbm, ⟨26, _⟩ => ⟨S16384x4x512, .f32⟩
  | .hbm, ⟨27, _⟩ => ⟨S16384x2048, .f32⟩
  | .hbm, ⟨28, _⟩ => ⟨S1x2048, .f32⟩
  | .hbm, ⟨29, _⟩ => ⟨S16384x2048, .f32⟩
  | .hbm, ⟨30, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]
-- ==== AdamMlp.lean ====
abbrev S4096x1024 : Shape := ⟨2, ![4096, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamMlpIdeal.lean ====
abbrev S4096x1024 : Shape := ⟨2, ![4096, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamMlpRefIdeal.lean ====
abbrev S4096x1024 : Shape := ⟨2, ![4096, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamS5In.lean ====
abbrev S512x1024 : Shape := ⟨2, ![512, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamS5InIdeal.lean ====
abbrev S512x1024 : Shape := ⟨2, ![512, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamS5InRefIdeal.lean ====
abbrev S512x1024 : Shape := ⟨2, ![512, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S_, .f32⟩
  | .hbm, ⟨7, _⟩ => ⟨S512x1024, .f32⟩
  | .hbm, ⟨8, _⟩ => ⟨S512x1024, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S_, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S_, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S_, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S512x1024, .f32⟩
  | .hbm, ⟨36, _⟩ => ⟨S_, .f32⟩
  | .hbm, ⟨37, _⟩ => ⟨S512x1024, .f32⟩
  | .hbm, ⟨38, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamS5Glu.lean ====
abbrev S2048x512 : Shape := ⟨2, ![2048, 512]⟩
abbrev S256x512 : Shape := ⟨2, ![256, 512]⟩

abbrev nBuf : Space → Nat
  | .hbm => 9
  | .vmem => 18
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamS5GluIdeal.lean ====
abbrev S2048x512 : Shape := ⟨2, ![2048, 512]⟩
abbrev S256x512 : Shape := ⟨2, ![256, 512]⟩

abbrev nBuf : Space → Nat
  | .hbm => 9
  | .vmem => 18
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamS5GluRefIdeal.lean ====
abbrev S2048x512 : Shape := ⟨2, ![2048, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S_, .f32⟩
  | .hbm, ⟨7, _⟩ => ⟨S2048x512, .f32⟩
  | .hbm, ⟨8, _⟩ => ⟨S2048x512, .f32⟩
  | .hbm, ⟨9, _⟩ => ⟨S_, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S_, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S_, .f32⟩
  | .hbm, ⟨22, _⟩ => ⟨S2048x512, .f32⟩
  | .hbm, ⟨23, _⟩ => ⟨S2048x512, .f32⟩
  | .hbm, ⟨24, _⟩ => ⟨S_, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S_, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S_, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S_, .f32⟩
  | .hbm, ⟨37, _⟩ => ⟨S2048x512, .f32⟩
  | .hbm, ⟨38, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSsdIn.lean ====
abbrev S2048x1288 : Shape := ⟨2, ![2048, 1288]⟩
abbrev S256x1288 : Shape := ⟨2, ![256, 1288]⟩

abbrev nBuf : Space → Nat
  | .hbm => 9
  | .vmem => 18
  | .smem => 0
  | _ => 0

abbrev bufTy : (tb : Table) → Fin (tcTables nBuf tb) → BufTy
  | .hbm, ⟨0, _⟩ => ⟨S2048x1288, .f32⟩
  | .hbm, ⟨1, _⟩ => ⟨S2048x1288, .f32⟩
  | .hbm, ⟨2, _⟩ => ⟨S2048x1288, .f32⟩
  | .hbm, ⟨3, _⟩ => ⟨S2048x1288, .f32⟩
  | .hbm, ⟨4, _⟩ => ⟨S2048x1288, .f32⟩
  | .hbm, ⟨5, _⟩ => ⟨S2048x1288, .f32⟩
  | .hbm, ⟨6, _⟩ => ⟨S2048x1288, .f32⟩
  | .hbm, ⟨7, _⟩ => ⟨S2048x1288, .f32⟩
  | .hbm, ⟨8, _⟩ => ⟨S2048x1288, .f32⟩
  | .local _ .vmem, ⟨0, _⟩ => ⟨S256x1288, .f32⟩
  | .local _ .vmem, ⟨1, _⟩ => ⟨S256x1288, .f32⟩
  | .local _ .vmem, ⟨2, _⟩ => ⟨S256x1288, .f32⟩
  | .local _ .vmem, ⟨3, _⟩ => ⟨S256x1288, .f32⟩
  | .local _ .vmem, ⟨4, _⟩ => ⟨S256x1288, .f32⟩
  | .local _ .vmem, ⟨5, _⟩ => ⟨S256x1288, .f32⟩
  | .local _ .vmem, ⟨6, _⟩ => ⟨S256x1288, .f32⟩
  | .local _ .vmem, ⟨7, _⟩ => ⟨S256x1288, .f32⟩
  | .local _ .vmem, ⟨8, _⟩ => ⟨S256x1288, .f32⟩
  | .local _ .vmem, ⟨9, _⟩ => ⟨S256x1288, .f32⟩
  | .local _ .vmem, ⟨10, _⟩ => ⟨S256x1288, .f32⟩
  | .local _ .vmem, ⟨11, _⟩ => ⟨S256x1288, .f32⟩
  | .local _ .vmem, ⟨12, _⟩ => ⟨S256x1288, .f32⟩
  | .local _ .vmem, ⟨13, _⟩ => ⟨S256x1288, .f32⟩
  | .local _ .vmem, ⟨14, _⟩ => ⟨S256x1288, .f32⟩
  | .local _ .vmem, ⟨15, _⟩ => ⟨S256x1288, .f32⟩
  | .local _ .vmem, ⟨16, _⟩ => ⟨S256x1288, .f32⟩
  | .local _ .vmem, ⟨17, _⟩ => ⟨S256x1288, .f32⟩
  | _, _ => ⟨S2048x1288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1288 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1288 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1288 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1288 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1288 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamSsdInIdeal.lean ====
abbrev S2048x1288 : Shape := ⟨2, ![2048, 1288]⟩
abbrev S256x1288 : Shape := ⟨2, ![256, 1288]⟩

abbrev nBuf : Space → Nat
  | .hbm => 9
  | .vmem => 18
  | .smem => 0
  | _ => 0

abbrev bufTy : (tb : Table) → Fin (tcTables nBuf tb) → BufTy
  | .hbm, ⟨0, _⟩ => ⟨S2048x1288, .f32⟩
  | .hbm, ⟨1, _⟩ => ⟨S2048x1288, .f32⟩
  | .hbm, ⟨2, _⟩ => ⟨S2048x1288, .f32⟩
  | .hbm, ⟨3, _⟩ => ⟨S2048x1288, .f32⟩
  | .hbm, ⟨4, _⟩ => ⟨S2048x1288, .f32⟩
  | .hbm, ⟨5, _⟩ => ⟨S2048x1288, .f32⟩
  | .hbm, ⟨6, _⟩ => ⟨S2048x1288, .f32⟩
  | .hbm, ⟨7, _⟩ => ⟨S2048x1288, .f32⟩
  | .hbm, ⟨8, _⟩ => ⟨S2048x1288, .f32⟩
  | .local _ .vmem, ⟨0, _⟩ => ⟨S256x1288, .f32⟩
  | .local _ .vmem, ⟨1, _⟩ => ⟨S256x1288, .f32⟩
  | .local _ .vmem, ⟨2, _⟩ => ⟨S256x1288, .f32⟩
  | .local _ .vmem, ⟨3, _⟩ => ⟨S256x1288, .f32⟩
  | .local _ .vmem, ⟨4, _⟩ => ⟨S256x1288, .f32⟩
  | .local _ .vmem, ⟨5, _⟩ => ⟨S256x1288, .f32⟩
  | .local _ .vmem, ⟨6, _⟩ => ⟨S256x1288, .f32⟩
  | .local _ .vmem, ⟨7, _⟩ => ⟨S256x1288, .f32⟩
  | .local _ .vmem, ⟨8, _⟩ => ⟨S256x1288, .f32⟩
  | .local _ .vmem, ⟨9, _⟩ => ⟨S256x1288, .f32⟩
  | .local _ .vmem, ⟨10, _⟩ => ⟨S256x1288, .f32⟩
  | .local _ .vmem, ⟨11, _⟩ => ⟨S256x1288, .f32⟩
  | .local _ .vmem, ⟨12, _⟩ => ⟨S256x1288, .f32⟩
  | .local _ .vmem, ⟨13, _⟩ => ⟨S256x1288, .f32⟩
  | .local _ .vmem, ⟨14, _⟩ => ⟨S256x1288, .f32⟩
  | .local _ .vmem, ⟨15, _⟩ => ⟨S256x1288, .f32⟩
  | .local _ .vmem, ⟨16, _⟩ => ⟨S256x1288, .f32⟩
  | .local _ .vmem, ⟨17, _⟩ => ⟨S256x1288, .f32⟩
  | _, _ => ⟨S2048x1288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1288 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1288 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1288 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1288 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1288 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamSsdInRefIdeal.lean ====
abbrev S2048x1288 : Shape := ⟨2, ![2048, 1288]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x1288, .f32⟩
  | .hbm, ⟨1, _⟩ => ⟨S2048x1288, .f32⟩
  | .hbm, ⟨2, _⟩ => ⟨S2048x1288, .f32⟩
  | .hbm, ⟨3, _⟩ => ⟨S2048x1288, .f32⟩
  | .hbm, ⟨4, _⟩ => ⟨S2048x1288, .f32⟩
  | .hbm, ⟨5, _⟩ => ⟨S2048x1288, .f32⟩
  | .hbm, ⟨6, _⟩ => ⟨S_, .f32⟩
  | .hbm, ⟨7, _⟩ => ⟨S2048x1288, .f32⟩
  | .hbm, ⟨8, _⟩ => ⟨S2048x1288, .f32⟩
  | .hbm, ⟨9, _⟩ => ⟨S_, .f32⟩
  | .hbm, ⟨10, _⟩ => ⟨S2048x1288, .f32⟩
  | .hbm, ⟨11, _⟩ => ⟨S2048x1288, .f32⟩
  | .hbm, ⟨12, _⟩ => ⟨S2048x1288, .f32⟩
  | .hbm, ⟨13, _⟩ => ⟨S_, .f32⟩
  | .hbm, ⟨14, _⟩ => ⟨S2048x1288, .f32⟩
  | .hbm, ⟨15, _⟩ => ⟨S2048x1288, .f32⟩
  | .hbm, ⟨16, _⟩ => ⟨S2048x1288, .f32⟩
  | .hbm, ⟨17, _⟩ => ⟨S_, .f32⟩
  | .hbm, ⟨18, _⟩ => ⟨S2048x1288, .f32⟩
  | .hbm, ⟨19, _⟩ => ⟨S2048x1288, .f32⟩
  | .hbm, ⟨20, _⟩ => ⟨S2048x1288, .f32⟩
  | .hbm, ⟨21, _⟩ => ⟨S_, .f32⟩
  | .hbm, ⟨22, _⟩ => ⟨S2048x1288, .f32⟩
  | .hbm, ⟨23, _⟩ => ⟨S2048x1288, .f32⟩
  | .hbm, ⟨24, _⟩ => ⟨S_, .f32⟩
  | .hbm, ⟨25, _⟩ => ⟨S2048x1288, .f32⟩
  | .hbm, ⟨26, _⟩ => ⟨S2048x1288, .f32⟩
  | .hbm, ⟨27, _⟩ => ⟨S2048x1288, .f32⟩
  | .hbm, ⟨28, _⟩ => ⟨S_, .f32⟩
  | .hbm, ⟨29, _⟩ => ⟨S2048x1288, .f32⟩
  | .hbm, ⟨30, _⟩ => ⟨S2048x1288, .f32⟩
  | .hbm, ⟨31, _⟩ => ⟨S2048x1288, .f32⟩
  | .hbm, ⟨32, _⟩ => ⟨S_, .f32⟩
  | .hbm, ⟨33, _⟩ => ⟨S2048x1288, .f32⟩
  | .hbm, ⟨34, _⟩ => ⟨S2048x1288, .f32⟩
  | .hbm, ⟨35, _⟩ => ⟨S2048x1288, .f32⟩
  | .hbm, ⟨36, _⟩ => ⟨S_, .f32⟩
  | .hbm, ⟨37, _⟩ => ⟨S2048x1288, .f32⟩
  | .hbm, ⟨38, _⟩ => ⟨S2048x1288, .f32⟩
  | _, _ => ⟨S2048x1288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSsdOut.lean ====
abbrev S1024x1024 : Shape := ⟨2, ![1024, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamSsdOutIdeal.lean ====
abbrev S1024x1024 : Shape := ⟨2, ![1024, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamSsdOutRefIdeal.lean ====
abbrev S1024x1024 : Shape := ⟨2, ![1024, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamConvW.lean ====
abbrev S8x768 : Shape := ⟨2, ![8, 768]⟩

abbrev nBuf : Space → Nat
  | .hbm => 9
  | .vmem => 9
  | .smem => 0
  | _ => 0

abbrev bufTy : (tb : Table) → Fin (tcTables nBuf tb) → BufTy
  | .hbm, ⟨0, _⟩ => ⟨S8x768, .f32⟩
  | .hbm, ⟨1, _⟩ => ⟨S8x768, .f32⟩
  | .hbm, ⟨2, _⟩ => ⟨S8x768, .f32⟩
  | .hbm, ⟨3, _⟩ => ⟨S8x768, .f32⟩
  | .hbm, ⟨4, _⟩ => ⟨S8x768, .f32⟩
  | .hbm, ⟨5, _⟩ => ⟨S8x768, .f32⟩
  | .hbm, ⟨6, _⟩ => ⟨S8x768, .f32⟩
  | .hbm, ⟨7, _⟩ => ⟨S8x768, .f32⟩
  | .hbm, ⟨8, _⟩ => ⟨S8x768, .f32⟩
  | .local _ .vmem, ⟨0, _⟩ => ⟨S8x768, .f32⟩
  | .local _ .vmem, ⟨1, _⟩ => ⟨S8x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S8x768, .f32⟩
  | .local _ .vmem, ⟨6, _⟩ => ⟨S8x768, .f32⟩
  | .local _ .vmem, ⟨7, _⟩ => ⟨S8x768, .f32⟩
  | .local _ .vmem, ⟨8, _⟩ => ⟨S8x768, .f32⟩
  | _, _ => ⟨S8x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamConvWIdeal.lean ====
abbrev S8x768 : Shape := ⟨2, ![8, 768]⟩

abbrev nBuf : Space → Nat
  | .hbm => 9
  | .vmem => 9
  | .smem => 0
  | _ => 0

abbrev bufTy : (tb : Table) → Fin (tcTables nBuf tb) → BufTy
  | .hbm, ⟨0, _⟩ => ⟨S8x768, .f32⟩
  | .hbm, ⟨1, _⟩ => ⟨S8x768, .f32⟩
  | .hbm, ⟨2, _⟩ => ⟨S8x768, .f32⟩
  | .hbm, ⟨3, _⟩ => ⟨S8x768, .f32⟩
  | .hbm, ⟨4, _⟩ => ⟨S8x768, .f32⟩
  | .hbm, ⟨5, _⟩ => ⟨S8x768, .f32⟩
  | .hbm, ⟨6, _⟩ => ⟨S8x768, .f32⟩
  | .hbm, ⟨7, _⟩ => ⟨S8x768, .f32⟩
  | .hbm, ⟨8, _⟩ => ⟨S8x768, .f32⟩
  | .local _ .vmem, ⟨0, _⟩ => ⟨S8x768, .f32⟩
  | .local _ .vmem, ⟨1, _⟩ => ⟨S8x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S8x768, .f32⟩
  | .local _ .vmem, ⟨6, _⟩ => ⟨S8x768, .f32⟩
  | .local _ .vmem, ⟨7, _⟩ => ⟨S8x768, .f32⟩
  | .local _ .vmem, ⟨8, _⟩ => ⟨S8x768, .f32⟩
  | _, _ => ⟨S8x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamConvWRefIdeal.lean ====
abbrev S8x768 : Shape := ⟨2, ![8, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x768, .f32⟩
  | .hbm, ⟨1, _⟩ => ⟨S8x768, .f32⟩
  | .hbm, ⟨2, _⟩ => ⟨S8x768, .f32⟩
  | .hbm, ⟨3, _⟩ => ⟨S8x768, .f32⟩
  | .hbm, ⟨4, _⟩ => ⟨S8x768, .f32⟩
  | .hbm, ⟨5, _⟩ => ⟨S8x768, .f32⟩
  | .hbm, ⟨6, _⟩ => ⟨S_, .f32⟩
  | .hbm, ⟨7, _⟩ => ⟨S8x768, .f32⟩
  | .hbm, ⟨8, _⟩ => ⟨S8x768, .f32⟩
  | .hbm, ⟨9, _⟩ => ⟨S_, .f32⟩
  | .hbm, ⟨10, _⟩ => ⟨S8x768, .f32⟩
  | .hbm, ⟨11, _⟩ => ⟨S8x768, .f32⟩
  | .hbm, ⟨12, _⟩ => ⟨S8x768, .f32⟩
  | .hbm, ⟨13, _⟩ => ⟨S_, .f32⟩
  | .hbm, ⟨14, _⟩ => ⟨S8x768, .f32⟩
  | .hbm, ⟨15, _⟩ => ⟨S8x768, .f32⟩
  | .hbm, ⟨16, _⟩ => ⟨S8x768, .f32⟩
  | .hbm, ⟨17, _⟩ => ⟨S_, .f32⟩
  | .hbm, ⟨18, _⟩ => ⟨S8x768, .f32⟩
  | .hbm, ⟨19, _⟩ => ⟨S8x768, .f32⟩
  | .hbm, ⟨20, _⟩ => ⟨S8x768, .f32⟩
  | .hbm, ⟨21, _⟩ => ⟨S_, .f32⟩
  | .hbm, ⟨22, _⟩ => ⟨S8x768, .f32⟩
  | .hbm, ⟨23, _⟩ => ⟨S8x768, .f32⟩
  | .hbm, ⟨24, _⟩ => ⟨S_, .f32⟩
  | .hbm, ⟨25, _⟩ => ⟨S8x768, .f32⟩
  | .hbm, ⟨26, _⟩ => ⟨S8x768, .f32⟩
  | .hbm, ⟨27, _⟩ => ⟨S8x768, .f32⟩
  | .hbm, ⟨28, _⟩ => ⟨S_, .f32⟩
  | .hbm, ⟨29, _⟩ => ⟨S8x768, .f32⟩
  | .hbm, ⟨30, _⟩ => ⟨S8x768, .f32⟩
  | .hbm, ⟨31, _⟩ => ⟨S8x768, .f32⟩
  | .hbm, ⟨32, _⟩ => ⟨S_, .f32⟩
  | .hbm, ⟨33, _⟩ => ⟨S8x768, .f32⟩
  | .hbm, ⟨34, _⟩ => ⟨S8x768, .f32⟩
  | .hbm, ⟨35, _⟩ => ⟨S8x768, .f32⟩
  | .hbm, ⟨36, _⟩ => ⟨S_, .f32⟩
  | .hbm, ⟨37, _⟩ => ⟨S8x768, .f32⟩
  | .hbm, ⟨38, _⟩ => ⟨S8x768, .f32⟩
  | _, _ => ⟨S8x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamConvB.lean ====
abbrev S2x768 : Shape := ⟨2, ![2, 768]⟩

abbrev nBuf : Space → Nat
  | .hbm => 9
  | .vmem => 9
  | .smem => 0
  | _ => 0

abbrev bufTy : (tb : Table) → Fin (tcTables nBuf tb) → BufTy
  | .hbm, ⟨0, _⟩ => ⟨S2x768, .f32⟩
  | .hbm, ⟨1, _⟩ => ⟨S2x768, .f32⟩
  | .hbm, ⟨2, _⟩ => ⟨S2x768, .f32⟩
  | .hbm, ⟨3, _⟩ => ⟨S2x768, .f32⟩
  | .hbm, ⟨4, _⟩ => ⟨S2x768, .f32⟩
  | .hbm, ⟨5, _⟩ => ⟨S2x768, .f32⟩
  | .hbm, ⟨6, _⟩ => ⟨S2x768, .f32⟩
  | .hbm, ⟨7, _⟩ => ⟨S2x768, .f32⟩
  | .hbm, ⟨8, _⟩ => ⟨S2x768, .f32⟩
  | .local _ .vmem, ⟨0, _⟩ => ⟨S2x768, .f32⟩
  | .local _ .vmem, ⟨1, _⟩ => ⟨S2x768, .f32⟩
  | .local _ .vmem, ⟨2, _⟩ => ⟨S2x768, .f32⟩
  | .local _ .vmem, ⟨3, _⟩ => ⟨S2x768, .f32⟩
  | .local _ .vmem, ⟨4, _⟩ => ⟨S2x768, .f32⟩
  | .local _ .vmem, ⟨5, _⟩ => ⟨S2x768, .f32⟩
  | .local _ .vmem, ⟨6, _⟩ => ⟨S2x768, .f32⟩
  | .local _ .vmem, ⟨7, _⟩ => ⟨S2x768, .f32⟩
  | .local _ .vmem, ⟨8, _⟩ => ⟨S2x768, .f32⟩
  | _, _ => ⟨S2x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamConvBIdeal.lean ====
abbrev S2x768 : Shape := ⟨2, ![2, 768]⟩

abbrev nBuf : Space → Nat
  | .hbm => 9
  | .vmem => 9
  | .smem => 0
  | _ => 0

abbrev bufTy : (tb : Table) → Fin (tcTables nBuf tb) → BufTy
  | .hbm, ⟨0, _⟩ => ⟨S2x768, .f32⟩
  | .hbm, ⟨1, _⟩ => ⟨S2x768, .f32⟩
  | .hbm, ⟨2, _⟩ => ⟨S2x768, .f32⟩
  | .hbm, ⟨3, _⟩ => ⟨S2x768, .f32⟩
  | .hbm, ⟨4, _⟩ => ⟨S2x768, .f32⟩
  | .hbm, ⟨5, _⟩ => ⟨S2x768, .f32⟩
  | .hbm, ⟨6, _⟩ => ⟨S2x768, .f32⟩
  | .hbm, ⟨7, _⟩ => ⟨S2x768, .f32⟩
  | .hbm, ⟨8, _⟩ => ⟨S2x768, .f32⟩
  | .local _ .vmem, ⟨0, _⟩ => ⟨S2x768, .f32⟩
  | .local _ .vmem, ⟨1, _⟩ => ⟨S2x768, .f32⟩
  | .local _ .vmem, ⟨2, _⟩ => ⟨S2x768, .f32⟩
  | .local _ .vmem, ⟨3, _⟩ => ⟨S2x768, .f32⟩
  | .local _ .vmem, ⟨4, _⟩ => ⟨S2x768, .f32⟩
  | .local _ .vmem, ⟨5, _⟩ => ⟨S2x768, .f32⟩
  | .local _ .vmem, ⟨6, _⟩ => ⟨S2x768, .f32⟩
  | .local _ .vmem, ⟨7, _⟩ => ⟨S2x768, .f32⟩
  | .local _ .vmem, ⟨8, _⟩ => ⟨S2x768, .f32⟩
  | _, _ => ⟨S2x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamConvBRefIdeal.lean ====
abbrev S2x768 : Shape := ⟨2, ![2, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x768, .f32⟩
  | .hbm, ⟨1, _⟩ => ⟨S2x768, .f32⟩
  | .hbm, ⟨2, _⟩ => ⟨S2x768, .f32⟩
  | .hbm, ⟨3, _⟩ => ⟨S2x768, .f32⟩
  | .hbm, ⟨4, _⟩ => ⟨S2x768, .f32⟩
  | .hbm, ⟨5, _⟩ => ⟨S2x768, .f32⟩
  | .hbm, ⟨6, _⟩ => ⟨S_, .f32⟩
  | .hbm, ⟨7, _⟩ => ⟨S2x768, .f32⟩
  | .hbm, ⟨8, _⟩ => ⟨S2x768, .f32⟩
  | .hbm, ⟨9, _⟩ => ⟨S_, .f32⟩
  | .hbm, ⟨10, _⟩ => ⟨S2x768, .f32⟩
  | .hbm, ⟨11, _⟩ => ⟨S2x768, .f32⟩
  | .hbm, ⟨12, _⟩ => ⟨S2x768, .f32⟩
  | .hbm, ⟨13, _⟩ => ⟨S_, .f32⟩
  | .hbm, ⟨14, _⟩ => ⟨S2x768, .f32⟩
  | .hbm, ⟨15, _⟩ => ⟨S2x768, .f32⟩
  | .hbm, ⟨16, _⟩ => ⟨S2x768, .f32⟩
  | .hbm, ⟨17, _⟩ => ⟨S_, .f32⟩
  | .hbm, ⟨18, _⟩ => ⟨S2x768, .f32⟩
  | .hbm, ⟨19, _⟩ => ⟨S2x768, .f32⟩
  | .hbm, ⟨20, _⟩ => ⟨S2x768, .f32⟩
  | .hbm, ⟨21, _⟩ => ⟨S_, .f32⟩
  | .hbm, ⟨22, _⟩ => ⟨S2x768, .f32⟩
  | .hbm, ⟨23, _⟩ => ⟨S2x768, .f32⟩
  | .hbm, ⟨24, _⟩ => ⟨S_, .f32⟩
  | .hbm, ⟨25, _⟩ => ⟨S2x768, .f32⟩
  | .hbm, ⟨26, _⟩ => ⟨S2x768, .f32⟩
  | .hbm, ⟨27, _⟩ => ⟨S2x768, .f32⟩
  | .hbm, ⟨28, _⟩ => ⟨S_, .f32⟩
  | .hbm, ⟨29, _⟩ => ⟨S2x768, .f32⟩
  | .hbm, ⟨30, _⟩ => ⟨S2x768, .f32⟩
  | .hbm, ⟨31, _⟩ => ⟨S2x768, .f32⟩
  | .hbm, ⟨32, _⟩ => ⟨S_, .f32⟩
  | .hbm, ⟨33, _⟩ => ⟨S2x768, .f32⟩
  | .hbm, ⟨34, _⟩ => ⟨S2x768, .f32⟩
  | .hbm, ⟨35, _⟩ => ⟨S2x768, .f32⟩
  | .hbm, ⟨36, _⟩ => ⟨S_, .f32⟩
  | .hbm, ⟨37, _⟩ => ⟨S2x768, .f32⟩
  | .hbm, ⟨38, _⟩ => ⟨S2x768, .f32⟩
  | _, _ => ⟨S2x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamNorm.lean ====
abbrev S2x512 : Shape := ⟨2, ![2, 512]⟩

abbrev nBuf : Space → Nat
  | .hbm => 9
  | .vmem => 9
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .hbm, ⟨7, _⟩ => ⟨S2x512, .f32⟩
  | .hbm, ⟨8, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | .local _ .vmem, ⟨7, _⟩ => ⟨S2x512, .f32⟩
  | .local _ .vmem, ⟨8, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamNormRefIdeal.lean ====
abbrev S2x512 : Shape := ⟨2, ![2, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S_, .f32⟩
  | .hbm, ⟨7, _⟩ => ⟨S2x512, .f32⟩
  | .hbm, ⟨8, _⟩ => ⟨S2x512, .f32⟩
  | .hbm, ⟨9, _⟩ => ⟨S_, .f32⟩
  | .hbm, ⟨10, _⟩ => ⟨S2x512, .f32⟩
  | .hbm, ⟨11, _⟩ => ⟨S2x512, .f32⟩
  | .hbm, ⟨12, _⟩ => ⟨S2x512, .f32⟩
  | .hbm, ⟨13, _⟩ => ⟨S_, .f32⟩
  | .hbm, ⟨14, _⟩ => ⟨S2x512, .f32⟩
  | .hbm, ⟨15, _⟩ => ⟨S2x512, .f32⟩
  | .hbm, ⟨16, _⟩ => ⟨S2x512, .f32⟩
  | .hbm, ⟨17, _⟩ => ⟨S_, .f32⟩
  | .hbm, ⟨18, _⟩ => ⟨S2x512, .f32⟩
  | .hbm, ⟨19, _⟩ => ⟨S2x512, .f32⟩
  | .hbm, ⟨20, _⟩ => ⟨S2x512, .f32⟩
  | .hbm, ⟨21, _⟩ => ⟨S_, .f32⟩
  | .hbm, ⟨22, _⟩ => ⟨S2x512, .f32⟩
  | .hbm, ⟨23, _⟩ => ⟨S2x512, .f32⟩
  | .hbm, ⟨24, _⟩ => ⟨S_, .f32⟩
  | .hbm, ⟨25, _⟩ => ⟨S2x512, .f32⟩
  | .hbm, ⟨26, _⟩ => ⟨S2x512, .f32⟩
  | .hbm, ⟨27, _⟩ => ⟨S2x512, .f32⟩
  | .hbm, ⟨28, _⟩ => ⟨S_, .f32⟩
  | .hbm, ⟨29, _⟩ => ⟨S2x512, .f32⟩
  | .hbm, ⟨30, _⟩ => ⟨S2x512, .f32⟩
  | .hbm, ⟨31, _⟩ => ⟨S2x512, .f32⟩
  | .hbm, ⟨32, _⟩ => ⟨S_, .f32⟩
  | .hbm, ⟨33, _⟩ => ⟨S2x512, .f32⟩
  | .hbm, ⟨34, _⟩ => ⟨S2x512, .f32⟩
  | .hbm, ⟨35, _⟩ => ⟨S2x512, .f32⟩
  | .hbm, ⟨36, _⟩ => ⟨S_, .f32⟩
  | .hbm, ⟨37, _⟩ => ⟨S2x512, .f32⟩
  | .hbm, ⟨38, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamMod.lean ====
abbrev S4096x1536 : Shape := ⟨2, ![4096, 1536]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamModIdeal.lean ====
abbrev S4096x1536 : Shape := ⟨2, ![4096, 1536]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamModRefIdeal.lean ====
abbrev S4096x1536 : Shape := ⟨2, ![4096, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S_, .f32⟩
  | .hbm, ⟨5, _⟩ => ⟨S4096x1536, .f32⟩
  | .hbm, ⟨6, _⟩ => ⟨S4096x1536, .f32⟩
  | .hbm, ⟨7, _⟩ => ⟨S_, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S_, .f32⟩
  | .hbm, ⟨12, _⟩ => ⟨S4096x1536, .f32⟩
  | .hbm, ⟨13, _⟩ => ⟨S4096x1536, .f32⟩
  | .hbm, ⟨14, _⟩ => ⟨S4096x1536, .f32⟩
  | .hbm, ⟨15, _⟩ => ⟨S_, .f32⟩
  | .hbm, ⟨16, _⟩ => ⟨S4096x1536, .f32⟩
  | .hbm, ⟨17, _⟩ => ⟨S4096x1536, .f32⟩
  | .hbm, ⟨18, _⟩ => ⟨S4096x1536, .f32⟩
  | .hbm, ⟨19, _⟩ => ⟨S_, .f32⟩
  | .hbm, ⟨20, _⟩ => ⟨S4096x1536, .f32⟩
  | .hbm, ⟨21, _⟩ => ⟨S4096x1536, .f32⟩
  | .hbm, ⟨22, _⟩ => ⟨S_, .f32⟩
  | .hbm, ⟨23, _⟩ => ⟨S4096x1536, .f32⟩
  | .hbm, ⟨24, _⟩ => ⟨S4096x1536, .f32⟩
  | .hbm, ⟨25, _⟩ => ⟨S4096x1536, .f32⟩
  | .hbm, ⟨26, _⟩ => ⟨S_, .f32⟩
  | .hbm, ⟨27, _⟩ => ⟨S4096x1536, .f32⟩
  | .hbm, ⟨28, _⟩ => ⟨S4096x1536, .f32⟩
  | .hbm, ⟨29, _⟩ => ⟨S4096x1536, .f32⟩
  | .hbm, ⟨30, _⟩ => ⟨S_, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S_, .f32⟩
  | .hbm, ⟨35, _⟩ => ⟨S4096x1536, .f32⟩
  | .hbm, ⟨36, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S768x1024 : Shape := ⟨2, ![768, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S768x1024, .f32⟩
  | .hbm, ⟨3, _⟩ => ⟨S768x1024, .f32⟩
  | .hbm, ⟨4, _⟩ => ⟨S768x1024, .f32⟩
  | .hbm, ⟨5, _⟩ => ⟨S768x1024, .f32⟩
  | .hbm, ⟨6, _⟩ => ⟨S768x1024, .f32⟩
  | .hbm, ⟨7, _⟩ => ⟨S768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSmallRefIdeal.lean ====
abbrev S768x1024 : Shape := ⟨2, ![768, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S768x1024, .f32⟩
  | .hbm, ⟨3, _⟩ => ⟨S768x1024, .f32⟩
  | .hbm, ⟨4, _⟩ => ⟨S_, .f32⟩
  | .hbm, ⟨5, _⟩ => ⟨S768x1024, .f32⟩
  | .hbm, ⟨6, _⟩ => ⟨S768x1024, .f32⟩
  | .hbm, ⟨7, _⟩ => ⟨S_, .f32⟩
  | .hbm, ⟨8, _⟩ => ⟨S768x1024, .f32⟩
  | .hbm, ⟨9, _⟩ => ⟨S768x1024, .f32⟩
  | .hbm, ⟨10, _⟩ => ⟨S768x1024, .f32⟩
  | .hbm, ⟨11, _⟩ => ⟨S_, .f32⟩
  | .hbm, ⟨12, _⟩ => ⟨S768x1024, .f32⟩
  | .hbm, ⟨13, _⟩ => ⟨S768x1024, .f32⟩
  | .hbm, ⟨14, _⟩ => ⟨S768x1024, .f32⟩
  | .hbm, ⟨15, _⟩ => ⟨S_, .f32⟩
  | .hbm, ⟨16, _⟩ => ⟨S768x1024, .f32⟩
  | .hbm, ⟨17, _⟩ => ⟨S768x1024, .f32⟩
  | .hbm, ⟨18, _⟩ => ⟨S768x1024, .f32⟩
  | .hbm, ⟨19, _⟩ => ⟨S_, .f32⟩
  | .hbm, ⟨20, _⟩ => ⟨S768x1024, .f32⟩
  | .hbm, ⟨21, _⟩ => ⟨S768x1024, .f32⟩
  | .hbm, ⟨22, _⟩ => ⟨S_, .f32⟩
  | .hbm, ⟨23, _⟩ => ⟨S768x1024, .f32⟩
  | .hbm, ⟨24, _⟩ => ⟨S768x1024, .f32⟩
  | .hbm, ⟨25, _⟩ => ⟨S768x1024, .f32⟩
  | .hbm, ⟨26, _⟩ => ⟨S_, .f32⟩
  | .hbm, ⟨27, _⟩ => ⟨S768x1024, .f32⟩
  | .hbm, ⟨28, _⟩ => ⟨S768x1024, .f32⟩
  | .hbm, ⟨29, _⟩ => ⟨S768x1024, .f32⟩
  | .hbm, ⟨30, _⟩ => ⟨S_, .f32⟩
  | .hbm, ⟨31, _⟩ => ⟨S768x1024, .f32⟩
  | .hbm, ⟨32, _⟩ => ⟨S768x1024, .f32⟩
  | .hbm, ⟨33, _⟩ => ⟨S768x1024, .f32⟩
  | .hbm, ⟨34, _⟩ => ⟨S_, .f32⟩
  | .hbm, ⟨35, _⟩ => ⟨S768x1024, .f32⟩
  | .hbm, ⟨36, _⟩ => ⟨S768x1024, .f32⟩
  | _, _ => ⟨S768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Setup.lean ====
/-
  The backward kernel of the state-space scan, its body: the contents it starts from and leaves, and what it means
  to run it at one grid point (`RunSpec`). The kernel visits the 128 chunks of the sequence from the last to the
  first; it carries the gradient of the state and the running sum of the gradient of `D` from point to point in two
  scratch buffers, and adds up two of its outputs over the points.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.RegionsLoop
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Ssd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost algebra of the whole program's run: the pipeline library's own for the one kernel call. -/
abbrev UU : Type := IProdConst (Fin 1) (UR sig nD τ) × Counters

local notation "𝕄" => MT nD τ sig Unit (Elt F) ℕ UU ℕ

/-- The body's test for the first grid point. -/
abbrev isFirst (i : grid0.Coords) : Prop := k0_cond1 i = 1#1
/-- The body's test for the last grid point. -/
abbrev isLast (i : grid0.Coords) : Prop := k0_cond2 i = 1#1

theorem isFirst_iff : ∀ t : Fin cfg0.N, isFirst (grid0.coords t) ↔ t.val = 0 :=
  (fun t => by
    have ht : t.val < 128 := Nat.lt_of_lt_of_eq t.isLt N_0
    have e0 : (grid0.coords t 0).val = t.val / 1 % 128 := Pipeline.Grid.coords_val t 0 (by decide) rfl
    have h0 : t.val = 0 ↔ t.val % 128 = 0 := by omega
    rw [h0]
    simp only [isFirst, k0_cond1, e0]
    word_cmp
   : ∀ t : Fin grid0.N, isFirst (grid0.coords t) ↔ t.val = 0)

theorem isLast_iff : ∀ t : Fin cfg0.N, isLast (grid0.coords t) ↔ t.val = 127 :=
  (fun t => by
    have ht : t.val < 128 := Nat.lt_of_lt_of_eq t.isLt N_0
    have e0 : (grid0.coords t 0).val = t.val / 1 % 128 := Pipeline.Grid.coords_val t 0 (by decide) rfl
    have h0 : t.val = 127 ↔ t.val % 128 = 127 := by omega
    rw [h0]
    simp only [isLast, k0_cond2, e0]
    word_cmp
   : ∀ t : Fin grid0.N, isLast (grid0.coords t) ↔ t.val = 127)

/-- The blocks the nine inputs hold at one grid point. -/
structure Ins (F : FTy → Type) where
  x0 : Vec F S128x3072 .f32
  x1 : Vec F S128x128 .f32
  x2 : Vec F S128x2048 .f32
  x3 : Vec F S1x16x128x128 .f32
  x4 : Vec F S1x128 .f32
  x5 : Vec F S1x128 .f32
  x6 : Vec F S1x2048 .f32
  x7 : Vec F S2048x128 .f32
  x8 : Vec F S128x2048 .bf16

/-- What one grid point finds from the one before: the outputs added up over the points and the two carried
    scratch buffers. -/
structure Carry (F : FTy → Type) where
  o11 : Vec F S1x128 .f32
  o12 : Vec F S1x128 .f32
  s0 : Vec F S16x128x128 .f32
  s7 : Vec F S1x2048 .f32

variable (c : Dev nD) (i : grid0.Coords)
  (arg1 : Memref sig .tc .vmem S128x3072 .f32) (harg1 : arg1.IsWhole)
  (arg2 : Memref sig .tc .vmem S128x128 .f32) (harg2 : arg2.IsWhole)
  (arg3 : Memref sig .tc .vmem S128x2048 .f32) (harg3 : arg3.IsWhole)
  (arg4 : Memref sig .tc .vmem S1x16x128x128 .f32) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S1x2048 .f32) (harg7 : arg7.IsWhole)
  (arg8 : Memref sig .tc .vmem S2048x128 .f32) (harg8 : arg8.IsWhole)
  (arg9 : Memref sig .tc .vmem S128x2048 .bf16) (harg9 : arg9.IsWhole)
  (arg10 : Memref sig .tc .vmem S128x3072 .f32) (harg10 : arg10.IsWhole)
  (arg11 : Memref sig .tc .vmem S128x128 .f32) (harg11 : arg11.IsWhole)
  (arg12 : Memref sig .tc .vmem S1x128 .f32) (harg12 : arg12.IsWhole)
  (arg13 : Memref sig .tc .vmem S1x128 .f32) (harg13 : arg13.IsWhole)
  (arg14 : Memref sig .tc .vmem S8x128 .f32) (harg14 : arg14.IsWhole)
  (arg15 : Memref sig .tc .vmem S16x128x128 .f32) (harg15 : arg15.IsWhole)
  (arg16 : Memref sig .tc .vmem S128x128 .f32) (harg16 : arg16.IsWhole)
  (arg17 : Memref sig .tc .vmem S128x2048 .f32) (harg17 : arg17.IsWhole)
  (arg18 : Memref sig .tc .vmem S128x128 .f32) (harg18 : arg18.IsWhole)
  (arg19 : Memref sig .tc .vmem S128x128 .f32) (harg19 : arg19.IsWhole)
  (arg20 : Memref sig .tc .vmem S128x2048 .f32) (harg20 : arg20.IsWhole)
  (arg21 : Memref sig .tc .vmem S128x2048 .f32) (harg21 : arg21.IsWhole)
  (arg22 : Memref sig .tc .vmem S1x2048 .f32) (harg22 : arg22.IsWhole)

/-- ONE RUN OF THE BODY on whole buffers: from the inputs at `x`, the carried buffers at `p` and every other buffer
    at anything it reaches its end with the inputs as they were and the pieces `L·` written over the outputs and
    the carried scratch buffers. -/
def RunSpec (x : Ins F) (p : Carry F) (L9 : List (View.Piece (Elt F) S128x3072 .f32)) (L10 : List (View.Piece (Elt F) S128x128 .f32))
    (L11 L12 : List (View.Piece (Elt F) S1x128 .f32)) (L13 : List (View.Piece (Elt F) S8x128 .f32))
    (LS0 : List (View.Piece (Elt F) S16x128x128 .f32)) (LS7 : List (View.Piece (Elt F) S1x2048 .f32)) : Prop :=
  ∀ (xi13 : Vec F S8x128 .f32) (E : Set ℕ) (K : PUnit → sProp 𝕄),
    iprop(owns (c : Thread nD τ) arg1 fullShare x.x0 ∗
      owns (c : Thread nD τ) arg2 fullShare x.x1 ∗
      owns (c : Thread nD τ) arg3 fullShare x.x2 ∗
      owns (c : Thread nD τ) arg4 fullShare x.x3 ∗
      owns (c : Thread nD τ) arg5 fullShare x.x4 ∗
      owns (c : Thread nD τ) arg6 fullShare x.x5 ∗
      owns (c : Thread nD τ) arg7 fullShare x.x6 ∗
      owns (c : Thread nD τ) arg8 fullShare x.x7 ∗
      owns (c : Thread nD τ) arg9 fullShare x.x8 ∗
      (∃ d, owns (c : Thread nD τ) arg10 fullShare d) ∗
      (∃ d, owns (c : Thread nD τ) arg11 fullShare d) ∗
      owns (c : Thread nD τ) arg12 fullShare p.o11 ∗
      owns (c : Thread nD τ) arg13 fullShare p.o12 ∗
      owns (c : Thread nD τ) arg14 fullShare xi13 ∗
      owns (c : Thread nD τ) arg15 fullShare p.s0 ∗
      (∃ d, owns (c : Thread nD τ) arg16 fullShare d) ∗
      (∃ d, owns (c : Thread nD τ) arg17 fullShare d) ∗
      (∃ d, owns (c : Thread nD τ) arg18 fullShare d) ∗
      (∃ d, owns (c : Thread nD τ) arg19 fullShare d) ∗
      (∃ d, owns (c : Thread nD τ) arg20 fullShare d) ∗
      (∃ d, owns (c : Thread nD τ) arg21 fullShare d) ∗
      owns (c : Thread nD τ) arg22 fullShare p.s7 ∗
      (iprop(owns (c : Thread nD τ) arg1 fullShare x.x0 ∗
        owns (c : Thread nD τ) arg2 fullShare x.x1 ∗
        owns (c : Thread nD τ) arg3 fullShare x.x2 ∗
        owns (c : Thread nD τ) arg4 fullShare x.x3 ∗
        owns (c : Thread nD τ) arg5 fullShare x.x4 ∗
        owns (c : Thread nD τ) arg6 fullShare x.x5 ∗
        owns (c : Thread nD τ) arg7 fullShare x.x6 ∗
        owns (c : Thread nD τ) arg8 fullShare x.x7 ∗
        owns (c : Thread nD τ) arg9 fullShare x.x8 ∗
        (∃ f, arg10.view.loc (c : Thread nD τ) ↦[arg10.view.set]{fullShare} arg10.view.writes (Elt F) f L9) ∗
        (∃ f, arg11.view.loc (c : Thread nD τ) ↦[arg11.view.set]{fullShare} arg11.view.writes (Elt F) f L10) ∗
        (∃ f, arg12.view.loc (c : Thread nD τ) ↦[arg12.view.set]{fullShare} arg12.view.writes (Elt F) f L11) ∗
        (∃ f, arg13.view.loc (c : Thread nD τ) ↦[arg13.view.set]{fullShare} arg13.view.writes (Elt F) f L12) ∗
        (∃ f, ⌜arg14.view.read (Elt F) f = xi13⌝ ∗ arg14.view.loc (c : Thread nD τ) ↦[arg14.view.set]{fullShare} arg14.view.writes (Elt F) f L13) ∗
        (∃ f, arg15.view.loc (c : Thread nD τ) ↦[arg15.view.set]{fullShare} arg15.view.writes (Elt F) f LS0) ∗
        (∃ f, arg16.view.loc (c : Thread nD τ) ↦[arg16.view.set]{fullShare} f) ∗
        (∃ f, arg17.view.loc (c : Thread nD τ) ↦[arg17.view.set]{fullShare} f) ∗
        (∃ f, arg18.view.loc (c : Thread nD τ) ↦[arg18.view.set]{fullShare} f) ∗
        (∃ f, arg19.view.loc (c : Thread nD τ) ↦[arg19.view.set]{fullShare} f) ∗
        (∃ f, arg20.view.loc (c : Thread nD τ) ↦[arg20.view.set]{fullShare} f) ∗
        (∃ f, arg21.view.loc (c : Thread nD τ) ↦[arg21.view.set]{fullShare} f) ∗
        (∃ f, arg22.view.loc (c : Thread nD τ) ↦[arg22.view.set]{fullShare} arg22.view.writes (Elt F) f LS7))
        -∗ K ⟨⟩))
      ⊢ wp frame (wpE (defs₀ (F := F)) Variants.none c none) E
          (cc0_ssd_b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K

/-- The same at the first grid point, where the carried buffers too may hold anything. -/
def RunSpec0 (x : Ins F) (L9 : List (View.Piece (Elt F) S128x3072 .f32)) (L10 : List (View.Piece (Elt F) S128x128 .f32))
    (L11 L12 : List (View.Piece (Elt F) S1x128 .f32)) (L13 : List (View.Piece (Elt F) S8x128 .f32))
    (LS0 : List (View.Piece (Elt F) S16x128x128 .f32)) (LS7 : List (View.Piece (Elt F) S1x2048 .f32)) : Prop :=
  ∀ (E : Set ℕ) (K : PUnit → sProp 𝕄),
    iprop(owns (c : Thread nD τ) arg1 fullShare x.x0 ∗
      owns (c : Thread nD τ) arg2 fullShare x.x1 ∗
      owns (c : Thread nD τ) arg3 fullShare x.x2 ∗
      owns (c : Thread nD τ) arg4 fullShare x.x3 ∗
      owns (c : Thread nD τ) arg5 fullShare x.x4 ∗
      owns (c : Thread nD τ) arg6 fullShare x.x5 ∗
      owns (c : Thread nD τ) arg7 fullShare x.x6 ∗
      owns (c : Thread nD τ) arg8 fullShare x.x7 ∗
      owns (c : Thread nD τ) arg9 fullShare x.x8 ∗
      (∃ d, owns (c : Thread nD τ) arg10 fullShare d) ∗
      (∃ d, owns (c : Thread nD τ) arg11 fullShare d) ∗
      (∃ d, owns (c : Thread nD τ) arg12 fullShare d) ∗
      (∃ d, owns (c : Thread nD τ) arg13 fullShare d) ∗
      (∃ d, owns (c : Thread nD τ) arg14 fullShare d) ∗
      (∃ d, owns (c : Thread nD τ) arg15 fullShare d) ∗
      (∃ d, owns (c : Thread nD τ) arg16 fullShare d) ∗
      (∃ d, owns (c : Thread nD τ) arg17 fullShare d) ∗
      (∃ d, owns (c : Thread nD τ) arg18 fullShare d) ∗
      (∃ d, owns (c : Thread nD τ) arg19 fullShare d) ∗
      (∃ d, owns (c : Thread nD τ) arg20 fullShare d) ∗
      (∃ d, owns (c : Thread nD τ) arg21 fullShare d) ∗
      (∃ d, owns (c : Thread nD τ) arg22 fullShare d) ∗
      (iprop(owns (c : Thread nD τ) arg1 fullShare x.x0 ∗
        owns (c : Thread nD τ) arg2 fullShare x.x1 ∗
        owns (c : Thread nD τ) arg3 fullShare x.x2 ∗
        owns (c : Thread nD τ) arg4 fullShare x.x3 ∗
        owns (c : Thread nD τ) arg5 fullShare x.x4 ∗
        owns (c : Thread nD τ) arg6 fullShare x.x5 ∗
        owns (c : Thread nD τ) arg7 fullShare x.x6 ∗
        owns (c : Thread nD τ) arg8 fullShare x.x7 ∗
        owns (c : Thread nD τ) arg9 fullShare x.x8 ∗
        (∃ f, arg10.view.loc (c : Thread nD τ) ↦[arg10.view.set]{fullShare} arg10.view.writes (Elt F) f L9) ∗
        (∃ f, arg11.view.loc (c : Thread nD τ) ↦[arg11.view.set]{fullShare} arg11.view.writes (Elt F) f L10) ∗
        (∃ f, arg12.view.loc (c : Thread nD τ) ↦[arg12.view.set]{fullShare} arg12.view.writes (Elt F) f L11) ∗
        (∃ f, arg13.view.loc (c : Thread nD τ) ↦[arg13.view.set]{fullShare} arg13.view.writes (Elt F) f L12) ∗
        (∃ f, arg14.view.loc (c : Thread nD τ) ↦[arg14.view.set]{fullShare} arg14.view.writes (Elt F) f L13) ∗
        (∃ f, arg15.view.loc (c : Thread nD τ) ↦[arg15.view.set]{fullShare} arg15.view.writes (Elt F) f LS0) ∗
        (∃ f, arg16.view.loc (c : Thread nD τ) ↦[arg16.view.set]{fullShare} f) ∗
        (∃ f, arg17.view.loc (c : Thread nD τ) ↦[arg17.view.set]{fullShare} f) ∗
        (∃ f, arg18.view.loc (c : Thread nD τ) ↦[arg18.view.set]{fullShare} f) ∗
        (∃ f, arg19.view.loc (c : Thread nD τ) ↦[arg19.view.set]{fullShare} f) ∗
        (∃ f, arg20.view.loc (c : Thread nD τ) ↦[arg20.view.set]{fullShare} f) ∗
        (∃ f, arg21.view.loc (c : Thread nD τ) ↦[arg21.view.set]{fullShare} f) ∗
        (∃ f, arg22.view.loc (c : Thread nD τ) ↦[arg22.view.set]{fullShare} arg22.view.writes (Elt F) f LS7))
        -∗ K ⟨⟩))
      ⊢ wp frame (wpE (defs₀ (F := F)) Variants.none c none) E
          (cc0_ssd_b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K

end Cert.Proof.Ssd

end
-- ==== Proof.RunA.lean ====
/- The body at the first grid point: it clears the carried buffers first, so what it leaves does not depend on what it finds. -/
module

public import proofs.«01_k».proof.Proof.Setup

@[expose] public section

set_option maxRecDepth 16384

noncomputable section

namespace Cert.Proof.Ssd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords)
  (arg1 : Memref sig .tc .vmem S128x3072 .f32) (harg1 : arg1.IsWhole)
  (arg2 : Memref sig .tc .vmem S128x128 .f32) (harg2 : arg2.IsWhole)
  (arg3 : Memref sig .tc .vmem S128x2048 .f32) (harg3 : arg3.IsWhole)
  (arg4 : Memref sig .tc .vmem S1x16x128x128 .f32) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S1x2048 .f32) (harg7 : arg7.IsWhole)
  (arg8 : Memref sig .tc .vmem S2048x128 .f32) (harg8 : arg8.IsWhole)
  (arg9 : Memref sig .tc .vmem S128x2048 .bf16) (harg9 : arg9.IsWhole)
  (arg10 : Memref sig .tc .vmem S128x3072 .f32) (harg10 : arg10.IsWhole)
  (arg11 : Memref sig .tc .vmem S128x128 .f32) (harg11 : arg11.IsWhole)
  (arg12 : Memref sig .tc .vmem S1x128 .f32) (harg12 : arg12.IsWhole)
  (arg13 : Memref sig .tc .vmem S1x128 .f32) (harg13 : arg13.IsWhole)
  (arg14 : Memref sig .tc .vmem S8x128 .f32) (harg14 : arg14.IsWhole)
  (arg15 : Memref sig .tc .vmem S16x128x128 .f32) (harg15 : arg15.IsWhole)
  (arg16 : Memref sig .tc .vmem S128x128 .f32) (harg16 : arg16.IsWhole)
  (arg17 : Memref sig .tc .vmem S128x2048 .f32) (harg17 : arg17.IsWhole)
  (arg18 : Memref sig .tc .vmem S128x128 .f32) (harg18 : arg18.IsWhole)
  (arg19 : Memref sig .tc .vmem S128x128 .f32) (harg19 : arg19.IsWhole)
  (arg20 : Memref sig .tc .vmem S128x2048 .f32) (harg20 : arg20.IsWhole)
  (arg21 : Memref sig .tc .vmem S128x2048 .f32) (harg21 : arg21.IsWhole)
  (arg22 : Memref sig .tc .vmem S1x2048 .f32) (harg22 : arg22.IsWhole)

set_option maxHeartbeats 3588000 in
/-- The body at the first grid point: it clears the carried buffers first, so what it leaves does not depend on what it finds. -/
def runA (hc0 : isFirst i) (hc1 : ¬isLast i) (x : Ins F) :
    Σ' (L9 : List (View.Piece (Elt F) S128x3072 .f32)), Σ' (L10 : List (View.Piece (Elt F) S128x128 .f32)), Σ' (L11 : List (View.Piece (Elt F) S1x128 .f32)),
    Σ' (L12 : List (View.Piece (Elt F) S1x128 .f32)), Σ' (L13 : List (View.Piece (Elt F) S8x128 .f32)), Σ' (LS0 : List (View.Piece (Elt F) S16x128x128 .f32)),
    { LS7 : List (View.Piece (Elt F) S1x2048 .f32) // RunSpec0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x L9 L10 L11 L12 L13 LS0 LS7 } := by
  refine ⟨?_, ?_, ?_, ?_, ?_, ?_, ?_, ?run⟩
  case run =>
  unfold RunSpec0
  intro E K
  simp only [cc0_ssd_b_eq_skeleton]; unfold cc0_ssd_b_skel
  simp only [k0_part73_eq_skeleton, k0_part1_eq_skeleton, k0_part2_eq_skeleton, k0_part3_eq_skeleton, k0_part4_eq_skeleton,
      k0_part5_eq_skeleton, k0_part6_eq_skeleton, k0_part7_eq_skeleton, k0_part8_eq_skeleton,
      k0_part9_eq_skeleton, k0_part10_eq_skeleton, k0_part11_eq_skeleton, k0_part12_eq_skeleton,
      k0_part13_eq_skeleton, k0_part14_eq_skeleton, k0_part15_eq_skeleton, k0_part16_eq_skeleton,
      k0_part17_eq_skeleton, k0_part18_eq_skeleton, k0_part19_eq_skeleton, k0_part20_eq_skeleton,
      k0_part21_eq_skeleton, k0_part22_eq_skeleton, k0_part23_eq_skeleton, k0_part24_eq_skeleton,
      k0_part25_eq_skeleton, k0_part26_eq_skeleton, k0_part27_eq_skeleton, k0_part28_eq_skeleton,
      k0_part29_eq_skeleton, k0_part30_eq_skeleton, k0_part31_eq_skeleton, k0_part32_eq_skeleton,
      k0_part33_eq_skeleton, k0_part34_eq_skeleton, k0_part35_eq_skeleton, k0_part36_eq_skeleton,
      k0_part37_eq_skeleton, k0_part38_eq_skeleton, k0_part39_eq_skeleton, k0_part40_eq_skeleton,
      k0_part41_eq_skeleton, k0_part42_eq_skeleton, k0_part43_eq_skeleton, k0_part44_eq_skeleton,
      k0_part45_eq_skeleton, k0_part46_eq_skeleton, k0_part47_eq_skeleton, k0_part48_eq_skeleton,
      k0_part49_eq_skeleton, k0_part50_eq_skeleton, k0_part51_eq_skeleton, k0_part52_eq_skeleton,
      k0_part53_eq_skeleton, k0_part54_eq_skeleton, k0_part55_eq_skeleton, k0_part56_eq_skeleton,
      k0_part57_eq_skeleton, k0_part58_eq_skeleton, k0_part59_eq_skeleton, k0_part60_eq_skeleton,
      k0_part61_eq_skeleton, k0_part62_eq_skeleton, k0_part63_eq_skeleton, k0_part64_eq_skeleton,
      k0_part65_eq_skeleton, k0_part66_eq_skeleton, k0_part67_eq_skeleton, k0_part68_eq_skeleton,
      k0_part69_eq_skeleton, k0_part70_eq_skeleton, k0_part71_eq_skeleton, k0_part72_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexists _; iexact HS0
  isplitl [HS1]; · iexists _; iexact HS1
  isplitl [HS2]; · iexists _; iexact HS2
  isplitl [HS3]; · iexists _; iexact HS3
  isplitl [HS4]; · iexists _; iexact HS4
  isplitl [HS5]; · iexists _; iexact HS5
  isplitl [HS6]; · iexists _; iexact HS6
  iexists _; iexact HS7

end Cert.Proof.Ssd

end
-- ==== Proof.RunB.lean ====
/- The body at a grid point that is neither the first nor the last; it stores nothing into the output of `D`'s gradient. -/
module

public import proofs.«01_k».proof.Proof.RunA

@[expose] public section

set_option maxRecDepth 16384

noncomputable section

namespace Cert.Proof.Ssd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords)
  (arg1 : Memref sig .tc .vmem S128x3072 .f32) (harg1 : arg1.IsWhole)
  (arg2 : Memref sig .tc .vmem S128x128 .f32) (harg2 : arg2.IsWhole)
  (arg3 : Memref sig .tc .vmem S128x2048 .f32) (harg3 : arg3.IsWhole)
  (arg4 : Memref sig .tc .vmem S1x16x128x128 .f32) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S1x2048 .f32) (harg7 : arg7.IsWhole)
  (arg8 : Memref sig .tc .vmem S2048x128 .f32) (harg8 : arg8.IsWhole)
  (arg9 : Memref sig .tc .vmem S128x2048 .bf16) (harg9 : arg9.IsWhole)
  (arg10 : Memref sig .tc .vmem S128x3072 .f32) (harg10 : arg10.IsWhole)
  (arg11 : Memref sig .tc .vmem S128x128 .f32) (harg11 : arg11.IsWhole)
  (arg12 : Memref sig .tc .vmem S1x128 .f32) (harg12 : arg12.IsWhole)
  (arg13 : Memref sig .tc .vmem S1x128 .f32) (harg13 : arg13.IsWhole)
  (arg14 : Memref sig .tc .vmem S8x128 .f32) (harg14 : arg14.IsWhole)
  (arg15 : Memref sig .tc .vmem S16x128x128 .f32) (harg15 : arg15.IsWhole)
  (arg16 : Memref sig .tc .vmem S128x128 .f32) (harg16 : arg16.IsWhole)
  (arg17 : Memref sig .tc .vmem S128x2048 .f32) (harg17 : arg17.IsWhole)
  (arg18 : Memref sig .tc .vmem S128x128 .f32) (harg18 : arg18.IsWhole)
  (arg19 : Memref sig .tc .vmem S128x128 .f32) (harg19 : arg19.IsWhole)
  (arg20 : Memref sig .tc .vmem S128x2048 .f32) (harg20 : arg20.IsWhole)
  (arg21 : Memref sig .tc .vmem S128x2048 .f32) (harg21 : arg21.IsWhole)
  (arg22 : Memref sig .tc .vmem S1x2048 .f32) (harg22 : arg22.IsWhole)

set_option maxHeartbeats 3588000 in
/-- The body at a grid point that is neither the first nor the last; it stores nothing into the output of `D`'s gradient. -/
def runB (hc0 : ¬isFirst i) (hc1 : ¬isLast i) (x : Ins F) (p : Carry F) :
    Σ' (L9 : List (View.Piece (Elt F) S128x3072 .f32)), Σ' (L10 : List (View.Piece (Elt F) S128x128 .f32)), Σ' (L11 : List (View.Piece (Elt F) S1x128 .f32)),
    Σ' (L12 : List (View.Piece (Elt F) S1x128 .f32)), Σ' (L13 : List (View.Piece (Elt F) S8x128 .f32)), Σ' (LS0 : List (View.Piece (Elt F) S16x128x128 .f32)),
    { LS7 : List (View.Piece (Elt F) S1x2048 .f32) // RunSpec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x p L9 L10 L11 L12 L13 LS0 LS7 } := by
  refine ⟨?_, ?_, ?_, ?_, [], ?_, ?_, ?run⟩
  case run =>
  unfold RunSpec
  intro xi13 E K
  simp only [cc0_ssd_b_eq_skeleton]; unfold cc0_ssd_b_skel
  simp only [k0_part73_eq_skeleton, k0_part1_eq_skeleton, k0_part2_eq_skeleton, k0_part3_eq_skeleton, k0_part4_eq_skeleton,
      k0_part5_eq_skeleton, k0_part6_eq_skeleton, k0_part7_eq_skeleton, k0_part8_eq_skeleton,
      k0_part9_eq_skeleton, k0_part10_eq_skeleton, k0_part11_eq_skeleton, k0_part12_eq_skeleton,
      k0_part13_eq_skeleton, k0_part14_eq_skeleton, k0_part15_eq_skeleton, k0_part16_eq_skeleton,
      k0_part17_eq_skeleton, k0_part18_eq_skeleton, k0_part19_eq_skeleton, k0_part20_eq_skeleton,
      k0_part21_eq_skeleton, k0_part22_eq_skeleton, k0_part23_eq_skeleton, k0_part24_eq_skeleton,
      k0_part25_eq_skeleton, k0_part26_eq_skeleton, k0_part27_eq_skeleton, k0_part28_eq_skeleton,
      k0_part29_eq_skeleton, k0_part30_eq_skeleton, k0_part31_eq_skeleton, k0_part32_eq_skeleton,
      k0_part33_eq_skeleton, k0_part34_eq_skeleton, k0_part35_eq_skeleton, k0_part36_eq_skeleton,
      k0_part37_eq_skeleton, k0_part38_eq_skeleton, k0_part39_eq_skeleton, k0_part40_eq_skeleton,
      k0_part41_eq_skeleton, k0_part42_eq_skeleton, k0_part43_eq_skeleton, k0_part44_eq_skeleton,
      k0_part45_eq_skeleton, k0_part46_eq_skeleton, k0_part47_eq_skeleton, k0_part48_eq_skeleton,
      k0_part49_eq_skeleton, k0_part50_eq_skeleton, k0_part51_eq_skeleton, k0_part52_eq_skeleton,
      k0_part53_eq_skeleton, k0_part54_eq_skeleton, k0_part55_eq_skeleton, k0_part56_eq_skeleton,
      k0_part57_eq_skeleton, k0_part58_eq_skeleton, k0_part59_eq_skeleton, k0_part60_eq_skeleton,
      k0_part61_eq_skeleton, k0_part62_eq_skeleton, k0_part63_eq_skeleton, k0_part64_eq_skeleton,
      k0_part65_eq_skeleton, k0_part66_eq_skeleton, k0_part67_eq_skeleton, k0_part68_eq_skeleton,
      k0_part69_eq_skeleton, k0_part70_eq_skeleton, k0_part71_eq_skeleton, k0_part72_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, ⟨%f13, %hf13, H13⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%fs7, %hfs7, HS7⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg12.eq_unread hf11
  obtain rfl := harg13.eq_unread hf12
  obtain rfl := harg14.eq_unread hf13
  obtain rfl := harg15.eq_unread hfs0
  obtain rfl := harg22.eq_unread hfs7
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]; · iexists _; iexact H9
  isplitl [H10]; · iexists _; iexact H10
  isplitl [H11]; · iexists _; iexact H11
  isplitl [H12]; · iexists _; iexact H12
  isplitl [H13]
  · iexists _; isplitr; · ipureintro; exact harg14.read_unread _
    iexact H13
  isplitl [HS0]; · iexists _; iexact HS0
  isplitl [HS1]; · iexists _; iexact HS1
  isplitl [HS2]; · iexists _; iexact HS2
  isplitl [HS3]; · iexists _; iexact HS3
  isplitl [HS4]; · iexists _; iexact HS4
  isplitl [HS5]; · iexists _; iexact HS5
  isplitl [HS6]; · iexists _; iexact HS6
  iexists _; iexact HS7

end Cert.Proof.Ssd

end
-- ==== Proof.RunC.lean ====
/- The body at the last grid point; it also writes out the gradient of `D`. -/
module

public import proofs.«01_k».proof.Proof.RunB

@[expose] public section

set_option maxRecDepth 16384

noncomputable section

namespace Cert.Proof.Ssd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords)
  (arg1 : Memref sig .tc .vmem S128x3072 .f32) (harg1 : arg1.IsWhole)
  (arg2 : Memref sig .tc .vmem S128x128 .f32) (harg2 : arg2.IsWhole)
  (arg3 : Memref sig .tc .vmem S128x2048 .f32) (harg3 : arg3.IsWhole)
  (arg4 : Memref sig .tc .vmem S1x16x128x128 .f32) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S1x2048 .f32) (harg7 : arg7.IsWhole)
  (arg8 : Memref sig .tc .vmem S2048x128 .f32) (harg8 : arg8.IsWhole)
  (arg9 : Memref sig .tc .vmem S128x2048 .bf16) (harg9 : arg9.IsWhole)
  (arg10 : Memref sig .tc .vmem S128x3072 .f32) (harg10 : arg10.IsWhole)
  (arg11 : Memref sig .tc .vmem S128x128 .f32) (harg11 : arg11.IsWhole)
  (arg12 : Memref sig .tc .vmem S1x128 .f32) (harg12 : arg12.IsWhole)
  (arg13 : Memref sig .tc .vmem S1x128 .f32) (harg13 : arg13.IsWhole)
  (arg14 : Memref sig .tc .vmem S8x128 .f32) (harg14 : arg14.IsWhole)
  (arg15 : Memref sig .tc .vmem S16x128x128 .f32) (harg15 : arg15.IsWhole)
  (arg16 : Memref sig .tc .vmem S128x128 .f32) (harg16 : arg16.IsWhole)
  (arg17 : Memref sig .tc .vmem S128x2048 .f32) (harg17 : arg17.IsWhole)
  (arg18 : Memref sig .tc .vmem S128x128 .f32) (harg18 : arg18.IsWhole)
  (arg19 : Memref sig .tc .vmem S128x128 .f32) (harg19 : arg19.IsWhole)
  (arg20 : Memref sig .tc .vmem S128x2048 .f32) (harg20 : arg20.IsWhole)
  (arg21 : Memref sig .tc .vmem S128x2048 .f32) (harg21 : arg21.IsWhole)
  (arg22 : Memref sig .tc .vmem S1x2048 .f32) (harg22 : arg22.IsWhole)

set_option maxHeartbeats 3588000 in
/-- The body at the last grid point; it also writes out the gradient of `D`. -/
def runC (hc0 : ¬isFirst i) (hc1 : isLast i) (x : Ins F) (p : Carry F) :
    Σ' (L9 : List (View.Piece (Elt F) S128x3072 .f32)), Σ' (L10 : List (View.Piece (Elt F) S128x128 .f32)), Σ' (L11 : List (View.Piece (Elt F) S1x128 .f32)),
    Σ' (L12 : List (View.Piece (Elt F) S1x128 .f32)), Σ' (L13 : List (View.Piece (Elt F) S8x128 .f32)), Σ' (LS0 : List (View.Piece (Elt F) S16x128x128 .f32)),
    { LS7 : List (View.Piece (Elt F) S1x2048 .f32) // RunSpec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x p L9 L10 L11 L12 L13 LS0 LS7 } := by
  refine ⟨?_, ?_, ?_, ?_, ?_, ?_, ?_, ?run⟩
  case run =>
  unfold RunSpec
  intro xi13 E K
  simp only [cc0_ssd_b_eq_skeleton]; unfold cc0_ssd_b_skel
  simp only [k0_part73_eq_skeleton, k0_part1_eq_skeleton, k0_part2_eq_skeleton, k0_part3_eq_skeleton, k0_part4_eq_skeleton,
      k0_part5_eq_skeleton, k0_part6_eq_skeleton, k0_part7_eq_skeleton, k0_part8_eq_skeleton,
      k0_part9_eq_skeleton, k0_part10_eq_skeleton, k0_part11_eq_skeleton, k0_part12_eq_skeleton,
      k0_part13_eq_skeleton, k0_part14_eq_skeleton, k0_part15_eq_skeleton, k0_part16_eq_skeleton,
      k0_part17_eq_skeleton, k0_part18_eq_skeleton, k0_part19_eq_skeleton, k0_part20_eq_skeleton,
      k0_part21_eq_skeleton, k0_part22_eq_skeleton, k0_part23_eq_skeleton, k0_part24_eq_skeleton,
      k0_part25_eq_skeleton, k0_part26_eq_skeleton, k0_part27_eq_skeleton, k0_part28_eq_skeleton,
      k0_part29_eq_skeleton, k0_part30_eq_skeleton, k0_part31_eq_skeleton, k0_part32_eq_skeleton,
      k0_part33_eq_skeleton, k0_part34_eq_skeleton, k0_part35_eq_skeleton, k0_part36_eq_skeleton,
      k0_part37_eq_skeleton, k0_part38_eq_skeleton, k0_part39_eq_skeleton, k0_part40_eq_skeleton,
      k0_part41_eq_skeleton, k0_part42_eq_skeleton, k0_part43_eq_skeleton, k0_part44_eq_skeleton,
      k0_part45_eq_skeleton, k0_part46_eq_skeleton, k0_part47_eq_skeleton, k0_part48_eq_skeleton,
      k0_part49_eq_skeleton, k0_part50_eq_skeleton, k0_part51_eq_skeleton, k0_part52_eq_skeleton,
      k0_part53_eq_skeleton, k0_part54_eq_skeleton, k0_part55_eq_skeleton, k0_part56_eq_skeleton,
      k0_part57_eq_skeleton, k0_part58_eq_skeleton, k0_part59_eq_skeleton, k0_part60_eq_skeleton,
      k0_part61_eq_skeleton, k0_part62_eq_skeleton, k0_part63_eq_skeleton, k0_part64_eq_skeleton,
      k0_part65_eq_skeleton, k0_part66_eq_skeleton, k0_part67_eq_skeleton, k0_part68_eq_skeleton,
      k0_part69_eq_skeleton, k0_part70_eq_skeleton, k0_part71_eq_skeleton, k0_part72_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, ⟨%f13, %hf13, H13⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%fs7, %hfs7, HS7⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg12.eq_unread hf11
  obtain rfl := harg13.eq_unread hf12
  obtain rfl := harg14.eq_unread hf13
  obtain rfl := harg15.eq_unread hfs0
  obtain rfl := harg22.eq_unread hfs7
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]; · iexists _; iexact H9
  isplitl [H10]; · iexists _; iexact H10
  isplitl [H11]; · iexists _; iexact H11
  isplitl [H12]; · iexists _; iexact H12
  isplitl [H13]
  · iexists _; isplitr; · ipureintro; exact harg14.read_unread _
    iexact H13
  isplitl [HS0]; · iexists _; iexact HS0
  isplitl [HS1]; · iexists _; iexact HS1
  isplitl [HS2]; · iexists _; iexact HS2
  isplitl [HS3]; · iexists _; iexact HS3
  isplitl [HS4]; · iexists _; iexact HS4
  isplitl [HS5]; · iexists _; iexact HS5
  isplitl [HS6]; · iexists _; iexact HS6
  iexists _; iexact HS7

end Cert.Proof.Ssd

end
-- ==== Proof.Body.lean ====
/-
  The backward kernel of the state-space scan as the pipeline runs it: what each grid point leaves (`outs`, a
  recursion over the points, since the kernel carries two scratch buffers and adds up outputs), the pipeline's proof
  data, and the proof that the body does what they say at every point.
-/
module

public import proofs.«01_k».proof.Proof.RunC
public import Idealize.ShloMosaic.Lib.Pipeline.FrameBody

@[expose] public section

set_option maxRecDepth 16384

noncomputable section

namespace Cert.Proof.Ssd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What one point leaves -/

/-- The pieces one run of the body writes over the outputs and over the carried scratch buffers. -/
structure Pieces (F : FTy → Type) where
  L9 : List (View.Piece (Elt F) S128x3072 .f32)
  L10 : List (View.Piece (Elt F) S128x128 .f32)
  L11 : List (View.Piece (Elt F) S1x128 .f32)
  L12 : List (View.Piece (Elt F) S1x128 .f32)
  L13 : List (View.Piece (Elt F) S8x128 .f32)
  LS0 : List (View.Piece (Elt F) S16x128x128 .f32)
  LS7 : List (View.Piece (Elt F) S1x2048 .f32)

/-- The pieces cover the buffers they are written over (all but the gradient of `D`, stored at two points only). -/
structure Pieces.Covers (L : Pieces F) : Prop where
  o9 : ∀ y, ∃ q ∈ L.L9, y ∈ q.1.set
  o10 : ∀ y, ∃ q ∈ L.L10, y ∈ q.1.set
  o11 : ∀ y, ∃ q ∈ L.L11, y ∈ q.1.set
  o12 : ∀ y, ∃ q ∈ L.L12, y ∈ q.1.set
  s0 : ∀ y, ∃ q ∈ L.LS0, y ∈ q.1.set
  s7 : ∀ y, ∃ q ∈ L.LS7, y ∈ q.1.set

/-- What one point leaves: the block of the gradient of the packed input, of the step sizes' logits, of `D`, and what it carries on. -/
structure Out (F : FTy → Type) where
  o9 : Vec F S128x3072 .f32
  o10 : Vec F S128x128 .f32
  o13 : Vec F S8x128 .f32
  carry : Carry F

/-- What a list of pieces leaves in a buffer, read back through view `v`. -/
def readL {S : Shape} {e : EltTy} (v : View sig .tc .vmem S e) (L : List (View.Piece (Elt F) S e)) : Vec F S e :=
  v.read (Elt F) (v.writes (Elt F) v.junk L)

/-- Pieces that cover a buffer determine what is read off it. -/
theorem read_left {S : Shape} {e : EltTy} (v : View sig .tc .vmem S e) (f : v.ty.Contents (Elt F)) (v' : View sig .tc .vmem S e) (L : List (View.Piece (Elt F) S e))
    (h : ∀ y, ∃ q ∈ L, y ∈ q.1.set) : v.read (Elt F) (v.writes (Elt F) f L) = readL v' L :=
  View.read_writes_of_cover _ _ _ _ L h

abbrev v9 : View sig .tc .vmem S128x3072 .f32 := (Memref.whole cc0_stg9_0 : Memref sig .tc .vmem S128x3072 .f32).view
abbrev v10 : View sig .tc .vmem S128x128 .f32 := (Memref.whole cc0_stg10_0 : Memref sig .tc .vmem S128x128 .f32).view
abbrev v11 : View sig .tc .vmem S1x128 .f32 := (Memref.whole cc0_stg11_0 : Memref sig .tc .vmem S1x128 .f32).view
abbrev v13 : View sig .tc .vmem S8x128 .f32 := (Memref.whole cc0_stg13_0 : Memref sig .tc .vmem S8x128 .f32).view
abbrev vs0 : View sig .tc .vmem S16x128x128 .f32 := (Memref.whole cc0_scratch0 : Memref sig .tc .vmem S16x128x128 .f32).view
abbrev vs7 : View sig .tc .vmem S1x2048 .f32 := (Memref.whole cc0_scratch7 : Memref sig .tc .vmem S1x2048 .f32).view

/-- The contents a point leaves, from its pieces. -/
def Pieces.out (L : Pieces F) : Out F :=
  ⟨readL v9 L.L9, readL v10 L.L10, readL v13 L.L13, ⟨readL v11 L.L11, readL v11 L.L12, readL vs0 L.LS0, readL vs7 L.LS7⟩⟩

/-- The run at the first point on the buffers the pipeline hands the body there. -/
abbrev atA (c : Dev nD) (t : Fin cfg0.N) (hc0 : isFirst (grid0.coords t)) (hc1 : ¬isLast (grid0.coords t)) (x : Ins F) :=
  runA (F := F) c (grid0.coords t)
    (win0_0.stage (cfg0.slots t 0)) (hstage0_0 ((cfg0.slots t 0).cast nbuf0_0)) (win0_1.stage (cfg0.slots t 1)) (hstage0_1 ((cfg0.slots t
    1).cast nbuf0_1)) (win0_2.stage (cfg0.slots t 2)) (hstage0_2 ((cfg0.slots t 2).cast nbuf0_2)) (win0_3.stage (cfg0.slots t 3)) (hstage0_3
    ((cfg0.slots t 3).cast nbuf0_3)) (win0_4.stage (cfg0.slots t 4)) (hstage0_4 ((cfg0.slots t 4).cast nbuf0_4)) (win0_5.stage (cfg0.slots t 5))
    (hstage0_5 ((cfg0.slots t 5).cast nbuf0_5)) (win0_6.stage (cfg0.slots t 6)) (hstage0_6 ((cfg0.slots t 6).cast nbuf0_6)) (win0_7.stage
    (cfg0.slots t 7)) (hstage0_7 ((cfg0.slots t 7).cast nbuf0_7)) (win0_8.stage (cfg0.slots t 8)) (hstage0_8 ((cfg0.slots t 8).cast nbuf0_8))
    (win0_9.stage (cfg0.slots t 9)) (hstage0_9 ((cfg0.slots t 9).cast nbuf0_9)) (win0_10.stage (cfg0.slots t 10)) (hstage0_10 ((cfg0.slots t
    10).cast nbuf0_10)) (win0_11.stage (cfg0.slots t 11)) (hstage0_11 ((cfg0.slots t 11).cast nbuf0_11)) (win0_12.stage (cfg0.slots t 12))
    (hstage0_12 ((cfg0.slots t 12).cast nbuf0_12)) (win0_13.stage (cfg0.slots t 13)) (hstage0_13 ((cfg0.slots t 13).cast nbuf0_13))
    (Memref.whole cc0_scratch0) (Memref.isWhole_whole cc0_scratch0) (Memref.whole cc0_scratch1) (Memref.isWhole_whole cc0_scratch1)
    (Memref.whole cc0_scratch2) (Memref.isWhole_whole cc0_scratch2) (Memref.whole cc0_scratch3) (Memref.isWhole_whole cc0_scratch3)
    (Memref.whole cc0_scratch4) (Memref.isWhole_whole cc0_scratch4) (Memref.whole cc0_scratch5) (Memref.isWhole_whole cc0_scratch5)
    (Memref.whole cc0_scratch6) (Memref.isWhole_whole cc0_scratch6) (Memref.whole cc0_scratch7) (Memref.isWhole_whole cc0_scratch7) hc0 hc1 x

/-- The run at a middle point on the buffers the pipeline hands the body there. -/
abbrev atB (c : Dev nD) (t : Fin cfg0.N) (hc0 : ¬isFirst (grid0.coords t)) (hc1 : ¬isLast (grid0.coords t)) (x : Ins F) (p : Carry F) :=
  runB (F := F) c (grid0.coords t)
    (win0_0.stage (cfg0.slots t 0)) (hstage0_0 ((cfg0.slots t 0).cast nbuf0_0)) (win0_1.stage (cfg0.slots t 1)) (hstage0_1 ((cfg0.slots t
    1).cast nbuf0_1)) (win0_2.stage (cfg0.slots t 2)) (hstage0_2 ((cfg0.slots t 2).cast nbuf0_2)) (win0_3.stage (cfg0.slots t 3)) (hstage0_3
    ((cfg0.slots t 3).cast nbuf0_3)) (win0_4.stage (cfg0.slots t 4)) (hstage0_4 ((cfg0.slots t 4).cast nbuf0_4)) (win0_5.stage (cfg0.slots t 5))
    (hstage0_5 ((cfg0.slots t 5).cast nbuf0_5)) (win0_6.stage (cfg0.slots t 6)) (hstage0_6 ((cfg0.slots t 6).cast nbuf0_6)) (win0_7.stage
    (cfg0.slots t 7)) (hstage0_7 ((cfg0.slots t 7).cast nbuf0_7)) (win0_8.stage (cfg0.slots t 8)) (hstage0_8 ((cfg0.slots t 8).cast nbuf0_8))
    (win0_9.stage (cfg0.slots t 9)) (hstage0_9 ((cfg0.slots t 9).cast nbuf0_9)) (win0_10.stage (cfg0.slots t 10)) (hstage0_10 ((cfg0.slots t
    10).cast nbuf0_10)) (win0_11.stage (cfg0.slots t 11)) (hstage0_11 ((cfg0.slots t 11).cast nbuf0_11)) (win0_12.stage (cfg0.slots t 12))
    (hstage0_12 ((cfg0.slots t 12).cast nbuf0_12)) (win0_13.stage (cfg0.slots t 13)) (hstage0_13 ((cfg0.slots t 13).cast nbuf0_13))
    (Memref.whole cc0_scratch0) (Memref.isWhole_whole cc0_scratch0) (Memref.whole cc0_scratch1) (Memref.isWhole_whole cc0_scratch1)
    (Memref.whole cc0_scratch2) (Memref.isWhole_whole cc0_scratch2) (Memref.whole cc0_scratch3) (Memref.isWhole_whole cc0_scratch3)
    (Memref.whole cc0_scratch4) (Memref.isWhole_whole cc0_scratch4) (Memref.whole cc0_scratch5) (Memref.isWhole_whole cc0_scratch5)
    (Memref.whole cc0_scratch6) (Memref.isWhole_whole cc0_scratch6) (Memref.whole cc0_scratch7) (Memref.isWhole_whole cc0_scratch7) hc0 hc1 x p

/-- The run at the last point on the buffers the pipeline hands the body there. -/
abbrev atC (c : Dev nD) (t : Fin cfg0.N) (hc0 : ¬isFirst (grid0.coords t)) (hc1 : isLast (grid0.coords t)) (x : Ins F) (p : Carry F) :=
  runC (F := F) c (grid0.coords t)
    (win0_0.stage (cfg0.slots t 0)) (hstage0_0 ((cfg0.slots t 0).cast nbuf0_0)) (win0_1.stage (cfg0.slots t 1)) (hstage0_1 ((cfg0.slots t
    1).cast nbuf0_1)) (win0_2.stage (cfg0.slots t 2)) (hstage0_2 ((cfg0.slots t 2).cast nbuf0_2)) (win0_3.stage (cfg0.slots t 3)) (hstage0_3
    ((cfg0.slots t 3).cast nbuf0_3)) (win0_4.stage (cfg0.slots t 4)) (hstage0_4 ((cfg0.slots t 4).cast nbuf0_4)) (win0_5.stage (cfg0.slots t 5))
    (hstage0_5 ((cfg0.slots t 5).cast nbuf0_5)) (win0_6.stage (cfg0.slots t 6)) (hstage0_6 ((cfg0.slots t 6).cast nbuf0_6)) (win0_7.stage
    (cfg0.slots t 7)) (hstage0_7 ((cfg0.slots t 7).cast nbuf0_7)) (win0_8.stage (cfg0.slots t 8)) (hstage0_8 ((cfg0.slots t 8).cast nbuf0_8))
    (win0_9.stage (cfg0.slots t 9)) (hstage0_9 ((cfg0.slots t 9).cast nbuf0_9)) (win0_10.stage (cfg0.slots t 10)) (hstage0_10 ((cfg0.slots t
    10).cast nbuf0_10)) (win0_11.stage (cfg0.slots t 11)) (hstage0_11 ((cfg0.slots t 11).cast nbuf0_11)) (win0_12.stage (cfg0.slots t 12))
    (hstage0_12 ((cfg0.slots t 12).cast nbuf0_12)) (win0_13.stage (cfg0.slots t 13)) (hstage0_13 ((cfg0.slots t 13).cast nbuf0_13))
    (Memref.whole cc0_scratch0) (Memref.isWhole_whole cc0_scratch0) (Memref.whole cc0_scratch1) (Memref.isWhole_whole cc0_scratch1)
    (Memref.whole cc0_scratch2) (Memref.isWhole_whole cc0_scratch2) (Memref.whole cc0_scratch3) (Memref.isWhole_whole cc0_scratch3)
    (Memref.whole cc0_scratch4) (Memref.isWhole_whole cc0_scratch4) (Memref.whole cc0_scratch5) (Memref.isWhole_whole cc0_scratch5)
    (Memref.whole cc0_scratch6) (Memref.isWhole_whole cc0_scratch6) (Memref.whole cc0_scratch7) (Memref.isWhole_whole cc0_scratch7) hc0 hc1 x p

/-- The pieces the body leaves at the first point. -/
def piecesA (c : Dev nD) (t : Fin cfg0.N) (hc0 : isFirst (grid0.coords t)) (hc1 : ¬isLast (grid0.coords t)) (x : Ins F) : Pieces F :=
  let r := atA c t hc0 hc1 x
  ⟨r.1, r.2.1, r.2.2.1, r.2.2.2.1, r.2.2.2.2.1, r.2.2.2.2.2.1, r.2.2.2.2.2.2.1⟩

/-- The pieces the body leaves at a middle point. -/
def piecesB (c : Dev nD) (t : Fin cfg0.N) (hc0 : ¬isFirst (grid0.coords t)) (hc1 : ¬isLast (grid0.coords t)) (x : Ins F) (p : Carry F) : Pieces F :=
  let r := atB c t hc0 hc1 x p
  ⟨r.1, r.2.1, r.2.2.1, r.2.2.2.1, r.2.2.2.2.1, r.2.2.2.2.2.1, r.2.2.2.2.2.2.1⟩

/-- The pieces the body leaves at the last point. -/
def piecesC (c : Dev nD) (t : Fin cfg0.N) (hc0 : ¬isFirst (grid0.coords t)) (hc1 : isLast (grid0.coords t)) (x : Ins F) (p : Carry F) : Pieces F :=
  let r := atC c t hc0 hc1 x p
  ⟨r.1, r.2.1, r.2.2.1, r.2.2.2.1, r.2.2.2.2.1, r.2.2.2.2.2.1, r.2.2.2.2.2.2.1⟩

/-- They cover every buffer they are written over. -/
theorem coversA (c : Dev nD) (t : Fin cfg0.N) (hc0 : isFirst (grid0.coords t)) (hc1 : ¬isLast (grid0.coords t)) (x : Ins F) :
    (piecesA c t hc0 hc1 x).Covers where
  o9 := View.cover_of_tiledL (atA c t hc0 hc1 x).1 S128x128.size (by sl_kernel_rfl)
  o10 := View.cover_of_tiledL (atA c t hc0 hc1 x).2.1 S128x128.size (by sl_kernel_rfl)
  o11 := View.cover_of_tiledL (atA c t hc0 hc1 x).2.2.1 S1x128.size (by sl_kernel_rfl)
  o12 := View.cover_of_tiledL (atA c t hc0 hc1 x).2.2.2.1 S1x128.size (by sl_kernel_rfl)
  s0 := View.cover_of_tiledL (atA c t hc0 hc1 x).2.2.2.2.2.1 S1x128x128.size (by sl_kernel_rfl)
  s7 := View.cover_of_tiledL (atA c t hc0 hc1 x).2.2.2.2.2.2.1 S1x128.size (by sl_kernel_rfl)

/-- They cover every buffer they are written over. -/
theorem coversB (c : Dev nD) (t : Fin cfg0.N) (hc0 : ¬isFirst (grid0.coords t)) (hc1 : ¬isLast (grid0.coords t)) (x : Ins F) (p : Carry F) :
    (piecesB c t hc0 hc1 x p).Covers where
  o9 := View.cover_of_tiledL (atB c t hc0 hc1 x p).1 S128x128.size (by sl_kernel_rfl)
  o10 := View.cover_of_tiledL (atB c t hc0 hc1 x p).2.1 S128x128.size (by sl_kernel_rfl)
  o11 := View.cover_of_tiledL (atB c t hc0 hc1 x p).2.2.1 S1x128.size (by sl_kernel_rfl)
  o12 := View.cover_of_tiledL (atB c t hc0 hc1 x p).2.2.2.1 S1x128.size (by sl_kernel_rfl)
  s0 := View.cover_of_tiledL (atB c t hc0 hc1 x p).2.2.2.2.2.1 S1x128x128.size (by sl_kernel_rfl)
  s7 := View.cover_of_tiledL (atB c t hc0 hc1 x p).2.2.2.2.2.2.1 S1x128.size (by sl_kernel_rfl)

/-- They cover every buffer they are written over. -/
theorem coversC (c : Dev nD) (t : Fin cfg0.N) (hc0 : ¬isFirst (grid0.coords t)) (hc1 : isLast (grid0.coords t)) (x : Ins F) (p : Carry F) :
    (piecesC c t hc0 hc1 x p).Covers where
  o9 := View.cover_of_tiledL (atC c t hc0 hc1 x p).1 S128x128.size (by sl_kernel_rfl)
  o10 := View.cover_of_tiledL (atC c t hc0 hc1 x p).2.1 S128x128.size (by sl_kernel_rfl)
  o11 := View.cover_of_tiledL (atC c t hc0 hc1 x p).2.2.1 S1x128.size (by sl_kernel_rfl)
  o12 := View.cover_of_tiledL (atC c t hc0 hc1 x p).2.2.2.1 S1x128.size (by sl_kernel_rfl)
  s0 := View.cover_of_tiledL (atC c t hc0 hc1 x p).2.2.2.2.2.1 S1x128x128.size (by sl_kernel_rfl)
  s7 := View.cover_of_tiledL (atC c t hc0 hc1 x p).2.2.2.2.2.2.1 S1x128.size (by sl_kernel_rfl)

theorem cover13A (c : Dev nD) (t : Fin cfg0.N) (hc0 : isFirst (grid0.coords t)) (hc1 : ¬isLast (grid0.coords t)) (x : Ins F) :
    ∀ y, ∃ q ∈ (piecesA c t hc0 hc1 x).L13, y ∈ q.1.set :=
  View.cover_of_tiledL (atA c t hc0 hc1 x).2.2.2.2.1 S8x128.size (by sl_kernel_rfl)

theorem cover13C (c : Dev nD) (t : Fin cfg0.N) (hc0 : ¬isFirst (grid0.coords t)) (hc1 : isLast (grid0.coords t)) (x : Ins F) (p : Carry F) :
    ∀ y, ∃ q ∈ (piecesC c t hc0 hc1 x p).L13, y ∈ q.1.set :=
  View.cover_of_tiledL (atC c t hc0 hc1 x p).2.2.2.2.1 S8x128.size (by sl_kernel_rfl)

/-- At a middle point the gradient of `D` is not stored. -/
theorem no13B (c : Dev nD) (t : Fin cfg0.N) (hc0 : ¬isFirst (grid0.coords t)) (hc1 : ¬isLast (grid0.coords t)) (x : Ins F) (p : Carry F) :
    (atB c t hc0 hc1 x p).2.2.2.2.1 = [] := rfl

/-- What the pieces leave in a buffer they cover, whatever it held and through whatever view it is read. -/
theorem Pieces.read_s0 (L : Pieces F) (h : L.Covers) (v : View sig .tc .vmem S16x128x128 .f32) (f : v.ty.Contents (Elt F)) :
    v.read (Elt F) (v.writes (Elt F) f L.LS0) = L.out.carry.s0 := read_left v f vs0 _ h.s0
theorem Pieces.read_s7 (L : Pieces F) (h : L.Covers) (v : View sig .tc .vmem S1x2048 .f32) (f : v.ty.Contents (Elt F)) :
    v.read (Elt F) (v.writes (Elt F) f L.LS7) = L.out.carry.s7 := read_left v f vs7 _ h.s7
theorem Pieces.read_o9 (L : Pieces F) (h : L.Covers) (v : View sig .tc .vmem S128x3072 .f32) (f : v.ty.Contents (Elt F)) :
    v.read (Elt F) (v.writes (Elt F) f L.L9) = L.out.o9 := read_left v f v9 _ h.o9
theorem Pieces.read_o10 (L : Pieces F) (h : L.Covers) (v : View sig .tc .vmem S128x128 .f32) (f : v.ty.Contents (Elt F)) :
    v.read (Elt F) (v.writes (Elt F) f L.L10) = L.out.o10 := read_left v f v10 _ h.o10
theorem Pieces.read_o11 (L : Pieces F) (h : L.Covers) (v : View sig .tc .vmem S1x128 .f32) (f : v.ty.Contents (Elt F)) :
    v.read (Elt F) (v.writes (Elt F) f L.L11) = L.out.carry.o11 := read_left v f v11 _ h.o11
theorem Pieces.read_o12 (L : Pieces F) (h : L.Covers) (v : View sig .tc .vmem S1x128 .f32) (f : v.ty.Contents (Elt F)) :
    v.read (Elt F) (v.writes (Elt F) f L.L12) = L.out.carry.o12 := read_left v f v11 _ h.o12
theorem Pieces.read_o13 (L : Pieces F) (h : ∀ y, ∃ q ∈ L.L13, y ∈ q.1.set) (v : View sig .tc .vmem S8x128 .f32) (f : v.ty.Contents (Elt F)) :
    v.read (Elt F) (v.writes (Elt F) f L.L13) = L.out.o13 := read_left v f v13 _ h

attribute [local irreducible] runA runB runC

/-- No point is both the first and the last. -/
theorem not_last_of_first (t : Fin cfg0.N) (h : isFirst (grid0.coords t)) : ¬isLast (grid0.coords t) := fun h' => by
  have a := (isFirst_iff t).mp h
  have b := (isLast_iff t).mp h'
  omega

/-- What point `t` leaves, from its inputs and what the point before left. -/
def step (c : Dev nD) (t : Fin cfg0.N) (x : Ins F) (p : Carry F) : Out F :=
  if h0 : isFirst (grid0.coords t) then (piecesA c t h0 (not_last_of_first t h0) x).out
  else if h1 : isLast (grid0.coords t) then (piecesC c t h0 h1 x p).out
  else (piecesB c t h0 h1 x p).out

/-! ## The proof data -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The inputs' blocks at point `t`. -/
def ins (c : Dev nD) (t : Fin cfg0.N) : Ins F := ⟨iblk V c 0 t, iblk V c 1 t, iblk V c 2 t, iblk V c 3 t, iblk V c 4 t, iblk V c 5 t, iblk V c 6 t, iblk V c 7 t, iblk V c 8 t⟩

/-- What point `n` leaves. -/
def outs (c : Dev nD) : (n : ℕ) → n < cfg0.N → Out F
  | 0, h => step c ⟨0, h⟩ (ins V c ⟨0, h⟩) ⟨readL v11 [], readL v11 [], readL vs0 [], readL vs7 []⟩
  | n + 1, h => step c ⟨n + 1, h⟩ (ins V c ⟨n + 1, h⟩) (outs c n (Nat.lt_of_succ_lt h)).carry

/-- The invariant once a point has run: the two carried scratch buffers at what it left, the others at anything. -/
def carried (c : Dev nD) (p : Carry F) : sProp 𝕄 :=
  iprop(owns (c : Thread nD τ) (Memref.whole cc0_scratch0) fullShare p.s0 ∗
    (∃ d, owns (c : Thread nD τ) (Memref.whole cc0_scratch1) fullShare d) ∗
    (∃ d, owns (c : Thread nD τ) (Memref.whole cc0_scratch2) fullShare d) ∗
    (∃ d, owns (c : Thread nD τ) (Memref.whole cc0_scratch3) fullShare d) ∗
    (∃ d, owns (c : Thread nD τ) (Memref.whole cc0_scratch4) fullShare d) ∗
    (∃ d, owns (c : Thread nD τ) (Memref.whole cc0_scratch5) fullShare d) ∗
    (∃ d, owns (c : Thread nD τ) (Memref.whole cc0_scratch6) fullShare d) ∗
    owns (c : Thread nD τ) (Memref.whole cc0_scratch7) fullShare p.s7)

/-- The invariant before point `n`. -/
def Phi (c : Dev nD) : (n : ℕ) → n ≤ cfg0.N → sProp 𝕄
  | 0, _ => Pipeline.scopedRest spec0 c
  | n + 1, h => carried c (outs V c n h).carry

theorem rest_eq (c : Dev nD) :
    (Pipeline.scopedRest spec0 c : sProp 𝕄)
      = iprop((∃ d, owns (c : Thread nD τ) (Memref.whole cc0_scratch0) fullShare d) ∗
    (∃ d, owns (c : Thread nD τ) (Memref.whole cc0_scratch1) fullShare d) ∗
    (∃ d, owns (c : Thread nD τ) (Memref.whole cc0_scratch2) fullShare d) ∗
    (∃ d, owns (c : Thread nD τ) (Memref.whole cc0_scratch3) fullShare d) ∗
    (∃ d, owns (c : Thread nD τ) (Memref.whole cc0_scratch4) fullShare d) ∗
    (∃ d, owns (c : Thread nD τ) (Memref.whole cc0_scratch5) fullShare d) ∗
    (∃ d, owns (c : Thread nD τ) (Memref.whole cc0_scratch6) fullShare d) ∗
    (∃ d, owns (c : Thread nD τ) (Memref.whole cc0_scratch7) fullShare d)) := by
  rw [scopedRest0_eq]; simp only [owns_whole]; try rfl

/-- The proof data of the one pipeline on core `c`, from the arrays at `V`. -/
def dat (c : Dev nD) : Dat τ (Elt F) Unit ℕ UU ℕ cfg0 c where
  A w := V c (Pipeline.arrRef spec0 w)
  after w t := match w with
    | ⟨9, _⟩ => (outs V c t.val t.isLt).o9
    | ⟨10, _⟩ => (outs V c t.val t.isLt).o10
    | ⟨11, _⟩ => (outs V c t.val t.isLt).carry.o11
    | ⟨12, _⟩ => (outs V c t.val t.isLt).carry.o12
    | ⟨13, _⟩ => (outs V c t.val t.isLt).o13
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨_ + 14, h⟩ => absurd h (Nat.not_lt.2 (Nat.le_add_left _ _))
  Φ t := Phi V c t.val (Nat.le_of_lt_succ t.isLt)
  q _ := fullShare
  owed _ := 0

theorem after_9 (c : Dev nD) (t : Fin cfg0.N) : (dat V c).after 9 t = (outs V c t.val t.isLt).o9 := rfl
theorem after_10 (c : Dev nD) (t : Fin cfg0.N) : (dat V c).after 10 t = (outs V c t.val t.isLt).o10 := rfl
theorem after_11 (c : Dev nD) (t : Fin cfg0.N) : (dat V c).after 11 t = (outs V c t.val t.isLt).carry.o11 := rfl
theorem after_12 (c : Dev nD) (t : Fin cfg0.N) : (dat V c).after 12 t = (outs V c t.val t.isLt).carry.o12 := rfl
theorem after_13 (c : Dev nD) (t : Fin cfg0.N) : (dat V c).after 13 t = (outs V c t.val t.isLt).o13 := rfl
theorem after_0 (c : Dev nD) (t : Fin cfg0.N) : (dat V c).after 0 t = iblk V c 0 t := rfl
theorem after_1 (c : Dev nD) (t : Fin cfg0.N) : (dat V c).after 1 t = iblk V c 1 t := rfl
theorem after_2 (c : Dev nD) (t : Fin cfg0.N) : (dat V c).after 2 t = iblk V c 2 t := rfl
theorem after_3 (c : Dev nD) (t : Fin cfg0.N) : (dat V c).after 3 t = iblk V c 3 t := rfl
theorem after_4 (c : Dev nD) (t : Fin cfg0.N) : (dat V c).after 4 t = iblk V c 4 t := rfl
theorem after_5 (c : Dev nD) (t : Fin cfg0.N) : (dat V c).after 5 t = iblk V c 5 t := rfl
theorem after_6 (c : Dev nD) (t : Fin cfg0.N) : (dat V c).after 6 t = iblk V c 6 t := rfl
theorem after_7 (c : Dev nD) (t : Fin cfg0.N) : (dat V c).after 7 t = iblk V c 7 t := rfl
theorem after_8 (c : Dev nD) (t : Fin cfg0.N) : (dat V c).after 8 t = iblk V c 8 t := rfl

/-- An input's staging buffer holds its block at every point. -/
theorem before_in (c : Dev nD) (t : Fin cfg0.N) :
    (∀ d, (dat V c).before 0 t d = iblk V c 0 t) ∧
    (∀ d, (dat V c).before 1 t d = iblk V c 1 t) ∧
    (∀ d, (dat V c).before 2 t d = iblk V c 2 t) ∧
    (∀ d, (dat V c).before 3 t d = iblk V c 3 t) ∧
    (∀ d, (dat V c).before 4 t d = iblk V c 4 t) ∧
    (∀ d, (dat V c).before 5 t d = iblk V c 5 t) ∧
    (∀ d, (dat V c).before 6 t d = iblk V c 6 t) ∧
    (∀ d, (dat V c).before 7 t d = iblk V c 7 t) ∧
    (∀ d, (dat V c).before 8 t d = iblk V c 8 t) := by
  refine ⟨fun d => ?_, fun d => ?_, fun d => ?_, fun d => ?_, fun d => ?_, fun d => ?_, fun d => ?_, fun d => ?_, fun d => ?_⟩
  all_goals
    exact ((dat V c).before_in_eq_fetched _ rfl (fun _ => rfl) (fun _ _ _ => rfl)
      (fun t => by dsimp only [dat]; unfold Dat.blockOf iblk; try rfl) t d).trans
      (by unfold Dat.fetched Dat.blockOf iblk; dsimp only [dat]; try rfl)

/-- The outputs added up over the points hold, after the first, what the point before left. -/
theorem before_acc (c : Dev nD) (t : Fin cfg0.N) (h : t.val ≠ 0) :
    (∀ d, (dat V c).before 11 t d = (outs V c (t.val - 1) (Nat.lt_of_le_of_lt (Nat.sub_le _ _) t.isLt)).carry.o11) ∧
    (∀ d, (dat V c).before 12 t d = (outs V c (t.val - 1) (Nat.lt_of_le_of_lt (Nat.sub_le _ _) t.isLt)).carry.o12) := by
  have hN : t.val < 128 := lt_of_lt_of_eq t.isLt (show cfg0.N = 128 from N_0)
  refine ⟨fun d => ?_, fun d => ?_⟩
  · rw [Dat.before_out_kept _ 11 rfl t (by omega) (Bool.eq_false_iff.mpr fun h => by have := (flush0_11 _).mp h; dsimp only at this; omega)
      (fun _ => rfl) (fun _ _ => rfl)]
    dsimp only [dat]
  · rw [Dat.before_out_kept _ 12 rfl t (by omega) (Bool.eq_false_iff.mpr fun h => by have := (flush0_12 _).mp h; dsimp only at this; omega)
      (fun _ => rfl) (fun _ _ => rfl)]
    dsimp only [dat]

theorem leaves_live (c : Dev nD) (w : Fin cfg0.W) (t : Fin cfg0.N) (h : cfg0.idle w (grid0.coords t) = false) :
    (dat V c).leavesExact w t = owns (c : Thread nD τ) ((cfg0.win w).stage (cfg0.slots t w)) fullShare ((dat V c).after w t) := by
  unfold Dat.leavesExact; rw [h]

theorem idle13 : ∀ t : Fin cfg0.N, ¬isFirst (grid0.coords t) → ¬isLast (grid0.coords t) → cfg0.idle 13 (grid0.coords t) = true := by decide +kernel
theorem noFlush13 : ∀ t : Fin cfg0.N, ¬isFirst (grid0.coords t) → ¬isLast (grid0.coords t) → (cfg0.win 13).flush t = false := by decide +kernel
theorem live13_first : ∀ t : Fin cfg0.N, isFirst (grid0.coords t) → cfg0.idle 13 (grid0.coords t) = false := by decide +kernel
theorem live13_last : ∀ t : Fin cfg0.N, isLast (grid0.coords t) → cfg0.idle 13 (grid0.coords t) = false := by decide +kernel

theorem outs_eq (c : Dev nD) (t : Fin cfg0.N) (h : t.val ≠ 0) :
    outs V c t.val t.isLt = step c t (ins V c t) (outs V c (t.val - 1) (Nat.lt_of_le_of_lt (Nat.sub_le _ _) t.isLt)).carry := by
  obtain ⟨n, hn⟩ := t
  cases n with
  | zero => exact absurd rfl h
  | succ n => rfl

theorem outs_first (c : Dev nD) (t : Fin cfg0.N) (h0 : isFirst (grid0.coords t)) :
    outs V c t.val t.isLt = (piecesA c t h0 (not_last_of_first t h0) (ins V c t)).out := by
  have h : t.val = 0 := (isFirst_iff t).mp h0
  obtain ⟨n, hn⟩ := t
  subst h
  exact dif_pos h0

theorem outs_mid (c : Dev nD) (t : Fin cfg0.N) (h0 : ¬isFirst (grid0.coords t)) (h1 : ¬isLast (grid0.coords t)) :
    outs V c t.val t.isLt = (piecesB c t h0 h1 (ins V c t) (outs V c (t.val - 1) (Nat.lt_of_le_of_lt (Nat.sub_le _ _) t.isLt)).carry).out := by
  rw [outs_eq V c t fun h => h0 ((isFirst_iff t).mpr h)]
  unfold step; rw [dif_neg h0, dif_neg h1]

theorem outs_last (c : Dev nD) (t : Fin cfg0.N) (h0 : ¬isFirst (grid0.coords t)) (h1 : isLast (grid0.coords t)) :
    outs V c t.val t.isLt = (piecesC c t h0 h1 (ins V c t) (outs V c (t.val - 1) (Nat.lt_of_le_of_lt (Nat.sub_le _ _) t.isLt)).carry).out := by
  rw [outs_eq V c t fun h => h0 ((isFirst_iff t).mpr h)]
  unfold step; rw [dif_neg h0, dif_pos h1]

theorem Phi_pos (c : Dev nD) (n : ℕ) (h : n ≤ cfg0.N) (hz : n ≠ 0) :
    Phi V c n h = carried c (outs V c (n - 1) (by omega)).carry := by
  cases n with
  | zero => exact absurd rfl hz
  | succ n => rfl

/-! ## The body at every point -/

def bodyPre (c : Dev nD) (t : Fin cfg0.N) : sProp 𝕄 :=
  iprop((dat V c).Φ t.castSucc ∗ (dat V c).owesAt () t.castSucc
    ∗ (∃ d, owns (c : Thread nD τ) (win0_0.stage (cfg0.slots t 0)) fullShare ((dat V c).before 0 t d))
    ∗ (∃ d, owns (c : Thread nD τ) (win0_1.stage (cfg0.slots t 1)) fullShare ((dat V c).before 1 t d))
    ∗ (∃ d, owns (c : Thread nD τ) (win0_2.stage (cfg0.slots t 2)) fullShare ((dat V c).before 2 t d))
    ∗ (∃ d, owns (c : Thread nD τ) (win0_3.stage (cfg0.slots t 3)) fullShare ((dat V c).before 3 t d))
    ∗ (∃ d, owns (c : Thread nD τ) (win0_4.stage (cfg0.slots t 4)) fullShare ((dat V c).before 4 t d))
    ∗ (∃ d, owns (c : Thread nD τ) (win0_5.stage (cfg0.slots t 5)) fullShare ((dat V c).before 5 t d))
    ∗ (∃ d, owns (c : Thread nD τ) (win0_6.stage (cfg0.slots t 6)) fullShare ((dat V c).before 6 t d))
    ∗ (∃ d, owns (c : Thread nD τ) (win0_7.stage (cfg0.slots t 7)) fullShare ((dat V c).before 7 t d))
    ∗ (∃ d, owns (c : Thread nD τ) (win0_8.stage (cfg0.slots t 8)) fullShare ((dat V c).before 8 t d))
    ∗ (∃ d, owns (c : Thread nD τ) (win0_9.stage (cfg0.slots t 9)) fullShare ((dat V c).before 9 t d))
    ∗ (∃ d, owns (c : Thread nD τ) (win0_10.stage (cfg0.slots t 10)) fullShare ((dat V c).before 10 t d))
    ∗ (∃ d, owns (c : Thread nD τ) (win0_11.stage (cfg0.slots t 11)) fullShare ((dat V c).before 11 t d))
    ∗ (∃ d, owns (c : Thread nD τ) (win0_12.stage (cfg0.slots t 12)) fullShare ((dat V c).before 12 t d))
    ∗ (∃ d, owns (c : Thread nD τ) (win0_13.stage (cfg0.slots t 13)) fullShare ((dat V c).before 13 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t
    ∗ (dat V c).leavesExact 13 t)

set_option maxHeartbeats 24000000 in
/-- At every point the body, from the buffers the pipeline hands it, leaves what the proof data say. -/
theorem sound_body (c : Dev nD) (t : Fin cfg0.N) :
    bodyPre V c t ⊢ wp frame (wpE (defs₀ (F := F)) Variants.none c none) Set.univ (bodyAt0 t) (fun _ => bodyPost V c t) := by
  obtain ⟨b0, b1, b2, b3, b4, b5, b6, b7, b8⟩ := before_in V c t
  unfold bodyPre bodyPost bodyAt0
  simp only [b0, b1, b2, b3, b4, b5, b6, b7, b8]
  rw [show (dat V c).owesAt () t.succ = (dat V c).owesAt () t.castSucc from rfl]
  rw [show (dat V c).Φ t.succ = carried c (outs V c t.val t.isLt).carry from rfl,
    show (dat V c).Φ t.castSucc = Phi V c t.val (Nat.le_of_lt t.isLt) from rfl]
  rw [leaves_live V c 0 t rfl, leaves_live V c 1 t rfl, leaves_live V c 2 t rfl, leaves_live V c 3 t rfl, leaves_live V c 4 t rfl, leaves_live V c 5 t rfl, leaves_live V c 6 t rfl, leaves_live V c 7 t rfl, leaves_live V c 8 t rfl, leaves_live V c 9 t rfl, leaves_live V c 10 t rfl, leaves_live V c 11 t rfl, leaves_live V c 12 t rfl]
  rw [after_9, after_10, after_11, after_12, after_0, after_1, after_2, after_3, after_4, after_5, after_6, after_7, after_8]
  by_cases h0 : isFirst (grid0.coords t)
  · have hz : t.val = 0 := (isFirst_iff t).mp h0
    rw [leaves_live V c 13 t (live13_first t h0), after_13]
    rw [outs_first V c t h0, show Phi V c t.val (Nat.le_of_lt t.isLt) = Pipeline.scopedRest spec0 c from by
      obtain ⟨n, hn⟩ := t; subst hz; rfl, rest_eq]
    unfold carried
    iintro ⟨⟨⟨%e0, S0⟩, ⟨%e1, S1⟩, ⟨%e2, S2⟩, ⟨%e3, S3⟩, ⟨%e4, S4⟩, ⟨%e5, S5⟩, ⟨%e6, S6⟩, ⟨%e7, S7⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((atA c t h0 (not_last_of_first t h0) (ins V c t)).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    iintro ⟨H0, H1, H2, H3, H4, H5, H6, H7, H8, ⟨%g9, H9⟩, ⟨%g10, H10⟩, ⟨%g11, H11⟩, ⟨%g12, H12⟩, ⟨%g13, H13⟩, ⟨%u0, S0⟩, ⟨%u1, S1⟩, ⟨%u2, S2⟩, ⟨%u3, S3⟩, ⟨%u4, S4⟩, ⟨%u5, S5⟩, ⟨%u6, S6⟩, ⟨%u7, S7⟩⟩
    isplitl [S0 S1 S2 S3 S4 S5 S6 S7]
    · isplitl [S0]
      · unfold owns; iexists _; isplitr; swap; (· iexact S0); ipureintro; exact Pieces.read_s0 _ (coversA c t h0 (not_last_of_first t h0) (ins V c t)) _ _
      isplitl [S1]; · iexists _; unfold owns; iexists _; isplitr; swap; (· iexact S1); ipureintro; rfl
      isplitl [S2]; · iexists _; unfold owns; iexists _; isplitr; swap; (· iexact S2); ipureintro; rfl
      isplitl [S3]; · iexists _; unfold owns; iexists _; isplitr; swap; (· iexact S3); ipureintro; rfl
      isplitl [S4]; · iexists _; unfold owns; iexists _; isplitr; swap; (· iexact S4); ipureintro; rfl
      isplitl [S5]; · iexists _; unfold owns; iexists _; isplitr; swap; (· iexact S5); ipureintro; rfl
      isplitl [S6]; · iexists _; unfold owns; iexists _; isplitr; swap; (· iexact S6); ipureintro; rfl
      unfold owns; iexists _; isplitr; swap; (· iexact S7); ipureintro; exact Pieces.read_s7 _ (coversA c t h0 (not_last_of_first t h0) (ins V c t)) _ _
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr; swap; (· iexact H9); ipureintro; exact Pieces.read_o9 _ (coversA c t h0 (not_last_of_first t h0) (ins V c t)) _ _
    isplitl [H10]
    · unfold owns; iexists _; isplitr; swap; (· iexact H10); ipureintro; exact Pieces.read_o10 _ (coversA c t h0 (not_last_of_first t h0) (ins V c t)) _ _
    isplitl [H11]
    · unfold owns; iexists _; isplitr; swap; (· iexact H11); ipureintro; exact Pieces.read_o11 _ (coversA c t h0 (not_last_of_first t h0) (ins V c t)) _ _
    isplitl [H12]
    · unfold owns; iexists _; isplitr; swap; (· iexact H12); ipureintro; exact Pieces.read_o12 _ (coversA c t h0 (not_last_of_first t h0) (ins V c t)) _ _
    unfold owns; iexists _; isplitr; swap; (· iexact H13); ipureintro; exact Pieces.read_o13 _ (cover13A c t h0 (not_last_of_first t h0) (ins V c t)) _ _
  · have hz : t.val ≠ 0 := fun h => h0 ((isFirst_iff t).mpr h)
    obtain ⟨b11, b12⟩ := before_acc V c t hz
    simp only [b11, b12]
    rw [Phi_pos V c t.val _ hz]
    by_cases h1 : isLast (grid0.coords t)
    · rw [leaves_live V c 13 t (live13_last t h1), after_13]
      rw [outs_last V c t h0 h1]
      unfold carried
      generalize (outs V c (t.val - 1) (Nat.lt_of_le_of_lt (Nat.sub_le _ _) t.isLt)).carry = p
      iintro ⟨⟨S0, ⟨%e1, S1⟩, ⟨%e2, S2⟩, ⟨%e3, S3⟩, ⟨%e4, S4⟩, ⟨%e5, S5⟩, ⟨%e6, S6⟩, S7⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((atC c t h0 h1 (ins V c t) p).2.2.2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexact H11
      isplitl [H12]; · iexact H12
      isplitl [H13]; · iexact H13
      isplitl [S0]; · iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexact S7
      iintro ⟨H0, H1, H2, H3, H4, H5, H6, H7, H8, ⟨%g9, H9⟩, ⟨%g10, H10⟩, ⟨%g11, H11⟩, ⟨%g12, H12⟩, ⟨%g13, %hg13, H13⟩, ⟨%u0, S0⟩, ⟨%u1, S1⟩, ⟨%u2, S2⟩, ⟨%u3, S3⟩, ⟨%u4, S4⟩, ⟨%u5, S5⟩, ⟨%u6, S6⟩, ⟨%u7, S7⟩⟩
      isplitl [S0 S1 S2 S3 S4 S5 S6 S7]
      · isplitl [S0]
        · unfold owns; iexists _; isplitr; swap; (· iexact S0); ipureintro; exact Pieces.read_s0 _ (coversC c t h0 h1 (ins V c t) p) _ _
        isplitl [S1]; · iexists _; unfold owns; iexists _; isplitr; swap; (· iexact S1); ipureintro; rfl
        isplitl [S2]; · iexists _; unfold owns; iexists _; isplitr; swap; (· iexact S2); ipureintro; rfl
        isplitl [S3]; · iexists _; unfold owns; iexists _; isplitr; swap; (· iexact S3); ipureintro; rfl
        isplitl [S4]; · iexists _; unfold owns; iexists _; isplitr; swap; (· iexact S4); ipureintro; rfl
        isplitl [S5]; · iexists _; unfold owns; iexists _; isplitr; swap; (· iexact S5); ipureintro; rfl
        isplitl [S6]; · iexists _; unfold owns; iexists _; isplitr; swap; (· iexact S6); ipureintro; rfl
        unfold owns; iexists _; isplitr; swap; (· iexact S7); ipureintro; exact Pieces.read_s7 _ (coversC c t h0 h1 (ins V c t) p) _ _
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr; swap; (· iexact H9); ipureintro; exact Pieces.read_o9 _ (coversC c t h0 h1 (ins V c t) p) _ _
      isplitl [H10]
      · unfold owns; iexists _; isplitr; swap; (· iexact H10); ipureintro; exact Pieces.read_o10 _ (coversC c t h0 h1 (ins V c t) p) _ _
      isplitl [H11]
      · unfold owns; iexists _; isplitr; swap; (· iexact H11); ipureintro; exact Pieces.read_o11 _ (coversC c t h0 h1 (ins V c t) p) _ _
      isplitl [H12]
      · unfold owns; iexists _; isplitr; swap; (· iexact H12); ipureintro; exact Pieces.read_o12 _ (coversC c t h0 h1 (ins V c t) p) _ _
      unfold owns; iexists _; isplitr; swap; (· iexact H13); ipureintro; exact Pieces.read_o13 _ (cover13C c t h0 h1 (ins V c t) p) _ _
    · rw [Dat.leavesExact_idle _ 13 t (idle13 t h0 h1) (noFlush13 t h0 h1)]
      rw [outs_mid V c t h0 h1]
      unfold carried
      generalize (outs V c (t.val - 1) (Nat.lt_of_le_of_lt (Nat.sub_le _ _) t.isLt)).carry = p
      iintro ⟨⟨S0, ⟨%e1, S1⟩, ⟨%e2, S2⟩, ⟨%e3, S3⟩, ⟨%e4, S4⟩, ⟨%e5, S5⟩, ⟨%e6, S6⟩, S7⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((atB c t h0 h1 (ins V c t) p).2.2.2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexact H11
      isplitl [H12]; · iexact H12
      isplitl [H13]; · iexact H13
      isplitl [S0]; · iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexact S7
      iintro ⟨H0, H1, H2, H3, H4, H5, H6, H7, H8, ⟨%g9, H9⟩, ⟨%g10, H10⟩, ⟨%g11, H11⟩, ⟨%g12, H12⟩, ⟨%g13, %hg13, H13⟩, ⟨%u0, S0⟩, ⟨%u1, S1⟩, ⟨%u2, S2⟩, ⟨%u3, S3⟩, ⟨%u4, S4⟩, ⟨%u5, S5⟩, ⟨%u6, S6⟩, ⟨%u7, S7⟩⟩
      isplitl [S0 S1 S2 S3 S4 S5 S6 S7]
      · isplitl [S0]
        · unfold owns; iexists _; isplitr; swap; (· iexact S0); ipureintro; exact Pieces.read_s0 _ (coversB c t h0 h1 (ins V c t) p) _ _
        isplitl [S1]; · iexists _; unfold owns; iexists _; isplitr; swap; (· iexact S1); ipureintro; rfl
        isplitl [S2]; · iexists _; unfold owns; iexists _; isplitr; swap; (· iexact S2); ipureintro; rfl
        isplitl [S3]; · iexists _; unfold owns; iexists _; isplitr; swap; (· iexact S3); ipureintro; rfl
        isplitl [S4]; · iexists _; unfold owns; iexists _; isplitr; swap; (· iexact S4); ipureintro; rfl
        isplitl [S5]; · iexists _; unfold owns; iexists _; isplitr; swap; (· iexact S5); ipureintro; rfl
        isplitl [S6]; · iexists _; unfold owns; iexists _; isplitr; swap; (· iexact S6); ipureintro; rfl
        unfold owns; iexists _; isplitr; swap; (· iexact S7); ipureintro; exact Pieces.read_s7 _ (coversB c t h0 h1 (ins V c t) p) _ _
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr; swap; (· iexact H9); ipureintro; exact Pieces.read_o9 _ (coversB c t h0 h1 (ins V c t) p) _ _
      isplitl [H10]
      · unfold owns; iexists _; isplitr; swap; (· iexact H10); ipureintro; exact Pieces.read_o10 _ (coversB c t h0 h1 (ins V c t) p) _ _
      isplitl [H11]
      · unfold owns; iexists _; isplitr; swap; (· iexact H11); ipureintro; exact Pieces.read_o11 _ (coversB c t h0 h1 (ins V c t) p) _ _
      isplitl [H12]
      · unfold owns; iexists _; isplitr; swap; (· iexact H12); ipureintro; exact Pieces.read_o12 _ (coversB c t h0 h1 (ins V c t) p) _ _
      iexists _; unfold owns; iexists _; isplitr; swap; (· iexact H13); ipureintro; rw [no13B]; exact hg13

/-- The body table's row at point `t`'s buffers is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

end Cert.Proof.Ssd

end
-- ==== Proof.Region.lean ====
/-
  The backward kernel of the state-space scan as one segment of the program: from every buffer the program holds at
  contents `V` it leaves its five outputs at what its writes leave them and every other buffer at `V`.
-/
module

public import proofs.«01_k».proof.Proof.Body

@[expose] public section

noncomputable section

namespace Cert.Proof.Ssd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- No prefetched table: nothing is asked of one. -/
abbrev adm : (p : Fin 1) → (pcfgs (F := F) p).Adm := fun p => (cfgs p).toPCfg_adm
/-- No core owes another anything: no level is assigned. -/
abbrev L : GSem nD τ sig → Finset Unit := fun _ => ∅
abbrev lv : GSem nD τ sig → Unit → ℕ := fun _ _ => 0

variable (V : (c : Dev nD) → (b : Ref sig .tc) → Buf (Elt F) ((c : Thread nD τ).loc b))

/-- The proof data of the program's one kernel call. -/
def pdats : (p : Fin 1) → (c : Dev nD) → Dat τ (Elt F) Unit ℕ UU ℕ (Pipeline.pin (pcfgs (F := F)) adm p) c
  | ⟨0, _⟩ => fun c => dat V c

/-- What the kernel leaves in the array of one of its windows. -/
abbrev left (c : Dev nD) (w : Fin cfg0.W) : Buf (Elt F) ((cfg0.win w).arr.view.loc (c : Thread nD τ)) := (dat V c).arrAt w cfg0.N

/-- What a point leaves is, its contents forgotten, what the region found. -/
theorem carried_rest (c : Dev nD) (p : Carry F) : (carried c p : sProp 𝕄) ⊢ Pipeline.scopedRest spec0 c := by
  rw [rest_eq]; unfold carried
  iintro ⟨H0, H1, H2, H3, H4, H5, H6, H7⟩
  isplitl [H0]; · iexists _; iexact H0
  isplitl [H1]; · iexact H1
  isplitl [H2]; · iexact H2
  isplitl [H3]; · iexact H3
  isplitl [H4]; · iexact H4
  isplitl [H5]; · iexact H5
  isplitl [H6]; · iexact H6
  iexists _; iexact H7

theorem N_pos : 0 < cfg0.N := Nat.lt_of_lt_of_eq (by decide : 0 < 128) N_0.symm

/-- After the last point the invariant holds what that point left. -/
theorem Phi_last (c : Dev nD) : (dat V c).Φ (Fin.last cfg0.N) = carried c (outs V c (cfg0.N - 1) (Nat.sub_lt N_pos Nat.one_pos)).carry :=
  Phi_pos V c cfg0.N le_rfl (Nat.ne_of_gt N_pos)

variable (Vp : (c : Dev nD) → (b : Ref sig .tc) → Buf (Elt F) ((c : Thread nD τ).loc b))

/-- `Vp` is `V` but for the kernel's five outputs, which are as the kernel leaves them. -/
structure Leaves : Prop where
  out : ∀ c, Vp c main_v67_0 = left V c 9 ∧ Vp c main_v67_1 = left V c 10 ∧ Vp c main_v67_2 = left V c 11 ∧ Vp c main_v67_3 = left V c 12 ∧ Vp c main_v67_4 = left V c 13
  ne : ∀ c (b : Ref sig .tc), b ≠ main_v67_0 → b ≠ main_v67_1 → b ≠ main_v67_2 → b ≠ main_v67_3 → b ≠ main_v67_4 → Vp c b = V c b

set_option backward.isDefEq.respectTransparency.types false in
set_option maxHeartbeats 4000000 in
/-- The kernel call over the program's buffers: entered at `V`, left at `Vp`. -/
def reg (hVp : Leaves V Vp) : Pipeline.RegionSeg (pcfgs (F := F)) adm (pdats V) () defs₀ Variants.none L lv 0 where
  win := launch0.win.to₀
  block_pos := launch0.block_pos
  stage_whole := launch0.stage_whole
  K := PEmpty
  osem k := k.elim
  ho := Pipeline.OwnSemFacts.none _
  hbody c := (body_obligation V c).loose
  hwaits := Pipeline.hwaits_of_owed_zero _ _ _ _ L lv 0 fun _ _ => rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UU) (Lvl := ℕ) spec0 c (V c)
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V 0 c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none, show (pdats V 0 c).Φ (Fin.last _) = (dat V c).Φ (Fin.last cfg0.N) from rfl, Phi_last]
    iintro Hr
    isplitr; · iempintro
    isplitr; · iempintro
    iapply (carried_rest c _)
    iexact Hr
  hexit c := by
    have hjoin := Pipeline.unscopedBufs_of_arrays (p := 0) (pcfgs (F := F)) adm (Ix := Unit) (Name := ℕ) (U := UU) (Lvl := ℕ) launch0.win launch0.arr_whole c
      (pdats V) ((pdats V 0 c).share_full fun _ => rfl) (V c) (Vp c) ((pdats V 0 c).arrAt · cfg0.N)
      (fun w => by
        fin_cases w
        · exact ((pdats V 0 c).arrAt_in 0 rfl _).trans (hVp.ne c main_arg0 (by decide) (by decide) (by decide) (by decide) (by decide)).symm
        · exact ((pdats V 0 c).arrAt_in 1 rfl _).trans (hVp.ne c main_v66 (by decide) (by decide) (by decide) (by decide) (by decide)).symm
        · exact ((pdats V 0 c).arrAt_in 2 rfl _).trans (hVp.ne c main_arg5 (by decide) (by decide) (by decide) (by decide) (by decide)).symm
        · exact ((pdats V 0 c).arrAt_in 3 rfl _).trans (hVp.ne c main_v63 (by decide) (by decide) (by decide) (by decide) (by decide)).symm
        · exact ((pdats V 0 c).arrAt_in 4 rfl _).trans (hVp.ne c main_v20 (by decide) (by decide) (by decide) (by decide) (by decide)).symm
        · exact ((pdats V 0 c).arrAt_in 5 rfl _).trans (hVp.ne c main_v15 (by decide) (by decide) (by decide) (by decide) (by decide)).symm
        · exact ((pdats V 0 c).arrAt_in 6 rfl _).trans (hVp.ne c main_v23 (by decide) (by decide) (by decide) (by decide) (by decide)).symm
        · exact ((pdats V 0 c).arrAt_in 7 rfl _).trans (hVp.ne c main_v10 (by decide) (by decide) (by decide) (by decide) (by decide)).symm
        · exact ((pdats V 0 c).arrAt_in 8 rfl _).trans (hVp.ne c main_v25 (by decide) (by decide) (by decide) (by decide) (by decide)).symm
        · exact (hVp.out c).1.symm
        · exact (hVp.out c).2.1.symm
        · exact (hVp.out c).2.2.1.symm
        · exact (hVp.out c).2.2.2.1.symm
        · exact (hVp.out c).2.2.2.2.symm)
      (fun b hb => hVp.ne c b (fun h => hb (h ▸ Finset.mem_image.mpr ⟨9, Finset.mem_univ _, rfl⟩)) (fun h => hb (h ▸ Finset.mem_image.mpr ⟨10, Finset.mem_univ _, rfl⟩))
        (fun h => hb (h ▸ Finset.mem_image.mpr ⟨11, Finset.mem_univ _, rfl⟩)) (fun h => hb (h ▸ Finset.mem_image.mpr ⟨12, Finset.mem_univ _, rfl⟩))
        (fun h => hb (h ▸ Finset.mem_image.mpr ⟨13, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof.Ssd

end
-- ==== Proof.Run.lean ====
/-
  The whole program's run: the host lines that prepare the kernel's arguments, the forward scan's loop of 128 trips
  that gives the states each chunk starts from, the kernel call, and the slice of its output. Every execution ends with
  every buffer the program holds at `fin`, and with every semaphore at zero.
-/
module

public import proofs.«01_k».proof.Proof.Region
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 16384

noncomputable section

namespace Cert.Proof.Ssd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (CSeg Ticket ucRefs sub_ucRefs)

variable {F : FTy → Type} [FloatOps F]

local notation "𝕄" => MT nD τ sig Unit (Elt F) ℕ UU ℕ

/-! ## The stretches of host operations -/

/-- What the operations of `hostOps0` write, in order; none allocates a buffer. -/
abbrev hostOps0_W : List (Ref sig .tc) := [main_v0, main_v1, main_v2, main_v3, main_c]
theorem hostOps0_writes : (hostOps0 : List (HloOp τ sig (Elt F))).Forall fun op => op.writes ⊆ (hostOps0_W.map (Proc.devRef (τ := τ) .tc)).toFinset :=
  StableHlo.forall_writes_sub_of_map rfl
theorem hostOps0_fresh : (hostOps0 : List (HloOp τ sig (Elt F))).Forall fun op => op.fresh = ∅ :=
  StableHlo.forall_fresh_of_map rfl
/-- What the operations of `hostOps0_1` write, in order; none allocates a buffer. -/
abbrev hostOps0_1_W : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v4]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_fresh : (hostOps0_1 : List (HloOp τ sig (Elt F))).Forall fun op => op.fresh = ∅ :=
  StableHlo.forall_fresh_of_map rfl
/-- What the operations of `hostOps0_2` write, in order; none allocates a buffer. -/
abbrev hostOps0_2_W : List (Ref sig .tc) := [main_v5, main_v6, main_v7, main_v8, main_v9, main_v10, main_cst, main_v11, main_c_0, main_v12, main_c_1, main_v13, main_v14, main_v15, main_cst_2, main_v16, main_c_3, main_v17, main_c_4, main_v18, main_v19, main_v20, main_v21, main_v22, main_v23, main_v24, main_v25, main_v26, main_v27, main_v28, main_v29, main_v30, main_v31]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_2_fresh : (hostOps0_2 : List (HloOp τ sig (Elt F))).Forall fun op => op.fresh = ∅ :=
  StableHlo.forall_fresh_of_map rfl
/-- What the operations of `hostOps0_3` write, in order; none allocates a buffer. -/
abbrev hostOps0_3_W : List (Ref sig .tc) := [main_call1_cst, main_call1_v0, main_call1_v1, main_call1_v2, main_call1_v3, main_call1_v4, main_call1_v5, main_call1_v6, main_call1_v7, main_call1_v8, main_call1_v9, main_call1_v10, main_call1_v11, main_v32]
theorem hostOps0_3_writes : (hostOps0_3 : List (HloOp τ sig (Elt F))).Forall fun op => op.writes ⊆ (hostOps0_3_W.map (Proc.devRef (τ := τ) .tc)).toFinset :=
  StableHlo.forall_writes_sub_of_map rfl
theorem hostOps0_3_fresh : (hostOps0_3 : List (HloOp τ sig (Elt F))).Forall fun op => op.fresh = ∅ :=
  StableHlo.forall_fresh_of_map rfl
/-- What the operations of `hostOps0_4` write, in order; none allocates a buffer. -/
abbrev hostOps0_4_W : List (Ref sig .tc) := [main_v33, main_v34, main_v35, main_v36, main_v37, main_v38, main_v39, main_v40, main_v41, main_v42, main_v43, main_v44, main_v45]
theorem hostOps0_4_writes : (hostOps0_4 : List (HloOp τ sig (Elt F))).Forall fun op => op.writes ⊆ (hostOps0_4_W.map (Proc.devRef (τ := τ) .tc)).toFinset :=
  StableHlo.forall_writes_sub_of_map rfl
theorem hostOps0_4_fresh : (hostOps0_4 : List (HloOp τ sig (Elt F))).Forall fun op => op.fresh = ∅ :=
  StableHlo.forall_fresh_of_map rfl
/-- What the operations of `hostOps0_5` write, in order; none allocates a buffer. -/
abbrev hostOps0_5_W : List (Ref sig .tc) := [main_call2_call0_cst, main_call2_call0_v0, main_v46]
theorem hostOps0_5_writes : (hostOps0_5 : List (HloOp τ sig (Elt F))).Forall fun op => op.writes ⊆ (hostOps0_5_W.map (Proc.devRef (τ := τ) .tc)).toFinset :=
  StableHlo.forall_writes_sub_of_map rfl
theorem hostOps0_5_fresh : (hostOps0_5 : List (HloOp τ sig (Elt F))).Forall fun op => op.fresh = ∅ :=
  StableHlo.forall_fresh_of_map rfl
/-- What the operations of `hostOps0_6` write, in order; none allocates a buffer. -/
abbrev hostOps0_6_W : List (Ref sig .tc) := [main_v47, main_v48, main_v49, main_v50, main_v51, main_v52, main_v53, main_v54, main_v55, main_v56, main_v57, main_v58, main_cst_5, main_v59, main_v60, main_cst_6, main_v61, main_c_7, main_v62_0, main_v62_1, main_v62_2, main_v62_3, main_v62_4]
theorem hostOps0_6_writes : (hostOps0_6 : List (HloOp τ sig (Elt F))).Forall fun op => op.writes ⊆ (hostOps0_6_W.map (Proc.devRef (τ := τ) .tc)).toFinset :=
  StableHlo.forall_writes_sub_of_map rfl
theorem hostOps0_6_fresh : (hostOps0_6 : List (HloOp τ sig (Elt F))).Forall fun op => op.fresh = ∅ :=
  StableHlo.forall_fresh_of_map rfl
/-- What the operations of `hostOps0_7` write, in order; none allocates a buffer. -/
abbrev hostOps0_7_W : List (Ref sig .tc) := [main_v63, main_cst_8, main_v64, main_c_9, main_v65, main_v66]
theorem hostOps0_7_writes : (hostOps0_7 : List (HloOp τ sig (Elt F))).Forall fun op => op.writes ⊆ (hostOps0_7_W.map (Proc.devRef (τ := τ) .tc)).toFinset :=
  StableHlo.forall_writes_sub_of_map rfl
theorem hostOps0_7_fresh : (hostOps0_7 : List (HloOp τ sig (Elt F))).Forall fun op => op.fresh = ∅ :=
  StableHlo.forall_fresh_of_map rfl
/-- What the operations of `hostOps1` write, in order; none allocates a buffer. -/
abbrev hostOps1_W : List (Ref sig .tc) := [main_v68]
theorem hostOps1_writes : (hostOps1 : List (HloOp τ sig (Elt F))).Forall fun op => op.writes ⊆ (hostOps1_W.map (Proc.devRef (τ := τ) .tc)).toFinset :=
  StableHlo.forall_writes_sub_of_map rfl
theorem hostOps1_fresh : (hostOps1 : List (HloOp τ sig (Elt F))).Forall fun op => op.fresh = ∅ :=
  StableHlo.forall_fresh_of_map rfl
/-- What the operations of `while0Ops0` write, in order; none allocates a buffer. -/
abbrev while0Ops0_W : List (Ref sig .tc) := [main_while0b_call3_c, main_while0b_call3_c_0, main_while0b_call3_c_1, main_while0b_call3_c_2, main_while0b_call3_v0, main_while0b_v69]
theorem while0Ops0_writes : (while0Ops0 : List (HloOp τ sig (Elt F))).Forall fun op => op.writes ⊆ (while0Ops0_W.map (Proc.devRef (τ := τ) .tc)).toFinset :=
  StableHlo.forall_writes_sub_of_map rfl
theorem while0Ops0_fresh : (while0Ops0 : List (HloOp τ sig (Elt F))).Forall fun op => op.fresh = ∅ :=
  StableHlo.forall_fresh_of_map rfl
/-- What the operations of `while0Ops0_1` write, in order; none allocates a buffer. -/
abbrev while0Ops0_1_W : List (Ref sig .tc) := [main_while0b_call4_c, main_while0b_call4_c_0, main_while0b_call4_v0, main_while0b_v70]
theorem while0Ops0_1_writes : (while0Ops0_1 : List (HloOp τ sig (Elt F))).Forall fun op => op.writes ⊆ (while0Ops0_1_W.map (Proc.devRef (τ := τ) .tc)).toFinset :=
  StableHlo.forall_writes_sub_of_map rfl
theorem while0Ops0_1_fresh : (while0Ops0_1 : List (HloOp τ sig (Elt F))).Forall fun op => op.fresh = ∅ :=
  StableHlo.forall_fresh_of_map rfl
/-- What the operations of `while0Ops0_2` write, in order; none allocates a buffer. -/
abbrev while0Ops0_2_W : List (Ref sig .tc) := [main_while0b_v71, main_while0b_v72, main_while0b_v73, main_while0b_v74]
theorem while0Ops0_2_writes : (while0Ops0_2 : List (HloOp τ sig (Elt F))).Forall fun op => op.writes ⊆ (while0Ops0_2_W.map (Proc.devRef (τ := τ) .tc)).toFinset :=
  StableHlo.forall_writes_sub_of_map rfl
theorem while0Ops0_2_fresh : (while0Ops0_2 : List (HloOp τ sig (Elt F))).Forall fun op => op.fresh = ∅ :=
  StableHlo.forall_fresh_of_map rfl
/-- What the operations of `while0Ops0_3` write, in order; none allocates a buffer. -/
abbrev while0Ops0_3_W : List (Ref sig .tc) := [main_while0b_call5_v0, main_while0b_call5_c, main_while0b_call5_c_0, main_while0b_call5_c_1, main_while0b_call5_c_2, main_while0b_v75]
theorem while0Ops0_3_writes : (while0Ops0_3 : List (HloOp τ sig (Elt F))).Forall fun op => op.writes ⊆ (while0Ops0_3_W.map (Proc.devRef (τ := τ) .tc)).toFinset :=
  StableHlo.forall_writes_sub_of_map rfl
theorem while0Ops0_3_fresh : (while0Ops0_3 : List (HloOp τ sig (Elt F))).Forall fun op => op.fresh = ∅ :=
  StableHlo.forall_fresh_of_map rfl
/-- What the operations of `while0Ops0_4` write, in order; none allocates a buffer. -/
abbrev while0Ops0_4_W : List (Ref sig .tc) := [main_while0b_c_14, main_while0b_v76, main_v62_2, main_v62_3, main_v62_4]
theorem while0Ops0_4_writes : (while0Ops0_4 : List (HloOp τ sig (Elt F))).Forall fun op => op.writes ⊆ (while0Ops0_4_W.map (Proc.devRef (τ := τ) .tc)).toFinset :=
  StableHlo.forall_writes_sub_of_map rfl
theorem while0Ops0_4_fresh : (while0Ops0_4 : List (HloOp τ sig (Elt F))).Forall fun op => op.fresh = ∅ :=
  StableHlo.forall_fresh_of_map rfl

/-- The loop's condition: the bound, and the counter compared with it. -/
abbrev condOps : List (HloOp τ sig (Elt F)) :=
  [ StableHlo.nullary main_while0c_c_14 (constantI S_ 32 128#32),
    StableHlo.binary main_v62_2 main_while0c_c_14 main_while0c_v69 (cmpi .slt) ]
abbrev condOps_W : List (Ref sig .tc) := [main_while0c_c_14, main_while0c_v69]
theorem condOps_writes : (condOps : List (HloOp τ sig (Elt F))).Forall fun op => op.writes ⊆ (condOps_W.map (Proc.devRef (τ := τ) .tc)).toFinset :=
  StableHlo.forall_writes_sub_of_map rfl

/-- The stretches before the loop, of the loop's body, between the loop and the kernel call, and after it. -/
abbrev preI : List (List (HloOp τ sig (Elt F))) := [hostOps0, hostOps0_1, hostOps0_2, hostOps0_3, hostOps0_4, hostOps0_5, hostOps0_6]
abbrev bodyI : List (List (HloOp τ sig (Elt F))) := [while0Ops0, while0Ops0_1, while0Ops0_2, while0Ops0_3, while0Ops0_4]
abbrev midI : List (List (HloOp τ sig (Elt F))) := [hostOps0_7]
abbrev postI : List (List (HloOp τ sig (Elt F))) := [hostOps1]

theorem hpre : Plain (preI (F := F)) := .cons hostOps0_sub (hf := List.forall_iff_forall_mem.mp hostOps0_fresh) (.cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.cons hostOps0_6_sub (hf := List.forall_iff_forall_mem.mp hostOps0_6_fresh) (.nil)))))))
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.nil)))))
theorem hmid : Plain (midI (F := F)) := .cons hostOps0_7_sub (hf := List.forall_iff_forall_mem.mp hostOps0_7_fresh) (.nil)
theorem hpost : Plain (postI (F := F)) := .cons hostOps1_sub (hf := List.forall_iff_forall_mem.mp hostOps1_fresh) (.nil)

variable (m : (ℓ : Loc nD τ sig) → Buf (Elt F) ℓ) (ρ : Dev nD → PrngReg)

/-- Every buffer before the loop, and before the `k`-th test of its condition. -/
abbrev W₀ (c : Dev nD) : Valuation τ sig (Elt F) := entryContents preI m c
abbrev atK (k : ℕ) (c : Dev nD) : Valuation τ sig (Elt F) := atTrip condOps bodyI (W₀ m) k c
/-- Every buffer after the loop, -/
abbrev afterLoop (c : Dev nD) : Valuation τ sig (Elt F) := after condOps (atK m 128 c)
/-- and when the kernel is called. -/
abbrev called (c : Dev nD) : Valuation τ sig (Elt F) := afterL midI (afterLoop m c)
abbrev calledV (c : Dev nD) (b : Ref sig .tc) : Buf (Elt F) ((c : Thread nD τ).loc b) := called m c b

theorem ctr_while0Ops0 (V : Valuation τ sig (Elt F)) : after while0Ops0 V (Proc.devRef .tc main_v62_2) = V (Proc.devRef .tc main_v62_2) :=
  after_of_writes_sub while0Ops0 V while0Ops0_writes (by decide +kernel)
theorem ctr_while0Ops0_1 (V : Valuation τ sig (Elt F)) : after while0Ops0_1 V (Proc.devRef .tc main_v62_2) = V (Proc.devRef .tc main_v62_2) :=
  after_of_writes_sub while0Ops0_1 V while0Ops0_1_writes (by decide +kernel)
theorem ctr_while0Ops0_2 (V : Valuation τ sig (Elt F)) : after while0Ops0_2 V (Proc.devRef .tc main_v62_2) = V (Proc.devRef .tc main_v62_2) :=
  after_of_writes_sub while0Ops0_2 V while0Ops0_2_writes (by decide +kernel)
theorem ctr_while0Ops0_3 (V : Valuation τ sig (Elt F)) : after while0Ops0_3 V (Proc.devRef .tc main_v62_2) = V (Proc.devRef .tc main_v62_2) :=
  after_of_writes_sub while0Ops0_3 V while0Ops0_3_writes (by decide +kernel)
theorem ctr_condOps (V : Valuation τ sig (Elt F)) : after condOps V (Proc.devRef .tc main_v62_2) = V (Proc.devRef .tc main_v62_2) :=
  after_of_writes_sub condOps V condOps_writes (by decide +kernel)

set_option maxRecDepth 100000 in
/-- The body's last stretch leaves the counter one step on. -/
theorem ctr_step (X : Valuation τ sig (Elt F)) :
    after while0Ops0_4 X (Proc.devRef .tc main_v62_2) = addi (X (Proc.devRef .tc main_v62_2)) (constantI S_ 32 1#32) := by
  after_results
  rfl

/-- The counter is zero before the loop. -/
theorem ctr_entry (c : Dev nD) : W₀ m c (Proc.devRef .tc main_v62_2) = fun _ => (0#32 : BitVec 32) := by
  simp only [entryContents, afterL_cons, afterL_nil]
  after_reads_simp
  rfl

/-- Before the `k`-th test the counter is `k`. -/
theorem atK_ctr (c : Dev nD) : ∀ k, atK m k c (Proc.devRef .tc main_v62_2) = fun _ => Scf.iv 0#32 1#32 k
  | 0 => by rw [show atK m 0 c = W₀ m c from rfl, ctr_entry, Scf.iv_zero]
  | k + 1 => by
    rw [show atK m (k + 1) c = afterL bodyI (after condOps (atK m k c)) from rfl]
    simp only [afterL_cons, afterL_nil]
    rw [ctr_step, ctr_while0Ops0_3, ctr_while0Ops0_2, ctr_while0Ops0_1, ctr_while0Ops0, ctr_condOps, atK_ctr c k, Scf.iv_succ]
    rfl

/-- What rides along beside the buffers: the core owes nothing. -/
abbrev Rw (c : Dev nD) : sProp 𝕄 := iprop(∃ W, owes (c : Thread nD τ) (0 : CellTallies nD τ sig Unit) W)

set_option backward.isDefEq.respectTransparency.types false in
/-- The loop's condition at the `k`-th test: true exactly while `k < 128`. -/
theorem cond_spec : LoopCond (pcfgs (F := F)) defs₀ Variants.none loops (Rw (F := F)) (main_while0_cond (F := F)) condOps bodyI (W₀ m) 128 := by
  intro k hk c bd
  have hctr := atK_ctr m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) (Proc.devRef .tc main_v62_2) HostLoop.idx0)
        (HloOp.result _ (atK m k c) (Proc.devRef .tc main_while0c_c_14) HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  isplitl [Hh]; · rw [after_cons, after_cons, after_nil]; iexact Hh
  iexact HR

/-! ## The kernel call among them -/

/-- Every buffer after the kernel call: its five outputs as it leaves them, every other as it was. -/
def afterCall (c : Dev nD) : Valuation τ sig (Elt F) :=
  Function.update (Function.update (Function.update (Function.update (Function.update (called m c)
    (Proc.devRef .tc main_v67_4) (left (calledV m) c 13)) (Proc.devRef .tc main_v67_3) (left (calledV m) c 12))
    (Proc.devRef .tc main_v67_2) (left (calledV m) c 11)) (Proc.devRef .tc main_v67_1) (left (calledV m) c 10))
    (Proc.devRef .tc main_v67_0) (left (calledV m) c 9)

theorem afterCall_leaves : Leaves (calledV m) (fun c b => afterCall m c b) where
  out c := by
    unfold afterCall
    refine ⟨?_, ?_, ?_, ?_, ?_⟩
    · rw [Function.update_self]
    · rw [Function.update_of_ne (devRef_ne_of_ne (by decide)), Function.update_self]
    · rw [Function.update_of_ne (devRef_ne_of_ne (by decide)), Function.update_of_ne (devRef_ne_of_ne (by decide)), Function.update_self]
    · rw [Function.update_of_ne (devRef_ne_of_ne (by decide)), Function.update_of_ne (devRef_ne_of_ne (by decide)), Function.update_of_ne (devRef_ne_of_ne (by decide)),
        Function.update_self]
    · rw [Function.update_of_ne (devRef_ne_of_ne (by decide)), Function.update_of_ne (devRef_ne_of_ne (by decide)), Function.update_of_ne (devRef_ne_of_ne (by decide)),
        Function.update_of_ne (devRef_ne_of_ne (by decide)), Function.update_self]
  ne c b h0 h1 h2 h3 h4 := by
    unfold afterCall
    rw [Function.update_of_ne (devRef_ne_of_ne h0), Function.update_of_ne (devRef_ne_of_ne h1), Function.update_of_ne (devRef_ne_of_ne h2),
      Function.update_of_ne (devRef_ne_of_ne h3), Function.update_of_ne (devRef_ne_of_ne h4)]

/-- Every buffer at the end. -/
abbrev fin (c : Dev nD) : Valuation τ sig (Elt F) := afterL postI (afterCall m c)

/-- The one ticket: the kernel call's, with its proof data. -/
def tk : Fin 1 → Ticket (Ix := Unit) (Name := ℕ) (U := UU) (Lvl := ℕ) (nD := nD) (τ := τ) (pcfgs (F := F)) adm :=
  fun j => { p := 0, pdats := pdats (calledV m), EP := embAt j }

/-- The loop's label runs the condition and, where it holds, the body and the label again. -/
theorem loop_eq : loops (F := F) 0 = HostLoop.step 0 main_while0_cond main_while0_body := rfl

/-- The program as a list of segments. -/
def segs : List (CSeg (pcfgs (F := F)) adm defs₀ Variants.none L lv loops (tk m)) :=
  segsOf _ _ _ _ _ _ _ _ Rw preI hpre (fun c => launchContents m c)
    ++ loopSeg _ _ _ _ _ _ _ _ 0 main_while0_cond main_while0_body loop_eq condOps bodyI hbodyI (by rw [while0_body_chain]; rfl) 128 (W₀ m) Rw (cond_spec m)
    :: (segsOf _ _ _ _ _ _ _ _ Rw midI hmid (afterLoop m)
    ++ CSeg.region _ _ () (cellOf_inj) _ _ _ _ _ _ (0 : Fin 1) (reg (calledV m) (fun c b => afterCall m c b) (afterCall_leaves m))
    :: segsOf _ _ _ _ _ _ _ _ Rw postI hpost (afterCall m))

theorem segs_prog (c : Dev nD) : Pipeline.chain ((segs m).map CSeg.prog) = main (F := F) c := by
  unfold segs
  rw [List.map_append, List.map_cons, List.map_append, List.map_cons, segsOf_prog, segsOf_prog, segsOf_prog, main_chain]
  rfl

/-- The two spellings of the thread's state. -/
theorem thread_eq (W : Valuation τ sig (Elt F)) (c : Dev nD) :
    (iprop(held (c : Thread nD τ) (ucRefs τ sig) W ∗ Rw c) : sProp 𝕄)
      = iprop(unscopedBufs c (fun b => W b) ∗ ∃ W', owes (c : Thread nD τ) (0 : CellTallies nD τ sig Unit) W') := by
  rw [Pipeline.unscopedBufs_held]

theorem segs_chains : CSeg.Chains (fun c => iprop(held (c : Thread nD τ) (ucRefs τ sig) (launchContents m c) ∗ Rw c)) (segs m)
    (fun c => iprop(iprop(held (c : Thread nD τ) (ucRefs τ sig) (fin m c)) ∗ ∃ W, owes (c : Thread nD τ) (0 : CellTallies nD τ sig Unit) W)) := by
  unfold segs
  refine CSeg.Chains.append (segsOf_chains _ _ _ _ _ _ _ _ Rw preI hpre _) ⟨fun _ => .rfl, ?_⟩
  refine CSeg.Chains.append (segsOf_chains _ _ _ _ _ _ _ _ Rw midI hmid _) ⟨fun c => Entails.of_eq (thread_eq _ c), ?_⟩
  exact ⟨fun c => Entails.of_eq (thread_eq _ c).symm, fun _ => .rfl⟩

theorem segs_disjoint : (segs m).Pairwise fun s s' => Disjoint s.T s'.T := by
  unfold segs
  have e := fun items h V => segsOf_M_T (pcfgs (F := F)) adm defs₀ Variants.none L lv loops (tk m) Rw items h V
  refine List.pairwise_append.mpr ⟨?_, List.pairwise_cons.mpr ⟨?_, List.pairwise_append.mpr ⟨?_, List.pairwise_cons.mpr ⟨?_, ?_⟩, ?_⟩⟩, ?_⟩
  · exact Pipeline.CSeg.pairwise_disjoint_of_T_empty _ fun s hs => (e _ _ _ s hs).2
  · intro s _; rw [loopSeg_T]; exact Finset.disjoint_empty_left _
  · exact Pipeline.CSeg.pairwise_disjoint_of_T_empty _ fun s hs => (e _ _ _ s hs).2
  · intro s hs; rw [(e _ _ _ s hs).2]; exact Finset.disjoint_empty_right _
  · exact Pipeline.CSeg.pairwise_disjoint_of_T_empty _ fun s hs => (e _ _ _ s hs).2
  · intro s hs s' _; rw [(e _ _ _ s hs).2]; exact Finset.disjoint_empty_left _
  · intro s hs s' _; rw [(e _ _ _ s hs).2]; exact Finset.disjoint_empty_left _

/-- The launch element: the kernel call's share of it; no counter yet. -/
def u₀ : UU := (fun _ => initOf (Pipeline.cells cfgs (cellOf_inj)) (Pipeline.launchToks cfgs (cellOf_inj)), 1)

set_option backward.isDefEq.respectTransparency.types false in
/-- On every device, for any float values, from any memory with zero counters: every execution ends with every buffer
    the program holds at `fin` and every semaphore at zero. -/
theorem run_main : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = fin m c (Proc.devRef .tc b)) ∧ r.2.sem = fun _ => 0) :=
  Pipeline.θ_run_regions_loop_kit_sems (pcfgs (F := F)) adm (cellOf_inj) defs₀ Variants.none L lv loops (tk m) m ρ main (segs m)
    (fun c Q => by
      show wp _ _ _ (Pipeline.chain ((segs m).map CSeg.prog)) Q ⊢ _
      rw [segs_prog m c])
    (segs_disjoint m)
    (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]
      · iapply (own_iprod _); iexact HP
      iapply (show (BI.emp : sProp 𝕄) ⊢ bigSep Finset.univ (fun _ : Dev nD => (BI.emp : sProp 𝕄)) from by rw [BI.bigSep_emp_const])
      iempintro)
    (T₀ := fun c => iprop(held (c : Thread nD τ) (ucRefs τ sig) (launchContents m c) ∗ Rw c))
    (Tₙ := fun c => iprop(held (c : Thread nD τ) (ucRefs τ sig) (fin m c)))
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = fin m c b)
    (hfin := fun c s' => by
      unfold held
      iintro ⟨Hh, HSI⟩
      ihave Hr := (pointsTo_read_all (ucRefs τ sig) (fun b => ((c : Dev nD), b)) (fun b => fin m c b) s') $$ [Hh HSI]
      · isplitl [Hh] <;> iassumption
      icases Hr with ⟨%h, HSI⟩
      imodintro
      isplitr; · ipureintro; exact h
      iexact HSI)
    (hQ := fun _ h hz => ⟨fun c b hb => h c _ (devRef_mem_ucRefs b hb), funext fun g => hz g (.inr (by revert g; decide))⟩)

end Cert.Proof.Ssd

end
-- ==== Proof.Frames.lean ====
/-
  The frames: at the end of either program every argument is as it was, and every semaphore at zero. No operation of
  either program writes an argument.
-/
module

public import proofs.«01_k».proof.Proof.Run
public import proofs.«01_k».proof.Proof.Gen.ReferenceIdeal.Run
public import proofs.«01_k».proof.Proof.Gen.Kernel
public import proofs.«01_k».proof.Defs

@[expose] public section

set_option maxRecDepth 16384

noncomputable section

namespace Cert.Proof.Ssd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (CSeg Ticket ucRefs sub_ucRefs)

variable {F : FTy → Type} [FloatOps F]

/-! ## The kernel's program -/

theorem keep_preI (V : Valuation τ sig (Elt F)) (b : Ref sig .tc) (h0 : b ∉ hostOps0_W) (h1 : b ∉ hostOps0_1_W) (h2 : b ∉ hostOps0_2_W) (h3 : b ∉ hostOps0_3_W) (h4 : b ∉ hostOps0_4_W) (h5 : b ∉ hostOps0_5_W) (h6 : b ∉ hostOps0_6_W) :
    afterL preI V (Proc.devRef .tc b) = V (Proc.devRef .tc b) := by
  simp only [afterL_cons, afterL_nil]
  rw [after_of_writes_sub hostOps0_6 _ hostOps0_6_writes h6, after_of_writes_sub hostOps0_5 _ hostOps0_5_writes h5, after_of_writes_sub hostOps0_4 _ hostOps0_4_writes h4, after_of_writes_sub hostOps0_3 _ hostOps0_3_writes h3, after_of_writes_sub hostOps0_2 _ hostOps0_2_writes h2, after_of_writes_sub hostOps0_1 _ hostOps0_1_writes h1, after_of_writes_sub hostOps0 _ hostOps0_writes h0]
theorem keep_bodyI (V : Valuation τ sig (Elt F)) (b : Ref sig .tc) (h0 : b ∉ while0Ops0_W) (h1 : b ∉ while0Ops0_1_W) (h2 : b ∉ while0Ops0_2_W) (h3 : b ∉ while0Ops0_3_W) (h4 : b ∉ while0Ops0_4_W) :
    afterL bodyI V (Proc.devRef .tc b) = V (Proc.devRef .tc b) := by
  simp only [afterL_cons, afterL_nil]
  rw [after_of_writes_sub while0Ops0_4 _ while0Ops0_4_writes h4, after_of_writes_sub while0Ops0_3 _ while0Ops0_3_writes h3, after_of_writes_sub while0Ops0_2 _ while0Ops0_2_writes h2, after_of_writes_sub while0Ops0_1 _ while0Ops0_1_writes h1, after_of_writes_sub while0Ops0 _ while0Ops0_writes h0]
theorem keep_midI (V : Valuation τ sig (Elt F)) (b : Ref sig .tc) (h0 : b ∉ hostOps0_7_W) :
    afterL midI V (Proc.devRef .tc b) = V (Proc.devRef .tc b) := by
  simp only [afterL_cons, afterL_nil]
  rw [after_of_writes_sub hostOps0_7 _ hostOps0_7_writes h0]
theorem keep_postI (V : Valuation τ sig (Elt F)) (b : Ref sig .tc) (h0 : b ∉ hostOps1_W) :
    afterL postI V (Proc.devRef .tc b) = V (Proc.devRef .tc b) := by
  simp only [afterL_cons, afterL_nil]
  rw [after_of_writes_sub hostOps1 _ hostOps1_writes h0]

variable (m : (ℓ : Loc nD τ sig) → Buf (Elt F) ℓ) (ρ : Dev nD → PrngReg)

/-- A buffer the loop writes nothing of is throughout the loop as before it. -/
theorem keep_loop (c : Dev nD) (b : Ref sig .tc) (hc : b ∉ condOps_W) (h0 : b ∉ while0Ops0_W) (h1 : b ∉ while0Ops0_1_W) (h2 : b ∉ while0Ops0_2_W)
    (h3 : b ∉ while0Ops0_3_W) (h4 : b ∉ while0Ops0_4_W) : ∀ k, atK m k c (Proc.devRef .tc b) = W₀ m c (Proc.devRef .tc b)
  | 0 => rfl
  | k + 1 => by
    rw [show atK m (k + 1) c = afterL bodyI (after condOps (atK m k c)) from rfl, keep_bodyI _ b h0 h1 h2 h3 h4, after_of_writes_sub condOps _ condOps_writes hc,
      keep_loop c b hc h0 h1 h2 h3 h4 k]

/-- The buffers the program's arguments are in. -/
abbrev args : List (Ref sig .tc) := [main_arg0, main_arg1, main_arg2, main_arg3, main_arg4, main_arg5]

theorem called_arg (c : Dev nD) : ∀ b ∈ args, called m c (Proc.devRef .tc b) = m ((c : Thread nD τ).loc b) := by
  have key : ∀ b : Ref sig .tc, (b ∉ hostOps0_W ∧ b ∉ hostOps0_1_W ∧ b ∉ hostOps0_2_W ∧ b ∉ hostOps0_3_W ∧ b ∉ hostOps0_4_W ∧ b ∉ hostOps0_5_W ∧ b ∉ hostOps0_6_W) →
      (b ∉ condOps_W ∧ b ∉ while0Ops0_W ∧ b ∉ while0Ops0_1_W ∧ b ∉ while0Ops0_2_W ∧ b ∉ while0Ops0_3_W ∧ b ∉ while0Ops0_4_W) → b ∉ hostOps0_7_W →
      called m c (Proc.devRef .tc b) = m ((c : Thread nD τ).loc b) := fun b hp hl hm => by
    rw [show called m c = afterL midI (after condOps (atK m 128 c)) from rfl, keep_midI _ b hm, after_of_writes_sub condOps _ condOps_writes hl.1,
      keep_loop m c b hl.1 hl.2.1 hl.2.2.1 hl.2.2.2.1 hl.2.2.2.2.1 hl.2.2.2.2.2 128,
      show W₀ m c = afterL preI (launchContents m c) from rfl, keep_preI _ b hp.1 hp.2.1 hp.2.2.1 hp.2.2.2.1 hp.2.2.2.2.1 hp.2.2.2.2.2.1 hp.2.2.2.2.2.2]
  intro b hb
  have hp : ∀ b ∈ args, (b ∉ hostOps0_W ∧ b ∉ hostOps0_1_W ∧ b ∉ hostOps0_2_W ∧ b ∉ hostOps0_3_W ∧ b ∉ hostOps0_4_W ∧ b ∉ hostOps0_5_W ∧ b ∉ hostOps0_6_W) := by decide +kernel
  have hl : ∀ b ∈ args, (b ∉ condOps_W ∧ b ∉ while0Ops0_W ∧ b ∉ while0Ops0_1_W ∧ b ∉ while0Ops0_2_W ∧ b ∉ while0Ops0_3_W ∧ b ∉ while0Ops0_4_W) := by decide +kernel
  have hm : ∀ b ∈ args, b ∉ hostOps0_7_W := by decide +kernel
  exact key b (hp b hb) (hl b hb) (hm b hb)

theorem fin_arg (c : Dev nD) : ∀ b ∈ args, fin m c (Proc.devRef .tc b) = m ((c : Thread nD τ).loc b) := by
  intro b hb
  have h1 : ∀ b ∈ args, b ∉ hostOps1_W := by decide +kernel
  have h2 : ∀ b ∈ args, b ≠ main_v67_0 ∧ b ≠ main_v67_1 ∧ b ≠ main_v67_2 ∧ b ≠ main_v67_3 ∧ b ≠ main_v67_4 := by decide +kernel
  rw [show fin m c = afterL postI (afterCall m c) from rfl, keep_postI _ b (h1 b hb)]
  exact ((afterCall_leaves m).ne c b (h2 b hb).1 (h2 b hb).2.1 (h2 b hb).2.2.1 (h2 b hb).2.2.2.1 (h2 b hb).2.2.2.2).trans (called_arg m c b hb)

/-- The kernel program's frame, for any float values. -/
theorem frame_any : θ_run (defs (F := F)) (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) :=
  (θ_run (defs (F := F)) _ _).mono (fun _ h => ⟨fun c =>
    ⟨(h.1 c main_arg0 rfl).trans (fin_arg m c main_arg0 (by decide)), (h.1 c main_arg1 rfl).trans (fin_arg m c main_arg1 (by decide)),
     (h.1 c main_arg2 rfl).trans (fin_arg m c main_arg2 (by decide)), (h.1 c main_arg3 rfl).trans (fin_arg m c main_arg3 (by decide)),
     (h.1 c main_arg4 rfl).trans (fin_arg m c main_arg4 (by decide)), (h.1 c main_arg5 rfl).trans (fin_arg m c main_arg5 (by decide))⟩, h.2⟩) (run_main m ρ)

end Cert.Proof.Ssd

namespace Cert.Proof.Ref

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]

/-! ## The reference -/

/-- The reference the operations after the loop write, in order. -/
abbrev hostOps0_10_W : List (Ref sig .tc) := [main_v55, main_v56, main_v57, main_v58, main_v59, main_v60, main_v61, main_v62, main_v63, main_v64, main_v65, main_v66, main_v67, main_v68, main_v69, main_v70, main_v71, main_v72, main_v73, main_v74, main_v75, main_v76, main_v77, main_cst_3, main_v78, main_v79, main_cst_4, main_v80, main_v81, main_v82, main_v83, main_v84]
theorem hostOps0_10_writes : (hostOps0_10 : List (HloOp τ sig (Elt F))).Forall fun op => op.writes ⊆ (hostOps0_10_W.map (Proc.devRef (τ := τ) .tc)).toFinset :=
  StableHlo.forall_writes_sub_of_map rfl

theorem keep_preI (V : Valuation τ sig (Elt F)) (b : Ref sig .tc) (h0 : b ∉ hostOps0_W) (h1 : b ∉ hostOps0_1_W) (h2 : b ∉ hostOps0_2_W) (h3 : b ∉ hostOps0_3_W) (h4 : b ∉ hostOps0_4_W) (h5 : b ∉ hostOps0_5_W) (h6 : b ∉ hostOps0_6_W) (h7 : b ∉ hostOps0_7_W) (h8 : b ∉ hostOps0_8_W) (h9 : b ∉ hostOps0_9_W) :
    afterL preI V (Proc.devRef .tc b) = V (Proc.devRef .tc b) := by
  simp only [afterL_cons, afterL_nil]
  rw [after_of_writes_sub hostOps0_9 _ hostOps0_9_writes h9, after_of_writes_sub hostOps0_8 _ hostOps0_8_writes h8, after_of_writes_sub hostOps0_7 _ hostOps0_7_writes h7, after_of_writes_sub hostOps0_6 _ hostOps0_6_writes h6, after_of_writes_sub hostOps0_5 _ hostOps0_5_writes h5, after_of_writes_sub hostOps0_4 _ hostOps0_4_writes h4, after_of_writes_sub hostOps0_3 _ hostOps0_3_writes h3, after_of_writes_sub hostOps0_2 _ hostOps0_2_writes h2, after_of_writes_sub hostOps0_1 _ hostOps0_1_writes h1, after_of_writes_sub hostOps0 _ hostOps0_writes h0]
theorem keep_bodyI (V : Valuation τ sig (Elt F)) (b : Ref sig .tc) (h0 : b ∉ while0Ops0_W) (h1 : b ∉ while0Ops0_1_W) (h2 : b ∉ while0Ops0_2_W) (h3 : b ∉ while0Ops0_3_W) (h4 : b ∉ while0Ops0_4_W) :
    afterL bodyI V (Proc.devRef .tc b) = V (Proc.devRef .tc b) := by
  simp only [afterL_cons, afterL_nil]
  rw [after_of_writes_sub while0Ops0_4 _ while0Ops0_4_writes h4, after_of_writes_sub while0Ops0_3 _ while0Ops0_3_writes h3, after_of_writes_sub while0Ops0_2 _ while0Ops0_2_writes h2, after_of_writes_sub while0Ops0_1 _ while0Ops0_1_writes h1, after_of_writes_sub while0Ops0 _ while0Ops0_writes h0]
theorem keep_postI (V : Valuation τ sig (Elt F)) (b : Ref sig .tc) (h0 : b ∉ hostOps0_10_W) :
    afterL postI V (Proc.devRef .tc b) = V (Proc.devRef .tc b) := by
  simp only [afterL_cons, afterL_nil]
  rw [after_of_writes_sub hostOps0_10 _ hostOps0_10_writes h0]

variable (m : (ℓ : Loc nD τ sig) → Buf (Elt F) ℓ) (ρ : Dev nD → PrngReg)

/-- A buffer the loop writes nothing of is throughout the loop as before it. -/
theorem keep_loop (c : Dev nD) (b : Ref sig .tc) (hc : b ∉ condOps_W) (h0 : b ∉ while0Ops0_W) (h1 : b ∉ while0Ops0_1_W) (h2 : b ∉ while0Ops0_2_W)
    (h3 : b ∉ while0Ops0_3_W) (h4 : b ∉ while0Ops0_4_W) : ∀ k, atK m k c (Proc.devRef .tc b) = entryContents preI m c (Proc.devRef .tc b)
  | 0 => rfl
  | k + 1 => by
    rw [show atK m (k + 1) c = afterL bodyI (after condOps (atK m k c)) from rfl, keep_bodyI _ b h0 h1 h2 h3 h4, after_of_writes_sub condOps _ condOps_writes hc,
      keep_loop c b hc h0 h1 h2 h3 h4 k]

/-- The buffers the reference's arguments are in. -/
abbrev args : List (Ref sig .tc) := [main_arg0, main_arg1, main_arg2, main_arg3, main_arg4, main_arg5]

theorem fin_arg (c : Dev nD) : ∀ b ∈ args, finalContents condOps preI bodyI postI 128 m c (Proc.devRef .tc b) = m ((c : Thread nD τ).loc b) := by
  have key : ∀ b : Ref sig .tc, (b ∉ hostOps0_W ∧ b ∉ hostOps0_1_W ∧ b ∉ hostOps0_2_W ∧ b ∉ hostOps0_3_W ∧ b ∉ hostOps0_4_W ∧ b ∉ hostOps0_5_W ∧ b ∉ hostOps0_6_W ∧ b ∉ hostOps0_7_W ∧ b ∉ hostOps0_8_W ∧ b ∉ hostOps0_9_W) →
      (b ∉ condOps_W ∧ b ∉ while0Ops0_W ∧ b ∉ while0Ops0_1_W ∧ b ∉ while0Ops0_2_W ∧ b ∉ while0Ops0_3_W ∧ b ∉ while0Ops0_4_W) → b ∉ hostOps0_10_W →
      finalContents condOps preI bodyI postI 128 m c (Proc.devRef .tc b) = m ((c : Thread nD τ).loc b) := fun b hp hl hm => by
    obtain ⟨p0, p1, p2, p3, p4, p5, p6, p7, p8, p9⟩ := hp
    rw [show finalContents condOps preI bodyI postI 128 m c = afterL postI (after condOps (atK m 128 c)) from rfl, keep_postI _ b hm, after_of_writes_sub condOps _ condOps_writes hl.1,
      keep_loop m c b hl.1 hl.2.1 hl.2.2.1 hl.2.2.2.1 hl.2.2.2.2.1 hl.2.2.2.2.2 128,
      show entryContents preI m c = afterL preI (launchContents m c) from rfl, keep_preI _ b p0 p1 p2 p3 p4 p5 p6 p7 p8 p9]
  intro b hb
  have hp : ∀ b ∈ args, (b ∉ hostOps0_W ∧ b ∉ hostOps0_1_W ∧ b ∉ hostOps0_2_W ∧ b ∉ hostOps0_3_W ∧ b ∉ hostOps0_4_W ∧ b ∉ hostOps0_5_W ∧ b ∉ hostOps0_6_W ∧ b ∉ hostOps0_7_W ∧ b ∉ hostOps0_8_W ∧ b ∉ hostOps0_9_W) := by decide +kernel
  have hl : ∀ b ∈ args, (b ∉ condOps_W ∧ b ∉ while0Ops0_W ∧ b ∉ while0Ops0_1_W ∧ b ∉ while0Ops0_2_W ∧ b ∉ while0Ops0_3_W ∧ b ∉ while0Ops0_4_W) := by decide +kernel
  have hm : ∀ b ∈ args, b ∉ hostOps0_10_W := by decide +kernel
  exact key b (hp b hb) (hl b hb) (hm b hb)

/-- The reference's arguments at its end, and its semaphores: it has none. -/
theorem frame_any : θ_run (defs (F := F)) (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) :=
  (θ_run (defs (F := F)) _ _).mono (fun r h => ⟨fun c =>
    ⟨(h c main_arg0 rfl).trans (fin_arg m c main_arg0 (by decide)), (h c main_arg1 rfl).trans (fin_arg m c main_arg1 (by decide)),
     (h c main_arg2 rfl).trans (fin_arg m c main_arg2 (by decide)), (h c main_arg3 rfl).trans (fin_arg m c main_arg3 (by decide)),
     (h c main_arg4 rfl).trans (fin_arg m c main_arg4 (by decide)), (h c main_arg5 rfl).trans (fin_arg m c main_arg5 (by decide))⟩,
     sem_eq_zero_of_no_sems (by decide) r.2⟩) (run_fold m ρ)

end Cert.Proof.Ref

namespace Cert.Proof

open Idealize.ShloMosaic Idealize.SL.Sem Idealize.ShloMosaic.Tactic

set_option maxHeartbeats 4000000 in
/-- The two texts' tables of bodies are one. -/
theorem defs_eq : Cert.KernelIdeal.defs (F := Bits) = Cert.Kernel.defs (F := Bits) := by sl_kernel_rfl

set_option maxHeartbeats 4000000 in
/-- The two texts are one program. -/
theorem main_eq : Cert.KernelIdeal.main (F := Bits) = Cert.Kernel.main (F := Bits) := rfl

set_option maxHeartbeats 4000000 in
/-- The printed program has the text of the idealized one: the same run serves it. -/
theorem frame_kernel : Cert.quiescent_Kernel (hKernel := Cert.Kernel.Gen.facts) := fun m ρ _ => by
  have h := Ssd.frame_any (F := Bits) m ρ
  rw [defs_eq, main_eq] at h
  exact h
theorem frame_kernelIdeal : Cert.quiescent_KernelIdeal (hKernelIdeal := Cert.KernelIdeal.Gen.facts) := fun m ρ _ => Ssd.frame_any (F := Ideal) m ρ
theorem frame_reference : Cert.quiescent_ReferenceIdeal (hReferenceIdeal := Cert.ReferenceIdeal.Gen.facts) := fun m ρ _ => Ref.frame_any (F := Ideal) m ρ

end Cert.Proof

end
-- ==== Proof.Stage.lean ====
/-
  What one grid point computes of the gradient of `C`, in named stages: the table of running sums, the step sizes
  spread over the channels, and per pair of heads the two terms added up. The pieces the body leaves are these stages.
-/
module

public import proofs.«01_k».proof.Proof.Body
public import Idealize.ShloMosaic.Lib.Pointwise
public import Idealize.ShloMosaic.Lib.Pipeline.ReadBack
public import Idealize.ShloMosaic.Lib.Pipeline.ValueKit.Acc

@[expose] public section

set_option maxRecDepth 16384

noncomputable section

namespace Cert.Proof.Ssd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The stages -/

/-- The running sums of the scaled step sizes along the chunk: row `h` is head `h`, column `l` the position. -/
def cst (x : Ins F) : FVec F S128x128 .f32 := k0_pay11 x.x1 x.x4 x.x5

/-- The step sizes spread over the channels: column `64 h + p` is head `h`. -/
def dtx (x : Ins F) : FVec F S128x2048 .f32 := k0_pay12 (k0_pay9 x.x1 x.x4) x.x8

/-- Row `h` of the running sums. -/
def csAt (x : Ins F) (h : ℕ) (hh : h < 32) : Vec F S1x128 .f32 :=
  View.ld (cst x) (Rect.unit (s := S128x128) ![h, 0] S1x128.size (by intro a; fin_cases a <;> simp <;> omega))

/-- Row `h` of the running sums, on every row. -/
def rowH (x : Ins F) (h : ℕ) (hh : h < 32) : FVec F S128x128 .f32 :=
  broadcastTo S128x128 (shapeCast S1x128 (csAt x h hh) shapeCasts_S1x128_S1x128)
    broadcasts_S1x128_S128x128

/-- Row `h` of the running sums, on every column. -/
def colH (x : Ins F) (h : ℕ) (hh : h < 32) : FVec F S128x128 .f32 := transpose S128x128 [1, 0] (rowH x h hh) transposes_S128x128_p1_0_S128x128

/-- The decay matrix of head `h`: `exp (cs l - cs s)` where `s ≤ l`, else `0`. -/
def lower (x : Ins F) (h : ℕ) (hh : h < 32) : FVec F S128x128 .f32 := select k0_pay28 (exp (subf (colH x h hh) (rowH x h hh))) (broadcast S128x128 (Scalar.ofBits .f32 0x00000000#32))

/-- The 128 columns at `128 p` of the packed input: the pair's channels. -/
def xAt (x : Ins F) (p : ℕ) (hp : p < 16) : Vec F S128x128 .f32 :=
  View.ld x.x0 (Rect.unit (s := S128x3072) ![0, 128 * p] S128x128.size (by intro a; fin_cases a <;> simp <;> omega))

/-- The pair's columns of the cotangent. -/
def dyAt (x : Ins F) (p : ℕ) (hp : p < 16) : Vec F S128x128 .f32 :=
  View.ld x.x2 (Rect.unit (s := S128x2048) ![0, 128 * p] S128x128.size (by intro a; fin_cases a <;> simp <;> omega))

/-- The pair's columns of the spread step sizes. -/
def dtAt (x : Ins F) (p : ℕ) (hp : p < 16) : Vec F S128x128 .f32 :=
  View.ld (dtx x) (Rect.unit (s := S128x2048) ![0, 128 * p] S128x128.size (by intro a; fin_cases a <;> simp <;> omega))

/-- The state the pair carries into the chunk, as stored. -/
def hAt (x : Ins F) (p : ℕ) (hp : p < 16) : Vec F S1x1x128x128 .f32 :=
  View.ld x.x3 (Rect.unit (s := S1x16x128x128) ![0, p, 0, 0] S1x1x128x128.size (by intro a; fin_cases a <;> simp <;> omega))

/-- The state the pair carries into the chunk. -/
def hsAt (x : Ins F) (p : ℕ) (hp : p < 16) : FVec F S128x128 .f32 := shapeCast S128x128 (hAt x p hp) shapeCasts_S1x1x128x128_S128x128

/-- Group `g`'s columns of `B`. -/
def bAt (x : Ins F) (g : ℕ) (hg : g < 4) : Vec F S128x128 .f32 :=
  View.ld x.x0 (Rect.unit (s := S128x3072) ![0, 2048 + 128 * g] S128x128.size (by intro a; fin_cases a <;> simp <;> omega))

/-- The inner products of the cotangent's rows with the inputs' rows, over the channels `sel` keeps. -/
def inner (dy : Vec F S128x128 .f32) (w : FVec F S128x128 .f32) : FVec F S128x128 .f32 :=
  matmul dot_S128x128_S128x128_S128x128_1_1_0_0_n_n none (truncf .bf16 dy bitsLt_bf16_f32) (truncf .bf16 w bitsLt_bf16_f32) (constant S128x128 .f32 0x00000000#32)

/-- A plain product of two 128 by 128 matrices. -/
def prod (a b : FVec F S128x128 .f32) : FVec F S128x128 .f32 :=
  matmul dot_S128x128_S128x128_S128x128_1_0_0_1_n_n none (truncf .bf16 a bitsLt_bf16_f32) (truncf .bf16 b bitsLt_bf16_f32) (constant S128x128 .f32 0x00000000#32)

/-- Zero everywhere. -/
def zeros : FVec F S128x128 .f32 := broadcast S128x128 (Scalar.ofBits .f32 0x00000000#32)

/-- One pair's share of the gradient of `C Bᵀ`, added to `acc`. -/
def stepCB (x : Ins F) (p : ℕ) (hp : p < 16) (acc : FVec F S128x128 .f32) : FVec F S128x128 .f32 :=
  addf (addf acc (mulf (inner (dyAt x p hp) (select k0_pay29 (mulf (xAt x p hp) (dtAt x p hp)) zeros)) (lower x (2 * p) (by omega))))
    (mulf (inner (dyAt x p hp) (select k0_pay29 zeros (mulf (xAt x p hp) (dtAt x p hp)))) (lower x (2 * p + 1) (by omega)))

/-- One pair's share of the gradient of `C` through the carried state, added to `acc`. -/
def stepC (x : Ins F) (p : ℕ) (hp : p < 16) (acc : FVec F S128x128 .f32) : FVec F S128x128 .f32 :=
  addf acc (prod (mulf (dyAt x p hp) (select k0_pay29 (exp (colH x (2 * p) (by omega))) (exp (colH x (2 * p + 1) (by omega))))) (hsAt x p hp))

/-- Group `g`'s block of the gradient of `C`. -/
def dcOf (x : Ins F) (g : ℕ) (hg : g < 4) : FVec F S128x128 .f32 :=
  addf (stepC x (4 * g + 3) (by omega) (stepC x (4 * g + 2) (by omega) (stepC x (4 * g + 1) (by omega) (stepC x (4 * g) (by omega) zeros))))
    (prod (stepCB x (4 * g + 3) (by omega) (stepCB x (4 * g + 2) (by omega) (stepCB x (4 * g + 1) (by omega) (stepCB x (4 * g) (by omega) zeros)))) (bAt x g hg))

/-- Row `l` and column `2560 + 128 g + n` of the block of gradients: the place of group `g`'s gradient of `C`. -/
abbrev at9 (g : ℕ) (hg : g < 4) (l n : Fin 128) : S128x3072.Idx := ix2 l ⟨2560 + 128 * g + n.val, by omega⟩

theorem drop6 (q1 q2 q3 q4 q5 q6 : View.Piece (Elt F) S128x3072 .f32) (L : List (View.Piece (Elt F) S128x3072 .f32)) (y : S128x3072.Idx)
    (h1 : y ∉ q1.1.set) (h2 : y ∉ q2.1.set) (h3 : y ∉ q3.1.set) (h4 : y ∉ q4.1.set) (h5 : y ∉ q5.1.set) (h6 : y ∉ q6.1.set) :
    View.canon (q1 :: q2 :: q3 :: q4 :: q5 :: q6 :: L) y = View.canon L y := by
  rw [View.canon_cons_of_not_mem _ _ h1, View.canon_cons_of_not_mem _ _ h2, View.canon_cons_of_not_mem _ _ h3, View.canon_cons_of_not_mem _ _ h4,
    View.canon_cons_of_not_mem _ _ h5, View.canon_cons_of_not_mem _ _ h6]

theorem hit (b : ℕ) (inb : ∀ a, ![0, b] a + S128x128.size a ≤ S128x3072.size a) (w : (Rect.unit (s := S128x3072) ![0, b] S128x128.size inb).shape.Idx → Elt F .f32)
    (L : List (View.Piece (Elt F) S128x3072 .f32)) (l n : Fin 128) (m : Fin 3072) (h : m.val = b + n.val) :
    View.canon (⟨Rect.unit (s := S128x3072) ![0, b] S128x128.size inb, w⟩ :: L) (ix2 l m) = w (ix2 l n) := by
  have e : (Rect.unit (s := S128x3072) ![0, b] S128x128.size inb).emb (ix2 l n) = ix2 l m := by
    funext a; fin_cases a
    · apply Fin.ext; show 0 + 1 * l.val = l.val; omega
    · apply Fin.ext; show b + 1 * n.val = m.val; omega
  rw [← e]; exact View.canon_cons_emb _ _ _ _

/-- An index in the columns of one group's gradient of `C` is in no piece of other columns. -/
theorem away (b : ℕ) (inb : ∀ a, ![0, b] a + S128x128.size a ≤ S128x3072.size a) (l : Fin 128) (m : Fin 3072) (h : m.val < b ∨ b + 128 ≤ m.val) :
    ix2 l m ∉ (Rect.unit (s := S128x3072) ![0, b] S128x128.size inb).set := by
  rw [Rect.mem_set_unit]
  intro hm
  have h1 : b ≤ m.val := (hm 1).1
  have h2 : m.val < b + 128 := (hm 1).2
  omega

set_option maxHeartbeats 4000000 in
/-- The pieces the first point leaves hold group `g`'s gradient of `C` in its columns. -/
theorem piecesA_dc (c : Dev nD) (t : Fin cfg0.N) (hc0 : isFirst (grid0.coords t)) (hc1 : ¬isLast (grid0.coords t)) (x : Ins F) (g : ℕ) (hg : g < 4) (l n : Fin 128) :
    readL v9 (piecesA c t hc0 hc1 x).L9 (at9 g hg l n) = dcOf x g hg (ix2 l n) := by
  unfold readL
  rw [View.read_writes_apply_eq_canon _ _ _ _ ((coversA c t hc0 hc1 x).o9 _)]
  unfold piecesA atA runA
  dsimp only
  interval_cases g
  · rw [drop6, drop6, drop6]
    · refine (hit 2560 _ _ _ l n _ (by rfl)).trans ?_
      sl_unfold_words
      simp (disch := decide) only [View.ld_unit_lit', View.readCov_fill, View.readAt_eq_ld, Memref.IsWhole.read_unread]
      rfl
    all_goals exact away _ (by decide) _ _ (by simp only; omega)
  · rw [drop6, drop6]
    · refine (hit 2688 _ _ _ l n _ (by rfl)).trans ?_
      sl_unfold_words
      simp (disch := decide) only [View.ld_unit_lit', View.readCov_fill, View.readAt_eq_ld, Memref.IsWhole.read_unread]
      rfl
    all_goals exact away _ (by decide) _ _ (by simp only; omega)
  · rw [drop6]
    · refine (hit 2816 _ _ _ l n _ (by rfl)).trans ?_
      sl_unfold_words
      simp (disch := decide) only [View.ld_unit_lit', View.readCov_fill, View.readAt_eq_ld, Memref.IsWhole.read_unread]
      rfl
    all_goals exact away _ (by decide) _ _ (by simp only; omega)
  · refine (hit 2944 _ _ _ l n _ (by rfl)).trans ?_
    sl_unfold_words
    simp (disch := decide) only [View.ld_unit_lit', View.readCov_fill, View.readAt_eq_ld, Memref.IsWhole.read_unread]
    rfl

set_option maxHeartbeats 4000000 in
/-- The pieces a point between leaves hold group `g`'s gradient of `C` in its columns. -/
theorem piecesB_dc (c : Dev nD) (t : Fin cfg0.N) (hc0 : ¬isFirst (grid0.coords t)) (hc1 : ¬isLast (grid0.coords t)) (x : Ins F) (p : Carry F) (g : ℕ) (hg : g < 4) (l n : Fin 128) :
    readL v9 (piecesB c t hc0 hc1 x p).L9 (at9 g hg l n) = dcOf x g hg (ix2 l n) := by
  unfold readL
  rw [View.read_writes_apply_eq_canon _ _ _ _ ((coversB c t hc0 hc1 x p).o9 _)]
  unfold piecesB atB runB
  dsimp only
  interval_cases g
  · rw [drop6, drop6, drop6]
    · refine (hit 2560 _ _ _ l n _ (by rfl)).trans ?_
      sl_unfold_words
      simp (disch := decide) only [View.ld_unit_lit', View.readCov_fill, View.readAt_eq_ld, Memref.IsWhole.read_unread]
      rfl
    all_goals exact away _ (by decide) _ _ (by simp only; omega)
  · rw [drop6, drop6]
    · refine (hit 2688 _ _ _ l n _ (by rfl)).trans ?_
      sl_unfold_words
      simp (disch := decide) only [View.ld_unit_lit', View.readCov_fill, View.readAt_eq_ld, Memref.IsWhole.read_unread]
      rfl
    all_goals exact away _ (by decide) _ _ (by simp only; omega)
  · rw [drop6]
    · refine (hit 2816 _ _ _ l n _ (by rfl)).trans ?_
      sl_unfold_words
      simp (disch := decide) only [View.ld_unit_lit', View.readCov_fill, View.readAt_eq_ld, Memref.IsWhole.read_unread]
      rfl
    all_goals exact away _ (by decide) _ _ (by simp only; omega)
  · refine (hit 2944 _ _ _ l n _ (by rfl)).trans ?_
    sl_unfold_words
    simp (disch := decide) only [View.ld_unit_lit', View.readCov_fill, View.readAt_eq_ld, Memref.IsWhole.read_unread]
    rfl

set_option maxHeartbeats 4000000 in
/-- The pieces the last point leaves hold group `g`'s gradient of `C` in its columns. -/
theorem piecesC_dc (c : Dev nD) (t : Fin cfg0.N) (hc0 : ¬isFirst (grid0.coords t)) (hc1 : isLast (grid0.coords t)) (x : Ins F) (p : Carry F) (g : ℕ) (hg : g < 4) (l n : Fin 128) :
    readL v9 (piecesC c t hc0 hc1 x p).L9 (at9 g hg l n) = dcOf x g hg (ix2 l n) := by
  unfold readL
  rw [View.read_writes_apply_eq_canon _ _ _ _ ((coversC c t hc0 hc1 x p).o9 _)]
  unfold piecesC atC runC
  dsimp only
  interval_cases g
  · rw [drop6, drop6, drop6]
    · refine (hit 2560 _ _ _ l n _ (by rfl)).trans ?_
      sl_unfold_words
      simp (disch := decide) only [View.ld_unit_lit', View.readCov_fill, View.readAt_eq_ld, Memref.IsWhole.read_unread]
      rfl
    all_goals exact away _ (by decide) _ _ (by simp only; omega)
  · rw [drop6, drop6]
    · refine (hit 2688 _ _ _ l n _ (by rfl)).trans ?_
      sl_unfold_words
      simp (disch := decide) only [View.ld_unit_lit', View.readCov_fill, View.readAt_eq_ld, Memref.IsWhole.read_unread]
      rfl
    all_goals exact away _ (by decide) _ _ (by simp only; omega)
  · rw [drop6]
    · refine (hit 2816 _ _ _ l n _ (by rfl)).trans ?_
      sl_unfold_words
      simp (disch := decide) only [View.ld_unit_lit', View.readCov_fill, View.readAt_eq_ld, Memref.IsWhole.read_unread]
      rfl
    all_goals exact away _ (by decide) _ _ (by simp only; omega)
  · refine (hit 2944 _ _ _ l n _ (by rfl)).trans ?_
    sl_unfold_words
    simp (disch := decide) only [View.ld_unit_lit', View.readCov_fill, View.readAt_eq_ld, Memref.IsWhole.read_unread]
    rfl

end Cert.Proof.Ssd
end
-- ==== Proof.Terms.lean ====
/-
  The arrays both programs compute on the host, as terms over the arguments: the step sizes, their running sums along
  a chunk, each chunk's state and decay; and the reference's result over the states that enter the chunks.
-/
module

public import proofs.«01_k».proof.Proof.Frames

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]

/-- `x` plus the bias of its head. -/
def biased (a1 : FVec F S16384x32 .f32) (a2 : FVec F S32 .f32) : FVec F S16384x32 .f32 :=
  addf a1 (broadcastInDim S16384x32 ![0, 1] bcast_S1x32_S16384x32_0_1 (broadcastInDim S1x32 ![1] bcast_S32_S1x32_1 a2))

/-- Zero everywhere. -/
def zero32 : FVec F S16384x32 .f32 := broadcastInDim S16384x32 ![] bcast_S_S16384x32 (constant S_ .f32 0x00000000#32)

/-- `softplus`, as the host computes it. -/
def soft (x : FVec F S16384x32 .f32) : FVec F S16384x32 .f32 :=
  select (cmpf .une (subf x zero32) (subf x zero32)) (addf x zero32)
    (addf (maximumf x zero32) (Host.log1p (Host.exp (Host.negf (Host.absf (subf x zero32))))))

/-- The step sizes by chunk, position, group and head of the group. -/
def dtT (a1 : FVec F S16384x32 .f32) (a2 : FVec F S32 .f32) : FVec F S128x128x4x8 .f32 := shapeCast S128x128x4x8 (soft (biased a1 a2)) shapeCasts_S16384x32_S128x128x4x8

/-- Minus the exponential of `a_log`. -/
def negA (a3 : FVec F S32 .f32) : FVec F S4x8 .f32 := Host.negf (shapeCast S4x8 (Host.exp a3) shapeCasts_S32_S4x8)

/-- The inputs by chunk, position, group, head and channel. -/
def xsT (a0 : FVec F S16384x3072 .f32) : FVec F S128x128x4x8x64 .f32 :=
  shapeCast S128x128x4x8x64 (extractStridedSlice S16384x2048 ![0, 0] a0 slices_S16384x3072_S16384x2048_0_0) shapeCasts_S16384x2048_S128x128x4x8x64

/-- `B` by chunk, position, group and state coordinate. -/
def bT (a0 : FVec F S16384x3072 .f32) : FVec F S128x128x4x128 .f32 :=
  shapeCast S128x128x4x128 (extractStridedSlice S16384x512 ![0, 2048] a0 slices_S16384x3072_S16384x512_0_2048) shapeCasts_S16384x512_S128x128x4x128

/-- A per-head array spread over the head's channels. -/
def spread (t : FVec F S128x128x4x8 .f32) : FVec F S128x128x4x8x64 .f32 :=
  broadcastInDim S128x128x4x8x64 ![0, 1, 2, 3, 4] bcast_S128x128x4x8x1_S128x128x4x8x64_0_1_2_3_4 (broadcastInDim S128x128x4x8x1 ![0, 1, 2, 3] bcast_S128x128x4x8_S128x128x4x8x1_0_1_2_3 t)

/-- The inputs times the step sizes. -/
def xdtT (a0 : FVec F S16384x3072 .f32) (a1 : FVec F S16384x32 .f32) (a2 : FVec F S32 .f32) : FVec F S128x128x4x8x64 .f32 := mulf (xsT a0) (spread (dtT a1 a2))

/-- The scaled step sizes by group, head, chunk and position. -/
def adtT (a1 : FVec F S16384x32 .f32) (a2 a3 : FVec F S32 .f32) : FVec F S4x8x128x128 .f32 :=
  transpose S4x8x128x128 [2, 3, 0, 1] (mulf (dtT a1 a2) (broadcastInDim S128x128x4x8 ![0, 1, 2, 3] bcast_S1x1x4x8_S128x128x4x8_0_1_2_3
    (broadcastInDim S1x1x4x8 ![2, 3] bcast_S4x8_S1x1x4x8_2_3 (negA a3)))) transposes_S128x128x4x8_S4x8x128x128_2_3_0_1

/-- Their running sums along a chunk. -/
def acsT (a1 : FVec F S16384x32 .f32) (a2 a3 : FVec F S32 .f32) : FVec F S4x8x128x128 .f32 :=
  Host.reduceWindowAdd ![1, 1, 1, 128] ![1, 1, 1, 1] ![0, 0, 0, 127] ![0, 0, 0, 0] (adtT a1 a2 a3) (broadcastInDim S_ ![] bcast_S_S_ (constant S_ .f32 0x00000000#32))
    reduceWindows_S4x8x128x128_S4x8x128x128_w1s1p0_0_w1s1p0_0_w1s1p0_0_w128s1p127_0 h_S_

/-- The decay from each position to the chunk's end. -/
def tailT (a1 : FVec F S16384x32 .f32) (a2 a3 : FVec F S32 .f32) : FVec F S128x128x4x8 .f32 :=
  transpose S128x128x4x8 [2, 3, 0, 1] (Host.exp (subf (broadcastInDim S4x8x128x128 ![0, 1, 2, 3] bcast_S4x8x128x1_S4x8x128x128_0_1_2_3
    (extractStridedSlice S4x8x128x1 ![0, 0, 0, 127] (acsT a1 a2 a3) slices_S4x8x128x128_S4x8x128x1_0_0_0_127)) (acsT a1 a2 a3))) transposes_S4x8x128x128_S128x128x4x8_2_3_0_1

/-- Each chunk's own state. -/
def statesT (a0 : FVec F S16384x3072 .f32) (a1 : FVec F S16384x32 .f32) (a2 a3 : FVec F S32 .f32) : FVec F S128x4x8x64x128 .f32 :=
  Host.dotGeneral dot_S128x128x4x8x64_S128x128x4x128_S128x4x8x64x128_1_1_34_3_02_02 none (mulf (spread (tailT a1 a2 a3)) (xdtT a0 a1 a2)) (bT a0)

/-- Each chunk's decay. -/
def decaysT (a1 : FVec F S16384x32 .f32) (a2 a3 : FVec F S32 .f32) : FVec F S128x4x8 .f32 :=
  transpose S128x4x8 [2, 0, 1] (Host.exp (shapeCast S4x8x128 (extractStridedSlice S4x8x128x1 ![0, 0, 0, 127] (acsT a1 a2 a3) slices_S4x8x128x128_S4x8x128x1_0_0_0_127)
    shapeCasts_S4x8x128x1_S4x8x128)) transposes_S4x8x128_S128x4x8_2_0_1

/-- The decay between two positions of a chunk, by chunk, group, head: `exp` of the difference of the running sums, where the second is not after the first. -/
def lowT (a1 : FVec F S16384x32 .f32) (a2 a3 : FVec F S32 .f32) : FVec F S128x4x8x128x128 .f32 :=
  transpose S128x4x8x128x128 [2, 0, 1, 3, 4] (Host.exp (select
    (broadcastInDim S4x8x128x128x128 ![3, 4] bcast_S128x128_S4x8x128x128x128_3_4
      (select (cmpi .sge (addi (iotaInDim S128x128 32 0) (broadcastInDim S128x128 ![] bcast_S_S128x128 (constantI S_ 32 0#32))) (iotaInDim S128x128 32 1))
        (broadcastInDim S128x128 ![] bcast_S_S128x128 (constantI S_ 1 1#1)) (broadcastInDim S128x128 ![] bcast_S_S128x128 (constantI S_ 1 0#1))))
    (subf (broadcastInDim S4x8x128x128x128 ![0, 1, 2, 3, 4] bcast_S4x8x128x128x1_S4x8x128x128x128_0_1_2_3_4
        (broadcastInDim S4x8x128x128x1 ![0, 1, 2, 3] bcast_S4x8x128x128_S4x8x128x128x1_0_1_2_3 (acsT a1 a2 a3)))
      (broadcastInDim S4x8x128x128x128 ![0, 1, 2, 3, 4] bcast_S4x8x128x1x128_S4x8x128x128x128_0_1_2_3_4
        (broadcastInDim S4x8x128x1x128 ![0, 1, 2, 4] bcast_S4x8x128x128_S4x8x128x1x128_0_1_2_4 (acsT a1 a2 a3))))
    (broadcastInDim S4x8x128x128x128 ![] bcast_S_S4x8x128x128x128 (constant S_ .f32 0xFF800000#32)))) transposes_S4x8x128x128x128_S128x4x8x128x128_2_0_1_3_4

/-- The cotangent by chunk, position, group, head and channel. -/
def dyT (a5 : FVec F S16384x2048 .f32) : FVec F S128x128x4x8x64 .f32 := shapeCast S128x128x4x8x64 a5 shapeCasts_S16384x2048_S128x128x4x8x64

/-- The gradient of `C` through the states `h` that enter the chunks. -/
def viaState (a1 : FVec F S16384x32 .f32) (a2 a3 : FVec F S32 .f32) (a5 : FVec F S16384x2048 .f32) (h : FVec F S128x4x8x64x128 .f32) : FVec F S128x4x128x128 .f32 :=
  Host.dotGeneral dot_S128x4x8x64x128_S128x4x8x64x128_S128x4x128x128_23_23_4_4_01_01 none
    (transpose S128x4x8x64x128 [0, 2, 3, 4, 1] (mulf (dyT a5) (spread (transpose S128x128x4x8 [2, 3, 0, 1] (Host.exp (acsT a1 a2 a3)) transposes_S4x8x128x128_S128x128x4x8_2_3_0_1)))
      transposes_S128x128x4x8x64_S128x4x8x64x128_0_2_3_4_1) h

/-- The gradient of `C Bᵀ`, by chunk and group. -/
def pairsT (a0 : FVec F S16384x3072 .f32) (a1 : FVec F S16384x32 .f32) (a2 a3 : FVec F S32 .f32) (a5 : FVec F S16384x2048 .f32) : FVec F S128x4x128x128 .f32 :=
  Host.reduceAdd (shapeCast S128x4x1x128x128 (Host.reduceAdd (mulf (Host.dotGeneral dot_S128x4x8x64x128_S128x128x4x8x64_S128x4x8x128x128_3_4_4_1_012_023 none
      (transpose S128x4x8x64x128 [0, 2, 3, 4, 1] (dyT a5) transposes_S128x128x4x8x64_S128x4x8x64x128_0_2_3_4_1) (xdtT a0 a1 a2)) (lowT a1 a2 a3))
    (constant S_ .f32 0x00000000#32) reducesTo_S128x4x8x128x128_S128x4x128x128_d2 h_S_) shapeCasts_S128x4x128x128_S128x4x1x128x128)
    (constant S_ .f32 0x00000000#32) reducesTo_S128x4x1x128x128_S128x4x128x128_d2 h_S_

/-- The gradient of `C`, over the states `h` that enter the chunks. -/
def gradT (a0 : FVec F S16384x3072 .f32) (a1 : FVec F S16384x32 .f32) (a2 a3 : FVec F S32 .f32) (a5 : FVec F S16384x2048 .f32) (h : FVec F S128x4x8x64x128 .f32) : FVec F S16384x512 .f32 :=
  shapeCast S16384x512 (addf (transpose S128x128x4x128 [0, 2, 1, 3] (viaState a1 a2 a3 a5 h) transposes_S128x4x128x128_S128x128x4x128_0_2_1_3)
    (transpose S128x128x4x128 [0, 2, 1, 3] (Host.dotGeneral dot_S128x4x128x128_S128x128x4x128_S128x4x128x128_3_1_2_3_01_02 none (pairsT a0 a1 a2 a3 a5) (bT a0))
      transposes_S128x4x128x128_S128x128x4x128_0_2_1_3)) shapeCasts_S128x128x4x128_S16384x512

/-! ## What the reference's lines leave before its loop -/

variable (m : (ℓ : Loc nD τ sig) → Buf (Elt F) ℓ) (c : Dev nD)

abbrev A0 : FVec F S16384x3072 .f32 := m ((c : Thread nD τ).loc main_arg0)
abbrev A1 : FVec F S16384x32 .f32 := m ((c : Thread nD τ).loc main_arg1)
abbrev A2 : FVec F S32 .f32 := m ((c : Thread nD τ).loc main_arg2)
abbrev A3 : FVec F S32 .f32 := m ((c : Thread nD τ).loc main_arg3)
abbrev A5 : FVec F S16384x2048 .f32 := m ((c : Thread nD τ).loc main_arg5)

set_option maxHeartbeats 2000000 in
theorem entry_acs : entryContents preI m c (Proc.devRef .tc main_v21) = acsT (A1 m c) (A2 m c) (A3 m c) := by
  simp only [entryContents, afterL_cons, afterL_nil]
  after_reads_simp
  try simp -implicitDefEqProofs only [StableHlo.TRef.toBuf, StableHlo.TRef.ofBuf, cast_cast, cast_eq]
  rfl
set_option maxHeartbeats 2000000 in
theorem entry_xdt : entryContents preI m c (Proc.devRef .tc main_v16) = xdtT (A0 m c) (A1 m c) (A2 m c) := by
  simp only [entryContents, afterL_cons, afterL_nil]
  after_reads_simp
  try simp -implicitDefEqProofs only [StableHlo.TRef.toBuf, StableHlo.TRef.ofBuf, cast_cast, cast_eq]
  rfl
set_option maxHeartbeats 2000000 in
theorem entry_b : entryContents preI m c (Proc.devRef .tc main_v11) = bT (A0 m c) := by
  simp only [entryContents, afterL_cons, afterL_nil]
  after_reads_simp
  try simp -implicitDefEqProofs only [StableHlo.TRef.toBuf, StableHlo.TRef.ofBuf, cast_cast, cast_eq]
  rfl
set_option maxHeartbeats 2000000 in
theorem entry_low : entryContents preI m c (Proc.devRef .tc main_v34) = lowT (A1 m c) (A2 m c) (A3 m c) := by
  simp only [entryContents, afterL_cons, afterL_nil]
  after_reads_simp
  try simp -implicitDefEqProofs only [StableHlo.TRef.toBuf, StableHlo.TRef.ofBuf, cast_cast, cast_eq]
  rfl
set_option maxHeartbeats 2000000 in
theorem entry_states : entryContents preI m c (Proc.devRef .tc main_v54_0) = statesT (A0 m c) (A1 m c) (A2 m c) (A3 m c) := by
  simp only [entryContents, afterL_cons, afterL_nil]
  after_reads_simp
  try simp -implicitDefEqProofs only [StableHlo.TRef.toBuf, StableHlo.TRef.ofBuf, cast_cast, cast_eq]
  rfl
set_option maxHeartbeats 2000000 in
theorem entry_decays : entryContents preI m c (Proc.devRef .tc main_v54_1) = decaysT (A1 m c) (A2 m c) (A3 m c) := by
  simp only [entryContents, afterL_cons, afterL_nil]
  after_reads_simp
  try simp -implicitDefEqProofs only [StableHlo.TRef.toBuf, StableHlo.TRef.ofBuf, cast_cast, cast_eq]
  rfl
set_option maxHeartbeats 2000000 in
theorem entry_carry : entryContents preI m c (Proc.devRef .tc main_v54_3) = broadcastInDim S4x8x64x128 ![] bcast_S_S4x8x64x128 (constant S_ .f32 0x00000000#32) := by
  simp only [entryContents, afterL_cons, afterL_nil]
  after_reads_simp
  try simp -implicitDefEqProofs only [StableHlo.TRef.toBuf, StableHlo.TRef.ofBuf, cast_cast, cast_eq]
  rfl
set_option maxHeartbeats 2000000 in
theorem entry_out : entryContents preI m c (Proc.devRef .tc main_v54_4) = broadcastInDim S128x4x8x64x128 ![] bcast_S_S128x4x8x64x128 (constant S_ .f32 0x00000000#32) := by
  simp only [entryContents, afterL_cons, afterL_nil]
  after_reads_simp
  try simp -implicitDefEqProofs only [StableHlo.TRef.toBuf, StableHlo.TRef.ofBuf, cast_cast, cast_eq]
  rfl

/-- Every buffer after the reference's loop. -/
abbrev afterLoop : Valuation τ sig (Elt F) := after condOps (atK m 128 c)

/-- A buffer that nothing in the loop writes is after it as before it. -/
theorem after_keep (b : Ref sig .tc) (h : b ∉ condOps_W ∧ b ∉ while0Ops0_W ∧ b ∉ while0Ops0_1_W ∧ b ∉ while0Ops0_2_W ∧ b ∉ while0Ops0_3_W ∧ b ∉ while0Ops0_4_W) :
    afterLoop m c (Proc.devRef .tc b) = entryContents preI m c (Proc.devRef .tc b) := by
  show after condOps (atK m 128 c) (Proc.devRef .tc b) = _
  rw [after_of_writes_sub condOps _ condOps_writes h.1, keep_loop m c b h.1 h.2.1 h.2.2.1 h.2.2.2.1 h.2.2.2.2.1 h.2.2.2.2.2 128]

set_option maxHeartbeats 2000000 in
/-- The result, over what the loop left. -/
theorem post_grad (V : Valuation τ sig (Elt F)) : afterL postI V (Proc.devRef .tc main_v84)
    = shapeCast S16384x512 (addf (transpose S128x128x4x128 [0, 2, 1, 3] (Host.dotGeneral dot_S128x4x8x64x128_S128x4x8x64x128_S128x4x128x128_23_23_4_4_01_01 none
    (transpose S128x4x8x64x128 [0, 2, 3, 4, 1] (mulf (dyT (V (Proc.devRef .tc main_arg5))) (spread (transpose S128x128x4x8 [2, 3, 0, 1] (Host.exp (V (Proc.devRef .tc main_v21) : FVec F S4x8x128x128 .f32)) transposes_S4x8x128x128_S128x128x4x8_2_3_0_1)))
      transposes_S128x128x4x8x64_S128x4x8x64x128_0_2_3_4_1) (V (Proc.devRef .tc main_v54_4))) transposes_S128x4x128x128_S128x128x4x128_0_2_1_3)
    (transpose S128x128x4x128 [0, 2, 1, 3] (Host.dotGeneral dot_S128x4x128x128_S128x128x4x128_S128x4x128x128_3_1_2_3_01_02 none
      (Host.reduceAdd (shapeCast S128x4x1x128x128 (Host.reduceAdd (mulf (Host.dotGeneral dot_S128x4x8x64x128_S128x128x4x8x64_S128x4x8x128x128_3_4_4_1_012_023 none
      (transpose S128x4x8x64x128 [0, 2, 3, 4, 1] (dyT (V (Proc.devRef .tc main_arg5))) transposes_S128x128x4x8x64_S128x4x8x64x128_0_2_3_4_1) (V (Proc.devRef .tc main_v16) : FVec F S128x128x4x8x64 .f32)) (V (Proc.devRef .tc main_v34)))
    (constant S_ .f32 0x00000000#32) reducesTo_S128x4x8x128x128_S128x4x128x128_d2 h_S_) shapeCasts_S128x4x128x128_S128x4x1x128x128)
    (constant S_ .f32 0x00000000#32) reducesTo_S128x4x1x128x128_S128x4x128x128_d2 h_S_) (V (Proc.devRef .tc main_v11) : FVec F S128x128x4x128 .f32))
      transposes_S128x4x128x128_S128x128x4x128_0_2_1_3)) shapeCasts_S128x128x4x128_S16384x512 := by
  simp only [afterL_cons, afterL_nil]
  after_reads_simp
  rfl

theorem fin_grad : finalContents condOps preI bodyI postI 128 m c (Proc.devRef .tc main_v84)
    = gradT (A0 m c) (A1 m c) (A2 m c) (A3 m c) (A5 m c) (afterLoop m c (Proc.devRef .tc main_v54_4)) := by
  have h5 : afterLoop m c (Proc.devRef .tc main_arg5) = A5 m c := by
    rw [after_keep m c main_arg5 (by decide +kernel), show entryContents preI m c = afterL preI (launchContents m c) from rfl,
      keep_preI _ main_arg5 (by decide +kernel) (by decide +kernel) (by decide +kernel) (by decide +kernel) (by decide +kernel) (by decide +kernel) (by decide +kernel) (by decide +kernel) (by decide +kernel) (by decide +kernel)]
  have h21 := (after_keep m c main_v21 (by decide +kernel)).trans (entry_acs m c)
  have h16 := (after_keep m c main_v16 (by decide +kernel)).trans (entry_xdt m c)
  have h34 := (after_keep m c main_v34 (by decide +kernel)).trans (entry_low m c)
  have h11 := (after_keep m c main_v11 (by decide +kernel)).trans (entry_b m c)
  refine (post_grad (afterLoop m c)).trans ?_
  rw [h5, h21, h16, h34, h11]
  rfl

end Cert.Proof.Ref
end
-- ==== Proof.Sums.lean ====
/-
  Sums over the extended reals, and the tests of small index words: a sum over 128 lanes as two over 64, the running
  sums along a chunk as the host's window sums, and `softplus` in its two spellings.
-/
module

public import proofs.«01_k».proof.Proof.Terms
public import Idealize.ShloMosaic.Lib.Pointwise
public import Idealize.ShloMosaic.Lib.WordCmp

@[expose] public section

set_option maxRecDepth 16384

noncomputable section

namespace Cert.Proof

open Idealize.ShloMosaic Idealize.ShloMosaic.Tactic

/-- A sum over 128 lanes, as the sums over its halves. -/
theorem sum_halves (f : Fin 128 → EReal) :
    ∑ k, f k = (∑ e : Fin 64, f ⟨e.val, by omega⟩) + ∑ e : Fin 64, f ⟨64 + e.val, by omega⟩ :=
  (Fin.sum_univ_add (a := 64) (b := 64) f).trans rfl

/-- The signed test `a < b` of small words. -/
theorem pick_lt (a b : ℕ) (ha : a < 2 ^ 31) (hb : b < 2 ^ 31) (x y : EReal) :
    Scalar.select (IntOp.cmpi .slt (BitVec.ofNat 32 a) (BitVec.ofNat 32 b)) x y = if a < b then x else y := by
  rw [WordCmp.cmpi_slt_of_lt (by rw [BitVec.toNat_ofNat]; omega) (by rw [BitVec.toNat_ofNat]; omega), WordCmp.select_decide, BitVec.toNat_ofNat, BitVec.toNat_ofNat,
    Nat.mod_eq_of_lt (by omega), Nat.mod_eq_of_lt (by omega)]

/-- The signed test `a ≥ b` of small words. -/
theorem pick_ge (a b : ℕ) (ha : a < 2 ^ 31) (hb : b < 2 ^ 31) (x y : EReal) :
    Scalar.select (IntOp.cmpi .sge (BitVec.ofNat 32 a) (BitVec.ofNat 32 b)) x y = if b ≤ a then x else y := by
  rw [WordCmp.cmpi_sge_of_lt (by rw [BitVec.toNat_ofNat]; omega) (by rw [BitVec.toNat_ofNat]; omega), WordCmp.select_decide, BitVec.toNat_ofNat, BitVec.toNat_ofNat,
    Nat.mod_eq_of_lt (by omega), Nat.mod_eq_of_lt (by omega)]

/-- The kernel's `softplus` is the host's. -/
theorem softplus_eq (u : EReal) :
    max u 0 + Ideal.log (1 + Ideal.exp (0 - (FloatOps.absf (F := Ideal) (φ := .f32) u : EReal)))
      = if u ≠ u then u else max u 0 + Ideal.log1p (Ideal.exp (-(FloatOps.absf (F := Ideal) (φ := .f32) u : EReal))) := by
  rw [if_neg (fun h => h rfl), zero_sub]
  rfl

/-- A fold of additions is the start plus the sum. -/
theorem foldl_add {ι : Type} (f : ι → EReal) : ∀ (l : List ι) (v : EReal), l.foldl (fun r k => r + f k) v = v + (l.map f).sum
  | [], v => by simp
  | k :: l, v => by rw [List.foldl_cons, foldl_add f l, List.map_cons, List.sum_cons, add_assoc]

/-- The window of the positions up to `l`, its padding zero, adds those positions. -/
theorem sum_window (X : Fin 128 → EReal) (l : Fin 128) :
    (∑ w : Fin 128, if h : 127 ≤ l.val + w.val then X ⟨l.val + w.val - 127, by omega⟩ else 0) = ∑ s : Fin 128, if s.val ≤ l.val then X s else 0 := by
  have e : ∀ w : Fin 128, (if h : 127 ≤ l.val + w.val then X ⟨l.val + w.val - 127, by omega⟩ else 0)
      = if 127 ≤ l.val + w.val then X ⟨l.val + w.val - 127, by omega⟩ else 0 := fun w => by split_ifs <;> rfl
  rw [Finset.sum_congr rfl fun w _ => e w, ← Finset.sum_filter, ← Finset.sum_filter]
  refine Finset.sum_bij' (fun w _ => ⟨l.val + w.val - 127, by omega⟩) (fun s _ => ⟨(s.val + 127 - l.val) % 128, Nat.mod_lt _ (by omega)⟩) ?_ ?_ ?_ ?_ ?_
  · intro w hw; simp only [Finset.mem_filter, Finset.mem_univ, true_and] at hw ⊢; omega
  · intro s hs; simp only [Finset.mem_filter, Finset.mem_univ, true_and] at hs ⊢; omega
  · intro w hw; simp only [Finset.mem_filter, Finset.mem_univ, true_and] at hw; apply Fin.ext; simp only; omega
  · intro s hs; simp only [Finset.mem_filter, Finset.mem_univ, true_and] at hs; apply Fin.ext; simp only; omega
  · intro w hw; rfl

open Cert.ReferenceIdeal Cert.ReferenceIdeal.Gen

set_option maxHeartbeats 1000000 in
/-- The host's running sums along the last axis. -/
theorem running_sum (x : FVec Ideal S4x8x128x128 .f32) (init : FVec Ideal S_ .f32) (h0 : init (Shape.Idx.first h_S_) = (0 : EReal)) (g : Fin 4) (r : Fin 8) (i l : Fin 128) :
    Host.reduceWindowAdd ![1, 1, 1, 128] ![1, 1, 1, 1] ![0, 0, 0, 127] ![0, 0, 0, 0] x init
      reduceWindows_S4x8x128x128_S4x8x128x128_w1s1p0_0_w1s1p0_0_w1s1p0_0_w128s1p127_0 h_S_ (ix4 g r i l)
      = ∑ s : Fin 128, if s.val ≤ l.val then (x (ix4 g r i s) : EReal) else 0 := by
  unfold Host.reduceWindowAdd
  rw [h0]
  show Ideal.hostReduceWindowAdd ![1, 1, 1, 128] ![1, 1, 1, 1] ![0, 0, 0, 127] ![0, 0, 0, 0] _ x 0 (ix4 g r i l) = _
  unfold Ideal.hostReduceWindowAdd Host.reduceWindow
  dsimp only
  rw [foldl_add, zero_add, ← Fin.sum_univ_def]
  let q : (⟨4, ![1, 1, 1, 128]⟩ : Shape).Idx → Fin 4 → ℕ := fun n a => (ix4 g r i l a).val * ![1, 1, 1, 1] a + (n a).val
  let G : (⟨4, ![1, 1, 1, 128]⟩ : Shape).Idx → EReal := fun n =>
    if hin : ∀ a : Fin 4, ![0, 0, 0, 127] a ≤ q n a ∧ q n a - ![0, 0, 0, 127] a < S4x8x128x128.size a
      then (x (fun a => ⟨q n a - ![0, 0, 0, 127] a, (hin a).2⟩) : EReal) else 0
  refine Eq.trans (Finset.sum_congr rfl fun k _ => ?_) (Equiv.sum_comp (Shape.rowMajor (⟨4, ![1, 1, 1, 128]⟩ : Shape)).symm G |>.trans ?_)
  · by_cases hin : ∀ a : Fin 4, ![0, 0, 0, 127] a ≤ q ((Shape.rowMajor (⟨4, ![1, 1, 1, 128]⟩ : Shape)).symm k) a
        ∧ q ((Shape.rowMajor (⟨4, ![1, 1, 1, 128]⟩ : Shape)).symm k) a - ![0, 0, 0, 127] a < S4x8x128x128.size a
    · refine (dif_pos hin).trans ?_
      show _ = G _
      dsimp only [G]
      rw [dif_pos hin]
      rfl
    · refine (dif_neg hin).trans ?_
      show _ = G _
      dsimp only [G]
      rw [dif_neg hin]
  rw [sum_idx4]
  simp only [Fin.sum_univ_one, Fin.isValue]
  refine Eq.trans (Finset.sum_congr rfl fun w _ => ?_) (sum_window (fun s => x (ix4 g r i s)) l)
  have q0 : q (ix4 0 0 0 w) 0 = g.val := by show g.val * 1 + 0 = _; omega
  have q1 : q (ix4 0 0 0 w) 1 = r.val := by show r.val * 1 + 0 = _; omega
  have q2 : q (ix4 0 0 0 w) 2 = i.val := by show i.val * 1 + 0 = _; omega
  have q3 : q (ix4 0 0 0 w) 3 = l.val + w.val := by show l.val * 1 + w.val = _; omega
  by_cases h : 127 ≤ l.val + w.val
  · have hin : ∀ a : Fin 4, ![0, 0, 0, 127] a ≤ q (ix4 0 0 0 w) a ∧ q (ix4 0 0 0 w) a - ![0, 0, 0, 127] a < S4x8x128x128.size a := by
      intro a
      match a with
      | 0 => rw [q0]; exact ⟨Nat.zero_le _, by show g.val - 0 < 4; omega⟩
      | 1 => rw [q1]; exact ⟨Nat.zero_le _, by show r.val - 0 < 8; omega⟩
      | 2 => rw [q2]; exact ⟨Nat.zero_le _, by show i.val - 0 < 128; omega⟩
      | 3 => rw [q3]; exact ⟨h, by show l.val + w.val - 127 < 128; omega⟩
    rw [dif_pos h]
    refine (dif_pos hin).trans ?_
    refine congrArg x ?_
    funext a
    apply Fin.ext
    match a with
    | 0 => exact q0
    | 1 => exact q1
    | 2 => exact q2
    | 3 => show q (ix4 0 0 0 w) 3 - 127 = l.val + w.val - 127; rw [q3]
  · rw [dif_neg h]
    refine dif_neg fun hin => ?_
    have := (hin 3).1
    rw [q3] at this
    exact h this

end Cert.Proof
end
-- ==== Proof.Match.lean ====
/-
  The block of the gradient of `C` one grid point computes is the host's, entry by entry, over the extended reals.
-/
module

public import proofs.«01_k».proof.Proof.Stage
public import proofs.«01_k».proof.Proof.Sums

@[expose] public section

set_option maxRecDepth 16384

noncomputable section

namespace Cert.Proof.Ssd

open Cert.KernelIdeal Cert.KernelIdeal.Gen
open Idealize.ShloMosaic Idealize.ShloMosaic.TcCoe Idealize.ShloMosaic.Tactic
open Cert.Proof.Ref (dtT xdtT adtT acsT lowT viaState pairsT gradT soft biased zero32 xsT spread negA dyT bT)

/-- Row `l` of chunk `i`. -/
abbrev pos (i l : Fin 128) : Fin 16384 := ⟨i.val * 128 + l.val, by omega⟩
/-- Head `r` of group `g`. -/
abbrev hd (g : Fin 4) (r : Fin 8) : Fin 32 := ⟨g.val * 8 + r.val, by omega⟩
/-- Channel `e` of head `r` of group `g`. -/
abbrev ch (g : Fin 4) (r : Fin 8) (e : Fin 64) : Fin 2048 := ⟨g.val * 512 + r.val * 64 + e.val, by omega⟩

/-- What the kernel reads at the point of chunk `i`, in terms of the whole arrays. -/
structure Holds (x : Ins Ideal) (i : Fin 128) (a0 : FVec Ideal S16384x3072 .f32) (a1 : FVec Ideal S16384x32 .f32) (a2 a3 : FVec Ideal S32 .f32)
    (a5 : FVec Ideal S16384x2048 .f32) (hst : FVec Ideal S128x4x8x64x128 .f32) : Prop where
  x0 : ∀ (l : Fin 128) (q : Fin 3072), x.x0 (ix2 l q) = a0 (ix2 (pos i l) q)
  x1 : ∀ (l : Fin 128) (h : Fin 32), x.x1 (ix2 l (⟨h.val, by omega⟩ : Fin 128)) = a1 (ix2 (pos i l) h)
  x2 : ∀ (l : Fin 128) (q : Fin 2048), x.x2 (ix2 l q) = a5 (ix2 (pos i l) q)
  x3 : ∀ (p : Fin 16) (a b : Fin 128), x.x3 (ix4 0 p a b)
    = hst (ix5 i (⟨p.val / 4, by omega⟩ : Fin 4) (⟨p.val % 4 * 2 + a.val / 64, by omega⟩ : Fin 8) (⟨a.val % 64, by omega⟩ : Fin 64) b)
  x4 : ∀ h : Fin 32, x.x4 (ix2 0 (⟨h.val, by omega⟩ : Fin 128)) = a2 (ix1 h)
  x5 : ∀ h : Fin 32, x.x5 (ix2 0 (⟨h.val, by omega⟩ : Fin 128)) = (-Ideal.exp (a3 (ix1 h)) : EReal)
  x8 : ∀ (k : Fin 128) (q : Fin 2048), x.x8 (ix2 k q) = if q.val / 64 = k.val then (1 : EReal) else 0

variable {x : Ins Ideal} {i : Fin 128} {a0 : FVec Ideal S16384x3072 .f32} {a1 : FVec Ideal S16384x32 .f32} {a2 a3 : FVec Ideal S32 .f32}
    {a5 : FVec Ideal S16384x2048 .f32} {hst : FVec Ideal S128x4x8x64x128 .f32}

/-! ## The host's terms at coordinates -/

theorem dtT_at (l : Fin 128) (g : Fin 4) (r : Fin 8) : (dtT a1 a2 (ix4 i l g r) : EReal)
    = max (a1 (ix2 (pos i l) (hd g r)) + a2 (ix1 (hd g r)) : EReal) 0
      + Ideal.log (1 + Ideal.exp (0 - FloatOps.absf (F := Ideal) (φ := .f32) (a1 (ix2 (pos i l) (hd g r)) + a2 (ix1 (hd g r)) : EReal))) := by
  rw [softplus_eq]
  pointwise [dtT, soft, biased, zero32]

theorem acsT_at (l : Fin 128) (g : Fin 4) (r : Fin 8) : (acsT a1 a2 a3 (ix4 g r i l) : EReal)
    = ∑ s : Fin 128, if s.val ≤ l.val then (dtT a1 a2 (ix4 i s g r) * -Ideal.exp (a3 (ix1 (hd g r))) : EReal) else 0 := by
  unfold acsT
  refine (running_sum _ _ (by pointwise) g r i l).trans (Finset.sum_congr rfl fun s _ => ?_)
  refine congrArg (fun z : EReal => if s.val ≤ l.val then z else 0) ?_
  pointwise [adtT, negA]

theorem lowT_at (l s : Fin 128) (g : Fin 4) (r : Fin 8) : (lowT a1 a2 a3 (ix5 i g r l s) : EReal)
    = if s.val ≤ l.val then Ideal.exp (acsT a1 a2 a3 (ix4 g r i l) - acsT a1 a2 a3 (ix4 g r i s)) else 0 := by
  have e : (lowT a1 a2 a3 (ix5 i g r l s) : EReal) = Ideal.exp (Scalar.select (Scalar.select (IntOp.cmpi .sge (IntOp.addi (BitVec.ofNat 32 l.val) 0#32) (BitVec.ofNat 32 s.val)) 1#1 0#1)
      (acsT a1 a2 a3 (ix4 g r i l) - acsT a1 a2 a3 (ix4 g r i s)) (Ideal.ofBits .f32 4286578688#32) : EReal) := by
    pointwise [lowT]
  have z : IntOp.addi (BitVec.ofNat 32 l.val) 0#32 = BitVec.ofNat 32 l.val := BitVec.add_zero _
  have b : ∀ c : BitVec 1, Scalar.select c (1#1) (0#1) = c := by decide
  rw [e, z, b, pick_ge _ _ (by omega) (by omega)]
  split_ifs
  · rfl
  · rw [show (Ideal.ofBits .f32 4286578688#32 : EReal) = ⊥ by simp [Ideal.ofBits, Ideal.ieee]]
    rfl

/-! ## The kernel's terms at coordinates -/

/-- The step size of head `h` at row `l`. -/
def stepAt (x : Ins Ideal) (l h : Fin 128) : EReal :=
  max (x.x1 (ix2 l h) + x.x4 (ix2 0 h) : EReal) 0 + Ideal.log (1 + Ideal.exp (0 - FloatOps.absf (F := Ideal) (φ := .f32) (x.x1 (ix2 l h) + x.x4 (ix2 0 h) : EReal)))

theorem stepAt_eq (H : Holds x i a0 a1 a2 a3 a5 hst) (l : Fin 128) (g : Fin 4) (r : Fin 8) :
    stepAt x l (⟨g.val * 8 + r.val, by omega⟩ : Fin 128) = dtT a1 a2 (ix4 i l g r) := by
  rw [dtT_at, ← H.x1 l (hd g r), ← H.x4 (hd g r)]
  rfl

theorem dt_kernel (H : Holds x i a0 a1 a2 a3 a5 hst) (l : Fin 128) (g : Fin 4) (r : Fin 8) :
    (k0_pay9 x.x1 x.x4 (ix2 l (⟨g.val * 8 + r.val, by omega⟩ : Fin 128)) : EReal) = dtT a1 a2 (ix4 i l g r) := by
  rw [← stepAt_eq H]
  have e : (k0_pay9 x.x1 x.x4 (ix2 l (⟨g.val * 8 + r.val, by omega⟩ : Fin 128)) : EReal)
      = Scalar.select (IntOp.cmpi .slt (BitVec.ofNat 32 (g.val * 8 + r.val)) (BitVec.ofNat 32 32)) (stepAt x l (⟨g.val * 8 + r.val, by omega⟩ : Fin 128)) 0 := by
    pointwise [k0_pay9, stepAt]
  rw [e, pick_lt _ _ (by omega) (by omega), if_pos (by omega)]

theorem cst_at (H : Holds x i a0 a1 a2 a3 a5 hst) (l : Fin 128) (g : Fin 4) (r : Fin 8) :
    (cst x (ix2 (⟨g.val * 8 + r.val, by omega⟩ : Fin 128) l) : EReal) = acsT a1 a2 a3 (ix4 g r i l) := by
  rw [acsT_at]
  have e : (cst x (ix2 (⟨g.val * 8 + r.val, by omega⟩ : Fin 128) l) : EReal) = ∑ s : Fin 128,
      Scalar.select (IntOp.cmpi .slt (BitVec.ofNat 32 (g.val * 8 + r.val)) (BitVec.ofNat 32 32))
        (Scalar.select (IntOp.cmpi .sge (BitVec.ofNat 32 l.val) (BitVec.ofNat 32 s.val))
          (stepAt x s (⟨g.val * 8 + r.val, by omega⟩ : Fin 128) * x.x5 (ix2 0 (⟨g.val * 8 + r.val, by omega⟩ : Fin 128)) : EReal) 0) 0 := by
    pointwise [cst, k0_pay11, k0_pay10, k0_pay9, stepAt]
  rw [e]
  refine Finset.sum_congr rfl fun s _ => ?_
  rw [pick_lt _ _ (by omega) (by omega), pick_ge _ _ (by omega) (by omega), if_pos (by omega), stepAt_eq H, H.x5 (hd g r)]

theorem dtx_at (H : Holds x i a0 a1 a2 a3 a5 hst) (l : Fin 128) (g : Fin 4) (r : Fin 8) (e : Fin 64) :
    (dtx x (ix2 l (ch g r e)) : EReal) = dtT a1 a2 (ix4 i l g r) := by
  have h : (dtx x (ix2 l (ch g r e)) : EReal) = ∑ k : Fin 128, (k0_pay9 x.x1 x.x4 (ix2 l k) * x.x8 (ix2 k (ch g r e)) : EReal) := by
    pointwise [dtx, k0_pay12]
  rw [h, Finset.sum_eq_single (⟨g.val * 8 + r.val, by omega⟩ : Fin 128)]
  · rw [H.x8, if_pos (by show (g.val * 512 + r.val * 64 + e.val) / 64 = g.val * 8 + r.val; omega), mul_one, dt_kernel H]
  · intro k _ hk
    rw [H.x8, if_neg, mul_zero]
    intro h
    apply hk
    apply Fin.ext
    show k.val = g.val * 8 + r.val
    have : (g.val * 512 + r.val * 64 + e.val) / 64 = k.val := h
    omega
  · intro h; exact absurd (Finset.mem_univ _) h

theorem lower_at (H : Holds x i a0 a1 a2 a3 a5 hst) (l s : Fin 128) (g : Fin 4) (r : Fin 8) (h : ℕ) (hh : h < 32) (e : h = g.val * 8 + r.val) :
    (lower x h hh (ix2 l s) : EReal) = lowT a1 a2 a3 (ix5 i g r l s) := by
  subst e
  rw [lowT_at, ← cst_at H, ← cst_at H]
  have e : (lower x (g.val * 8 + r.val) hh (ix2 l s) : EReal) = Scalar.select (IntOp.cmpi .sge (BitVec.ofNat 32 l.val) (BitVec.ofNat 32 s.val))
      (Ideal.exp (cst x (ix2 (⟨g.val * 8 + r.val, by omega⟩ : Fin 128) l) - cst x (ix2 (⟨g.val * 8 + r.val, by omega⟩ : Fin 128) s))) (0 : EReal) := by
    pointwise [lower, colH, rowH, csAt, k0_pay28]
  rw [e, pick_ge _ _ (by omega) (by omega)]

theorem dyAt_at (H : Holds x i a0 a1 a2 a3 a5 hst) (l : Fin 128) (g : Fin 4) (r : Fin 8) (e : Fin 64) (p : ℕ) (hp : p < 16) (k : Fin 128)
    (hk : 128 * p + k.val = g.val * 512 + r.val * 64 + e.val) : (dyAt x p hp (ix2 l k) : EReal) = a5 (ix2 (pos i l) (ch g r e)) := by
  rw [← H.x2, show ch g r e = ⟨128 * p + k.val, by omega⟩ from Fin.ext hk.symm]
  pointwise [dyAt]

theorem xAt_at (H : Holds x i a0 a1 a2 a3 a5 hst) (l : Fin 128) (g : Fin 4) (r : Fin 8) (e : Fin 64) (p : ℕ) (hp : p < 16) (k : Fin 128)
    (hk : 128 * p + k.val = g.val * 512 + r.val * 64 + e.val) : (xAt x p hp (ix2 l k) : EReal) = a0 (ix2 (pos i l) ⟨g.val * 512 + r.val * 64 + e.val, by omega⟩) := by
  rw [← H.x0, show (⟨g.val * 512 + r.val * 64 + e.val, by omega⟩ : Fin 3072) = ⟨128 * p + k.val, by omega⟩ from Fin.ext hk.symm]
  pointwise [xAt]

theorem dtAt_at (H : Holds x i a0 a1 a2 a3 a5 hst) (l : Fin 128) (g : Fin 4) (r : Fin 8) (e : Fin 64) (p : ℕ) (hp : p < 16) (k : Fin 128)
    (hk : 128 * p + k.val = g.val * 512 + r.val * 64 + e.val) : (dtAt x p hp (ix2 l k) : EReal) = dtT a1 a2 (ix4 i l g r) := by
  rw [← dtx_at H l g r e, show ch g r e = ⟨128 * p + k.val, by omega⟩ from Fin.ext hk.symm]
  pointwise [dtAt]

theorem hsAt_at (H : Holds x i a0 a1 a2 a3 a5 hst) (n : Fin 128) (g : Fin 4) (r : Fin 8) (e : Fin 64) (p : ℕ) (hp : p < 16) (k : Fin 128)
    (hk : 128 * p + k.val = g.val * 512 + r.val * 64 + e.val) : (hsAt x p hp (ix2 k n) : EReal) = hst (ix5 i g r e n) := by
  have h : (hsAt x p hp (ix2 k n) : EReal) = x.x3 (ix4 0 (⟨p, hp⟩ : Fin 16) k n) := by pointwise [hsAt, hAt]
  rw [h, H.x3]
  congr 2
  · apply Fin.ext; show p / 4 = g.val; omega
  · apply Fin.ext; show p % 4 * 2 + k.val / 64 = r.val; omega
  · apply Fin.ext; show k.val % 64 = e.val; omega

/-! ## One pair's shares -/

/-- Head `r`'s share of the gradient of `C` through the carried state. -/
def viaHead (i : Fin 128) (a1 : FVec Ideal S16384x32 .f32) (a2 a3 : FVec Ideal S32 .f32) (a5 : FVec Ideal S16384x2048 .f32) (hst : FVec Ideal S128x4x8x64x128 .f32)
    (g : Fin 4) (l n : Fin 128) (r : Fin 8) : EReal :=
  ∑ e : Fin 64, (a5 (ix2 (pos i l) (ch g r e)) * Ideal.exp (acsT a1 a2 a3 (ix4 g r i l)) * hst (ix5 i g r e n) : EReal)

/-- Head `r`'s share of the gradient of `C Bᵀ`. -/
def pairHead (i : Fin 128) (a0 : FVec Ideal S16384x3072 .f32) (a1 : FVec Ideal S16384x32 .f32) (a2 a3 : FVec Ideal S32 .f32) (a5 : FVec Ideal S16384x2048 .f32)
    (g : Fin 4) (l s : Fin 128) (r : Fin 8) : EReal :=
  (∑ e : Fin 64, (a5 (ix2 (pos i l) (ch g r e)) * (a0 (ix2 (pos i s) ⟨g.val * 512 + r.val * 64 + e.val, by omega⟩) * dtT a1 a2 (ix4 i s g r)) : EReal))
    * lowT a1 a2 a3 (ix5 i g r l s)

theorem stepC_at (H : Holds x i a0 a1 a2 a3 a5 hst) (g : Fin 4) (j : Fin 4) (p : ℕ) (hp : p < 16) (ep : p = 4 * g.val + j.val) (acc : FVec Ideal S128x128 .f32) (l n : Fin 128) :
    (stepC x p hp acc (ix2 l n) : EReal) = acc (ix2 l n) + viaHead i a1 a2 a3 a5 hst g l n ⟨2 * j.val, by omega⟩ + viaHead i a1 a2 a3 a5 hst g l n ⟨2 * j.val + 1, by omega⟩ := by
  have e : (stepC x p hp acc (ix2 l n) : EReal) = acc (ix2 l n) + ∑ k : Fin 128, (dyAt x p hp (ix2 l k)
      * Scalar.select (IntOp.cmpi .slt (BitVec.ofNat 32 k.val) (BitVec.ofNat 32 64)) (Ideal.exp (cst x (ix2 (⟨2 * p, by omega⟩ : Fin 128) l)))
        (Ideal.exp (cst x (ix2 (⟨2 * p + 1, by omega⟩ : Fin 128) l))) * hsAt x p hp (ix2 k n) : EReal) := by
    pointwise [stepC, prod, k0_pay29, colH, rowH, csAt]
  rw [e, sum_halves, ← add_assoc]
  refine congrArg₂ (fun a b : EReal => a + b) (congrArg (fun b : EReal => acc (ix2 l n) + b) (Finset.sum_congr rfl fun k _ => ?_)) (Finset.sum_congr rfl fun k _ => ?_)
  · rw [pick_lt _ _ (by simp only; omega) (by omega), if_pos (by simp only; omega), dyAt_at H l g ⟨2 * j.val, by omega⟩ k _ _ _ (by simp only; omega),
      hsAt_at H n g ⟨2 * j.val, by omega⟩ k _ _ _ (by simp only; omega), ← cst_at H l g ⟨2 * j.val, by omega⟩]
    congr 5
    apply Fin.ext; simp only; omega
  · rw [pick_lt _ _ (by simp only; omega) (by omega), if_neg (by simp only; omega), dyAt_at H l g ⟨2 * j.val + 1, by omega⟩ k _ _ _ (by simp only; omega),
      hsAt_at H n g ⟨2 * j.val + 1, by omega⟩ k _ _ _ (by simp only; omega), ← cst_at H l g ⟨2 * j.val + 1, by omega⟩]
    congr 5
    apply Fin.ext; simp only; omega

theorem stepCB_at (H : Holds x i a0 a1 a2 a3 a5 hst) (g : Fin 4) (j : Fin 4) (p : ℕ) (hp : p < 16) (ep : p = 4 * g.val + j.val) (acc : FVec Ideal S128x128 .f32) (l s : Fin 128) :
    (stepCB x p hp acc (ix2 l s) : EReal) = acc (ix2 l s) + pairHead i a0 a1 a2 a3 a5 g l s ⟨2 * j.val, by omega⟩ + pairHead i a0 a1 a2 a3 a5 g l s ⟨2 * j.val + 1, by omega⟩ := by
  have e : (stepCB x p hp acc (ix2 l s) : EReal) = acc (ix2 l s)
      + (∑ k : Fin 128, (dyAt x p hp (ix2 l k) * Scalar.select (IntOp.cmpi .slt (BitVec.ofNat 32 k.val) (BitVec.ofNat 32 64)) (xAt x p hp (ix2 s k) * dtAt x p hp (ix2 s k)) 0 : EReal))
        * lower x (2 * p) (by omega) (ix2 l s)
      + (∑ k : Fin 128, (dyAt x p hp (ix2 l k) * Scalar.select (IntOp.cmpi .slt (BitVec.ofNat 32 k.val) (BitVec.ofNat 32 64)) 0 (xAt x p hp (ix2 s k) * dtAt x p hp (ix2 s k)) : EReal))
        * lower x (2 * p + 1) (by omega) (ix2 l s) := by
    pointwise [stepCB, inner, zeros, k0_pay29]
  rw [e, sum_halves, sum_halves, lower_at H l s g ⟨2 * j.val, by omega⟩ _ _ (by simp only; omega), lower_at H l s g ⟨2 * j.val + 1, by omega⟩ _ _ (by simp only; omega)]
  unfold pairHead
  refine congrArg₂ (fun a b : EReal => a + b) (congrArg (fun b : EReal => acc (ix2 l s) + b) (congrArg (fun b : EReal => b * _) ?_)) (congrArg (fun b : EReal => b * _) ?_)
  · refine (congrArg₂ (fun a b : EReal => a + b) (Finset.sum_congr rfl fun k _ => ?_) (Finset.sum_eq_zero fun k _ => ?_)).trans (add_zero _)
    · rw [pick_lt _ _ (by simp only; omega) (by omega), if_pos (by simp only; omega), dyAt_at H l g ⟨2 * j.val, by omega⟩ k _ _ _ (by simp only; omega),
        xAt_at H s g ⟨2 * j.val, by omega⟩ k _ _ _ (by simp only; omega), dtAt_at H s g ⟨2 * j.val, by omega⟩ k _ _ _ (by simp only; omega)]
    · rw [pick_lt _ _ (by simp only; omega) (by omega), if_neg (by simp only; omega), mul_zero]
  · refine (congrArg₂ (fun a b : EReal => a + b) (Finset.sum_eq_zero fun k _ => ?_) (Finset.sum_congr rfl fun k _ => ?_)).trans (zero_add _)
    · rw [pick_lt _ _ (by simp only; omega) (by omega), if_pos (by simp only; omega), mul_zero]
    · rw [pick_lt _ _ (by simp only; omega) (by omega), if_neg (by simp only; omega), dyAt_at H l g ⟨2 * j.val + 1, by omega⟩ k _ _ _ (by simp only; omega),
        xAt_at H s g ⟨2 * j.val + 1, by omega⟩ k _ _ _ (by simp only; omega), dtAt_at H s g ⟨2 * j.val + 1, by omega⟩ k _ _ _ (by simp only; omega)]

/-! ## The block -/

theorem viaState_at (l n : Fin 128) (g : Fin 4) : (viaState a1 a2 a3 a5 hst (ix4 i g l n) : EReal) = ∑ r : Fin 8, viaHead i a1 a2 a3 a5 hst g l n r := by
  unfold viaHead
  pointwise [viaState, spread, dyT]

theorem pairsT_at (l s : Fin 128) (g : Fin 4) : (pairsT a0 a1 a2 a3 a5 (ix4 i g l s) : EReal) = ∑ r : Fin 8, pairHead i a0 a1 a2 a3 a5 g l s r := by
  unfold pairHead
  pointwise [pairsT, dyT, xdtT, xsT, spread]
  rw [Fin.sum_univ_one]

/-- Group `g`'s block of the gradient of `C`, as the host computes it. -/
theorem dcOf_at (H : Holds x i a0 a1 a2 a3 a5 hst) (g : Fin 4) (l n : Fin 128) :
    (dcOf x g.val g.isLt (ix2 l n) : EReal) = gradT a0 a1 a2 a3 a5 hst (ix2 (⟨128 * i.val + l.val, by omega⟩ : Fin 16384) (⟨128 * g.val + n.val, by omega⟩ : Fin 512)) := by
  have e : (gradT a0 a1 a2 a3 a5 hst (ix2 (⟨128 * i.val + l.val, by omega⟩ : Fin 16384) (⟨128 * g.val + n.val, by omega⟩ : Fin 512)) : EReal)
      = viaState a1 a2 a3 a5 hst (ix4 i g l n) + ∑ s : Fin 128, (pairsT a0 a1 a2 a3 a5 (ix4 i g l s) * a0 (ix2 (pos i s) ⟨2048 + (g.val * 128 + n.val), by omega⟩) : EReal) := by
    pointwise [gradT, bT]
  have k : (dcOf x g.val g.isLt (ix2 l n) : EReal)
      = stepC x (4 * g.val + 3) (by omega) (stepC x (4 * g.val + 2) (by omega) (stepC x (4 * g.val + 1) (by omega) (stepC x (4 * g.val) (by omega) zeros))) (ix2 l n)
        + ∑ s : Fin 128, (stepCB x (4 * g.val + 3) (by omega) (stepCB x (4 * g.val + 2) (by omega) (stepCB x (4 * g.val + 1) (by omega) (stepCB x (4 * g.val) (by omega) zeros))) (ix2 l s)
          * x.x0 (ix2 s ⟨2048 + 128 * g.val + n.val, by omega⟩) : EReal) := by
    pointwise [dcOf, prod, bAt]
  have z : ∀ l n : Fin 128, (zeros (F := Ideal) (ix2 l n) : EReal) = 0 := fun l n => by pointwise [zeros]
  rw [e, k, viaState_at, Fin.sum_univ_eight, stepC_at H g 3 (4 * g.val + 3) _ rfl, stepC_at H g 2 (4 * g.val + 2) _ rfl, stepC_at H g 1 (4 * g.val + 1) _ rfl, stepC_at H g 0 (4 * g.val) _ rfl, z, zero_add]
  refine congrArg₂ (fun a b : EReal => a + b) ?_ (Finset.sum_congr rfl fun s _ => congrArg₂ (fun a b : EReal => a * b) ?_ ?_)
  · rfl
  · rw [pairsT_at, Fin.sum_univ_eight, stepCB_at H g 3 (4 * g.val + 3) _ rfl, stepCB_at H g 2 (4 * g.val + 2) _ rfl, stepCB_at H g 1 (4 * g.val + 1) _ rfl, stepCB_at H g 0 (4 * g.val) _ rfl, z, zero_add]
    rfl
  · rw [H.x0]
    apply congrArg (fun q => a0 (ix2 (pos i s) q)); apply Fin.ext; simp only; omega

end Cert.Proof.Ssd
end
-- ==== Proof.Loop.lean ====
/-
  The two programs' loops are one: the same contents enter them and one trip does the same, so the states that enter
  the chunks are the same arrays.
-/
module

public import proofs.«01_k».proof.Proof.Terms

@[expose] public section

set_option maxRecDepth 16384

noncomputable section

namespace Cert.Proof.Ssd

open Cert.KernelIdeal Cert.KernelIdeal.Gen
open Idealize.ShloMosaic Idealize.ShloMosaic.TcCoe Idealize.ShloMosaic.StableHlo
open Idealize.SL.Sem

variable {F : FTy → Type} [FloatOps F]

variable (m : (ℓ : Loc nD τ sig) → Buf (Elt F) ℓ) (c : Dev nD)

abbrev A0 : FVec F S16384x3072 .f32 := m ((c : Thread nD τ).loc main_arg0)
abbrev A1 : FVec F S16384x32 .f32 := m ((c : Thread nD τ).loc main_arg1)
abbrev A2 : FVec F S32 .f32 := m ((c : Thread nD τ).loc main_arg2)
abbrev A3 : FVec F S32 .f32 := m ((c : Thread nD τ).loc main_arg3)
abbrev A5 : FVec F S16384x2048 .f32 := m ((c : Thread nD τ).loc main_arg5)

set_option maxHeartbeats 2000000 in
theorem entry_states : W₀ m c (Proc.devRef .tc main_v62_0) = Ref.statesT (A0 m c) (A1 m c) (A2 m c) (A3 m c) := by
  simp only [entryContents, afterL_cons, afterL_nil]
  after_reads_simp
  try simp -implicitDefEqProofs only [StableHlo.TRef.toBuf, StableHlo.TRef.ofBuf, cast_cast, cast_eq]
  rfl
set_option maxHeartbeats 2000000 in
theorem entry_decays : W₀ m c (Proc.devRef .tc main_v62_1) = Ref.decaysT (A1 m c) (A2 m c) (A3 m c) := by
  simp only [entryContents, afterL_cons, afterL_nil]
  after_reads_simp
  try simp -implicitDefEqProofs only [StableHlo.TRef.toBuf, StableHlo.TRef.ofBuf, cast_cast, cast_eq]
  rfl
set_option maxHeartbeats 2000000 in
theorem entry_carry : W₀ m c (Proc.devRef .tc main_v62_3) = broadcastInDim S4x8x64x128 ![] bcast_S_S4x8x64x128 (constant S_ .f32 0x00000000#32) := by
  simp only [entryContents, afterL_cons, afterL_nil]
  after_reads_simp
  try simp -implicitDefEqProofs only [StableHlo.TRef.toBuf, StableHlo.TRef.ofBuf, cast_cast, cast_eq]
  rfl
set_option maxHeartbeats 2000000 in
theorem entry_out : W₀ m c (Proc.devRef .tc main_v62_4) = broadcastInDim S128x4x8x64x128 ![] bcast_S_S128x4x8x64x128 (constant S_ .f32 0x00000000#32) := by
  simp only [entryContents, afterL_cons, afterL_nil]
  after_reads_simp
  try simp -implicitDefEqProofs only [StableHlo.TRef.toBuf, StableHlo.TRef.ofBuf, cast_cast, cast_eq]
  rfl

set_option maxHeartbeats 2000000 in
theorem trip0 (V : Valuation τ sig (Elt F)) : afterL bodyI V (Proc.devRef .tc main_v62_0) = V (Proc.devRef .tc main_v62_0) := by
  simp only [afterL_cons, afterL_nil]
  after_reads_simp
set_option maxHeartbeats 2000000 in
theorem trip1 (V : Valuation τ sig (Elt F)) : afterL bodyI V (Proc.devRef .tc main_v62_1) = V (Proc.devRef .tc main_v62_1) := by
  simp only [afterL_cons, afterL_nil]
  after_reads_simp
set_option maxHeartbeats 2000000 in
theorem trip2 (V : Valuation τ sig (Elt F)) : afterL bodyI V (Proc.devRef .tc main_v62_2) = id (addi (V (Proc.devRef .tc main_v62_2)) (constantI S_ 32 1#32)) := by
  simp only [afterL_cons, afterL_nil]
  after_reads_simp
  try rfl
/-- One trip's carried state: the chunk's decay times it, plus the chunk's own state. -/
def step3 (s0 : FVec F S128x4x8x64x128 .f32) (s1 : FVec F S128x4x8 .f32) (s2 : IVec S_ 32) (s3 : FVec F S4x8x64x128 .f32) : FVec F S4x8x64x128 .f32 :=
  addf (mulf (broadcastInDim S4x8x64x128 ![0, 1, 2, 3] bcast_S4x8x1x1_S4x8x64x128_0_1_2_3 (broadcastInDim S4x8x1x1 ![0, 1] bcast_S4x8_S4x8x1x1_0_1
      (shapeCast S4x8 (Host.dynamicSlice S1x4x8 s1 (fun k => ((![s2, constantI S_ 32 0#32, constantI S_ 32 0#32] : Fin 3 → IVec S_ 32) k (Shape.Idx.first h_S_)).toInt) sliceFits_S128x4x8_S1x4x8)
        shapeCasts_S1x4x8_S4x8))) s3)
    (shapeCast S4x8x64x128 (Host.dynamicSlice S1x4x8x64x128 s0 (fun k => ((![s2, constantI S_ 32 0#32, constantI S_ 32 0#32, constantI S_ 32 0#32, constantI S_ 32 0#32] : Fin 5 → IVec S_ 32) k (Shape.Idx.first h_S_)).toInt)
      sliceFits_S128x4x8x64x128_S1x4x8x64x128) shapeCasts_S1x4x8x64x128_S4x8x64x128)

/-- One trip's record: the carried state stored at the chunk. -/
def step4 (s2 : IVec S_ 32) (s3 : FVec F S4x8x64x128 .f32) (s4 : FVec F S128x4x8x64x128 .f32) : FVec F S128x4x8x64x128 .f32 :=
  Host.dynamicUpdateSlice s4 (broadcastInDim S1x4x8x64x128 ![1, 2, 3, 4] bcast_S4x8x64x128_S1x4x8x64x128_1_2_3_4 s3)
    (fun k => ((![s2, constantI S_ 32 0#32, constantI S_ 32 0#32, constantI S_ 32 0#32, constantI S_ 32 0#32] : Fin 5 → IVec S_ 32) k (Shape.Idx.first h_S_)).toInt) updateFits_S128x4x8x64x128_S1x4x8x64x128

set_option maxHeartbeats 2000000 in
theorem body_v69 (V : Valuation τ sig (Elt F)) : after while0Ops0 V (Proc.devRef .tc main_while0b_v69) = shapeCast S4x8x64x128 (Host.dynamicSlice S1x4x8x64x128 (V (Proc.devRef .tc main_v62_0) : FVec F S128x4x8x64x128 .f32)
    (fun k => ((![V (Proc.devRef .tc main_v62_2), constantI S_ 32 0#32, constantI S_ 32 0#32, constantI S_ 32 0#32, constantI S_ 32 0#32] : Fin 5 → IVec S_ 32) k (Shape.Idx.first h_S_)).toInt)
      sliceFits_S128x4x8x64x128_S1x4x8x64x128) shapeCasts_S1x4x8x64x128_S4x8x64x128 := by
  simp only [while0Ops0]
  after_results_entrywise [cast_eq]
set_option maxHeartbeats 2000000 in
theorem body_v70 (V : Valuation τ sig (Elt F)) : after while0Ops0_1 V (Proc.devRef .tc main_while0b_v70) = shapeCast S4x8 (Host.dynamicSlice S1x4x8 (V (Proc.devRef .tc main_v62_1) : FVec F S128x4x8 .f32)
    (fun k => ((![V (Proc.devRef .tc main_v62_2), constantI S_ 32 0#32, constantI S_ 32 0#32] : Fin 3 → IVec S_ 32) k (Shape.Idx.first h_S_)).toInt) sliceFits_S128x4x8_S1x4x8)
        shapeCasts_S1x4x8_S4x8 := by
  simp only [while0Ops0_1]
  after_results_entrywise [cast_eq]
set_option maxHeartbeats 2000000 in
theorem body_v75 (V : Valuation τ sig (Elt F)) : after while0Ops0_3 V (Proc.devRef .tc main_while0b_v75) = step4 (V (Proc.devRef .tc main_v62_2)) (V (Proc.devRef .tc main_v62_3)) (V (Proc.devRef .tc main_v62_4)) := by
  simp only [while0Ops0_3]
  after_results_entrywise [cast_eq]
set_option maxHeartbeats 2000000 in
theorem body_v74 (V : Valuation τ sig (Elt F)) : after while0Ops0_2 V (Proc.devRef .tc main_while0b_v74)
    = addf (mulf (broadcastInDim S4x8x64x128 ![0, 1, 2, 3] bcast_S4x8x1x1_S4x8x64x128_0_1_2_3 (broadcastInDim S4x8x1x1 ![0, 1] bcast_S4x8_S4x8x1x1_0_1
      (V (Proc.devRef .tc main_while0b_v70) : FVec F S4x8 .f32))) (V (Proc.devRef .tc main_v62_3))) (V (Proc.devRef .tc main_while0b_v69)) := by
  after_results_entrywise [cast_eq]
set_option maxHeartbeats 2000000 in
theorem last3 (V : Valuation τ sig (Elt F)) : after while0Ops0_4 V (Proc.devRef .tc main_v62_3) = V (Proc.devRef .tc main_while0b_v74) := by
  after_results
  rfl
set_option maxHeartbeats 2000000 in
theorem last4 (V : Valuation τ sig (Elt F)) : after while0Ops0_4 V (Proc.devRef .tc main_v62_4) = V (Proc.devRef .tc main_while0b_v75) := by
  after_results
  rfl

/-- A trip's new carried state. -/
theorem trip3 (V : Valuation τ sig (Elt F)) : afterL bodyI V (Proc.devRef .tc main_v62_3)
    = step3 (V (Proc.devRef .tc main_v62_0)) (V (Proc.devRef .tc main_v62_1)) (V (Proc.devRef .tc main_v62_2)) (V (Proc.devRef .tc main_v62_3)) := by
  simp only [afterL_cons, afterL_nil]
  rw [last3, after_of_writes_sub while0Ops0_3 _ while0Ops0_3_writes (show main_while0b_v74 ∉ while0Ops0_3_W by decide +kernel), body_v74, body_v70,
    after_of_writes_sub while0Ops0_1 _ while0Ops0_1_writes (show main_v62_3 ∉ while0Ops0_1_W by decide +kernel),
    after_of_writes_sub while0Ops0_1 _ while0Ops0_1_writes (show main_while0b_v69 ∉ while0Ops0_1_W by decide +kernel), body_v69,
    after_of_writes_sub while0Ops0 _ while0Ops0_writes (show main_v62_3 ∉ while0Ops0_W by decide +kernel),
    after_of_writes_sub while0Ops0 _ while0Ops0_writes (show main_v62_1 ∉ while0Ops0_W by decide +kernel),
    after_of_writes_sub while0Ops0 _ while0Ops0_writes (show main_v62_2 ∉ while0Ops0_W by decide +kernel)]
  rfl

/-- A trip leaves these buffers to its store of the entering state. -/
theorem body_keep (V : Valuation τ sig (Elt F)) (b : Ref sig .tc) (h : b ∉ while0Ops0_W ∧ b ∉ while0Ops0_1_W ∧ b ∉ while0Ops0_2_W) :
    after while0Ops0_2 (after while0Ops0_1 (after while0Ops0 V)) (Proc.devRef .tc b) = V (Proc.devRef .tc b) := by
  rw [after_of_writes_sub while0Ops0_2 _ while0Ops0_2_writes h.2.2, after_of_writes_sub while0Ops0_1 _ while0Ops0_1_writes h.2.1,
    after_of_writes_sub while0Ops0 _ while0Ops0_writes h.1]

/-- A trip's new record. -/
theorem trip4 (V : Valuation τ sig (Elt F)) : afterL bodyI V (Proc.devRef .tc main_v62_4)
    = step4 (V (Proc.devRef .tc main_v62_2)) (V (Proc.devRef .tc main_v62_3)) (V (Proc.devRef .tc main_v62_4)) := by
  simp only [afterL_cons, afterL_nil]
  rw [last4, body_v75, body_keep V main_v62_2 (by decide +kernel), body_keep V main_v62_3 (by decide +kernel), body_keep V main_v62_4 (by decide +kernel)]

/-- The reference's trips are the same steps. -/
theorem ref_trip3 (V : Valuation Cert.ReferenceIdeal.τ Cert.ReferenceIdeal.sig (Elt F)) :
    afterL Cert.ReferenceIdeal.Value.bodyI V (Proc.devRef .tc Cert.ReferenceIdeal.main_v54_3)
    = step3 (V (Proc.devRef .tc Cert.ReferenceIdeal.main_v54_0)) (V (Proc.devRef .tc Cert.ReferenceIdeal.main_v54_1)) (V (Proc.devRef .tc Cert.ReferenceIdeal.main_v54_2)) (V (Proc.devRef .tc Cert.ReferenceIdeal.main_v54_3)) :=
  (Cert.ReferenceIdeal.Value.trip_main_v54_3 V).trans rfl
theorem ref_trip4 (V : Valuation Cert.ReferenceIdeal.τ Cert.ReferenceIdeal.sig (Elt F)) :
    afterL Cert.ReferenceIdeal.Value.bodyI V (Proc.devRef .tc Cert.ReferenceIdeal.main_v54_4)
    = step4 (V (Proc.devRef .tc Cert.ReferenceIdeal.main_v54_2)) (V (Proc.devRef .tc Cert.ReferenceIdeal.main_v54_3)) (V (Proc.devRef .tc Cert.ReferenceIdeal.main_v54_4)) :=
  (Cert.ReferenceIdeal.Value.trip_main_v54_4 V).trans rfl

/-- The two programs' carried buffers hold the same arrays. -/
structure Same (V : Valuation τ sig (Elt F)) (V' : Valuation Cert.ReferenceIdeal.τ Cert.ReferenceIdeal.sig (Elt F)) : Prop where
  c0 : (V (Proc.devRef .tc main_v62_0) : FVec F S128x4x8x64x128 .f32) = V' (Proc.devRef .tc Cert.ReferenceIdeal.main_v54_0)
  c1 : (V (Proc.devRef .tc main_v62_1) : FVec F S128x4x8 .f32) = V' (Proc.devRef .tc Cert.ReferenceIdeal.main_v54_1)
  c2 : (V (Proc.devRef .tc main_v62_2) : IVec S_ 32) = V' (Proc.devRef .tc Cert.ReferenceIdeal.main_v54_2)
  c3 : (V (Proc.devRef .tc main_v62_3) : FVec F S4x8x64x128 .f32) = V' (Proc.devRef .tc Cert.ReferenceIdeal.main_v54_3)
  c4 : (V (Proc.devRef .tc main_v62_4) : FVec F S128x4x8x64x128 .f32) = V' (Proc.devRef .tc Cert.ReferenceIdeal.main_v54_4)

theorem Same.body {V : Valuation τ sig (Elt F)} {V' : Valuation Cert.ReferenceIdeal.τ Cert.ReferenceIdeal.sig (Elt F)} (h : Same V V') :
    Same (afterL bodyI V) (afterL Cert.ReferenceIdeal.Value.bodyI V') where
  c0 := (trip0 V).trans (h.c0.trans (Cert.ReferenceIdeal.Value.trip_main_v54_0 V').symm)
  c1 := (trip1 V).trans (h.c1.trans (Cert.ReferenceIdeal.Value.trip_main_v54_1 V').symm)
  c2 := (trip2 V).trans ((congrArg (fun z : IVec S_ 32 => id (addi z (constantI S_ 32 1#32))) h.c2).trans (Cert.ReferenceIdeal.Value.trip_main_v54_2 V').symm)
  c3 := (trip3 V).trans (((congr (congr (congr (congrArg step3 h.c0) h.c1) h.c2) h.c3)).trans (ref_trip3 V').symm)
  c4 := (trip4 V).trans (((congr (congr (congrArg step4 h.c2) h.c3) h.c4)).trans (ref_trip4 V').symm)

theorem cond_keep (V : Valuation τ sig (Elt F)) (b : Ref sig .tc) (h : b ∉ condOps_W) : after condOps V (Proc.devRef .tc b) = V (Proc.devRef .tc b) :=
  after_of_writes_sub condOps _ condOps_writes h

theorem Same.cond {V : Valuation τ sig (Elt F)} {V' : Valuation Cert.ReferenceIdeal.τ Cert.ReferenceIdeal.sig (Elt F)} (h : Same V V') :
    Same (after condOps V) (after Cert.ReferenceIdeal.Value.condOps V') where
  c0 := (cond_keep V _ (by decide +kernel)).trans (h.c0.trans (Cert.ReferenceIdeal.Value.cond_keeps V' _ (by decide)).symm)
  c1 := (cond_keep V _ (by decide +kernel)).trans (h.c1.trans (Cert.ReferenceIdeal.Value.cond_keeps V' _ (by decide)).symm)
  c2 := (cond_keep V _ (by decide +kernel)).trans (h.c2.trans (Cert.ReferenceIdeal.Value.cond_keeps V' _ (by decide)).symm)
  c3 := (cond_keep V _ (by decide +kernel)).trans (h.c3.trans (Cert.ReferenceIdeal.Value.cond_keeps V' _ (by decide)).symm)
  c4 := (cond_keep V _ (by decide +kernel)).trans (h.c4.trans (Cert.ReferenceIdeal.Value.cond_keeps V' _ (by decide)).symm)

variable (m' : (ℓ : Loc Cert.ReferenceIdeal.nD Cert.ReferenceIdeal.τ Cert.ReferenceIdeal.sig) → Buf (Elt F) ℓ)

set_option maxHeartbeats 2000000 in
theorem ref_counter : entryContents Cert.ReferenceIdeal.Value.preI m' c (Proc.devRef .tc Cert.ReferenceIdeal.main_v54_2) = fun _ => (0#32 : BitVec 32) := by
  simp only [entryContents, afterL_cons, afterL_nil]
  after_reads_simp
  rfl

/-- The arguments agree. -/
structure Args : Prop where
  e0 : A0 m c = Ref.A0 m' c
  e1 : A1 m c = Ref.A1 m' c
  e2 : A2 m c = Ref.A2 m' c
  e3 : A3 m c = Ref.A3 m' c
  e5 : A5 m c = Ref.A5 m' c

/-- Where the arguments agree, so do the carried buffers before every test of the loops' condition, -/
theorem same_at (h : Args m c m') : ∀ k, Same (atK m k c) (Cert.ReferenceIdeal.Value.atK m' k c)
  | 0 => by
    refine ⟨(entry_states m c).trans ?_, (entry_decays m c).trans ?_, (ctr_entry m c).trans (ref_counter c m').symm, (entry_carry m c).trans (Ref.entry_carry m' c).symm,
      (entry_out m c).trans (Ref.entry_out m' c).symm⟩
    · rw [h.e0, h.e1, h.e2, h.e3]; exact (Ref.entry_states m' c).symm
    · rw [h.e1, h.e2, h.e3]; exact (Ref.entry_decays m' c).symm
  | k + 1 => (same_at h k).cond.body

/-- and after the loops. -/
theorem same_after (h : Args m c m') : (afterLoop m c (Proc.devRef .tc main_v62_4) : FVec F S128x4x8x64x128 .f32) = Ref.afterLoop m' c (Proc.devRef .tc Cert.ReferenceIdeal.main_v54_4) :=
  (same_at m c m' h 128).cond.c4

end Cert.Proof.Ssd
end
-- ==== Proof.Prefix.lean ====
/-
  What the kernel's host lines hand it, at coordinates: the step sizes' table, the biases and the scales of the heads
  (written at the front of wider arrays), the table that spreads a head over its channels, and the states.
-/
module

public import proofs.«01_k».proof.Proof.Loop
public import Idealize.ShloMosaic.Lib.Pointwise
public import Idealize.ShloMosaic.Lib.Routing.Ops
public import Idealize.ShloMosaic.Lib.Routing.OpsPair
public import Idealize.ShloMosaic.Lib.Routing.OpsSet
public import Idealize.ShloMosaic.Lib.Routing.OpsOne
public import Idealize.ShloMosaic.Lib.Routing.OpsSearch
public import Idealize.ShloMosaic.Lib.Routing.Words

@[expose] public section

set_option maxRecDepth 16384

noncomputable section

namespace Cert.Proof.Ssd

open Cert.KernelIdeal Cert.KernelIdeal.Gen
open Idealize.ShloMosaic Idealize.ShloMosaic.TcCoe Idealize.ShloMosaic.StableHlo Idealize.ShloMosaic.Tactic
open Idealize.SL.Sem

variable {F : FTy → Type} [FloatOps F]
variable (m : (ℓ : Loc nD τ sig) → Buf (Elt F) ℓ) (c : Dev nD)

/-- `u` written over the first columns of zeros. -/
def padRows (u : FVec F S16384x32 .f32) : FVec F S16384x128 .f32 :=
  Host.scatter scatter_S16384x128_S1_S16384x32_01_n_1_0 (fun _ b => b) (broadcastInDim S16384x128 ![] bcast_S_S16384x128 (constant S_ .f32 0x00000000#32))
    (broadcastInDim S1 ![] bcast_S_S1 (constantI S_ 32 0#32)) u
/-- `u` written over the first entries of a row of zeros. -/
def padRow (u : FVec F S32 .f32) : FVec F S1x128 .f32 :=
  Host.scatter scatter_S1x128_S2_S32_0_0_01_0 (fun _ b => b) (broadcastInDim S1x128 ![] bcast_S_S1x128 (constant S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0) u

/-- A buffer that only the lines before the loop write is at the call as those lines leave it. -/
theorem called_keep (b : Ref sig .tc) (h : b ∉ condOps_W ∧ b ∉ while0Ops0_W ∧ b ∉ while0Ops0_1_W ∧ b ∉ while0Ops0_2_W ∧ b ∉ while0Ops0_3_W ∧ b ∉ while0Ops0_4_W ∧ b ∉ hostOps0_7_W) :
    called m c (Proc.devRef .tc b) = W₀ m c (Proc.devRef .tc b) := by
  obtain ⟨hc, h0, h1, h2, h3, h4, hm⟩ := h
  rw [show called m c = afterL midI (after condOps (atK m 128 c)) from rfl, keep_midI _ b hm, after_of_writes_sub condOps _ condOps_writes hc, keep_loop m c b hc h0 h1 h2 h3 h4 128]

set_option maxHeartbeats 2000000 in
theorem mid_v66 (V : Valuation τ sig (Elt F)) : afterL midI V (Proc.devRef .tc main_v66) = padRows (V (Proc.devRef .tc main_arg1)) := by
  simp only [afterL_cons, afterL_nil]
  after_reads_simp
  rfl
set_option maxHeartbeats 2000000 in
theorem mid_v63 (V : Valuation τ sig (Elt F)) : afterL midI V (Proc.devRef .tc main_v63)
    = shapeCast S128x16x128x128 (V (Proc.devRef .tc main_v62_4) : FVec F S128x4x8x64x128 .f32) shapeCasts_S128x4x8x64x128_S128x16x128x128 := by
  simp only [afterL_cons, afterL_nil]
  after_reads_simp
  rfl
set_option maxHeartbeats 2000000 in
theorem pre_v20 : W₀ m c (Proc.devRef .tc main_v20) = padRow (A2 m c) := by
  simp only [entryContents, afterL_cons, afterL_nil]
  after_reads_simp
  rfl
set_option maxHeartbeats 2000000 in
theorem pre_v15 : W₀ m c (Proc.devRef .tc main_v15) = padRow (Host.negf (Host.exp (A3 m c))) := by
  simp only [entryContents, afterL_cons, afterL_nil]
  after_reads_simp
  rfl

/-- A channel's head, by floor division. -/
def headOf : IVec S2048x1 32 :=
  let x : IVec S2048x1 32 := broadcastInDim S2048x1 ![0] bcast_S2048_S2048x1_0 (iotaInDim S2048 32 0)
  let d : IVec S_ 32 := constantI S_ 32 64#32
  select (andi (cmpi .ne (signi x) (broadcastInDim S2048x1 ![] bcast_S_S2048x1 (signi d)))
      (cmpi .ne (Host.remsi x (broadcastInDim S2048x1 ![] bcast_S_S2048x1 d)) (broadcastInDim S2048x1 ![] bcast_S_S2048x1 (constantI S_ 32 0#32))))
    (subi (Host.divsi x (broadcastInDim S2048x1 ![] bcast_S_S2048x1 d)) (broadcastInDim S2048x1 ![] bcast_S_S2048x1 (constantI S_ 32 1#32)))
    (Host.divsi x (broadcastInDim S2048x1 ![] bcast_S_S2048x1 d))

/-- The table of heads and channels: one where the channel is the head's. -/
def spreadTable : FVec F S128x2048 .bf16 :=
  truncf .bf16 (transpose S128x2048 [1, 0] (uitofp .f32 (cmpi .eq (broadcastInDim S2048x128 ![0, 1] bcast_S2048x1_S2048x128_0_1 headOf)
    (broadcastInDim S2048x128 ![0, 1] bcast_S1x128_S2048x128_0_1 (broadcastInDim S1x128 ![1] bcast_S128_S1x128_1 (iotaInDim S128 32 0))))) transposes_S2048x128_S128x2048_1_0) bitsLt_bf16_f32

set_option maxHeartbeats 2000000 in
theorem pre_v25 : W₀ m c (Proc.devRef .tc main_v25) = spreadTable (F := F) := by
  simp only [entryContents, afterL_cons, afterL_nil]
  after_reads_simp
  try simp -implicitDefEqProofs only [StableHlo.TRef.toBuf, StableHlo.TRef.ofBuf, cast_cast, cast_eq]
  rfl

end Cert.Proof.Ssd
end
-- ==== Proof.Reads.lean ====
/-
  The kernel's arguments made on the host, read at coordinates over the extended reals.
-/
module

public import proofs.«01_k».proof.Proof.Prefix
public import Idealize.ShloMosaic.Lib.Pointwise
public import Idealize.ShloMosaic.Lib.Routing.Ops
public import Idealize.ShloMosaic.Lib.Routing.OpsPair
public import Idealize.ShloMosaic.Lib.Routing.OpsSet
public import Idealize.ShloMosaic.Lib.Routing.OpsOne
public import Idealize.ShloMosaic.Lib.Routing.OpsSearch
public import Idealize.ShloMosaic.Lib.Routing.Words

@[expose] public section

set_option maxRecDepth 16384

noncomputable section

namespace Cert.Proof.Ssd

open Cert.KernelIdeal Cert.KernelIdeal.Gen
open Idealize.ShloMosaic Idealize.ShloMosaic.TcCoe Idealize.ShloMosaic.StableHlo Idealize.ShloMosaic.Tactic
open Idealize.SL.Sem

open Idealize.ShloMosaic.Routing

/-- A channel's head is its number over 64. -/
theorem headOf_at (q : Fin 2048) : headOf (ix2 q 0) = BitVec.ofNat 32 (q.val / 64) := by
  have e : headOf (ix2 q 0) = pyDiv0 (fun _ => BitVec.ofNat 32 q.val) (fun _ => BitVec.ofNat 32 64) ix0 := rfl
  rw [e]
  exact pyDiv0_ap _ _ rfl rfl (by omega) (by omega) (by omega)

theorem spreadTable_at (k : Fin 128) (q : Fin 2048) : (spreadTable (F := Ideal)) (ix2 k q) = if q.val / 64 = k.val then (1 : EReal) else 0 := by
  pointwise [spreadTable]
  rw [headOf_at]
  have hu : ∀ b : BitVec 1, (FloatOps.uitofp (F := Ideal) .f32 b : EReal) = ((b.toNat : ℝ) : EReal) := fun _ => rfl
  show (FloatOps.uitofp (F := Ideal) .f32 _ : EReal) = _
  rw [hu]
  by_cases e : q.val / 64 = k.val
  · rw [if_pos e, e, show IntOp.cmpi .eq (BitVec.ofNat 32 k.val) (BitVec.ofNat 32 k.val) = 1#1 by simp [IntOp.cmpi]]
    simp
  · have hne : BitVec.ofNat 32 (q.val / 64) ≠ BitVec.ofNat 32 k.val := fun h => e (by
      have := congrArg BitVec.toNat h
      rw [BitVec.toNat_ofNat, BitVec.toNat_ofNat, Nat.mod_eq_of_lt (by omega), Nat.mod_eq_of_lt (by omega)] at this
      exact this)
    rw [if_neg e, show IntOp.cmpi .eq (BitVec.ofNat 32 (q.val / 64)) (BitVec.ofNat 32 k.val) = 0#1 by
      show BitVec.ofBool (_ == _) = 0#1
      rw [beq_eq_false_iff_ne.2 hne]
      rfl]
    simp

theorem v63_at (x : FVec Ideal S128x4x8x64x128 .f32) (i : Fin 128) (p : Fin 16) (a b : Fin 128) :
    shapeCast S128x16x128x128 x shapeCasts_S128x4x8x64x128_S128x16x128x128 (ix4 i p a b)
      = x (ix5 i (⟨p.val / 4, by omega⟩ : Fin 4) (⟨p.val % 4 * 2 + a.val / 64, by omega⟩ : Fin 8) (⟨a.val % 64, by omega⟩ : Fin 64) b) := by
  pointwise

/-- A rectangle of `A` rows and `U` columns written at a column: update `(a, k)` lands at row `a` and `k` columns further. -/
theorem lands_block {A N U : ℕ} (d : ScatterDims (shape2 A N) (shape1 1) (shape2 A U)) (huw : d.updateWindowDims = [0, 1]) (hiw : d.insertedWindowDims = [])
    (hsd : d.scatterDimsToOperandDims = [1]) (idx : IVec (shape1 1) 32) (hidx : idx (ix1 0) = 0#32) (a' : Fin A) (k : Fin U) (a : Fin A) (e : Fin N) :
    d.resultIdx? (ix2 a' k) idx = some (ix2 a e) ↔ a' = a ∧ k.val = e.val := by
  have hkept : d.sKept = [0, 1] := by
    show (shape2 A N).kept d.insertedWindowDims = _
    rw [hiw]
    rfl
  have hw : ∀ q : Fin 2, d.window (ix2 a' k) q = ((ix2 a' k : (shape2 A U).Idx) q).val := fun q => by
    unfold ScatterDims.window
    rw [dif_pos (by rw [hkept]; fin_cases q <;> simp)]
    have key : ∀ (l : List (Fin 2)) (n : ℕ) (h : n < l.length), l = [0, 1] → n = q.val → l[n]'h = q := by
      intro l n h hl hn
      subst hl
      subst hn
      fin_cases q <;> rfl
    have : d.updateWindowDims[d.sKept.idxOf q]'(by rw [huw, hkept]; exact List.idxOf_lt_length_iff.2 (by fin_cases q <;> simp)) = q :=
      key _ _ _ huw (by rw [hkept]; fin_cases q <;> rfl)
    exact congrArg (fun t => ((ix2 a' k : (shape2 A U).Idx) t).val) this
  have hstart0 : d.start (ix2 a' k) idx 0 = 0 := by
    unfold ScatterDims.start
    rw [dif_neg fun h => by rw [hsd] at h; exact absurd (List.mem_singleton.1 h) (by decide : (0 : Fin 2) ≠ 1)]
  have hm : (1 : Fin 2) ∈ d.scatterDimsToOperandDims := by rw [hsd]; exact List.mem_singleton.2 rfl
  have hstart1 : d.start (ix2 a' k) idx 1 = 0 := by
    unfold ScatterDims.start
    rw [dif_pos hm]
    have hsi : d.siIdx (ix2 a' k) ⟨d.scatterDimsToOperandDims.idxOf 1, List.idxOf_lt_length_iff.2 hm⟩ = ix1 (0 : Fin 1) := by
      funext b'
      match b' with
      | ⟨0, _⟩ => exact Subsingleton.elim (α := Fin 1) _ _
    rw [hsi, hidx]
    rfl
  have r := resultIdx?_ix2 d (ix2 a' k) idx a e
  rw [hstart0, hstart1, hw 0, hw 1] at r
  refine r.trans ?_
  rw [Fin.ext_iff]
  show (0 : ℤ) + (a'.val : ℤ) = a.val ∧ (0 : ℤ) + (k.val : ℤ) = e.val ↔ _
  omega

/-- A stretch of `U` entries written into a one-row matrix at a column: update `k` lands `k` columns further. -/
theorem lands_stretch {N U : ℕ} (d : ScatterDims (shape2 1 N) (shape1 2) (shape1 U)) (huw : d.updateWindowDims = [0]) (hiw : d.insertedWindowDims = [0])
    (hsd : d.scatterDimsToOperandDims = [0, 1]) (hivd : d.indexVectorDim = 0) (idx : IVec (shape1 2) 32) (h0 : idx (ix1 0) = 0#32) (h1 : idx (ix1 1) = 0#32)
    (k : Fin U) (e : Fin N) : d.resultIdx? (ix1 k) idx = some (ix2 0 e) ↔ k.val = e.val := by
  have hkept : d.sKept = [1] := by
    show (shape2 1 N).kept d.insertedWindowDims = _
    rw [hiw]
    rfl
  have hwin1 : d.window (ix1 k) 1 = k.val := by
    unfold ScatterDims.window
    rw [dif_pos (by rw [hkept]; simp)]
    exact congrArg (fun t => ((ix1 k : (shape1 U).Idx) t).val) (Subsingleton.elim (α := Fin 1) _ 0)
  have hwin0 : d.window (ix1 k) 0 = 0 := by
    unfold ScatterDims.window
    rw [dif_neg fun h => (of_decide_eq_true (List.mem_filter.1 h).2) (by rw [hiw]; simp)]
  have r := resultIdx?_ix2 d (ix1 k) idx 0 e
  rw [start_pair d hsd hivd, start_pair d hsd hivd, hwin0, hwin1, show idx (ValueIdx.ix1 0) = 0#32 from h0, show idx (ValueIdx.ix1 1) = 0#32 from h1] at r
  refine r.trans ?_
  show (0 : ℤ) + ((0 : ℕ) : ℤ) = ((0 : ℕ) : ℤ) ∧ (0 : ℤ) + (k.val : ℤ) = e.val ↔ _
  omega

theorem padRows_at (u : FVec Ideal S16384x32 .f32) (r : Fin 16384) (h : Fin 32) : padRows u (ix2 r (⟨h.val, by omega⟩ : Fin 128)) = u (ix2 r h) := by
  have L := lands_block (A := 16384) (N := 128) (U := 32) scatter_S16384x128_S1_S16384x32_01_n_1_0 rfl rfl rfl (broadcastInDim S1 ![] bcast_S_S1 (constantI S_ 32 0#32)) rfl
  refine scatter_set_hit _ _ _ _ _ _ (fun k hk => ?_) (ix2 r h) ((L _ _ _ _).2 ⟨rfl, rfl⟩)
  rw [eq_ix2 k] at hk ⊢
  obtain ⟨e0, e1⟩ := (L _ _ _ _).1 hk
  rw [e0]
  exact congrArg (fun z => u (ix2 r z)) (Fin.ext e1)

theorem padRow_at (u : FVec Ideal S32 .f32) (h : Fin 32) : padRow u (ix2 0 (⟨h.val, by omega⟩ : Fin 128)) = u (ix1 h) := by
  have L := lands_stretch (N := 128) (U := 32) scatter_S1x128_S2_S32_0_0_01_0 rfl rfl rfl rfl
    (concatenate S2 0 [⟨S1, broadcastInDim S1 ![] bcast_S_S1 (constantI S_ 32 0#32)⟩, ⟨S1, broadcastInDim S1 ![] bcast_S_S1 (constantI S_ 32 0#32)⟩] concatenates_S1_S1_S2_d0)
    (by rfl) (by rfl)
  refine scatter_set_hit _ _ _ _ _ _ (fun k hk => ?_) (ix1 h) ((L _ _).2 rfl)
  rw [eq_ix1 k] at hk ⊢
  exact congrArg (fun z => u (ix1 z)) (Fin.ext ((L _ _).1 hk))

end Cert.Proof.Ssd
end
-- ==== Proof.Blocks.lean ====
/-
  The blocks of the call: point `t` works on chunk `127 - t`. The gradient of `C` in the array the call leaves, and the
  arguments' blocks, at coordinates of the arrays.
-/
module

public import proofs.«01_k».proof.Proof.Stage
public import proofs.«01_k».proof.Proof.Run
public import Idealize.ShloMosaic.Lib.Pipeline.ValueKit

@[expose] public section

set_option maxRecDepth 16384

noncomputable section

namespace Cert.Proof.Ssd

open Cert.KernelIdeal Cert.KernelIdeal.Gen
open Idealize.ShloMosaic Idealize.ShloMosaic.TcCoe Idealize.ShloMosaic.StableHlo Idealize.ShloMosaic.Tactic
open Idealize.SL.Sem

variable {F : FTy → Type} [FloatOps F]

theorem Pieces.out_o9 (L : Pieces F) : L.out.o9 = readL v9 L.L9 := rfl

/-- What a point leaves in the gradient of `C`'s columns. -/
theorem step_dc (c : Dev nD) (t : Fin cfg0.N) (x : Ins F) (p : Carry F) (g : ℕ) (hg : g < 4) (l n : Fin 128) :
    (step c t x p).o9 (at9 g hg l n) = dcOf x g hg (ix2 l n) := by
  unfold step
  split_ifs with h0 h1
  · rw [Pieces.out_o9]; exact piecesA_dc c t h0 (not_last_of_first t h0) x g hg l n
  · rw [Pieces.out_o9]; exact piecesC_dc c t h0 h1 x p g hg l n
  · rw [Pieces.out_o9]; exact piecesB_dc c t h0 h1 x p g hg l n

variable (V : (c : Dev nD) → (b : Ref sig .tc) → Buf (Elt F) ((c : Thread nD τ).loc b))

theorem outs_dc (c : Dev nD) (t : Fin cfg0.N) (g : ℕ) (hg : g < 4) (l n : Fin 128) :
    (outs V c t.val t.isLt).o9 (at9 g hg l n) = dcOf (ins V c t) g hg (ix2 l n) := by
  obtain ⟨k, hk⟩ := t
  cases k with
  | zero => exact step_dc c _ _ _ g hg l n
  | succ k => exact step_dc c _ _ _ g hg l n

/-- Which block each window takes at point `t`. -/
theorem index0 : ∀ t, (cfg0.win 0).index t = ![127 - t.val, 0] := by decide +kernel
theorem index1 : ∀ t, (cfg0.win 1).index t = ![127 - t.val, 0] := by decide +kernel
theorem index2 : ∀ t, (cfg0.win 2).index t = ![127 - t.val, 0] := by decide +kernel
theorem index3 : ∀ t, (cfg0.win 3).index t = ![127 - t.val, 0, 0, 0] := by decide +kernel
theorem index4 : ∀ t, (cfg0.win 4).index t = ![0, 0] := by decide +kernel
theorem index5 : ∀ t, (cfg0.win 5).index t = ![0, 0] := by decide +kernel
theorem index8 : ∀ t, (cfg0.win 8).index t = ![0, 0] := by decide +kernel
theorem index9 : ∀ t, (cfg0.win 9).index t = ![127 - t.val, 0] := by decide +kernel

/-- Position `l` of the chunk point `t` works on, as a row of the arrays. -/
def row (t : Fin 128) (l : Fin 128) : Fin 16384 := ⟨128 * (127 - t.val) + l.val, by omega⟩

theorem left_dc (c : Dev nD) (t : Fin 128) (g : ℕ) (hg : g < 4) (l n : Fin 128) :
    left V c 9 (ix2 (row t l) (⟨2560 + 128 * g + n.val, by omega⟩ : Fin 3072)) = dcOf (ins V c t) g hg (ix2 l n) := by
  have h := (dat V c).arrAt_emb_eq_flushed 9 (Pipeline.Window.hdisj_of_index_inj _ (by decide +kernel)) t
    ((by decide +kernel : ∀ t, (cfg0.win 9).flush t = true) t) (at9 g hg l n)
  have e : ((cfg0.win 9).blk t).view.emb (at9 g hg l n) = ix2 (row t l) (⟨2560 + 128 * g + n.val, by omega⟩ : Fin 3072) := by
    blk_ext [index9 t, at9, row]
  rw [e] at h
  exact h.trans (outs_dc V c t g hg l n)

theorem ins_x0 (c : Dev nD) (t : Fin 128) (l : Fin 128) (q : Fin 3072) : (ins V c t).x0 (ix2 l q) = V c main_arg0 (ix2 (row t l) q) := by
  show iblk V c 0 t (ix2 l q) = _
  blk_ext [iblk, index0 t, row]
theorem ins_x1 (c : Dev nD) (t : Fin 128) (l q : Fin 128) : (ins V c t).x1 (ix2 l q) = V c main_v66 (ix2 (row t l) q) := by
  show iblk V c 1 t (ix2 l q) = _
  blk_ext [iblk, index1 t, row]
theorem ins_x2 (c : Dev nD) (t : Fin 128) (l : Fin 128) (q : Fin 2048) : (ins V c t).x2 (ix2 l q) = V c main_arg5 (ix2 (row t l) q) := by
  show iblk V c 2 t (ix2 l q) = _
  blk_ext [iblk, index2 t, row]
theorem ins_x3 (c : Dev nD) (t : Fin 128) (p : Fin 16) (l q : Fin 128) :
    (ins V c t).x3 (ix4 0 p l q) = V c main_v63 (ix4 (⟨127 - t.val, by omega⟩ : Fin 128) p l q) := by
  show iblk V c 3 t (ix4 0 p l q) = _
  blk_ext [iblk, index3 t]
theorem ins_x4 (c : Dev nD) (t : Fin 128) (l : Fin 128) : (ins V c t).x4 (ix2 0 l) = V c main_v20 (ix2 0 l) := by
  show iblk V c 4 t (ix2 0 l) = _
  blk_ext [iblk, index4 t]
theorem ins_x5 (c : Dev nD) (t : Fin 128) (l : Fin 128) : (ins V c t).x5 (ix2 0 l) = V c main_v15 (ix2 0 l) := by
  show iblk V c 5 t (ix2 0 l) = _
  blk_ext [iblk, index5 t]
theorem ins_x8 (c : Dev nD) (t : Fin 128) (l : Fin 128) (q : Fin 2048) : (ins V c t).x8 (ix2 l q) = V c main_v25 (ix2 l q) := by
  show iblk V c 8 t (ix2 l q) = _
  blk_ext [iblk, index8 t]

end Cert.Proof.Ssd
end
-- ==== Proof.Value.lean ====
/-
  The gradient of `C` the kernel's program returns is the one the reference returns, entry by entry.
-/
module

public import proofs.«01_k».proof.Proof.Match
public import proofs.«01_k».proof.Proof.Reads
public import proofs.«01_k».proof.Proof.Blocks
public import proofs.«01_k».proof.Proof.Loop

@[expose] public section

set_option maxRecDepth 16384

noncomputable section

namespace Cert.Proof.Ssd

open Cert.KernelIdeal Cert.KernelIdeal.Gen
open Idealize.ShloMosaic Idealize.ShloMosaic.TcCoe Idealize.ShloMosaic.StableHlo Idealize.ShloMosaic.Tactic
open Idealize.SL.Sem
open Cert.Proof.Ref (gradT)

variable (m : (ℓ : Loc nD τ sig) → Buf (Elt Ideal) ℓ) (c : Dev nD)

/-- The program's result: the last 512 columns of the packed gradients the call leaves. -/
theorem fin_v68 : (fin m c (Proc.devRef .tc main_v68) : FVec Ideal S16384x512 .f32)
    = extractStridedSlice S16384x512 ![0, 2560] (left (calledV m) c 9 : FVec Ideal S16384x3072 .f32) slices_S16384x3072_S16384x512_0_2560 := by
  have h : afterCall m c (Proc.devRef .tc main_v67_0) = left (calledV m) c 9 := ((afterCall_leaves m).out c).1
  rw [← h]
  show afterL postI (afterCall m c) (Proc.devRef .tc main_v68) = _
  generalize afterCall m c = V
  simp only [afterL_cons, afterL_nil]
  after_reads_simp

/-- What the grid point of chunk `127 - t` reads, in terms of the program's arguments and the carried states. -/
theorem holds (t i : Fin 128) (ht : i.val = 127 - t.val) :
    Holds (ins (calledV m) c t) i (A0 m c) (A1 m c) (A2 m c) (A3 m c) (A5 m c) (afterLoop m c (Proc.devRef .tc main_v62_4)) := by
  have er : ∀ l : Fin 128, row t l = pos i l := fun l => Fin.ext (by show 128 * (127 - t.val) + l.val = i.val * 128 + l.val; omega)
  have ei : (⟨127 - t.val, by omega⟩ : Fin 128) = i := Fin.ext ht.symm
  have h66 : calledV m c main_v66 = padRows (A1 m c) := (mid_v66 (afterLoop m c)).trans (congrArg padRows
    ((keep_midI _ main_arg1 (by decide +kernel)).symm.trans (called_arg m c main_arg1 (by decide))))
  have h63 : calledV m c main_v63 = shapeCast S128x16x128x128 (afterLoop m c (Proc.devRef .tc main_v62_4) : FVec Ideal S128x4x8x64x128 .f32) shapeCasts_S128x4x8x64x128_S128x16x128x128 :=
    mid_v63 (afterLoop m c)
  have h20 : calledV m c main_v20 = padRow (A2 m c) := (called_keep m c main_v20 (by decide +kernel)).trans (pre_v20 m c)
  have h15 : calledV m c main_v15 = padRow (Host.negf (Host.exp (A3 m c))) := (called_keep m c main_v15 (by decide +kernel)).trans (pre_v15 m c)
  have h25 : calledV m c main_v25 = spreadTable (F := Ideal) := (called_keep m c main_v25 (by decide +kernel)).trans (pre_v25 m c)
  have h0 : calledV m c main_arg0 = A0 m c := called_arg m c main_arg0 (by decide)
  have h5 : calledV m c main_arg5 = A5 m c := called_arg m c main_arg5 (by decide)
  refine ⟨fun l q => ?_, fun l h => ?_, fun l q => ?_, fun p a b => ?_, fun h => ?_, fun h => ?_, fun k q => ?_⟩
  · rw [ins_x0, h0, er]
  · rw [ins_x1, h66, er]; exact padRows_at _ _ _
  · rw [ins_x2, h5, er]
  · rw [ins_x3, h63, ei]; exact v63_at _ _ _ _ _
  · rw [ins_x4, h20]; exact padRow_at _ _
  · rw [ins_x5, h15]; exact padRow_at _ _
  · rw [ins_x8, h25]; exact spreadTable_at _ _

/-- The program's result is the host's gradient of `C` at its arguments and carried states. -/
theorem fin_value : (fin m c (Proc.devRef .tc main_v68) : FVec Ideal S16384x512 .f32)
    = gradT (A0 m c) (A1 m c) (A2 m c) (A3 m c) (A5 m c) (afterLoop m c (Proc.devRef .tc main_v62_4)) := by
  rw [fin_v68]
  funext y
  obtain ⟨i, l, g, n, rfl⟩ : ∃ (i l : Fin 128) (g : Fin 4) (n : Fin 128), y = ix2 (⟨128 * i.val + l.val, by omega⟩ : Fin 16384) (⟨128 * g.val + n.val, by omega⟩ : Fin 512) := by
    have h0 : (y 0).val < 16384 := (y 0).isLt
    have h1 : (y 1).val < 512 := (y 1).isLt
    refine ⟨⟨(y 0).val / 128, by omega⟩, ⟨(y 0).val % 128, Nat.mod_lt _ (by omega)⟩, ⟨(y 1).val / 128, by omega⟩, ⟨(y 1).val % 128, Nat.mod_lt _ (by omega)⟩, ?_⟩
    funext a
    fin_cases a
    · exact Fin.ext (Nat.div_add_mod _ _).symm
    · exact Fin.ext (Nat.div_add_mod _ _).symm
  rw [← dcOf_at (holds m c ⟨127 - i.val, by omega⟩ i (by show i.val = 127 - (127 - i.val); omega)) g l n, ← left_dc]
  refine congrArg (left (calledV m) c 9) ?_
  funext a
  fin_cases a
  · apply Fin.ext; show 0 + (128 * i.val + l.val) = 128 * (127 - (127 - i.val)) + l.val; omega
  · apply Fin.ext; show 2560 + (128 * g.val + n.val) = 2560 + 128 * g.val + n.val; omega

end Cert.Proof.Ssd

namespace Cert.Proof

open Idealize.ShloMosaic Idealize.SL.Sem

/-- The kernel's program and the reference return one gradient. -/
theorem same_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) (h : Ssd.Args m c m') :
    (Ssd.fin m c (Proc.devRef .tc Cert.KernelIdeal.main_v68) : FVec Ideal Cert.KernelIdeal.S16384x512 .f32)
      = StableHlo.finalContents Cert.ReferenceIdeal.Value.condOps Cert.ReferenceIdeal.Value.preI Cert.ReferenceIdeal.Value.bodyI Cert.ReferenceIdeal.Value.postI 128 m' c
        (Proc.devRef .tc Cert.ReferenceIdeal.main_v84) := by
  rw [Ssd.fin_value, h.e0, h.e1, h.e2, h.e3, h.e5, Ssd.same_after m c m' h]
  exact (Ref.fin_grad m' c).symm

end Cert.Proof
end
-- ==== Proof.MlpDHidden.lean ====
module

public import proofs.«01_k».proof.Defs
public import proofs.«01_k».proof.Proof.Gen.MlpDHiddenIdeal.Frame
public import proofs.«01_k».proof.Proof.Gen.MlpDHiddenRefIdeal
public import Idealize.ShloMosaic.Lib.Claim
public import Idealize.ShloMosaic.Lib.Pipeline.ValueKit

@[expose] public section

/-! The gradient of the activation of the MLP: the gradient of `gate * ((a * a) @ w2)`, `a = relu(u)`, with respect to `u`. -/

set_option maxRecDepth 16384

noncomputable section

namespace Cert.MlpDHiddenIdeal.Value

open Idealize.ShloMosaic Idealize.ShloMosaic.TcCoe Idealize.SL.Sem
open Cert.MlpDHiddenIdeal Cert.MlpDHiddenIdeal.Gen

variable (m : (ℓ : Loc nD τ sig) → Buf (Elt Ideal) ℓ)

/-- The plain product runs to its end and leaves no signal. -/
theorem frame_ref : Cert.quiescent_MlpDHiddenRefIdeal (hMlpDHiddenRefIdeal := Cert.MlpDHiddenRefIdeal.Gen.facts) := by
  intro m g _
  refine (θ_run (Cert.MlpDHiddenRefIdeal.defs (F := Ideal)) _ _).mono (fun r h => ⟨h, sem_eq_zero_of_no_sems (by decide) r.2⟩) ?_
  hlo_run

/-- The gradient with respect to `a * a`. -/
abbrev seed (G : FVec Ideal Cert.MlpDHiddenRefIdeal.S1x1024 .f32) (D : FVec Ideal Cert.MlpDHiddenRefIdeal.S16384x1024 .f32)
    (W : FVec Ideal Cert.MlpDHiddenRefIdeal.S4096x1024 .f32) : FVec Ideal Cert.MlpDHiddenRefIdeal.S16384x4096 .f32 :=
  Host.dotGeneral Cert.MlpDHiddenRefIdeal.dot_S16384x1024_S4096x1024_S16384x4096_1_1_0_0_n_n none
    (mulf (broadcastInDim Cert.MlpDHiddenRefIdeal.S16384x1024 ![0, 1] (by decide) G) D) W

/-- The array of zeros. -/
abbrev zero : FVec Ideal Cert.MlpDHiddenRefIdeal.S16384x4096 .f32 :=
  broadcastInDim Cert.MlpDHiddenRefIdeal.S16384x4096 ![] (by decide) (constant Cert.MlpDHiddenRefIdeal.S_ FTy.f32 0#32)

/-- The gradient of `gate * ((a * a) @ w2)`, `a = relu(u)`, with respect to `u`. -/
abbrev value (U : FVec Ideal Cert.MlpDHiddenRefIdeal.S16384x4096 .f32) (W : FVec Ideal Cert.MlpDHiddenRefIdeal.S4096x1024 .f32)
    (G : FVec Ideal Cert.MlpDHiddenRefIdeal.S1x1024 .f32) (D : FVec Ideal Cert.MlpDHiddenRefIdeal.S16384x1024 .f32) : FVec Ideal Cert.MlpDHiddenRefIdeal.S16384x4096 .f32 :=
  select (cmpf CmpFPredicate.ogt U zero)
    (addf (mulf (maximumf U zero) (seed G D W)) (mulf (seed G D W) (maximumf U zero))) zero

/-- The blocks that step `t` of the grid takes. -/
theorem idx : ∀ t : Fin cfg0.N, win0_0.index t = ![t.val / 4, 0] ∧ win0_1.index t = ![t.val % 4, 0] ∧ win0_2.index t = ![t.val / 4, t.val % 4]
    ∧ win0_3.index t = ![t.val / 4, t.val % 4] :=
  (by decide +kernel : ∀ t : Fin grid0.N, _)

/-- The constant of the body is two. -/
theorem two : (Ideal.ofBits .f32 1073741824#32 : EReal) = 2 := by
  simp [Ideal.ofBits, Ideal.ieee]
  rw [← EReal.coe_mul]; norm_num; rfl

/-- The body multiplies by twice the activation; the gradient adds two products where `u` is positive. -/
theorem slope (s u : EReal) : s * (2 * max u 0) = if 0 < u then max u 0 * s + s * max u 0 else 0 := by
  split
  · rw [mul_comm (max u 0) s, ← one_add_one_eq_two, EReal.right_distrib_of_nonneg zero_le_one zero_le_one, one_mul]
    rw [EReal.left_distrib_of_nonneg (le_max_right _ _) (le_max_right _ _)]
  · rename_i h
    rw [max_eq_right (not_lt.mp h), mul_zero, mul_zero]

/-- The activation that the call takes. -/
theorem entry3 (c : Dev nD) : V m c main_v3 = (truncf .bf16 (maximumf (m ((c : Thread nD τ).loc main_arg0)) zero) bitsLt_bf16_f32 : FVec Ideal S16384x4096 .bf16) := by
  show StableHlo.after [hostOps0, hostOps0_1].flatten _ _ = _
  simp only [List.flatten_cons, List.flatten_nil, List.append_nil, hostOps0, hostOps0_1, List.cons_append, List.nil_append, StableHlo.after_cons, StableHlo.after_nil]
  after_results_simp
  rfl

/-- The weights that the call takes, scaled by the gate. -/
theorem entry4 (c : Dev nD) : V m c main_v4 = (truncf .bf16 (mulf (m ((c : Thread nD τ).loc main_arg1))
    (broadcastInDim S4096x1024 ![0, 1] bcast_S1x1024_S4096x1024_0_1 (m ((c : Thread nD τ).loc main_arg2)))) bitsLt_bf16_f32 : FVec Ideal S4096x1024 .bf16) := by
  show StableHlo.after [hostOps0, hostOps0_1].flatten _ _ = _
  simp only [List.flatten_cons, List.flatten_nil, List.append_nil, hostOps0, hostOps0_1, List.cons_append, List.nil_append, StableHlo.after_cons, StableHlo.after_nil]
  after_results_simp

/-- The gradient that the call takes. -/
theorem entry5 (c : Dev nD) : V m c main_v5 = (truncf .bf16 (m ((c : Thread nD τ).loc main_arg3)) bitsLt_bf16_f32 : FVec Ideal S16384x1024 .bf16) := by
  show StableHlo.after [hostOps0, hostOps0_1].flatten _ _ = _
  simp only [List.flatten_cons, List.flatten_nil, List.append_nil, hostOps0, hostOps0_1, List.cons_append, List.nil_append, StableHlo.after_cons, StableHlo.after_nil]
  after_results_simp

/-- Each entry that step `t` writes is that entry of the gradient. -/
theorem point (c : Dev nD) (t : Fin cfg0.N) (y) : k0_pay1 (iblk m c 0 t) (iblk m c 1 t) (iblk m c 2 t) y
    = value (m ((c : Thread nD τ).loc main_arg0)) (m ((c : Thread nD τ).loc main_arg1)) (m ((c : Thread nD τ).loc main_arg2))
        (m ((c : Thread nD τ).loc main_arg3)) (((cfg0.win 3).blk t).view.emb y) := by
  pointwise [k0_pay1, value, seed, zero]
  rw [two]
  blk_simp [iblk, idx t]
  rw [entry3, entry4, entry5]
  pointwise [zero]
  rw [slope]
  have e : ∀ a b g : EReal, a * (b * g) = g * a * b := fun a b g => by rw [← mul_assoc, mul_comm]; exact (mul_assoc _ _ _).symm
  simp only [e]
  blk_point [idx t]

/-- The result array of the call holds the gradient. -/
theorem final (c : Dev nD) : (dats m 0 c).arrAt 3 (cfgs 0).N
    = (truncf .bf16 (value (m ((c : Thread nD τ).loc main_arg0)) (m ((c : Thread nD τ).loc main_arg1)) (m ((c : Thread nD τ).loc main_arg2)) (m ((c : Thread nD τ).loc main_arg3))) bitsLt_bf16_f32 : FVec Ideal S16384x4096 .bf16) := by
  refine (dats m 0 c).arrAt_eq_of_covers 3 _ (by decide +kernel) fun t _ y => ?_
  blk_simp
  rw [after0_3]; frame_out
  exact point m c t y

/-- After the call the host casts the result array to f32. -/
theorem cast (c : Dev nD) (X : FVec Ideal S16384x4096 .bf16) (hX : (dats m 0 c).arrAt 3 (cfgs 0).N = X) :
    Pipeline.afterTail₀ cfgs (dats m) 0 (V0 m) [hostOps1] c main_v7 = (extf .f32 X bitsLt_bf16_f32 : FVec Ideal S16384x4096 .f32) := by
  unfold Pipeline.afterTail₀
  have h := Pipeline.withArrays_arr (cfgs 0).spec (by decide) c (V0 m c) (fun w => (dats m 0 c).arrAt w (cfgs 0).N) 3
  rw [hX] at h
  simp only [List.flatten_cons, List.flatten_nil, List.append_nil, hostOps1]
  revert h
  generalize Pipeline.withArrays _ _ _ _ = V
  intro h
  simp only [StableHlo.after_cons, StableHlo.after_nil]
  after_results_simp
  exact congrArg (extf .f32 · bitsLt_bf16_f32) h

/-- The call with the casts of the host and the plain product end with the same result. -/
theorem algebraic : Cert.algebraic_MlpDHiddenIdeal_MlpDHiddenRefIdeal := by
  pair_intro
  · run_from Cert.MlpDHiddenIdeal.Gen.run_main m g
    · exact W_main_arg0 m (dats m) c
    · exact W_main_arg1 m (dats m) c
    · exact W_main_arg2 m (dats m) c
    · exact W_main_arg3 m (dats m) c
  · hlo_run
    rw [cast m c _ (final m c)]
    rfl

end Cert.MlpDHiddenIdeal.Value

end
-- ==== Proof.Finite.lean ====
module

public import Idealize.ShloMosaic.PureOps.Ideal
public import Idealize.ShloMosaic.Lib.ReduceAll

@[expose] public section

/-! Finite arrays and their sums. An array whose entries are all smaller than infinity is an array of reals; of reals a
product may be drawn into a sum and two sums may change places. -/

namespace Cert.Finite

open Idealize.ShloMosaic

/-- An extended real whose absolute value is below infinity is real. -/
theorem real_of_abs_lt (x : EReal) (h : max x (-x) < ⊤) : ∃ r : ℝ, x = r := by
  induction x with
  | bot => simp at h
  | top => simp at h
  | coe r => exact ⟨r, rfl⟩

/-- A conjunction holds only if both parts do. -/
theorem and_split (a b : BitVec 1) (h : IntOp.andi a b = 1#1) : a = 1#1 ∧ b = 1#1 := by
  revert a b; decide

/-- An array that passes the test `all(abs(x) < inf)` is an array of reals. -/
theorem reals {s u v : Shape} {axes : List (Fin s.rank)} [Subsingleton u.Idx] (x b : FVec Ideal s .f32) (init : IVec v 1) (h : s.ReducesTo axes u) (hu : 0 < v.numel) (j : u.Idx)
    (hb : ∀ i, b i = Ideal.ofBits .f32 0x7F800000#32) (e : Host.reduce IntOp.andi (cmpf .olt (Host.absf x) b) init h hu j = 1#1) :
    ∃ r : s.Idx → ℝ, ∀ i, (x i : EReal) = r i := by
  have htop : Ideal.ofBits .f32 0x7F800000#32 = ⊤ := by simp [Ideal.ofBits, Ideal.ieee]
  refine Classical.axiom_of_choice fun i => real_of_abs_lt (x i) ?_
  have h1 := Host.reduce_andi_all _ _ h hu j e i
  have h2 : BitVec.ofBool (decide (max (x i : EReal) (-(x i : EReal)) < b i)) = 1#1 := h1
  rw [hb, htop] at h2
  by_contra hn
  rw [decide_eq_false hn] at h2
  exact absurd h2 (by decide)

/-- The sum of reals, taken among the extended reals. -/
theorem coe_sum {ι : Type} (s : Finset ι) (f : ι → ℝ) : ((∑ i ∈ s, f i : ℝ) : EReal) = ∑ i ∈ s, (f i : EReal) := by
  induction s using Finset.cons_induction with
  | empty => rfl
  | cons a s h ih => rw [Finset.sum_cons, Finset.sum_cons, EReal.coe_add, ih]

/-- A factor may be drawn into a sum of reals. -/
theorem sum_scale {ι : Type} [Fintype ι] (a c : ι → ℝ) (g : ℝ) :
    (∑ l, (a l : EReal) * (c l : EReal)) * (g : EReal) = ∑ l, ((g : EReal) * (c l : EReal)) * (a l : EReal) := by
  simp only [← EReal.coe_mul, ← coe_sum]
  rw [Finset.sum_mul]
  exact congrArg _ (Finset.sum_congr rfl fun l _ => by ring)

/-- Two sums of reals may change places. -/
theorem sum_swap {ι κ : Type} [Fintype ι] [Fintype κ] (a : ι → κ → ℝ) (c : ι → ℝ) (w : κ → ℝ) :
    ∑ f, (∑ l, (a l f : EReal) * (c l : EReal)) * (w f : EReal) = ∑ l, (c l : EReal) * ∑ f, (a l f : EReal) * (w f : EReal) := by
  simp only [← EReal.coe_mul, ← coe_sum]
  refine congrArg _ ?_
  simp only [Finset.sum_mul, Finset.mul_sum]
  rw [Finset.sum_comm]
  exact Finset.sum_congr rfl fun l _ => Finset.sum_congr rfl fun f _ => by ring

end Cert.Finite
-- ==== Proof.MlpDW2.lean ====
module

public import proofs.«01_k».proof.Defs
public import proofs.«01_k».proof.Proof.Finite
public import proofs.«01_k».proof.Proof.Gen.MlpDW2Ideal.Frame
public import proofs.«01_k».proof.Proof.Gen.MlpDW2RefIdeal
public import proofs.«01_k».proof.Proof.Gen.Pre_mlp_finite
public import Idealize.ShloMosaic.Lib.Claim
public import Idealize.ShloMosaic.Lib.Pipeline.ValueKit

@[expose] public section

/-! The gradients of the second weights of the MLP and of its gate, summed over all rows in eight parts. -/

set_option maxRecDepth 16384

noncomputable section

namespace Cert.MlpDW2Ideal.Value

open Idealize.ShloMosaic Idealize.ShloMosaic.TcCoe Idealize.SL.Sem
open Cert.MlpDW2Ideal Cert.MlpDW2Ideal.Gen

variable (m : (ℓ : Loc nD τ sig) → Buf (Elt Ideal) ℓ)

/-- The plain products run to their end and leave no signal. -/
theorem frame_ref : Cert.quiescent_MlpDW2RefIdeal (hMlpDW2RefIdeal := Cert.MlpDW2RefIdeal.Gen.facts) := by
  intro m g _
  refine (θ_run (Cert.MlpDW2RefIdeal.defs (F := Ideal)) _ _).mono (fun r h => ⟨h, sem_eq_zero_of_no_sems (by decide) r.2⟩) ?_
  hlo_run

/-- The activations. -/
abbrev act (c : Dev nD) : FVec Ideal S16384x4096 .f32 := m ((c : Thread nD τ).loc main_arg0)
/-- The weights. -/
abbrev wts (c : Dev nD) : FVec Ideal S4096x1024 .f32 := m ((c : Thread nD τ).loc main_arg1)
/-- The gate. -/
abbrev gate (c : Dev nD) : FVec Ideal S1x1024 .f32 := m ((c : Thread nD τ).loc main_arg2)
/-- The gradient that comes in. -/
abbrev ct (c : Dev nD) : FVec Ideal S16384x1024 .f32 := m ((c : Thread nD τ).loc main_arg3)

/-- The gradient of `(a * a) @ w2` with respect to `w2`, at one entry: a sum over all rows. -/
abbrev prod (A : FVec Ideal S16384x4096 .f32) (C : FVec Ideal S16384x1024 .f32) (f : Fin 4096) (d : Fin 1024) : EReal :=
  ∑ l : Fin 16384, (A (ix2 l f) * A (ix2 l f)) * C (ix2 l d)

/-- The blocks that step `t` of the grid takes: eight steps in turn share one block of each result. -/
theorem idx : ∀ t : Fin cfg0.N, win0_0.index t = ![t.val % 8, t.val / 8] ∧ win0_1.index t = ![t.val % 8, 0] ∧ win0_2.index t = ![t.val / 8, 0]
    ∧ win0_3.index t = ![0, 0] ∧ win0_4.index t = ![t.val / 8, 0] ∧ win0_5.index t = ![t.val / 8, 0, 0] :=
  (by decide +kernel : ∀ t : Fin grid0.N, _)

/-- The block of the activations at step `t`. -/
abbrev rows (c : Dev nD) (t : Fin cfg0.N) : FVec Ideal S2048x1024 .bf16 := iblk m c 0 t

/-- The block of the incoming gradient at step `t`. -/
abbrev cols (c : Dev nD) (t : Fin cfg0.N) : FVec Ideal S2048x1024 .bf16 := iblk m c 1 t

/-- What the first of eight steps stores: its own product. -/
theorem first_pay (x0 x1 j) : k0_pay2 (F := Ideal) x0 x1 j = ∑ k : Fin 2048, (x0 (ix2 k (j 0)) * x0 (ix2 k (j 0))) * x1 (ix2 k (j 1)) := by
  pointwise [k0_pay2, k0_pay1]

/-- What a later step stores: the sum before and its own product. -/
theorem next_pay (a x0 x1 j) : k0_pay3 (F := Ideal) x0 x1 a j = a j + ∑ k : Fin 2048, (x0 (ix2 k (j 0)) * x0 (ix2 k (j 0))) * x1 (ix2 k (j 1)) := by
  pointwise [k0_pay3, k0_pay1]

/-- What the last of eight steps writes to the first result: the sum, scaled by the gate. -/
theorem last_pay (a g j) : k0_pay5 (F := Ideal) a g j = a j * g (ix2 0 (j 1)) := by
  pointwise [k0_pay5]

/-- What the last of eight steps writes to the second result: the sum times the weights, summed over the rows of the block. -/
theorem gate_pay (a w j) : k0_pay4 (F := Ideal) a w j = ∑ f : Fin 1024, a (ix2 f (j 2)) * w (ix2 f (j 2)) := by
  pointwise [k0_pay4]

/-- The kept sum after the first of eight steps. -/
theorem acc_first (c : Dev nD) (t : Fin cfg0.N) (h : t.val % 8 = 0) (j) : (outsAt0 m c t.val t.isLt).2.2 j
    = 0 + ∑ k : Fin 2048, (rows m c t (ix2 k (j 0)) * rows m c t (ix2 k (j 0))) * cols m c t (ix2 k (j 1)) := by
  rw [outsAt0_A m c t h (by omega) (by omega)]; frame_out
  rw [first_pay, zero_add]

/-- The kept sum after a later step. -/
theorem acc_next (c : Dev nD) (t : Fin cfg0.N) (h : ¬t.val % 8 = 0) (j) : (outsAt0 m c t.val t.isLt).2.2 j
    = (outsAt0 m c (t.val - 1) (Nat.lt_of_le_of_lt (Nat.sub_le _ _) t.isLt)).2.2 j
      + ∑ k : Fin 2048, (rows m c t (ix2 k (j 0)) * rows m c t (ix2 k (j 0))) * cols m c t (ix2 k (j 1)) := by
  by_cases h7 : t.val % 8 = 7
  · rw [outsAt0_C m c t h (by omega) h7]; frame_out
    rw [next_pay]
    exact congrArg (· + _) (congrFun (Memref.IsWhole.read_unread _ _) j)
  · rw [outsAt0_B m c t h (by omega) h7]; frame_out
    rw [next_pay]
    exact congrArg (· + _) (congrFun (Memref.IsWhole.read_unread _ _) j)

/-- The kept sum after the last of eight steps is the sum over all rows. -/
theorem acc_last (c : Dev nD) (t : Fin cfg0.N) (h : t.val % 8 = 7) (j : S1024x1024.Idx) (f : Fin 4096) (hf : f.val = t.val / 8 * 1024 + (j 0).val) :
    (outsAt0 m c t.val t.isLt).2.2 j = prod (act m c) (ct m c) f (j 1) := by
  refine (Pipeline.eq_sum_fin_of_reset_step_apply_of_flush (fun n h => (outsAt0 m c n h).2.2) 8 (fun _ => 0) _ (acc_first m c) (acc_next m c) t h j).trans ?_
  rw [zero_add]; refine Fin.sum_mul_add_congr fun s k hl => ?_
  blk_point [iblk, idx t, idx ⟨_, Pipeline.run_point_lt_of_flush t h s⟩]

/-- The block of the first result that the last of eight steps writes. -/
theorem out_last (c : Dev nD) (t : Fin cfg0.N) (h : t.val % 8 = 7) (j) : (outsAt0 m c t.val t.isLt).1 j
    = (outsAt0 m c t.val t.isLt).2.2 j * iblk m c 3 t (ix2 0 (j 1)) := by
  rw [outsAt0_C m c t (by omega) (by omega) h]
  frame_out
  rw [last_pay]

/-- The block of the second result that the last of eight steps writes. -/
theorem gate_last (c : Dev nD) (t : Fin cfg0.N) (h : t.val % 8 = 7) (j) : (outsAt0 m c t.val t.isLt).2.1 j
    = ∑ f : Fin 1024, (outsAt0 m c t.val t.isLt).2.2 (ix2 f (j 2)) * iblk m c 2 t (ix2 f (j 2)) := by
  rw [outsAt0_C m c t (by omega) (by omega) h]
  frame_out
  rw [gate_pay]

/-- Row `f` of block `i` of the weights. -/
abbrev row (i : Fin 4) (f : Fin 1024) : Fin 4096 := ⟨i.val * 1024 + f.val, by omega⟩

/-- The first result array of the call: the sums over all rows, scaled by the gate. -/
theorem final (c : Dev nD) : (dats m 0 c).arrAt 4 (cfgs 0).N
    = (fun j => prod (act m c) (ct m c) (j 0) (j 1) * gate m c (ix2 0 (j 1)) : FVec Ideal S4096x1024 .bf16) := by
  refine (dats m 0 c).arrAt_eq_of_covers 4 _ (by decide +kernel) fun t hf y => ?_
  have h7 := (flush0_4 t).mp hf
  blk_simp
  rw [after0_4]
  refine (out_last m c t h7 y).trans ?_
  refine congrArg₂ (fun a b : EReal => a * b) ((acc_last m c t h7 y ((win0_4.blk t).view.emb y 0) ?_).trans ?_) ?_
  · blk_simp [idx t]
  · refine congrArg (prod (act m c) (ct m c) _) (Fin.ext ?_)
    blk_simp [idx t]
  · blk_point [iblk, idx t]

/-- The second result array of the call: for each block of the weights, the sums over all rows times the weights. -/
theorem final_gate (c : Dev nD) : (dats m 0 c).arrAt 5 (cfgs 0).N
    = (fun j => ∑ f : Fin 1024, prod (act m c) (ct m c) (row (j 0) f) (j 2) * wts m c (ix2 (row (j 0) f) (j 2)) : FVec Ideal S4x1x1024 .f32) := by
  refine (dats m 0 c).arrAt_eq_of_covers 5 _ (by decide +kernel) fun t hf y => ?_
  have h7 := (flush0_5 t).mp hf
  blk_simp
  rw [after0_5]
  refine (gate_last m c t h7 y).trans ?_
  have e : ((win0_5.blk t).view.emb y 0).val = t.val / 8 := by
    have h0 : (y 0).val < 1 := (y 0).isLt
    blk_simp [idx t]
  refine Finset.sum_congr rfl fun f _ => ?_
  refine congrArg₂ (fun a b : EReal => a * b) ((acc_last m c t h7 (ix2 f (y 2)) (row ((win0_5.blk t).view.emb y 0) f) ?_).trans ?_) ?_
  · exact congrArg (· * 1024 + f.val) e
  · refine congrArg (prod (act m c) (ct m c) _) (Fin.ext ?_)
    blk_simp [idx t]
  · have e' : (row ((win0_5.blk t).view.emb y 0) f).val = t.val / 8 * 1024 + f.val := congrArg (· * 1024 + f.val) e
    generalize row ((win0_5.blk t).view.emb y 0) f = r at e' ⊢
    blk_point [iblk, idx t]

/-- After the call the host casts the first result array to f32. -/
theorem cast (c : Dev nD) (X : FVec Ideal S4096x1024 .bf16) (hX : (dats m 0 c).arrAt 4 (cfgs 0).N = X) :
    Pipeline.afterTail₀ cfgs (dats m) 0 (V0 m) [hostOps1] c main_v4 = (extf .f32 X bitsLt_bf16_f32 : FVec Ideal S4096x1024 .f32) := by
  unfold Pipeline.afterTail₀
  have h := Pipeline.withArrays_arr (cfgs 0).spec (by decide) c (V0 m c) (fun w => (dats m 0 c).arrAt w (cfgs 0).N) 4
  rw [hX] at h
  simp only [List.flatten_cons, List.flatten_nil, List.append_nil, hostOps1]
  revert h
  generalize Pipeline.withArrays _ _ _ _ = V
  intro h
  simp only [StableHlo.after_cons, StableHlo.after_nil]
  after_results_simp
  exact congrArg (extf .f32 · bitsLt_bf16_f32) h

/-- After the call the host sums the second result array over the blocks of the weights. -/
theorem total (c : Dev nD) (X : FVec Ideal S4x1x1024 .f32) (hX : (dats m 0 c).arrAt 5 (cfgs 0).N = X) :
    Pipeline.afterTail₀ cfgs (dats m) 0 (V0 m) [hostOps1] c main_v5
      = (Host.reduceAdd X (constant S_ .f32 0x00000000#32) reducesTo_S4x1x1024_S1x1024_d0 h_S_ : FVec Ideal S1x1024 .f32) := by
  unfold Pipeline.afterTail₀
  have h := Pipeline.withArrays_arr (cfgs 0).spec (by decide) c (V0 m c) (fun w => (dats m 0 c).arrAt w (cfgs 0).N) 5
  rw [hX] at h
  simp only [List.flatten_cons, List.flatten_nil, List.append_nil, hostOps1]
  revert h
  generalize Pipeline.withArrays _ _ _ _ = V
  intro h
  simp only [StableHlo.after_cons, StableHlo.after_nil]
  after_results_simp
  exact congrArg (Host.reduceAdd · _ _ _) h

/-- The precondition says that the four arguments are arrays of reals. -/
theorem real (hpre : Cert.Pre_MlpDW2Ideal_mlp_finite m) (c : Dev nD) :
    (∃ r : S16384x4096.Idx → ℝ, ∀ i, (act m c i : EReal) = r i) ∧ (∃ r : S4096x1024.Idx → ℝ, ∀ i, (wts m c i : EReal) = r i)
    ∧ (∃ r : S1x1024.Idx → ℝ, ∀ i, (gate m c i : EReal) = r i) ∧ (∃ r : S16384x1024.Idx → ℝ, ∀ i, (ct m c i : EReal) = r i) := by
  have h := congrFun (hpre c) (fun d => d.elim0)
  obtain ⟨h, h3⟩ := Cert.Finite.and_split _ _ h
  obtain ⟨h, h2⟩ := Cert.Finite.and_split _ _ h
  obtain ⟨h0, h1⟩ := Cert.Finite.and_split _ _ h
  exact ⟨Cert.Finite.reals _ _ _ _ _ _ (fun _ => rfl) h0, Cert.Finite.reals _ _ _ _ _ _ (fun _ => rfl) h1,
    Cert.Finite.reals _ _ _ _ _ _ (fun _ => rfl) h2, Cert.Finite.reals _ _ _ _ _ _ (fun _ => rfl) h3⟩

/-- Of reals, the gate may be drawn into the sum over the rows. -/
theorem scale_eq {A : FVec Ideal S16384x4096 .f32} {C : FVec Ideal S16384x1024 .f32} {G : FVec Ideal S1x1024 .f32} {a : S16384x4096.Idx → ℝ}
    {c : S16384x1024.Idx → ℝ} {g : S1x1024.Idx → ℝ} (hA : ∀ i, (A i : EReal) = a i) (hC : ∀ i, (C i : EReal) = c i) (hG : ∀ i, (G i : EReal) = g i)
    (f : Fin 4096) (d : Fin 1024) :
    ∑ l : Fin 16384, (G (ix2 0 d) * C (ix2 l d)) * (A (ix2 l f) * A (ix2 l f)) = prod A C f d * G (ix2 0 d) := by
  have h : ∀ i, (A i * A i : EReal) = ((a i * a i : ℝ) : EReal) := fun i => by rw [hA, EReal.coe_mul]
  simp only [prod, h, hC, hG]
  exact (Cert.Finite.sum_scale (fun l : Fin 16384 => a (ix2 l f) * a (ix2 l f)) (fun l => c (ix2 l d)) (g (ix2 0 d))).symm

/-- Of reals, the sum over the rows and the sum over the weights may change places. -/
theorem swap_eq {A : FVec Ideal S16384x4096 .f32} {C : FVec Ideal S16384x1024 .f32} {W : FVec Ideal S4096x1024 .f32} {a : S16384x4096.Idx → ℝ}
    {c : S16384x1024.Idx → ℝ} {w : S4096x1024.Idx → ℝ} (hA : ∀ i, (A i : EReal) = a i) (hC : ∀ i, (C i : EReal) = c i) (hW : ∀ i, (W i : EReal) = w i)
    (d : Fin 1024) :
    ∑ l : Fin 16384, C (ix2 l d) * ∑ f : Fin 4096, (A (ix2 l f) * A (ix2 l f)) * W (ix2 f d)
      = ∑ i : Fin 4, ∑ f : Fin 1024, prod A C (row i f) d * W (ix2 (row i f) d) := by
  refine Eq.trans ?_ (Fin.sum_mul_add_fin 4 1024 fun f : Fin 4096 => prod A C f d * W (ix2 f d)).symm
  have h : ∀ i, (A i * A i : EReal) = ((a i * a i : ℝ) : EReal) := fun i => by rw [hA, EReal.coe_mul]
  simp only [prod, h, hC, hW]
  exact (Cert.Finite.sum_swap (fun (l : Fin 16384) (f : Fin 4096) => a (ix2 l f) * a (ix2 l f)) (fun l => c (ix2 l d)) (fun f => w (ix2 f d))).symm

/-- Of finite arguments, the call and the plain products end with the same gradients. -/
theorem algebraic : Cert.algebraic_MlpDW2Ideal_MlpDW2RefIdeal_pre_mlp_finite := by
  pair_intro
  · run_from Cert.MlpDW2Ideal.Gen.run_main m g
    · exact W_main_arg0 m (dats m) c
    · exact W_main_arg1 m (dats m) c
    · exact W_main_arg3 m (dats m) c
  · hlo_run
    · obtain ⟨⟨_, hA⟩, _, ⟨_, hG⟩, ⟨_, hC⟩⟩ := real m hpre c
      rw [cast m c _ (final m c)]
      funext j
      pointwise
      exact scale_eq hA hC hG (j 0) (j 1)
    · obtain ⟨⟨_, hA⟩, ⟨_, hW⟩, _, ⟨_, hC⟩⟩ := real m hpre c
      rw [total m c _ (final_gate m c)]
      funext j
      pointwise
      exact swap_eq hA hC hW (j 1)

end Cert.MlpDW2Ideal.Value

end
-- ==== Proof.MlpDIn.lean ====
module

public import proofs.«01_k».proof.Defs
public import proofs.«01_k».proof.Proof.Gen.MlpDInIdeal.Frame
public import proofs.«01_k».proof.Proof.Gen.MlpDInRefIdeal
public import Idealize.ShloMosaic.Lib.Claim
public import Idealize.ShloMosaic.Lib.Pipeline.ValueKit

@[expose] public section

/-! The gradient of the first product of the MLP with respect to its rows: `ct @ w1ᵀ`. -/

set_option maxRecDepth 16384

noncomputable section

namespace Cert.MlpDInIdeal.Value

open Idealize.ShloMosaic Idealize.ShloMosaic.TcCoe Idealize.SL.Sem
open Cert.MlpDInIdeal Cert.MlpDInIdeal.Gen

variable (m : (ℓ : Loc nD τ sig) → Buf (Elt Ideal) ℓ)

/-- The plain product runs to its end and leaves no signal. -/
theorem frame_ref : Cert.quiescent_MlpDInRefIdeal (hMlpDInRefIdeal := Cert.MlpDInRefIdeal.Gen.facts) := by
  intro m g _
  refine (θ_run (Cert.MlpDInRefIdeal.defs (F := Ideal)) _ _).mono (fun r h => ⟨h, sem_eq_zero_of_no_sems (by decide) r.2⟩) ?_
  hlo_run

/-- The gradient of `h @ w1` with respect to `h`. -/
abbrev value (D : FVec Ideal Cert.MlpDInRefIdeal.S16384x4096 .f32) (W : FVec Ideal Cert.MlpDInRefIdeal.S1024x4096 .f32) :
    FVec Ideal Cert.MlpDInRefIdeal.S16384x1024 .f32 :=
  Host.dotGeneral Cert.MlpDInRefIdeal.dot_S16384x4096_S1024x4096_S16384x1024_1_1_0_0_n_n none D W

/-- The blocks that step `t` of the grid takes. -/
theorem idx : ∀ t : Fin cfg0.N, win0_0.index t = ![t.val, 0] ∧ win0_1.index t = ![0, 0] ∧ win0_2.index t = ![t.val, 0] :=
  (by decide +kernel : ∀ t : Fin grid0.N, _)

/-- Each entry that step `t` writes is that entry of the plain product. -/
theorem point (c : Dev nD) (t : Fin cfg0.N) (y) : k0_pay1 (iblk m c 0 t) (iblk m c 1 t) y
    = value (m ((c : Thread nD τ).loc main_arg2)) (m ((c : Thread nD τ).loc main_arg1)) (((cfg0.win 2).blk t).view.emb y) := by
  pointwise [k0_pay1, value]
  blk_point [iblk, idx t]

/-- The result array of the call holds the plain product. -/
theorem final (c : Dev nD) : (dats m 0 c).arrAt 2 (cfgs 0).N
    = value (m ((c : Thread nD τ).loc main_arg2)) (m ((c : Thread nD τ).loc main_arg1)) := by
  refine (dats m 0 c).arrAt_eq_of_covers 2 _ (by decide +kernel) fun t _ y => ?_
  blk_simp
  rw [after0_2]; frame_out
  exact point m c t y

/-- The call and the plain product end with the same result. -/
theorem algebraic : Cert.algebraic_MlpDInIdeal_MlpDInRefIdeal := by
  pair_intro
  · run_from Cert.MlpDInIdeal.Gen.run_main m g
  · hlo_run
    exact (final m c).symm

end Cert.MlpDInIdeal.Value

end
-- ==== Proof.MlpDW1.lean ====
module

public import proofs.«01_k».proof.Defs
public import proofs.«01_k».proof.Proof.Gen.MlpDW1Ideal.Frame
public import proofs.«01_k».proof.Proof.Gen.MlpDW1RefIdeal
public import Idealize.ShloMosaic.Lib.Claim
public import Idealize.ShloMosaic.Lib.Pipeline.ValueKit

@[expose] public section

/-! The gradient of the first weights of the MLP, summed over all rows in four parts. -/

set_option maxRecDepth 16384

noncomputable section

namespace Cert.MlpDW1Ideal.Value

open Idealize.ShloMosaic Idealize.ShloMosaic.TcCoe Idealize.SL.Sem
open Cert.MlpDW1Ideal Cert.MlpDW1Ideal.Gen

variable (m : (ℓ : Loc nD τ sig) → Buf (Elt Ideal) ℓ)

/-- The plain product runs to its end and leaves no signal. -/
theorem frame_ref : Cert.quiescent_MlpDW1RefIdeal (hMlpDW1RefIdeal := Cert.MlpDW1RefIdeal.Gen.facts) := by
  intro m g _
  refine (θ_run (Cert.MlpDW1RefIdeal.defs (F := Ideal)) _ _).mono (fun r h => ⟨h, sem_eq_zero_of_no_sems (by decide) r.2⟩) ?_
  hlo_run

/-- The gradient of `h @ w1` with respect to `w1`. -/
abbrev value (H : FVec Ideal Cert.MlpDW1RefIdeal.S16384x1024 .f32) (D : FVec Ideal Cert.MlpDW1RefIdeal.S16384x4096 .f32) : FVec Ideal Cert.MlpDW1RefIdeal.S1024x4096 .f32 :=
  transpose Cert.MlpDW1RefIdeal.S1024x4096 [1, 0]
    (Host.dotGeneral Cert.MlpDW1RefIdeal.dot_S16384x4096_S16384x1024_S4096x1024_0_0_1_1_n_n none D H) (by decide)

/-- Each entry of the plain product is a sum over all rows. -/
theorem value_at (H D j) : value H D j = ∑ l : Fin 16384, H (ix2 l (j 0)) * D (ix2 l (j 1)) := by
  pointwise [value]
  exact Finset.sum_congr rfl fun l _ => mul_comm _ _

/-- The blocks that step `t` of the grid takes: four steps in turn share one block of the result. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The block of the first array at step `t`. -/
abbrev rows (c : Dev nD) (t : Fin cfg0.N) : FVec Ideal S4096x1024 .bf16 := iblk m c 0 t

/-- The block of the second array at step `t`. -/
abbrev cols (c : Dev nD) (t : Fin cfg0.N) : FVec Ideal S4096x1024 .bf16 := iblk m c 1 t

/-- What the first of four steps stores: its own product. -/
theorem first_pay (x0 x1 j) : k0_pay2 (F := Ideal) x0 x1 j = ∑ k : Fin 4096, x0 (ix2 k (j 0)) * x1 (ix2 k (j 1)) := by
  pointwise [k0_pay2, k0_pay1]

/-- What a later step stores: the sum before and its own product. -/
theorem next_pay (a x0 x1 j) : k0_pay3 (F := Ideal) x0 x1 a j = a j + ∑ k : Fin 4096, x0 (ix2 k (j 0)) * x1 (ix2 k (j 1)) := by
  pointwise [k0_pay3, k0_pay1]

/-- What the last of four steps writes out: the sum. -/
theorem last_pay (a j) : k0_pay4 (F := Ideal) a j = a j := by
  pointwise [k0_pay4]

/-- The kept sum after the first of four steps. -/
theorem acc_first (c : Dev nD) (t : Fin cfg0.N) (h : t.val % 4 = 0) (j) : (outsAt0 m c t.val t.isLt).2 j
    = 0 + ∑ k : Fin 4096, rows m c t (ix2 k (j 0)) * cols m c t (ix2 k (j 1)) := by
  rw [outsAt0_A m c t h (by omega) (by omega)]; frame_out
  rw [first_pay, zero_add]

/-- The kept sum after a later step. -/
theorem acc_next (c : Dev nD) (t : Fin cfg0.N) (h : ¬t.val % 4 = 0) (j) : (outsAt0 m c t.val t.isLt).2 j
    = (outsAt0 m c (t.val - 1) (Nat.lt_of_le_of_lt (Nat.sub_le _ _) t.isLt)).2 j
      + ∑ k : Fin 4096, rows m c t (ix2 k (j 0)) * cols m c t (ix2 k (j 1)) := by
  by_cases h3 : t.val % 4 = 3
  · rw [outsAt0_C m c t h (by omega) h3]; frame_out
    rw [next_pay]
    exact congrArg (· + _) (congrFun (Memref.IsWhole.read_unread _ _) j)
  · rw [outsAt0_B m c t h (by omega) h3]; frame_out
    rw [next_pay]
    exact congrArg (· + _) (congrFun (Memref.IsWhole.read_unread _ _) j)

/-- The block written out by the last of four steps is the kept sum. -/
theorem out_last (c : Dev nD) (t : Fin cfg0.N) (h : t.val % 4 = 3) (j) : (outsAt0 m c t.val t.isLt).1 j = (outsAt0 m c t.val t.isLt).2 j := by
  rw [outsAt0_C m c t (by omega) (by omega) h]
  frame_out
  rw [last_pay]

/-- The result array of the call holds the plain product. -/
theorem final (c : Dev nD) : (dats m 0 c).arrAt 2 (cfgs 0).N
    = (truncf .bf16 (value (m ((c : Thread nD τ).loc main_arg0)) (m ((c : Thread nD τ).loc main_arg2))) bitsLt_bf16_f32 : FVec Ideal S1024x4096 .bf16) := by
  refine (dats m 0 c).arrAt_eq_of_covers 2 _ (by decide +kernel) fun t hf y => ?_
  blk_simp
  have h3 := (flush0_2 t).mp hf
  rw [after0_2]
  refine (out_last m c t h3 y).trans ?_
  refine (Pipeline.eq_sum_fin_of_reset_step_apply_of_flush (fun n h => (outsAt0 m c n h).2) 4 (fun _ => 0) _ (acc_first m c) (acc_next m c) t h3 y).trans ?_
  refine Eq.trans ?_ (value_at _ _ _).symm
  rw [zero_add]; refine Fin.sum_mul_add_congr fun s k hl => ?_
  blk_point [iblk, idx t, idx ⟨_, Pipeline.run_point_lt_of_flush t h3 s⟩]

/-- After the call the host casts the result array to f32. -/
theorem cast (c : Dev nD) (X : FVec Ideal S1024x4096 .bf16) (hX : (dats m 0 c).arrAt 2 (cfgs 0).N = X) :
    Pipeline.afterTail₀ cfgs (dats m) 0 (V0 m) [hostOps1] c main_v3 = (extf .f32 X bitsLt_bf16_f32 : FVec Ideal S1024x4096 .f32) := by
  unfold Pipeline.afterTail₀
  have h := Pipeline.withArrays_arr (cfgs 0).spec (by decide) c (V0 m c) (fun w => (dats m 0 c).arrAt w (cfgs 0).N) 2
  rw [hX] at h
  simp only [List.flatten_cons, List.flatten_nil, List.append_nil, hostOps1]
  revert h
  generalize Pipeline.withArrays _ _ _ _ = V
  intro h
  simp only [StableHlo.after_cons, StableHlo.after_nil]
  after_results_simp
  exact congrArg (extf .f32 · bitsLt_bf16_f32) h

/-- The call with the casts of the host and the plain product end with the same result. -/
theorem algebraic : Cert.algebraic_MlpDW1Ideal_MlpDW1RefIdeal := by
  pair_intro
  · run_from Cert.MlpDW1Ideal.Gen.run_main m g
    · exact W_main_arg0 m (dats m) c
    · exact W_main_arg1 m (dats m) c
    · exact W_main_arg2 m (dats m) c
  · hlo_run
    rw [cast m c _ (final m c)]
    rfl

end Cert.MlpDW1Ideal.Value

end
-- ==== Proof.S5DGlu.lean ====
module

public import proofs.«01_k».proof.Defs
public import proofs.«01_k».proof.Proof.Gen.S5DGluIdeal.Frame
public import proofs.«01_k».proof.Proof.Gen.S5DGluRefIdeal
public import Idealize.ShloMosaic.Lib.Claim
public import Idealize.ShloMosaic.Lib.Pipeline.ValueKit

@[expose] public section

/-! The gradient of the gate product of the S5 layer with respect to its rows. -/

set_option maxRecDepth 16384

noncomputable section

namespace Cert.S5DGluIdeal.Value

open Idealize.ShloMosaic Idealize.ShloMosaic.TcCoe Idealize.SL.Sem
open Cert.S5DGluIdeal Cert.S5DGluIdeal.Gen

variable (m : (ℓ : Loc nD τ sig) → Buf (Elt Ideal) ℓ)

/-- The plain product runs to its end and leaves no signal. -/
theorem frame_ref : Cert.quiescent_S5DGluRefIdeal (hS5DGluRefIdeal := Cert.S5DGluRefIdeal.Gen.facts) := by
  intro m g _
  refine (θ_run (Cert.S5DGluRefIdeal.defs (F := Ideal)) _ _).mono (fun r h => ⟨h, sem_eq_zero_of_no_sems (by decide) r.2⟩) ?_
  hlo_run

/-- The gradient of `g @ w_glu` with respect to `g`. -/
abbrev value (D : FVec Ideal Cert.S5DGluRefIdeal.S16384x2048 .f32) (W : FVec Ideal Cert.S5DGluRefIdeal.S1024x2048 .f32) :
    FVec Ideal Cert.S5DGluRefIdeal.S16384x1024 .f32 :=
  Host.dotGeneral Cert.S5DGluRefIdeal.dot_S16384x2048_S1024x2048_S16384x1024_1_1_0_0_n_n none D W

/-- The blocks that step `t` of the grid takes. -/
theorem idx : ∀ t : Fin cfg0.N, win0_0.index t = ![t.val, 0] ∧ win0_1.index t = ![0, 0] ∧ win0_2.index t = ![t.val, 0] :=
  (by decide +kernel : ∀ t : Fin grid0.N, _)

/-- Each entry that step `t` writes is that entry of the plain product. -/
theorem point (c : Dev nD) (t : Fin cfg0.N) (y) : k0_pay1 (iblk m c 0 t) (iblk m c 1 t) y
    = value (m ((c : Thread nD τ).loc main_arg2)) (m ((c : Thread nD τ).loc main_arg1)) (((cfg0.win 2).blk t).view.emb y) := by
  pointwise [k0_pay1, value]
  blk_point [iblk, idx t]

/-- The result array of the call holds the plain product. -/
theorem final (c : Dev nD) : (dats m 0 c).arrAt 2 (cfgs 0).N
    = value (m ((c : Thread nD τ).loc main_arg2)) (m ((c : Thread nD τ).loc main_arg1)) := by
  refine (dats m 0 c).arrAt_eq_of_covers 2 _ (by decide +kernel) fun t _ y => ?_
  blk_simp
  rw [after0_2]; frame_out
  exact point m c t y

/-- The call and the plain product end with the same result. -/
theorem algebraic : Cert.algebraic_S5DGluIdeal_S5DGluRefIdeal := by
  pair_intro
  · run_from Cert.S5DGluIdeal.Gen.run_main m g
  · hlo_run
    exact (final m c).symm

end Cert.S5DGluIdeal.Value

end
-- ==== Proof.S5DWGlu.lean ====
module

public import proofs.«01_k».proof.Defs
public import proofs.«01_k».proof.Proof.Gen.S5DWGluIdeal.Frame
public import proofs.«01_k».proof.Proof.Gen.S5DWGluRefIdeal
public import Idealize.ShloMosaic.Lib.Claim
public import Idealize.ShloMosaic.Lib.Pipeline.ValueKit

@[expose] public section

/-! The gradient of the gate weights of the S5 layer, summed over all rows in four parts. -/

set_option maxRecDepth 16384

noncomputable section

namespace Cert.S5DWGluIdeal.Value

open Idealize.ShloMosaic Idealize.ShloMosaic.TcCoe Idealize.SL.Sem
open Cert.S5DWGluIdeal Cert.S5DWGluIdeal.Gen

variable (m : (ℓ : Loc nD τ sig) → Buf (Elt Ideal) ℓ)

/-- The plain product runs to its end and leaves no signal. -/
theorem frame_ref : Cert.quiescent_S5DWGluRefIdeal (hS5DWGluRefIdeal := Cert.S5DWGluRefIdeal.Gen.facts) := by
  intro m g _
  refine (θ_run (Cert.S5DWGluRefIdeal.defs (F := Ideal)) _ _).mono (fun r h => ⟨h, sem_eq_zero_of_no_sems (by decide) r.2⟩) ?_
  hlo_run

/-- The gradient of `g @ w_glu` with respect to `w_glu`. -/
abbrev value (H : FVec Ideal Cert.S5DWGluRefIdeal.S16384x1024 .f32) (D : FVec Ideal Cert.S5DWGluRefIdeal.S16384x2048 .f32) : FVec Ideal Cert.S5DWGluRefIdeal.S1024x2048 .f32 :=
  transpose Cert.S5DWGluRefIdeal.S1024x2048 [1, 0]
    (Host.dotGeneral Cert.S5DWGluRefIdeal.dot_S16384x2048_S16384x1024_S2048x1024_0_0_1_1_n_n none D H) (by decide)

/-- Each entry of the plain product is a sum over all rows. -/
theorem value_at (H D j) : value H D j = ∑ l : Fin 16384, H (ix2 l (j 0)) * D (ix2 l (j 1)) := by
  pointwise [value]
  exact Finset.sum_congr rfl fun l _ => mul_comm _ _

/-- The blocks that step `t` of the grid takes: four steps in turn share one block of the result. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The block of the first array at step `t`. -/
abbrev rows (c : Dev nD) (t : Fin cfg0.N) : FVec Ideal S4096x1024 .bf16 := iblk m c 0 t

/-- The block of the second array at step `t`. -/
abbrev cols (c : Dev nD) (t : Fin cfg0.N) : FVec Ideal S4096x1024 .bf16 := iblk m c 1 t

/-- What the first of four steps stores: its own product. -/
theorem first_pay (x0 x1 j) : k0_pay2 (F := Ideal) x0 x1 j = ∑ k : Fin 4096, x0 (ix2 k (j 0)) * x1 (ix2 k (j 1)) := by
  pointwise [k0_pay2, k0_pay1]

/-- What a later step stores: the sum before and its own product. -/
theorem next_pay (a x0 x1 j) : k0_pay3 (F := Ideal) x0 x1 a j = a j + ∑ k : Fin 4096, x0 (ix2 k (j 0)) * x1 (ix2 k (j 1)) := by
  pointwise [k0_pay3, k0_pay1]

/-- What the last of four steps writes out: the sum. -/
theorem last_pay (a j) : k0_pay4 (F := Ideal) a j = a j := by
  pointwise [k0_pay4]

/-- The kept sum after the first of four steps. -/
theorem acc_first (c : Dev nD) (t : Fin cfg0.N) (h : t.val % 4 = 0) (j) : (outsAt0 m c t.val t.isLt).2 j
    = 0 + ∑ k : Fin 4096, rows m c t (ix2 k (j 0)) * cols m c t (ix2 k (j 1)) := by
  rw [outsAt0_A m c t h (by omega) (by omega)]; frame_out
  rw [first_pay, zero_add]

/-- The kept sum after a later step. -/
theorem acc_next (c : Dev nD) (t : Fin cfg0.N) (h : ¬t.val % 4 = 0) (j) : (outsAt0 m c t.val t.isLt).2 j
    = (outsAt0 m c (t.val - 1) (Nat.lt_of_le_of_lt (Nat.sub_le _ _) t.isLt)).2 j
      + ∑ k : Fin 4096, rows m c t (ix2 k (j 0)) * cols m c t (ix2 k (j 1)) := by
  by_cases h3 : t.val % 4 = 3
  · rw [outsAt0_C m c t h (by omega) h3]; frame_out
    rw [next_pay]
    exact congrArg (· + _) (congrFun (Memref.IsWhole.read_unread _ _) j)
  · rw [outsAt0_B m c t h (by omega) h3]; frame_out
    rw [next_pay]
    exact congrArg (· + _) (congrFun (Memref.IsWhole.read_unread _ _) j)

/-- The block written out by the last of four steps is the kept sum. -/
theorem out_last (c : Dev nD) (t : Fin cfg0.N) (h : t.val % 4 = 3) (j) : (outsAt0 m c t.val t.isLt).1 j = (outsAt0 m c t.val t.isLt).2 j := by
  rw [outsAt0_C m c t (by omega) (by omega) h]
  frame_out
  rw [last_pay]

/-- The result array of the call holds the plain product. -/
theorem final (c : Dev nD) : (dats m 0 c).arrAt 2 (cfgs 0).N
    = (truncf .bf16 (value (m ((c : Thread nD τ).loc main_arg0)) (m ((c : Thread nD τ).loc main_arg2))) bitsLt_bf16_f32 : FVec Ideal S1024x2048 .bf16) := by
  refine (dats m 0 c).arrAt_eq_of_covers 2 _ (by decide +kernel) fun t hf y => ?_
  blk_simp
  have h3 := (flush0_2 t).mp hf
  rw [after0_2]
  refine (out_last m c t h3 y).trans ?_
  refine (Pipeline.eq_sum_fin_of_reset_step_apply_of_flush (fun n h => (outsAt0 m c n h).2) 4 (fun _ => 0) _ (acc_first m c) (acc_next m c) t h3 y).trans ?_
  refine Eq.trans ?_ (value_at _ _ _).symm
  rw [zero_add]; refine Fin.sum_mul_add_congr fun s k hl => ?_
  blk_point [iblk, idx t, idx ⟨_, Pipeline.run_point_lt_of_flush t h3 s⟩]

/-- After the call the host casts the result array to f32. -/
theorem cast (c : Dev nD) (X : FVec Ideal S1024x2048 .bf16) (hX : (dats m 0 c).arrAt 2 (cfgs 0).N = X) :
    Pipeline.afterTail₀ cfgs (dats m) 0 (V0 m) [hostOps1] c main_v3 = (extf .f32 X bitsLt_bf16_f32 : FVec Ideal S1024x2048 .f32) := by
  unfold Pipeline.afterTail₀
  have h := Pipeline.withArrays_arr (cfgs 0).spec (by decide) c (V0 m c) (fun w => (dats m 0 c).arrAt w (cfgs 0).N) 2
  rw [hX] at h
  simp only [List.flatten_cons, List.flatten_nil, List.append_nil, hostOps1]
  revert h
  generalize Pipeline.withArrays _ _ _ _ = V
  intro h
  simp only [StableHlo.after_cons, StableHlo.after_nil]
  after_results_simp
  exact congrArg (extf .f32 · bitsLt_bf16_f32) h

/-- The call with the casts of the host and the plain product end with the same result. -/
theorem algebraic : Cert.algebraic_S5DWGluIdeal_S5DWGluRefIdeal := by
  pair_intro
  · run_from Cert.S5DWGluIdeal.Gen.run_main m g
    · exact W_main_arg0 m (dats m) c
    · exact W_main_arg1 m (dats m) c
    · exact W_main_arg2 m (dats m) c
  · hlo_run
    rw [cast m c _ (final m c)]
    rfl

end Cert.S5DWGluIdeal.Value

end
-- ==== Proof.S5DIn.lean ====
module

public import proofs.«01_k».proof.Defs
public import proofs.«01_k».proof.Proof.Gen.S5DInIdeal.Frame
public import proofs.«01_k».proof.Proof.Gen.S5DInRefIdeal
public import Idealize.ShloMosaic.Lib.Claim
public import Idealize.ShloMosaic.Lib.Pipeline.ValueKit

@[expose] public section

/-! The gradient of the input product of the S5 layer with respect to its rows. -/

set_option maxRecDepth 16384

noncomputable section

namespace Cert.S5DInIdeal.Value

open Idealize.ShloMosaic Idealize.ShloMosaic.TcCoe Idealize.SL.Sem
open Cert.S5DInIdeal Cert.S5DInIdeal.Gen

variable (m : (ℓ : Loc nD τ sig) → Buf (Elt Ideal) ℓ)

/-- The plain product runs to its end and leaves no signal. -/
theorem frame_ref : Cert.quiescent_S5DInRefIdeal (hS5DInRefIdeal := Cert.S5DInRefIdeal.Gen.facts) := by
  intro m g _
  refine (θ_run (Cert.S5DInRefIdeal.defs (F := Ideal)) _ _).mono (fun r h => ⟨h, sem_eq_zero_of_no_sems (by decide) r.2⟩) ?_
  hlo_run

/-- The gradient of `h @ w_in` with respect to `h`. -/
abbrev value (D : FVec Ideal Cert.S5DInRefIdeal.S16384x1024 .f32) (W : FVec Ideal Cert.S5DInRefIdeal.S1024x1024 .f32) :
    FVec Ideal Cert.S5DInRefIdeal.S16384x1024 .f32 :=
  Host.dotGeneral Cert.S5DInRefIdeal.dot_S16384x1024_S1024x1024_S16384x1024_1_1_0_0_n_n none D W

/-- The blocks that step `t` of the grid takes. -/
theorem idx : ∀ t : Fin cfg0.N, win0_0.index t = ![t.val, 0] ∧ win0_1.index t = ![0, 0] ∧ win0_2.index t = ![t.val, 0] :=
  (by decide +kernel : ∀ t : Fin grid0.N, _)

/-- Each entry that step `t` writes is that entry of the plain product. -/
theorem point (c : Dev nD) (t : Fin cfg0.N) (y) : k0_pay1 (iblk m c 0 t) (iblk m c 1 t) y
    = value (m ((c : Thread nD τ).loc main_arg2)) (m ((c : Thread nD τ).loc main_arg1)) (((cfg0.win 2).blk t).view.emb y) := by
  pointwise [k0_pay1, value]
  blk_point [iblk, idx t]

/-- The result array of the call holds the plain product. -/
theorem final (c : Dev nD) : (dats m 0 c).arrAt 2 (cfgs 0).N
    = value (m ((c : Thread nD τ).loc main_arg2)) (m ((c : Thread nD τ).loc main_arg1)) := by
  refine (dats m 0 c).arrAt_eq_of_covers 2 _ (by decide +kernel) fun t _ y => ?_
  blk_simp
  rw [after0_2]; frame_out
  exact point m c t y

/-- The call and the plain product end with the same result. -/
theorem algebraic : Cert.algebraic_S5DInIdeal_S5DInRefIdeal := by
  pair_intro
  · run_from Cert.S5DInIdeal.Gen.run_main m g
  · hlo_run
    exact (final m c).symm

end Cert.S5DInIdeal.Value

end
-- ==== Proof.S5DWIn.lean ====
module

public import proofs.«01_k».proof.Defs
public import proofs.«01_k».proof.Proof.Gen.S5DWInIdeal.Frame
public import proofs.«01_k».proof.Proof.Gen.S5DWInRefIdeal
public import Idealize.ShloMosaic.Lib.Claim
public import Idealize.ShloMosaic.Lib.Pipeline.ValueKit

@[expose] public section

/-! The gradient of the input weights of the S5 layer, summed over all rows in four parts. -/

set_option maxRecDepth 16384

noncomputable section

namespace Cert.S5DWInIdeal.Value

open Idealize.ShloMosaic Idealize.ShloMosaic.TcCoe Idealize.SL.Sem
open Cert.S5DWInIdeal Cert.S5DWInIdeal.Gen

variable (m : (ℓ : Loc nD τ sig) → Buf (Elt Ideal) ℓ)

/-- The plain product runs to its end and leaves no signal. -/
theorem frame_ref : Cert.quiescent_S5DWInRefIdeal (hS5DWInRefIdeal := Cert.S5DWInRefIdeal.Gen.facts) := by
  intro m g _
  refine (θ_run (Cert.S5DWInRefIdeal.defs (F := Ideal)) _ _).mono (fun r h => ⟨h, sem_eq_zero_of_no_sems (by decide) r.2⟩) ?_
  hlo_run

/-- The gradient of `h @ w_in` with respect to `w_in`. -/
abbrev value (H : FVec Ideal Cert.S5DWInRefIdeal.S16384x1024 .f32) (D : FVec Ideal Cert.S5DWInRefIdeal.S16384x1024 .f32) : FVec Ideal Cert.S5DWInRefIdeal.S1024x1024 .f32 :=
  transpose Cert.S5DWInRefIdeal.S1024x1024 [1, 0]
    (Host.dotGeneral Cert.S5DWInRefIdeal.dot_S16384x1024_S16384x1024_S1024x1024_0_0_1_1_n_n none D H) (by decide)

/-- Each entry of the plain product is a sum over all rows. -/
theorem value_at (H D j) : value H D j = ∑ l : Fin 16384, H (ix2 l (j 0)) * D (ix2 l (j 1)) := by
  pointwise [value]
  exact Finset.sum_congr rfl fun l _ => mul_comm _ _

/-- The blocks that step `t` of the grid takes: four steps in turn share one block of the result. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The block of the first array at step `t`. -/
abbrev rows (c : Dev nD) (t : Fin cfg0.N) : FVec Ideal S4096x1024 .bf16 := iblk m c 0 t

/-- The block of the second array at step `t`. -/
abbrev cols (c : Dev nD) (t : Fin cfg0.N) : FVec Ideal S4096x1024 .bf16 := iblk m c 1 t

/-- What the first of four steps stores: its own product. -/
theorem first_pay (x0 x1 j) : k0_pay2 (F := Ideal) x0 x1 j = ∑ k : Fin 4096, x0 (ix2 k (j 0)) * x1 (ix2 k (j 1)) := by
  pointwise [k0_pay2, k0_pay1]

/-- What a later step stores: the sum before and its own product. -/
theorem next_pay (a x0 x1 j) : k0_pay3 (F := Ideal) x0 x1 a j = a j + ∑ k : Fin 4096, x0 (ix2 k (j 0)) * x1 (ix2 k (j 1)) := by
  pointwise [k0_pay3, k0_pay1]

/-- What the last of four steps writes out: the sum. -/
theorem last_pay (a j) : k0_pay4 (F := Ideal) a j = a j := by
  pointwise [k0_pay4]

/-- The kept sum after the first of four steps. -/
theorem acc_first (c : Dev nD) (t : Fin cfg0.N) (h : t.val % 4 = 0) (j) : (outsAt0 m c t.val t.isLt).2 j
    = 0 + ∑ k : Fin 4096, rows m c t (ix2 k (j 0)) * cols m c t (ix2 k (j 1)) := by
  have h4 : t.val < 4 := t.isLt
  rw [outsAt0_A m c t h (by omega) (by omega)]; frame_out
  rw [first_pay, zero_add]

/-- The kept sum after a later step. -/
theorem acc_next (c : Dev nD) (t : Fin cfg0.N) (h : ¬t.val % 4 = 0) (j) : (outsAt0 m c t.val t.isLt).2 j
    = (outsAt0 m c (t.val - 1) (Nat.lt_of_le_of_lt (Nat.sub_le _ _) t.isLt)).2 j
      + ∑ k : Fin 4096, rows m c t (ix2 k (j 0)) * cols m c t (ix2 k (j 1)) := by
  by_cases h3 : t.val % 4 = 3
  · rw [outsAt0_C m c t h (by omega) h3]; frame_out
    rw [next_pay]
    exact congrArg (· + _) (congrFun (Memref.IsWhole.read_unread _ _) j)
  · rw [outsAt0_B m c t h (by omega) h3]; frame_out
    rw [next_pay]
    exact congrArg (· + _) (congrFun (Memref.IsWhole.read_unread _ _) j)

/-- The block written out by the last of four steps is the kept sum. -/
theorem out_last (c : Dev nD) (t : Fin cfg0.N) (h : t.val % 4 = 3) (j) : (outsAt0 m c t.val t.isLt).1 j = (outsAt0 m c t.val t.isLt).2 j := by
  rw [outsAt0_C m c t (by omega) (by omega) h]
  frame_out
  rw [last_pay]

/-- The result array of the call holds the plain product. -/
theorem final (c : Dev nD) : (dats m 0 c).arrAt 2 (cfgs 0).N
    = (truncf .bf16 (value (m ((c : Thread nD τ).loc main_arg0)) (m ((c : Thread nD τ).loc main_arg2))) bitsLt_bf16_f32 : FVec Ideal S1024x1024 .bf16) := by
  refine (dats m 0 c).arrAt_eq_of_covers 2 _ (by decide +kernel) fun t hf y => ?_
  blk_simp
  have h3 := (flush0_2 t).mp hf
  rw [after0_2]
  refine (out_last m c t h3 y).trans ?_
  refine (Pipeline.eq_sum_fin_of_reset_step_apply_of_flush (fun n h => (outsAt0 m c n h).2) 4 (fun _ => 0) _ (acc_first m c) (acc_next m c) t h3 y).trans ?_
  refine Eq.trans ?_ (value_at _ _ _).symm
  rw [zero_add]; refine Fin.sum_mul_add_congr fun s k hl => ?_
  blk_point [iblk, idx t, idx ⟨_, Pipeline.run_point_lt_of_flush t h3 s⟩]

/-- After the call the host casts the result array to f32. -/
theorem cast (c : Dev nD) (X : FVec Ideal S1024x1024 .bf16) (hX : (dats m 0 c).arrAt 2 (cfgs 0).N = X) :
    Pipeline.afterTail₀ cfgs (dats m) 0 (V0 m) [hostOps1] c main_v3 = (extf .f32 X bitsLt_bf16_f32 : FVec Ideal S1024x1024 .f32) := by
  unfold Pipeline.afterTail₀
  have h := Pipeline.withArrays_arr (cfgs 0).spec (by decide) c (V0 m c) (fun w => (dats m 0 c).arrAt w (cfgs 0).N) 2
  rw [hX] at h
  simp only [List.flatten_cons, List.flatten_nil, List.append_nil, hostOps1]
  revert h
  generalize Pipeline.withArrays _ _ _ _ = V
  intro h
  simp only [StableHlo.after_cons, StableHlo.after_nil]
  after_results_simp
  exact congrArg (extf .f32 · bitsLt_bf16_f32) h

/-- The call with the casts of the host and the plain product end with the same result. -/
theorem algebraic : Cert.algebraic_S5DWInIdeal_S5DWInRefIdeal := by
  pair_intro
  · run_from Cert.S5DWInIdeal.Gen.run_main m g
    · exact W_main_arg0 m (dats m) c
    · exact W_main_arg1 m (dats m) c
    · exact W_main_arg2 m (dats m) c
  · hlo_run
    rw [cast m c _ (final m c)]
    rfl

end Cert.S5DWInIdeal.Value

end
-- ==== Proof.SsdDOut.lean ====
module

public import proofs.«01_k».proof.Defs
public import proofs.«01_k».proof.Proof.Gen.SsdDOutIdeal.Frame
public import proofs.«01_k».proof.Proof.Gen.SsdDOutRefIdeal
public import Idealize.ShloMosaic.Lib.Claim
public import Idealize.ShloMosaic.Lib.Pipeline.ValueKit

@[expose] public section

/-! The gradient of `gate * (y @ w_out)` with respect to `y`: the call takes the weights already scaled by the gate. -/

set_option maxRecDepth 16384

noncomputable section

namespace Cert.SsdDOutIdeal.Value

open Idealize.ShloMosaic Idealize.ShloMosaic.TcCoe Idealize.SL.Sem
open Cert.SsdDOutIdeal Cert.SsdDOutIdeal.Gen

variable (m : (ℓ : Loc nD τ sig) → Buf (Elt Ideal) ℓ)

/-- The plain product runs to its end and leaves no signal. -/
theorem frame_ref : Cert.quiescent_SsdDOutRefIdeal (hSsdDOutRefIdeal := Cert.SsdDOutRefIdeal.Gen.facts) := by
  intro m g _
  refine (θ_run (Cert.SsdDOutRefIdeal.defs (F := Ideal)) _ _).mono (fun r h => ⟨h, sem_eq_zero_of_no_sems (by decide) r.2⟩) ?_
  hlo_run

/-- The gradient of `gate * (y @ w_out)` with respect to `y`. -/
abbrev value (D : FVec Ideal Cert.SsdDOutRefIdeal.S16384x1024 .f32) (W : FVec Ideal Cert.SsdDOutRefIdeal.S2048x1024 .f32) (G : FVec Ideal Cert.SsdDOutRefIdeal.S1x1024 .f32) :
    FVec Ideal Cert.SsdDOutRefIdeal.S16384x2048 .f32 :=
  Host.dotGeneral Cert.SsdDOutRefIdeal.dot_S16384x1024_S2048x1024_S16384x2048_1_1_0_0_n_n none
    (mulf (broadcastInDim Cert.SsdDOutRefIdeal.S16384x1024 ![0, 1] (by decide) G) D) W

/-- The blocks that step `t` of the grid takes. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The gradient that the call takes. -/
theorem entry2 (c : Dev nD) : V m c main_v2 = (truncf .bf16 (m ((c : Thread nD τ).loc main_arg3)) bitsLt_bf16_f32 : FVec Ideal S16384x1024 .bf16) := by
  entry_read
  rfl

/-- The weights that the call takes, scaled by the gate. -/
theorem entry3 (c : Dev nD) : V m c main_v3 = (truncf .bf16 (mulf (m ((c : Thread nD τ).loc main_arg1))
    (broadcastInDim S2048x1024 ![0, 1] bcast_S1x1024_S2048x1024_0_1 (m ((c : Thread nD τ).loc main_arg2)))) bitsLt_bf16_f32 : FVec Ideal S2048x1024 .bf16) := by
  entry_read
  rfl

/-- Each entry that step `t` writes is that entry of the plain product. -/
theorem point (c : Dev nD) (t : Fin cfg0.N) (y) : k0_pay1 (iblk m c 0 t) (iblk m c 1 t) y
    = value (m ((c : Thread nD τ).loc main_arg3)) (m ((c : Thread nD τ).loc main_arg1)) (m ((c : Thread nD τ).loc main_arg2)) (((cfg0.win 2).blk t).view.emb y) := by
  pointwise [k0_pay1, value]
  blk_simp [iblk, idx t]
  rw [entry2, entry3]
  pointwise
  have e : ∀ a b g : EReal, a * (b * g) = g * a * b := fun a b g => by rw [← mul_assoc, mul_comm]; exact (mul_assoc _ _ _).symm
  simp only [e]
  blk_point [idx t]

/-- The result array of the call holds the plain product. -/
theorem final (c : Dev nD) : (dats m 0 c).arrAt 2 (cfgs 0).N
    = value (m ((c : Thread nD τ).loc main_arg3)) (m ((c : Thread nD τ).loc main_arg1)) (m ((c : Thread nD τ).loc main_arg2)) := by
  refine (dats m 0 c).arrAt_eq_of_covers 2 _ (by decide +kernel) fun t _ y => ?_
  blk_simp
  rw [after0_2]; frame_out
  exact point m c t y

/-- The call and the plain product end with the same result. -/
theorem algebraic : Cert.algebraic_SsdDOutIdeal_SsdDOutRefIdeal := by
  pair_intro
  · run_from Cert.SsdDOutIdeal.Gen.run_main m g
  · hlo_run
    exact (final m c).symm

end Cert.SsdDOutIdeal.Value

end
-- ==== Proof.SsdDWOut.lean ====
module

public import proofs.«01_k».proof.Defs
public import proofs.«01_k».proof.Proof.Finite
public import proofs.«01_k».proof.Proof.Gen.SsdDWOutIdeal.Frame
public import proofs.«01_k».proof.Proof.Gen.SsdDWOutRefIdeal
public import proofs.«01_k».proof.Proof.Gen.Pre_ssd_finite
public import Idealize.ShloMosaic.Lib.Claim
public import Idealize.ShloMosaic.Lib.Pipeline.ValueKit

@[expose] public section

/-! The gradients of the second weights of the SSD layers and of their gate, summed over all rows in eight parts. -/

set_option maxRecDepth 16384

noncomputable section

namespace Cert.SsdDWOutIdeal.Value

open Idealize.ShloMosaic Idealize.ShloMosaic.TcCoe Idealize.SL.Sem
open Cert.SsdDWOutIdeal Cert.SsdDWOutIdeal.Gen

variable (m : (ℓ : Loc nD τ sig) → Buf (Elt Ideal) ℓ)

/-- The plain products run to their end and leave no signal. -/
theorem frame_ref : Cert.quiescent_SsdDWOutRefIdeal (hSsdDWOutRefIdeal := Cert.SsdDWOutRefIdeal.Gen.facts) := by
  intro m g _
  refine (θ_run (Cert.SsdDWOutRefIdeal.defs (F := Ideal)) _ _).mono (fun r h => ⟨h, sem_eq_zero_of_no_sems (by decide) r.2⟩) ?_
  hlo_run

/-- The activations, the rows of `y`. -/
abbrev act (c : Dev nD) : FVec Ideal S16384x2048 .f32 := m ((c : Thread nD τ).loc main_arg0)
/-- The weights. -/
abbrev wts (c : Dev nD) : FVec Ideal S2048x1024 .f32 := m ((c : Thread nD τ).loc main_arg1)
/-- The gate. -/
abbrev gate (c : Dev nD) : FVec Ideal S1x1024 .f32 := m ((c : Thread nD τ).loc main_arg2)
/-- The gradient that comes in. -/
abbrev ct (c : Dev nD) : FVec Ideal S16384x1024 .f32 := m ((c : Thread nD τ).loc main_arg3)

/-- The gradient of `y @ w_out` with respect to `w_out`, at one entry: a sum over all rows. -/
abbrev prod (A : FVec Ideal S16384x2048 .f32) (C : FVec Ideal S16384x1024 .f32) (f : Fin 2048) (d : Fin 1024) : EReal :=
  ∑ l : Fin 16384, A (ix2 l f) * C (ix2 l d)

/-- The blocks that step `t` of the grid takes: eight steps in turn share one block of each result. -/
theorem idx : ∀ t : Fin cfg0.N, win0_0.index t = ![t.val % 8, t.val / 8] ∧ win0_1.index t = ![t.val % 8, 0] ∧ win0_2.index t = ![t.val / 8, 0]
    ∧ win0_3.index t = ![0, 0] ∧ win0_4.index t = ![t.val / 8, 0] ∧ win0_5.index t = ![t.val / 8, 0, 0] :=
  (by decide +kernel : ∀ t : Fin grid0.N, _)

/-- The block of the activations at step `t`. -/
abbrev rows (c : Dev nD) (t : Fin cfg0.N) : FVec Ideal S2048x1024 .bf16 := iblk m c 0 t

/-- The block of the incoming gradient at step `t`. -/
abbrev cols (c : Dev nD) (t : Fin cfg0.N) : FVec Ideal S2048x1024 .bf16 := iblk m c 1 t

/-- What the first of eight steps stores: its own product. -/
theorem first_pay (x0 x1 j) : k0_pay2 (F := Ideal) x0 x1 j = ∑ k : Fin 2048, x0 (ix2 k (j 0)) * x1 (ix2 k (j 1)) := by
  pointwise [k0_pay2, k0_pay1]

/-- What a later step stores: the sum before and its own product. -/
theorem next_pay (a x0 x1 j) : k0_pay3 (F := Ideal) x0 x1 a j = a j + ∑ k : Fin 2048, x0 (ix2 k (j 0)) * x1 (ix2 k (j 1)) := by
  pointwise [k0_pay3, k0_pay1]

/-- What the last of eight steps writes to the first result: the sum, scaled by the gate. -/
theorem last_pay (a g j) : k0_pay5 (F := Ideal) a g j = a j * g (ix2 0 (j 1)) := by
  pointwise [k0_pay5]

/-- What the last of eight steps writes to the second result: the sum times the weights, summed over the rows of the block. -/
theorem gate_pay (a w j) : k0_pay4 (F := Ideal) a w j = ∑ f : Fin 1024, a (ix2 f (j 2)) * w (ix2 f (j 2)) := by
  pointwise [k0_pay4]

/-- The kept sum after the first of eight steps. -/
theorem acc_first (c : Dev nD) (t : Fin cfg0.N) (h : t.val % 8 = 0) (j) : (outsAt0 m c t.val t.isLt).2.2 j
    = 0 + ∑ k : Fin 2048, rows m c t (ix2 k (j 0)) * cols m c t (ix2 k (j 1)) := by
  rw [outsAt0_A m c t h (by omega) (by omega)]; frame_out
  rw [first_pay, zero_add]

/-- The kept sum after a later step. -/
theorem acc_next (c : Dev nD) (t : Fin cfg0.N) (h : ¬t.val % 8 = 0) (j) : (outsAt0 m c t.val t.isLt).2.2 j
    = (outsAt0 m c (t.val - 1) (Nat.lt_of_le_of_lt (Nat.sub_le _ _) t.isLt)).2.2 j
      + ∑ k : Fin 2048, rows m c t (ix2 k (j 0)) * cols m c t (ix2 k (j 1)) := by
  by_cases h7 : t.val % 8 = 7
  · rw [outsAt0_C m c t h (by omega) h7]; frame_out
    rw [next_pay]
    exact congrArg (· + _) (congrFun (Memref.IsWhole.read_unread _ _) j)
  · rw [outsAt0_B m c t h (by omega) h7]; frame_out
    rw [next_pay]
    exact congrArg (· + _) (congrFun (Memref.IsWhole.read_unread _ _) j)

/-- The kept sum after the last of eight steps is the sum over all rows. -/
theorem acc_last (c : Dev nD) (t : Fin cfg0.N) (h : t.val % 8 = 7) (j : S1024x1024.Idx) (f : Fin 2048) (hf : f.val = t.val / 8 * 1024 + (j 0).val) :
    (outsAt0 m c t.val t.isLt).2.2 j = prod (act m c) (ct m c) f (j 1) := by
  refine (Pipeline.eq_sum_fin_of_reset_step_apply_of_flush (fun n h => (outsAt0 m c n h).2.2) 8 (fun _ => 0) _ (acc_first m c) (acc_next m c) t h j).trans ?_
  rw [zero_add]; refine Fin.sum_mul_add_congr fun s k hl => ?_
  blk_point [iblk, idx t, idx ⟨_, Pipeline.run_point_lt_of_flush t h s⟩]

/-- The block of the first result that the last of eight steps writes. -/
theorem out_last (c : Dev nD) (t : Fin cfg0.N) (h : t.val % 8 = 7) (j) : (outsAt0 m c t.val t.isLt).1 j
    = (outsAt0 m c t.val t.isLt).2.2 j * iblk m c 3 t (ix2 0 (j 1)) := by
  rw [outsAt0_C m c t (by omega) (by omega) h]
  frame_out
  rw [last_pay]

/-- The block of the second result that the last of eight steps writes. -/
theorem gate_last (c : Dev nD) (t : Fin cfg0.N) (h : t.val % 8 = 7) (j) : (outsAt0 m c t.val t.isLt).2.1 j
    = ∑ f : Fin 1024, (outsAt0 m c t.val t.isLt).2.2 (ix2 f (j 2)) * iblk m c 2 t (ix2 f (j 2)) := by
  rw [outsAt0_C m c t (by omega) (by omega) h]
  frame_out
  rw [gate_pay]

/-- Row `f` of block `i` of the weights. -/
abbrev row (i : Fin 2) (f : Fin 1024) : Fin 2048 := ⟨i.val * 1024 + f.val, by omega⟩

/-- The first result array of the call: the sums over all rows, scaled by the gate. -/
theorem final (c : Dev nD) : (dats m 0 c).arrAt 4 (cfgs 0).N
    = (fun j => prod (act m c) (ct m c) (j 0) (j 1) * gate m c (ix2 0 (j 1)) : FVec Ideal S2048x1024 .bf16) := by
  refine (dats m 0 c).arrAt_eq_of_covers 4 _ (by decide +kernel) fun t hf y => ?_
  have h7 := (flush0_4 t).mp hf
  blk_simp
  rw [after0_4]
  refine (out_last m c t h7 y).trans ?_
  refine congrArg₂ (fun a b : EReal => a * b) ((acc_last m c t h7 y ((win0_4.blk t).view.emb y 0) ?_).trans ?_) ?_
  · blk_simp [idx t]
  · refine congrArg (prod (act m c) (ct m c) _) (Fin.ext ?_)
    blk_simp [idx t]
  · blk_point [iblk, idx t]

/-- The second result array of the call: for each block of the weights, the sums over all rows times the weights. -/
theorem final_gate (c : Dev nD) : (dats m 0 c).arrAt 5 (cfgs 0).N
    = (fun j => ∑ f : Fin 1024, prod (act m c) (ct m c) (row (j 0) f) (j 2) * wts m c (ix2 (row (j 0) f) (j 2)) : FVec Ideal S2x1x1024 .f32) := by
  refine (dats m 0 c).arrAt_eq_of_covers 5 _ (by decide +kernel) fun t hf y => ?_
  have h7 := (flush0_5 t).mp hf
  blk_simp
  rw [after0_5]
  refine (gate_last m c t h7 y).trans ?_
  have e : ((win0_5.blk t).view.emb y 0).val = t.val / 8 := by
    have h0 : (y 0).val < 1 := (y 0).isLt
    blk_simp [idx t]
  refine Finset.sum_congr rfl fun f _ => ?_
  refine congrArg₂ (fun a b : EReal => a * b) ((acc_last m c t h7 (ix2 f (y 2)) (row ((win0_5.blk t).view.emb y 0) f) ?_).trans ?_) ?_
  · exact congrArg (· * 1024 + f.val) e
  · refine congrArg (prod (act m c) (ct m c) _) (Fin.ext ?_)
    blk_simp [idx t]
  · have e' : (row ((win0_5.blk t).view.emb y 0) f).val = t.val / 8 * 1024 + f.val := congrArg (· * 1024 + f.val) e
    generalize row ((win0_5.blk t).view.emb y 0) f = r at e' ⊢
    blk_point [iblk, idx t]

/-- After the call the host casts the first result array to f32. -/
theorem cast (c : Dev nD) (X : FVec Ideal S2048x1024 .bf16) (hX : (dats m 0 c).arrAt 4 (cfgs 0).N = X) :
    Pipeline.afterTail₀ cfgs (dats m) 0 (V0 m) [hostOps1] c main_v4 = (extf .f32 X bitsLt_bf16_f32 : FVec Ideal S2048x1024 .f32) := by
  unfold Pipeline.afterTail₀
  have h := Pipeline.withArrays_arr (cfgs 0).spec (by decide) c (V0 m c) (fun w => (dats m 0 c).arrAt w (cfgs 0).N) 4
  rw [hX] at h
  simp only [List.flatten_cons, List.flatten_nil, List.append_nil, hostOps1]
  revert h
  generalize Pipeline.withArrays _ _ _ _ = V
  intro h
  simp only [StableHlo.after_cons, StableHlo.after_nil]
  after_results_simp
  exact congrArg (extf .f32 · bitsLt_bf16_f32) h

/-- After the call the host sums the second result array over the blocks of the weights. -/
theorem total (c : Dev nD) (X : FVec Ideal S2x1x1024 .f32) (hX : (dats m 0 c).arrAt 5 (cfgs 0).N = X) :
    Pipeline.afterTail₀ cfgs (dats m) 0 (V0 m) [hostOps1] c main_v5
      = (Host.reduceAdd X (constant S_ .f32 0x00000000#32) reducesTo_S2x1x1024_S1x1024_d0 h_S_ : FVec Ideal S1x1024 .f32) := by
  unfold Pipeline.afterTail₀
  have h := Pipeline.withArrays_arr (cfgs 0).spec (by decide) c (V0 m c) (fun w => (dats m 0 c).arrAt w (cfgs 0).N) 5
  rw [hX] at h
  simp only [List.flatten_cons, List.flatten_nil, List.append_nil, hostOps1]
  revert h
  generalize Pipeline.withArrays _ _ _ _ = V
  intro h
  simp only [StableHlo.after_cons, StableHlo.after_nil]
  after_results_simp
  exact congrArg (Host.reduceAdd · _ _ _) h

/-- The precondition says that the four arguments are arrays of reals. -/
theorem real (hpre : Cert.Pre_SsdDWOutIdeal_ssd_finite m) (c : Dev nD) :
    (∃ r : S16384x2048.Idx → ℝ, ∀ i, (act m c i : EReal) = r i) ∧ (∃ r : S2048x1024.Idx → ℝ, ∀ i, (wts m c i : EReal) = r i)
    ∧ (∃ r : S1x1024.Idx → ℝ, ∀ i, (gate m c i : EReal) = r i) ∧ (∃ r : S16384x1024.Idx → ℝ, ∀ i, (ct m c i : EReal) = r i) := by
  have h := congrFun (hpre c) (fun d => d.elim0)
  obtain ⟨h, h3⟩ := Cert.Finite.and_split _ _ h
  obtain ⟨h, h2⟩ := Cert.Finite.and_split _ _ h
  obtain ⟨h0, h1⟩ := Cert.Finite.and_split _ _ h
  exact ⟨Cert.Finite.reals _ _ _ _ _ _ (fun _ => rfl) h0, Cert.Finite.reals _ _ _ _ _ _ (fun _ => rfl) h1,
    Cert.Finite.reals _ _ _ _ _ _ (fun _ => rfl) h2, Cert.Finite.reals _ _ _ _ _ _ (fun _ => rfl) h3⟩

/-- Of reals, the gate may be drawn into the sum over the rows. -/
theorem scale_eq {A : FVec Ideal S16384x2048 .f32} {C : FVec Ideal S16384x1024 .f32} {G : FVec Ideal S1x1024 .f32} {a : S16384x2048.Idx → ℝ}
    {c : S16384x1024.Idx → ℝ} {g : S1x1024.Idx → ℝ} (hA : ∀ i, (A i : EReal) = a i) (hC : ∀ i, (C i : EReal) = c i) (hG : ∀ i, (G i : EReal) = g i)
    (f : Fin 2048) (d : Fin 1024) :
    ∑ l : Fin 16384, (G (ix2 0 d) * C (ix2 l d)) * A (ix2 l f) = prod A C f d * G (ix2 0 d) := by
  simp only [prod, hA, hC, hG]
  exact (Cert.Finite.sum_scale (fun l : Fin 16384 => a (ix2 l f)) (fun l => c (ix2 l d)) (g (ix2 0 d))).symm

/-- Of reals, the sum over the rows and the sum over the weights may change places. -/
theorem swap_eq {A : FVec Ideal S16384x2048 .f32} {C : FVec Ideal S16384x1024 .f32} {W : FVec Ideal S2048x1024 .f32} {a : S16384x2048.Idx → ℝ}
    {c : S16384x1024.Idx → ℝ} {w : S2048x1024.Idx → ℝ} (hA : ∀ i, (A i : EReal) = a i) (hC : ∀ i, (C i : EReal) = c i) (hW : ∀ i, (W i : EReal) = w i)
    (d : Fin 1024) :
    ∑ l : Fin 16384, C (ix2 l d) * ∑ f : Fin 2048, A (ix2 l f) * W (ix2 f d)
      = ∑ i : Fin 2, ∑ f : Fin 1024, prod A C (row i f) d * W (ix2 (row i f) d) := by
  refine Eq.trans ?_ (Fin.sum_mul_add_fin 2 1024 fun f : Fin 2048 => prod A C f d * W (ix2 f d)).symm
  simp only [prod, hA, hC, hW]
  exact (Cert.Finite.sum_swap (fun (l : Fin 16384) (f : Fin 2048) => a (ix2 l f)) (fun l => c (ix2 l d)) (fun f => w (ix2 f d))).symm

/-- Of finite arguments, the call and the plain products end with the same gradients. -/
theorem algebraic : Cert.algebraic_SsdDWOutIdeal_SsdDWOutRefIdeal_pre_ssd_finite := by
  pair_intro
  · run_from Cert.SsdDWOutIdeal.Gen.run_main m g
    · exact W_main_arg0 m (dats m) c
    · exact W_main_arg1 m (dats m) c
    · exact W_main_arg3 m (dats m) c
  · hlo_run
    · obtain ⟨⟨_, hA⟩, _, ⟨_, hG⟩, ⟨_, hC⟩⟩ := real m hpre c
      rw [cast m c _ (final m c)]
      funext j
      pointwise
      exact scale_eq hA hC hG (j 0) (j 1)
    · obtain ⟨⟨_, hA⟩, ⟨_, hW⟩, _, ⟨_, hC⟩⟩ := real m hpre c
      rw [total m c _ (final_gate m c)]
      funext j
      pointwise
      exact swap_eq hA hC hW (j 1)

end Cert.SsdDWOutIdeal.Value

end
-- ==== Proof.SsdDInZ.lean ====
module

public import proofs.«01_k».proof.Defs
public import proofs.«01_k».proof.Proof.Gen.SsdDInZIdeal.Frame
public import proofs.«01_k».proof.Proof.Gen.SsdDInZRefIdeal
public import Idealize.ShloMosaic.Lib.Claim
public import Idealize.ShloMosaic.Lib.Pipeline.ValueKit

@[expose] public section

/-! The part of the gradient of the SSD layer's input that comes back through `z`. -/

set_option maxRecDepth 16384

noncomputable section

namespace Cert.SsdDInZIdeal.Value

open Idealize.ShloMosaic Idealize.ShloMosaic.TcCoe Idealize.SL.Sem
open Cert.SsdDInZIdeal Cert.SsdDInZIdeal.Gen

variable (m : (ℓ : Loc nD τ sig) → Buf (Elt Ideal) ℓ)

/-- The plain product runs to its end and leaves no signal. -/
theorem frame_ref : Cert.quiescent_SsdDInZRefIdeal (hSsdDInZRefIdeal := Cert.SsdDInZRefIdeal.Gen.facts) := by
  intro m g _
  refine (θ_run (Cert.SsdDInZRefIdeal.defs (F := Ideal)) _ _).mono (fun r h => ⟨h, sem_eq_zero_of_no_sems (by decide) r.2⟩) ?_
  hlo_run

/-- The gradient of `h @ w_in[:, :2048]` with respect to `h`. -/
abbrev value (D : FVec Ideal Cert.SsdDInZRefIdeal.S16384x2048 .f32) (W : FVec Ideal Cert.SsdDInZRefIdeal.S1024x5152 .f32) :
    FVec Ideal Cert.SsdDInZRefIdeal.S16384x1024 .f32 :=
  Host.dotGeneral Cert.SsdDInZRefIdeal.dot_S16384x2048_S1024x2048_S16384x1024_1_1_0_0_n_n none D (extractStridedSlice Cert.SsdDInZRefIdeal.S1024x2048 ![0, 0] W (by decide))

/-- The blocks that step `t` of the grid takes. -/
theorem idx : ∀ t : Fin cfg0.N, win0_0.index t = ![t.val, 0] ∧ win0_1.index t = ![0, 0] ∧ win0_2.index t = ![t.val, 0] :=
  (by decide +kernel : ∀ t : Fin grid0.N, _)

/-- Each entry that step `t` writes is that entry of the plain product. -/
theorem point (c : Dev nD) (t : Fin cfg0.N) (y) : k0_pay1 (iblk m c 0 t) (iblk m c 1 t) y
    = value (m ((c : Thread nD τ).loc main_arg2)) (m ((c : Thread nD τ).loc main_arg1)) (((cfg0.win 2).blk t).view.emb y) := by
  pointwise [k0_pay1, value]
  blk_point [iblk, idx t]

/-- The result array of the call holds the plain product. -/
theorem final (c : Dev nD) : (dats m 0 c).arrAt 2 (cfgs 0).N
    = value (m ((c : Thread nD τ).loc main_arg2)) (m ((c : Thread nD τ).loc main_arg1)) := by
  refine (dats m 0 c).arrAt_eq_of_covers 2 _ (by decide +kernel) fun t _ y => ?_
  blk_simp
  rw [after0_2]; frame_out
  exact point m c t y

/-- The call and the plain product end with the same result. -/
theorem algebraic : Cert.algebraic_SsdDInZIdeal_SsdDInZRefIdeal := by
  pair_intro
  · run_from Cert.SsdDInZIdeal.Gen.run_main m g
  · hlo_run
    exact (final m c).symm

end Cert.SsdDInZIdeal.Value

end
-- ==== Proof.SsdDInXbc.lean ====
module

public import proofs.«01_k».proof.Defs
public import proofs.«01_k».proof.Proof.Gen.SsdDInXbcIdeal.Frame
public import proofs.«01_k».proof.Proof.Gen.SsdDInXbcRefIdeal
public import Idealize.ShloMosaic.Lib.Claim
public import Idealize.ShloMosaic.Lib.Pipeline.ValueKit

@[expose] public section

/-! The part of the gradient of the SSD layer's input that comes back through `xbc`, added to the part before. -/

set_option maxRecDepth 16384

noncomputable section

namespace Cert.SsdDInXbcIdeal.Value

open Idealize.ShloMosaic Idealize.ShloMosaic.TcCoe Idealize.SL.Sem
open Cert.SsdDInXbcIdeal Cert.SsdDInXbcIdeal.Gen

variable (m : (ℓ : Loc nD τ sig) → Buf (Elt Ideal) ℓ)

/-- The plain product runs to its end and leaves no signal. -/
theorem frame_ref : Cert.quiescent_SsdDInXbcRefIdeal (hSsdDInXbcRefIdeal := Cert.SsdDInXbcRefIdeal.Gen.facts) := by
  intro m g _
  refine (θ_run (Cert.SsdDInXbcRefIdeal.defs (F := Ideal)) _ _).mono (fun r h => ⟨h, sem_eq_zero_of_no_sems (by decide) r.2⟩) ?_
  hlo_run

/-- The gradient of `h @ w_in[:, 2048:5120]` with respect to `h`, added to `dh`. -/
abbrev value (D : FVec Ideal Cert.SsdDInXbcRefIdeal.S16384x3072 .f32) (W : FVec Ideal Cert.SsdDInXbcRefIdeal.S1024x5152 .f32) (X : FVec Ideal Cert.SsdDInXbcRefIdeal.S16384x1024 .f32) :
    FVec Ideal Cert.SsdDInXbcRefIdeal.S16384x1024 .f32 :=
  addf X (Host.dotGeneral Cert.SsdDInXbcRefIdeal.dot_S16384x3072_S1024x3072_S16384x1024_1_1_0_0_n_n none D
    (extractStridedSlice Cert.SsdDInXbcRefIdeal.S1024x3072 ![0, 2048] W (by decide)))

/-- The blocks that step `t` of the grid takes. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- Each entry that step `t` writes is that entry of the plain product. -/
theorem point (c : Dev nD) (t : Fin cfg0.N) (y) : k0_pay1 (iblk m c 0 t) (iblk m c 1 t) (iblk m c 2 t) y
    = value (m ((c : Thread nD τ).loc main_arg2)) (m ((c : Thread nD τ).loc main_arg1)) (m ((c : Thread nD τ).loc main_arg3)) (((cfg0.win 3).blk t).view.emb y) := by
  pointwise [k0_pay1, value]
  blk_point [iblk, idx t]

/-- The result array of the call holds the plain product. -/
theorem final (c : Dev nD) : (dats m 0 c).arrAt 3 (cfgs 0).N
    = value (m ((c : Thread nD τ).loc main_arg2)) (m ((c : Thread nD τ).loc main_arg1)) (m ((c : Thread nD τ).loc main_arg3)) := by
  refine (dats m 0 c).arrAt_eq_of_covers 3 _ (by decide +kernel) fun t _ y => ?_
  blk_simp
  rw [after0_3]; frame_out
  exact point m c t y

/-- The call and the plain product end with the same result. -/
theorem algebraic : Cert.algebraic_SsdDInXbcIdeal_SsdDInXbcRefIdeal := by
  pair_intro
  · run_from Cert.SsdDInXbcIdeal.Gen.run_main m g
  · hlo_run
    exact (final m c).symm

end Cert.SsdDInXbcIdeal.Value

end
-- ==== Proof.SsdDWZ.lean ====
module

public import proofs.«01_k».proof.Defs
public import proofs.«01_k».proof.Proof.Gen.SsdDWZIdeal.Frame
public import proofs.«01_k».proof.Proof.Gen.SsdDWZRefIdeal
public import Idealize.ShloMosaic.Lib.Claim
public import Idealize.ShloMosaic.Lib.Pipeline.ValueKit

@[expose] public section

/-! The gradient of the weights of `z` in the SSD layer, summed over all rows in four parts. -/

set_option maxRecDepth 16384

noncomputable section

namespace Cert.SsdDWZIdeal.Value

open Idealize.ShloMosaic Idealize.ShloMosaic.TcCoe Idealize.SL.Sem
open Cert.SsdDWZIdeal Cert.SsdDWZIdeal.Gen

variable (m : (ℓ : Loc nD τ sig) → Buf (Elt Ideal) ℓ)

/-- The plain product runs to its end and leaves no signal. -/
theorem frame_ref : Cert.quiescent_SsdDWZRefIdeal (hSsdDWZRefIdeal := Cert.SsdDWZRefIdeal.Gen.facts) := by
  intro m g _
  refine (θ_run (Cert.SsdDWZRefIdeal.defs (F := Ideal)) _ _).mono (fun r h => ⟨h, sem_eq_zero_of_no_sems (by decide) r.2⟩) ?_
  hlo_run

/-- The gradient of `h @ w_z` with respect to `w_z`. -/
abbrev value (H : FVec Ideal Cert.SsdDWZRefIdeal.S16384x1024 .f32) (D : FVec Ideal Cert.SsdDWZRefIdeal.S16384x2048 .f32) : FVec Ideal Cert.SsdDWZRefIdeal.S1024x2048 .f32 :=
  transpose Cert.SsdDWZRefIdeal.S1024x2048 [1, 0]
    (Host.dotGeneral Cert.SsdDWZRefIdeal.dot_S16384x2048_S16384x1024_S2048x1024_0_0_1_1_n_n none D H) (by decide)

/-- Each entry of the plain product is a sum over all rows. -/
theorem value_at (H D j) : value H D j = ∑ l : Fin 16384, H (ix2 l (j 0)) * D (ix2 l (j 1)) := by
  pointwise [value]
  exact Finset.sum_congr rfl fun l _ => mul_comm _ _

/-- The blocks that step `t` of the grid takes: four steps in turn share one block of the result. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The block of the first array at step `t`. -/
abbrev rows (c : Dev nD) (t : Fin cfg0.N) : FVec Ideal S4096x1024 .bf16 := iblk m c 0 t

/-- The block of the second array at step `t`. -/
abbrev cols (c : Dev nD) (t : Fin cfg0.N) : FVec Ideal S4096x1024 .bf16 := iblk m c 1 t

/-- What the first of four steps stores: its own product. -/
theorem first_pay (x0 x1 j) : k0_pay2 (F := Ideal) x0 x1 j = ∑ k : Fin 4096, x0 (ix2 k (j 0)) * x1 (ix2 k (j 1)) := by
  pointwise [k0_pay2, k0_pay1]

/-- What a later step stores: the sum before and its own product. -/
theorem next_pay (a x0 x1 j) : k0_pay3 (F := Ideal) x0 x1 a j = a j + ∑ k : Fin 4096, x0 (ix2 k (j 0)) * x1 (ix2 k (j 1)) := by
  pointwise [k0_pay3, k0_pay1]

/-- What the last of four steps writes out: the sum. -/
theorem last_pay (a j) : k0_pay4 (F := Ideal) a j = a j := by
  pointwise [k0_pay4]

/-- The kept sum after the first of four steps. -/
theorem acc_first (c : Dev nD) (t : Fin cfg0.N) (h : t.val % 4 = 0) (j) : (outsAt0 m c t.val t.isLt).2 j
    = 0 + ∑ k : Fin 4096, rows m c t (ix2 k (j 0)) * cols m c t (ix2 k (j 1)) := by
  rw [outsAt0_A m c t h (by omega) (by omega)]; frame_out
  rw [first_pay, zero_add]

/-- The kept sum after a later step. -/
theorem acc_next (c : Dev nD) (t : Fin cfg0.N) (h : ¬t.val % 4 = 0) (j) : (outsAt0 m c t.val t.isLt).2 j
    = (outsAt0 m c (t.val - 1) (Nat.lt_of_le_of_lt (Nat.sub_le _ _) t.isLt)).2 j
      + ∑ k : Fin 4096, rows m c t (ix2 k (j 0)) * cols m c t (ix2 k (j 1)) := by
  by_cases h3 : t.val % 4 = 3
  · rw [outsAt0_C m c t h (by omega) h3]; frame_out
    rw [next_pay]
    exact congrArg (· + _) (congrFun (Memref.IsWhole.read_unread _ _) j)
  · rw [outsAt0_B m c t h (by omega) h3]; frame_out
    rw [next_pay]
    exact congrArg (· + _) (congrFun (Memref.IsWhole.read_unread _ _) j)

/-- The block written out by the last of four steps is the kept sum. -/
theorem out_last (c : Dev nD) (t : Fin cfg0.N) (h : t.val % 4 = 3) (j) : (outsAt0 m c t.val t.isLt).1 j = (outsAt0 m c t.val t.isLt).2 j := by
  rw [outsAt0_C m c t (by omega) (by omega) h]
  frame_out
  rw [last_pay]

/-- The result array of the call holds the plain product. -/
theorem final (c : Dev nD) : (dats m 0 c).arrAt 2 (cfgs 0).N
    = (truncf .bf16 (value (m ((c : Thread nD τ).loc main_arg0)) (m ((c : Thread nD τ).loc main_arg2))) bitsLt_bf16_f32 : FVec Ideal S1024x2048 .bf16) := by
  refine (dats m 0 c).arrAt_eq_of_covers 2 _ (by decide +kernel) fun t hf y => ?_
  blk_simp
  have h3 := (flush0_2 t).mp hf
  rw [after0_2]
  refine (out_last m c t h3 y).trans ?_
  refine (Pipeline.eq_sum_fin_of_reset_step_apply_of_flush (fun n h => (outsAt0 m c n h).2) 4 (fun _ => 0) _ (acc_first m c) (acc_next m c) t h3 y).trans ?_
  refine Eq.trans ?_ (value_at _ _ _).symm
  rw [zero_add]; refine Fin.sum_mul_add_congr fun s k hl => ?_
  blk_point [iblk, idx t, idx ⟨_, Pipeline.run_point_lt_of_flush t h3 s⟩]

/-- After the call the host casts the result array to f32. -/
theorem cast (c : Dev nD) (X : FVec Ideal S1024x2048 .bf16) (hX : (dats m 0 c).arrAt 2 (cfgs 0).N = X) :
    Pipeline.afterTail₀ cfgs (dats m) 0 (V0 m) [hostOps1] c main_v3 = (extf .f32 X bitsLt_bf16_f32 : FVec Ideal S1024x2048 .f32) := by
  unfold Pipeline.afterTail₀
  have h := Pipeline.withArrays_arr (cfgs 0).spec (by decide) c (V0 m c) (fun w => (dats m 0 c).arrAt w (cfgs 0).N) 2
  rw [hX] at h
  simp only [List.flatten_cons, List.flatten_nil, List.append_nil, hostOps1]
  revert h
  generalize Pipeline.withArrays _ _ _ _ = V
  intro h
  simp only [StableHlo.after_cons, StableHlo.after_nil]
  after_results_simp
  exact congrArg (extf .f32 · bitsLt_bf16_f32) h

/-- The call with the casts of the host and the plain product end with the same result. -/
theorem algebraic : Cert.algebraic_SsdDWZIdeal_SsdDWZRefIdeal := by
  pair_intro
  · run_from Cert.SsdDWZIdeal.Gen.run_main m g
    · exact W_main_arg0 m (dats m) c
    · exact W_main_arg1 m (dats m) c
    · exact W_main_arg2 m (dats m) c
  · hlo_run
    rw [cast m c _ (final m c)]
    rfl

end Cert.SsdDWZIdeal.Value

end
-- ==== Proof.SsdDWXbc.lean ====
module

public import proofs.«01_k».proof.Defs
public import proofs.«01_k».proof.Proof.Gen.SsdDWXbcIdeal.Frame
public import proofs.«01_k».proof.Proof.Gen.SsdDWXbcRefIdeal
public import Idealize.ShloMosaic.Lib.Claim
public import Idealize.ShloMosaic.Lib.Pipeline.ValueKit

@[expose] public section

/-! The gradient of the weights of `xbc` in the SSD layer, summed over all rows in four parts. -/

set_option maxRecDepth 16384

noncomputable section

namespace Cert.SsdDWXbcIdeal.Value

open Idealize.ShloMosaic Idealize.ShloMosaic.TcCoe Idealize.SL.Sem
open Cert.SsdDWXbcIdeal Cert.SsdDWXbcIdeal.Gen

variable (m : (ℓ : Loc nD τ sig) → Buf (Elt Ideal) ℓ)

/-- The plain product runs to its end and leaves no signal. -/
theorem frame_ref : Cert.quiescent_SsdDWXbcRefIdeal (hSsdDWXbcRefIdeal := Cert.SsdDWXbcRefIdeal.Gen.facts) := by
  intro m g _
  refine (θ_run (Cert.SsdDWXbcRefIdeal.defs (F := Ideal)) _ _).mono (fun r h => ⟨h, sem_eq_zero_of_no_sems (by decide) r.2⟩) ?_
  hlo_run

/-- The gradient of `h @ w_xbc` with respect to `w_xbc`. -/
abbrev value (H : FVec Ideal Cert.SsdDWXbcRefIdeal.S16384x1024 .f32) (D : FVec Ideal Cert.SsdDWXbcRefIdeal.S16384x3072 .f32) : FVec Ideal Cert.SsdDWXbcRefIdeal.S1024x3072 .f32 :=
  transpose Cert.SsdDWXbcRefIdeal.S1024x3072 [1, 0]
    (Host.dotGeneral Cert.SsdDWXbcRefIdeal.dot_S16384x3072_S16384x1024_S3072x1024_0_0_1_1_n_n none D H) (by decide)

/-- Each entry of the plain product is a sum over all rows. -/
theorem value_at (H D j) : value H D j = ∑ l : Fin 16384, H (ix2 l (j 0)) * D (ix2 l (j 1)) := by
  pointwise [value]
  exact Finset.sum_congr rfl fun l _ => mul_comm _ _

/-- The blocks that step `t` of the grid takes: four steps in turn share one block of the result. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The block of the first array at step `t`. -/
abbrev rows (c : Dev nD) (t : Fin cfg0.N) : FVec Ideal S4096x1024 .bf16 := iblk m c 0 t

/-- The block of the second array at step `t`. -/
abbrev cols (c : Dev nD) (t : Fin cfg0.N) : FVec Ideal S4096x1024 .bf16 := iblk m c 1 t

/-- What the first of four steps stores: its own product. -/
theorem first_pay (x0 x1 j) : k0_pay2 (F := Ideal) x0 x1 j = ∑ k : Fin 4096, x0 (ix2 k (j 0)) * x1 (ix2 k (j 1)) := by
  pointwise [k0_pay2, k0_pay1]

/-- What a later step stores: the sum before and its own product. -/
theorem next_pay (a x0 x1 j) : k0_pay3 (F := Ideal) x0 x1 a j = a j + ∑ k : Fin 4096, x0 (ix2 k (j 0)) * x1 (ix2 k (j 1)) := by
  pointwise [k0_pay3, k0_pay1]

/-- What the last of four steps writes out: the sum. -/
theorem last_pay (a j) : k0_pay4 (F := Ideal) a j = a j := by
  pointwise [k0_pay4]

/-- The kept sum after the first of four steps. -/
theorem acc_first (c : Dev nD) (t : Fin cfg0.N) (h : t.val % 4 = 0) (j) : (outsAt0 m c t.val t.isLt).2 j
    = 0 + ∑ k : Fin 4096, rows m c t (ix2 k (j 0)) * cols m c t (ix2 k (j 1)) := by
  rw [outsAt0_A m c t h (by omega) (by omega)]; frame_out
  rw [first_pay, zero_add]

/-- The kept sum after a later step. -/
theorem acc_next (c : Dev nD) (t : Fin cfg0.N) (h : ¬t.val % 4 = 0) (j) : (outsAt0 m c t.val t.isLt).2 j
    = (outsAt0 m c (t.val - 1) (Nat.lt_of_le_of_lt (Nat.sub_le _ _) t.isLt)).2 j
      + ∑ k : Fin 4096, rows m c t (ix2 k (j 0)) * cols m c t (ix2 k (j 1)) := by
  by_cases h3 : t.val % 4 = 3
  · rw [outsAt0_C m c t h (by omega) h3]; frame_out
    rw [next_pay]
    exact congrArg (· + _) (congrFun (Memref.IsWhole.read_unread _ _) j)
  · rw [outsAt0_B m c t h (by omega) h3]; frame_out
    rw [next_pay]
    exact congrArg (· + _) (congrFun (Memref.IsWhole.read_unread _ _) j)

/-- The block written out by the last of four steps is the kept sum. -/
theorem out_last (c : Dev nD) (t : Fin cfg0.N) (h : t.val % 4 = 3) (j) : (outsAt0 m c t.val t.isLt).1 j = (outsAt0 m c t.val t.isLt).2 j := by
  rw [outsAt0_C m c t (by omega) (by omega) h]
  frame_out
  rw [last_pay]

/-- The result array of the call holds the plain product. -/
theorem final (c : Dev nD) : (dats m 0 c).arrAt 2 (cfgs 0).N
    = (truncf .bf16 (value (m ((c : Thread nD τ).loc main_arg0)) (m ((c : Thread nD τ).loc main_arg2))) bitsLt_bf16_f32 : FVec Ideal S1024x3072 .bf16) := by
  refine (dats m 0 c).arrAt_eq_of_covers 2 _ (by decide +kernel) fun t hf y => ?_
  blk_simp
  have h3 := (flush0_2 t).mp hf
  rw [after0_2]
  refine (out_last m c t h3 y).trans ?_
  refine (Pipeline.eq_sum_fin_of_reset_step_apply_of_flush (fun n h => (outsAt0 m c n h).2) 4 (fun _ => 0) _ (acc_first m c) (acc_next m c) t h3 y).trans ?_
  refine Eq.trans ?_ (value_at _ _ _).symm
  rw [zero_add]; refine Fin.sum_mul_add_congr fun s k hl => ?_
  blk_point [iblk, idx t, idx ⟨_, Pipeline.run_point_lt_of_flush t h3 s⟩]

/-- After the call the host casts the result array to f32. -/
theorem cast (c : Dev nD) (X : FVec Ideal S1024x3072 .bf16) (hX : (dats m 0 c).arrAt 2 (cfgs 0).N = X) :
    Pipeline.afterTail₀ cfgs (dats m) 0 (V0 m) [hostOps1] c main_v3 = (extf .f32 X bitsLt_bf16_f32 : FVec Ideal S1024x3072 .f32) := by
  unfold Pipeline.afterTail₀
  have h := Pipeline.withArrays_arr (cfgs 0).spec (by decide) c (V0 m c) (fun w => (dats m 0 c).arrAt w (cfgs 0).N) 2
  rw [hX] at h
  simp only [List.flatten_cons, List.flatten_nil, List.append_nil, hostOps1]
  revert h
  generalize Pipeline.withArrays _ _ _ _ = V
  intro h
  simp only [StableHlo.after_cons, StableHlo.after_nil]
  after_results_simp
  exact congrArg (extf .f32 · bitsLt_bf16_f32) h

/-- The call with the casts of the host and the plain product end with the same result. -/
theorem algebraic : Cert.algebraic_SsdDWXbcIdeal_SsdDWXbcRefIdeal := by
  pair_intro
  · run_from Cert.SsdDWXbcIdeal.Gen.run_main m g
    · exact W_main_arg0 m (dats m) c
    · exact W_main_arg1 m (dats m) c
    · exact W_main_arg2 m (dats m) c
  · hlo_run
    rw [cast m c _ (final m c)]
    rfl

end Cert.SsdDWXbcIdeal.Value

end
-- ==== Proof.MlpIn.lean ====
module

public import proofs.«01_k».proof.Defs
public import proofs.«01_k».proof.Proof.Gen.MlpInIdeal.Frame
public import proofs.«01_k».proof.Proof.Gen.MlpInRefIdeal
public import Idealize.ShloMosaic.Lib.Claim
public import Idealize.ShloMosaic.Lib.Pipeline.ValueKit

@[expose] public section

/-! The first product of the MLP with its activation: `relu(h @ w1)`. -/

set_option maxRecDepth 16384

noncomputable section

namespace Cert.MlpInIdeal.Value

open Idealize.ShloMosaic Idealize.ShloMosaic.TcCoe Idealize.SL.Sem
open Cert.MlpInIdeal Cert.MlpInIdeal.Gen

variable (m : (ℓ : Loc nD τ sig) → Buf (Elt Ideal) ℓ)

/-- The plain product runs to its end and leaves no signal. -/
theorem frame_ref : Cert.quiescent_MlpInRefIdeal (hMlpInRefIdeal := Cert.MlpInRefIdeal.Gen.facts) := by
  intro m g _
  refine (θ_run (Cert.MlpInRefIdeal.defs (F := Ideal)) _ _).mono (fun r h => ⟨h, sem_eq_zero_of_no_sems (by decide) r.2⟩) ?_
  hlo_run

/-- `relu(h @ w1)`. -/
abbrev value (H : FVec Ideal Cert.MlpInRefIdeal.S16384x1024 .f32) (W : FVec Ideal Cert.MlpInRefIdeal.S1024x4096 .f32) : FVec Ideal Cert.MlpInRefIdeal.S16384x4096 .f32 :=
  maximumf (Host.dotGeneral Cert.MlpInRefIdeal.dot_S16384x1024_S1024x4096_S16384x4096_1_0_0_1_n_n none H W)
    (broadcastInDim Cert.MlpInRefIdeal.S16384x4096 ![] (by decide) (constant Cert.MlpInRefIdeal.S_ FTy.f32 0#32))

/-- The blocks that step `t` of the grid takes. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- Each entry that step `t` writes is that entry of the plain product. -/
theorem point (c : Dev nD) (t : Fin cfg0.N) (y) : k0_pay1 (iblk m c 0 t) (iblk m c 1 t) y
    = value (m ((c : Thread nD τ).loc main_arg0)) (m ((c : Thread nD τ).loc main_arg1)) (((cfg0.win 2).blk t).view.emb y) := by
  pointwise [k0_pay1, value]
  blk_point [iblk, idx t]

/-- The result array of the call holds the plain product. -/
theorem final (c : Dev nD) : (dats m 0 c).arrAt 2 (cfgs 0).N
    = (truncf .bf16 (value (m ((c : Thread nD τ).loc main_arg0)) (m ((c : Thread nD τ).loc main_arg1))) bitsLt_bf16_f32 : FVec Ideal S16384x4096 .bf16) := by
  refine (dats m 0 c).arrAt_eq_of_covers 2 _ (by decide +kernel) fun t _ y => ?_
  blk_simp
  rw [after0_2]; frame_out
  exact point m c t y

/-- After the call the host casts the result array to f32. -/
theorem cast (c : Dev nD) (X : FVec Ideal S16384x4096 .bf16) (hX : (dats m 0 c).arrAt 2 (cfgs 0).N = X) :
    Pipeline.afterTail₀ cfgs (dats m) 0 (V0 m) [hostOps1] c main_v3 = (extf .f32 X bitsLt_bf16_f32 : FVec Ideal S16384x4096 .f32) := by
  unfold Pipeline.afterTail₀
  have h := Pipeline.withArrays_arr (cfgs 0).spec (by decide) c (V0 m c) (fun w => (dats m 0 c).arrAt w (cfgs 0).N) 2
  rw [hX] at h
  simp only [List.flatten_cons, List.flatten_nil, List.append_nil, hostOps1]
  revert h
  generalize Pipeline.withArrays _ _ _ _ = V
  intro h
  simp only [StableHlo.after_cons, StableHlo.after_nil]
  after_results_simp
  exact congrArg (extf .f32 · bitsLt_bf16_f32) h

/-- The call with the casts of the host and the plain product end with the same result. -/
theorem algebraic : Cert.algebraic_MlpInIdeal_MlpInRefIdeal := by
  pair_intro
  · run_from Cert.MlpInIdeal.Gen.run_main m g
    · exact W_main_arg0 m (dats m) c
    · exact W_main_arg1 m (dats m) c
  · hlo_run
    rw [cast m c _ (final m c)]
    rfl

end Cert.MlpInIdeal.Value

end
-- ==== Proof.MlpOut.lean ====
module

public import proofs.«01_k».proof.Defs
public import proofs.«01_k».proof.Proof.Gen.MlpOutIdeal.Frame
public import proofs.«01_k».proof.Proof.Gen.MlpOutRefIdeal
public import Idealize.ShloMosaic.Lib.Claim
public import Idealize.ShloMosaic.Lib.Pipeline.ValueKit

@[expose] public section

/-! The output product of the MLP with its gate and residual: `x + gate * ((a * a) @ w2)`. -/

set_option maxRecDepth 16384

noncomputable section

namespace Cert.MlpOutIdeal.Value

open Idealize.ShloMosaic Idealize.ShloMosaic.TcCoe Idealize.SL.Sem
open Cert.MlpOutIdeal Cert.MlpOutIdeal.Gen

variable (m : (ℓ : Loc nD τ sig) → Buf (Elt Ideal) ℓ)

/-- The plain product runs to its end and leaves no signal. -/
theorem frame_ref : Cert.quiescent_MlpOutRefIdeal (hMlpOutRefIdeal := Cert.MlpOutRefIdeal.Gen.facts) := by
  intro m g _
  refine (θ_run (Cert.MlpOutRefIdeal.defs (F := Ideal)) _ _).mono (fun r h => ⟨h, sem_eq_zero_of_no_sems (by decide) r.2⟩) ?_
  hlo_run

/-- `x + gate * ((a * a) @ w2)`. -/
abbrev value (A : FVec Ideal Cert.MlpOutRefIdeal.S16384x4096 .f32) (W : FVec Ideal Cert.MlpOutRefIdeal.S4096x1024 .f32) (G : FVec Ideal Cert.MlpOutRefIdeal.S1x1024 .f32) (X : FVec Ideal Cert.MlpOutRefIdeal.S16384x1024 .f32) :
    FVec Ideal Cert.MlpOutRefIdeal.S16384x1024 .f32 :=
  addf X (mulf (broadcastInDim Cert.MlpOutRefIdeal.S16384x1024 ![0, 1] (by decide) G)
    (Host.dotGeneral Cert.MlpOutRefIdeal.dot_S16384x4096_S4096x1024_S16384x1024_1_0_0_1_n_n none (mulf A A) W))

/-- The blocks that step `t` of the grid takes. -/
theorem idx : ∀ t : Fin cfg0.N, win0_0.index t = ![t.val, 0] ∧ win0_1.index t = ![0, 0] ∧ win0_2.index t = ![t.val, 0] ∧ win0_3.index t = ![0, 0] ∧ win0_4.index t = ![t.val, 0] :=
  (by decide +kernel : ∀ t : Fin grid0.N, _)

/-- Each entry that step `t` writes is that entry of the plain product. -/
theorem point (c : Dev nD) (t : Fin cfg0.N) (y) : k0_pay1 (iblk m c 0 t) (iblk m c 1 t) (iblk m c 2 t) (iblk m c 3 t) y
    = value (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, value]
  blk_point [iblk, idx t]

/-- The result array of the call holds the plain product. -/
theorem final (c : Dev nD) : (dats m 0 c).arrAt 4 (cfgs 0).N
    = value (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

/-- The call and the plain product end with the same result. -/
theorem algebraic : Cert.algebraic_MlpOutIdeal_MlpOutRefIdeal := by
  pair_intro
  · run_from Cert.MlpOutIdeal.Gen.run_main m g
  · hlo_run
    exact (final m c).symm

end Cert.MlpOutIdeal.Value

end
-- ==== Proof.S5In.lean ====
module

public import proofs.«01_k».proof.Defs
public import proofs.«01_k».proof.Proof.Gen.S5InIdeal.Frame
public import proofs.«01_k».proof.Proof.Gen.S5InRefIdeal
public import Idealize.ShloMosaic.Lib.Claim
public import Idealize.ShloMosaic.Lib.Pipeline.ValueKit

@[expose] public section

/-! The input product of the S5 layer: `h @ w_in`. -/

set_option maxRecDepth 16384

noncomputable section

namespace Cert.S5InIdeal.Value

open Idealize.ShloMosaic Idealize.ShloMosaic.TcCoe Idealize.SL.Sem
open Cert.S5InIdeal Cert.S5InIdeal.Gen

variable (m : (ℓ : Loc nD τ sig) → Buf (Elt Ideal) ℓ)

/-- The plain product runs to its end and leaves no signal. -/
theorem frame_ref : Cert.quiescent_S5InRefIdeal (hS5InRefIdeal := Cert.S5InRefIdeal.Gen.facts) := by
  intro m g _
  refine (θ_run (Cert.S5InRefIdeal.defs (F := Ideal)) _ _).mono (fun r h => ⟨h, sem_eq_zero_of_no_sems (by decide) r.2⟩) ?_
  hlo_run

/-- `h @ w_in`. -/
abbrev value (H : FVec Ideal Cert.S5InRefIdeal.S16384x1024 .f32) (W : FVec Ideal Cert.S5InRefIdeal.S1024x1024 .f32) :
    FVec Ideal Cert.S5InRefIdeal.S16384x1024 .f32 :=
  Host.dotGeneral Cert.S5InRefIdeal.dot_S16384x1024_S1024x1024_S16384x1024_1_0_0_1_n_n none H W

/-- The blocks that step `t` of the grid takes. -/
theorem idx : ∀ t : Fin cfg0.N, win0_0.index t = ![t.val, 0] ∧ win0_1.index t = ![0, 0] ∧ win0_2.index t = ![t.val, 0] :=
  (by decide +kernel : ∀ t : Fin grid0.N, _)

/-- Each entry that step `t` writes is that entry of the plain product. -/
theorem point (c : Dev nD) (t : Fin cfg0.N) (y) : k0_pay1 (iblk m c 0 t) (iblk m c 1 t) y
    = value (m ((c : Thread nD τ).loc main_arg0)) (m ((c : Thread nD τ).loc main_arg1)) (((cfg0.win 2).blk t).view.emb y) := by
  pointwise [k0_pay1, value]
  blk_point [iblk, idx t]

/-- The result array of the call holds the plain product. -/
theorem final (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The call and the plain product end with the same result. -/
theorem algebraic : Cert.algebraic_S5InIdeal_S5InRefIdeal := by
  pair_intro
  · run_from Cert.S5InIdeal.Gen.run_main m g
  · hlo_run
    exact (final m c).symm

end Cert.S5InIdeal.Value

end
-- ==== Proof.S5Glu.lean ====
module

public import proofs.«01_k».proof.Defs
public import proofs.«01_k».proof.Proof.Gen.S5GluIdeal.Frame
public import proofs.«01_k».proof.Proof.Gen.S5GluRefIdeal
public import Idealize.ShloMosaic.Lib.Claim
public import Idealize.ShloMosaic.Lib.Pipeline.ValueKit

@[expose] public section

/-! The product before the gate of the S5 layer: `g @ w_glu`. -/

set_option maxRecDepth 16384

noncomputable section

namespace Cert.S5GluIdeal.Value

open Idealize.ShloMosaic Idealize.ShloMosaic.TcCoe Idealize.SL.Sem
open Cert.S5GluIdeal Cert.S5GluIdeal.Gen

variable (m : (ℓ : Loc nD τ sig) → Buf (Elt Ideal) ℓ)

/-- The plain product runs to its end and leaves no signal. -/
theorem frame_ref : Cert.quiescent_S5GluRefIdeal (hS5GluRefIdeal := Cert.S5GluRefIdeal.Gen.facts) := by
  intro m g _
  refine (θ_run (Cert.S5GluRefIdeal.defs (F := Ideal)) _ _).mono (fun r h => ⟨h, sem_eq_zero_of_no_sems (by decide) r.2⟩) ?_
  hlo_run

/-- `g @ w_glu`. -/
abbrev value (G : FVec Ideal Cert.S5GluRefIdeal.S16384x1024 .f32) (W : FVec Ideal Cert.S5GluRefIdeal.S1024x2048 .f32) :
    FVec Ideal Cert.S5GluRefIdeal.S16384x2048 .f32 :=
  Host.dotGeneral Cert.S5GluRefIdeal.dot_S16384x1024_S1024x2048_S16384x2048_1_0_0_1_n_n none G W

/-- The blocks that step `t` of the grid takes. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- Each entry that step `t` writes is that entry of the plain product. -/
theorem point (c : Dev nD) (t : Fin cfg0.N) (y) : k0_pay1 (iblk m c 0 t) (iblk m c 1 t) y
    = value (m ((c : Thread nD τ).loc main_arg0)) (m ((c : Thread nD τ).loc main_arg1)) (((cfg0.win 2).blk t).view.emb y) := by
  pointwise [k0_pay1, value]
  blk_point [iblk, idx t]

/-- The result array of the call holds the plain product. -/
theorem final (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The call and the plain product end with the same result. -/
theorem algebraic : Cert.algebraic_S5GluIdeal_S5GluRefIdeal := by
  pair_intro
  · run_from Cert.S5GluIdeal.Gen.run_main m g
  · hlo_run
    exact (final m c).symm

end Cert.S5GluIdeal.Value

end
-- ==== Proof.SsdZ.lean ====
module

public import proofs.«01_k».proof.Defs
public import proofs.«01_k».proof.Proof.Gen.SsdZIdeal.Frame
public import proofs.«01_k».proof.Proof.Gen.SsdZRefIdeal
public import Idealize.ShloMosaic.Lib.Claim
public import Idealize.ShloMosaic.Lib.Pipeline.ValueKit

@[expose] public section

/-! The product of the SSD layer that gives `z`: `h` times the columns of `w_in` from 0 on, 2048 of them. -/

set_option maxRecDepth 16384

noncomputable section

namespace Cert.SsdZIdeal.Value

open Idealize.ShloMosaic Idealize.ShloMosaic.TcCoe Idealize.SL.Sem
open Cert.SsdZIdeal Cert.SsdZIdeal.Gen

variable (m : (ℓ : Loc nD τ sig) → Buf (Elt Ideal) ℓ)

/-- The plain product runs to its end and leaves no signal. -/
theorem frame_ref : Cert.quiescent_SsdZRefIdeal (hSsdZRefIdeal := Cert.SsdZRefIdeal.Gen.facts) := by
  intro m g _
  refine (θ_run (Cert.SsdZRefIdeal.defs (F := Ideal)) _ _).mono (fun r h => ⟨h, sem_eq_zero_of_no_sems (by decide) r.2⟩) ?_
  hlo_run

/-- The columns of `h @ w_in` from 0 on, 2048 of them. -/
abbrev value (H : FVec Ideal Cert.SsdZRefIdeal.S16384x1024 .f32) (W : FVec Ideal Cert.SsdZRefIdeal.S1024x5152 .f32) :
    FVec Ideal Cert.SsdZRefIdeal.S16384x2048 .f32 :=
  extractStridedSlice Cert.SsdZRefIdeal.S16384x2048 ![0, 0] (Host.dotGeneral Cert.SsdZRefIdeal.dot_S16384x1024_S1024x5152_S16384x5152_1_0_0_1_n_n none H W) (by decide)

/-- The blocks that step `t` of the grid takes. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- Each entry that step `t` writes is that entry of the plain product. -/
theorem point (c : Dev nD) (t : Fin cfg0.N) (y) : k0_pay1 (iblk m c 0 t) (iblk m c 1 t) y
    = value (m ((c : Thread nD τ).loc main_arg0)) (m ((c : Thread nD τ).loc main_arg1)) (((cfg0.win 2).blk t).view.emb y) := by
  pointwise [k0_pay1, value]
  blk_point [iblk, idx t]

/-- The result array of the call holds the plain product. -/
theorem final (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The call and the plain product end with the same result. -/
theorem algebraic : Cert.algebraic_SsdZIdeal_SsdZRefIdeal := by
  pair_intro
  · run_from Cert.SsdZIdeal.Gen.run_main m g
  · hlo_run
    exact (final m c).symm

end Cert.SsdZIdeal.Value

end
-- ==== Proof.SsdXbc.lean ====
module

public import proofs.«01_k».proof.Defs
public import proofs.«01_k».proof.Proof.Gen.SsdXbcIdeal.Frame
public import proofs.«01_k».proof.Proof.Gen.SsdXbcRefIdeal
public import Idealize.ShloMosaic.Lib.Claim
public import Idealize.ShloMosaic.Lib.Pipeline.ValueKit

@[expose] public section

/-! The product of the SSD layer that gives `xbc`: `h` times the columns of `w_in` from 2048 on, 3072 of them. -/

set_option maxRecDepth 16384

noncomputable section

namespace Cert.SsdXbcIdeal.Value

open Idealize.ShloMosaic Idealize.ShloMosaic.TcCoe Idealize.SL.Sem
open Cert.SsdXbcIdeal Cert.SsdXbcIdeal.Gen

variable (m : (ℓ : Loc nD τ sig) → Buf (Elt Ideal) ℓ)

/-- The plain product runs to its end and leaves no signal. -/
theorem frame_ref : Cert.quiescent_SsdXbcRefIdeal (hSsdXbcRefIdeal := Cert.SsdXbcRefIdeal.Gen.facts) := by
  intro m g _
  refine (θ_run (Cert.SsdXbcRefIdeal.defs (F := Ideal)) _ _).mono (fun r h => ⟨h, sem_eq_zero_of_no_sems (by decide) r.2⟩) ?_
  hlo_run

/-- The columns of `h @ w_in` from 2048 on, 3072 of them. -/
abbrev value (H : FVec Ideal Cert.SsdXbcRefIdeal.S16384x1024 .f32) (W : FVec Ideal Cert.SsdXbcRefIdeal.S1024x5152 .f32) :
    FVec Ideal Cert.SsdXbcRefIdeal.S16384x3072 .f32 :=
  extractStridedSlice Cert.SsdXbcRefIdeal.S16384x3072 ![0, 2048] (Host.dotGeneral Cert.SsdXbcRefIdeal.dot_S16384x1024_S1024x5152_S16384x5152_1_0_0_1_n_n none H W) (by decide)

/-- The blocks that step `t` of the grid takes. -/
theorem idx : ∀ t : Fin cfg0.N, win0_0.index t = ![t.val / 3, 0] ∧ win0_1.index t = ![0, t.val % 3] ∧ win0_2.index t = ![t.val / 3, t.val % 3] :=
  (by decide +kernel : ∀ t : Fin grid0.N, _)

/-- Each entry that step `t` writes is that entry of the plain product. -/
theorem point (c : Dev nD) (t : Fin cfg0.N) (y) : k0_pay1 (iblk m c 0 t) (iblk m c 1 t) y
    = value (m ((c : Thread nD τ).loc main_arg0)) (m ((c : Thread nD τ).loc main_arg1)) (((cfg0.win 2).blk t).view.emb y) := by
  pointwise [k0_pay1, value]
  blk_point [iblk, idx t]

/-- The result array of the call holds the plain product. -/
theorem final (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The call and the plain product end with the same result. -/
theorem algebraic : Cert.algebraic_SsdXbcIdeal_SsdXbcRefIdeal := by
  pair_intro
  · run_from Cert.SsdXbcIdeal.Gen.run_main m g
  · hlo_run
    exact (final m c).symm

end Cert.SsdXbcIdeal.Value

end
-- ==== Proof.SsdOut.lean ====
module

public import proofs.«01_k».proof.Defs
public import proofs.«01_k».proof.Proof.Gen.SsdOutIdeal.Frame
public import proofs.«01_k».proof.Proof.Gen.SsdOutRefIdeal
public import Idealize.ShloMosaic.Lib.Claim
public import Idealize.ShloMosaic.Lib.Pipeline.ValueKit

@[expose] public section

/-! The output product of the SSD layer with its gate and residual: `x + gate * (y @ w_out)`. -/

set_option maxRecDepth 16384

noncomputable section

namespace Cert.SsdOutIdeal.Value

open Idealize.ShloMosaic Idealize.ShloMosaic.TcCoe Idealize.SL.Sem
open Cert.SsdOutIdeal Cert.SsdOutIdeal.Gen

variable (m : (ℓ : Loc nD τ sig) → Buf (Elt Ideal) ℓ)

/-- The plain product runs to its end and leaves no signal. -/
theorem frame_ref : Cert.quiescent_SsdOutRefIdeal (hSsdOutRefIdeal := Cert.SsdOutRefIdeal.Gen.facts) := by
  intro m g _
  refine (θ_run (Cert.SsdOutRefIdeal.defs (F := Ideal)) _ _).mono (fun r h => ⟨h, sem_eq_zero_of_no_sems (by decide) r.2⟩) ?_
  hlo_run

/-- `x + gate * (y @ w_out)`. -/
abbrev value (Y : FVec Ideal Cert.SsdOutRefIdeal.S16384x2048 .f32) (W : FVec Ideal Cert.SsdOutRefIdeal.S2048x1024 .f32) (G : FVec Ideal Cert.SsdOutRefIdeal.S1x1024 .f32) (X : FVec Ideal Cert.SsdOutRefIdeal.S16384x1024 .f32) :
    FVec Ideal Cert.SsdOutRefIdeal.S16384x1024 .f32 :=
  addf X (mulf (broadcastInDim Cert.SsdOutRefIdeal.S16384x1024 ![0, 1] (by decide) G)
    (Host.dotGeneral Cert.SsdOutRefIdeal.dot_S16384x2048_S2048x1024_S16384x1024_1_0_0_1_n_n none Y W))

/-- The blocks that step `t` of the grid takes. -/
theorem idx : ∀ t : Fin cfg0.N, win0_0.index t = ![t.val, 0] ∧ win0_1.index t = ![0, 0] ∧ win0_2.index t = ![t.val, 0] ∧ win0_3.index t = ![0, 0] ∧ win0_4.index t = ![t.val, 0] :=
  (by decide +kernel : ∀ t : Fin grid0.N, _)

/-- Each entry that step `t` writes is that entry of the plain product. -/
theorem point (c : Dev nD) (t : Fin cfg0.N) (y) : k0_pay1 (iblk m c 0 t) (iblk m c 1 t) (iblk m c 2 t) (iblk m c 3 t) y
    = value (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, value]
  blk_point [iblk, idx t]

/-- The result array of the call holds the plain product. -/
theorem final (c : Dev nD) : (dats m 0 c).arrAt 4 (cfgs 0).N
    = value (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

/-- The call and the plain product end with the same result. -/
theorem algebraic : Cert.algebraic_SsdOutIdeal_SsdOutRefIdeal := by
  pair_intro
  · run_from Cert.SsdOutIdeal.Gen.run_main m g
  · hlo_run
    exact (final m c).symm

end Cert.SsdOutIdeal.Value

end
-- ==== Proof.Pad.lean ====
module

public import proofs.«01_k».proof.Proof.Reads

@[expose] public section

/-! Columns of zeros after the columns of a matrix. -/

noncomputable section

namespace Cert.Proof.Pad

open Idealize.ShloMosaic Idealize.ShloMosaic.Routing

variable {A N U : ℕ} {α : Type} (d : ScatterDims (shape2 A N) (shape1 1) (shape2 A U)) (huw : d.updateWindowDims = [0, 1]) (hiw : d.insertedWindowDims = [])
  (hsd : d.scatterDimsToOperandDims = [1]) (idx : IVec (shape1 1) 32) (hidx : idx (ix1 0) = 0#32) (x : (shape2 A N).Idx → α) (u : (shape2 A U).Idx → α) (r : Fin A)

include huw hiw hsd hidx

/-- A column of the matrix. -/
theorem pad_at (h : Fin U) (e : Fin N) (he : e.val = h.val) : Host.scatter d (fun _ b => b) x idx u (ix2 r e) = u (ix2 r h) := by
  have L := Ssd.lands_block d huw hiw hsd idx hidx
  refine scatter_set_hit _ _ _ _ _ _ (fun k hk => ?_) (ix2 r h) ((L _ _ _ _).2 ⟨rfl, he.symm⟩)
  rw [eq_ix2 k] at hk ⊢
  obtain ⟨e0, e1⟩ := (L _ _ _ _).1 hk
  exact congrArg u (congrArg₂ ix2 e0 (Fin.ext (e1.trans he)))

/-- A column after those of the matrix. -/
theorem pad_miss (e : Fin N) (he : U ≤ e.val) : Host.scatter d (fun _ b => b) x idx u (ix2 r e) = x (ix2 r e) := by
  have L := Ssd.lands_block d huw hiw hsd idx hidx
  refine scatter_set_miss _ _ _ _ _ fun k hk => ?_
  rw [eq_ix2 k] at hk
  have h1 := ((L _ _ _ _).1 hk).2
  have h2 : (k 1).val < U := (k 1).isLt
  omega

end Cert.Proof.Pad

end
-- ==== Proof.SsdDt.lean ====
module

public import proofs.«01_k».proof.Defs
public import proofs.«01_k».proof.Proof.Gen.SsdDtIdeal.Frame
public import proofs.«01_k».proof.Proof.Gen.SsdDtRefIdeal
public import Idealize.ShloMosaic.Lib.Claim
public import Idealize.ShloMosaic.Lib.Pipeline.ValueKit
public import proofs.«01_k».proof.Proof.Pad

@[expose] public section

/-! The product of the SSD layer that gives the step sizes: `h` times the last 32 columns of `w_in`, padded to 128 columns for the call. -/

set_option maxRecDepth 16384

noncomputable section

namespace Cert.SsdDtIdeal.Value

open Idealize.ShloMosaic Idealize.ShloMosaic.TcCoe Idealize.SL.Sem
open Cert.SsdDtIdeal Cert.SsdDtIdeal.Gen

variable (m : (ℓ : Loc nD τ sig) → Buf (Elt Ideal) ℓ)

/-- The plain lines run to their end and leave no signal. -/
theorem frame_ref : Cert.quiescent_SsdDtRefIdeal (hSsdDtRefIdeal := Cert.SsdDtRefIdeal.Gen.facts) := by
  intro m g _
  refine (θ_run (Cert.SsdDtRefIdeal.defs (F := Ideal)) _ _).mono (fun r h => ⟨h, sem_eq_zero_of_no_sems (by decide) r.2⟩) ?_
  hlo_run

/-- The rows of `h`. -/
abbrev act (c : Dev nD) : FVec Ideal S16384x1024 .f32 := m ((c : Thread nD τ).loc main_arg0)

/-- The last 32 columns of `w_in`. -/
abbrev wts (c : Dev nD) : FVec Ideal S1024x32 .f32 :=
  extractStridedSlice S1024x32 ![0, 5120] (m ((c : Thread nD τ).loc main_arg1) : FVec Ideal S1024x5152 .f32) slices_S1024x5152_S1024x32_0_5120

/-- The columns with those of zeros after them. -/
def padded (c : Dev nD) : FVec Ideal S1024x128 .bf16 :=
  Host.scatter scatter_S1024x128_S1_S1024x32_01_n_1_0 (fun _ b => b) (broadcastInDim S1024x128 ![] bcast_S_S1024x128 (constant S_ .bf16 0x0000#16))
    (broadcastInDim S1 ![] bcast_S_S1 (constantI S_ 32 0#32)) (truncf .bf16 (wts m c) bitsLt_bf16_f32)

/-- The host pads the columns. -/
theorem pad_arr (c : Dev nD) : V m c main_v5 = padded m c := by
  show StableHlo.after _ _ _ = _
  simp only [List.flatten_cons, List.flatten_nil, List.append_nil, hostOps0, StableHlo.after_cons, StableHlo.after_nil]
  after_results_simp
  rfl

/-- A padded column is that column of `w_in`. -/
theorem padded_at (c : Dev nD) (k : Fin 1024) (h : Fin 32) (e : Fin 128) (he : e.val = h.val) : padded m c (ix2 k e) = wts m c (ix2 k h) := by
  unfold padded
  exact Cert.Proof.Pad.pad_at (A := 1024) (N := 128) (U := 32) _ rfl rfl rfl _ rfl _ _ k h e he

/-- The blocks that step `t` of the grid takes. -/
theorem idx : ∀ t : Fin cfg0.N, win0_0.index t = ![t.val, 0] ∧ win0_1.index t = ![0, 0] ∧ win0_2.index t = ![t.val, 0] :=
  (by decide +kernel : ∀ t : Fin grid0.N, _)

/-- A row of a step's block of `h`, of all the rows. -/
theorem rows_at (c : Dev nD) (t : Fin cfg0.N) (r : Fin 1024) (l : Fin 16384) (hl : l.val = t.val * 1024 + r.val) (q : Fin 1024) : iblk m c 0 t (ix2 r q) = act m c (ix2 l q) := by
  blk_point [iblk, idx t]

/-- The block of the padded columns, the same at each step. -/
theorem cols_at (c : Dev nD) (t : Fin cfg0.N) (k : Fin 1024) (e : Fin 128) : iblk m c 1 t (ix2 k e) = padded m c (ix2 k e) := by
  have h : (win0_1.blk t).view.emb (ix2 k e) = (ix2 k e : S1024x128.Idx) := by
    refine (eq_ix2 _).trans (congrArg₂ _ (Fin.ext ?_) (Fin.ext ?_)) <;> blk_simp [idx t]
  have p := pad_arr m c
  unfold iblk
  generalize V m c = W at p ⊢
  generalize padded m c = P at p ⊢
  refine Eq.trans ?_ (congrFun p (ix2 k e))
  exact congrArg (W main_v5) h

/-- An entry of the product with the padded columns. -/
abbrev prod (c : Dev nD) (l : Fin 16384) (e : Fin 128) : EReal := ∑ k : Fin 1024, (fun a b : EReal => a * b) (act m c (ix2 l k)) (padded m c (ix2 k e))

/-- The result array of the call holds the product with the padded columns. -/
theorem final (c : Dev nD) : (dats m 0 c).arrAt 2 (cfgs 0).N = (fun j => prod m c (j 0) (j 1) : FVec Ideal S16384x128 .f32) := by
  refine (dats m 0 c).arrAt_eq_of_covers 2 _ (by decide +kernel) fun t _ y => ?_
  blk_simp
  rw [after0_2]; frame_out
  pointwise [k0_pay1]
  have e : ((win0_2.blk t).view.emb y 1 : Fin 128) = y 1 := Fin.ext (by blk_simp [idx t])
  have e0 : ((win0_2.blk t).view.emb y 0).val = t.val * 1024 + (y 0).val := by blk_simp [idx t]
  refine Eq.trans (b := prod m c ((win0_2.blk t).view.emb y 0) (y 1)) ?_ (congrArg (fun q : Fin 128 => prod m c ((win0_2.blk t).view.emb y 0) q) e.symm)
  exact Finset.sum_congr rfl fun k _ => congrArg₂ (fun a b : EReal => a * b) (rows_at m c t (y 0) _ e0 k) (cols_at m c t k (y 1))

/-- After the call the host keeps the first 32 columns. -/
theorem cut (c : Dev nD) (X : FVec Ideal S16384x128 .f32) (hX : (dats m 0 c).arrAt 2 (cfgs 0).N = X) :
    Pipeline.afterTail₀ cfgs (dats m) 0 (V0 m) [hostOps1] c main_v7 = (extractStridedSlice S16384x32 ![0, 0] X slices_S16384x128_S16384x32_0_0 : FVec Ideal S16384x32 .f32) := by
  unfold Pipeline.afterTail₀
  have h := Pipeline.withArrays_arr (cfgs 0).spec (by decide) c (V0 m c) (fun w => (dats m 0 c).arrAt w (cfgs 0).N) 2
  rw [hX] at h
  simp only [List.flatten_cons, List.flatten_nil, List.append_nil, hostOps1]
  revert h
  generalize Pipeline.withArrays _ _ _ _ = V
  intro h
  simp only [StableHlo.after_cons, StableHlo.after_nil]
  after_results_simp
  exact congrArg (extractStridedSlice S16384x32 ![0, 0] · slices_S16384x128_S16384x32_0_0) h

/-- The call with the host's padding and the plain product end with the same result. -/
theorem algebraic : Cert.algebraic_SsdDtIdeal_SsdDtRefIdeal := by
  pair_intro
  · run_from Cert.SsdDtIdeal.Gen.run_main m g
    · exact W_main_arg0 m (dats m) c
    · exact W_main_arg1 m (dats m) c
  · hlo_run
    rw [cut m c _ (final m c)]
    funext j
    pointwise
    refine Finset.sum_congr rfl fun k _ => congrArg (fun b : EReal => _ * b) ?_
    refine Eq.trans ?_ (padded_at m c k (j 1) _ rfl).symm
    pointwise [wts]

end Cert.SsdDtIdeal.Value

end
-- ==== Proof.SsdDWDt.lean ====
module

public import proofs.«01_k».proof.Defs
public import proofs.«01_k».proof.Proof.Gen.SsdDWDtIdeal.Frame
public import proofs.«01_k».proof.Proof.Gen.SsdDWDtRefIdeal
public import Idealize.ShloMosaic.Lib.Claim
public import Idealize.ShloMosaic.Lib.Pipeline.ValueKit
public import proofs.«01_k».proof.Proof.Pad

@[expose] public section

/-! The gradient of the weights of the step sizes, a sum over all rows in four parts; the incoming gradient is padded to 128 columns for the call. -/

set_option maxRecDepth 16384

noncomputable section

namespace Cert.SsdDWDtIdeal.Value

open Idealize.ShloMosaic Idealize.ShloMosaic.TcCoe Idealize.SL.Sem
open Cert.SsdDWDtIdeal Cert.SsdDWDtIdeal.Gen

variable (m : (ℓ : Loc nD τ sig) → Buf (Elt Ideal) ℓ)

/-- The plain lines run to their end and leave no signal. -/
theorem frame_ref : Cert.quiescent_SsdDWDtRefIdeal (hSsdDWDtRefIdeal := Cert.SsdDWDtRefIdeal.Gen.facts) := by
  intro m g _
  refine (θ_run (Cert.SsdDWDtRefIdeal.defs (F := Ideal)) _ _).mono (fun r h => ⟨h, sem_eq_zero_of_no_sems (by decide) r.2⟩) ?_
  hlo_run

/-- The activations. -/
abbrev act (c : Dev nD) : FVec Ideal S16384x1024 .f32 := m ((c : Thread nD τ).loc main_arg0)
/-- The gradient that comes in. -/
abbrev ct (c : Dev nD) : FVec Ideal S16384x32 .f32 := m ((c : Thread nD τ).loc main_arg2)

/-- The incoming gradient with columns of zeros after its own. -/
def padded (c : Dev nD) : FVec Ideal S16384x128 .f32 :=
  Host.scatter scatter_S16384x128_S1_S16384x32_01_n_1_0 (fun _ b => b) (broadcastInDim S16384x128 ![] bcast_S_S16384x128 (constant S_ .f32 0x00000000#32))
    (broadcastInDim S1 ![] bcast_S_S1 (constantI S_ 32 0#32)) (ct m c)

/-- The host pads the incoming gradient. -/
theorem pad_arr (c : Dev nD) : V m c main_v3 = padded m c := by
  show StableHlo.after _ _ _ = _
  simp only [List.flatten_cons, List.flatten_nil, List.append_nil, hostOps0, StableHlo.after_cons, StableHlo.after_nil]
  after_results_simp
  rfl

/-- A padded column is that column of the incoming gradient. -/
theorem padded_at (c : Dev nD) (l : Fin 16384) (h : Fin 32) (e : Fin 128) (he : e.val = h.val) : padded m c (ix2 l e) = ct m c (ix2 l h) := by
  unfold padded
  exact Cert.Proof.Pad.pad_at (A := 16384) (N := 128) (U := 32) _ rfl rfl rfl _ rfl _ _ l h e he

/-- The blocks that step `t` of the grid takes: the four steps share the one block of the result. -/
theorem idx : ∀ t : Fin cfg0.N, win0_0.index t = ![t.val % 4, 0] ∧ win0_1.index t = ![t.val % 4, 0] ∧ win0_2.index t = ![0, 0] :=
  (by decide +kernel : ∀ t : Fin grid0.N, _)

/-- The block of the activations at step `t`. -/
abbrev rows (c : Dev nD) (t : Fin cfg0.N) : FVec Ideal S4096x1024 .bf16 := iblk m c 0 t

/-- The block of the padded gradient at step `t`. -/
abbrev cols (c : Dev nD) (t : Fin cfg0.N) : FVec Ideal S4096x128 .f32 := iblk m c 1 t

/-- A row of a step's activations, of all the rows. -/
theorem rows_at (c : Dev nD) (t : Fin cfg0.N) (k : Fin 4096) (l : Fin 16384) (hl : l.val = t.val % 4 * 4096 + k.val) (q : Fin 1024) : rows m c t (ix2 k q) = act m c (ix2 l q) := by
  blk_point [iblk, idx t]

/-- A row of a step's padded gradient, of all the rows. -/
theorem cols_at (c : Dev nD) (t : Fin cfg0.N) (k : Fin 4096) (l : Fin 16384) (hl : l.val = t.val % 4 * 4096 + k.val) (e : Fin 128) : cols m c t (ix2 k e) = padded m c (ix2 l e) := by
  have h : (win0_1.blk t).view.emb (ix2 k e) = (ix2 l e : S16384x128.Idx) := by
    refine (eq_ix2 _).trans (congrArg₂ _ (Fin.ext ?_) (Fin.ext ?_)) <;> blk_simp [idx t, hl]
  have p := pad_arr m c
  unfold cols iblk
  generalize V m c = W at p ⊢
  generalize padded m c = P at p ⊢
  refine Eq.trans ?_ (congrFun p (ix2 l e))
  exact congrArg (W main_v3) h

/-- What the first of four steps stores: its own product. -/
theorem first_pay (x0 x1 j) : k0_pay2 (F := Ideal) x0 x1 j = ∑ k : Fin 4096, x0 (ix2 k (j 0)) * x1 (ix2 k (j 1)) := by
  pointwise [k0_pay2, k0_pay1]

/-- What a later step stores: the sum before and its own product. -/
theorem next_pay (a x0 x1 j) : k0_pay3 (F := Ideal) x0 x1 a j = a j + ∑ k : Fin 4096, x0 (ix2 k (j 0)) * x1 (ix2 k (j 1)) := by
  pointwise [k0_pay3, k0_pay1]

/-- What the last of four steps writes out: the sum. -/
theorem last_pay (a j) : k0_pay4 (F := Ideal) a j = a j := by
  pointwise [k0_pay4]

/-- The kept sum after the first of four steps. -/
theorem acc_first (c : Dev nD) (t : Fin cfg0.N) (h : t.val % 4 = 0) (j) : (outsAt0 m c t.val t.isLt).2 j
    = 0 + ∑ k : Fin 4096, rows m c t (ix2 k (j 0)) * cols m c t (ix2 k (j 1)) := by
  have ht : t.val < 4 := t.isLt
  rw [outsAt0_A m c t h (by omega) (by omega)]; frame_out
  rw [first_pay, zero_add]

/-- The kept sum after a later step. -/
theorem acc_next (c : Dev nD) (t : Fin cfg0.N) (h : ¬t.val % 4 = 0) (j) : (outsAt0 m c t.val t.isLt).2 j
    = (outsAt0 m c (t.val - 1) (Nat.lt_of_le_of_lt (Nat.sub_le _ _) t.isLt)).2 j
      + ∑ k : Fin 4096, rows m c t (ix2 k (j 0)) * cols m c t (ix2 k (j 1)) := by
  by_cases h3 : t.val % 4 = 3
  · rw [outsAt0_C m c t h (by omega) h3]; frame_out
    rw [next_pay]
    exact congrArg (· + _) (congrFun (Memref.IsWhole.read_unread _ _) j)
  · rw [outsAt0_B m c t h (by omega) h3]; frame_out
    rw [next_pay]
    exact congrArg (· + _) (congrFun (Memref.IsWhole.read_unread _ _) j)

/-- The block written out by the last of four steps is the kept sum. -/
theorem out_last (c : Dev nD) (t : Fin cfg0.N) (h : t.val % 4 = 3) (j) : (outsAt0 m c t.val t.isLt).1 j = (outsAt0 m c t.val t.isLt).2 j := by
  rw [outsAt0_C m c t (by omega) (by omega) h]
  frame_out
  rw [last_pay]

/-- The result array of the call holds the sum with the padded gradient. -/
theorem final (c : Dev nD) : (dats m 0 c).arrAt 2 (cfgs 0).N
    = (fun j => ∑ l : Fin 16384, act m c (ix2 l (j 0)) * padded m c (ix2 l (j 1)) : FVec Ideal S1024x128 .bf16) := by
  refine (dats m 0 c).arrAt_eq_of_covers 2 _ (by decide +kernel) fun t hf y => ?_
  blk_simp
  have h3 := (flush0_2 t).mp hf
  rw [after0_2]
  refine (out_last m c t h3 y).trans ?_
  refine (Pipeline.eq_sum_fin_of_reset_step_apply_of_flush (fun n h => (outsAt0 m c n h).2) 4 (fun _ => 0) _ (acc_first m c) (acc_next m c) t h3 y).trans ?_
  have ht : t.val < 4 := t.isLt
  have e0 : ((win0_2.blk t).view.emb y 0 : Fin 1024) = y 0 := Fin.ext (by blk_simp [idx t])
  have e1 : ((win0_2.blk t).view.emb y 1 : Fin 128) = y 1 := Fin.ext (by blk_simp [idx t])
  refine Eq.trans ?_ (congrArg₂ (fun (a : Fin 1024) (b : Fin 128) => ∑ l : Fin 16384, act m c (ix2 l a) * padded m c (ix2 l b)) e0 e1).symm
  rw [zero_add]; refine Fin.sum_mul_add_congr fun s k hl => ?_
  exact congrArg₂ (fun a b : EReal => a * b) (rows_at m c _ k _ (by show s.val * 4096 + k.val = (4 * (t.val / 4) + s.val) % 4 * 4096 + k.val; omega) (y 0))
    (cols_at m c _ k _ (by show s.val * 4096 + k.val = (4 * (t.val / 4) + s.val) % 4 * 4096 + k.val; omega) (y 1))

/-- After the call the host keeps the first 32 columns and casts them to f32. -/
theorem cut (c : Dev nD) (X : FVec Ideal S1024x128 .bf16) (hX : (dats m 0 c).arrAt 2 (cfgs 0).N = X) :
    Pipeline.afterTail₀ cfgs (dats m) 0 (V0 m) [hostOps1] c main_v6
      = (extf .f32 (extractStridedSlice S1024x32 ![0, 0] X slices_S1024x128_S1024x32_0_0) bitsLt_bf16_f32 : FVec Ideal S1024x32 .f32) := by
  unfold Pipeline.afterTail₀
  have h := Pipeline.withArrays_arr (cfgs 0).spec (by decide) c (V0 m c) (fun w => (dats m 0 c).arrAt w (cfgs 0).N) 2
  rw [hX] at h
  simp only [List.flatten_cons, List.flatten_nil, List.append_nil, hostOps1]
  revert h
  generalize Pipeline.withArrays _ _ _ _ = V
  intro h
  simp only [StableHlo.after_cons, StableHlo.after_nil]
  after_results_simp
  exact congrArg (fun X : FVec Ideal S1024x128 .bf16 => extf .f32 (extractStridedSlice S1024x32 ![0, 0] X slices_S1024x128_S1024x32_0_0) bitsLt_bf16_f32) h

/-- The call with the host's padding and casts and the plain product end with the same result. -/
theorem algebraic : Cert.algebraic_SsdDWDtIdeal_SsdDWDtRefIdeal := by
  pair_intro
  · run_from Cert.SsdDWDtIdeal.Gen.run_main m g
    · exact W_main_arg0 m (dats m) c
    · exact W_main_arg1 m (dats m) c
    · exact W_main_arg2 m (dats m) c
  · hlo_run
    rw [cut m c _ (final m c)]
    funext j
    pointwise
    refine Finset.sum_congr rfl fun l _ => ?_
    refine (mul_comm _ _).trans (congrArg (fun b : EReal => _ * b) ?_)
    exact (padded_at m c l (j 1) _ rfl).symm

end Cert.SsdDWDtIdeal.Value

end
-- ==== Proof.SsdDInDt.lean ====
module

public import proofs.«01_k».proof.Defs
public import proofs.«01_k».proof.Proof.Gen.SsdDInDtIdeal.Frame
public import proofs.«01_k».proof.Proof.Gen.SsdDInDtRefIdeal
public import Idealize.ShloMosaic.Lib.Claim
public import Idealize.ShloMosaic.Lib.Pipeline.ValueKit
public import proofs.«01_k».proof.Proof.Pad

@[expose] public section

/-! The gradient of the product that gives the step sizes with respect to `h`, added to an array; both arrays of the product are padded to 128 columns for the call. -/

set_option maxRecDepth 16384

noncomputable section

namespace Cert.SsdDInDtIdeal.Value

open Idealize.ShloMosaic Idealize.ShloMosaic.TcCoe Idealize.SL.Sem
open Cert.SsdDInDtIdeal Cert.SsdDInDtIdeal.Gen

variable (m : (ℓ : Loc nD τ sig) → Buf (Elt Ideal) ℓ)

/-- The plain lines run to their end and leave no signal. -/
theorem frame_ref : Cert.quiescent_SsdDInDtRefIdeal (hSsdDInDtRefIdeal := Cert.SsdDInDtRefIdeal.Gen.facts) := by
  intro m g _
  refine (θ_run (Cert.SsdDInDtRefIdeal.defs (F := Ideal)) _ _).mono (fun r h => ⟨h, sem_eq_zero_of_no_sems (by decide) r.2⟩) ?_
  hlo_run

/-- The last 32 columns of `w_in`. -/
abbrev wts (c : Dev nD) : FVec Ideal S1024x32 .f32 :=
  extractStridedSlice S1024x32 ![0, 5120] (m ((c : Thread nD τ).loc main_arg1) : FVec Ideal S1024x5152 .f32) slices_S1024x5152_S1024x32_0_5120
/-- The gradient that comes in. -/
abbrev ct (c : Dev nD) : FVec Ideal S16384x32 .f32 := m ((c : Thread nD τ).loc main_arg2)
/-- The array that the product is added to. -/
abbrev base (c : Dev nD) : FVec Ideal S16384x1024 .f32 := m ((c : Thread nD τ).loc main_arg3)

/-- The incoming gradient with columns of zeros after its own. -/
def paddedCt (c : Dev nD) : FVec Ideal S16384x128 .f32 :=
  Host.scatter scatter_S16384x128_S1_S16384x32_01_n_1_0 (fun _ b => b) (broadcastInDim S16384x128 ![] bcast_S_S16384x128 (constant S_ .f32 0x00000000#32))
    (broadcastInDim S1 ![] bcast_S_S1 (constantI S_ 32 0#32)) (ct m c)

/-- The columns of `w_in` with those of zeros after them. -/
def padded (c : Dev nD) : FVec Ideal S1024x128 .bf16 :=
  Host.scatter scatter_S1024x128_S1_S1024x32_01_n_1_0 (fun _ b => b) (broadcastInDim S1024x128 ![] bcast_S_S1024x128 (constant S_ .bf16 0x0000#16))
    (broadcastInDim S1 ![] bcast_S_S1 (constantI S_ 32 0#32)) (truncf .bf16 (wts m c) bitsLt_bf16_f32)

/-- The host pads the incoming gradient. -/
theorem ct_arr (c : Dev nD) : V m c main_v2 = paddedCt m c := by
  show StableHlo.after _ _ _ = _
  simp only [List.flatten_cons, List.flatten_nil, List.append_nil, hostOps0, StableHlo.after_cons, StableHlo.after_nil]
  after_results_simp
  rfl

/-- The host pads the columns of `w_in`. -/
theorem pad_arr (c : Dev nD) : V m c main_v7 = padded m c := by
  show StableHlo.after _ _ _ = _
  simp only [List.flatten_cons, List.flatten_nil, List.append_nil, hostOps0, StableHlo.after_cons, StableHlo.after_nil]
  after_results_simp
  rfl

/-- The word of zero bits is zero. -/
theorem zero_word : Ideal.ofBits .f32 0x00000000#32 = 0 := by simp [Ideal.ofBits, Ideal.ieee]

/-- A padded column after the first 32 is zero. -/
theorem ct_miss (c : Dev nD) (l : Fin 16384) (e : Fin 128) (he : 32 ≤ e.val) : paddedCt m c (ix2 l e) = 0 := by
  unfold paddedCt
  refine Eq.trans (Cert.Proof.Pad.pad_miss (A := 16384) (N := 128) (U := 32) _ rfl rfl rfl _ rfl _ _ l e he) ?_
  exact zero_word

/-- Of the padded columns only the first 32 count. -/
theorem sum_padded (c : Dev nD) (l : Fin 16384) (q : Fin 1024) :
    ∑ e : Fin 128, paddedCt m c (ix2 l e) * padded m c (ix2 q e) = ∑ h : Fin 32, ct m c (ix2 l h) * wts m c (ix2 q h) := by
  refine (Fin.sum_univ_add (a := 32) (b := 96) fun e : Fin 128 => paddedCt m c (ix2 l e) * padded m c (ix2 q e)).trans ?_
  refine Eq.trans (congrArg₂ (fun a b : EReal => a + b) (Finset.sum_congr rfl fun h _ => ?_) (Finset.sum_eq_zero fun h _ => ?_)) (add_zero _)
  · unfold paddedCt padded
    exact congrArg₂ (fun a b : EReal => a * b)
      (Cert.Proof.Pad.pad_at (A := 16384) (N := 128) (U := 32) _ rfl rfl rfl _ rfl _ _ l h _ rfl)
      (Cert.Proof.Pad.pad_at (A := 1024) (N := 128) (U := 32) _ rfl rfl rfl _ rfl _ _ q h _ rfl)
  · refine (congrArg (fun a : EReal => a * padded m c (ix2 q (Fin.natAdd 32 h))) (ct_miss m c l (Fin.natAdd 32 h) ?_)).trans (zero_mul _)
    exact Nat.le_add_right 32 h.val

/-- The blocks that step `t` of the grid takes. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The block of the padded columns, the same at each step. -/
theorem cols_at (c : Dev nD) (t : Fin cfg0.N) (q : Fin 1024) (e : Fin 128) : iblk m c 1 t (ix2 q e) = padded m c (ix2 q e) := by
  have h : (win0_1.blk t).view.emb (ix2 q e) = (ix2 q e : S1024x128.Idx) := by
    refine (eq_ix2 _).trans (congrArg₂ _ (Fin.ext ?_) (Fin.ext ?_)) <;> blk_simp [idx t]
  have p := pad_arr m c
  unfold iblk
  generalize V m c = W at p ⊢
  generalize padded m c = P at p ⊢
  refine Eq.trans ?_ (congrFun p (ix2 q e))
  exact congrArg (W main_v7) h

/-- A row of a step's padded gradient, of all the rows. -/
theorem rows_at (c : Dev nD) (t : Fin cfg0.N) (r : Fin 1024) (l : Fin 16384) (hl : l.val = t.val * 1024 + r.val) (e : Fin 128) : iblk m c 0 t (ix2 r e) = paddedCt m c (ix2 l e) := by
  have h : (win0_0.blk t).view.emb (ix2 r e) = (ix2 l e : S16384x128.Idx) := by
    refine (eq_ix2 _).trans (congrArg₂ _ (Fin.ext ?_) (Fin.ext ?_)) <;> blk_simp [idx t, hl]
  have p := ct_arr m c
  unfold iblk
  generalize V m c = W at p ⊢
  generalize paddedCt m c = P at p ⊢
  refine Eq.trans ?_ (congrFun p (ix2 l e))
  exact congrArg (W main_v2) h

/-- What a step stores: its product, added to the block of the array. -/
theorem pay (x0 x1 x2 j) : k0_pay1 (F := Ideal) x0 x1 x2 j = (∑ k : Fin 128, x0 (ix2 (j 0) k) * x1 (ix2 (j 1) k)) + x2 j := by
  pointwise [k0_pay1]

/-- The result array of the call holds the plain product, added to the array. -/
theorem final (c : Dev nD) : (dats m 0 c).arrAt 3 (cfgs 0).N
    = (fun j => (∑ h : Fin 32, ct m c (ix2 (j 0) h) * wts m c (ix2 (j 1) h)) + base m c j : FVec Ideal S16384x1024 .f32) := by
  refine (dats m 0 c).arrAt_eq_of_covers 3 _ (by decide +kernel) fun t _ y => ?_
  blk_simp
  rw [after0_3]; frame_out
  rw [pay]
  have e : ((win0_3.blk t).view.emb y 1 : Fin 1024) = y 1 := Fin.ext (by blk_simp [idx t])
  refine congrArg₂ (fun a b : EReal => a + b) (Eq.trans (Finset.sum_congr rfl fun k _ => congrArg₂ (fun a b : EReal => a * b)
    (rows_at m c t (y 0) ((win0_3.blk t).view.emb y 0) ?_ k) ((cols_at m c t (y 1) k).trans (congrArg (fun q : Fin 1024 => padded m c (ix2 q k)) e.symm))) (sum_padded m c _ _)) ?_
  · blk_simp [idx t]
  · blk_point [iblk, idx t]

/-- The call with the host's padding and the plain product end with the same result. -/
theorem algebraic : Cert.algebraic_SsdDInDtIdeal_SsdDInDtRefIdeal := by
  pair_intro
  · run_from Cert.SsdDInDtIdeal.Gen.run_main m g
  · hlo_run
    rw [final m c]
    funext j
    pointwise
    rw [add_comm]

end Cert.SsdDInDtIdeal.Value

end
-- ==== Proof.NormMod.lean ====
module

public import proofs.«01_k».proof.Defs
public import proofs.«01_k».proof.Proof.Gen.NormModIdeal.Frame
public import proofs.«01_k».proof.Proof.Gen.NormModRefIdeal
public import Idealize.ShloMosaic.Lib.Claim
public import Idealize.ShloMosaic.Lib.Pipeline.ValueKit

@[expose] public section

/-! The norm of a row with its modulation: `x / rms x * g * (1 + scale) + shift`. -/

set_option maxRecDepth 16384

noncomputable section

namespace Cert.NormModIdeal.Value

open Idealize.ShloMosaic Idealize.ShloMosaic.TcCoe Idealize.SL.Sem
open Cert.NormModIdeal Cert.NormModIdeal.Gen

variable (m : (ℓ : Loc nD τ sig) → Buf (Elt Ideal) ℓ)

/-- The plain lines run to their end and leave no signal. -/
theorem frame_ref : Cert.quiescent_NormModRefIdeal (hNormModRefIdeal := Cert.NormModRefIdeal.Gen.facts) := by
  intro m g _
  refine (θ_run (Cert.NormModRefIdeal.defs (F := Ideal)) _ _).mono (fun r h => ⟨h, sem_eq_zero_of_no_sems (by decide) r.2⟩) ?_
  hlo_run

/-- The reciprocal of each row's root mean square, as reference.py writes it. -/
abbrev rrms (X : FVec Ideal Cert.NormModRefIdeal.S16384x1024 .f32) : FVec Ideal Cert.NormModRefIdeal.S16384x1 .f32 :=
  Host.rsqrt (addf
    (Host.divf (broadcastInDim Cert.NormModRefIdeal.S16384x1 ![0] (by decide)
        (Host.reduceAdd (mulf X X) (constant Cert.NormModRefIdeal.S_ .f32 0x00000000#32) Cert.NormModRefIdeal.Gen.reducesTo_S16384x1024_S16384_d1 (by decide)))
      (broadcastInDim Cert.NormModRefIdeal.S16384x1 ![] (by decide) (constant Cert.NormModRefIdeal.S_ .f32 0x44800000#32)))
    (broadcastInDim Cert.NormModRefIdeal.S16384x1 ![] (by decide) (constant Cert.NormModRefIdeal.S_ .f32 0x3727C5AC#32)))

/-- The modulated norm. -/
abbrev value (X : FVec Ideal Cert.NormModRefIdeal.S16384x1024 .f32) (G : FVec Ideal Cert.NormModRefIdeal.S1024 .f32)
    (Sh Sc : FVec Ideal Cert.NormModRefIdeal.S1x1024 .f32) : FVec Ideal Cert.NormModRefIdeal.S16384x1024 .f32 :=
  addf (mulf (mulf (mulf X (broadcastInDim Cert.NormModRefIdeal.S16384x1024 ![0, 1] (by decide) (rrms X)))
      (broadcastInDim Cert.NormModRefIdeal.S16384x1024 ![0, 1] (by decide) (broadcastInDim Cert.NormModRefIdeal.S1x1024 ![1] (by decide) G)))
    (broadcastInDim Cert.NormModRefIdeal.S16384x1024 ![0, 1] (by decide)
      (addf (broadcastInDim Cert.NormModRefIdeal.S1x1024 ![] (by decide) (constant Cert.NormModRefIdeal.S_ .f32 0x3F800000#32)) Sc)))
    (broadcastInDim Cert.NormModRefIdeal.S16384x1024 ![0, 1] (by decide) Sh)

/-- The blocks that step `t` of the grid takes. -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- The host makes the factors one row. -/
theorem row_arr (c : Dev nD) : V m c main_v0 = (shapeCast S1x1024 (m ((c : Thread nD τ).loc main_arg1) : FVec Ideal S1024 .f32) shapeCasts_S1024_S1x1024 : FVec Ideal S1x1024 .f32) := by
  show StableHlo.after _ _ _ = _
  simp only [List.flatten_cons, List.flatten_nil, List.append_nil, hostOps0, StableHlo.after_cons, StableHlo.after_nil]
  after_results_simp
  rfl

/-- The block of the norm's factors, the same at each step. -/
theorem row_at (c : Dev nD) (t : Fin cfg0.N) (k : Fin 1024) : iblk m c 1 t (ix2 0 k) = m ((c : Thread nD τ).loc main_arg1) (ix1 k) := by
  have e : (win0_1.blk t).view.emb (ix2 0 k) = (ix2 0 k : S1x1024.Idx) := by
    refine (eq_ix2 _).trans (congrArg₂ _ (Fin.ext ?_) (Fin.ext ?_)) <;> blk_simp [idx t]
  refine (congrArg (V m c main_v0) e).trans ((congrFun (row_arr m c) _).trans ?_)
  pointwise

/-- The result array of the call holds the modulated norm. -/
theorem final (c : Dev nD) : (dats m 0 c).arrAt 4 (cfgs 0).N = (truncf .bf16 (value (m ((c : Thread nD τ).loc main_arg0))
    (m ((c : Thread nD τ).loc main_arg1)) (m ((c : Thread nD τ).loc main_arg2)) (m ((c : Thread nD τ).loc main_arg3))) bitsLt_bf16_f32 :
    FVec Ideal S16384x1024 .bf16) := by
  refine (dats m 0 c).arrAt_eq_of_covers 4 _ (by decide +kernel) fun t _ y => ?_
  blk_simp
  rw [after0_4]; frame_out
  pointwise [k0_pay1, value]
  refine congrArg₂ (fun a b : EReal => a + b) (congrArg₂ (fun a b : EReal => a * b) (congrArg₂ (fun a b : EReal => a * b) ?_
    ((row_at m c t (y 1)).trans ?_)) (congrArg (fun b : EReal => 1 + b) ?_)) ?_
  all_goals blk_point [iblk, idx t]

/-- After the call the host casts the result array to f32. -/
theorem cast (c : Dev nD) (X : FVec Ideal S16384x1024 .bf16) (hX : (dats m 0 c).arrAt 4 (cfgs 0).N = X) :
    Pipeline.afterTail₀ cfgs (dats m) 0 (V0 m) [hostOps1] c main_v2 = (extf .f32 X bitsLt_bf16_f32 : FVec Ideal S16384x1024 .f32) := by
  unfold Pipeline.afterTail₀
  have h := Pipeline.withArrays_arr (cfgs 0).spec (by decide) c (V0 m c) (fun w => (dats m 0 c).arrAt w (cfgs 0).N) 4
  rw [hX] at h
  simp only [List.flatten_cons, List.flatten_nil, List.append_nil, hostOps1]
  revert h
  generalize Pipeline.withArrays _ _ _ _ = V
  intro h
  simp only [StableHlo.after_cons, StableHlo.after_nil]
  after_results_simp
  exact congrArg (extf .f32 · bitsLt_bf16_f32) h

/-- The call with the host's cast and the plain lines end with the same result. -/
theorem algebraic : Cert.algebraic_NormModIdeal_NormModRefIdeal := by
  pair_intro
  · run_from Cert.NormModIdeal.Gen.run_main m g
    · exact W_main_arg1 m (dats m) c
  · hlo_run
    rw [cast m c _ (final m c)]
    rfl

end Cert.NormModIdeal.Value

end
-- ==== Proof.Gelu.lean ====
module

public import proofs.«01_k».proof.Defs
public import proofs.«01_k».proof.Proof.Gen.GeluIdeal.Frame
public import proofs.«01_k».proof.Proof.Gen.GeluRefIdeal
public import Idealize.ShloMosaic.Lib.Claim
public import Idealize.ShloMosaic.Lib.Pipeline.ValueKit

@[expose] public section

/-! The activation of the S5 layer: `gelu (y + d * u)`, in its form with a hyperbolic tangent. -/

set_option maxRecDepth 16384

noncomputable section

namespace Cert.GeluIdeal.Value

open Idealize.ShloMosaic Idealize.ShloMosaic.TcCoe Idealize.SL.Sem
open Cert.GeluIdeal Cert.GeluIdeal.Gen

variable (m : (ℓ : Loc nD τ sig) → Buf (Elt Ideal) ℓ)

/-- The plain lines run to their end and leave no signal. -/
theorem frame_ref : Cert.quiescent_GeluRefIdeal (hGeluRefIdeal := Cert.GeluRefIdeal.Gen.facts) := by
  intro m g _
  refine (θ_run (Cert.GeluRefIdeal.defs (F := Ideal)) _ _).mono (fun r h => ⟨h, sem_eq_zero_of_no_sems (by decide) r.2⟩) ?_
  hlo_run

/-- A number on every place. -/
abbrev num (b : BitVec 32) : FVec Ideal Cert.GeluRefIdeal.S16384x1024 .f32 :=
  broadcastInDim Cert.GeluRefIdeal.S16384x1024 ![] (by decide) (constant Cert.GeluRefIdeal.S_ .f32 b)

/-- The argument of the activation. -/
abbrev arg (Y U : FVec Ideal Cert.GeluRefIdeal.S16384x1024 .f32) (S : FVec Ideal Cert.GeluRefIdeal.S1024 .f32) : FVec Ideal Cert.GeluRefIdeal.S16384x1024 .f32 :=
  addf Y (mulf (broadcastInDim Cert.GeluRefIdeal.S16384x1024 ![0, 1] (by decide) (broadcastInDim Cert.GeluRefIdeal.S1x1024 ![1] (by decide) S)) U)

/-- The activation, with its constants each by its bits. -/
abbrev value (Y U : FVec Ideal Cert.GeluRefIdeal.S16384x1024 .f32) (S : FVec Ideal Cert.GeluRefIdeal.S1024 .f32) : FVec Ideal Cert.GeluRefIdeal.S16384x1024 .f32 :=
  mulf (arg Y U S) (mulf (num 0x3F000000#32) (addf (num 0x3F800000#32) (Host.tanh (mulf (num 0x3F4C422A#32)
    (addf (arg Y U S) (mulf (num 0x3D372713#32) (mulf (mulf (arg Y U S) (arg Y U S)) (arg Y U S))))))))

/-- The blocks that step `t` of the grid takes. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The activation of one entry. -/
abbrev act (z : EReal) : EReal := z * (Ideal.ofBits FTy.f32 0x3F000000#32
  * (1 + Ideal.tanh (Ideal.ofBits FTy.f32 0x3F4C422A#32 * (z + Ideal.ofBits FTy.f32 0x3D372713#32 * (z * z * z)))))

/-- The factors of the activation in the other order. -/
theorem order (a v t : EReal) : a * v * t = v * (a * t) := by rw [mul_comm a v, mul_assoc]

/-- The host makes the factors one row. -/
theorem row_arr (c : Dev nD) : V m c main_v1 = (shapeCast S1x1024 (m ((c : Thread nD τ).loc main_arg2) : FVec Ideal S1024 .f32) shapeCasts_S1024_S1x1024 : FVec Ideal S1x1024 .f32) := by
  show StableHlo.after _ _ _ = _
  simp only [List.flatten_cons, List.flatten_nil, List.append_nil, hostOps0, StableHlo.after_cons, StableHlo.after_nil]
  after_results_simp
  rfl

/-- The block of the factors, the same at each step. -/
theorem row_at (c : Dev nD) (t : Fin cfg0.N) (k : Fin 1024) : iblk m c 2 t (ix2 0 k) = m ((c : Thread nD τ).loc main_arg2) (ix1 k) := by
  have e : (win0_2.blk t).view.emb (ix2 0 k) = (ix2 0 k : S1x1024.Idx) := by
    refine (eq_ix2 _).trans (congrArg₂ _ (Fin.ext ?_) (Fin.ext ?_)) <;> blk_simp [idx t]
  refine (congrArg (V m c main_v1) e).trans ((congrFun (row_arr m c) _).trans ?_)
  pointwise

/-- The result array of the call holds the activation. -/
theorem final (c : Dev nD) : (dats m 0 c).arrAt 3 (cfgs 0).N = (truncf .bf16 (value (m ((c : Thread nD τ).loc main_arg0))
    (m ((c : Thread nD τ).loc main_arg1)) (m ((c : Thread nD τ).loc main_arg2))) bitsLt_bf16_f32 : FVec Ideal S16384x1024 .bf16) := by
  refine (dats m 0 c).arrAt_eq_of_covers 3 _ (by decide +kernel) fun t _ y => ?_
  blk_simp
  rw [after0_3]; frame_out
  pointwise [k0_pay1, value]
  rw [order]
  refine congrArg act (congrArg₂ (fun a b : EReal => a + b) ?_ (congrArg₂ (fun a b : EReal => a * b) ((row_at m c t (y 1)).trans ?_) ?_))
  all_goals blk_point [iblk, idx t]

/-- After the call the host casts the result array to f32. -/
theorem cast (c : Dev nD) (X : FVec Ideal S16384x1024 .bf16) (hX : (dats m 0 c).arrAt 3 (cfgs 0).N = X) :
    Pipeline.afterTail₀ cfgs (dats m) 0 (V0 m) [hostOps1] c main_v3 = (extf .f32 X bitsLt_bf16_f32 : FVec Ideal S16384x1024 .f32) := by
  unfold Pipeline.afterTail₀
  have h := Pipeline.withArrays_arr (cfgs 0).spec (by decide) c (V0 m c) (fun w => (dats m 0 c).arrAt w (cfgs 0).N) 3
  rw [hX] at h
  simp only [List.flatten_cons, List.flatten_nil, List.append_nil, hostOps1]
  revert h
  generalize Pipeline.withArrays _ _ _ _ = V
  intro h
  simp only [StableHlo.after_cons, StableHlo.after_nil]
  after_results_simp
  exact congrArg (extf .f32 · bitsLt_bf16_f32) h

/-- The call with the host's cast and the plain lines end with the same result. -/
theorem algebraic : Cert.algebraic_GeluIdeal_GeluRefIdeal := by
  pair_intro
  · run_from Cert.GeluIdeal.Gen.run_main m g
    · exact W_main_arg0 m (dats m) c
    · exact W_main_arg2 m (dats m) c
  · hlo_run
    rw [cast m c _ (final m c)]
    rfl

end Cert.GeluIdeal.Value

end
-- ==== Proof.Glu.lean ====
module

public import proofs.«01_k».proof.Defs
public import proofs.«01_k».proof.Proof.Gen.GluIdeal.Frame
public import proofs.«01_k».proof.Proof.Gen.GluRefIdeal
public import Idealize.ShloMosaic.Lib.Claim
public import Idealize.ShloMosaic.Lib.Pipeline.ValueKit

@[expose] public section

/-! The gate of the S5 layer: `x + gate * (val * sigmoid g)`, of the two halves of `ab + bias`. -/

set_option maxRecDepth 16384

noncomputable section

namespace Cert.GluIdeal.Value

open Idealize.ShloMosaic Idealize.ShloMosaic.TcCoe Idealize.SL.Sem
open Cert.GluIdeal Cert.GluIdeal.Gen

variable (m : (ℓ : Loc nD τ sig) → Buf (Elt Ideal) ℓ)

/-- The plain lines run to their end and leave no signal. -/
theorem frame_ref : Cert.quiescent_GluRefIdeal (hGluRefIdeal := Cert.GluRefIdeal.Gen.facts) := by
  intro m g _
  refine (θ_run (Cert.GluRefIdeal.defs (F := Ideal)) _ _).mono (fun r h => ⟨h, sem_eq_zero_of_no_sems (by decide) r.2⟩) ?_
  hlo_run

/-- The two halves' sum with the bias, as reference.py writes it. -/
abbrev biased (AB : FVec Ideal Cert.GluRefIdeal.S16384x2048 .f32) (B : FVec Ideal Cert.GluRefIdeal.S2048 .f32) : FVec Ideal Cert.GluRefIdeal.S16384x2048 .f32 :=
  addf AB (broadcastInDim Cert.GluRefIdeal.S16384x2048 ![0, 1] (by decide) (broadcastInDim Cert.GluRefIdeal.S1x2048 ![1] (by decide) B))

/-- One, over the gate's array. -/
abbrev ones : FVec Ideal Cert.GluRefIdeal.S16384x1024 .f32 :=
  broadcastInDim Cert.GluRefIdeal.S16384x1024 ![] (by decide) (constant Cert.GluRefIdeal.S_ .f32 0x3F800000#32)

/-- The gated sum. -/
abbrev value (AB : FVec Ideal Cert.GluRefIdeal.S16384x2048 .f32) (B : FVec Ideal Cert.GluRefIdeal.S2048 .f32)
    (X : FVec Ideal Cert.GluRefIdeal.S16384x1024 .f32) (G : FVec Ideal Cert.GluRefIdeal.S1x1024 .f32) : FVec Ideal Cert.GluRefIdeal.S16384x1024 .f32 :=
  addf X (mulf (broadcastInDim Cert.GluRefIdeal.S16384x1024 ![0, 1] (by decide) G)
    (mulf (extractStridedSlice Cert.GluRefIdeal.S16384x1024 ![0, 0] (biased AB B) (by decide))
      (Host.divf ones (addf ones (Host.exp (Host.negf
        (extractStridedSlice Cert.GluRefIdeal.S16384x1024 ![0, 1024] (biased AB B) (by decide))))))))

/-- The blocks that step `t` of the grid takes. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] :=
  (by decide +kernel : ∀ t : Fin grid0.N, _)

/-- The block of the bias, the same at each step. -/
theorem bias_at (c : Dev nD) (t : Fin cfg0.N) (k : Fin 2048) : iblk m c 2 t (ix2 0 k) = m ((c : Thread nD τ).loc main_arg1) (ix1 k) := by
  blk_point [iblk, idx t]

/-- The result array of the call holds the gated sum. -/
theorem final (c : Dev nD) : (dats m 0 c).arrAt 4 (cfgs 0).N = value (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay1, value]
  rw [bias_at, bias_at]
  refine congrArg₂ (fun a b : EReal => a + b) ?_ (congrArg₂ (fun a b : EReal => a * b) ?_ (congrArg₂ (fun a b : EReal => a * b)
    (congrArg₂ (fun a b : EReal => a + b) ?_ ?_) (congrArg Ideal.logistic (congrArg₂ (fun a b : EReal => a + b) ?_ ?_))))
  all_goals blk_point [iblk, idx t]

/-- The call and the plain lines end with the same result. -/
theorem algebraic : Cert.algebraic_GluIdeal_GluRefIdeal := by
  pair_intro
  · run_from Cert.GluIdeal.Gen.run_main m g
  · hlo_run
    exact (final m c).symm

end Cert.GluIdeal.Value

end
-- ==== Proof.GluGrad.lean ====
module

public import proofs.«01_k».proof.Defs
public import proofs.«01_k».proof.Proof.Gen.GluGradIdeal.Frame
public import proofs.«01_k».proof.Proof.Gen.GluGradRefIdeal
public import Idealize.ShloMosaic.Lib.Claim
public import Idealize.ShloMosaic.Lib.Pipeline.ValueKit
public import Idealize.ShloMosaic.Lib.Pipeline.CanonAppend
public import Idealize.ShloMosaic.Lib.Routing.Shapes

@[expose] public section

/-! The gradients of the gated sum with respect to its two halves, their bias and the gate; the last two are sums over all rows. -/

set_option maxRecDepth 16384

noncomputable section

namespace Cert.GluGradIdeal.Value

open Idealize.ShloMosaic Idealize.ShloMosaic.TcCoe Idealize.SL.Sem
open Cert.GluGradIdeal Cert.GluGradIdeal.Gen Idealize.ShloMosaic.Routing

variable (m : (ℓ : Loc nD τ sig) → Buf (Elt Ideal) ℓ)

/-- The plain lines run to their end and leave no signal. -/
theorem frame_ref : Cert.quiescent_GluGradRefIdeal (hGluGradRefIdeal := Cert.GluGradRefIdeal.Gen.facts) := by
  intro m g _
  refine (θ_run (Cert.GluGradRefIdeal.defs (F := Ideal)) _ _).mono (fun r h => ⟨h, sem_eq_zero_of_no_sems (by decide) r.2⟩) ?_
  hlo_run

/-- A column of the first half. -/
abbrev lo (k : Fin 1024) : Fin 2048 := ⟨k.val, by omega⟩

/-- A column of the second half. -/
abbrev hi (k : Fin 1024) : Fin 2048 := ⟨1024 + k.val, by omega⟩

/-- The gradient of the first half: that of the product, of gate `g` and incoming gradient `d`, times the sigmoid of the second half `h`. -/
abbrev side (g d h : EReal) : EReal := g * d * Ideal.logistic h

/-- The gradient of the second half `h`, of the first half `v`. -/
abbrev side' (g d v h : EReal) : EReal := g * d * v * (Ideal.logistic h * (1 - Ideal.logistic h))

/-- One row of the gradient of both halves: of the row `a`, the bias `b`, the row `d` of the incoming gradient and the gate `g`. -/
def grad (a b : Fin 2048 → EReal) (d g : Fin 1024 → EReal) (q : Fin 2048) : EReal :=
  if h : q.val < 1024 then side (g ⟨q.val, h⟩) (d ⟨q.val, h⟩) (a (hi ⟨q.val, h⟩) + b (hi ⟨q.val, h⟩))
  else side' (g ⟨q.val - 1024, by omega⟩) (d ⟨q.val - 1024, by omega⟩) (a (lo ⟨q.val - 1024, by omega⟩) + b (lo ⟨q.val - 1024, by omega⟩)) (a q + b q)

/-- The row at a column of the first half. -/
theorem grad_lo (a b d g k) : grad a b d g (lo k) = side (g k) (d k) (a (hi k) + b (hi k)) := dif_pos k.isLt

/-- The row at a column of the second half. -/
theorem grad_hi (a b d g k) : grad a b d g (hi k) = side' (g k) (d k) (a (lo k) + b (lo k)) (a (hi k) + b (hi k)) := by
  have e : (⟨(hi k).val - 1024, by omega⟩ : Fin 1024) = k := Fin.ext (by show 1024 + k.val - 1024 = k.val; omega)
  unfold grad
  rw [dif_neg (by show ¬1024 + k.val < 1024; omega), e]

/-- The first half's columns of a row, in a block. -/
abbrev left {A : ℕ} (h : ∀ a : Fin (shape2 A 2048).rank, ![0, 0] a + ![A, 1024] a ≤ (shape2 A 2048).size a) : Rect (shape2 A 2048) := Rect.unit ![0, 0] ![A, 1024] h

/-- The second half's columns. -/
abbrev right {A : ℕ} (h : ∀ a : Fin (shape2 A 2048).rank, ![0, 1024] a + ![A, 1024] a ≤ (shape2 A 2048).size a) : Rect (shape2 A 2048) := Rect.unit ![0, 1024] ![A, 1024] h

/-- Where a column of the first half lies. -/
theorem left_emb {A : ℕ} (h) (j : (shape2 A 1024).Idx) : (left (A := A) h).emb j = ix2 (j 0) (lo (j 1)) := by
  refine (eq_ix2 _).trans (congrArg₂ _ (Fin.ext ?_) (Fin.ext ?_))
  · show 0 + 1 * (j 0).val = _
    omega
  · show 0 + 1 * (j 1).val = (j 1).val
    omega

/-- Where a column of the second half lies. -/
theorem right_emb {A : ℕ} (h) (j : (shape2 A 1024).Idx) : (right (A := A) h).emb j = ix2 (j 0) (hi (j 1)) := by
  refine (eq_ix2 _).trans (congrArg₂ _ (Fin.ext ?_) (Fin.ext ?_))
  · show 0 + 1 * (j 0).val = _
    omega
  · show 1024 + 1 * (j 1).val = 1024 + (j 1).val
    omega

/-- A column is in one of the halves. -/
theorem halves {A : ℕ} (h h') (j : (shape2 A 2048).Idx) : j ∈ (right (A := A) h).set ∨ j ∈ (left (A := A) h').set := by
  have hj : (j 1).val < 2048 := (j 1).isLt
  have h0 : (j 0).val < A := (j 0).isLt
  by_cases e : (j 1).val < 1024
  · refine .inr (Rect.mem_set_unit.2 fun a => ?_)
    fin_cases a
    · exact ⟨Nat.zero_le _, by show (j 0).val < 0 + A; omega⟩
    · exact ⟨Nat.zero_le _, by show (j 1).val < 0 + 1024; omega⟩
  · refine .inl (Rect.mem_set_unit.2 fun a => ?_)
    fin_cases a
    · exact ⟨Nat.zero_le _, by show (j 0).val < 0 + A; omega⟩
    · exact ⟨by show 1024 ≤ (j 1).val; omega, by show (j 1).val < 1024 + 1024; omega⟩

/-- No column of the second half is in the first. -/
theorem apart {A : ℕ} (h h') (j : (shape2 A 1024).Idx) : (right (A := A) h).emb j ∉ (left (A := A) h').set := fun e => by
  have e := (Rect.mem_set_unit.1 e 1).2
  rw [right_emb] at e
  exact absurd (show 1024 + (j 1).val < 0 + 1024 from e) (by omega)

/-- A row of a block's gradient of both halves. -/
abbrev block (x0 : FVec Ideal S256x2048 .f32) (x1 : FVec Ideal S256x1024 .f32) (x2 : FVec Ideal S1x2048 .f32) (x3 : FVec Ideal S1x1024 .f32)
    (r : Fin 256) (q : Fin 2048) : EReal :=
  grad (fun q => x0 (ix2 r q)) (fun q => x2 (ix2 0 q)) (fun k => x1 (ix2 r k)) (fun k => x3 (ix2 0 k)) q

/-- The columns of an array in its first half. -/
abbrev ldl {A : ℕ} (x : FVec Ideal (shape2 A 2048) .f32)
    (h : ∀ a : Fin (shape2 A 2048).rank, ![0, 0] a + ![A, 1024] a ≤ (shape2 A 2048).size a) : FVec Ideal (shape2 A 1024) .f32 := View.ld (Val := Elt Ideal) (e' := .f32) x (left h)

/-- The columns of an array in its second half. -/
abbrev ldr {A : ℕ} (x : FVec Ideal (shape2 A 2048) .f32)
    (h : ∀ a : Fin (shape2 A 2048).rank, ![0, 1024] a + ![A, 1024] a ≤ (shape2 A 2048).size a) : FVec Ideal (shape2 A 1024) .f32 := View.ld (Val := Elt Ideal) (e' := .f32) x (right h)

/-- The first half's columns, at one index. -/
theorem ldl_at {A : ℕ} (x : FVec Ideal (shape2 A 2048) .f32) (h j) : ldl x h j = x (ix2 (j 0) (lo (j 1))) := congrArg x (left_emb h j)

/-- The second half's columns, at one index. -/
theorem ldr_at {A : ℕ} (x : FVec Ideal (shape2 A 2048) .f32) (h j) : ldr x h j = x (ix2 (j 0) (hi (j 1))) := congrArg x (right_emb h j)

/-- What a step computes for the first half. -/
theorem first_at (x0 : FVec Ideal S256x2048 .f32) (x1 : FVec Ideal S256x1024 .f32) (x2 : FVec Ideal S1x2048 .f32) (x3 : FVec Ideal S1x1024 .f32) (h h')
    (j : S256x1024.Idx) : k0_pay10 (F := Ideal) (ldr x0 h) (ldr x2 h') x1 x3 j = block x0 x1 x2 x3 (j 0) (lo (j 1)) := by
  refine Eq.trans ?_ (grad_lo _ _ _ _ _).symm
  pointwise [k0_pay10, k0_pay9, k0_pay7]
  rw [ldr_at, ldr_at, eq_ix2 j]
  rfl

/-- What a step computes for the second half. -/
theorem second_at (x0 : FVec Ideal S256x2048 .f32) (x1 : FVec Ideal S256x1024 .f32) (x2 : FVec Ideal S1x2048 .f32) (x3 : FVec Ideal S1x1024 .f32)
    (h h' h'' h''') (j : S256x1024.Idx) :
    k0_pay11 (F := Ideal) (ldl x0 h) (ldl x2 h') (ldr x0 h'') (ldr x2 h''') x1 x3 j = block x0 x1 x2 x3 (j 0) (hi (j 1)) := by
  refine Eq.trans ?_ (grad_hi _ _ _ _ _).symm
  pointwise [k0_pay11, k0_pay9, k0_pay7, k0_pay6]
  rw [ldr_at, ldr_at, ldl_at, ldl_at, eq_ix2 j]
  rfl

/-- A step adds its rows' gradient of the first half. -/
theorem next_first (u w) (j : S1x1024.Idx) : k0_pay2 (F := Ideal) u w j = w j + ∑ r : Fin 256, u (ix2 r (j 1)) := by
  pointwise [k0_pay2]

/-- A step adds its rows' gradient of the second half. -/
theorem next_second (u w) (j : S1x1024.Idx) : k0_pay3 (F := Ideal) u w j = w j + ∑ r : Fin 256, u (ix2 r (j 1)) := by
  pointwise [k0_pay3]

/-- What a step adds to the gate's gradient. -/
theorem next_gate (x0 : FVec Ideal S256x2048 .f32) (x1 : FVec Ideal S256x1024 .f32) (x2 : FVec Ideal S1x2048 .f32) (w : FVec Ideal S1x1024 .f32)
    (h h' h'' h''') (j : S1x1024.Idx) : k0_pay8 (F := Ideal) (ldl x0 h) (ldl x2 h') (ldr x0 h'') (ldr x2 h''') x1 w j
    = w j + ∑ r : Fin 256, x1 (ix2 r (j 1)) * ((x0 (ix2 r (lo (j 1))) + x2 (ix2 0 (lo (j 1)))) * Ideal.logistic (x0 (ix2 r (hi (j 1))) + x2 (ix2 0 (hi (j 1))))) := by
  pointwise [k0_pay8, k0_pay6, k0_pay7]
  exact congrArg (fun a : EReal => w j + a) (Finset.sum_congr rfl fun r _ => congrArg (fun a : EReal => x1 (ix2 r (j 1)) * a)
    (congrArg₂ (fun a b : EReal => a * Ideal.logistic b) (congrArg₂ (fun a b : EReal => a + b) (ldl_at _ _ _) (ldl_at _ _ _))
      (congrArg₂ (fun a b : EReal => a + b) (ldr_at _ _ _) (ldr_at _ _ _))))

/-- Two blocks stored one after the other, the second half last, where one array `G` holds what both store. -/
theorem stored {A : ℕ} {e : EltTy} (L' : List (View.Piece (Elt Ideal) (shape2 A 2048) e)) (u v : (shape2 A 1024).Idx → Elt Ideal e)
    (G : (shape2 A 2048).Idx → Elt Ideal e) (h h') (hv : ∀ j, v j = G (ix2 (j 0) (hi (j 1)))) (hu : ∀ j, u j = G (ix2 (j 0) (lo (j 1)))) (j) :
    View.canon ([⟨right h, v⟩, ⟨left h', u⟩] ++ L') j = G j := by
  refine View.canon_append_of_pieces G L' _ ?_ j ?_
  · intro p hp
    rcases List.mem_cons.1 hp with rfl | hp
    · exact fun x => (hv x).trans (congrArg G (right_emb h x).symm)
    · rcases List.mem_singleton.1 hp with rfl
      exact fun x => (hu x).trans (congrArg G (left_emb h' x).symm)
  · rcases halves h h' j with hj | hj
    · exact ⟨⟨right h, v⟩, .head _, hj⟩
    · exact ⟨⟨left h', u⟩, .tail _ (.head _), hj⟩

/-- The corner of an array. -/
theorem zeros : (![0, 0] : Fin 2 → ℕ) = fun _ => 0 := by decide

/-- A block of zeros, read. -/
theorem zero_at (h) (y : S1x2048.Idx) :
    View.canon (Val := Elt Ideal) (e := .f32) [⟨Rect.unit (s := S1x2048) ![0, 0] S1x2048.size h, k0_pay4 (F := Ideal)⟩] y = 0 := by
  rw [View.canon_cons_unit_zero zeros]
  pointwise [k0_pay4]

/-- A block of zeros whose first half has been overwritten, read at its second half. -/
theorem zero_second (u : FVec Ideal S1x1024 .f32) (h h' h'') (j : S1x1024.Idx) :
    View.canon (Val := Elt Ideal) (e := .f32) [⟨left (A := 1) h, u⟩, ⟨Rect.unit (s := S1x2048) ![0, 0] S1x2048.size h', k0_pay4 (F := Ideal)⟩] ((right (A := 1) h'').emb j) = 0 := by
  have e := apart (A := 1) h'' h j
  exact (View.canon_cons_of_not_mem (Val := Elt Ideal) (e := .f32) ⟨left (A := 1) h, u⟩ _ e).trans (zero_at h' _)

/-- The blocks that step `t` of the grid takes. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, 0] ∧ win0_6.index t = ![0, 0] :=
  (by decide +kernel : ∀ t : Fin grid0.N, _)

/-- The rows of the input at step `t`. -/
abbrev x0 (c : Dev nD) (t : Fin cfg0.N) : FVec Ideal S256x2048 .f32 := iblk m c 0 t
/-- The rows of the incoming gradient at step `t`. -/
abbrev x1 (c : Dev nD) (t : Fin cfg0.N) : FVec Ideal S256x1024 .f32 := iblk m c 1 t
/-- The bias at step `t`. -/
abbrev x2 (c : Dev nD) (t : Fin cfg0.N) : FVec Ideal S1x2048 .f32 := iblk m c 2 t
/-- The gate at step `t`. -/
abbrev x3 (c : Dev nD) (t : Fin cfg0.N) : FVec Ideal S1x1024 .f32 := iblk m c 3 t

/-- The block of the first result that step `t` writes. -/
theorem rows_at (c : Dev nD) (t : Fin cfg0.N) (j : S256x2048.Idx) : (outsAt0 m c t.val t.isLt).1 j
    = block (x0 m c t) (x1 m c t) (x2 m c t) (x3 m c t) (j 0) (j 1) := by
  by_cases h : t.val % 64 = 0
  · rw [outsAt0_A m c t h]; frame_out
    refine stored (A := 256) (e := .bf16) [] _ _ (fun j => block (x0 m c t) (x1 m c t) (x2 m c t) (x3 m c t) (j 0) (j 1)) _ _ (fun j => ?_) (fun j => ?_) j
    · exact second_at (x0 m c t) (x1 m c t) (x2 m c t) (x3 m c t) _ _ _ _ j
    · exact first_at (x0 m c t) (x1 m c t) (x2 m c t) (x3 m c t) _ _ j
  · rw [outsAt0_B m c t h]; frame_out
    refine stored (A := 256) (e := .bf16) [] _ _ (fun j => block (x0 m c t) (x1 m c t) (x2 m c t) (x3 m c t) (j 0) (j 1)) _ _ (fun j => ?_) (fun j => ?_) j
    · exact second_at (x0 m c t) (x1 m c t) (x2 m c t) (x3 m c t) _ _ _ _ j
    · exact first_at (x0 m c t) (x1 m c t) (x2 m c t) (x3 m c t) _ _ j

/-- What step `t` adds to the bias's gradient. -/
abbrev part (c : Dev nD) (t : Fin cfg0.N) (q : Fin 2048) : EReal :=
  ∑ r : Fin 256, block (x0 m c t) (x1 m c t) (x2 m c t) (x3 m c t) r q

/-- The bias's gradient after the first step. -/
theorem acc_first (c : Dev nD) (t : Fin cfg0.N) (h : t.val % 64 = 0) (j) : (outsAt0 m c t.val t.isLt).2.1 j = 0 + part m c t (j 1) := by
  rw [outsAt0_A m c t h]; frame_out
  refine stored (A := 1) (e := .f32) [_] _ _ (fun j => 0 + part m c t (j 1)) _ _ (fun j => ?_) (fun j => ?_) j
  · rw [next_second]
    refine congrArg₂ (fun a b : EReal => a + b) ?_ (Finset.sum_congr rfl fun r _ => second_at (x0 m c t) (x1 m c t) (x2 m c t) (x3 m c t) _ _ _ _ (ix2 r (j 1)))
    rw [View.readCov_eq_canon']
    exact zero_second _ _ _ _ j
  · rw [next_first]
    refine congrArg₂ (fun a b : EReal => a + b) ?_ (Finset.sum_congr rfl fun r _ => first_at (x0 m c t) (x1 m c t) (x2 m c t) (x3 m c t) _ _ (ix2 r (j 1)))
    rw [View.readCov_eq_canon']
    exact zero_at _ _

/-- The bias's gradient after a later step. -/
theorem acc_next (c : Dev nD) (t : Fin cfg0.N) (h : ¬t.val % 64 = 0) (j) : (outsAt0 m c t.val t.isLt).2.1 j
    = (outsAt0 m c (t.val - 1) (Nat.lt_of_le_of_lt (Nat.sub_le _ _) t.isLt)).2.1 j + part m c t (j 1) := by
  rw [outsAt0_B m c t h]; frame_out
  refine stored (A := 1) (e := .f32) [] _ _ (fun j => (outsAt0 m c (t.val - 1) (Nat.lt_of_le_of_lt (Nat.sub_le _ _) t.isLt)).2.1 j + part m c t (j 1)) _ _ (fun j => ?_) (fun j => ?_) j
  · rw [next_second]
    exact congrArg₂ (fun a b : EReal => a + b) (ldr_at _ _ j) (Finset.sum_congr rfl fun r _ => second_at (x0 m c t) (x1 m c t) (x2 m c t) (x3 m c t) _ _ _ _ (ix2 r (j 1)))
  · rw [next_first]
    exact congrArg₂ (fun a b : EReal => a + b) (ldl_at _ _ j) (Finset.sum_congr rfl fun r _ => first_at (x0 m c t) (x1 m c t) (x2 m c t) (x3 m c t) _ _ (ix2 r (j 1)))

/-- The gate's gradient at one row and one column: the incoming gradient times the gated sum. -/
abbrev gsum (a b : Fin 2048 → EReal) (d : EReal) (k : Fin 1024) : EReal := d * ((a (lo k) + b (lo k)) * Ideal.logistic (a (hi k) + b (hi k)))

/-- What step `t` adds to the gate's gradient. -/
abbrev gpart (c : Dev nD) (t : Fin cfg0.N) (k : Fin 1024) : EReal :=
  ∑ r : Fin 256, gsum (fun q => x0 m c t (ix2 r q)) (fun q => x2 m c t (ix2 0 q)) (x1 m c t (ix2 r k)) k

/-- The gate's gradient after the first step. -/
theorem gate_first (c : Dev nD) (t : Fin cfg0.N) (h : t.val % 64 = 0) (j) : (outsAt0 m c t.val t.isLt).2.2 j = 0 + gpart m c t (j 1) := by
  rw [outsAt0_A m c t h]; frame_out
  refine (next_gate (x0 m c t) (x1 m c t) (x2 m c t) _ _ _ _ _ j).trans (congrArg (fun a : EReal => a + _) ?_)
  pointwise [k0_pay5]

/-- The gate's gradient after a later step. -/
theorem gate_next (c : Dev nD) (t : Fin cfg0.N) (h : ¬t.val % 64 = 0) (j) : (outsAt0 m c t.val t.isLt).2.2 j
    = (outsAt0 m c (t.val - 1) (Nat.lt_of_le_of_lt (Nat.sub_le _ _) t.isLt)).2.2 j + gpart m c t (j 1) := by
  rw [outsAt0_B m c t h]; frame_out
  exact next_gate (x0 m c t) (x1 m c t) (x2 m c t) _ _ _ _ _ j

/-- The host makes the bias one row. -/
theorem row_arr (c : Dev nD) : V m c main_v0 = (shapeCast S1x2048 (m ((c : Thread nD τ).loc main_arg1) : FVec Ideal S2048 .f32) shapeCasts_S2048_S1x2048 : FVec Ideal S1x2048 .f32) := by
  show StableHlo.after _ _ _ = _
  simp only [List.flatten_cons, List.flatten_nil, List.append_nil, hostOps0, StableHlo.after_cons, StableHlo.after_nil]
  after_results_simp
  rfl

/-- The block of the bias, the same at each step. -/
theorem row_at (c : Dev nD) (t : Fin cfg0.N) (k : Fin 2048) : x2 m c t (ix2 0 k) = m ((c : Thread nD τ).loc main_arg1) (ix1 k) := by
  have e : (win0_2.blk t).view.emb (ix2 0 k) = (ix2 0 k : S1x2048.Idx) := by
    refine (eq_ix2 _).trans (congrArg₂ _ (Fin.ext ?_) (Fin.ext ?_)) <;> blk_simp [idx t]
  refine (congrArg (V m c main_v0) e).trans ((congrFun (row_arr m c) _).trans ?_)
  pointwise

/-- A row of the input. -/
abbrev arow (c : Dev nD) (r : Fin 16384) : Fin 2048 → EReal := fun q => (m ((c : Thread nD τ).loc main_arg0) : FVec Ideal S16384x2048 .f32) (ix2 r q)
/-- The bias. -/
abbrev bias (c : Dev nD) : Fin 2048 → EReal := fun q => (m ((c : Thread nD τ).loc main_arg1) : FVec Ideal S2048 .f32) (ix1 q)
/-- The gate. -/
abbrev gate (c : Dev nD) : Fin 1024 → EReal := fun k => (m ((c : Thread nD τ).loc main_arg2) : FVec Ideal S1x1024 .f32) (ix2 0 k)
/-- A row of the incoming gradient. -/
abbrev drow (c : Dev nD) (r : Fin 16384) : Fin 1024 → EReal := fun k => (m ((c : Thread nD τ).loc main_arg3) : FVec Ideal S16384x1024 .f32) (ix2 r k)

/-- An entry of the gradient of both halves. -/
abbrev full (c : Dev nD) (r : Fin 16384) (q : Fin 2048) : EReal := grad (arow m c r) (bias m c) (drow m c r) (gate m c) q

/-- A row of a step's input, of all the rows. -/
theorem arow_at (c : Dev nD) (t : Fin cfg0.N) (r : Fin 256) (l : Fin 16384) (hl : l.val = t.val * 256 + r.val) (q : Fin 2048) : x0 m c t (ix2 r q) = arow m c l q := by
  blk_point [iblk, idx t]

/-- A row of a step's incoming gradient, of all the rows. -/
theorem drow_at (c : Dev nD) (t : Fin cfg0.N) (r : Fin 256) (l : Fin 16384) (hl : l.val = t.val * 256 + r.val) (k : Fin 1024) : x1 m c t (ix2 r k) = drow m c l k := by
  blk_point [iblk, idx t]

/-- The gate, the same at each step. -/
theorem gate_at (c : Dev nD) (t : Fin cfg0.N) (k : Fin 1024) : x3 m c t (ix2 0 k) = gate m c k := by
  blk_point [iblk, idx t]

/-- A row of a step's gradient, of all the rows. -/
theorem block_at (c : Dev nD) (t : Fin cfg0.N) (r : Fin 256) (l : Fin 16384) (hl : l.val = t.val * 256 + r.val) (q : Fin 2048) :
    block (x0 m c t) (x1 m c t) (x2 m c t) (x3 m c t) r q = full m c l q :=
  congrFun (congr (congr (congr (congrArg grad (funext (arow_at m c t r l hl))) (funext (row_at m c t))) (funext (drow_at m c t r l hl))) (funext (gate_at m c t))) q

/-- The bias's gradient after the last step is the sum over all rows. -/
theorem acc_last (c : Dev nD) (t : Fin cfg0.N) (h : t.val % 64 = 63) (j : S1x2048.Idx) : (outsAt0 m c t.val t.isLt).2.1 j = ∑ l : Fin 16384, full m c l (j 1) := by
  refine (Pipeline.eq_sum_fin_of_reset_step_apply_of_flush (fun n h => (outsAt0 m c n h).2.1) 64 (fun _ => 0) _ (acc_first m c) (acc_next m c) t h j).trans ?_
  rw [zero_add]; refine Fin.sum_mul_add_congr fun s k hl => block_at m c _ k _ ?_ (j 1)
  have ht : t.val < 64 := t.isLt
  show s.val * 256 + k.val = (64 * (t.val / 64) + s.val) * 256 + k.val
  omega

/-- The gate's gradient after the last step is the sum over all rows. -/
theorem gate_last (c : Dev nD) (t : Fin cfg0.N) (h : t.val % 64 = 63) (j : S1x1024.Idx) : (outsAt0 m c t.val t.isLt).2.2 j
    = ∑ l : Fin 16384, gsum (arow m c l) (bias m c) (drow m c l (j 1)) (j 1) := by
  refine (Pipeline.eq_sum_fin_of_reset_step_apply_of_flush (fun n h => (outsAt0 m c n h).2.2) 64 (fun _ => 0) _ (gate_first m c) (gate_next m c) t h j).trans ?_
  rw [zero_add]; refine Fin.sum_mul_add_congr fun s k hl => ?_
  have ht : t.val < 64 := t.isLt
  have e := fun (l : Fin 16384) (hl : l.val = (64 * (t.val / 64) + s.val) * 256 + k.val) => congrFun (congr (congr (congrArg gsum (funext (arow_at m c ⟨_, Pipeline.run_point_lt_of_flush t h s⟩ k l hl)))
    (funext (row_at m c ⟨_, Pipeline.run_point_lt_of_flush t h s⟩))) (drow_at m c ⟨_, Pipeline.run_point_lt_of_flush t h s⟩ k l hl (j 1))) (j 1)
  exact e _ (by show s.val * 256 + k.val = _; omega)

/-- The first result array of the call holds the gradient of both halves. -/
theorem final (c : Dev nD) : (dats m 0 c).arrAt 4 (cfgs 0).N
    = (truncf .bf16 (fun j => full m c (j 0) (j 1) : FVec Ideal S16384x2048 .f32) bitsLt_bf16_f32 : FVec Ideal S16384x2048 .bf16) := by
  refine (dats m 0 c).arrAt_eq_of_covers 4 _ (by decide +kernel) fun t _ y => ?_
  blk_simp
  rw [after0_4]
  have e : ((win0_4.blk t).view.emb y 1 : Fin 2048) = y 1 := Fin.ext (by blk_simp [idx t])
  refine (rows_at m c t y).trans ((block_at m c t (y 0) ((win0_4.blk t).view.emb y 0) ?_ (y 1)).trans ?_)
  · blk_simp [idx t]
  · exact congrArg (full m c _) e.symm

/-- The second result array of the call holds the bias's gradient. -/
theorem final_bias (c : Dev nD) : (dats m 0 c).arrAt 5 (cfgs 0).N = (fun j => ∑ l : Fin 16384, full m c l (j 1) : FVec Ideal S1x2048 .f32) := by
  refine (dats m 0 c).arrAt_eq_of_covers 5 _ (by decide +kernel) fun t hf y => ?_
  blk_simp
  rw [after0_5]
  have e : ((win0_5.blk t).view.emb y 1 : Fin 2048) = y 1 := Fin.ext (by blk_simp [idx t])
  exact (acc_last m c t ((flush0_5 t).mp hf) y).trans (congrArg (fun q : Fin 2048 => ∑ l : Fin 16384, full m c l q) e.symm)

/-- The third result array of the call holds the gate's gradient. -/
theorem final_gate (c : Dev nD) : (dats m 0 c).arrAt 6 (cfgs 0).N
    = (fun j => ∑ l : Fin 16384, gsum (arow m c l) (bias m c) (drow m c l (j 1)) (j 1) : FVec Ideal S1x1024 .f32) := by
  refine (dats m 0 c).arrAt_eq_of_covers 6 _ (by decide +kernel) fun t hf y => ?_
  blk_simp
  rw [after0_6]
  have e : ((win0_6.blk t).view.emb y 1 : Fin 1024) = y 1 := Fin.ext (by blk_simp [idx t])
  exact (gate_last m c t ((flush0_6 t).mp hf) y).trans (congrArg (fun q : Fin 1024 => ∑ l : Fin 16384, gsum (arow m c l) (bias m c) (drow m c l q) q) e.symm)

/-- After the call the host casts the first result array to f32. -/
theorem cast (c : Dev nD) (X : FVec Ideal S16384x2048 .bf16) (hX : (dats m 0 c).arrAt 4 (cfgs 0).N = X) :
    Pipeline.afterTail₀ cfgs (dats m) 0 (V0 m) [hostOps1] c main_v2 = (extf .f32 X bitsLt_bf16_f32 : FVec Ideal S16384x2048 .f32) := by
  unfold Pipeline.afterTail₀
  have h := Pipeline.withArrays_arr (cfgs 0).spec (by decide) c (V0 m c) (fun w => (dats m 0 c).arrAt w (cfgs 0).N) 4
  rw [hX] at h
  simp only [List.flatten_cons, List.flatten_nil, List.append_nil, hostOps1]
  revert h
  generalize Pipeline.withArrays _ _ _ _ = V
  intro h
  simp only [StableHlo.after_cons, StableHlo.after_nil]
  after_results_simp
  exact congrArg (extf .f32 · bitsLt_bf16_f32) h

/-- After the call the host makes the bias's gradient one axis. -/
theorem flat (c : Dev nD) (X : FVec Ideal S1x2048 .f32) (hX : (dats m 0 c).arrAt 5 (cfgs 0).N = X) :
    Pipeline.afterTail₀ cfgs (dats m) 0 (V0 m) [hostOps1] c main_v3 = (shapeCast S2048 X shapeCasts_S1x2048_S2048 : FVec Ideal S2048 .f32) := by
  unfold Pipeline.afterTail₀
  have h := Pipeline.withArrays_arr (cfgs 0).spec (by decide) c (V0 m c) (fun w => (dats m 0 c).arrAt w (cfgs 0).N) 5
  rw [hX] at h
  simp only [List.flatten_cons, List.flatten_nil, List.append_nil, hostOps1]
  revert h
  generalize Pipeline.withArrays _ _ _ _ = V
  intro h
  simp only [StableHlo.after_cons, StableHlo.after_nil]
  after_results_simp
  exact congrArg (shapeCast S2048 · shapeCasts_S1x2048_S2048) h

/-- An entry of the plain lines' gradient of both halves. -/
theorem entry (a b : Fin 2048 → EReal) (d g : Fin 1024 → EReal) (q : Fin 2048) :
    (if h : q.val < 1024 then g ⟨q.val, h⟩ * d ⟨q.val, h⟩ * Ideal.div 1 (1 + Ideal.exp (-(a ⟨1024 + q.val, by omega⟩ + b ⟨1024 + q.val, by omega⟩)))
      else (a ⟨q.val - 1024, by omega⟩ + b ⟨q.val - 1024, by omega⟩) * (g ⟨q.val - 1024, by omega⟩ * d ⟨q.val - 1024, by omega⟩)
        * (Ideal.div 1 (1 + Ideal.exp (-(a ⟨1024 + (q.val - 1024), by omega⟩ + b ⟨1024 + (q.val - 1024), by omega⟩)))
          * (1 - Ideal.div 1 (1 + Ideal.exp (-(a ⟨1024 + (q.val - 1024), by omega⟩ + b ⟨1024 + (q.val - 1024), by omega⟩)))))) = grad a b d g q := by
  unfold grad
  by_cases h : q.val < 1024
  · rw [dif_pos h, dif_pos h]
    rfl
  · have e : (⟨1024 + (q.val - 1024), by omega⟩ : Fin 2048) = q := Fin.ext (by show 1024 + (q.val - 1024) = q.val; omega)
    rw [dif_neg h, dif_neg h, e, mul_comm (a _ + b _)]
    rfl

/-- The call and the plain lines' gradients end with the same results. -/
theorem algebraic : Cert.algebraic_GluGradIdeal_GluGradRefIdeal := by
  pair_intro
  · run_from Cert.GluGradIdeal.Gen.run_main m g
    · exact W_main_arg1 m (dats m) c
  · hlo_run
    · rw [cast m c _ (final m c)]
      funext j
      pointwise
      simp only [(hagree c).2.2.2]
      exact entry (arow m c (j 0)) (bias m c) (drow m c (j 0)) (gate m c) (j 1)
    · rw [flat m c _ (final_bias m c)]
      funext j
      pointwise
      simp only [(hagree c).2.2.2]
      exact (Fin.sum_univ_one _).trans (Finset.sum_congr rfl fun r _ => entry (arow m c r) (bias m c) (drow m c r) (gate m c) (j 0))
    · rw [final_gate m c]
      funext j
      pointwise
      rfl

end Cert.GluGradIdeal.Value

end
-- ==== Proof.GateNorm.lean ====
module

public import proofs.«01_k».proof.Defs
public import proofs.«01_k».proof.Proof.Gen.GateNormIdeal.Frame
public import proofs.«01_k».proof.Proof.Gen.GateNormRefIdeal
public import Idealize.ShloMosaic.Lib.Claim
public import Idealize.ShloMosaic.Lib.Pipeline.ValueKit

@[expose] public section

/-! The gated norm of the SSD layers: each row times its gate, divided by the root mean square of each of its four groups of 512 columns, times the weights. -/

set_option maxRecDepth 16384

noncomputable section

namespace Cert.GateNormIdeal.Value

open Idealize.ShloMosaic Idealize.ShloMosaic.TcCoe Idealize.SL.Sem
open Cert.GateNormIdeal Cert.GateNormIdeal.Gen

variable (m : (ℓ : Loc nD τ sig) → Buf (Elt Ideal) ℓ)

/-- The plain lines run to their end and leave no signal. -/
theorem frame_ref : Cert.quiescent_GateNormRefIdeal (hGateNormRefIdeal := Cert.GateNormRefIdeal.Gen.facts) := by
  intro m g _
  refine (θ_run (Cert.GateNormRefIdeal.defs (F := Ideal)) _ _).mono (fun r h => ⟨h, sem_eq_zero_of_no_sems (by decide) r.2⟩) ?_
  hlo_run

/-- The rows times their gate, as reference.py writes it. -/
abbrev gatedRows (Y Z : FVec Ideal Cert.GateNormRefIdeal.S16384x2048 .f32) : FVec Ideal Cert.GateNormRefIdeal.S16384x2048 .f32 :=
  mulf Y (mulf Z (Host.divf (broadcastInDim Cert.GateNormRefIdeal.S16384x2048 ![] (by decide) (constant Cert.GateNormRefIdeal.S_ .f32 0x3F800000#32))
    (addf (broadcastInDim Cert.GateNormRefIdeal.S16384x2048 ![] (by decide) (constant Cert.GateNormRefIdeal.S_ .f32 0x3F800000#32)) (Host.exp (Host.negf Z)))))

/-- The same with each row in its four groups. -/
abbrev groups (Y Z : FVec Ideal Cert.GateNormRefIdeal.S16384x2048 .f32) : FVec Ideal Cert.GateNormRefIdeal.S16384x4x512 .f32 :=
  shapeCast Cert.GateNormRefIdeal.S16384x4x512 (gatedRows Y Z) (by decide)

/-- One over the root mean square of each group. -/
abbrev scales (Y Z : FVec Ideal Cert.GateNormRefIdeal.S16384x2048 .f32) : FVec Ideal Cert.GateNormRefIdeal.S16384x4x1 .f32 :=
  Host.rsqrt (addf (Host.divf (broadcastInDim Cert.GateNormRefIdeal.S16384x4x1 ![0, 1] (by decide)
      (Host.reduceAdd (mulf (groups Y Z) (groups Y Z)) (constant Cert.GateNormRefIdeal.S_ .f32 0x00000000#32) (by decide : Cert.GateNormRefIdeal.S16384x4x512.ReducesTo [2] Cert.GateNormRefIdeal.S16384x4) (by decide)))
    (broadcastInDim Cert.GateNormRefIdeal.S16384x4x1 ![] (by decide) (constant Cert.GateNormRefIdeal.S_ .f32 0x44000000#32)))
    (broadcastInDim Cert.GateNormRefIdeal.S16384x4x1 ![] (by decide) (constant Cert.GateNormRefIdeal.S_ .f32 0x3727C5AC#32)))

/-- The gated norm, as reference.py writes it. -/
abbrev value (Y Z : FVec Ideal Cert.GateNormRefIdeal.S16384x2048 .f32) (G : FVec Ideal Cert.GateNormRefIdeal.S2048 .f32) : FVec Ideal Cert.GateNormRefIdeal.S16384x2048 .f32 :=
  mulf (shapeCast Cert.GateNormRefIdeal.S16384x2048 (mulf (groups Y Z) (broadcastInDim Cert.GateNormRefIdeal.S16384x4x512 ![0, 1, 2] (by decide) (scales Y Z))) (by decide))
    (broadcastInDim Cert.GateNormRefIdeal.S16384x2048 ![0, 1] (by decide) (broadcastInDim Cert.GateNormRefIdeal.S1x2048 ![1] (by decide) G))

/-- An entry times its gate. -/
abbrev gated (y z : EReal) : EReal := y * (z * Ideal.logistic z)

/-- An entry `u` of a group `w` of 512 entries, divided by the group's root mean square, times the weight `g`. -/
abbrev normed (u : EReal) (w : Fin 512 → EReal) (g : EReal) : EReal :=
  u * Ideal.rsqrt (Ideal.div (∑ k, w k * w k) (Ideal.ofBits FTy.f32 0x44000000#32) + Ideal.ofBits FTy.f32 0x3727C5AC#32) * g

/-- Column `k` of the group of column `q`. -/
abbrev mate (q : Fin 2048) (k : Fin 512) : Fin 2048 := ⟨q.val / 512 * 512 + k.val, by omega⟩

/-- An entry of the plain lines. -/
theorem value_at (Y Z G) (r : Fin 16384) (q : Fin 2048) : value Y Z G (ix2 r q)
    = normed (gated (Y (ix2 r q)) (Z (ix2 r q))) (fun k => gated (Y (ix2 r (mate q k))) (Z (ix2 r (mate q k)))) (G (ix1 q)) := by
  pointwise [value]
  rfl

/-- The blocks that step `t` of the grid takes. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The host makes the weights one row. -/
theorem row_arr (c : Dev nD) : V m c main_v0 = (shapeCast S1x2048 (m ((c : Thread nD τ).loc main_arg2) : FVec Ideal S2048 .f32) shapeCasts_S2048_S1x2048 : FVec Ideal S1x2048 .f32) := by
  show StableHlo.after _ _ _ = _
  simp only [List.flatten_cons, List.flatten_nil, List.append_nil, hostOps0, StableHlo.after_cons, StableHlo.after_nil]
  after_results_simp
  rfl

/-- The block of the weights, the same at each step. -/
theorem row_at (c : Dev nD) (t : Fin cfg0.N) (k : Fin 2048) : iblk m c 2 t (ix2 0 k) = m ((c : Thread nD τ).loc main_arg2) (ix1 k) := by
  have e : (win0_2.blk t).view.emb (ix2 0 k) = (ix2 0 k : S1x2048.Idx) := by
    refine (eq_ix2 _).trans (congrArg₂ _ (Fin.ext ?_) (Fin.ext ?_)) <;> blk_simp [idx t]
  refine (congrArg (V m c main_v0) e).trans ((congrFun (row_arr m c) _).trans ?_)
  pointwise

/-- What is stored for one group: its columns of the gated norm. -/
abbrev tile (z y : FVec Ideal S256x512 .f32) (g : FVec Ideal S1x512 .f32) (j : S256x512.Idx) : EReal :=
  normed (gated (y j) (z j)) (fun k => gated (y (ix2 (j 0) k)) (z (ix2 (j 0) k))) (g (ix2 0 (j 1)))

/-- The gated norm of one block of rows. -/
abbrev block (y z : FVec Ideal S256x2048 .f32) (g : FVec Ideal S1x2048 .f32) (j : S256x2048.Idx) : EReal :=
  normed (gated (y j) (z j)) (fun k => gated (y (ix2 (j 0) (mate (j 1) k))) (z (ix2 (j 0) (mate (j 1) k)))) (g (ix2 0 (j 1)))

/-- What is stored for the first group. -/
theorem pay_0 (z y g j) : k0_pay2 (F := Ideal) z y g j = tile z y g j := by pointwise [k0_pay2]
/-- What is stored for the second group. -/
theorem pay_1 (z y g j) : k0_pay5 (F := Ideal) (k0_pay3 z y) (k0_pay4 g) j = tile z y g j := by pointwise [k0_pay5, k0_pay3, k0_pay4]
/-- What is stored for the third group. -/
theorem pay_2 (z y g j) : k0_pay6 (F := Ideal) z y g j = tile z y g j := by pointwise [k0_pay6]
/-- What is stored for the fourth group. -/
theorem pay_3 (z y g j) : k0_pay1 (F := Ideal) (k0_pay7 z y) (k0_pay8 z y) g j = tile z y g j := by pointwise [k0_pay1, k0_pay7, k0_pay8]

/-- A group's columns of a block. -/
theorem tile_at (y z : FVec Ideal S256x2048 .f32) (g : FVec Ideal S1x2048 .f32) (o : ℕ) (ho : o % 512 = 0) (h h') (j : S256x512.Idx) :
    tile (View.ld (Val := Elt Ideal) (e' := .f32) z (Rect.unit (s := S256x2048) ![0, o] S256x512.size h)) (View.ld (Val := Elt Ideal) (e' := .f32) y (Rect.unit (s := S256x2048) ![0, o] S256x512.size h))
      (View.ld (Val := Elt Ideal) (e' := .f32) g (Rect.unit (s := S1x2048) ![0, o] S1x512.size h')) j = block y z g ((Rect.unit (s := S256x2048) ![0, o] S256x512.size h).emb j) := by
  have e : ∀ k : Fin 512, (Rect.unit (s := S256x2048) ![0, o] S256x512.size h).emb (ix2 (j 0) k)
      = ix2 ((Rect.unit (s := S256x2048) ![0, o] S256x512.size h).emb j 0) (mate ((Rect.unit (s := S256x2048) ![0, o] S256x512.size h).emb j 1) k) := fun k => by
    have hj : (j 1).val < 512 := (j 1).isLt
    refine (eq_ix2 _).trans (congrArg₂ _ (Fin.ext ?_) (Fin.ext ?_))
    · rfl
    · show o + 1 * k.val = (o + 1 * (j 1).val) / 512 * 512 + k.val
      omega
  have e' : (Rect.unit (s := S1x2048) ![0, o] S1x512.size h').emb (ix2 0 (j 1)) = ix2 0 ((Rect.unit (s := S256x2048) ![0, o] S256x512.size h).emb j 1) :=
    (eq_ix2 _).trans (congrArg₂ _ (Fin.ext rfl) (Fin.ext rfl))
  refine congr (congr (congrArg normed rfl) (funext fun k => ?_)) (congrArg g e')
  exact congrArg₂ gated (congrArg y (e k)) (congrArg z (e k))

/-- What one step leaves in the result's block. -/
theorem out_at (y z g j) : out0_3 (F := Ideal) y z g j = block y z g j := by
  unfold out0_3
  refine View.canon_apply_of_pieces (Val := Elt Ideal) (S := S256x2048) (e := .bf16) (block y z g) _ ?_ j (cover0_3 _ _ _ _ j)
  intro p hp x
  simp only [List.mem_cons, List.not_mem_nil, or_false] at hp
  rcases hp with rfl | rfl | rfl | rfl
  · exact (pay_3 _ _ _ _).trans (tile_at y z g 1536 rfl _ _ x)
  · exact (pay_2 _ _ _ _).trans (tile_at y z g 1024 rfl _ _ x)
  · exact (pay_1 _ _ _ _).trans (tile_at y z g 512 rfl _ _ x)
  · exact (pay_0 _ _ _ _).trans (tile_at y z g 0 rfl _ _ x)

/-- The result array of the call holds the gated norm. -/
theorem final (c : Dev nD) : (dats m 0 c).arrAt 3 (cfgs 0).N = (truncf .bf16 (value (m ((c : Thread nD τ).loc main_arg0))
    (m ((c : Thread nD τ).loc main_arg1)) (m ((c : Thread nD τ).loc main_arg2))) bitsLt_bf16_f32 : FVec Ideal S16384x2048 .bf16) := by
  refine (dats m 0 c).arrAt_eq_of_covers 3 _ (by decide +kernel) fun t _ y => ?_
  blk_simp
  rw [after0_3]
  have e : ((cfg0.win 3).blk t).view.emb y 1 = (y 1 : Fin 2048) := Fin.ext (by blk_simp [idx t])
  refine (out_at _ _ _ y).trans (Eq.trans ?_ ((congrArg _ ((eq_ix2 _).trans (congrArg (ix2 _) e))).trans (value_at _ _ _ _ (y 1))).symm)
  refine congr (congr (congrArg normed (congrArg₂ gated ?_ ?_)) (funext fun k => congrArg₂ gated ?_ ?_)) ((row_at m c t (y 1)).trans ?_)
  all_goals blk_point [iblk, idx t]

/-- After the call the host casts the result array to f32. -/
theorem cast (c : Dev nD) (X : FVec Ideal S16384x2048 .bf16) (hX : (dats m 0 c).arrAt 3 (cfgs 0).N = X) :
    Pipeline.afterTail₀ cfgs (dats m) 0 (V0 m) [hostOps1] c main_v2 = (extf .f32 X bitsLt_bf16_f32 : FVec Ideal S16384x2048 .f32) := by
  unfold Pipeline.afterTail₀
  have h := Pipeline.withArrays_arr (cfgs 0).spec (by decide) c (V0 m c) (fun w => (dats m 0 c).arrAt w (cfgs 0).N) 3
  rw [hX] at h
  simp only [List.flatten_cons, List.flatten_nil, List.append_nil, hostOps1]
  revert h
  generalize Pipeline.withArrays _ _ _ _ = V
  intro h
  simp only [StableHlo.after_cons, StableHlo.after_nil]
  after_results_simp
  exact congrArg (extf .f32 · bitsLt_bf16_f32) h

/-- The call with the host's cast and the plain lines end with the same result. -/
theorem algebraic : Cert.algebraic_GateNormIdeal_GateNormRefIdeal := by
  pair_intro
  · run_from Cert.GateNormIdeal.Gen.run_main m g
    · exact W_main_arg2 m (dats m) c
  · hlo_run
    rw [cast m c _ (final m c)]
    rfl

end Cert.GateNormIdeal.Value

end
-- ==== Proof.Adam.lean ====
module

public import Idealize.ShloMosaic.PureOps.Ideal

@[expose] public section

/-! One step of the optimiser AdamW on an array of any shape, as reference.py writes it. The constants are its rates and
its bias corrections of the first step, each by its bits. -/

noncomputable section

namespace Cert.Adam

open Idealize.ShloMosaic

variable {s : Shape}

/-- The new first moment: nine tenths of the old one and a tenth of the gradient. -/
abbrev newM (m g : FVec Ideal s .f32) : FVec Ideal s .f32 :=
  addf (mulf (constant s .f32 0x3F666666#32) m) (mulf (constant s .f32 0x3DCCCCCD#32) g)

/-- The new second moment: 0.999 of the old one and 0.001 of the gradient's square. -/
abbrev newV (v g : FVec Ideal s .f32) : FVec Ideal s .f32 :=
  addf (mulf (constant s .f32 0x3F7FBE77#32) v) (mulf (constant s .f32 0x3A83126F#32) (mulf g g))

/-- The change of the weights: the corrected first moment over the root of the corrected second one, with the decay of
    the weights, times the rate. -/
abbrev delta (w m v g : FVec Ideal s .f32) : FVec Ideal s .f32 :=
  mulf (constant s .f32 0xBA83126F#32)
    (addf (Host.divf (Host.divf (newM m g) (constant s .f32 0x3F26BD02#32))
        (addf (Host.sqrt (Host.divf (newV v g) (constant s .f32 0x3C231ACC#32))) (constant s .f32 0x322BCC77#32)))
      (mulf (constant s .f32 0x3C23D70A#32) w))

end Cert.Adam

end
-- ==== Proof.AdamMlp.lean ====
module

public import proofs.«01_k».proof.Defs
public import proofs.«01_k».proof.Proof.Adam
public import proofs.«01_k».proof.Proof.Gen.AdamMlpIdeal.Frame
public import proofs.«01_k».proof.Proof.Gen.AdamMlpRefIdeal
public import Idealize.ShloMosaic.Lib.Claim
public import Idealize.ShloMosaic.Lib.Pipeline.ValueKit

@[expose] public section

/-! The optimiser's step for a weight of the MLP. -/

set_option maxRecDepth 16384

noncomputable section

namespace Cert.AdamMlpIdeal.Value

open Idealize.ShloMosaic Idealize.ShloMosaic.TcCoe Idealize.SL.Sem
open Cert.AdamMlpIdeal Cert.AdamMlpIdeal.Gen Cert.Adam

variable (m : (ℓ : Loc nD τ sig) → Buf (Elt Ideal) ℓ)

/-- The plain step runs to its end and leaves no signal. -/
theorem frame_ref : Cert.quiescent_AdamMlpRefIdeal (hAdamMlpRefIdeal := Cert.AdamMlpRefIdeal.Gen.facts) := by
  intro m g _
  refine (θ_run (Cert.AdamMlpRefIdeal.defs (F := Ideal)) _ _).mono (fun r h => ⟨h, sem_eq_zero_of_no_sems (by decide) r.2⟩) ?_
  hlo_run

/-- The weights. -/
abbrev w (c : Dev nD) : FVec Ideal S4096x1024 .f32 := m ((c : Thread nD τ).loc main_arg0)
/-- The old first moment. -/
abbrev mom (c : Dev nD) : FVec Ideal S4096x1024 .f32 := m ((c : Thread nD τ).loc main_arg1)
/-- The old second moment. -/
abbrev vel (c : Dev nD) : FVec Ideal S4096x1024 .f32 := m ((c : Thread nD τ).loc main_arg2)
/-- The gradient: the sum of its two parts. -/
abbrev grad (c : Dev nD) : FVec Ideal S4096x1024 .f32 := addf (m ((c : Thread nD τ).loc main_arg3)) (m ((c : Thread nD τ).loc main_arg4))

/-- Step `t` of the grid takes block `t` of every array. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The call writes the gradient. -/
theorem final_grad (c : Dev nD) : (dats m 0 c).arrAt 5 (cfgs 0).N = grad m c := by
  refine (dats m 0 c).arrAt_eq_of_covers 5 _ (by decide +kernel) fun t _ y => ?_
  blk_simp
  rw [after0_5]; frame_out
  pointwise [k0_pay2]
  blk_point [iblk, idx t]

/-- The call writes the change of the weights. -/
theorem final_delta (c : Dev nD) : (dats m 0 c).arrAt 6 (cfgs 0).N = delta (w m c) (mom m c) (vel m c) (grad m c) := by
  refine (dats m 0 c).arrAt_eq_of_covers 6 _ (by decide +kernel) fun t _ y => ?_
  blk_simp
  rw [after0_6]; frame_out
  pointwise [k0_pay1, k0_pay2, k0_pay3, k0_pay4, k0_pay5]
  blk_point [iblk, idx t]

/-- The call writes the new first moment. -/
theorem final_mom (c : Dev nD) : (dats m 0 c).arrAt 7 (cfgs 0).N = newM (mom m c) (grad m c) := by
  refine (dats m 0 c).arrAt_eq_of_covers 7 _ (by decide +kernel) fun t _ y => ?_
  blk_simp
  rw [after0_7]; frame_out
  pointwise [k0_pay2, k0_pay3]
  blk_point [iblk, idx t]

/-- The call writes the new second moment. -/
theorem final_vel (c : Dev nD) : (dats m 0 c).arrAt 8 (cfgs 0).N = newV (vel m c) (grad m c) := by
  refine (dats m 0 c).arrAt_eq_of_covers 8 _ (by decide +kernel) fun t _ y => ?_
  blk_simp
  rw [after0_8]; frame_out
  pointwise [k0_pay2, k0_pay4]
  blk_point [iblk, idx t]

/-- The call and the plain step end with the same gradient, change of the weights and moments. -/
theorem algebraic : Cert.algebraic_AdamMlpIdeal_AdamMlpRefIdeal := by
  pair_intro
  · run_from Cert.AdamMlpIdeal.Gen.run_main m g
  · hlo_run
    · exact (final_grad m c).symm
    · exact (final_delta m c).symm
    · exact (final_mom m c).symm
    · exact (final_vel m c).symm

end Cert.AdamMlpIdeal.Value

end
-- ==== Proof.AdamS5In.lean ====
module

public import proofs.«01_k».proof.Defs
public import proofs.«01_k».proof.Proof.Adam
public import proofs.«01_k».proof.Proof.Gen.AdamS5InIdeal.Frame
public import proofs.«01_k».proof.Proof.Gen.AdamS5InRefIdeal
public import Idealize.ShloMosaic.Lib.Claim
public import Idealize.ShloMosaic.Lib.Pipeline.ValueKit

@[expose] public section

/-! The optimiser's step for the first weight of an S5 layer. -/

set_option maxRecDepth 16384

noncomputable section

namespace Cert.AdamS5InIdeal.Value

open Idealize.ShloMosaic Idealize.ShloMosaic.TcCoe Idealize.SL.Sem
open Cert.AdamS5InIdeal Cert.AdamS5InIdeal.Gen Cert.Adam

variable (m : (ℓ : Loc nD τ sig) → Buf (Elt Ideal) ℓ)

/-- The plain step runs to its end and leaves no signal. -/
theorem frame_ref : Cert.quiescent_AdamS5InRefIdeal (hAdamS5InRefIdeal := Cert.AdamS5InRefIdeal.Gen.facts) := by
  intro m g _
  refine (θ_run (Cert.AdamS5InRefIdeal.defs (F := Ideal)) _ _).mono (fun r h => ⟨h, sem_eq_zero_of_no_sems (by decide) r.2⟩) ?_
  hlo_run

/-- The weights. -/
abbrev w (c : Dev nD) : FVec Ideal S512x1024 .f32 := m ((c : Thread nD τ).loc main_arg0)
/-- The old first moment. -/
abbrev mom (c : Dev nD) : FVec Ideal S512x1024 .f32 := m ((c : Thread nD τ).loc main_arg1)
/-- The old second moment. -/
abbrev vel (c : Dev nD) : FVec Ideal S512x1024 .f32 := m ((c : Thread nD τ).loc main_arg2)
/-- The gradient: the sum of its two parts. -/
abbrev grad (c : Dev nD) : FVec Ideal S512x1024 .f32 := addf (m ((c : Thread nD τ).loc main_arg3)) (m ((c : Thread nD τ).loc main_arg4))

/-- Step `t` of the grid takes block `t` of every array. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The call writes the gradient. -/
theorem final_grad (c : Dev nD) : (dats m 0 c).arrAt 5 (cfgs 0).N = grad m c := by
  refine (dats m 0 c).arrAt_eq_of_covers 5 _ (by decide +kernel) fun t _ y => ?_
  blk_simp
  rw [after0_5]; frame_out
  pointwise [k0_pay2]
  blk_point [iblk, idx t]

/-- The call writes the change of the weights. -/
theorem final_delta (c : Dev nD) : (dats m 0 c).arrAt 6 (cfgs 0).N = delta (w m c) (mom m c) (vel m c) (grad m c) := by
  refine (dats m 0 c).arrAt_eq_of_covers 6 _ (by decide +kernel) fun t _ y => ?_
  blk_simp
  rw [after0_6]; frame_out
  pointwise [k0_pay1, k0_pay2, k0_pay3, k0_pay4, k0_pay5]
  blk_point [iblk, idx t]

/-- The call writes the new first moment. -/
theorem final_mom (c : Dev nD) : (dats m 0 c).arrAt 7 (cfgs 0).N = newM (mom m c) (grad m c) := by
  refine (dats m 0 c).arrAt_eq_of_covers 7 _ (by decide +kernel) fun t _ y => ?_
  blk_simp
  rw [after0_7]; frame_out
  pointwise [k0_pay2, k0_pay3]
  blk_point [iblk, idx t]

/-- The call writes the new second moment. -/
theorem final_vel (c : Dev nD) : (dats m 0 c).arrAt 8 (cfgs 0).N = newV (vel m c) (grad m c) := by
  refine (dats m 0 c).arrAt_eq_of_covers 8 _ (by decide +kernel) fun t _ y => ?_
  blk_simp
  rw [after0_8]; frame_out
  pointwise [k0_pay2, k0_pay4]
  blk_point [iblk, idx t]

/-- The call and the plain step end with the same gradient, change of the weights and moments. -/
theorem algebraic : Cert.algebraic_AdamS5InIdeal_AdamS5InRefIdeal := by
  pair_intro
  · run_from Cert.AdamS5InIdeal.Gen.run_main m g
  · hlo_run
    · exact (final_grad m c).symm
    · exact (final_delta m c).symm
    · exact (final_mom m c).symm
    · exact (final_vel m c).symm

end Cert.AdamS5InIdeal.Value

end
-- ==== Proof.AdamS5Glu.lean ====
module

public import proofs.«01_k».proof.Defs
public import proofs.«01_k».proof.Proof.Adam
public import proofs.«01_k».proof.Proof.Gen.AdamS5GluIdeal.Frame
public import proofs.«01_k».proof.Proof.Gen.AdamS5GluRefIdeal
public import Idealize.ShloMosaic.Lib.Claim
public import Idealize.ShloMosaic.Lib.Pipeline.ValueKit

@[expose] public section

/-! The optimiser's step for the second weight of an S5 layer. -/

set_option maxRecDepth 16384

noncomputable section

namespace Cert.AdamS5GluIdeal.Value

open Idealize.ShloMosaic Idealize.ShloMosaic.TcCoe Idealize.SL.Sem
open Cert.AdamS5GluIdeal Cert.AdamS5GluIdeal.Gen Cert.Adam

variable (m : (ℓ : Loc nD τ sig) → Buf (Elt Ideal) ℓ)

/-- The plain step runs to its end and leaves no signal. -/
theorem frame_ref : Cert.quiescent_AdamS5GluRefIdeal (hAdamS5GluRefIdeal := Cert.AdamS5GluRefIdeal.Gen.facts) := by
  intro m g _
  refine (θ_run (Cert.AdamS5GluRefIdeal.defs (F := Ideal)) _ _).mono (fun r h => ⟨h, sem_eq_zero_of_no_sems (by decide) r.2⟩) ?_
  hlo_run

/-- The weights. -/
abbrev w (c : Dev nD) : FVec Ideal S2048x512 .f32 := m ((c : Thread nD τ).loc main_arg0)
/-- The old first moment. -/
abbrev mom (c : Dev nD) : FVec Ideal S2048x512 .f32 := m ((c : Thread nD τ).loc main_arg1)
/-- The old second moment. -/
abbrev vel (c : Dev nD) : FVec Ideal S2048x512 .f32 := m ((c : Thread nD τ).loc main_arg2)
/-- The gradient: the sum of its two parts. -/
abbrev grad (c : Dev nD) : FVec Ideal S2048x512 .f32 := addf (m ((c : Thread nD τ).loc main_arg3)) (m ((c : Thread nD τ).loc main_arg4))

/-- Step `t` of the grid takes block `t` of every array. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The call writes the gradient. -/
theorem final_grad (c : Dev nD) : (dats m 0 c).arrAt 5 (cfgs 0).N = grad m c := by
  refine (dats m 0 c).arrAt_eq_of_covers 5 _ (by decide +kernel) fun t _ y => ?_
  blk_simp
  rw [after0_5]; frame_out
  pointwise [k0_pay2]
  blk_point [iblk, idx t]

/-- The call writes the change of the weights. -/
theorem final_delta (c : Dev nD) : (dats m 0 c).arrAt 6 (cfgs 0).N = delta (w m c) (mom m c) (vel m c) (grad m c) := by
  refine (dats m 0 c).arrAt_eq_of_covers 6 _ (by decide +kernel) fun t _ y => ?_
  blk_simp
  rw [after0_6]; frame_out
  pointwise [k0_pay1, k0_pay2, k0_pay3, k0_pay4, k0_pay5]
  blk_point [iblk, idx t]

/-- The call writes the new first moment. -/
theorem final_mom (c : Dev nD) : (dats m 0 c).arrAt 7 (cfgs 0).N = newM (mom m c) (grad m c) := by
  refine (dats m 0 c).arrAt_eq_of_covers 7 _ (by decide +kernel) fun t _ y => ?_
  blk_simp
  rw [after0_7]; frame_out
  pointwise [k0_pay2, k0_pay3]
  blk_point [iblk, idx t]

/-- The call writes the new second moment. -/
theorem final_vel (c : Dev nD) : (dats m 0 c).arrAt 8 (cfgs 0).N = newV (vel m c) (grad m c) := by
  refine (dats m 0 c).arrAt_eq_of_covers 8 _ (by decide +kernel) fun t _ y => ?_
  blk_simp
  rw [after0_8]; frame_out
  pointwise [k0_pay2, k0_pay4]
  blk_point [iblk, idx t]

/-- The call and the plain step end with the same gradient, change of the weights and moments. -/
theorem algebraic : Cert.algebraic_AdamS5GluIdeal_AdamS5GluRefIdeal := by
  pair_intro
  · run_from Cert.AdamS5GluIdeal.Gen.run_main m g
  · hlo_run
    · exact (final_grad m c).symm
    · exact (final_delta m c).symm
    · exact (final_mom m c).symm
    · exact (final_vel m c).symm

end Cert.AdamS5GluIdeal.Value

end
-- ==== Proof.AdamSsdIn.lean ====
module

public import proofs.«01_k».proof.Defs
public import proofs.«01_k».proof.Proof.Adam
public import proofs.«01_k».proof.Proof.Gen.AdamSsdInIdeal.Frame
public import proofs.«01_k».proof.Proof.Gen.AdamSsdInRefIdeal
public import Idealize.ShloMosaic.Lib.Claim
public import Idealize.ShloMosaic.Lib.Pipeline.ValueKit

@[expose] public section

/-! The optimiser's step for the first weight of the SSD layers. -/

set_option maxRecDepth 16384

noncomputable section

namespace Cert.AdamSsdInIdeal.Value

open Idealize.ShloMosaic Idealize.ShloMosaic.TcCoe Idealize.SL.Sem
open Cert.AdamSsdInIdeal Cert.AdamSsdInIdeal.Gen Cert.Adam

variable (m : (ℓ : Loc nD τ sig) → Buf (Elt Ideal) ℓ)

/-- The plain step runs to its end and leaves no signal. -/
theorem frame_ref : Cert.quiescent_AdamSsdInRefIdeal (hAdamSsdInRefIdeal := Cert.AdamSsdInRefIdeal.Gen.facts) := by
  intro m g _
  refine (θ_run (Cert.AdamSsdInRefIdeal.defs (F := Ideal)) _ _).mono (fun r h => ⟨h, sem_eq_zero_of_no_sems (by decide) r.2⟩) ?_
  hlo_run

/-- The weights. -/
abbrev w (c : Dev nD) : FVec Ideal S2048x1288 .f32 := m ((c : Thread nD τ).loc main_arg0)
/-- The old first moment. -/
abbrev mom (c : Dev nD) : FVec Ideal S2048x1288 .f32 := m ((c : Thread nD τ).loc main_arg1)
/-- The old second moment. -/
abbrev vel (c : Dev nD) : FVec Ideal S2048x1288 .f32 := m ((c : Thread nD τ).loc main_arg2)
/-- The gradient: the sum of its two parts. -/
abbrev grad (c : Dev nD) : FVec Ideal S2048x1288 .f32 := addf (m ((c : Thread nD τ).loc main_arg3)) (m ((c : Thread nD τ).loc main_arg4))

/-- Step `t` of the grid takes block `t` of every array. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The call writes the gradient. -/
theorem final_grad (c : Dev nD) : (dats m 0 c).arrAt 5 (cfgs 0).N = grad m c := by
  refine (dats m 0 c).arrAt_eq_of_covers 5 _ (by decide +kernel) fun t _ y => ?_
  blk_simp
  rw [after0_5]; frame_out
  pointwise [k0_pay2]
  blk_point [iblk, idx t]

/-- The call writes the change of the weights. -/
theorem final_delta (c : Dev nD) : (dats m 0 c).arrAt 6 (cfgs 0).N = delta (w m c) (mom m c) (vel m c) (grad m c) := by
  refine (dats m 0 c).arrAt_eq_of_covers 6 _ (by decide +kernel) fun t _ y => ?_
  blk_simp
  rw [after0_6]; frame_out
  pointwise [k0_pay1, k0_pay2, k0_pay3, k0_pay4, k0_pay5]
  blk_point [iblk, idx t]

/-- The call writes the new first moment. -/
theorem final_mom (c : Dev nD) : (dats m 0 c).arrAt 7 (cfgs 0).N = newM (mom m c) (grad m c) := by
  refine (dats m 0 c).arrAt_eq_of_covers 7 _ (by decide +kernel) fun t _ y => ?_
  blk_simp
  rw [after0_7]; frame_out
  pointwise [k0_pay2, k0_pay3]
  blk_point [iblk, idx t]

/-- The call writes the new second moment. -/
theorem final_vel (c : Dev nD) : (dats m 0 c).arrAt 8 (cfgs 0).N = newV (vel m c) (grad m c) := by
  refine (dats m 0 c).arrAt_eq_of_covers 8 _ (by decide +kernel) fun t _ y => ?_
  blk_simp
  rw [after0_8]; frame_out
  pointwise [k0_pay2, k0_pay4]
  blk_point [iblk, idx t]

/-- The call and the plain step end with the same gradient, change of the weights and moments. -/
theorem algebraic : Cert.algebraic_AdamSsdInIdeal_AdamSsdInRefIdeal := by
  pair_intro
  · run_from Cert.AdamSsdInIdeal.Gen.run_main m g
  · hlo_run
    · exact (final_grad m c).symm
    · exact (final_delta m c).symm
    · exact (final_mom m c).symm
    · exact (final_vel m c).symm

end Cert.AdamSsdInIdeal.Value

end
-- ==== Proof.AdamSsdOut.lean ====
module

public import proofs.«01_k».proof.Defs
public import proofs.«01_k».proof.Proof.Adam
public import proofs.«01_k».proof.Proof.Gen.AdamSsdOutIdeal.Frame
public import proofs.«01_k».proof.Proof.Gen.AdamSsdOutRefIdeal
public import Idealize.ShloMosaic.Lib.Claim
public import Idealize.ShloMosaic.Lib.Pipeline.ValueKit

@[expose] public section

/-! The optimiser's step for the second weight of the SSD layers. -/

set_option maxRecDepth 16384

noncomputable section

namespace Cert.AdamSsdOutIdeal.Value

open Idealize.ShloMosaic Idealize.ShloMosaic.TcCoe Idealize.SL.Sem
open Cert.AdamSsdOutIdeal Cert.AdamSsdOutIdeal.Gen Cert.Adam

variable (m : (ℓ : Loc nD τ sig) → Buf (Elt Ideal) ℓ)

/-- The plain step runs to its end and leaves no signal. -/
theorem frame_ref : Cert.quiescent_AdamSsdOutRefIdeal (hAdamSsdOutRefIdeal := Cert.AdamSsdOutRefIdeal.Gen.facts) := by
  intro m g _
  refine (θ_run (Cert.AdamSsdOutRefIdeal.defs (F := Ideal)) _ _).mono (fun r h => ⟨h, sem_eq_zero_of_no_sems (by decide) r.2⟩) ?_
  hlo_run

/-- The weights. -/
abbrev w (c : Dev nD) : FVec Ideal S1024x1024 .f32 := m ((c : Thread nD τ).loc main_arg0)
/-- The old first moment. -/
abbrev mom (c : Dev nD) : FVec Ideal S1024x1024 .f32 := m ((c : Thread nD τ).loc main_arg1)
/-- The old second moment. -/
abbrev vel (c : Dev nD) : FVec Ideal S1024x1024 .f32 := m ((c : Thread nD τ).loc main_arg2)
/-- The gradient: the sum of its two parts. -/
abbrev grad (c : Dev nD) : FVec Ideal S1024x1024 .f32 := addf (m ((c : Thread nD τ).loc main_arg3)) (m ((c : Thread nD τ).loc main_arg4))

/-- Step `t` of the grid takes block `t` of every array. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The call writes the gradient. -/
theorem final_grad (c : Dev nD) : (dats m 0 c).arrAt 5 (cfgs 0).N = grad m c := by
  refine (dats m 0 c).arrAt_eq_of_covers 5 _ (by decide +kernel) fun t _ y => ?_
  blk_simp
  rw [after0_5]; frame_out
  pointwise [k0_pay2]
  blk_point [iblk, idx t]

/-- The call writes the change of the weights. -/
theorem final_delta (c : Dev nD) : (dats m 0 c).arrAt 6 (cfgs 0).N = delta (w m c) (mom m c) (vel m c) (grad m c) := by
  refine (dats m 0 c).arrAt_eq_of_covers 6 _ (by decide +kernel) fun t _ y => ?_
  blk_simp
  rw [after0_6]; frame_out
  pointwise [k0_pay1, k0_pay2, k0_pay3, k0_pay4, k0_pay5]
  blk_point [iblk, idx t]

/-- The call writes the new first moment. -/
theorem final_mom (c : Dev nD) : (dats m 0 c).arrAt 7 (cfgs 0).N = newM (mom m c) (grad m c) := by
  refine (dats m 0 c).arrAt_eq_of_covers 7 _ (by decide +kernel) fun t _ y => ?_
  blk_simp
  rw [after0_7]; frame_out
  pointwise [k0_pay2, k0_pay3]
  blk_point [iblk, idx t]

/-- The call writes the new second moment. -/
theorem final_vel (c : Dev nD) : (dats m 0 c).arrAt 8 (cfgs 0).N = newV (vel m c) (grad m c) := by
  refine (dats m 0 c).arrAt_eq_of_covers 8 _ (by decide +kernel) fun t _ y => ?_
  blk_simp
  rw [after0_8]; frame_out
  pointwise [k0_pay2, k0_pay4]
  blk_point [iblk, idx t]

/-- The call and the plain step end with the same gradient, change of the weights and moments. -/
theorem algebraic : Cert.algebraic_AdamSsdOutIdeal_AdamSsdOutRefIdeal := by
  pair_intro
  · run_from Cert.AdamSsdOutIdeal.Gen.run_main m g
  · hlo_run
    · exact (final_grad m c).symm
    · exact (final_delta m c).symm
    · exact (final_mom m c).symm
    · exact (final_vel m c).symm

end Cert.AdamSsdOutIdeal.Value

end
-- ==== Proof.AdamConvW.lean ====
module

public import proofs.«01_k».proof.Defs
public import proofs.«01_k».proof.Proof.Adam
public import proofs.«01_k».proof.Proof.Gen.AdamConvWIdeal.Frame
public import proofs.«01_k».proof.Proof.Gen.AdamConvWRefIdeal
public import Idealize.ShloMosaic.Lib.Claim
public import Idealize.ShloMosaic.Lib.Pipeline.ValueKit

@[expose] public section

/-! The optimiser's step for the taps of the convolution. -/

set_option maxRecDepth 16384

noncomputable section

namespace Cert.AdamConvWIdeal.Value

open Idealize.ShloMosaic Idealize.ShloMosaic.TcCoe Idealize.SL.Sem
open Cert.AdamConvWIdeal Cert.AdamConvWIdeal.Gen Cert.Adam

variable (m : (ℓ : Loc nD τ sig) → Buf (Elt Ideal) ℓ)

/-- The plain step runs to its end and leaves no signal. -/
theorem frame_ref : Cert.quiescent_AdamConvWRefIdeal (hAdamConvWRefIdeal := Cert.AdamConvWRefIdeal.Gen.facts) := by
  intro m g _
  refine (θ_run (Cert.AdamConvWRefIdeal.defs (F := Ideal)) _ _).mono (fun r h => ⟨h, sem_eq_zero_of_no_sems (by decide) r.2⟩) ?_
  hlo_run

/-- The weights. -/
abbrev w (c : Dev nD) : FVec Ideal S8x768 .f32 := m ((c : Thread nD τ).loc main_arg0)
/-- The old first moment. -/
abbrev mom (c : Dev nD) : FVec Ideal S8x768 .f32 := m ((c : Thread nD τ).loc main_arg1)
/-- The old second moment. -/
abbrev vel (c : Dev nD) : FVec Ideal S8x768 .f32 := m ((c : Thread nD τ).loc main_arg2)
/-- The gradient: the sum of its two parts. -/
abbrev grad (c : Dev nD) : FVec Ideal S8x768 .f32 := addf (m ((c : Thread nD τ).loc main_arg3)) (m ((c : Thread nD τ).loc main_arg4))

/-- Step `t` of the grid takes block `t` of every array. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The call writes the gradient. -/
theorem final_grad (c : Dev nD) : (dats m 0 c).arrAt 5 (cfgs 0).N = grad m c := by
  refine (dats m 0 c).arrAt_eq_of_covers 5 _ (by decide +kernel) fun t _ y => ?_
  blk_simp
  rw [after0_5]; frame_out
  pointwise [k0_pay2]
  blk_point [iblk, idx t]

/-- The call writes the change of the weights. -/
theorem final_delta (c : Dev nD) : (dats m 0 c).arrAt 6 (cfgs 0).N = delta (w m c) (mom m c) (vel m c) (grad m c) := by
  refine (dats m 0 c).arrAt_eq_of_covers 6 _ (by decide +kernel) fun t _ y => ?_
  blk_simp
  rw [after0_6]; frame_out
  pointwise [k0_pay1, k0_pay2, k0_pay3, k0_pay4, k0_pay5]
  blk_point [iblk, idx t]

/-- The call writes the new first moment. -/
theorem final_mom (c : Dev nD) : (dats m 0 c).arrAt 7 (cfgs 0).N = newM (mom m c) (grad m c) := by
  refine (dats m 0 c).arrAt_eq_of_covers 7 _ (by decide +kernel) fun t _ y => ?_
  blk_simp
  rw [after0_7]; frame_out
  pointwise [k0_pay2, k0_pay3]
  blk_point [iblk, idx t]

/-- The call writes the new second moment. -/
theorem final_vel (c : Dev nD) : (dats m 0 c).arrAt 8 (cfgs 0).N = newV (vel m c) (grad m c) := by
  refine (dats m 0 c).arrAt_eq_of_covers 8 _ (by decide +kernel) fun t _ y => ?_
  blk_simp
  rw [after0_8]; frame_out
  pointwise [k0_pay2, k0_pay4]
  blk_point [iblk, idx t]

/-- The call and the plain step end with the same gradient, change of the weights and moments. -/
theorem algebraic : Cert.algebraic_AdamConvWIdeal_AdamConvWRefIdeal := by
  pair_intro
  · run_from Cert.AdamConvWIdeal.Gen.run_main m g
  · hlo_run
    · exact (final_grad m c).symm
    · exact (final_delta m c).symm
    · exact (final_mom m c).symm
    · exact (final_vel m c).symm

end Cert.AdamConvWIdeal.Value

end
-- ==== Proof.AdamConvB.lean ====
module

public import proofs.«01_k».proof.Defs
public import proofs.«01_k».proof.Proof.Adam
public import proofs.«01_k».proof.Proof.Gen.AdamConvBIdeal.Frame
public import proofs.«01_k».proof.Proof.Gen.AdamConvBRefIdeal
public import Idealize.ShloMosaic.Lib.Claim
public import Idealize.ShloMosaic.Lib.Pipeline.ValueKit

@[expose] public section

/-! The optimiser's step for the bias of the convolution. -/

set_option maxRecDepth 16384

noncomputable section

namespace Cert.AdamConvBIdeal.Value

open Idealize.ShloMosaic Idealize.ShloMosaic.TcCoe Idealize.SL.Sem
open Cert.AdamConvBIdeal Cert.AdamConvBIdeal.Gen Cert.Adam

variable (m : (ℓ : Loc nD τ sig) → Buf (Elt Ideal) ℓ)

/-- The plain step runs to its end and leaves no signal. -/
theorem frame_ref : Cert.quiescent_AdamConvBRefIdeal (hAdamConvBRefIdeal := Cert.AdamConvBRefIdeal.Gen.facts) := by
  intro m g _
  refine (θ_run (Cert.AdamConvBRefIdeal.defs (F := Ideal)) _ _).mono (fun r h => ⟨h, sem_eq_zero_of_no_sems (by decide) r.2⟩) ?_
  hlo_run

/-- The weights. -/
abbrev w (c : Dev nD) : FVec Ideal S2x768 .f32 := m ((c : Thread nD τ).loc main_arg0)
/-- The old first moment. -/
abbrev mom (c : Dev nD) : FVec Ideal S2x768 .f32 := m ((c : Thread nD τ).loc main_arg1)
/-- The old second moment. -/
abbrev vel (c : Dev nD) : FVec Ideal S2x768 .f32 := m ((c : Thread nD τ).loc main_arg2)
/-- The gradient: the sum of its two parts. -/
abbrev grad (c : Dev nD) : FVec Ideal S2x768 .f32 := addf (m ((c : Thread nD τ).loc main_arg3)) (m ((c : Thread nD τ).loc main_arg4))

/-- Step `t` of the grid takes block `t` of every array. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The call writes the gradient. -/
theorem final_grad (c : Dev nD) : (dats m 0 c).arrAt 5 (cfgs 0).N = grad m c := by
  refine (dats m 0 c).arrAt_eq_of_covers 5 _ (by decide +kernel) fun t _ y => ?_
  blk_simp
  rw [after0_5]; frame_out
  pointwise [k0_pay2]
  blk_point [iblk, idx t]

/-- The call writes the change of the weights. -/
theorem final_delta (c : Dev nD) : (dats m 0 c).arrAt 6 (cfgs 0).N = delta (w m c) (mom m c) (vel m c) (grad m c) := by
  refine (dats m 0 c).arrAt_eq_of_covers 6 _ (by decide +kernel) fun t _ y => ?_
  blk_simp
  rw [after0_6]; frame_out
  pointwise [k0_pay1, k0_pay2, k0_pay3, k0_pay4, k0_pay5]
  blk_point [iblk, idx t]

/-- The call writes the new first moment. -/
theorem final_mom (c : Dev nD) : (dats m 0 c).arrAt 7 (cfgs 0).N = newM (mom m c) (grad m c) := by
  refine (dats m 0 c).arrAt_eq_of_covers 7 _ (by decide +kernel) fun t _ y => ?_
  blk_simp
  rw [after0_7]; frame_out
  pointwise [k0_pay2, k0_pay3]
  blk_point [iblk, idx t]

/-- The call writes the new second moment. -/
theorem final_vel (c : Dev nD) : (dats m 0 c).arrAt 8 (cfgs 0).N = newV (vel m c) (grad m c) := by
  refine (dats m 0 c).arrAt_eq_of_covers 8 _ (by decide +kernel) fun t _ y => ?_
  blk_simp
  rw [after0_8]; frame_out
  pointwise [k0_pay2, k0_pay4]
  blk_point [iblk, idx t]

/-- The call and the plain step end with the same gradient, change of the weights and moments. -/
theorem algebraic : Cert.algebraic_AdamConvBIdeal_AdamConvBRefIdeal := by
  pair_intro
  · run_from Cert.AdamConvBIdeal.Gen.run_main m g
  · hlo_run
    · exact (final_grad m c).symm
    · exact (final_delta m c).symm
    · exact (final_mom m c).symm
    · exact (final_vel m c).symm

end Cert.AdamConvBIdeal.Value

end
-- ==== Proof.AdamNorm.lean ====
module

public import proofs.«01_k».proof.Defs
public import proofs.«01_k».proof.Proof.Adam
public import proofs.«01_k».proof.Proof.Gen.AdamNormIdeal.Frame
public import proofs.«01_k».proof.Proof.Gen.AdamNormRefIdeal
public import Idealize.ShloMosaic.Lib.Claim
public import Idealize.ShloMosaic.Lib.Pipeline.ValueKit

@[expose] public section

/-! The optimiser's step for the scale of the SSD layers' norm. -/

set_option maxRecDepth 16384

noncomputable section

namespace Cert.AdamNormIdeal.Value

open Idealize.ShloMosaic Idealize.ShloMosaic.TcCoe Idealize.SL.Sem
open Cert.AdamNormIdeal Cert.AdamNormIdeal.Gen Cert.Adam

variable (m : (ℓ : Loc nD τ sig) → Buf (Elt Ideal) ℓ)

/-- The plain step runs to its end and leaves no signal. -/
theorem frame_ref : Cert.quiescent_AdamNormRefIdeal (hAdamNormRefIdeal := Cert.AdamNormRefIdeal.Gen.facts) := by
  intro m g _
  refine (θ_run (Cert.AdamNormRefIdeal.defs (F := Ideal)) _ _).mono (fun r h => ⟨h, sem_eq_zero_of_no_sems (by decide) r.2⟩) ?_
  hlo_run

/-- The weights. -/
abbrev w (c : Dev nD) : FVec Ideal S2x512 .f32 := m ((c : Thread nD τ).loc main_arg0)
/-- The old first moment. -/
abbrev mom (c : Dev nD) : FVec Ideal S2x512 .f32 := m ((c : Thread nD τ).loc main_arg1)
/-- The old second moment. -/
abbrev vel (c : Dev nD) : FVec Ideal S2x512 .f32 := m ((c : Thread nD τ).loc main_arg2)
/-- The gradient: the sum of its two parts. -/
abbrev grad (c : Dev nD) : FVec Ideal S2x512 .f32 := addf (m ((c : Thread nD τ).loc main_arg3)) (m ((c : Thread nD τ).loc main_arg4))

/-- Step `t` of the grid takes block `t` of every array. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The call writes the gradient. -/
theorem final_grad (c : Dev nD) : (dats m 0 c).arrAt 5 (cfgs 0).N = grad m c := by
  refine (dats m 0 c).arrAt_eq_of_covers 5 _ (by decide +kernel) fun t _ y => ?_
  blk_simp
  rw [after0_5]; frame_out
  pointwise [k0_pay2]
  blk_point [iblk, idx t]

/-- The call writes the change of the weights. -/
theorem final_delta (c : Dev nD) : (dats m 0 c).arrAt 6 (cfgs 0).N = delta (w m c) (mom m c) (vel m c) (grad m c) := by
  refine (dats m 0 c).arrAt_eq_of_covers 6 _ (by decide +kernel) fun t _ y => ?_
  blk_simp
  rw [after0_6]; frame_out
  pointwise [k0_pay1, k0_pay2, k0_pay3, k0_pay4, k0_pay5]
  blk_point [iblk, idx t]

/-- The call writes the new first moment. -/
theorem final_mom (c : Dev nD) : (dats m 0 c).arrAt 7 (cfgs 0).N = newM (mom m c) (grad m c) := by
  refine (dats m 0 c).arrAt_eq_of_covers 7 _ (by decide +kernel) fun t _ y => ?_
  blk_simp
  rw [after0_7]; frame_out
  pointwise [k0_pay2, k0_pay3]
  blk_point [iblk, idx t]

/-- The call writes the new second moment. -/
theorem final_vel (c : Dev nD) : (dats m 0 c).arrAt 8 (cfgs 0).N = newV (vel m c) (grad m c) := by
  refine (dats m 0 c).arrAt_eq_of_covers 8 _ (by decide +kernel) fun t _ y => ?_
  blk_simp
  rw [after0_8]; frame_out
  pointwise [k0_pay2, k0_pay4]
  blk_point [iblk, idx t]

/-- The call and the plain step end with the same gradient, change of the weights and moments. -/
theorem algebraic : Cert.algebraic_AdamNormIdeal_AdamNormRefIdeal := by
  pair_intro
  · run_from Cert.AdamNormIdeal.Gen.run_main m g
  · hlo_run
    · exact (final_grad m c).symm
    · exact (final_delta m c).symm
    · exact (final_mom m c).symm
    · exact (final_vel m c).symm

end Cert.AdamNormIdeal.Value

end
-- ==== Proof.AdamMod.lean ====
module

public import proofs.«01_k».proof.Defs
public import proofs.«01_k».proof.Proof.Adam
public import proofs.«01_k».proof.Proof.Gen.AdamModIdeal.Frame
public import proofs.«01_k».proof.Proof.Gen.AdamModRefIdeal
public import Idealize.ShloMosaic.Lib.Claim
public import Idealize.ShloMosaic.Lib.Pipeline.ValueKit

@[expose] public section

/-! The optimiser's step for the weight of the modulation. -/

set_option maxRecDepth 16384

noncomputable section

namespace Cert.AdamModIdeal.Value

open Idealize.ShloMosaic Idealize.ShloMosaic.TcCoe Idealize.SL.Sem
open Cert.AdamModIdeal Cert.AdamModIdeal.Gen Cert.Adam

variable (m : (ℓ : Loc nD τ sig) → Buf (Elt Ideal) ℓ)

/-- The plain step runs to its end and leaves no signal. -/
theorem frame_ref : Cert.quiescent_AdamModRefIdeal (hAdamModRefIdeal := Cert.AdamModRefIdeal.Gen.facts) := by
  intro m g _
  refine (θ_run (Cert.AdamModRefIdeal.defs (F := Ideal)) _ _).mono (fun r h => ⟨h, sem_eq_zero_of_no_sems (by decide) r.2⟩) ?_
  hlo_run

/-- The weights. -/
abbrev w (c : Dev nD) : FVec Ideal S4096x1536 .f32 := m ((c : Thread nD τ).loc main_arg0)
/-- The old first moment. -/
abbrev mom (c : Dev nD) : FVec Ideal S4096x1536 .f32 := m ((c : Thread nD τ).loc main_arg1)
/-- The old second moment. -/
abbrev vel (c : Dev nD) : FVec Ideal S4096x1536 .f32 := m ((c : Thread nD τ).loc main_arg2)
/-- The gradient. -/
abbrev grad (c : Dev nD) : FVec Ideal S4096x1536 .f32 := m ((c : Thread nD τ).loc main_arg3)

/-- Step `t` of the grid takes block `t` of every array. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The call writes the gradient. -/
theorem final_grad (c : Dev nD) : (dats m 0 c).arrAt 4 (cfgs 0).N = grad m c := by
  refine (dats m 0 c).arrAt_eq_of_covers 4 _ (by decide +kernel) fun t _ y => ?_
  blk_simp
  rw [after0_4]; frame_out
  blk_point [iblk, idx t]

/-- The call writes the change of the weights. -/
theorem final_delta (c : Dev nD) : (dats m 0 c).arrAt 5 (cfgs 0).N = delta (w m c) (mom m c) (vel m c) (grad m c) := by
  refine (dats m 0 c).arrAt_eq_of_covers 5 _ (by decide +kernel) fun t _ y => ?_
  blk_simp
  rw [after0_5]; frame_out
  pointwise [k0_pay1, k0_pay2, k0_pay3]
  blk_point [iblk, idx t]

/-- The call writes the new first moment. -/
theorem final_mom (c : Dev nD) : (dats m 0 c).arrAt 6 (cfgs 0).N = newM (mom m c) (grad m c) := by
  refine (dats m 0 c).arrAt_eq_of_covers 6 _ (by decide +kernel) fun t _ y => ?_
  blk_simp
  rw [after0_6]; frame_out
  pointwise [k0_pay1]
  blk_point [iblk, idx t]

/-- The call writes the new second moment. -/
theorem final_vel (c : Dev nD) : (dats m 0 c).arrAt 7 (cfgs 0).N = newV (vel m c) (grad m c) := by
  refine (dats m 0 c).arrAt_eq_of_covers 7 _ (by decide +kernel) fun t _ y => ?_
  blk_simp
  rw [after0_7]; frame_out
  pointwise [k0_pay2]
  blk_point [iblk, idx t]

/-- The call and the plain step end with the same gradient, change of the weights and moments. -/
theorem algebraic : Cert.algebraic_AdamModIdeal_AdamModRefIdeal := by
  pair_intro
  · run_from Cert.AdamModIdeal.Gen.run_main m g
  · hlo_run
    · exact (final_grad m c).symm
    · exact (final_delta m c).symm
    · exact (final_mom m c).symm
    · exact (final_vel m c).symm

end Cert.AdamModIdeal.Value

end
-- ==== Proof.AdamSmall.lean ====
module

public import proofs.«01_k».proof.Defs
public import proofs.«01_k».proof.Proof.Adam
public import proofs.«01_k».proof.Proof.Gen.AdamSmallIdeal.Frame
public import proofs.«01_k».proof.Proof.Gen.AdamSmallRefIdeal
public import Idealize.ShloMosaic.Lib.Claim
public import Idealize.ShloMosaic.Lib.Pipeline.ValueKit

@[expose] public section

/-! The optimiser's step for the weights that every device holds, packed into one array. -/

set_option maxRecDepth 16384

noncomputable section

namespace Cert.AdamSmallIdeal.Value

open Idealize.ShloMosaic Idealize.ShloMosaic.TcCoe Idealize.SL.Sem
open Cert.AdamSmallIdeal Cert.AdamSmallIdeal.Gen Cert.Adam

variable (m : (ℓ : Loc nD τ sig) → Buf (Elt Ideal) ℓ)

/-- The plain step runs to its end and leaves no signal. -/
theorem frame_ref : Cert.quiescent_AdamSmallRefIdeal (hAdamSmallRefIdeal := Cert.AdamSmallRefIdeal.Gen.facts) := by
  intro m g _
  refine (θ_run (Cert.AdamSmallRefIdeal.defs (F := Ideal)) _ _).mono (fun r h => ⟨h, sem_eq_zero_of_no_sems (by decide) r.2⟩) ?_
  hlo_run

/-- The weights. -/
abbrev w (c : Dev nD) : FVec Ideal S768x1024 .f32 := m ((c : Thread nD τ).loc main_arg0)
/-- The old first moment. -/
abbrev mom (c : Dev nD) : FVec Ideal S768x1024 .f32 := m ((c : Thread nD τ).loc main_arg1)
/-- The old second moment. -/
abbrev vel (c : Dev nD) : FVec Ideal S768x1024 .f32 := m ((c : Thread nD τ).loc main_arg2)
/-- The gradient. -/
abbrev grad (c : Dev nD) : FVec Ideal S768x1024 .f32 := m ((c : Thread nD τ).loc main_arg3)

/-- Step `t` of the grid takes block `t` of every array. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The call writes the gradient. -/
theorem final_grad (c : Dev nD) : (dats m 0 c).arrAt 4 (cfgs 0).N = grad m c := by
  refine (dats m 0 c).arrAt_eq_of_covers 4 _ (by decide +kernel) fun t _ y => ?_
  blk_simp
  rw [after0_4]; frame_out
  blk_point [iblk, idx t]

/-- The call writes the change of the weights. -/
theorem final_delta (c : Dev nD) : (dats m 0 c).arrAt 5 (cfgs 0).N = delta (w m c) (mom m c) (vel m c) (grad m c) := by
  refine (dats m 0 c).arrAt_eq_of_covers 5 _ (by decide +kernel) fun t _ y => ?_
  blk_simp
  rw [after0_5]; frame_out
  pointwise [k0_pay1, k0_pay2, k0_pay3]
  blk_point [iblk, idx t]

/-- The call writes the new first moment. -/
theorem final_mom (c : Dev nD) : (dats m 0 c).arrAt 6 (cfgs 0).N = newM (mom m c) (grad m c) := by
  refine (dats m 0 c).arrAt_eq_of_covers 6 _ (by decide +kernel) fun t _ y => ?_
  blk_simp
  rw [after0_6]; frame_out
  pointwise [k0_pay1]
  blk_point [iblk, idx t]

/-- The call writes the new second moment. -/
theorem final_vel (c : Dev nD) : (dats m 0 c).arrAt 7 (cfgs 0).N = newV (vel m c) (grad m c) := by
  refine (dats m 0 c).arrAt_eq_of_covers 7 _ (by decide +kernel) fun t _ y => ?_
  blk_simp
  rw [after0_7]; frame_out
  pointwise [k0_pay2]
  blk_point [iblk, idx t]

/-- The call and the plain step end with the same gradient, change of the weights and moments. -/
theorem algebraic : Cert.algebraic_AdamSmallIdeal_AdamSmallRefIdeal := by
  pair_intro
  · run_from Cert.AdamSmallIdeal.Gen.run_main m g
  · hlo_run
    · exact (final_grad m c).symm
    · exact (final_delta m c).symm
    · exact (final_mom m c).symm
    · exact (final_vel m c).symm

end Cert.AdamSmallIdeal.Value

end
-- ==== Proof.lean ====
/-
  The proof of `Cert.Claim`: every program, as printed and idealized, and every reference ends with its arguments as
  they were and every semaphore at zero; and over the extended reals each call and its reference return one result: the
  gradient of `C` of the SSD core's backward call, the products of the layers, forward and backward, the norm,
  gates and activations between them, and the optimiser's steps. The gradients of the two output weights and their
  gates are claimed of finite arguments.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.MlpDHidden.Frame
public import proofs.«01_k».proof.Proof.Gen.MlpDW2.Frame
public import proofs.«01_k».proof.Proof.Gen.MlpDIn.Frame
public import proofs.«01_k».proof.Proof.Gen.MlpDW1.Frame
public import proofs.«01_k».proof.Proof.Gen.S5DGlu.Frame
public import proofs.«01_k».proof.Proof.Gen.S5DWGlu.Frame
public import proofs.«01_k».proof.Proof.Gen.S5DIn.Frame
public import proofs.«01_k».proof.Proof.Gen.S5DWIn.Frame
public import proofs.«01_k».proof.Proof.Gen.SsdDOut.Frame
public import proofs.«01_k».proof.Proof.Gen.SsdDWOut.Frame
public import proofs.«01_k».proof.Proof.Gen.SsdDInZ.Frame
public import proofs.«01_k».proof.Proof.Gen.SsdDInXbc.Frame
public import proofs.«01_k».proof.Proof.Gen.SsdDWZ.Frame
public import proofs.«01_k».proof.Proof.Gen.SsdDWXbc.Frame
public import proofs.«01_k».proof.Proof.Gen.MlpIn.Frame
public import proofs.«01_k».proof.Proof.Gen.MlpOut.Frame
public import proofs.«01_k».proof.Proof.Gen.S5In.Frame
public import proofs.«01_k».proof.Proof.Gen.S5Glu.Frame
public import proofs.«01_k».proof.Proof.Gen.SsdZ.Frame
public import proofs.«01_k».proof.Proof.Gen.SsdXbc.Frame
public import proofs.«01_k».proof.Proof.Gen.SsdOut.Frame
public import proofs.«01_k».proof.Proof.Gen.SsdDt.Frame
public import proofs.«01_k».proof.Proof.Gen.SsdDWDt.Frame
public import proofs.«01_k».proof.Proof.Gen.SsdDInDt.Frame
public import proofs.«01_k».proof.Proof.Gen.NormMod.Frame
public import proofs.«01_k».proof.Proof.Gen.Gelu.Frame
public import proofs.«01_k».proof.Proof.Gen.Glu.Frame
public import proofs.«01_k».proof.Proof.Gen.GluGrad.Frame
public import proofs.«01_k».proof.Proof.Gen.GateNorm.Frame
public import proofs.«01_k».proof.Proof.Gen.AdamMlp.Frame
public import proofs.«01_k».proof.Proof.Gen.AdamS5In.Frame
public import proofs.«01_k».proof.Proof.Gen.AdamS5Glu.Frame
public import proofs.«01_k».proof.Proof.Gen.AdamSsdIn.Frame
public import proofs.«01_k».proof.Proof.Gen.AdamSsdOut.Frame
public import proofs.«01_k».proof.Proof.Gen.AdamConvW.Frame
public import proofs.«01_k».proof.Proof.Gen.AdamConvB.Frame
public import proofs.«01_k».proof.Proof.Gen.AdamNorm.Frame
public import proofs.«01_k».proof.Proof.Gen.AdamMod.Frame
public import proofs.«01_k».proof.Proof.Gen.AdamSmall.Frame
public import proofs.«01_k».proof.Proof.Frames
public import proofs.«01_k».proof.Proof.Value
public import proofs.«01_k».proof.Proof.MlpDHidden
public import proofs.«01_k».proof.Proof.MlpDW2
public import proofs.«01_k».proof.Proof.MlpDIn
public import proofs.«01_k».proof.Proof.MlpDW1
public import proofs.«01_k».proof.Proof.S5DGlu
public import proofs.«01_k».proof.Proof.S5DWGlu
public import proofs.«01_k».proof.Proof.S5DIn
public import proofs.«01_k».proof.Proof.S5DWIn
public import proofs.«01_k».proof.Proof.SsdDOut
public import proofs.«01_k».proof.Proof.SsdDWOut
public import proofs.«01_k».proof.Proof.SsdDInZ
public import proofs.«01_k».proof.Proof.SsdDInXbc
public import proofs.«01_k».proof.Proof.SsdDWZ
public import proofs.«01_k».proof.Proof.SsdDWXbc
public import proofs.«01_k».proof.Proof.MlpIn
public import proofs.«01_k».proof.Proof.MlpOut
public import proofs.«01_k».proof.Proof.S5In
public import proofs.«01_k».proof.Proof.S5Glu
public import proofs.«01_k».proof.Proof.SsdZ
public import proofs.«01_k».proof.Proof.SsdXbc
public import proofs.«01_k».proof.Proof.SsdOut
public import proofs.«01_k».proof.Proof.SsdDt
public import proofs.«01_k».proof.Proof.SsdDWDt
public import proofs.«01_k».proof.Proof.SsdDInDt
public import proofs.«01_k».proof.Proof.NormMod
public import proofs.«01_k».proof.Proof.Gelu
public import proofs.«01_k».proof.Proof.Glu
public import proofs.«01_k».proof.Proof.GluGrad
public import proofs.«01_k».proof.Proof.GateNorm
public import proofs.«01_k».proof.Proof.AdamMlp
public import proofs.«01_k».proof.Proof.AdamS5In
public import proofs.«01_k».proof.Proof.AdamS5Glu
public import proofs.«01_k».proof.Proof.AdamSsdIn
public import proofs.«01_k».proof.Proof.AdamSsdOut
public import proofs.«01_k».proof.Proof.AdamConvW
public import proofs.«01_k».proof.Proof.AdamConvB
public import proofs.«01_k».proof.Proof.AdamNorm
public import proofs.«01_k».proof.Proof.AdamMod
public import proofs.«01_k».proof.Proof.AdamSmall

@[expose] public section

noncomputable section

namespace Cert.Proof

open Idealize.ShloMosaic Idealize.ShloMosaic.TcCoe Idealize.SL.Sem

/-- From memories agreeing on the arguments the kernel's program and the reference end with one result. -/
theorem algebraic : Cert.algebraic_KernelIdeal_ReferenceIdeal := by
  intro m ρ m' ρ' _ hm
  have hA : ∀ c : Dev Cert.KernelIdeal.nD, Ssd.Args m c m' := fun c =>
    ⟨(hm c).1.symm, (hm c).2.1.symm, (hm c).2.2.1.symm, (hm c).2.2.2.1.symm, (hm c).2.2.2.2.2.symm⟩
  refine ⟨fun c => Ssd.fin m c (Proc.devRef .tc Cert.KernelIdeal.main_v68), ?_, ?_⟩
  · exact (θ_run (Cert.KernelIdeal.defs (F := Ideal)) _ _).mono (fun _ h c =>
      ⟨h.1 c Cert.KernelIdeal.main_v68 rfl,
       (h.1 c _ rfl).trans (Ssd.fin_arg m c Cert.KernelIdeal.main_arg0 (by decide)), (h.1 c _ rfl).trans (Ssd.fin_arg m c Cert.KernelIdeal.main_arg1 (by decide)),
       (h.1 c _ rfl).trans (Ssd.fin_arg m c Cert.KernelIdeal.main_arg2 (by decide)), (h.1 c _ rfl).trans (Ssd.fin_arg m c Cert.KernelIdeal.main_arg3 (by decide)),
       (h.1 c _ rfl).trans (Ssd.fin_arg m c Cert.KernelIdeal.main_arg4 (by decide)), (h.1 c _ rfl).trans (Ssd.fin_arg m c Cert.KernelIdeal.main_arg5 (by decide))⟩)
      (Ssd.run_main m ρ)
  · exact (θ_run (Cert.ReferenceIdeal.defs (F := Ideal)) _ _).mono (fun _ h c =>
      ⟨(h c Cert.ReferenceIdeal.main_v84 rfl).trans (same_value m m' c (hA c)).symm,
       (h c _ rfl).trans (Ref.fin_arg m' c Cert.ReferenceIdeal.main_arg0 (by decide)), (h c _ rfl).trans (Ref.fin_arg m' c Cert.ReferenceIdeal.main_arg1 (by decide)),
       (h c _ rfl).trans (Ref.fin_arg m' c Cert.ReferenceIdeal.main_arg2 (by decide)), (h c _ rfl).trans (Ref.fin_arg m' c Cert.ReferenceIdeal.main_arg3 (by decide)),
       (h c _ rfl).trans (Ref.fin_arg m' c Cert.ReferenceIdeal.main_arg4 (by decide)), (h c _ rfl).trans (Ref.fin_arg m' c Cert.ReferenceIdeal.main_arg5 (by decide))⟩)
      (Cert.ReferenceIdeal.Value.run_fold m' ρ')

/-- Every claim: of the SSD core's backward call first, then of the products of the layers and of the optimiser's steps in the order of the statement. -/
theorem claim : Cert.Claim :=
  ⟨Cert.Kernel.Gen.facts, Cert.KernelIdeal.Gen.facts, Cert.ReferenceIdeal.Gen.facts,
    Cert.MlpDHidden.Gen.facts, Cert.MlpDHiddenIdeal.Gen.facts, Cert.MlpDHiddenRefIdeal.Gen.facts,
    Cert.MlpDW2.Gen.facts, Cert.MlpDW2Ideal.Gen.facts, Cert.MlpDW2RefIdeal.Gen.facts,
    Cert.MlpDIn.Gen.facts, Cert.MlpDInIdeal.Gen.facts, Cert.MlpDInRefIdeal.Gen.facts,
    Cert.MlpDW1.Gen.facts, Cert.MlpDW1Ideal.Gen.facts, Cert.MlpDW1RefIdeal.Gen.facts,
    Cert.S5DGlu.Gen.facts, Cert.S5DGluIdeal.Gen.facts, Cert.S5DGluRefIdeal.Gen.facts,
    Cert.S5DWGlu.Gen.facts, Cert.S5DWGluIdeal.Gen.facts, Cert.S5DWGluRefIdeal.Gen.facts,
    Cert.S5DIn.Gen.facts, Cert.S5DInIdeal.Gen.facts, Cert.S5DInRefIdeal.Gen.facts,
    Cert.S5DWIn.Gen.facts, Cert.S5DWInIdeal.Gen.facts, Cert.S5DWInRefIdeal.Gen.facts,
    Cert.SsdDOut.Gen.facts, Cert.SsdDOutIdeal.Gen.facts, Cert.SsdDOutRefIdeal.Gen.facts,
    Cert.SsdDWOut.Gen.facts, Cert.SsdDWOutIdeal.Gen.facts, Cert.SsdDWOutRefIdeal.Gen.facts,
    Cert.SsdDInZ.Gen.facts, Cert.SsdDInZIdeal.Gen.facts, Cert.SsdDInZRefIdeal.Gen.facts,
    Cert.SsdDInXbc.Gen.facts, Cert.SsdDInXbcIdeal.Gen.facts, Cert.SsdDInXbcRefIdeal.Gen.facts,
    Cert.SsdDWZ.Gen.facts, Cert.SsdDWZIdeal.Gen.facts, Cert.SsdDWZRefIdeal.Gen.facts,
    Cert.SsdDWXbc.Gen.facts, Cert.SsdDWXbcIdeal.Gen.facts, Cert.SsdDWXbcRefIdeal.Gen.facts,
    Cert.MlpIn.Gen.facts, Cert.MlpInIdeal.Gen.facts, Cert.MlpInRefIdeal.Gen.facts,
    Cert.MlpOut.Gen.facts, Cert.MlpOutIdeal.Gen.facts, Cert.MlpOutRefIdeal.Gen.facts,
    Cert.S5In.Gen.facts, Cert.S5InIdeal.Gen.facts, Cert.S5InRefIdeal.Gen.facts,
    Cert.S5Glu.Gen.facts, Cert.S5GluIdeal.Gen.facts, Cert.S5GluRefIdeal.Gen.facts,
    Cert.SsdZ.Gen.facts, Cert.SsdZIdeal.Gen.facts, Cert.SsdZRefIdeal.Gen.facts,
    Cert.SsdXbc.Gen.facts, Cert.SsdXbcIdeal.Gen.facts, Cert.SsdXbcRefIdeal.Gen.facts,
    Cert.SsdOut.Gen.facts, Cert.SsdOutIdeal.Gen.facts, Cert.SsdOutRefIdeal.Gen.facts,
    Cert.SsdDt.Gen.facts, Cert.SsdDtIdeal.Gen.facts, Cert.SsdDtRefIdeal.Gen.facts,
    Cert.SsdDWDt.Gen.facts, Cert.SsdDWDtIdeal.Gen.facts, Cert.SsdDWDtRefIdeal.Gen.facts,
    Cert.SsdDInDt.Gen.facts, Cert.SsdDInDtIdeal.Gen.facts, Cert.SsdDInDtRefIdeal.Gen.facts,
    Cert.NormMod.Gen.facts, Cert.NormModIdeal.Gen.facts, Cert.NormModRefIdeal.Gen.facts,
    Cert.Gelu.Gen.facts, Cert.GeluIdeal.Gen.facts, Cert.GeluRefIdeal.Gen.facts,
    Cert.Glu.Gen.facts, Cert.GluIdeal.Gen.facts, Cert.GluRefIdeal.Gen.facts,
    Cert.GluGrad.Gen.facts, Cert.GluGradIdeal.Gen.facts, Cert.GluGradRefIdeal.Gen.facts,
    Cert.GateNorm.Gen.facts, Cert.GateNormIdeal.Gen.facts, Cert.GateNormRefIdeal.Gen.facts,
    Cert.AdamMlp.Gen.facts, Cert.AdamMlpIdeal.Gen.facts, Cert.AdamMlpRefIdeal.Gen.facts,
    Cert.AdamS5In.Gen.facts, Cert.AdamS5InIdeal.Gen.facts, Cert.AdamS5InRefIdeal.Gen.facts,
    Cert.AdamS5Glu.Gen.facts, Cert.AdamS5GluIdeal.Gen.facts, Cert.AdamS5GluRefIdeal.Gen.facts,
    Cert.AdamSsdIn.Gen.facts, Cert.AdamSsdInIdeal.Gen.facts, Cert.AdamSsdInRefIdeal.Gen.facts,
    Cert.AdamSsdOut.Gen.facts, Cert.AdamSsdOutIdeal.Gen.facts, Cert.AdamSsdOutRefIdeal.Gen.facts,
    Cert.AdamConvW.Gen.facts, Cert.AdamConvWIdeal.Gen.facts, Cert.AdamConvWRefIdeal.Gen.facts,
    Cert.AdamConvB.Gen.facts, Cert.AdamConvBIdeal.Gen.facts, Cert.AdamConvBRefIdeal.Gen.facts,
    Cert.AdamNorm.Gen.facts, Cert.AdamNormIdeal.Gen.facts, Cert.AdamNormRefIdeal.Gen.facts,
    Cert.AdamMod.Gen.facts, Cert.AdamModIdeal.Gen.facts, Cert.AdamModRefIdeal.Gen.facts,
    Cert.AdamSmall.Gen.facts, Cert.AdamSmallIdeal.Gen.facts, Cert.AdamSmallRefIdeal.Gen.facts,
    Cert.Pre_mlp_finite.Gen.facts, Cert.Pre_ssd_finite.Gen.facts,
    frame_kernel, frame_kernelIdeal, frame_reference,
    fun m ρ _ => Cert.MlpDHidden.Gen.frame m ρ, fun m ρ _ => Cert.MlpDHiddenIdeal.Gen.frame m ρ, Cert.MlpDHiddenIdeal.Value.frame_ref,
    fun m ρ _ => Cert.MlpDW2.Gen.frame m ρ, fun m ρ _ => Cert.MlpDW2Ideal.Gen.frame m ρ, fun m ρ _ => Cert.MlpDW2Ideal.Gen.frame m ρ, Cert.MlpDW2Ideal.Value.frame_ref, fun m ρ _ => Cert.MlpDW2Ideal.Value.frame_ref m ρ trivial,
    fun m ρ _ => Cert.MlpDIn.Gen.frame m ρ, fun m ρ _ => Cert.MlpDInIdeal.Gen.frame m ρ, Cert.MlpDInIdeal.Value.frame_ref,
    fun m ρ _ => Cert.MlpDW1.Gen.frame m ρ, fun m ρ _ => Cert.MlpDW1Ideal.Gen.frame m ρ, Cert.MlpDW1Ideal.Value.frame_ref,
    fun m ρ _ => Cert.S5DGlu.Gen.frame m ρ, fun m ρ _ => Cert.S5DGluIdeal.Gen.frame m ρ, Cert.S5DGluIdeal.Value.frame_ref,
    fun m ρ _ => Cert.S5DWGlu.Gen.frame m ρ, fun m ρ _ => Cert.S5DWGluIdeal.Gen.frame m ρ, Cert.S5DWGluIdeal.Value.frame_ref,
    fun m ρ _ => Cert.S5DIn.Gen.frame m ρ, fun m ρ _ => Cert.S5DInIdeal.Gen.frame m ρ, Cert.S5DInIdeal.Value.frame_ref,
    fun m ρ _ => Cert.S5DWIn.Gen.frame m ρ, fun m ρ _ => Cert.S5DWInIdeal.Gen.frame m ρ, Cert.S5DWInIdeal.Value.frame_ref,
    fun m ρ _ => Cert.SsdDOut.Gen.frame m ρ, fun m ρ _ => Cert.SsdDOutIdeal.Gen.frame m ρ, Cert.SsdDOutIdeal.Value.frame_ref,
    fun m ρ _ => Cert.SsdDWOut.Gen.frame m ρ, fun m ρ _ => Cert.SsdDWOutIdeal.Gen.frame m ρ, fun m ρ _ => Cert.SsdDWOutIdeal.Gen.frame m ρ, Cert.SsdDWOutIdeal.Value.frame_ref, fun m ρ _ => Cert.SsdDWOutIdeal.Value.frame_ref m ρ trivial,
    fun m ρ _ => Cert.SsdDInZ.Gen.frame m ρ, fun m ρ _ => Cert.SsdDInZIdeal.Gen.frame m ρ, Cert.SsdDInZIdeal.Value.frame_ref,
    fun m ρ _ => Cert.SsdDInXbc.Gen.frame m ρ, fun m ρ _ => Cert.SsdDInXbcIdeal.Gen.frame m ρ, Cert.SsdDInXbcIdeal.Value.frame_ref,
    fun m ρ _ => Cert.SsdDWZ.Gen.frame m ρ, fun m ρ _ => Cert.SsdDWZIdeal.Gen.frame m ρ, Cert.SsdDWZIdeal.Value.frame_ref,
    fun m ρ _ => Cert.SsdDWXbc.Gen.frame m ρ, fun m ρ _ => Cert.SsdDWXbcIdeal.Gen.frame m ρ, Cert.SsdDWXbcIdeal.Value.frame_ref,
    fun m ρ _ => Cert.MlpIn.Gen.frame m ρ, fun m ρ _ => Cert.MlpInIdeal.Gen.frame m ρ, Cert.MlpInIdeal.Value.frame_ref,
    fun m ρ _ => Cert.MlpOut.Gen.frame m ρ, fun m ρ _ => Cert.MlpOutIdeal.Gen.frame m ρ, Cert.MlpOutIdeal.Value.frame_ref,
    fun m ρ _ => Cert.S5In.Gen.frame m ρ, fun m ρ _ => Cert.S5InIdeal.Gen.frame m ρ, Cert.S5InIdeal.Value.frame_ref,
    fun m ρ _ => Cert.S5Glu.Gen.frame m ρ, fun m ρ _ => Cert.S5GluIdeal.Gen.frame m ρ, Cert.S5GluIdeal.Value.frame_ref,
    fun m ρ _ => Cert.SsdZ.Gen.frame m ρ, fun m ρ _ => Cert.SsdZIdeal.Gen.frame m ρ, Cert.SsdZIdeal.Value.frame_ref,
    fun m ρ _ => Cert.SsdXbc.Gen.frame m ρ, fun m ρ _ => Cert.SsdXbcIdeal.Gen.frame m ρ, Cert.SsdXbcIdeal.Value.frame_ref,
    fun m ρ _ => Cert.SsdOut.Gen.frame m ρ, fun m ρ _ => Cert.SsdOutIdeal.Gen.frame m ρ, Cert.SsdOutIdeal.Value.frame_ref,
    fun m ρ _ => Cert.SsdDt.Gen.frame m ρ, fun m ρ _ => Cert.SsdDtIdeal.Gen.frame m ρ, Cert.SsdDtIdeal.Value.frame_ref,
    fun m ρ _ => Cert.SsdDWDt.Gen.frame m ρ, fun m ρ _ => Cert.SsdDWDtIdeal.Gen.frame m ρ, Cert.SsdDWDtIdeal.Value.frame_ref,
    fun m ρ _ => Cert.SsdDInDt.Gen.frame m ρ, fun m ρ _ => Cert.SsdDInDtIdeal.Gen.frame m ρ, Cert.SsdDInDtIdeal.Value.frame_ref,
    fun m ρ _ => Cert.NormMod.Gen.frame m ρ, fun m ρ _ => Cert.NormModIdeal.Gen.frame m ρ, Cert.NormModIdeal.Value.frame_ref,
    fun m ρ _ => Cert.Gelu.Gen.frame m ρ, fun m ρ _ => Cert.GeluIdeal.Gen.frame m ρ, Cert.GeluIdeal.Value.frame_ref,
    fun m ρ _ => Cert.Glu.Gen.frame m ρ, fun m ρ _ => Cert.GluIdeal.Gen.frame m ρ, Cert.GluIdeal.Value.frame_ref,
    fun m ρ _ => Cert.GluGrad.Gen.frame m ρ, fun m ρ _ => Cert.GluGradIdeal.Gen.frame m ρ, Cert.GluGradIdeal.Value.frame_ref,
    fun m ρ _ => Cert.GateNorm.Gen.frame m ρ, fun m ρ _ => Cert.GateNormIdeal.Gen.frame m ρ, Cert.GateNormIdeal.Value.frame_ref,
    fun m ρ _ => Cert.AdamMlp.Gen.frame m ρ, fun m ρ _ => Cert.AdamMlpIdeal.Gen.frame m ρ, Cert.AdamMlpIdeal.Value.frame_ref,
    fun m ρ _ => Cert.AdamS5In.Gen.frame m ρ, fun m ρ _ => Cert.AdamS5InIdeal.Gen.frame m ρ, Cert.AdamS5InIdeal.Value.frame_ref,
    fun m ρ _ => Cert.AdamS5Glu.Gen.frame m ρ, fun m ρ _ => Cert.AdamS5GluIdeal.Gen.frame m ρ, Cert.AdamS5GluIdeal.Value.frame_ref,
    fun m ρ _ => Cert.AdamSsdIn.Gen.frame m ρ, fun m ρ _ => Cert.AdamSsdInIdeal.Gen.frame m ρ, Cert.AdamSsdInIdeal.Value.frame_ref,
    fun m ρ _ => Cert.AdamSsdOut.Gen.frame m ρ, fun m ρ _ => Cert.AdamSsdOutIdeal.Gen.frame m ρ, Cert.AdamSsdOutIdeal.Value.frame_ref,
    fun m ρ _ => Cert.AdamConvW.Gen.frame m ρ, fun m ρ _ => Cert.AdamConvWIdeal.Gen.frame m ρ, Cert.AdamConvWIdeal.Value.frame_ref,
    fun m ρ _ => Cert.AdamConvB.Gen.frame m ρ, fun m ρ _ => Cert.AdamConvBIdeal.Gen.frame m ρ, Cert.AdamConvBIdeal.Value.frame_ref,
    fun m ρ _ => Cert.AdamNorm.Gen.frame m ρ, fun m ρ _ => Cert.AdamNormIdeal.Gen.frame m ρ, Cert.AdamNormIdeal.Value.frame_ref,
    fun m ρ _ => Cert.AdamMod.Gen.frame m ρ, fun m ρ _ => Cert.AdamModIdeal.Gen.frame m ρ, Cert.AdamModIdeal.Value.frame_ref,
    fun m ρ _ => Cert.AdamSmall.Gen.frame m ρ, fun m ρ _ => Cert.AdamSmallIdeal.Gen.frame m ρ, Cert.AdamSmallIdeal.Value.frame_ref,
    trivial, algebraic,
    trivial, Cert.MlpDHiddenIdeal.Value.algebraic,
    trivial, Cert.MlpDW2Ideal.Value.algebraic,
    trivial, Cert.MlpDInIdeal.Value.algebraic,
    trivial, Cert.MlpDW1Ideal.Value.algebraic,
    trivial, Cert.S5DGluIdeal.Value.algebraic,
    trivial, Cert.S5DWGluIdeal.Value.algebraic,
    trivial, Cert.S5DInIdeal.Value.algebraic,
    trivial, Cert.S5DWInIdeal.Value.algebraic,
    trivial, Cert.SsdDOutIdeal.Value.algebraic,
    trivial, Cert.SsdDWOutIdeal.Value.algebraic,
    trivial, Cert.SsdDInZIdeal.Value.algebraic,
    trivial, Cert.SsdDInXbcIdeal.Value.algebraic,
    trivial, Cert.SsdDWZIdeal.Value.algebraic,
    trivial, Cert.SsdDWXbcIdeal.Value.algebraic,
    trivial, Cert.MlpInIdeal.Value.algebraic,
    trivial, Cert.MlpOutIdeal.Value.algebraic,
    trivial, Cert.S5InIdeal.Value.algebraic,
    trivial, Cert.S5GluIdeal.Value.algebraic,
    trivial, Cert.SsdZIdeal.Value.algebraic,
    trivial, Cert.SsdXbcIdeal.Value.algebraic,
    trivial, Cert.SsdOutIdeal.Value.algebraic,
    trivial, Cert.SsdDtIdeal.Value.algebraic,
    trivial, Cert.SsdDWDtIdeal.Value.algebraic,
    trivial, Cert.SsdDInDtIdeal.Value.algebraic,
    trivial, Cert.NormModIdeal.Value.algebraic,
    trivial, Cert.GeluIdeal.Value.algebraic,
    trivial, Cert.GluIdeal.Value.algebraic,
    trivial, Cert.GluGradIdeal.Value.algebraic,
    trivial, Cert.GateNormIdeal.Value.algebraic,
    trivial, Cert.AdamMlpIdeal.Value.algebraic,
    trivial, Cert.AdamS5InIdeal.Value.algebraic,
    trivial, Cert.AdamS5GluIdeal.Value.algebraic,
    trivial, Cert.AdamSsdInIdeal.Value.algebraic,
    trivial, Cert.AdamSsdOutIdeal.Value.algebraic,
    trivial, Cert.AdamConvWIdeal.Value.algebraic,
    trivial, Cert.AdamConvBIdeal.Value.algebraic,
    trivial, Cert.AdamNormIdeal.Value.algebraic,
    trivial, Cert.AdamModIdeal.Value.algebraic,
    trivial, Cert.AdamSmallIdeal.Value.algebraic⟩

end Cert.Proof

end
